-- ==== Defs.lean ====
def Pre_Kernel [hPre_some_expert : Cert.Pre_some_expert.Facts] (m : (ℓ : Loc Cert.Kernel.nD Cert.Kernel.τ Cert.Kernel.sig) → Buf (Elt Bits) ℓ) : Prop :=
  ∀ c : Dev Cert.Kernel.nD,
    (Cert.Pre_some_expert.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_some_expert : Cert.Pre_some_expert.Facts] (m : (ℓ : Loc Cert.KernelIdeal.nD Cert.KernelIdeal.τ Cert.KernelIdeal.sig) → Buf (Elt Ideal) ℓ) : Prop :=
  ∀ c : Dev Cert.KernelIdeal.nD,
    (Cert.Pre_some_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_expert [hPre_some_expert : Cert.Pre_some_expert.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_expert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_some_expert : Cert.Pre_some_expert.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_some_expert : Cert.Pre_some_expert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_some_expert [hReferenceIdeal : Cert.ReferenceIdeal.Facts] [hPre_some_expert : Cert.Pre_some_expert.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_expert m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_some_expert : Cert.Pre_some_expert.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_some_expert : Cert.Pre_some_expert.Facts),
    quiescent_Kernel (hKernel := hKernel) (hPre_some_expert := hPre_some_expert)
    ∧ quiescent_KernelIdeal (hKernelIdeal := hKernelIdeal) (hPre_some_expert := hPre_some_expert)
    ∧ quiescent_ReferenceIdeal (hReferenceIdeal := hReferenceIdeal)
    ∧ quiescent_ReferenceIdeal_pre_some_expert (hReferenceIdeal := hReferenceIdeal) (hPre_some_expert := hPre_some_expert)
    ∧ preserves_Kernel_KernelIdeal
    ∧ algebraic_KernelIdeal_ReferenceIdeal (hKernelIdeal := hKernelIdeal) (hReferenceIdeal := hReferenceIdeal) (hPre_some_expert := hPre_some_expert)
-- ==== Pre_some_expert.lean ====
abbrev S16x1x5120 : Shape := ⟨3, ![16, 1, 5120]⟩
abbrev S16x1x2 : Shape := ⟨3, ![16, 1, 2]⟩
abbrev S4x2560x4096 : Shape := ⟨3, ![4, 2560, 4096]⟩
abbrev S4x40x4096 : Shape := ⟨3, ![4, 40, 4096]⟩
abbrev S4x1024x5120 : Shape := ⟨3, ![4, 1024, 5120]⟩
abbrev S4x16x5120 : Shape := ⟨3, ![4, 16, 5120]⟩
abbrev S_ : Shape := ⟨0, ![]⟩

class Facts : Prop where
  bcast_S_S16x1x2 : S_.BroadcastsInDim S16x1x2 (![] : Fin 0 → Fin S16x1x2.rank)
  reducesTo_S16x1x2_S_d0_1_2 : S16x1x2.ReducesTo [0, 1, 2] S_
  h_S_ : 0 < S_.numel

variable [Facts]

def fn {F : FTy → Type} [FloatOps F] (main_arg0 : FVec F S16x1x5120 .bf16) (main_arg1 : IVec S16x1x2 32) (main_arg2 : FVec F S16x1x2 .f32) (main_arg3 : IVec S4x2560x4096 8) (main_arg4 : FVec F S4x40x4096 .bf16) (main_arg5 : IVec S4x1024x5120 8) (main_arg6 : FVec F S4x16x5120 .bf16) : IVec S_ 1 :=
  let main_c : IVec S_ 32 := constantI S_ 32 0#32
  let main_v0 : IVec S16x1x2 32 := broadcastInDim S16x1x2 ![] bcast_S_S16x1x2 main_c
  let main_v1 : IVec S16x1x2 1 := cmpi .sge main_arg1 main_v0
  let main_c_0 : IVec S_ 32 := constantI S_ 32 4#32
  let main_v2 : IVec S16x1x2 32 := broadcastInDim S16x1x2 ![] bcast_S_S16x1x2 main_c_0
  let main_v3 : IVec S16x1x2 1 := cmpi .slt main_arg1 main_v2
  let main_v4 : IVec S16x1x2 1 := andi main_v1 main_v3
  let main_c_1 : IVec S_ 1 := constantI S_ 1 0#1
  let main_v5 : IVec S_ 1 := (fun x v => Host.reduce IntOp.ori x v reducesTo_S16x1x2_S_d0_1_2 h_S_) main_v4 main_c_1
  main_v5
-- ==== Kernel.lean ====
abbrev S16x1x5120 : Shape := ⟨3, ![16, 1, 5120]⟩
abbrev S16x1x2 : Shape := ⟨3, ![16, 1, 2]⟩
abbrev S4x2560x4096 : Shape := ⟨3, ![4, 2560, 4096]⟩
abbrev S4x40x4096 : Shape := ⟨3, ![4, 40, 4096]⟩
abbrev S4x1024x5120 : Shape := ⟨3, ![4, 1024, 5120]⟩
abbrev S4x16x5120 : Shape := ⟨3, ![4, 16, 5120]⟩
abbrev S16x5120 : Shape := ⟨2, ![16, 5120]⟩
abbrev S4 : Shape := ⟨1, ![4]⟩
abbrev S4x2560x256 : Shape := ⟨3, ![4, 2560, 256]⟩
abbrev S4x128x5120 : Shape := ⟨3, ![4, 128, 5120]⟩
abbrev S2x40x4096 : Shape := ⟨3, ![2, 40, 4096]⟩
abbrev S2x16x5120 : Shape := ⟨3, ![2, 16, 5120]⟩
abbrev S40x4096 : Shape := ⟨2, ![40, 4096]⟩
abbrev S16x256 : Shape := ⟨2, ![16, 256]⟩
abbrev S3x4 : Shape := ⟨2, ![3, 4]⟩
abbrev S2x2 : Shape := ⟨2, ![2, 2]⟩
abbrev S1x1x1 : Shape := ⟨3, ![1, 1, 1]⟩
abbrev S1 : Shape := ⟨1, ![1]⟩
abbrev S1x1 : Shape := ⟨2, ![1, 1]⟩
abbrev S_ : Shape := ⟨0, ![]⟩
abbrev S1x40x4096 : Shape := ⟨3, ![1, 40, 4096]⟩
abbrev S1x16x5120 : Shape := ⟨3, ![1, 16, 5120]⟩
abbrev S1x2560x256 : Shape := ⟨3, ![1, 2560, 256]⟩
abbrev S2560x256 : Shape := ⟨2, ![2560, 256]⟩
abbrev S1x128x5120 : Shape := ⟨3, ![1, 128, 5120]⟩
abbrev S128x5120 : Shape := ⟨2, ![128, 5120]⟩
abbrev S1x128x256 : Shape := ⟨3, ![1, 128, 256]⟩
abbrev S128x256 : Shape := ⟨2, ![128, 256]⟩
abbrev S2x256 : Shape := ⟨2, ![2, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩

abbrev nBuf : Space → Nat
  | .hbm => 9
  | .vmem => 12
  | .smem => 3
  | _ => 0

abbrev bufTy : (tb : Table) → Fin (tcTables nBuf tb) → BufTy
  | .hbm, ⟨0, _⟩ => ⟨S16x1x5120, .bf16⟩
  | .hbm, ⟨1, _⟩ => ⟨S16x1x2, .i32⟩
  | .hbm, ⟨2, _⟩ => ⟨S16x1x2, .f32⟩
  | .hbm, ⟨3, _⟩ => ⟨S4x2560x4096, .i8⟩
  | .hbm, ⟨4, _⟩ => ⟨S4x40x4096, .bf16⟩
  | .hbm, ⟨5, _⟩ => ⟨S4x1024x5120, .i8⟩
  | .hbm, ⟨6, _⟩ => ⟨S4x16x5120, .bf16⟩
  | .hbm, ⟨7, _⟩ => ⟨S16x5120, .bf16⟩
  | .hbm, ⟨8, _⟩ => ⟨S16x5120, .bf16⟩
  | .local _ .vmem, ⟨0, _⟩ => ⟨S16x5120, .bf16⟩
  | .local _ .vmem, ⟨1, _⟩ => ⟨S16x5120, .bf16⟩
  | .local _ .vmem, ⟨2, _⟩ => ⟨S4x2560x256, .i8⟩
  | .local _ .vmem, ⟨3, _⟩ => ⟨S4x2560x256, .i8⟩
  | .local _ .vmem, ⟨4, _⟩ => ⟨S4x128x5120, .i8⟩
  | .local _ .vmem, ⟨5, _⟩ => ⟨S2x40x4096, .bf16⟩
  | .local _ .vmem, ⟨6, _⟩ => ⟨S2x16x5120, .bf16⟩
  | .local _ .vmem, ⟨7, _⟩ => ⟨S40x4096, .f32⟩
  | .local _ .vmem, ⟨8, _⟩ => ⟨S16x5120, .f32⟩
  | .local _ .vmem, ⟨9, _⟩ => ⟨S16x256, .bf16⟩
  | .local _ .vmem, ⟨10, _⟩ => ⟨S16x5120, .f32⟩
  | .local _ .vmem, ⟨11, _⟩ => ⟨S16x5120, .f32⟩
  | .local _ .smem, ⟨0, _⟩ => ⟨S16x1x2, .i32⟩
  | .local _ .smem, ⟨1, _⟩ => ⟨S16x1x2, .f32⟩
  | .local _ .smem, ⟨2, _⟩ => ⟨S4, .i32⟩
  | _, _ => ⟨S16x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg2_0 : Ref sig .tc := ⟨.vmem, 0, rfl⟩
abbrev cc0_stg3_0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_stg0_0 : Ref sig .tc := ⟨.smem, 0, rfl⟩
abbrev cc0_stg1_0 : Ref sig .tc := ⟨.smem, 1, rfl⟩
abbrev cc0_scratch0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c4_i32 : BitVec 32 := 4#32
  let v0 : BitVec 32 := Scalar.addi c0_i32_0 c4_i32
  let c1_i32 : BitVec 32 := 1#32
  ⟨c0_i32_0, v0, c1_i32⟩
def k0_off1 (arg22 : BitVec 32) : Fin 1 → Nat :=
  let v136 : Index := Scalar.indexCast arg22
  ![v136.toNat]
def k0_cond1 (k0_t1 : Fin k0_t1_loop.trips) (v37 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) : BitVec 1 :=
  let c0_i32_0 : BitVec 32 := 0#32
  let c1_i32 : BitVec 32 := 1#32
  let arg21 : BitVec 32 := Scf.iv c0_i32_0 c1_i32 k0_t1
  let v38 : BitVec 1 := Scalar.cmpi .eq v37 arg21
  let v40 : BitVec 1 := Scalar.cmpi .eq v39 arg21
  let v41 : BitVec 1 := Scalar.ori v38 v40
  let v43 : BitVec 1 := Scalar.cmpi .eq v42 arg21
  let v44 : BitVec 1 := Scalar.ori v41 v43
  let v46 : BitVec 1 := Scalar.cmpi .eq v45 arg21
  let v47 : BitVec 1 := Scalar.ori v44 v46
  let v49 : BitVec 1 := Scalar.cmpi .eq v48 arg21
  let v50 : BitVec 1 := Scalar.ori v47 v49
  let v52 : BitVec 1 := Scalar.cmpi .eq v51 arg21
  let v53 : BitVec 1 := Scalar.ori v50 v52
  let v55 : BitVec 1 := Scalar.cmpi .eq v54 arg21
  let v56 : BitVec 1 := Scalar.ori v53 v55
  let v58 : BitVec 1 := Scalar.cmpi .eq v57 arg21
  let v59 : BitVec 1 := Scalar.ori v56 v58
  let v61 : BitVec 1 := Scalar.cmpi .eq v60 arg21
  let v62 : BitVec 1 := Scalar.ori v59 v61
  let v64 : BitVec 1 := Scalar.cmpi .eq v63 arg21
  let v65 : BitVec 1 := Scalar.ori v62 v64
  let v67 : BitVec 1 := Scalar.cmpi .eq v66 arg21
  let v68 : BitVec 1 := Scalar.ori v65 v67
  let v70 : BitVec 1 := Scalar.cmpi .eq v69 arg21
  let v71 : BitVec 1 := Scalar.ori v68 v70
  let v73 : BitVec 1 := Scalar.cmpi .eq v72 arg21
  let v74 : BitVec 1 := Scalar.ori v71 v73
  let v76 : BitVec 1 := Scalar.cmpi .eq v75 arg21
  let v77 : BitVec 1 := Scalar.ori v74 v76
  let v79 : BitVec 1 := Scalar.cmpi .eq v78 arg21
  let v80 : BitVec 1 := Scalar.ori v77 v79
  let v82 : BitVec 1 := Scalar.cmpi .eq v81 arg21
  let v83 : BitVec 1 := Scalar.ori v80 v82
  let v85 : BitVec 1 := Scalar.cmpi .eq v84 arg21
  let v86 : BitVec 1 := Scalar.ori v83 v85
  let v88 : BitVec 1 := Scalar.cmpi .eq v87 arg21
  let v89 : BitVec 1 := Scalar.ori v86 v88
  let v91 : BitVec 1 := Scalar.cmpi .eq v90 arg21
  let v92 : BitVec 1 := Scalar.ori v89 v91
  let v94 : BitVec 1 := Scalar.cmpi .eq v93 arg21
  let v95 : BitVec 1 := Scalar.ori v92 v94
  let v97 : BitVec 1 := Scalar.cmpi .eq v96 arg21
  let v98 : BitVec 1 := Scalar.ori v95 v97
  let v100 : BitVec 1 := Scalar.cmpi .eq v99 arg21
  let v101 : BitVec 1 := Scalar.ori v98 v100
  let v103 : BitVec 1 := Scalar.cmpi .eq v102 arg21
  let v104 : BitVec 1 := Scalar.ori v101 v103
  let v106 : BitVec 1 := Scalar.cmpi .eq v105 arg21
  let v107 : BitVec 1 := Scalar.ori v104 v106
  let v109 : BitVec 1 := Scalar.cmpi .eq v108 arg21
  let v110 : BitVec 1 := Scalar.ori v107 v109
  let v112 : BitVec 1 := Scalar.cmpi .eq v111 arg21
  let v113 : BitVec 1 := Scalar.ori v110 v112
  let v115 : BitVec 1 := Scalar.cmpi .eq v114 arg21
  let v116 : BitVec 1 := Scalar.ori v113 v115
  let v118 : BitVec 1 := Scalar.cmpi .eq v117 arg21
  let v119 : BitVec 1 := Scalar.ori v116 v118
  let v121 : BitVec 1 := Scalar.cmpi .eq v120 arg21
  let v122 : BitVec 1 := Scalar.ori v119 v121
  let v124 : BitVec 1 := Scalar.cmpi .eq v123 arg21
  let v125 : BitVec 1 := Scalar.ori v122 v124
  let v127 : BitVec 1 := Scalar.cmpi .eq v126 arg21
  let v128 : BitVec 1 := Scalar.ori v125 v127
  let v130 : BitVec 1 := Scalar.cmpi .eq v129 arg21
  let v131 : BitVec 1 := Scalar.ori v128 v130
  let v132 : BitVec 32 := Scalar.extui v131
  let c0_i32_113 : BitVec 32 := 0#32
  let v133 : BitVec 1 := Scalar.cmpi .ne v132 c0_i32_113
  v133

def k0_chk1 (k0_t1 : Fin k0_t1_loop.trips) (arg22 : BitVec 32) (v37 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) : Prop :=
  (∀ (k0_h1 : k0_cond1 k0_t1 v37 v39 v42 v45 v48 v51 v54 v57 v60 v63 v66 v69 v72 v75 v78 v81 v84 v87 v90 v93 v96 v99 v102 v105 v108 v111 v114 v117 v120 v123 v126 v129 = 1#1), ∀ a, (k0_off1 arg22) a + S1.size a ≤ S4.size a)
theorem k0_off1_inb : ∀ (k0_t1 : Fin k0_t1_loop.trips) (arg22 : BitVec 32) (v37 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (k0_hw1 : k0_chk1 k0_t1 arg22 v37 v39 v42 v45 v48 v51 v54 v57 v60 v63 v66 v69 v72 v75 v78 v81 v84 v87 v90 v93 v96 v99 v102 v105 v108 v111 v114 v117 v120 v123 v126 v129), ∀ (k0_h1 : k0_cond1 k0_t1 v37 v39 v42 v45 v48 v51 v54 v57 v60 v63 v66 v69 v72 v75 v78 v81 v84 v87 v90 v93 v96 v99 v102 v105 v108 v111 v114 v117 v120 v123 v126 v129 = 1#1), ∀ a, (k0_off1 arg22) a + S1.size a ≤ S4.size a := fun k0_t1 arg22 v37 v39 v42 v45 v48 v51 v54 v57 v60 v63 v66 v69 v72 v75 v78 v81 v84 v87 v90 v93 v96 v99 v102 v105 v108 v111 v114 v117 v120 v123 v126 v129 k0_hw1 k0_h1 => k0_hw1 k0_h1

def k0_off2 (v7 : BitVec 32) : Fin 3 → Nat :=
  let c0_i32_9 : BitVec 32 := 0#32
  let c0_i32_10 : BitVec 32 := 0#32
  ![v7.toNat, 0, 0]

def k0_off3 (v7 : BitVec 32) : Fin 3 → Nat :=
  let c0_i32_16 : BitVec 32 := 0#32
  let c0_i32_17 : BitVec 32 := 0#32
  ![v7.toNat, 0, 0]

def k0_chk2 (v7 : BitVec 32) : Prop :=
  (∀ a, (k0_off2 v7) a + S1x40x4096.size a ≤ S4x40x4096.size a) ∧
  (∀ (hinb : ∀ a, (k0_off2 v7) a + S1x40x4096.size a ≤ S4x40x4096.size a), (Rect.unit (s := S4x40x4096) (k0_off2 v7) S1x40x4096.size hinb).WholeWords (EltTy.packing .bf16)) ∧
  (∀ a, (k0_off3 v7) a + S1x16x5120.size a ≤ S4x16x5120.size a) ∧
  (∀ (hinb : ∀ a, (k0_off3 v7) a + S1x16x5120.size a ≤ S4x16x5120.size a), (Rect.unit (s := S4x16x5120) (k0_off3 v7) S1x16x5120.size hinb).WholeWords (EltTy.packing .bf16))
theorem k0_off2_inb : ∀ (v7 : BitVec 32) (k0_hw2 : k0_chk2 v7), ∀ a, (k0_off2 v7) a + S1x40x4096.size a ≤ S4x40x4096.size a := fun v7 k0_hw2 => k0_hw2.1
theorem k0_off2_wordsbf16 : ∀ (v7 : BitVec 32) (k0_hw2 : k0_chk2 v7), (Rect.unit (s := S4x40x4096) (k0_off2 v7) S1x40x4096.size (k0_off2_inb v7 k0_hw2)).WholeWords (EltTy.packing .bf16) := fun v7 k0_hw2 => k0_hw2.2.1 (k0_off2_inb v7 k0_hw2)
theorem k0_off3_inb : ∀ (v7 : BitVec 32) (k0_hw2 : k0_chk2 v7), ∀ a, (k0_off3 v7) a + S1x16x5120.size a ≤ S4x16x5120.size a := fun v7 k0_hw2 => k0_hw2.2.2.1
theorem k0_off3_wordsbf16 : ∀ (v7 : BitVec 32) (k0_hw2 : k0_chk2 v7), (Rect.unit (s := S4x16x5120) (k0_off3 v7) S1x16x5120.size (k0_off3_inb v7 k0_hw2)).WholeWords (EltTy.packing .bf16) := fun v7 k0_hw2 => k0_hw2.2.2.2 (k0_off3_inb v7 k0_hw2)

def k0_mult1 : BitVec 32 :=
  let c0_i32_33 : BitVec 32 := 0#32
  c0_i32_33
def k0_mult2 : BitVec 32 :=
  let c0_i32_34 : BitVec 32 := 0#32
  c0_i32_34
def k0_off4 (v37 : BitVec 32) : Fin 3 → Nat :=
  let c0_i32_40 : BitVec 32 := 0#32
  let c0_i32_33 : BitVec 32 := 0#32
  let v38 : BitVec 32 := c0_i32_33
  ![v37.toNat, 0, 0]
def k0_cond2 (v1 : BitVec 32) : BitVec 1 :=
  let c8_i32 : BitVec 32 := 8#32
  let v2 : BitVec 32 := Scalar.muli v1 c8_i32
  let c0_i32_18 : BitVec 32 := 0#32
  let v20 : BitVec 1 := Scalar.cmpi .sgt v2 c0_i32_18
  let v21 : BitVec 32 := Scalar.extui v20
  let c0_i32_19 : BitVec 32 := 0#32
  let v22 : BitVec 1 := Scalar.cmpi .ne v21 c0_i32_19
  v22

def k0_off5 (v37 : BitVec 32) : Fin 3 → Nat :=
  let c0_i32_46 : BitVec 32 := 0#32
  let c2048_i32 : BitVec 32 := 2048#32
  let c0_i32_33 : BitVec 32 := 0#32
  let v38 : BitVec 32 := c0_i32_33
  let v40 : BitVec 32 := Scalar.addi c2048_i32 v38
  ![v37.toNat, 0, v40.toNat]
def k0_off6 (v37 : BitVec 32) : Fin 3 → Nat :=
  let c0_i32_34 : BitVec 32 := 0#32
  let v39 : BitVec 32 := c0_i32_34
  let c0_i32_52 : BitVec 32 := 0#32
  ![v37.toNat, 0, 0]

def k0_chk3 (v1 : BitVec 32) (v37 : BitVec 32) : Prop :=
  (∀ (k0_h2 : k0_cond2 v1 = 1#1), ∀ a, (k0_off4 v37) a + S1x2560x256.size a ≤ S4x2560x4096.size a) ∧
  (∀ (k0_h2 : k0_cond2 v1 = 1#1), ∀ (hinb : ∀ a, (k0_off4 v37) a + S1x2560x256.size a ≤ S4x2560x4096.size a), (Rect.unit (s := S4x2560x4096) (k0_off4 v37) S1x2560x256.size hinb).WholeWords (EltTy.packing .i8)) ∧
  (∀ (k0_h2 : k0_cond2 v1 = 1#1), ∀ a, (k0_off5 v37) a + S1x2560x256.size a ≤ S4x2560x4096.size a) ∧
  (∀ (k0_h2 : k0_cond2 v1 = 1#1), ∀ (hinb : ∀ a, (k0_off5 v37) a + S1x2560x256.size a ≤ S4x2560x4096.size a), (Rect.unit (s := S4x2560x4096) (k0_off5 v37) S1x2560x256.size hinb).WholeWords (EltTy.packing .i8)) ∧
  (∀ (k0_h2 : k0_cond2 v1 = 1#1), ∀ a, (k0_off6 v37) a + S1x128x5120.size a ≤ S4x1024x5120.size a) ∧
  (∀ (k0_h2 : k0_cond2 v1 = 1#1), ∀ (hinb : ∀ a, (k0_off6 v37) a + S1x128x5120.size a ≤ S4x1024x5120.size a), (Rect.unit (s := S4x1024x5120) (k0_off6 v37) S1x128x5120.size hinb).WholeWords (EltTy.packing .i8))
theorem k0_off4_inb : ∀ (v1 : BitVec 32) (v37 : BitVec 32) (k0_hw3 : k0_chk3 v1 v37), ∀ (k0_h2 : k0_cond2 v1 = 1#1), ∀ a, (k0_off4 v37) a + S1x2560x256.size a ≤ S4x2560x4096.size a := fun v1 v37 k0_hw3 k0_h2 => k0_hw3.1 k0_h2
theorem k0_off4_wordsi8 : ∀ (v1 : BitVec 32) (v37 : BitVec 32) (k0_hw3 : k0_chk3 v1 v37), ∀ (k0_h2 : k0_cond2 v1 = 1#1), (Rect.unit (s := S4x2560x4096) (k0_off4 v37) S1x2560x256.size (k0_off4_inb v1 v37 k0_hw3 k0_h2)).WholeWords (EltTy.packing .i8) := fun v1 v37 k0_hw3 k0_h2 => k0_hw3.2.1 k0_h2 (k0_off4_inb v1 v37 k0_hw3 k0_h2)
theorem k0_off5_inb : ∀ (v1 : BitVec 32) (v37 : BitVec 32) (k0_hw3 : k0_chk3 v1 v37), ∀ (k0_h2 : k0_cond2 v1 = 1#1), ∀ a, (k0_off5 v37) a + S1x2560x256.size a ≤ S4x2560x4096.size a := fun v1 v37 k0_hw3 k0_h2 => k0_hw3.2.2.1 k0_h2
theorem k0_off5_wordsi8 : ∀ (v1 : BitVec 32) (v37 : BitVec 32) (k0_hw3 : k0_chk3 v1 v37), ∀ (k0_h2 : k0_cond2 v1 = 1#1), (Rect.unit (s := S4x2560x4096) (k0_off5 v37) S1x2560x256.size (k0_off5_inb v1 v37 k0_hw3 k0_h2)).WholeWords (EltTy.packing .i8) := fun v1 v37 k0_hw3 k0_h2 => k0_hw3.2.2.2.1 k0_h2 (k0_off5_inb v1 v37 k0_hw3 k0_h2)
theorem k0_off6_inb : ∀ (v1 : BitVec 32) (v37 : BitVec 32) (k0_hw3 : k0_chk3 v1 v37), ∀ (k0_h2 : k0_cond2 v1 = 1#1), ∀ a, (k0_off6 v37) a + S1x128x5120.size a ≤ S4x1024x5120.size a := fun v1 v37 k0_hw3 k0_h2 => k0_hw3.2.2.2.2.1 k0_h2
theorem k0_off6_wordsi8 : ∀ (v1 : BitVec 32) (v37 : BitVec 32) (k0_hw3 : k0_chk3 v1 v37), ∀ (k0_h2 : k0_cond2 v1 = 1#1), (Rect.unit (s := S4x1024x5120) (k0_off6 v37) S1x128x5120.size (k0_off6_inb v1 v37 k0_hw3 k0_h2)).WholeWords (EltTy.packing .i8) := fun v1 v37 k0_hw3 k0_h2 => k0_hw3.2.2.2.2.2 k0_h2 (k0_off6_inb v1 v37 k0_hw3 k0_h2)

def k0_mult3 : BitVec 32 :=
  let c256_i32 : BitVec 32 := 256#32
  c256_i32
def k0_mult4 : BitVec 32 :=
  let c128_i32 : BitVec 32 := 128#32
  c128_i32
def k0_off7 (v37 : BitVec 32) : Fin 3 → Nat :=
  let c0_i32_38 : BitVec 32 := 0#32
  let c256_i32 : BitVec 32 := 256#32
  let v38 : BitVec 32 := c256_i32
  ![v37.toNat, 0, 256]
def k0_cond3 (v1 : BitVec 32) : BitVec 1 :=
  let c8_i32 : BitVec 32 := 8#32
  let v2 : BitVec 32 := Scalar.muli v1 c8_i32
  let c1_i32_20 : BitVec 32 := 1#32
  let v23 : BitVec 1 := Scalar.cmpi .sgt v2 c1_i32_20
  let v24 : BitVec 32 := Scalar.extui v23
  let c0_i32_21 : BitVec 32 := 0#32
  let v25 : BitVec 1 := Scalar.cmpi .ne v24 c0_i32_21
  v25

def k0_off8 (v37 : BitVec 32) : Fin 3 → Nat :=
  let c0_i32_44 : BitVec 32 := 0#32
  let c2048_i32 : BitVec 32 := 2048#32
  let c256_i32 : BitVec 32 := 256#32
  let v38 : BitVec 32 := c256_i32
  let v40 : BitVec 32 := Scalar.addi c2048_i32 v38
  ![v37.toNat, 0, v40.toNat]
def k0_off9 (v37 : BitVec 32) : Fin 3 → Nat :=
  let c128_i32 : BitVec 32 := 128#32
  let v39 : BitVec 32 := c128_i32
  let c0_i32_50 : BitVec 32 := 0#32
  ![v37.toNat, 128, 0]

def k0_chk4 (v1 : BitVec 32) (v37 : BitVec 32) : Prop :=
  (∀ (k0_h3 : k0_cond3 v1 = 1#1), ∀ a, (k0_off7 v37) a + S1x2560x256.size a ≤ S4x2560x4096.size a) ∧
  (∀ (k0_h3 : k0_cond3 v1 = 1#1), ∀ (hinb : ∀ a, (k0_off7 v37) a + S1x2560x256.size a ≤ S4x2560x4096.size a), (Rect.unit (s := S4x2560x4096) (k0_off7 v37) S1x2560x256.size hinb).WholeWords (EltTy.packing .i8)) ∧
  (∀ (k0_h3 : k0_cond3 v1 = 1#1), ∀ a, (k0_off8 v37) a + S1x2560x256.size a ≤ S4x2560x4096.size a) ∧
  (∀ (k0_h3 : k0_cond3 v1 = 1#1), ∀ (hinb : ∀ a, (k0_off8 v37) a + S1x2560x256.size a ≤ S4x2560x4096.size a), (Rect.unit (s := S4x2560x4096) (k0_off8 v37) S1x2560x256.size hinb).WholeWords (EltTy.packing .i8)) ∧
  (∀ (k0_h3 : k0_cond3 v1 = 1#1), ∀ a, (k0_off9 v37) a + S1x128x5120.size a ≤ S4x1024x5120.size a) ∧
  (∀ (k0_h3 : k0_cond3 v1 = 1#1), ∀ (hinb : ∀ a, (k0_off9 v37) a + S1x128x5120.size a ≤ S4x1024x5120.size a), (Rect.unit (s := S4x1024x5120) (k0_off9 v37) S1x128x5120.size hinb).WholeWords (EltTy.packing .i8))
theorem k0_off7_inb : ∀ (v1 : BitVec 32) (v37 : BitVec 32) (k0_hw4 : k0_chk4 v1 v37), ∀ (k0_h3 : k0_cond3 v1 = 1#1), ∀ a, (k0_off7 v37) a + S1x2560x256.size a ≤ S4x2560x4096.size a := fun v1 v37 k0_hw4 k0_h3 => k0_hw4.1 k0_h3
theorem k0_off7_wordsi8 : ∀ (v1 : BitVec 32) (v37 : BitVec 32) (k0_hw4 : k0_chk4 v1 v37), ∀ (k0_h3 : k0_cond3 v1 = 1#1), (Rect.unit (s := S4x2560x4096) (k0_off7 v37) S1x2560x256.size (k0_off7_inb v1 v37 k0_hw4 k0_h3)).WholeWords (EltTy.packing .i8) := fun v1 v37 k0_hw4 k0_h3 => k0_hw4.2.1 k0_h3 (k0_off7_inb v1 v37 k0_hw4 k0_h3)
theorem k0_off8_inb : ∀ (v1 : BitVec 32) (v37 : BitVec 32) (k0_hw4 : k0_chk4 v1 v37), ∀ (k0_h3 : k0_cond3 v1 = 1#1), ∀ a, (k0_off8 v37) a + S1x2560x256.size a ≤ S4x2560x4096.size a := fun v1 v37 k0_hw4 k0_h3 => k0_hw4.2.2.1 k0_h3
theorem k0_off8_wordsi8 : ∀ (v1 : BitVec 32) (v37 : BitVec 32) (k0_hw4 : k0_chk4 v1 v37), ∀ (k0_h3 : k0_cond3 v1 = 1#1), (Rect.unit (s := S4x2560x4096) (k0_off8 v37) S1x2560x256.size (k0_off8_inb v1 v37 k0_hw4 k0_h3)).WholeWords (EltTy.packing .i8) := fun v1 v37 k0_hw4 k0_h3 => k0_hw4.2.2.2.1 k0_h3 (k0_off8_inb v1 v37 k0_hw4 k0_h3)
theorem k0_off9_inb : ∀ (v1 : BitVec 32) (v37 : BitVec 32) (k0_hw4 : k0_chk4 v1 v37), ∀ (k0_h3 : k0_cond3 v1 = 1#1), ∀ a, (k0_off9 v37) a + S1x128x5120.size a ≤ S4x1024x5120.size a := fun v1 v37 k0_hw4 k0_h3 => k0_hw4.2.2.2.2.1 k0_h3
theorem k0_off9_wordsi8 : ∀ (v1 : BitVec 32) (v37 : BitVec 32) (k0_hw4 : k0_chk4 v1 v37), ∀ (k0_h3 : k0_cond3 v1 = 1#1), (Rect.unit (s := S4x1024x5120) (k0_off9 v37) S1x128x5120.size (k0_off9_inb v1 v37 k0_hw4 k0_h3)).WholeWords (EltTy.packing .i8) := fun v1 v37 k0_hw4 k0_h3 => k0_hw4.2.2.2.2.2 k0_h3 (k0_off9_inb v1 v37 k0_hw4 k0_h3)

def k0_mult5 : BitVec 32 :=
  let c512_i32 : BitVec 32 := 512#32
  c512_i32
def k0_mult6 : BitVec 32 :=
  let c256_i32 : BitVec 32 := 256#32
  c256_i32
def k0_off10 (v37 : BitVec 32) : Fin 3 → Nat :=
  let c0_i32_38 : BitVec 32 := 0#32
  let c512_i32 : BitVec 32 := 512#32
  let v38 : BitVec 32 := c512_i32
  ![v37.toNat, 0, 512]
def k0_cond4 (v1 : BitVec 32) : BitVec 1 :=
  let c8_i32 : BitVec 32 := 8#32
  let v2 : BitVec 32 := Scalar.muli v1 c8_i32
  let c2_i32 : BitVec 32 := 2#32
  let v26 : BitVec 1 := Scalar.cmpi .sgt v2 c2_i32
  let v27 : BitVec 32 := Scalar.extui v26
  let c0_i32_22 : BitVec 32 := 0#32
  let v28 : BitVec 1 := Scalar.cmpi .ne v27 c0_i32_22
  v28

def k0_off11 (v37 : BitVec 32) : Fin 3 → Nat :=
  let c0_i32_44 : BitVec 32 := 0#32
  let c2048_i32 : BitVec 32 := 2048#32
  let c512_i32 : BitVec 32 := 512#32
  let v38 : BitVec 32 := c512_i32
  let v40 : BitVec 32 := Scalar.addi c2048_i32 v38
  ![v37.toNat, 0, v40.toNat]
def k0_off12 (v37 : BitVec 32) : Fin 3 → Nat :=
  let c256_i32 : BitVec 32 := 256#32
  let v39 : BitVec 32 := c256_i32
  let c0_i32_50 : BitVec 32 := 0#32
  ![v37.toNat, 256, 0]

def k0_chk5 (v1 : BitVec 32) (v37 : BitVec 32) : Prop :=
  (∀ (k0_h4 : k0_cond4 v1 = 1#1), ∀ a, (k0_off10 v37) a + S1x2560x256.size a ≤ S4x2560x4096.size a) ∧
  (∀ (k0_h4 : k0_cond4 v1 = 1#1), ∀ (hinb : ∀ a, (k0_off10 v37) a + S1x2560x256.size a ≤ S4x2560x4096.size a), (Rect.unit (s := S4x2560x4096) (k0_off10 v37) S1x2560x256.size hinb).WholeWords (EltTy.packing .i8)) ∧
  (∀ (k0_h4 : k0_cond4 v1 = 1#1), ∀ a, (k0_off11 v37) a + S1x2560x256.size a ≤ S4x2560x4096.size a) ∧
  (∀ (k0_h4 : k0_cond4 v1 = 1#1), ∀ (hinb : ∀ a, (k0_off11 v37) a + S1x2560x256.size a ≤ S4x2560x4096.size a), (Rect.unit (s := S4x2560x4096) (k0_off11 v37) S1x2560x256.size hinb).WholeWords (EltTy.packing .i8)) ∧
  (∀ (k0_h4 : k0_cond4 v1 = 1#1), ∀ a, (k0_off12 v37) a + S1x128x5120.size a ≤ S4x1024x5120.size a) ∧
  (∀ (k0_h4 : k0_cond4 v1 = 1#1), ∀ (hinb : ∀ a, (k0_off12 v37) a + S1x128x5120.size a ≤ S4x1024x5120.size a), (Rect.unit (s := S4x1024x5120) (k0_off12 v37) S1x128x5120.size hinb).WholeWords (EltTy.packing .i8))
theorem k0_off10_inb : ∀ (v1 : BitVec 32) (v37 : BitVec 32) (k0_hw5 : k0_chk5 v1 v37), ∀ (k0_h4 : k0_cond4 v1 = 1#1), ∀ a, (k0_off10 v37) a + S1x2560x256.size a ≤ S4x2560x4096.size a := fun v1 v37 k0_hw5 k0_h4 => k0_hw5.1 k0_h4
theorem k0_off10_wordsi8 : ∀ (v1 : BitVec 32) (v37 : BitVec 32) (k0_hw5 : k0_chk5 v1 v37), ∀ (k0_h4 : k0_cond4 v1 = 1#1), (Rect.unit (s := S4x2560x4096) (k0_off10 v37) S1x2560x256.size (k0_off10_inb v1 v37 k0_hw5 k0_h4)).WholeWords (EltTy.packing .i8) := fun v1 v37 k0_hw5 k0_h4 => k0_hw5.2.1 k0_h4 (k0_off10_inb v1 v37 k0_hw5 k0_h4)
theorem k0_off11_inb : ∀ (v1 : BitVec 32) (v37 : BitVec 32) (k0_hw5 : k0_chk5 v1 v37), ∀ (k0_h4 : k0_cond4 v1 = 1#1), ∀ a, (k0_off11 v37) a + S1x2560x256.size a ≤ S4x2560x4096.size a := fun v1 v37 k0_hw5 k0_h4 => k0_hw5.2.2.1 k0_h4
theorem k0_off11_wordsi8 : ∀ (v1 : BitVec 32) (v37 : BitVec 32) (k0_hw5 : k0_chk5 v1 v37), ∀ (k0_h4 : k0_cond4 v1 = 1#1), (Rect.unit (s := S4x2560x4096) (k0_off11 v37) S1x2560x256.size (k0_off11_inb v1 v37 k0_hw5 k0_h4)).WholeWords (EltTy.packing .i8) := fun v1 v37 k0_hw5 k0_h4 => k0_hw5.2.2.2.1 k0_h4 (k0_off11_inb v1 v37 k0_hw5 k0_h4)
theorem k0_off12_inb : ∀ (v1 : BitVec 32) (v37 : BitVec 32) (k0_hw5 : k0_chk5 v1 v37), ∀ (k0_h4 : k0_cond4 v1 = 1#1), ∀ a, (k0_off12 v37) a + S1x128x5120.size a ≤ S4x1024x5120.size a := fun v1 v37 k0_hw5 k0_h4 => k0_hw5.2.2.2.2.1 k0_h4
theorem k0_off12_wordsi8 : ∀ (v1 : BitVec 32) (v37 : BitVec 32) (k0_hw5 : k0_chk5 v1 v37), ∀ (k0_h4 : k0_cond4 v1 = 1#1), (Rect.unit (s := S4x1024x5120) (k0_off12 v37) S1x128x5120.size (k0_off12_inb v1 v37 k0_hw5 k0_h4)).WholeWords (EltTy.packing .i8) := fun v1 v37 k0_hw5 k0_h4 => k0_hw5.2.2.2.2.2 k0_h4 (k0_off12_inb v1 v37 k0_hw5 k0_h4)

@[reducible] def k0_t2_loop (v1 : BitVec 32) : Scf.Loop 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_26 : BitVec 32 := 1#32
  ⟨c0_i32_24, v33, c1_i32_26⟩

def k0_cond5 (v1 : BitVec 32) (k0_t2 : Fin (k0_t2_loop v1).trips) : BitVec 1 :=
  let c0_i32_24 : BitVec 32 := 0#32
  let c1_i32_26 : BitVec 32 := 1#32
  let arg21 : BitVec 32 := Scf.iv c0_i32_24 c1_i32_26 k0_t2
  let c8_i32_39 : BitVec 32 := 8#32
  let c0_i32_40 : BitVec 32 := 0#32
  let v54 : BitVec 1 := Scalar.cmpi .eq c8_i32_39 c0_i32_40
  let c1_i32_41 : BitVec 32 := 1#32
  let v55 : BitVec 32 := Scalar.select v54 c1_i32_41 c8_i32_39
  let v56 : BitVec 32 := Scalar.remsi arg21 v55
  let c0_i32_43 : BitVec 32 := 0#32
  let v58 : BitVec 1 := Scalar.cmpi .slt v56 c0_i32_43
  let c0_i32_44 : BitVec 32 := 0#32
  let v59 : BitVec 1 := Scalar.cmpi .slt v55 c0_i32_44
  let v60 : BitVec 1 := Scalar.xori v58 v59
  let c0_i32_42 : BitVec 32 := 0#32
  let v57 : BitVec 1 := Scalar.cmpi .ne v56 c0_i32_42
  let v61 : BitVec 1 := Scalar.andi v60 v57
  let v62 : BitVec 32 := Scalar.addi v56 v55
  let v63 : BitVec 32 := Scalar.select v61 v62 v56
  let c0_i32_45 : BitVec 32 := 0#32
  let v64 : BitVec 1 := Scalar.cmpi .eq v63 c0_i32_45
  let v65 : BitVec 32 := Scalar.extui v64
  let c0_i32_46 : BitVec 32 := 0#32
  let v66 : BitVec 1 := Scalar.cmpi .ne v65 c0_i32_46
  v66

def k0_off13 (v1 : BitVec 32) (k0_t2 : Fin (k0_t2_loop v1).trips) : Fin 1 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let v2566 : Index := Scalar.indexCast v2565
  ![v2566.toNat]
def k0_cond6 (v1 : BitVec 32) (k0_t2 : Fin (k0_t2_loop v1).trips) : BitVec 1 :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_769 : BitVec 32 := 1#32
  let v2499 : BitVec 32 := Scalar.addi v53 c1_i32_769
  let v2500 : BitVec 1 := Scalar.cmpi .slt v2499 v1
  let v2501 : BitVec 32 := Scalar.extui v2500
  let c0_i32_770 : BitVec 32 := 0#32
  let v2502 : BitVec 1 := Scalar.cmpi .ne v2501 c0_i32_770
  v2502

def k0_off14 (v1 : BitVec 32) (k0_t2 : Fin (k0_t2_loop v1).trips) : Fin 2 → Nat :=
  let c0_i32_817 : BitVec 32 := 0#32
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  ![0, v2577.toNat]
def k0_off15 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  let c0_i32_818 : BitVec 32 := 0#32
  let c0_i32_819 : BitVec 32 := 0#32
  ![v2577.toNat, 0, 0]
def k0_off16 (v2567 : BitVec 32) : Fin 3 → Nat :=
  let c0_i32_820 : BitVec 32 := 0#32
  let c0_i32_821 : BitVec 32 := 0#32
  ![v2567.toNat, 0, 0]

def k0_off17 (v1 : BitVec 32) (k0_t2 : Fin (k0_t2_loop v1).trips) : Fin 2 → Nat :=
  let c1_i32_822 : BitVec 32 := 1#32
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  ![1, v2577.toNat]
def k0_off18 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  let c0_i32_823 : BitVec 32 := 0#32
  let c0_i32_824 : BitVec 32 := 0#32
  ![v2577.toNat, 0, 0]
def k0_off19 (v2567 : BitVec 32) : Fin 3 → Nat :=
  let c0_i32_825 : BitVec 32 := 0#32
  let c0_i32_826 : BitVec 32 := 0#32
  ![v2567.toNat, 0, 0]

def k0_chk7 (v1 : BitVec 32) (k0_t2 : Fin (k0_t2_loop v1).trips) (v2567 : BitVec 32) : Prop :=
  (∀ (k0_h5 : k0_cond5 v1 k0_t2 = 1#1), ∀ (k0_h6 : k0_cond6 v1 k0_t2 = 1#1), ∀ a, (k0_off16 v2567) a + S1x40x4096.size a ≤ S4x40x4096.size a) ∧
  (∀ (k0_h5 : k0_cond5 v1 k0_t2 = 1#1), ∀ (k0_h6 : k0_cond6 v1 k0_t2 = 1#1), ∀ (hinb : ∀ a, (k0_off16 v2567) a + S1x40x4096.size a ≤ S4x40x4096.size a), (Rect.unit (s := S4x40x4096) (k0_off16 v2567) S1x40x4096.size hinb).WholeWords (EltTy.packing .bf16)) ∧
  (∀ (k0_h5 : k0_cond5 v1 k0_t2 = 1#1), ∀ (k0_h6 : k0_cond6 v1 k0_t2 = 1#1), ∀ a, (k0_off19 v2567) a + S1x16x5120.size a ≤ S4x16x5120.size a) ∧
  (∀ (k0_h5 : k0_cond5 v1 k0_t2 = 1#1), ∀ (k0_h6 : k0_cond6 v1 k0_t2 = 1#1), ∀ (hinb : ∀ a, (k0_off19 v2567) a + S1x16x5120.size a ≤ S4x16x5120.size a), (Rect.unit (s := S4x16x5120) (k0_off19 v2567) S1x16x5120.size hinb).WholeWords (EltTy.packing .bf16))
theorem k0_off16_inb : ∀ (v1 : BitVec 32) (k0_t2 : Fin (k0_t2_loop v1).trips) (v2567 : BitVec 32) (k0_hw7 : k0_chk7 v1 k0_t2 v2567), ∀ (k0_h5 : k0_cond5 v1 k0_t2 = 1#1), ∀ (k0_h6 : k0_cond6 v1 k0_t2 = 1#1), ∀ a, (k0_off16 v2567) a + S1x40x4096.size a ≤ S4x40x4096.size a := fun v1 k0_t2 v2567 k0_hw7 k0_h5 k0_h6 => k0_hw7.1 k0_h5 k0_h6
theorem k0_off16_wordsbf16 : ∀ (v1 : BitVec 32) (k0_t2 : Fin (k0_t2_loop v1).trips) (v2567 : BitVec 32) (k0_hw7 : k0_chk7 v1 k0_t2 v2567), ∀ (k0_h5 : k0_cond5 v1 k0_t2 = 1#1), ∀ (k0_h6 : k0_cond6 v1 k0_t2 = 1#1), (Rect.unit (s := S4x40x4096) (k0_off16 v2567) S1x40x4096.size (k0_off16_inb v1 k0_t2 v2567 k0_hw7 k0_h5 k0_h6)).WholeWords (EltTy.packing .bf16) := fun v1 k0_t2 v2567 k0_hw7 k0_h5 k0_h6 => k0_hw7.2.1 k0_h5 k0_h6 (k0_off16_inb v1 k0_t2 v2567 k0_hw7 k0_h5 k0_h6)
theorem k0_off19_inb : ∀ (v1 : BitVec 32) (k0_t2 : Fin (k0_t2_loop v1).trips) (v2567 : BitVec 32) (k0_hw7 : k0_chk7 v1 k0_t2 v2567), ∀ (k0_h5 : k0_cond5 v1 k0_t2 = 1#1), ∀ (k0_h6 : k0_cond6 v1 k0_t2 = 1#1), ∀ a, (k0_off19 v2567) a + S1x16x5120.size a ≤ S4x16x5120.size a := fun v1 k0_t2 v2567 k0_hw7 k0_h5 k0_h6 => k0_hw7.2.2.1 k0_h5 k0_h6
theorem k0_off19_wordsbf16 : ∀ (v1 : BitVec 32) (k0_t2 : Fin (k0_t2_loop v1).trips) (v2567 : BitVec 32) (k0_hw7 : k0_chk7 v1 k0_t2 v2567), ∀ (k0_h5 : k0_cond5 v1 k0_t2 = 1#1), ∀ (k0_h6 : k0_cond6 v1 k0_t2 = 1#1), (Rect.unit (s := S4x16x5120) (k0_off19 v2567) S1x16x5120.size (k0_off19_inb v1 k0_t2 v2567 k0_hw7 k0_h5 k0_h6)).WholeWords (EltTy.packing .bf16) := fun v1 k0_t2 v2567 k0_hw7 k0_h5 k0_h6 => k0_hw7.2.2.2 k0_h5 k0_h6 (k0_off19_inb v1 k0_t2 v2567 k0_hw7 k0_h5 k0_h6)

def k0_off20 (v1 : BitVec 32) (k0_t2 : Fin (k0_t2_loop v1).trips) : Fin 1 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let v2503 : Index := Scalar.indexCast v53
  ![v2503.toNat]
def k0_off21 (v1 : BitVec 32) (k0_t2 : Fin (k0_t2_loop v1).trips) : Fin 2 → Nat :=
  let c0_i32_777 : BitVec 32 := 0#32
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  ![0, v2514.toNat]
def k0_off22 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  let c0_i32_778 : BitVec 32 := 0#32
  let c0_i32_779 : BitVec 32 := 0#32
  ![v2514.toNat, 0, 0]
def k0_off23 (v2504 : BitVec 32) : Fin 3 → Nat :=
  let c0_i32_780 : BitVec 32 := 0#32
  let c0_i32_781 : BitVec 32 := 0#32
  ![v2504.toNat, 0, 0]

def k0_off24 (v1 : BitVec 32) (k0_t2 : Fin (k0_t2_loop v1).trips) : Fin 2 → Nat :=
  let c1_i32_782 : BitVec 32 := 1#32
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  ![1, v2514.toNat]
def k0_off25 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  let c0_i32_783 : BitVec 32 := 0#32
  let c0_i32_784 : BitVec 32 := 0#32
  ![v2514.toNat, 0, 0]
def k0_off26 (v2504 : BitVec 32) : Fin 3 → Nat :=
  let c0_i32_785 : BitVec 32 := 0#32
  let c0_i32_786 : BitVec 32 := 0#32
  ![v2504.toNat, 0, 0]

def k0_chk8 (v1 : BitVec 32) (k0_t2 : Fin (k0_t2_loop v1).trips) (v2504 : BitVec 32) : Prop :=
  (∀ (k0_h5 : k0_cond5 v1 k0_t2 = 1#1), ∀ a, (k0_off23 v2504) a + S1x40x4096.size a ≤ S4x40x4096.size a) ∧
  (∀ (k0_h5 : k0_cond5 v1 k0_t2 = 1#1), ∀ (hinb : ∀ a, (k0_off23 v2504) a + S1x40x4096.size a ≤ S4x40x4096.size a), (Rect.unit (s := S4x40x4096) (k0_off23 v2504) S1x40x4096.size hinb).WholeWords (EltTy.packing .bf16)) ∧
  (∀ (k0_h5 : k0_cond5 v1 k0_t2 = 1#1), ∀ a, (k0_off26 v2504) a + S1x16x5120.size a ≤ S4x16x5120.size a) ∧
  (∀ (k0_h5 : k0_cond5 v1 k0_t2 = 1#1), ∀ (hinb : ∀ a, (k0_off26 v2504) a + S1x16x5120.size a ≤ S4x16x5120.size a), (Rect.unit (s := S4x16x5120) (k0_off26 v2504) S1x16x5120.size hinb).WholeWords (EltTy.packing .bf16))
theorem k0_off23_inb : ∀ (v1 : BitVec 32) (k0_t2 : Fin (k0_t2_loop v1).trips) (v2504 : BitVec 32) (k0_hw8 : k0_chk8 v1 k0_t2 v2504), ∀ (k0_h5 : k0_cond5 v1 k0_t2 = 1#1), ∀ a, (k0_off23 v2504) a + S1x40x4096.size a ≤ S4x40x4096.size a := fun v1 k0_t2 v2504 k0_hw8 k0_h5 => k0_hw8.1 k0_h5
theorem k0_off23_wordsbf16 : ∀ (v1 : BitVec 32) (k0_t2 : Fin (k0_t2_loop v1).trips) (v2504 : BitVec 32) (k0_hw8 : k0_chk8 v1 k0_t2 v2504), ∀ (k0_h5 : k0_cond5 v1 k0_t2 = 1#1), (Rect.unit (s := S4x40x4096) (k0_off23 v2504) S1x40x4096.size (k0_off23_inb v1 k0_t2 v2504 k0_hw8 k0_h5)).WholeWords (EltTy.packing .bf16) := fun v1 k0_t2 v2504 k0_hw8 k0_h5 => k0_hw8.2.1 k0_h5 (k0_off23_inb v1 k0_t2 v2504 k0_hw8 k0_h5)
theorem k0_off26_inb : ∀ (v1 : BitVec 32) (k0_t2 : Fin (k0_t2_loop v1).trips) (v2504 : BitVec 32) (k0_hw8 : k0_chk8 v1 k0_t2 v2504), ∀ (k0_h5 : k0_cond5 v1 k0_t2 = 1#1), ∀ a, (k0_off26 v2504) a + S1x16x5120.size a ≤ S4x16x5120.size a := fun v1 k0_t2 v2504 k0_hw8 k0_h5 => k0_hw8.2.2.1 k0_h5
theorem k0_off26_wordsbf16 : ∀ (v1 : BitVec 32) (k0_t2 : Fin (k0_t2_loop v1).trips) (v2504 : BitVec 32) (k0_hw8 : k0_chk8 v1 k0_t2 v2504), ∀ (k0_h5 : k0_cond5 v1 k0_t2 = 1#1), (Rect.unit (s := S4x16x5120) (k0_off26 v2504) S1x16x5120.size (k0_off26_inb v1 k0_t2 v2504 k0_hw8 k0_h5)).WholeWords (EltTy.packing .bf16) := fun v1 k0_t2 v2504 k0_hw8 k0_h5 => k0_hw8.2.2.2 k0_h5 (k0_off26_inb v1 k0_t2 v2504 k0_hw8 k0_h5)

def k0_off27 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_787 : BitVec 32 := 2#32
  let c0_i32_788 : BitVec 32 := 0#32
  let v2527 : BitVec 1 := Scalar.cmpi .eq c2_i32_787 c0_i32_788
  let c1_i32_789 : BitVec 32 := 1#32
  let v2528 : BitVec 32 := Scalar.select v2527 c1_i32_789 c2_i32_787
  let v2529 : BitVec 32 := Scalar.remsi v53 v2528
  let c0_i32_791 : BitVec 32 := 0#32
  let v2531 : BitVec 1 := Scalar.cmpi .slt v2529 c0_i32_791
  let c0_i32_792 : BitVec 32 := 0#32
  let v2532 : BitVec 1 := Scalar.cmpi .slt v2528 c0_i32_792
  let v2533 : BitVec 1 := Scalar.xori v2531 v2532
  let c0_i32_790 : BitVec 32 := 0#32
  let v2530 : BitVec 1 := Scalar.cmpi .ne v2529 c0_i32_790
  let v2534 : BitVec 1 := Scalar.andi v2533 v2530
  let v2535 : BitVec 32 := Scalar.addi v2529 v2528
  let v2536 : BitVec 32 := Scalar.select v2534 v2535 v2529
  let v2537 : Index := Scalar.indexCast v2536
  let c0_793 : Index := 0#32
  let c0_794 : Index := 0#32
  ![v2537.toNat, 0, 0]
def k0_off28 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_797 : BitVec 32 := 2#32
  let c0_i32_798 : BitVec 32 := 0#32
  let v2544 : BitVec 1 := Scalar.cmpi .eq c2_i32_797 c0_i32_798
  let c1_i32_799 : BitVec 32 := 1#32
  let v2545 : BitVec 32 := Scalar.select v2544 c1_i32_799 c2_i32_797
  let v2546 : BitVec 32 := Scalar.remsi v53 v2545
  let c0_i32_801 : BitVec 32 := 0#32
  let v2548 : BitVec 1 := Scalar.cmpi .slt v2546 c0_i32_801
  let c0_i32_802 : BitVec 32 := 0#32
  let v2549 : BitVec 1 := Scalar.cmpi .slt v2545 c0_i32_802
  let v2550 : BitVec 1 := Scalar.xori v2548 v2549
  let c0_i32_800 : BitVec 32 := 0#32
  let v2547 : BitVec 1 := Scalar.cmpi .ne v2546 c0_i32_800
  let v2551 : BitVec 1 := Scalar.andi v2550 v2547
  let v2552 : BitVec 32 := Scalar.addi v2546 v2545
  let v2553 : BitVec 32 := Scalar.select v2551 v2552 v2546
  let v2554 : Index := Scalar.indexCast v2553
  let c0_803 : Index := 0#32
  let c0_804 : Index := 0#32
  ![v2554.toNat, 0, 0]
def k0_off29 (v1 : BitVec 32) (k0_t2 : Fin (k0_t2_loop v1).trips) : Fin 1 → Nat :=
  let c0_i32_24 : BitVec 32 := 0#32
  let c1_i32_26 : BitVec 32 := 1#32
  let arg21 : BitVec 32 := Scf.iv c0_i32_24 c1_i32_26 k0_t2
  let c0_i32_48 : BitVec 32 := 0#32
  let v68 : BitVec 1 := Scalar.cmpi .sgt arg21 c0_i32_48
  let v69 : BitVec 32 := Scalar.extui v68
  let c0_i32_49 : BitVec 32 := 0#32
  let v70 : BitVec 1 := Scalar.cmpi .slt arg21 c0_i32_49
  let v71 : BitVec 32 := Scalar.extui v70
  let v72 : BitVec 32 := Scalar.subi v69 v71
  let c8_i32_47 : BitVec 32 := 8#32
  let c0_i32_50 : BitVec 32 := 0#32
  let v73 : BitVec 1 := Scalar.cmpi .sgt c8_i32_47 c0_i32_50
  let v74 : BitVec 32 := Scalar.extui v73
  let c0_i32_51 : BitVec 32 := 0#32
  let v75 : BitVec 1 := Scalar.cmpi .slt c8_i32_47 c0_i32_51
  let v76 : BitVec 32 := Scalar.extui v75
  let v77 : BitVec 32 := Scalar.subi v74 v76
  let v78 : BitVec 1 := Scalar.cmpi .ne v72 v77
  let v79 : BitVec 32 := Scalar.remsi arg21 c8_i32_47
  let c0_i32_52 : BitVec 32 := 0#32
  let v80 : BitVec 1 := Scalar.cmpi .ne v79 c0_i32_52
  let v81 : BitVec 1 := Scalar.andi v78 v80
  let v67 : BitVec 32 := Scalar.divsi arg21 c8_i32_47
  let c1_i32_53 : BitVec 32 := 1#32
  let v82 : BitVec 32 := Scalar.subi v67 c1_i32_53
  let v83 : BitVec 32 := Scalar.select v81 v82 v67
  let v84 : Index := Scalar.indexCast v83
  ![v84.toNat]
def k0_mult7 (v1 : BitVec 32) (k0_t2 : Fin (k0_t2_loop v1).trips) : BitVec 32 :=
  let c0_i32_24 : BitVec 32 := 0#32
  let c1_i32_26 : BitVec 32 := 1#32
  let arg21 : BitVec 32 := Scf.iv c0_i32_24 c1_i32_26 k0_t2
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c256_i32 : BitVec 32 := 256#32
  let v106 : BitVec 32 := Scalar.muli v95 c256_i32
  v106
def k0_mult8 (v1 : BitVec 32) (k0_t2 : Fin (k0_t2_loop v1).trips) : BitVec 32 :=
  let c0_i32_24 : BitVec 32 := 0#32
  let c1_i32_26 : BitVec 32 := 1#32
  let arg21 : BitVec 32 := Scf.iv c0_i32_24 c1_i32_26 k0_t2
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c128_i32 : BitVec 32 := 128#32
  let v108 : BitVec 32 := Scalar.muli v95 c128_i32
  v108
def k0_off30 (v1 : BitVec 32) (k0_t2 : Fin (k0_t2_loop v1).trips) : Fin 2 → Nat :=
  let c0_i32_66 : BitVec 32 := 0#32
  let c0_i32_24 : BitVec 32 := 0#32
  let c1_i32_26 : BitVec 32 := 1#32
  let arg21 : BitVec 32 := Scf.iv c0_i32_24 c1_i32_26 k0_t2
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  ![0, v105.toNat]
def k0_off31 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c0_i32_67 : BitVec 32 := 0#32
  let c0_i32_68 : BitVec 32 := 0#32
  ![v105.toNat, 0, 0]
def k0_off32 (v1 : BitVec 32) (k0_t2 : Fin (k0_t2_loop v1).trips) (v85 : BitVec 32) : Fin 3 → Nat :=
  let c0_i32_69 : BitVec 32 := 0#32
  let c0_i32_24 : BitVec 32 := 0#32
  let c1_i32_26 : BitVec 32 := 1#32
  let arg21 : BitVec 32 := Scf.iv c0_i32_24 c1_i32_26 k0_t2
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c256_i32 : BitVec 32 := 256#32
  let v106 : BitVec 32 := Scalar.muli v95 c256_i32
  let v107 : BitVec 32 := v106
  ![v85.toNat, 0, v107.toNat]

def k0_off33 (v1 : BitVec 32) (k0_t2 : Fin (k0_t2_loop v1).trips) : Fin 2 → Nat :=
  let c1_i32_70 : BitVec 32 := 1#32
  let c0_i32_24 : BitVec 32 := 0#32
  let c1_i32_26 : BitVec 32 := 1#32
  let arg21 : BitVec 32 := Scf.iv c0_i32_24 c1_i32_26 k0_t2
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  ![1, v105.toNat]
def k0_off34 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c0_i32_71 : BitVec 32 := 0#32
  let c0_i32_72 : BitVec 32 := 0#32
  ![v105.toNat, 0, 0]
def k0_off35 (v1 : BitVec 32) (k0_t2 : Fin (k0_t2_loop v1).trips) (v85 : BitVec 32) : Fin 3 → Nat :=
  let c0_i32_73 : BitVec 32 := 0#32
  let c2048_i32 : BitVec 32 := 2048#32
  let c0_i32_24 : BitVec 32 := 0#32
  let c1_i32_26 : BitVec 32 := 1#32
  let arg21 : BitVec 32 := Scf.iv c0_i32_24 c1_i32_26 k0_t2
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c256_i32 : BitVec 32 := 256#32
  let v106 : BitVec 32 := Scalar.muli v95 c256_i32
  let v107 : BitVec 32 := v106
  let v110 : BitVec 32 := Scalar.addi c2048_i32 v107
  ![v85.toNat, 0, v110.toNat]
def k0_off36 (v1 : BitVec 32) (k0_t2 : Fin (k0_t2_loop v1).trips) : Fin 2 → Nat :=
  let c2_i32_74 : BitVec 32 := 2#32
  let c0_i32_24 : BitVec 32 := 0#32
  let c1_i32_26 : BitVec 32 := 1#32
  let arg21 : BitVec 32 := Scf.iv c0_i32_24 c1_i32_26 k0_t2
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  ![2, v105.toNat]
def k0_off37 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c0_i32_75 : BitVec 32 := 0#32
  let c0_i32_76 : BitVec 32 := 0#32
  ![v105.toNat, 0, 0]
def k0_off38 (v1 : BitVec 32) (k0_t2 : Fin (k0_t2_loop v1).trips) (v85 : BitVec 32) : Fin 3 → Nat :=
  let c0_i32_24 : BitVec 32 := 0#32
  let c1_i32_26 : BitVec 32 := 1#32
  let arg21 : BitVec 32 := Scf.iv c0_i32_24 c1_i32_26 k0_t2
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c128_i32 : BitVec 32 := 128#32
  let v108 : BitVec 32 := Scalar.muli v95 c128_i32
  let v109 : BitVec 32 := v108
  let c0_i32_77 : BitVec 32 := 0#32
  ![v85.toNat, v109.toNat, 0]

def k0_chk9 (v1 : BitVec 32) (k0_t2 : Fin (k0_t2_loop v1).trips) (v85 : BitVec 32) : Prop :=
  (∀ a, (k0_off32 v1 k0_t2 v85) a + S1x2560x256.size a ≤ S4x2560x4096.size a) ∧
  (∀ (hinb : ∀ a, (k0_off32 v1 k0_t2 v85) a + S1x2560x256.size a ≤ S4x2560x4096.size a), (Rect.unit (s := S4x2560x4096) (k0_off32 v1 k0_t2 v85) S1x2560x256.size hinb).WholeWords (EltTy.packing .i8)) ∧
  (∀ a, (k0_off35 v1 k0_t2 v85) a + S1x2560x256.size a ≤ S4x2560x4096.size a) ∧
  (∀ (hinb : ∀ a, (k0_off35 v1 k0_t2 v85) a + S1x2560x256.size a ≤ S4x2560x4096.size a), (Rect.unit (s := S4x2560x4096) (k0_off35 v1 k0_t2 v85) S1x2560x256.size hinb).WholeWords (EltTy.packing .i8)) ∧
  (∀ a, (k0_off38 v1 k0_t2 v85) a + S1x128x5120.size a ≤ S4x1024x5120.size a) ∧
  (∀ (hinb : ∀ a, (k0_off38 v1 k0_t2 v85) a + S1x128x5120.size a ≤ S4x1024x5120.size a), (Rect.unit (s := S4x1024x5120) (k0_off38 v1 k0_t2 v85) S1x128x5120.size hinb).WholeWords (EltTy.packing .i8))
theorem k0_off32_inb : ∀ (v1 : BitVec 32) (k0_t2 : Fin (k0_t2_loop v1).trips) (v85 : BitVec 32) (k0_hw9 : k0_chk9 v1 k0_t2 v85), ∀ a, (k0_off32 v1 k0_t2 v85) a + S1x2560x256.size a ≤ S4x2560x4096.size a := fun v1 k0_t2 v85 k0_hw9 => k0_hw9.1
theorem k0_off32_wordsi8 : ∀ (v1 : BitVec 32) (k0_t2 : Fin (k0_t2_loop v1).trips) (v85 : BitVec 32) (k0_hw9 : k0_chk9 v1 k0_t2 v85), (Rect.unit (s := S4x2560x4096) (k0_off32 v1 k0_t2 v85) S1x2560x256.size (k0_off32_inb v1 k0_t2 v85 k0_hw9)).WholeWords (EltTy.packing .i8) := fun v1 k0_t2 v85 k0_hw9 => k0_hw9.2.1 (k0_off32_inb v1 k0_t2 v85 k0_hw9)
theorem k0_off35_inb : ∀ (v1 : BitVec 32) (k0_t2 : Fin (k0_t2_loop v1).trips) (v85 : BitVec 32) (k0_hw9 : k0_chk9 v1 k0_t2 v85), ∀ a, (k0_off35 v1 k0_t2 v85) a + S1x2560x256.size a ≤ S4x2560x4096.size a := fun v1 k0_t2 v85 k0_hw9 => k0_hw9.2.2.1
theorem k0_off35_wordsi8 : ∀ (v1 : BitVec 32) (k0_t2 : Fin (k0_t2_loop v1).trips) (v85 : BitVec 32) (k0_hw9 : k0_chk9 v1 k0_t2 v85), (Rect.unit (s := S4x2560x4096) (k0_off35 v1 k0_t2 v85) S1x2560x256.size (k0_off35_inb v1 k0_t2 v85 k0_hw9)).WholeWords (EltTy.packing .i8) := fun v1 k0_t2 v85 k0_hw9 => k0_hw9.2.2.2.1 (k0_off35_inb v1 k0_t2 v85 k0_hw9)
theorem k0_off38_inb : ∀ (v1 : BitVec 32) (k0_t2 : Fin (k0_t2_loop v1).trips) (v85 : BitVec 32) (k0_hw9 : k0_chk9 v1 k0_t2 v85), ∀ a, (k0_off38 v1 k0_t2 v85) a + S1x128x5120.size a ≤ S4x1024x5120.size a := fun v1 k0_t2 v85 k0_hw9 => k0_hw9.2.2.2.2.1
theorem k0_off38_wordsi8 : ∀ (v1 : BitVec 32) (k0_t2 : Fin (k0_t2_loop v1).trips) (v85 : BitVec 32) (k0_hw9 : k0_chk9 v1 k0_t2 v85), (Rect.unit (s := S4x1024x5120) (k0_off38 v1 k0_t2 v85) S1x128x5120.size (k0_off38_inb v1 k0_t2 v85 k0_hw9)).WholeWords (EltTy.packing .i8) := fun v1 k0_t2 v85 k0_hw9 => k0_hw9.2.2.2.2.2 (k0_off38_inb v1 k0_t2 v85 k0_hw9)

def k0_off39 (v1 : BitVec 32) (k0_t2 : Fin (k0_t2_loop v1).trips) : Fin 1 → Nat :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c0_i32_772 : BitVec 32 := 0#32
  let v2502 : BitVec 1 := Scalar.cmpi .sgt v2500 c0_i32_772
  let v2503 : BitVec 32 := Scalar.extui v2502
  let c0_i32_773 : BitVec 32 := 0#32
  let v2504 : BitVec 1 := Scalar.cmpi .slt v2500 c0_i32_773
  let v2505 : BitVec 32 := Scalar.extui v2504
  let v2506 : BitVec 32 := Scalar.subi v2503 v2505
  let c8_i32_771 : BitVec 32 := 8#32
  let c0_i32_774 : BitVec 32 := 0#32
  let v2507 : BitVec 1 := Scalar.cmpi .sgt c8_i32_771 c0_i32_774
  let v2508 : BitVec 32 := Scalar.extui v2507
  let c0_i32_775 : BitVec 32 := 0#32
  let v2509 : BitVec 1 := Scalar.cmpi .slt c8_i32_771 c0_i32_775
  let v2510 : BitVec 32 := Scalar.extui v2509
  let v2511 : BitVec 32 := Scalar.subi v2508 v2510
  let v2512 : BitVec 1 := Scalar.cmpi .ne v2506 v2511
  let v2513 : BitVec 32 := Scalar.remsi v2500 c8_i32_771
  let c0_i32_776 : BitVec 32 := 0#32
  let v2514 : BitVec 1 := Scalar.cmpi .ne v2513 c0_i32_776
  let v2515 : BitVec 1 := Scalar.andi v2512 v2514
  let v2501 : BitVec 32 := Scalar.divsi v2500 c8_i32_771
  let c1_i32_777 : BitVec 32 := 1#32
  let v2516 : BitVec 32 := Scalar.subi v2501 c1_i32_777
  let v2517 : BitVec 32 := Scalar.select v2515 v2516 v2501
  let v2518 : Index := Scalar.indexCast v2517
  ![v2518.toNat]
def k0_cond7 (v1 : BitVec 32) (k0_t2 : Fin (k0_t2_loop v1).trips) : BitVec 1 :=
  let c0_i32_24 : BitVec 32 := 0#32
  let c1_i32_26 : BitVec 32 := 1#32
  let arg21 : BitVec 32 := Scf.iv c0_i32_24 c1_i32_26 k0_t2
  let c4_i32_78 : BitVec 32 := 4#32
  let v129 : BitVec 32 := Scalar.addi arg21 c4_i32_78
  let c1_i32_79 : BitVec 32 := 1#32
  let v130 : BitVec 32 := Scalar.subi v129 c1_i32_79
  let c8_i32 : BitVec 32 := 8#32
  let v2 : BitVec 32 := Scalar.muli v1 c8_i32
  let v131 : BitVec 1 := Scalar.cmpi .slt v130 v2
  let v132 : BitVec 32 := Scalar.extui v131
  let c0_i32_80 : BitVec 32 := 0#32
  let v133 : BitVec 1 := Scalar.cmpi .ne v132 c0_i32_80
  v133

def k0_mult9 (v1 : BitVec 32) (k0_t2 : Fin (k0_t2_loop v1).trips) : BitVec 32 :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c256_i32_790 : BitVec 32 := 256#32
  let v2540 : BitVec 32 := Scalar.muli v2529 c256_i32_790
  v2540
def k0_mult10 (v1 : BitVec 32) (k0_t2 : Fin (k0_t2_loop v1).trips) : BitVec 32 :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c128_i32_791 : BitVec 32 := 128#32
  let v2542 : BitVec 32 := Scalar.muli v2529 c128_i32_791
  v2542
def k0_off40 (v1 : BitVec 32) (k0_t2 : Fin (k0_t2_loop v1).trips) : Fin 2 → Nat :=
  let c0_i32_793 : BitVec 32 := 0#32
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  ![0, v2539.toNat]
def k0_off41 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  let c0_i32_794 : BitVec 32 := 0#32
  let c0_i32_795 : BitVec 32 := 0#32
  ![v2539.toNat, 0, 0]
def k0_off42 (v1 : BitVec 32) (k0_t2 : Fin (k0_t2_loop v1).trips) (v2519 : BitVec 32) : Fin 3 → Nat :=
  let c0_i32_796 : BitVec 32 := 0#32
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c256_i32_790 : BitVec 32 := 256#32
  let v2540 : BitVec 32 := Scalar.muli v2529 c256_i32_790
  let v2541 : BitVec 32 := v2540
  ![v2519.toNat, 0, v2541.toNat]

def k0_off43 (v1 : BitVec 32) (k0_t2 : Fin (k0_t2_loop v1).trips) : Fin 2 → Nat :=
  let c1_i32_797 : BitVec 32 := 1#32
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  ![1, v2539.toNat]
def k0_off44 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  let c0_i32_798 : BitVec 32 := 0#32
  let c0_i32_799 : BitVec 32 := 0#32
  ![v2539.toNat, 0, 0]
def k0_off45 (v1 : BitVec 32) (k0_t2 : Fin (k0_t2_loop v1).trips) (v2519 : BitVec 32) : Fin 3 → Nat :=
  let c0_i32_800 : BitVec 32 := 0#32
  let c2048_i32_792 : BitVec 32 := 2048#32
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c256_i32_790 : BitVec 32 := 256#32
  let v2540 : BitVec 32 := Scalar.muli v2529 c256_i32_790
  let v2541 : BitVec 32 := v2540
  let v2544 : BitVec 32 := Scalar.addi c2048_i32_792 v2541
  ![v2519.toNat, 0, v2544.toNat]
def k0_off46 (v1 : BitVec 32) (k0_t2 : Fin (k0_t2_loop v1).trips) : Fin 2 → Nat :=
  let c2_i32_801 : BitVec 32 := 2#32
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  ![2, v2539.toNat]
def k0_off47 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  let c0_i32_802 : BitVec 32 := 0#32
  let c0_i32_803 : BitVec 32 := 0#32
  ![v2539.toNat, 0, 0]
def k0_off48 (v1 : BitVec 32) (k0_t2 : Fin (k0_t2_loop v1).trips) (v2519 : BitVec 32) : Fin 3 → Nat :=
  let c0_i32_24 : BitVec 32 := 0#32
  let c1_i32_26 : BitVec 32 := 1#32
  let arg21 : BitVec 32 := Scf.iv c0_i32_24 c1_i32_26 k0_t2
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c128_i32_791 : BitVec 32 := 128#32
  let v2542 : BitVec 32 := Scalar.muli v2529 c128_i32_791
  let v2543 : BitVec 32 := v2542
  let c0_i32_804 : BitVec 32 := 0#32
  ![v2519.toNat, v2543.toNat, 0]

def k0_chk10 (v1 : BitVec 32) (k0_t2 : Fin (k0_t2_loop v1).trips) (v2519 : BitVec 32) : Prop :=
  (∀ (k0_h7 : k0_cond7 v1 k0_t2 = 1#1), ∀ a, (k0_off42 v1 k0_t2 v2519) a + S1x2560x256.size a ≤ S4x2560x4096.size a) ∧
  (∀ (k0_h7 : k0_cond7 v1 k0_t2 = 1#1), ∀ (hinb : ∀ a, (k0_off42 v1 k0_t2 v2519) a + S1x2560x256.size a ≤ S4x2560x4096.size a), (Rect.unit (s := S4x2560x4096) (k0_off42 v1 k0_t2 v2519) S1x2560x256.size hinb).WholeWords (EltTy.packing .i8)) ∧
  (∀ (k0_h7 : k0_cond7 v1 k0_t2 = 1#1), ∀ a, (k0_off45 v1 k0_t2 v2519) a + S1x2560x256.size a ≤ S4x2560x4096.size a) ∧
  (∀ (k0_h7 : k0_cond7 v1 k0_t2 = 1#1), ∀ (hinb : ∀ a, (k0_off45 v1 k0_t2 v2519) a + S1x2560x256.size a ≤ S4x2560x4096.size a), (Rect.unit (s := S4x2560x4096) (k0_off45 v1 k0_t2 v2519) S1x2560x256.size hinb).WholeWords (EltTy.packing .i8)) ∧
  (∀ (k0_h7 : k0_cond7 v1 k0_t2 = 1#1), ∀ a, (k0_off48 v1 k0_t2 v2519) a + S1x128x5120.size a ≤ S4x1024x5120.size a) ∧
  (∀ (k0_h7 : k0_cond7 v1 k0_t2 = 1#1), ∀ (hinb : ∀ a, (k0_off48 v1 k0_t2 v2519) a + S1x128x5120.size a ≤ S4x1024x5120.size a), (Rect.unit (s := S4x1024x5120) (k0_off48 v1 k0_t2 v2519) S1x128x5120.size hinb).WholeWords (EltTy.packing .i8))
theorem k0_off42_inb : ∀ (v1 : BitVec 32) (k0_t2 : Fin (k0_t2_loop v1).trips) (v2519 : BitVec 32) (k0_hw10 : k0_chk10 v1 k0_t2 v2519), ∀ (k0_h7 : k0_cond7 v1 k0_t2 = 1#1), ∀ a, (k0_off42 v1 k0_t2 v2519) a + S1x2560x256.size a ≤ S4x2560x4096.size a := fun v1 k0_t2 v2519 k0_hw10 k0_h7 => k0_hw10.1 k0_h7
theorem k0_off42_wordsi8 : ∀ (v1 : BitVec 32) (k0_t2 : Fin (k0_t2_loop v1).trips) (v2519 : BitVec 32) (k0_hw10 : k0_chk10 v1 k0_t2 v2519), ∀ (k0_h7 : k0_cond7 v1 k0_t2 = 1#1), (Rect.unit (s := S4x2560x4096) (k0_off42 v1 k0_t2 v2519) S1x2560x256.size (k0_off42_inb v1 k0_t2 v2519 k0_hw10 k0_h7)).WholeWords (EltTy.packing .i8) := fun v1 k0_t2 v2519 k0_hw10 k0_h7 => k0_hw10.2.1 k0_h7 (k0_off42_inb v1 k0_t2 v2519 k0_hw10 k0_h7)
theorem k0_off45_inb : ∀ (v1 : BitVec 32) (k0_t2 : Fin (k0_t2_loop v1).trips) (v2519 : BitVec 32) (k0_hw10 : k0_chk10 v1 k0_t2 v2519), ∀ (k0_h7 : k0_cond7 v1 k0_t2 = 1#1), ∀ a, (k0_off45 v1 k0_t2 v2519) a + S1x2560x256.size a ≤ S4x2560x4096.size a := fun v1 k0_t2 v2519 k0_hw10 k0_h7 => k0_hw10.2.2.1 k0_h7
theorem k0_off45_wordsi8 : ∀ (v1 : BitVec 32) (k0_t2 : Fin (k0_t2_loop v1).trips) (v2519 : BitVec 32) (k0_hw10 : k0_chk10 v1 k0_t2 v2519), ∀ (k0_h7 : k0_cond7 v1 k0_t2 = 1#1), (Rect.unit (s := S4x2560x4096) (k0_off45 v1 k0_t2 v2519) S1x2560x256.size (k0_off45_inb v1 k0_t2 v2519 k0_hw10 k0_h7)).WholeWords (EltTy.packing .i8) := fun v1 k0_t2 v2519 k0_hw10 k0_h7 => k0_hw10.2.2.2.1 k0_h7 (k0_off45_inb v1 k0_t2 v2519 k0_hw10 k0_h7)
theorem k0_off48_inb : ∀ (v1 : BitVec 32) (k0_t2 : Fin (k0_t2_loop v1).trips) (v2519 : BitVec 32) (k0_hw10 : k0_chk10 v1 k0_t2 v2519), ∀ (k0_h7 : k0_cond7 v1 k0_t2 = 1#1), ∀ a, (k0_off48 v1 k0_t2 v2519) a + S1x128x5120.size a ≤ S4x1024x5120.size a := fun v1 k0_t2 v2519 k0_hw10 k0_h7 => k0_hw10.2.2.2.2.1 k0_h7
theorem k0_off48_wordsi8 : ∀ (v1 : BitVec 32) (k0_t2 : Fin (k0_t2_loop v1).trips) (v2519 : BitVec 32) (k0_hw10 : k0_chk10 v1 k0_t2 v2519), ∀ (k0_h7 : k0_cond7 v1 k0_t2 = 1#1), (Rect.unit (s := S4x1024x5120) (k0_off48 v1 k0_t2 v2519) S1x128x5120.size (k0_off48_inb v1 k0_t2 v2519 k0_hw10 k0_h7)).WholeWords (EltTy.packing .i8) := fun v1 k0_t2 v2519 k0_hw10 k0_h7 => k0_hw10.2.2.2.2.2 k0_h7 (k0_off48_inb v1 k0_t2 v2519 k0_hw10 k0_h7)

def k0_mult11 (v1 : BitVec 32) (k0_t2 : Fin (k0_t2_loop v1).trips) : BitVec 32 :=
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  v154
def k0_off49 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v160 : Index := Scalar.indexCast v143
  let c0_98 : Index := 0#32
  let c0_99 : Index := 0#32
  ![v160.toNat, 0, 0]
def k0_off50 (v1 : BitVec 32) (k0_t2 : Fin (k0_t2_loop v1).trips) : Fin 2 → Nat :=
  let c0_100 : Index := 0#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v163 : Index := Scalar.indexCast v155
  ![0, v163.toNat]
def k0_off51 (v1 : BitVec 32) (k0_t2 : Fin (k0_t2_loop v1).trips) : Fin 2 → Nat :=
  let c0_107 : Index := 0#32
  let c2048_i32_106 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v197 : BitVec 32 := Scalar.addi c2048_i32_106 v155
  let v198 : Index := Scalar.indexCast v197
  ![0, v198.toNat]
def k0_off52 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v231 : Index := Scalar.indexCast v143
  let c128 : Index := 128#32
  let c0_114 : Index := 0#32
  ![v231.toNat, 128, 0]
def k0_off53 (v1 : BitVec 32) (k0_t2 : Fin (k0_t2_loop v1).trips) : Fin 2 → Nat :=
  let c2 : Index := 2#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v234 : Index := Scalar.indexCast v155
  ![2, v234.toNat]
def k0_off54 (v1 : BitVec 32) (k0_t2 : Fin (k0_t2_loop v1).trips) : Fin 2 → Nat :=
  let c2_123 : Index := 2#32
  let c2048_i32_122 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v268 : BitVec 32 := Scalar.addi c2048_i32_122 v155
  let v269 : Index := Scalar.indexCast v268
  ![2, v269.toNat]
def k0_off55 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v302 : Index := Scalar.indexCast v143
  let c256_130 : Index := 256#32
  let c0_131 : Index := 0#32
  ![v302.toNat, 256, 0]
def k0_off56 (v1 : BitVec 32) (k0_t2 : Fin (k0_t2_loop v1).trips) : Fin 2 → Nat :=
  let c4 : Index := 4#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v305 : Index := Scalar.indexCast v155
  ![4, v305.toNat]
def k0_off57 (v1 : BitVec 32) (k0_t2 : Fin (k0_t2_loop v1).trips) : Fin 2 → Nat :=
  let c4_140 : Index := 4#32
  let c2048_i32_139 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v339 : BitVec 32 := Scalar.addi c2048_i32_139 v155
  let v340 : Index := Scalar.indexCast v339
  ![4, v340.toNat]
def k0_off58 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v373 : Index := Scalar.indexCast v143
  let c384 : Index := 384#32
  let c0_147 : Index := 0#32
  ![v373.toNat, 384, 0]
def k0_off59 (v1 : BitVec 32) (k0_t2 : Fin (k0_t2_loop v1).trips) : Fin 2 → Nat :=
  let c6 : Index := 6#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v376 : Index := Scalar.indexCast v155
  ![6, v376.toNat]
def k0_off60 (v1 : BitVec 32) (k0_t2 : Fin (k0_t2_loop v1).trips) : Fin 2 → Nat :=
  let c6_156 : Index := 6#32
  let c2048_i32_155 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v410 : BitVec 32 := Scalar.addi c2048_i32_155 v155
  let v411 : Index := Scalar.indexCast v410
  ![6, v411.toNat]
def k0_off61 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v444 : Index := Scalar.indexCast v143
  let c512_163 : Index := 512#32
  let c0_164 : Index := 0#32
  ![v444.toNat, 512, 0]
def k0_off62 (v1 : BitVec 32) (k0_t2 : Fin (k0_t2_loop v1).trips) : Fin 2 → Nat :=
  let c8 : Index := 8#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v447 : Index := Scalar.indexCast v155
  ![8, v447.toNat]
def k0_off63 (v1 : BitVec 32) (k0_t2 : Fin (k0_t2_loop v1).trips) : Fin 2 → Nat :=
  let c8_173 : Index := 8#32
  let c2048_i32_172 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v481 : BitVec 32 := Scalar.addi c2048_i32_172 v155
  let v482 : Index := Scalar.indexCast v481
  ![8, v482.toNat]
def k0_off64 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v515 : Index := Scalar.indexCast v143
  let c640 : Index := 640#32
  let c0_180 : Index := 0#32
  ![v515.toNat, 640, 0]
def k0_off65 (v1 : BitVec 32) (k0_t2 : Fin (k0_t2_loop v1).trips) : Fin 2 → Nat :=
  let c10 : Index := 10#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v518 : Index := Scalar.indexCast v155
  ![10, v518.toNat]
def k0_off66 (v1 : BitVec 32) (k0_t2 : Fin (k0_t2_loop v1).trips) : Fin 2 → Nat :=
  let c10_189 : Index := 10#32
  let c2048_i32_188 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v552 : BitVec 32 := Scalar.addi c2048_i32_188 v155
  let v553 : Index := Scalar.indexCast v552
  ![10, v553.toNat]
def k0_off67 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v586 : Index := Scalar.indexCast v143
  let c768_196 : Index := 768#32
  let c0_197 : Index := 0#32
  ![v586.toNat, 768, 0]
def k0_off68 (v1 : BitVec 32) (k0_t2 : Fin (k0_t2_loop v1).trips) : Fin 2 → Nat :=
  let c12 : Index := 12#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v589 : Index := Scalar.indexCast v155
  ![12, v589.toNat]
def k0_off69 (v1 : BitVec 32) (k0_t2 : Fin (k0_t2_loop v1).trips) : Fin 2 → Nat :=
  let c12_206 : Index := 12#32
  let c2048_i32_205 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v623 : BitVec 32 := Scalar.addi c2048_i32_205 v155
  let v624 : Index := Scalar.indexCast v623
  ![12, v624.toNat]
def k0_off70 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v657 : Index := Scalar.indexCast v143
  let c896 : Index := 896#32
  let c0_213 : Index := 0#32
  ![v657.toNat, 896, 0]
def k0_off71 (v1 : BitVec 32) (k0_t2 : Fin (k0_t2_loop v1).trips) : Fin 2 → Nat :=
  let c14 : Index := 14#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v660 : Index := Scalar.indexCast v155
  ![14, v660.toNat]
def k0_off72 (v1 : BitVec 32) (k0_t2 : Fin (k0_t2_loop v1).trips) : Fin 2 → Nat :=
  let c14_222 : Index := 14#32
  let c2048_i32_221 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v694 : BitVec 32 := Scalar.addi c2048_i32_221 v155
  let v695 : Index := Scalar.indexCast v694
  ![14, v695.toNat]
def k0_off73 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v728 : Index := Scalar.indexCast v143
  let c1024_229 : Index := 1024#32
  let c0_230 : Index := 0#32
  ![v728.toNat, 1024, 0]
def k0_off74 (v1 : BitVec 32) (k0_t2 : Fin (k0_t2_loop v1).trips) : Fin 2 → Nat :=
  let c16 : Index := 16#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v731 : Index := Scalar.indexCast v155
  ![16, v731.toNat]
def k0_off75 (v1 : BitVec 32) (k0_t2 : Fin (k0_t2_loop v1).trips) : Fin 2 → Nat :=
  let c16_239 : Index := 16#32
  let c2048_i32_238 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v765 : BitVec 32 := Scalar.addi c2048_i32_238 v155
  let v766 : Index := Scalar.indexCast v765
  ![16, v766.toNat]
def k0_off76 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v799 : Index := Scalar.indexCast v143
  let c1152 : Index := 1152#32
  let c0_246 : Index := 0#32
  ![v799.toNat, 1152, 0]
def k0_off77 (v1 : BitVec 32) (k0_t2 : Fin (k0_t2_loop v1).trips) : Fin 2 → Nat :=
  let c18 : Index := 18#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v802 : Index := Scalar.indexCast v155
  ![18, v802.toNat]
def k0_off78 (v1 : BitVec 32) (k0_t2 : Fin (k0_t2_loop v1).trips) : Fin 2 → Nat :=
  let c18_255 : Index := 18#32
  let c2048_i32_254 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v836 : BitVec 32 := Scalar.addi c2048_i32_254 v155
  let v837 : Index := Scalar.indexCast v836
  ![18, v837.toNat]
def k0_off79 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v870 : Index := Scalar.indexCast v143
  let c1280_262 : Index := 1280#32
  let c0_263 : Index := 0#32
  ![v870.toNat, 1280, 0]
def k0_off80 (v1 : BitVec 32) (k0_t2 : Fin (k0_t2_loop v1).trips) : Fin 2 → Nat :=
  let c20 : Index := 20#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v873 : Index := Scalar.indexCast v155
  ![20, v873.toNat]
def k0_off81 (v1 : BitVec 32) (k0_t2 : Fin (k0_t2_loop v1).trips) : Fin 2 → Nat :=
  let c20_272 : Index := 20#32
  let c2048_i32_271 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v907 : BitVec 32 := Scalar.addi c2048_i32_271 v155
  let v908 : Index := Scalar.indexCast v907
  ![20, v908.toNat]
def k0_off82 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v941 : Index := Scalar.indexCast v143
  let c1408 : Index := 1408#32
  let c0_279 : Index := 0#32
  ![v941.toNat, 1408, 0]
def k0_off83 (v1 : BitVec 32) (k0_t2 : Fin (k0_t2_loop v1).trips) : Fin 2 → Nat :=
  let c22 : Index := 22#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v944 : Index := Scalar.indexCast v155
  ![22, v944.toNat]
def k0_off84 (v1 : BitVec 32) (k0_t2 : Fin (k0_t2_loop v1).trips) : Fin 2 → Nat :=
  let c22_288 : Index := 22#32
  let c2048_i32_287 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v978 : BitVec 32 := Scalar.addi c2048_i32_287 v155
  let v979 : Index := Scalar.indexCast v978
  ![22, v979.toNat]
def k0_off85 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1012 : Index := Scalar.indexCast v143
  let c1536_295 : Index := 1536#32
  let c0_296 : Index := 0#32
  ![v1012.toNat, 1536, 0]
def k0_off86 (v1 : BitVec 32) (k0_t2 : Fin (k0_t2_loop v1).trips) : Fin 2 → Nat :=
  let c24 : Index := 24#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1015 : Index := Scalar.indexCast v155
  ![24, v1015.toNat]
def k0_off87 (v1 : BitVec 32) (k0_t2 : Fin (k0_t2_loop v1).trips) : Fin 2 → Nat :=
  let c24_305 : Index := 24#32
  let c2048_i32_304 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1049 : BitVec 32 := Scalar.addi c2048_i32_304 v155
  let v1050 : Index := Scalar.indexCast v1049
  ![24, v1050.toNat]
def k0_off88 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1083 : Index := Scalar.indexCast v143
  let c1664 : Index := 1664#32
  let c0_312 : Index := 0#32
  ![v1083.toNat, 1664, 0]
def k0_off89 (v1 : BitVec 32) (k0_t2 : Fin (k0_t2_loop v1).trips) : Fin 2 → Nat :=
  let c26 : Index := 26#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1086 : Index := Scalar.indexCast v155
  ![26, v1086.toNat]
def k0_off90 (v1 : BitVec 32) (k0_t2 : Fin (k0_t2_loop v1).trips) : Fin 2 → Nat :=
  let c26_321 : Index := 26#32
  let c2048_i32_320 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1120 : BitVec 32 := Scalar.addi c2048_i32_320 v155
  let v1121 : Index := Scalar.indexCast v1120
  ![26, v1121.toNat]
def k0_off91 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1154 : Index := Scalar.indexCast v143
  let c1792_328 : Index := 1792#32
  let c0_329 : Index := 0#32
  ![v1154.toNat, 1792, 0]
def k0_off92 (v1 : BitVec 32) (k0_t2 : Fin (k0_t2_loop v1).trips) : Fin 2 → Nat :=
  let c28 : Index := 28#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1157 : Index := Scalar.indexCast v155
  ![28, v1157.toNat]
def k0_off93 (v1 : BitVec 32) (k0_t2 : Fin (k0_t2_loop v1).trips) : Fin 2 → Nat :=
  let c28_338 : Index := 28#32
  let c2048_i32_337 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1191 : BitVec 32 := Scalar.addi c2048_i32_337 v155
  let v1192 : Index := Scalar.indexCast v1191
  ![28, v1192.toNat]
def k0_off94 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1225 : Index := Scalar.indexCast v143
  let c1920 : Index := 1920#32
  let c0_345 : Index := 0#32
  ![v1225.toNat, 1920, 0]
def k0_off95 (v1 : BitVec 32) (k0_t2 : Fin (k0_t2_loop v1).trips) : Fin 2 → Nat :=
  let c30 : Index := 30#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1228 : Index := Scalar.indexCast v155
  ![30, v1228.toNat]
def k0_off96 (v1 : BitVec 32) (k0_t2 : Fin (k0_t2_loop v1).trips) : Fin 2 → Nat :=
  let c30_354 : Index := 30#32
  let c2048_i32_353 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1262 : BitVec 32 := Scalar.addi c2048_i32_353 v155
  let v1263 : Index := Scalar.indexCast v1262
  ![30, v1263.toNat]
def k0_off97 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1296 : Index := Scalar.indexCast v143
  let c2048_361 : Index := 2048#32
  let c0_362 : Index := 0#32
  ![v1296.toNat, 2048, 0]
def k0_off98 (v1 : BitVec 32) (k0_t2 : Fin (k0_t2_loop v1).trips) : Fin 2 → Nat :=
  let c32 : Index := 32#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1299 : Index := Scalar.indexCast v155
  ![32, v1299.toNat]
def k0_off99 (v1 : BitVec 32) (k0_t2 : Fin (k0_t2_loop v1).trips) : Fin 2 → Nat :=
  let c32_371 : Index := 32#32
  let c2048_i32_370 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1333 : BitVec 32 := Scalar.addi c2048_i32_370 v155
  let v1334 : Index := Scalar.indexCast v1333
  ![32, v1334.toNat]
def k0_off100 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1367 : Index := Scalar.indexCast v143
  let c2176 : Index := 2176#32
  let c0_378 : Index := 0#32
  ![v1367.toNat, 2176, 0]
def k0_off101 (v1 : BitVec 32) (k0_t2 : Fin (k0_t2_loop v1).trips) : Fin 2 → Nat :=
  let c34 : Index := 34#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1370 : Index := Scalar.indexCast v155
  ![34, v1370.toNat]
def k0_off102 (v1 : BitVec 32) (k0_t2 : Fin (k0_t2_loop v1).trips) : Fin 2 → Nat :=
  let c34_387 : Index := 34#32
  let c2048_i32_386 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1404 : BitVec 32 := Scalar.addi c2048_i32_386 v155
  let v1405 : Index := Scalar.indexCast v1404
  ![34, v1405.toNat]
def k0_off103 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1438 : Index := Scalar.indexCast v143
  let c2304_394 : Index := 2304#32
  let c0_395 : Index := 0#32
  ![v1438.toNat, 2304, 0]
def k0_off104 (v1 : BitVec 32) (k0_t2 : Fin (k0_t2_loop v1).trips) : Fin 2 → Nat :=
  let c36 : Index := 36#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1441 : Index := Scalar.indexCast v155
  ![36, v1441.toNat]
def k0_off105 (v1 : BitVec 32) (k0_t2 : Fin (k0_t2_loop v1).trips) : Fin 2 → Nat :=
  let c36_404 : Index := 36#32
  let c2048_i32_403 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1475 : BitVec 32 := Scalar.addi c2048_i32_403 v155
  let v1476 : Index := Scalar.indexCast v1475
  ![36, v1476.toNat]
def k0_off106 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1509 : Index := Scalar.indexCast v143
  let c2432 : Index := 2432#32
  let c0_411 : Index := 0#32
  ![v1509.toNat, 2432, 0]
def k0_off107 (v1 : BitVec 32) (k0_t2 : Fin (k0_t2_loop v1).trips) : Fin 2 → Nat :=
  let c38 : Index := 38#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1512 : Index := Scalar.indexCast v155
  ![38, v1512.toNat]
def k0_off108 (v1 : BitVec 32) (k0_t2 : Fin (k0_t2_loop v1).trips) : Fin 2 → Nat :=
  let c38_420 : Index := 38#32
  let c2048_i32_419 : BitVec 32 := 2048#32
  let c0_i32_24 : BitVec 32 := 0#32
  let c1_i32_26 : BitVec 32 := 1#32
  let arg21 : BitVec 32 := Scf.iv c0_i32_24 c1_i32_26 k0_t2
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1546 : BitVec 32 := Scalar.addi c2048_i32_419 v155
  let v1547 : Index := Scalar.indexCast v1546
  ![38, v1547.toNat]
def k0_off109 (v1 : BitVec 32) (k0_t2 : Fin (k0_t2_loop v1).trips) : Fin 2 → Nat :=
  let c2_i32_442 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1606 : BitVec 32 := Scalar.muli c2_i32_442 v1604
  let v1607 : Index := Scalar.indexCast v1606
  let c0_443 : Index := 0#32
  ![v1607.toNat, 0]
def k0_off110 (v1 : BitVec 32) (k0_t2 : Fin (k0_t2_loop v1).trips) : Fin 2 → Nat :=
  let c2_i32_444 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1609 : BitVec 32 := Scalar.muli c2_i32_444 v1604
  let c1_i32_445 : BitVec 32 := 1#32
  let v1610 : BitVec 32 := Scalar.addi v1609 c1_i32_445
  let v1611 : Index := Scalar.indexCast v1610
  let c0_446 : Index := 0#32
  ![v1611.toNat, 0]
def k0_off111 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1614 : Index := Scalar.indexCast v1594
  let c0_447 : Index := 0#32
  let c0_448 : Index := 0#32
  ![v1614.toNat, 0, 0]
def k0_off112 (v1 : BitVec 32) (k0_t2 : Fin (k0_t2_loop v1).trips) : Fin 2 → Nat :=
  let c2_i32_458 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1650 : BitVec 32 := Scalar.muli c2_i32_458 v1604
  let v1651 : Index := Scalar.indexCast v1650
  let c256_459 : Index := 256#32
  ![v1651.toNat, 256]
def k0_off113 (v1 : BitVec 32) (k0_t2 : Fin (k0_t2_loop v1).trips) : Fin 2 → Nat :=
  let c2_i32_460 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1653 : BitVec 32 := Scalar.muli c2_i32_460 v1604
  let c1_i32_461 : BitVec 32 := 1#32
  let v1654 : BitVec 32 := Scalar.addi v1653 c1_i32_461
  let v1655 : Index := Scalar.indexCast v1654
  let c256_462 : Index := 256#32
  ![v1655.toNat, 256]
def k0_off114 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1658 : Index := Scalar.indexCast v1594
  let c0_463 : Index := 0#32
  let c256_464 : Index := 256#32
  ![v1658.toNat, 0, 256]
def k0_off115 (v1 : BitVec 32) (k0_t2 : Fin (k0_t2_loop v1).trips) : Fin 2 → Nat :=
  let c2_i32_474 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1694 : BitVec 32 := Scalar.muli c2_i32_474 v1604
  let v1695 : Index := Scalar.indexCast v1694
  let c512_475 : Index := 512#32
  ![v1695.toNat, 512]
def k0_off116 (v1 : BitVec 32) (k0_t2 : Fin (k0_t2_loop v1).trips) : Fin 2 → Nat :=
  let c2_i32_476 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1697 : BitVec 32 := Scalar.muli c2_i32_476 v1604
  let c1_i32_477 : BitVec 32 := 1#32
  let v1698 : BitVec 32 := Scalar.addi v1697 c1_i32_477
  let v1699 : Index := Scalar.indexCast v1698
  let c512_478 : Index := 512#32
  ![v1699.toNat, 512]
def k0_off117 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1702 : Index := Scalar.indexCast v1594
  let c0_479 : Index := 0#32
  let c512_480 : Index := 512#32
  ![v1702.toNat, 0, 512]
def k0_off118 (v1 : BitVec 32) (k0_t2 : Fin (k0_t2_loop v1).trips) : Fin 2 → Nat :=
  let c2_i32_490 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1738 : BitVec 32 := Scalar.muli c2_i32_490 v1604
  let v1739 : Index := Scalar.indexCast v1738
  let c768_491 : Index := 768#32
  ![v1739.toNat, 768]
def k0_off119 (v1 : BitVec 32) (k0_t2 : Fin (k0_t2_loop v1).trips) : Fin 2 → Nat :=
  let c2_i32_492 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1741 : BitVec 32 := Scalar.muli c2_i32_492 v1604
  let c1_i32_493 : BitVec 32 := 1#32
  let v1742 : BitVec 32 := Scalar.addi v1741 c1_i32_493
  let v1743 : Index := Scalar.indexCast v1742
  let c768_494 : Index := 768#32
  ![v1743.toNat, 768]
def k0_off120 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1746 : Index := Scalar.indexCast v1594
  let c0_495 : Index := 0#32
  let c768_496 : Index := 768#32
  ![v1746.toNat, 0, 768]
def k0_off121 (v1 : BitVec 32) (k0_t2 : Fin (k0_t2_loop v1).trips) : Fin 2 → Nat :=
  let c2_i32_506 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1782 : BitVec 32 := Scalar.muli c2_i32_506 v1604
  let v1783 : Index := Scalar.indexCast v1782
  let c1024_507 : Index := 1024#32
  ![v1783.toNat, 1024]
def k0_off122 (v1 : BitVec 32) (k0_t2 : Fin (k0_t2_loop v1).trips) : Fin 2 → Nat :=
  let c2_i32_508 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1785 : BitVec 32 := Scalar.muli c2_i32_508 v1604
  let c1_i32_509 : BitVec 32 := 1#32
  let v1786 : BitVec 32 := Scalar.addi v1785 c1_i32_509
  let v1787 : Index := Scalar.indexCast v1786
  let c1024_510 : Index := 1024#32
  ![v1787.toNat, 1024]
def k0_off123 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1790 : Index := Scalar.indexCast v1594
  let c0_511 : Index := 0#32
  let c1024_512 : Index := 1024#32
  ![v1790.toNat, 0, 1024]
def k0_off124 (v1 : BitVec 32) (k0_t2 : Fin (k0_t2_loop v1).trips) : Fin 2 → Nat :=
  let c2_i32_522 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1826 : BitVec 32 := Scalar.muli c2_i32_522 v1604
  let v1827 : Index := Scalar.indexCast v1826
  let c1280_523 : Index := 1280#32
  ![v1827.toNat, 1280]
def k0_off125 (v1 : BitVec 32) (k0_t2 : Fin (k0_t2_loop v1).trips) : Fin 2 → Nat :=
  let c2_i32_524 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1829 : BitVec 32 := Scalar.muli c2_i32_524 v1604
  let c1_i32_525 : BitVec 32 := 1#32
  let v1830 : BitVec 32 := Scalar.addi v1829 c1_i32_525
  let v1831 : Index := Scalar.indexCast v1830
  let c1280_526 : Index := 1280#32
  ![v1831.toNat, 1280]
def k0_off126 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1834 : Index := Scalar.indexCast v1594
  let c0_527 : Index := 0#32
  let c1280_528 : Index := 1280#32
  ![v1834.toNat, 0, 1280]
def k0_off127 (v1 : BitVec 32) (k0_t2 : Fin (k0_t2_loop v1).trips) : Fin 2 → Nat :=
  let c2_i32_538 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1870 : BitVec 32 := Scalar.muli c2_i32_538 v1604
  let v1871 : Index := Scalar.indexCast v1870
  let c1536_539 : Index := 1536#32
  ![v1871.toNat, 1536]
def k0_off128 (v1 : BitVec 32) (k0_t2 : Fin (k0_t2_loop v1).trips) : Fin 2 → Nat :=
  let c2_i32_540 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1873 : BitVec 32 := Scalar.muli c2_i32_540 v1604
  let c1_i32_541 : BitVec 32 := 1#32
  let v1874 : BitVec 32 := Scalar.addi v1873 c1_i32_541
  let v1875 : Index := Scalar.indexCast v1874
  let c1536_542 : Index := 1536#32
  ![v1875.toNat, 1536]
def k0_off129 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1878 : Index := Scalar.indexCast v1594
  let c0_543 : Index := 0#32
  let c1536_544 : Index := 1536#32
  ![v1878.toNat, 0, 1536]
def k0_off130 (v1 : BitVec 32) (k0_t2 : Fin (k0_t2_loop v1).trips) : Fin 2 → Nat :=
  let c2_i32_554 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1914 : BitVec 32 := Scalar.muli c2_i32_554 v1604
  let v1915 : Index := Scalar.indexCast v1914
  let c1792_555 : Index := 1792#32
  ![v1915.toNat, 1792]
def k0_off131 (v1 : BitVec 32) (k0_t2 : Fin (k0_t2_loop v1).trips) : Fin 2 → Nat :=
  let c2_i32_556 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1917 : BitVec 32 := Scalar.muli c2_i32_556 v1604
  let c1_i32_557 : BitVec 32 := 1#32
  let v1918 : BitVec 32 := Scalar.addi v1917 c1_i32_557
  let v1919 : Index := Scalar.indexCast v1918
  let c1792_558 : Index := 1792#32
  ![v1919.toNat, 1792]
def k0_off132 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1922 : Index := Scalar.indexCast v1594
  let c0_559 : Index := 0#32
  let c1792_560 : Index := 1792#32
  ![v1922.toNat, 0, 1792]
def k0_off133 (v1 : BitVec 32) (k0_t2 : Fin (k0_t2_loop v1).trips) : Fin 2 → Nat :=
  let c2_i32_570 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1958 : BitVec 32 := Scalar.muli c2_i32_570 v1604
  let v1959 : Index := Scalar.indexCast v1958
  let c2048_571 : Index := 2048#32
  ![v1959.toNat, 2048]
def k0_off134 (v1 : BitVec 32) (k0_t2 : Fin (k0_t2_loop v1).trips) : Fin 2 → Nat :=
  let c2_i32_572 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1961 : BitVec 32 := Scalar.muli c2_i32_572 v1604
  let c1_i32_573 : BitVec 32 := 1#32
  let v1962 : BitVec 32 := Scalar.addi v1961 c1_i32_573
  let v1963 : Index := Scalar.indexCast v1962
  let c2048_574 : Index := 2048#32
  ![v1963.toNat, 2048]
def k0_off135 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1966 : Index := Scalar.indexCast v1594
  let c0_575 : Index := 0#32
  let c2048_576 : Index := 2048#32
  ![v1966.toNat, 0, 2048]
def k0_off136 (v1 : BitVec 32) (k0_t2 : Fin (k0_t2_loop v1).trips) : Fin 2 → Nat :=
  let c2_i32_586 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2002 : BitVec 32 := Scalar.muli c2_i32_586 v1604
  let v2003 : Index := Scalar.indexCast v2002
  let c2304_587 : Index := 2304#32
  ![v2003.toNat, 2304]
def k0_off137 (v1 : BitVec 32) (k0_t2 : Fin (k0_t2_loop v1).trips) : Fin 2 → Nat :=
  let c2_i32_588 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2005 : BitVec 32 := Scalar.muli c2_i32_588 v1604
  let c1_i32_589 : BitVec 32 := 1#32
  let v2006 : BitVec 32 := Scalar.addi v2005 c1_i32_589
  let v2007 : Index := Scalar.indexCast v2006
  let c2304_590 : Index := 2304#32
  ![v2007.toNat, 2304]
def k0_off138 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2010 : Index := Scalar.indexCast v1594
  let c0_591 : Index := 0#32
  let c2304_592 : Index := 2304#32
  ![v2010.toNat, 0, 2304]
def k0_off139 (v1 : BitVec 32) (k0_t2 : Fin (k0_t2_loop v1).trips) : Fin 2 → Nat :=
  let c2_i32_602 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2046 : BitVec 32 := Scalar.muli c2_i32_602 v1604
  let v2047 : Index := Scalar.indexCast v2046
  let c2560_603 : Index := 2560#32
  ![v2047.toNat, 2560]
def k0_off140 (v1 : BitVec 32) (k0_t2 : Fin (k0_t2_loop v1).trips) : Fin 2 → Nat :=
  let c2_i32_604 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2049 : BitVec 32 := Scalar.muli c2_i32_604 v1604
  let c1_i32_605 : BitVec 32 := 1#32
  let v2050 : BitVec 32 := Scalar.addi v2049 c1_i32_605
  let v2051 : Index := Scalar.indexCast v2050
  let c2560_606 : Index := 2560#32
  ![v2051.toNat, 2560]
def k0_off141 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2054 : Index := Scalar.indexCast v1594
  let c0_607 : Index := 0#32
  let c2560_608 : Index := 2560#32
  ![v2054.toNat, 0, 2560]
def k0_off142 (v1 : BitVec 32) (k0_t2 : Fin (k0_t2_loop v1).trips) : Fin 2 → Nat :=
  let c2_i32_618 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2090 : BitVec 32 := Scalar.muli c2_i32_618 v1604
  let v2091 : Index := Scalar.indexCast v2090
  let c2816_619 : Index := 2816#32
  ![v2091.toNat, 2816]
def k0_off143 (v1 : BitVec 32) (k0_t2 : Fin (k0_t2_loop v1).trips) : Fin 2 → Nat :=
  let c2_i32_620 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2093 : BitVec 32 := Scalar.muli c2_i32_620 v1604
  let c1_i32_621 : BitVec 32 := 1#32
  let v2094 : BitVec 32 := Scalar.addi v2093 c1_i32_621
  let v2095 : Index := Scalar.indexCast v2094
  let c2816_622 : Index := 2816#32
  ![v2095.toNat, 2816]
def k0_off144 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2098 : Index := Scalar.indexCast v1594
  let c0_623 : Index := 0#32
  let c2816_624 : Index := 2816#32
  ![v2098.toNat, 0, 2816]
def k0_off145 (v1 : BitVec 32) (k0_t2 : Fin (k0_t2_loop v1).trips) : Fin 2 → Nat :=
  let c2_i32_634 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2134 : BitVec 32 := Scalar.muli c2_i32_634 v1604
  let v2135 : Index := Scalar.indexCast v2134
  let c3072_635 : Index := 3072#32
  ![v2135.toNat, 3072]
def k0_off146 (v1 : BitVec 32) (k0_t2 : Fin (k0_t2_loop v1).trips) : Fin 2 → Nat :=
  let c2_i32_636 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2137 : BitVec 32 := Scalar.muli c2_i32_636 v1604
  let c1_i32_637 : BitVec 32 := 1#32
  let v2138 : BitVec 32 := Scalar.addi v2137 c1_i32_637
  let v2139 : Index := Scalar.indexCast v2138
  let c3072_638 : Index := 3072#32
  ![v2139.toNat, 3072]
def k0_off147 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2142 : Index := Scalar.indexCast v1594
  let c0_639 : Index := 0#32
  let c3072_640 : Index := 3072#32
  ![v2142.toNat, 0, 3072]
def k0_off148 (v1 : BitVec 32) (k0_t2 : Fin (k0_t2_loop v1).trips) : Fin 2 → Nat :=
  let c2_i32_650 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2178 : BitVec 32 := Scalar.muli c2_i32_650 v1604
  let v2179 : Index := Scalar.indexCast v2178
  let c3328_651 : Index := 3328#32
  ![v2179.toNat, 3328]
def k0_off149 (v1 : BitVec 32) (k0_t2 : Fin (k0_t2_loop v1).trips) : Fin 2 → Nat :=
  let c2_i32_652 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2181 : BitVec 32 := Scalar.muli c2_i32_652 v1604
  let c1_i32_653 : BitVec 32 := 1#32
  let v2182 : BitVec 32 := Scalar.addi v2181 c1_i32_653
  let v2183 : Index := Scalar.indexCast v2182
  let c3328_654 : Index := 3328#32
  ![v2183.toNat, 3328]
def k0_off150 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2186 : Index := Scalar.indexCast v1594
  let c0_655 : Index := 0#32
  let c3328_656 : Index := 3328#32
  ![v2186.toNat, 0, 3328]
def k0_off151 (v1 : BitVec 32) (k0_t2 : Fin (k0_t2_loop v1).trips) : Fin 2 → Nat :=
  let c2_i32_666 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2222 : BitVec 32 := Scalar.muli c2_i32_666 v1604
  let v2223 : Index := Scalar.indexCast v2222
  let c3584_667 : Index := 3584#32
  ![v2223.toNat, 3584]
def k0_off152 (v1 : BitVec 32) (k0_t2 : Fin (k0_t2_loop v1).trips) : Fin 2 → Nat :=
  let c2_i32_668 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2225 : BitVec 32 := Scalar.muli c2_i32_668 v1604
  let c1_i32_669 : BitVec 32 := 1#32
  let v2226 : BitVec 32 := Scalar.addi v2225 c1_i32_669
  let v2227 : Index := Scalar.indexCast v2226
  let c3584_670 : Index := 3584#32
  ![v2227.toNat, 3584]
def k0_off153 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2230 : Index := Scalar.indexCast v1594
  let c0_671 : Index := 0#32
  let c3584_672 : Index := 3584#32
  ![v2230.toNat, 0, 3584]
def k0_off154 (v1 : BitVec 32) (k0_t2 : Fin (k0_t2_loop v1).trips) : Fin 2 → Nat :=
  let c2_i32_682 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2266 : BitVec 32 := Scalar.muli c2_i32_682 v1604
  let v2267 : Index := Scalar.indexCast v2266
  let c3840_683 : Index := 3840#32
  ![v2267.toNat, 3840]
def k0_off155 (v1 : BitVec 32) (k0_t2 : Fin (k0_t2_loop v1).trips) : Fin 2 → Nat :=
  let c2_i32_684 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2269 : BitVec 32 := Scalar.muli c2_i32_684 v1604
  let c1_i32_685 : BitVec 32 := 1#32
  let v2270 : BitVec 32 := Scalar.addi v2269 c1_i32_685
  let v2271 : Index := Scalar.indexCast v2270
  let c3840_686 : Index := 3840#32
  ![v2271.toNat, 3840]
def k0_off156 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2274 : Index := Scalar.indexCast v1594
  let c0_687 : Index := 0#32
  let c3840_688 : Index := 3840#32
  ![v2274.toNat, 0, 3840]
def k0_off157 (v1 : BitVec 32) (k0_t2 : Fin (k0_t2_loop v1).trips) : Fin 2 → Nat :=
  let c2_i32_698 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2310 : BitVec 32 := Scalar.muli c2_i32_698 v1604
  let v2311 : Index := Scalar.indexCast v2310
  let c4096_699 : Index := 4096#32
  ![v2311.toNat, 4096]
def k0_off158 (v1 : BitVec 32) (k0_t2 : Fin (k0_t2_loop v1).trips) : Fin 2 → Nat :=
  let c2_i32_700 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2313 : BitVec 32 := Scalar.muli c2_i32_700 v1604
  let c1_i32_701 : BitVec 32 := 1#32
  let v2314 : BitVec 32 := Scalar.addi v2313 c1_i32_701
  let v2315 : Index := Scalar.indexCast v2314
  let c4096_702 : Index := 4096#32
  ![v2315.toNat, 4096]
def k0_off159 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2318 : Index := Scalar.indexCast v1594
  let c0_703 : Index := 0#32
  let c4096_704 : Index := 4096#32
  ![v2318.toNat, 0, 4096]
def k0_off160 (v1 : BitVec 32) (k0_t2 : Fin (k0_t2_loop v1).trips) : Fin 2 → Nat :=
  let c2_i32_714 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2354 : BitVec 32 := Scalar.muli c2_i32_714 v1604
  let v2355 : Index := Scalar.indexCast v2354
  let c4352_715 : Index := 4352#32
  ![v2355.toNat, 4352]
def k0_off161 (v1 : BitVec 32) (k0_t2 : Fin (k0_t2_loop v1).trips) : Fin 2 → Nat :=
  let c2_i32_716 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2357 : BitVec 32 := Scalar.muli c2_i32_716 v1604
  let c1_i32_717 : BitVec 32 := 1#32
  let v2358 : BitVec 32 := Scalar.addi v2357 c1_i32_717
  let v2359 : Index := Scalar.indexCast v2358
  let c4352_718 : Index := 4352#32
  ![v2359.toNat, 4352]
def k0_off162 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2362 : Index := Scalar.indexCast v1594
  let c0_719 : Index := 0#32
  let c4352_720 : Index := 4352#32
  ![v2362.toNat, 0, 4352]
def k0_off163 (v1 : BitVec 32) (k0_t2 : Fin (k0_t2_loop v1).trips) : Fin 2 → Nat :=
  let c2_i32_730 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2398 : BitVec 32 := Scalar.muli c2_i32_730 v1604
  let v2399 : Index := Scalar.indexCast v2398
  let c4608_731 : Index := 4608#32
  ![v2399.toNat, 4608]
def k0_off164 (v1 : BitVec 32) (k0_t2 : Fin (k0_t2_loop v1).trips) : Fin 2 → Nat :=
  let c2_i32_732 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2401 : BitVec 32 := Scalar.muli c2_i32_732 v1604
  let c1_i32_733 : BitVec 32 := 1#32
  let v2402 : BitVec 32 := Scalar.addi v2401 c1_i32_733
  let v2403 : Index := Scalar.indexCast v2402
  let c4608_734 : Index := 4608#32
  ![v2403.toNat, 4608]
def k0_off165 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2406 : Index := Scalar.indexCast v1594
  let c0_735 : Index := 0#32
  let c4608_736 : Index := 4608#32
  ![v2406.toNat, 0, 4608]
def k0_off166 (v1 : BitVec 32) (k0_t2 : Fin (k0_t2_loop v1).trips) : Fin 2 → Nat :=
  let c2_i32_746 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2442 : BitVec 32 := Scalar.muli c2_i32_746 v1604
  let v2443 : Index := Scalar.indexCast v2442
  let c4864_747 : Index := 4864#32
  ![v2443.toNat, 4864]
def k0_off167 (v1 : BitVec 32) (k0_t2 : Fin (k0_t2_loop v1).trips) : Fin 2 → Nat :=
  let c2_i32_748 : BitVec 32 := 2#32
  let c0_i32_24 : BitVec 32 := 0#32
  let c1_i32_26 : BitVec 32 := 1#32
  let arg21 : BitVec 32 := Scf.iv c0_i32_24 c1_i32_26 k0_t2
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2445 : BitVec 32 := Scalar.muli c2_i32_748 v1604
  let c1_i32_749 : BitVec 32 := 1#32
  let v2446 : BitVec 32 := Scalar.addi v2445 c1_i32_749
  let v2447 : Index := Scalar.indexCast v2446
  let c4864_750 : Index := 4864#32
  ![v2447.toNat, 4864]
def k0_off168 (v1 : BitVec 32) (k0_t2 : Fin (k0_t2_loop v1).trips) : Fin 3 → Nat :=
  let c0_i32_24 : BitVec 32 := 0#32
  let c1_i32_26 : BitVec 32 := 1#32
  let arg21 : BitVec 32 := Scf.iv c0_i32_24 c1_i32_26 k0_t2
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2450 : Index := Scalar.indexCast v1594
  let c0_751 : Index := 0#32
  let c4864_752 : Index := 4864#32
  ![v2450.toNat, 0, 4864]
def k0_cond8 (v1 : BitVec 32) (k0_t2 : Fin (k0_t2_loop v1).trips) : BitVec 1 :=
  let c0_i32_24 : BitVec 32 := 0#32
  let c1_i32_26 : BitVec 32 := 1#32
  let arg21 : BitVec 32 := Scf.iv c0_i32_24 c1_i32_26 k0_t2
  let c8_i32_762 : BitVec 32 := 8#32
  let c0_i32_763 : BitVec 32 := 0#32
  let v2486 : BitVec 1 := Scalar.cmpi .eq c8_i32_762 c0_i32_763
  let c1_i32_764 : BitVec 32 := 1#32
  let v2487 : BitVec 32 := Scalar.select v2486 c1_i32_764 c8_i32_762
  let v2488 : BitVec 32 := Scalar.remsi arg21 v2487
  let c0_i32_766 : BitVec 32 := 0#32
  let v2490 : BitVec 1 := Scalar.cmpi .slt v2488 c0_i32_766
  let c0_i32_767 : BitVec 32 := 0#32
  let v2491 : BitVec 1 := Scalar.cmpi .slt v2487 c0_i32_767
  let v2492 : BitVec 1 := Scalar.xori v2490 v2491
  let c0_i32_765 : BitVec 32 := 0#32
  let v2489 : BitVec 1 := Scalar.cmpi .ne v2488 c0_i32_765
  let v2493 : BitVec 1 := Scalar.andi v2492 v2489
  let v2494 : BitVec 32 := Scalar.addi v2488 v2487
  let v2495 : BitVec 32 := Scalar.select v2493 v2494 v2488
  let c7_i32 : BitVec 32 := 7#32
  let v2496 : BitVec 1 := Scalar.cmpi .eq v2495 c7_i32
  let v2497 : BitVec 32 := Scalar.extui v2496
  let c0_i32_768 : BitVec 32 := 0#32
  let v2498 : BitVec 1 := Scalar.cmpi .ne v2497 c0_i32_768
  v2498

def k0_off169 (v1 : BitVec 32) (k0_t2 : Fin (k0_t2_loop v1).trips) : Fin 1 → Nat :=
  let c0_i32_24 : BitVec 32 := 0#32
  let c1_i32_26 : BitVec 32 := 1#32
  let arg21 : BitVec 32 := Scf.iv c0_i32_24 c1_i32_26 k0_t2
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let v2499 : Index := Scalar.indexCast v53
  ![v2499.toNat]
@[reducible] def k0_t3_loop (v1 : BitVec 32) : Scf.Loop 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let v30 : BitVec 32 := Scalar.addi c0_i32_24 v29
  let c1_i32_27 : BitVec 32 := 1#32
  ⟨v33, v30, c1_i32_27⟩
def k0_off170 (v1 : BitVec 32) (k0_t3 : Fin (k0_t3_loop v1).trips) : Fin 1 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let v2566 : Index := Scalar.indexCast v2565
  ![v2566.toNat]
def k0_cond9 (v1 : BitVec 32) (k0_t3 : Fin (k0_t3_loop v1).trips) : BitVec 1 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_39 : BitVec 32 := 8#32
  let c0_i32_40 : BitVec 32 := 0#32
  let v54 : BitVec 1 := Scalar.cmpi .eq c8_i32_39 c0_i32_40
  let c1_i32_41 : BitVec 32 := 1#32
  let v55 : BitVec 32 := Scalar.select v54 c1_i32_41 c8_i32_39
  let v56 : BitVec 32 := Scalar.remsi arg21 v55
  let c0_i32_43 : BitVec 32 := 0#32
  let v58 : BitVec 1 := Scalar.cmpi .slt v56 c0_i32_43
  let c0_i32_44 : BitVec 32 := 0#32
  let v59 : BitVec 1 := Scalar.cmpi .slt v55 c0_i32_44
  let v60 : BitVec 1 := Scalar.xori v58 v59
  let c0_i32_42 : BitVec 32 := 0#32
  let v57 : BitVec 1 := Scalar.cmpi .ne v56 c0_i32_42
  let v61 : BitVec 1 := Scalar.andi v60 v57
  let v62 : BitVec 32 := Scalar.addi v56 v55
  let v63 : BitVec 32 := Scalar.select v61 v62 v56
  let c0_i32_45 : BitVec 32 := 0#32
  let v64 : BitVec 1 := Scalar.cmpi .eq v63 c0_i32_45
  let v65 : BitVec 32 := Scalar.extui v64
  let c0_i32_46 : BitVec 32 := 0#32
  let v66 : BitVec 1 := Scalar.cmpi .ne v65 c0_i32_46
  v66

def k0_cond10 (v1 : BitVec 32) (k0_t3 : Fin (k0_t3_loop v1).trips) : BitVec 1 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_769 : BitVec 32 := 1#32
  let v2499 : BitVec 32 := Scalar.addi v53 c1_i32_769
  let v2500 : BitVec 1 := Scalar.cmpi .slt v2499 v1
  let v2501 : BitVec 32 := Scalar.extui v2500
  let c0_i32_770 : BitVec 32 := 0#32
  let v2502 : BitVec 1 := Scalar.cmpi .ne v2501 c0_i32_770
  v2502

def k0_off171 (v1 : BitVec 32) (k0_t3 : Fin (k0_t3_loop v1).trips) : Fin 2 → Nat :=
  let c0_i32_817 : BitVec 32 := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  ![0, v2577.toNat]
def k0_off172 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  let c0_i32_818 : BitVec 32 := 0#32
  let c0_i32_819 : BitVec 32 := 0#32
  ![v2577.toNat, 0, 0]
def k0_off173 (v2567 : BitVec 32) : Fin 3 → Nat :=
  let c0_i32_820 : BitVec 32 := 0#32
  let c0_i32_821 : BitVec 32 := 0#32
  ![v2567.toNat, 0, 0]

def k0_off174 (v1 : BitVec 32) (k0_t3 : Fin (k0_t3_loop v1).trips) : Fin 2 → Nat :=
  let c1_i32_822 : BitVec 32 := 1#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  ![1, v2577.toNat]
def k0_off175 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c1_i32_810 : BitVec 32 := 1#32
  let v2565 : BitVec 32 := Scalar.addi v53 c1_i32_810
  let c2_i32_811 : BitVec 32 := 2#32
  let c0_i32_812 : BitVec 32 := 0#32
  let v2568 : BitVec 1 := Scalar.cmpi .eq c2_i32_811 c0_i32_812
  let c1_i32_813 : BitVec 32 := 1#32
  let v2569 : BitVec 32 := Scalar.select v2568 c1_i32_813 c2_i32_811
  let v2570 : BitVec 32 := Scalar.remsi v2565 v2569
  let c0_i32_815 : BitVec 32 := 0#32
  let v2572 : BitVec 1 := Scalar.cmpi .slt v2570 c0_i32_815
  let c0_i32_816 : BitVec 32 := 0#32
  let v2573 : BitVec 1 := Scalar.cmpi .slt v2569 c0_i32_816
  let v2574 : BitVec 1 := Scalar.xori v2572 v2573
  let c0_i32_814 : BitVec 32 := 0#32
  let v2571 : BitVec 1 := Scalar.cmpi .ne v2570 c0_i32_814
  let v2575 : BitVec 1 := Scalar.andi v2574 v2571
  let v2576 : BitVec 32 := Scalar.addi v2570 v2569
  let v2577 : BitVec 32 := Scalar.select v2575 v2576 v2570
  let c0_i32_823 : BitVec 32 := 0#32
  let c0_i32_824 : BitVec 32 := 0#32
  ![v2577.toNat, 0, 0]
def k0_off176 (v2567 : BitVec 32) : Fin 3 → Nat :=
  let c0_i32_825 : BitVec 32 := 0#32
  let c0_i32_826 : BitVec 32 := 0#32
  ![v2567.toNat, 0, 0]

def k0_chk11 (v1 : BitVec 32) (k0_t3 : Fin (k0_t3_loop v1).trips) (v2567 : BitVec 32) : Prop :=
  (∀ (k0_h9 : k0_cond9 v1 k0_t3 = 1#1), ∀ (k0_h10 : k0_cond10 v1 k0_t3 = 1#1), ∀ a, (k0_off173 v2567) a + S1x40x4096.size a ≤ S4x40x4096.size a) ∧
  (∀ (k0_h9 : k0_cond9 v1 k0_t3 = 1#1), ∀ (k0_h10 : k0_cond10 v1 k0_t3 = 1#1), ∀ (hinb : ∀ a, (k0_off173 v2567) a + S1x40x4096.size a ≤ S4x40x4096.size a), (Rect.unit (s := S4x40x4096) (k0_off173 v2567) S1x40x4096.size hinb).WholeWords (EltTy.packing .bf16)) ∧
  (∀ (k0_h9 : k0_cond9 v1 k0_t3 = 1#1), ∀ (k0_h10 : k0_cond10 v1 k0_t3 = 1#1), ∀ a, (k0_off176 v2567) a + S1x16x5120.size a ≤ S4x16x5120.size a) ∧
  (∀ (k0_h9 : k0_cond9 v1 k0_t3 = 1#1), ∀ (k0_h10 : k0_cond10 v1 k0_t3 = 1#1), ∀ (hinb : ∀ a, (k0_off176 v2567) a + S1x16x5120.size a ≤ S4x16x5120.size a), (Rect.unit (s := S4x16x5120) (k0_off176 v2567) S1x16x5120.size hinb).WholeWords (EltTy.packing .bf16))
theorem k0_off173_inb : ∀ (v1 : BitVec 32) (k0_t3 : Fin (k0_t3_loop v1).trips) (v2567 : BitVec 32) (k0_hw11 : k0_chk11 v1 k0_t3 v2567), ∀ (k0_h9 : k0_cond9 v1 k0_t3 = 1#1), ∀ (k0_h10 : k0_cond10 v1 k0_t3 = 1#1), ∀ a, (k0_off173 v2567) a + S1x40x4096.size a ≤ S4x40x4096.size a := fun v1 k0_t3 v2567 k0_hw11 k0_h9 k0_h10 => k0_hw11.1 k0_h9 k0_h10
theorem k0_off173_wordsbf16 : ∀ (v1 : BitVec 32) (k0_t3 : Fin (k0_t3_loop v1).trips) (v2567 : BitVec 32) (k0_hw11 : k0_chk11 v1 k0_t3 v2567), ∀ (k0_h9 : k0_cond9 v1 k0_t3 = 1#1), ∀ (k0_h10 : k0_cond10 v1 k0_t3 = 1#1), (Rect.unit (s := S4x40x4096) (k0_off173 v2567) S1x40x4096.size (k0_off173_inb v1 k0_t3 v2567 k0_hw11 k0_h9 k0_h10)).WholeWords (EltTy.packing .bf16) := fun v1 k0_t3 v2567 k0_hw11 k0_h9 k0_h10 => k0_hw11.2.1 k0_h9 k0_h10 (k0_off173_inb v1 k0_t3 v2567 k0_hw11 k0_h9 k0_h10)
theorem k0_off176_inb : ∀ (v1 : BitVec 32) (k0_t3 : Fin (k0_t3_loop v1).trips) (v2567 : BitVec 32) (k0_hw11 : k0_chk11 v1 k0_t3 v2567), ∀ (k0_h9 : k0_cond9 v1 k0_t3 = 1#1), ∀ (k0_h10 : k0_cond10 v1 k0_t3 = 1#1), ∀ a, (k0_off176 v2567) a + S1x16x5120.size a ≤ S4x16x5120.size a := fun v1 k0_t3 v2567 k0_hw11 k0_h9 k0_h10 => k0_hw11.2.2.1 k0_h9 k0_h10
theorem k0_off176_wordsbf16 : ∀ (v1 : BitVec 32) (k0_t3 : Fin (k0_t3_loop v1).trips) (v2567 : BitVec 32) (k0_hw11 : k0_chk11 v1 k0_t3 v2567), ∀ (k0_h9 : k0_cond9 v1 k0_t3 = 1#1), ∀ (k0_h10 : k0_cond10 v1 k0_t3 = 1#1), (Rect.unit (s := S4x16x5120) (k0_off176 v2567) S1x16x5120.size (k0_off176_inb v1 k0_t3 v2567 k0_hw11 k0_h9 k0_h10)).WholeWords (EltTy.packing .bf16) := fun v1 k0_t3 v2567 k0_hw11 k0_h9 k0_h10 => k0_hw11.2.2.2 k0_h9 k0_h10 (k0_off176_inb v1 k0_t3 v2567 k0_hw11 k0_h9 k0_h10)

def k0_off177 (v1 : BitVec 32) (k0_t3 : Fin (k0_t3_loop v1).trips) : Fin 1 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let v2503 : Index := Scalar.indexCast v53
  ![v2503.toNat]
def k0_off178 (v1 : BitVec 32) (k0_t3 : Fin (k0_t3_loop v1).trips) : Fin 2 → Nat :=
  let c0_i32_777 : BitVec 32 := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  ![0, v2514.toNat]
def k0_off179 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  let c0_i32_778 : BitVec 32 := 0#32
  let c0_i32_779 : BitVec 32 := 0#32
  ![v2514.toNat, 0, 0]
def k0_off180 (v2504 : BitVec 32) : Fin 3 → Nat :=
  let c0_i32_780 : BitVec 32 := 0#32
  let c0_i32_781 : BitVec 32 := 0#32
  ![v2504.toNat, 0, 0]

def k0_off181 (v1 : BitVec 32) (k0_t3 : Fin (k0_t3_loop v1).trips) : Fin 2 → Nat :=
  let c1_i32_782 : BitVec 32 := 1#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  ![1, v2514.toNat]
def k0_off182 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_771 : BitVec 32 := 2#32
  let c0_i32_772 : BitVec 32 := 0#32
  let v2505 : BitVec 1 := Scalar.cmpi .eq c2_i32_771 c0_i32_772
  let c1_i32_773 : BitVec 32 := 1#32
  let v2506 : BitVec 32 := Scalar.select v2505 c1_i32_773 c2_i32_771
  let v2507 : BitVec 32 := Scalar.remsi v53 v2506
  let c0_i32_775 : BitVec 32 := 0#32
  let v2509 : BitVec 1 := Scalar.cmpi .slt v2507 c0_i32_775
  let c0_i32_776 : BitVec 32 := 0#32
  let v2510 : BitVec 1 := Scalar.cmpi .slt v2506 c0_i32_776
  let v2511 : BitVec 1 := Scalar.xori v2509 v2510
  let c0_i32_774 : BitVec 32 := 0#32
  let v2508 : BitVec 1 := Scalar.cmpi .ne v2507 c0_i32_774
  let v2512 : BitVec 1 := Scalar.andi v2511 v2508
  let v2513 : BitVec 32 := Scalar.addi v2507 v2506
  let v2514 : BitVec 32 := Scalar.select v2512 v2513 v2507
  let c0_i32_783 : BitVec 32 := 0#32
  let c0_i32_784 : BitVec 32 := 0#32
  ![v2514.toNat, 0, 0]
def k0_off183 (v2504 : BitVec 32) : Fin 3 → Nat :=
  let c0_i32_785 : BitVec 32 := 0#32
  let c0_i32_786 : BitVec 32 := 0#32
  ![v2504.toNat, 0, 0]

def k0_chk12 (v1 : BitVec 32) (k0_t3 : Fin (k0_t3_loop v1).trips) (v2504 : BitVec 32) : Prop :=
  (∀ (k0_h9 : k0_cond9 v1 k0_t3 = 1#1), ∀ a, (k0_off180 v2504) a + S1x40x4096.size a ≤ S4x40x4096.size a) ∧
  (∀ (k0_h9 : k0_cond9 v1 k0_t3 = 1#1), ∀ (hinb : ∀ a, (k0_off180 v2504) a + S1x40x4096.size a ≤ S4x40x4096.size a), (Rect.unit (s := S4x40x4096) (k0_off180 v2504) S1x40x4096.size hinb).WholeWords (EltTy.packing .bf16)) ∧
  (∀ (k0_h9 : k0_cond9 v1 k0_t3 = 1#1), ∀ a, (k0_off183 v2504) a + S1x16x5120.size a ≤ S4x16x5120.size a) ∧
  (∀ (k0_h9 : k0_cond9 v1 k0_t3 = 1#1), ∀ (hinb : ∀ a, (k0_off183 v2504) a + S1x16x5120.size a ≤ S4x16x5120.size a), (Rect.unit (s := S4x16x5120) (k0_off183 v2504) S1x16x5120.size hinb).WholeWords (EltTy.packing .bf16))
theorem k0_off180_inb : ∀ (v1 : BitVec 32) (k0_t3 : Fin (k0_t3_loop v1).trips) (v2504 : BitVec 32) (k0_hw12 : k0_chk12 v1 k0_t3 v2504), ∀ (k0_h9 : k0_cond9 v1 k0_t3 = 1#1), ∀ a, (k0_off180 v2504) a + S1x40x4096.size a ≤ S4x40x4096.size a := fun v1 k0_t3 v2504 k0_hw12 k0_h9 => k0_hw12.1 k0_h9
theorem k0_off180_wordsbf16 : ∀ (v1 : BitVec 32) (k0_t3 : Fin (k0_t3_loop v1).trips) (v2504 : BitVec 32) (k0_hw12 : k0_chk12 v1 k0_t3 v2504), ∀ (k0_h9 : k0_cond9 v1 k0_t3 = 1#1), (Rect.unit (s := S4x40x4096) (k0_off180 v2504) S1x40x4096.size (k0_off180_inb v1 k0_t3 v2504 k0_hw12 k0_h9)).WholeWords (EltTy.packing .bf16) := fun v1 k0_t3 v2504 k0_hw12 k0_h9 => k0_hw12.2.1 k0_h9 (k0_off180_inb v1 k0_t3 v2504 k0_hw12 k0_h9)
theorem k0_off183_inb : ∀ (v1 : BitVec 32) (k0_t3 : Fin (k0_t3_loop v1).trips) (v2504 : BitVec 32) (k0_hw12 : k0_chk12 v1 k0_t3 v2504), ∀ (k0_h9 : k0_cond9 v1 k0_t3 = 1#1), ∀ a, (k0_off183 v2504) a + S1x16x5120.size a ≤ S4x16x5120.size a := fun v1 k0_t3 v2504 k0_hw12 k0_h9 => k0_hw12.2.2.1 k0_h9
theorem k0_off183_wordsbf16 : ∀ (v1 : BitVec 32) (k0_t3 : Fin (k0_t3_loop v1).trips) (v2504 : BitVec 32) (k0_hw12 : k0_chk12 v1 k0_t3 v2504), ∀ (k0_h9 : k0_cond9 v1 k0_t3 = 1#1), (Rect.unit (s := S4x16x5120) (k0_off183 v2504) S1x16x5120.size (k0_off183_inb v1 k0_t3 v2504 k0_hw12 k0_h9)).WholeWords (EltTy.packing .bf16) := fun v1 k0_t3 v2504 k0_hw12 k0_h9 => k0_hw12.2.2.2 k0_h9 (k0_off183_inb v1 k0_t3 v2504 k0_hw12 k0_h9)

def k0_off184 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_787 : BitVec 32 := 2#32
  let c0_i32_788 : BitVec 32 := 0#32
  let v2527 : BitVec 1 := Scalar.cmpi .eq c2_i32_787 c0_i32_788
  let c1_i32_789 : BitVec 32 := 1#32
  let v2528 : BitVec 32 := Scalar.select v2527 c1_i32_789 c2_i32_787
  let v2529 : BitVec 32 := Scalar.remsi v53 v2528
  let c0_i32_791 : BitVec 32 := 0#32
  let v2531 : BitVec 1 := Scalar.cmpi .slt v2529 c0_i32_791
  let c0_i32_792 : BitVec 32 := 0#32
  let v2532 : BitVec 1 := Scalar.cmpi .slt v2528 c0_i32_792
  let v2533 : BitVec 1 := Scalar.xori v2531 v2532
  let c0_i32_790 : BitVec 32 := 0#32
  let v2530 : BitVec 1 := Scalar.cmpi .ne v2529 c0_i32_790
  let v2534 : BitVec 1 := Scalar.andi v2533 v2530
  let v2535 : BitVec 32 := Scalar.addi v2529 v2528
  let v2536 : BitVec 32 := Scalar.select v2534 v2535 v2529
  let v2537 : Index := Scalar.indexCast v2536
  let c0_793 : Index := 0#32
  let c0_794 : Index := 0#32
  ![v2537.toNat, 0, 0]
def k0_off185 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let c2_i32_797 : BitVec 32 := 2#32
  let c0_i32_798 : BitVec 32 := 0#32
  let v2544 : BitVec 1 := Scalar.cmpi .eq c2_i32_797 c0_i32_798
  let c1_i32_799 : BitVec 32 := 1#32
  let v2545 : BitVec 32 := Scalar.select v2544 c1_i32_799 c2_i32_797
  let v2546 : BitVec 32 := Scalar.remsi v53 v2545
  let c0_i32_801 : BitVec 32 := 0#32
  let v2548 : BitVec 1 := Scalar.cmpi .slt v2546 c0_i32_801
  let c0_i32_802 : BitVec 32 := 0#32
  let v2549 : BitVec 1 := Scalar.cmpi .slt v2545 c0_i32_802
  let v2550 : BitVec 1 := Scalar.xori v2548 v2549
  let c0_i32_800 : BitVec 32 := 0#32
  let v2547 : BitVec 1 := Scalar.cmpi .ne v2546 c0_i32_800
  let v2551 : BitVec 1 := Scalar.andi v2550 v2547
  let v2552 : BitVec 32 := Scalar.addi v2546 v2545
  let v2553 : BitVec 32 := Scalar.select v2551 v2552 v2546
  let v2554 : Index := Scalar.indexCast v2553
  let c0_803 : Index := 0#32
  let c0_804 : Index := 0#32
  ![v2554.toNat, 0, 0]
def k0_off186 (v1 : BitVec 32) (k0_t3 : Fin (k0_t3_loop v1).trips) : Fin 1 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_48 : BitVec 32 := 0#32
  let v68 : BitVec 1 := Scalar.cmpi .sgt arg21 c0_i32_48
  let v69 : BitVec 32 := Scalar.extui v68
  let c0_i32_49 : BitVec 32 := 0#32
  let v70 : BitVec 1 := Scalar.cmpi .slt arg21 c0_i32_49
  let v71 : BitVec 32 := Scalar.extui v70
  let v72 : BitVec 32 := Scalar.subi v69 v71
  let c8_i32_47 : BitVec 32 := 8#32
  let c0_i32_50 : BitVec 32 := 0#32
  let v73 : BitVec 1 := Scalar.cmpi .sgt c8_i32_47 c0_i32_50
  let v74 : BitVec 32 := Scalar.extui v73
  let c0_i32_51 : BitVec 32 := 0#32
  let v75 : BitVec 1 := Scalar.cmpi .slt c8_i32_47 c0_i32_51
  let v76 : BitVec 32 := Scalar.extui v75
  let v77 : BitVec 32 := Scalar.subi v74 v76
  let v78 : BitVec 1 := Scalar.cmpi .ne v72 v77
  let v79 : BitVec 32 := Scalar.remsi arg21 c8_i32_47
  let c0_i32_52 : BitVec 32 := 0#32
  let v80 : BitVec 1 := Scalar.cmpi .ne v79 c0_i32_52
  let v81 : BitVec 1 := Scalar.andi v78 v80
  let v67 : BitVec 32 := Scalar.divsi arg21 c8_i32_47
  let c1_i32_53 : BitVec 32 := 1#32
  let v82 : BitVec 32 := Scalar.subi v67 c1_i32_53
  let v83 : BitVec 32 := Scalar.select v81 v82 v67
  let v84 : Index := Scalar.indexCast v83
  ![v84.toNat]
def k0_mult12 (v1 : BitVec 32) (k0_t3 : Fin (k0_t3_loop v1).trips) : BitVec 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c256_i32 : BitVec 32 := 256#32
  let v106 : BitVec 32 := Scalar.muli v95 c256_i32
  v106
def k0_mult13 (v1 : BitVec 32) (k0_t3 : Fin (k0_t3_loop v1).trips) : BitVec 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c128_i32 : BitVec 32 := 128#32
  let v108 : BitVec 32 := Scalar.muli v95 c128_i32
  v108
def k0_off187 (v1 : BitVec 32) (k0_t3 : Fin (k0_t3_loop v1).trips) : Fin 2 → Nat :=
  let c0_i32_66 : BitVec 32 := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  ![0, v105.toNat]
def k0_off188 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c0_i32_67 : BitVec 32 := 0#32
  let c0_i32_68 : BitVec 32 := 0#32
  ![v105.toNat, 0, 0]
def k0_off189 (v1 : BitVec 32) (k0_t3 : Fin (k0_t3_loop v1).trips) (v85 : BitVec 32) : Fin 3 → Nat :=
  let c0_i32_69 : BitVec 32 := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c256_i32 : BitVec 32 := 256#32
  let v106 : BitVec 32 := Scalar.muli v95 c256_i32
  let v107 : BitVec 32 := v106
  ![v85.toNat, 0, v107.toNat]

def k0_off190 (v1 : BitVec 32) (k0_t3 : Fin (k0_t3_loop v1).trips) : Fin 2 → Nat :=
  let c1_i32_70 : BitVec 32 := 1#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  ![1, v105.toNat]
def k0_off191 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c0_i32_71 : BitVec 32 := 0#32
  let c0_i32_72 : BitVec 32 := 0#32
  ![v105.toNat, 0, 0]
def k0_off192 (v1 : BitVec 32) (k0_t3 : Fin (k0_t3_loop v1).trips) (v85 : BitVec 32) : Fin 3 → Nat :=
  let c0_i32_73 : BitVec 32 := 0#32
  let c2048_i32 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c256_i32 : BitVec 32 := 256#32
  let v106 : BitVec 32 := Scalar.muli v95 c256_i32
  let v107 : BitVec 32 := v106
  let v110 : BitVec 32 := Scalar.addi c2048_i32 v107
  ![v85.toNat, 0, v110.toNat]
def k0_off193 (v1 : BitVec 32) (k0_t3 : Fin (k0_t3_loop v1).trips) : Fin 2 → Nat :=
  let c2_i32_74 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  ![2, v105.toNat]
def k0_off194 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_60 : BitVec 32 := 4#32
  let c0_i32_61 : BitVec 32 := 0#32
  let v96 : BitVec 1 := Scalar.cmpi .eq c4_i32_60 c0_i32_61
  let c1_i32_62 : BitVec 32 := 1#32
  let v97 : BitVec 32 := Scalar.select v96 c1_i32_62 c4_i32_60
  let v98 : BitVec 32 := Scalar.remsi arg21 v97
  let c0_i32_64 : BitVec 32 := 0#32
  let v100 : BitVec 1 := Scalar.cmpi .slt v98 c0_i32_64
  let c0_i32_65 : BitVec 32 := 0#32
  let v101 : BitVec 1 := Scalar.cmpi .slt v97 c0_i32_65
  let v102 : BitVec 1 := Scalar.xori v100 v101
  let c0_i32_63 : BitVec 32 := 0#32
  let v99 : BitVec 1 := Scalar.cmpi .ne v98 c0_i32_63
  let v103 : BitVec 1 := Scalar.andi v102 v99
  let v104 : BitVec 32 := Scalar.addi v98 v97
  let v105 : BitVec 32 := Scalar.select v103 v104 v98
  let c0_i32_75 : BitVec 32 := 0#32
  let c0_i32_76 : BitVec 32 := 0#32
  ![v105.toNat, 0, 0]
def k0_off195 (v1 : BitVec 32) (k0_t3 : Fin (k0_t3_loop v1).trips) (v85 : BitVec 32) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_54 : BitVec 32 := 8#32
  let c0_i32_55 : BitVec 32 := 0#32
  let v86 : BitVec 1 := Scalar.cmpi .eq c8_i32_54 c0_i32_55
  let c1_i32_56 : BitVec 32 := 1#32
  let v87 : BitVec 32 := Scalar.select v86 c1_i32_56 c8_i32_54
  let v88 : BitVec 32 := Scalar.remsi arg21 v87
  let c0_i32_58 : BitVec 32 := 0#32
  let v90 : BitVec 1 := Scalar.cmpi .slt v88 c0_i32_58
  let c0_i32_59 : BitVec 32 := 0#32
  let v91 : BitVec 1 := Scalar.cmpi .slt v87 c0_i32_59
  let v92 : BitVec 1 := Scalar.xori v90 v91
  let c0_i32_57 : BitVec 32 := 0#32
  let v89 : BitVec 1 := Scalar.cmpi .ne v88 c0_i32_57
  let v93 : BitVec 1 := Scalar.andi v92 v89
  let v94 : BitVec 32 := Scalar.addi v88 v87
  let v95 : BitVec 32 := Scalar.select v93 v94 v88
  let c128_i32 : BitVec 32 := 128#32
  let v108 : BitVec 32 := Scalar.muli v95 c128_i32
  let v109 : BitVec 32 := v108
  let c0_i32_77 : BitVec 32 := 0#32
  ![v85.toNat, v109.toNat, 0]

def k0_chk13 (v1 : BitVec 32) (k0_t3 : Fin (k0_t3_loop v1).trips) (v85 : BitVec 32) : Prop :=
  (∀ a, (k0_off189 v1 k0_t3 v85) a + S1x2560x256.size a ≤ S4x2560x4096.size a) ∧
  (∀ (hinb : ∀ a, (k0_off189 v1 k0_t3 v85) a + S1x2560x256.size a ≤ S4x2560x4096.size a), (Rect.unit (s := S4x2560x4096) (k0_off189 v1 k0_t3 v85) S1x2560x256.size hinb).WholeWords (EltTy.packing .i8)) ∧
  (∀ a, (k0_off192 v1 k0_t3 v85) a + S1x2560x256.size a ≤ S4x2560x4096.size a) ∧
  (∀ (hinb : ∀ a, (k0_off192 v1 k0_t3 v85) a + S1x2560x256.size a ≤ S4x2560x4096.size a), (Rect.unit (s := S4x2560x4096) (k0_off192 v1 k0_t3 v85) S1x2560x256.size hinb).WholeWords (EltTy.packing .i8)) ∧
  (∀ a, (k0_off195 v1 k0_t3 v85) a + S1x128x5120.size a ≤ S4x1024x5120.size a) ∧
  (∀ (hinb : ∀ a, (k0_off195 v1 k0_t3 v85) a + S1x128x5120.size a ≤ S4x1024x5120.size a), (Rect.unit (s := S4x1024x5120) (k0_off195 v1 k0_t3 v85) S1x128x5120.size hinb).WholeWords (EltTy.packing .i8))
theorem k0_off189_inb : ∀ (v1 : BitVec 32) (k0_t3 : Fin (k0_t3_loop v1).trips) (v85 : BitVec 32) (k0_hw13 : k0_chk13 v1 k0_t3 v85), ∀ a, (k0_off189 v1 k0_t3 v85) a + S1x2560x256.size a ≤ S4x2560x4096.size a := fun v1 k0_t3 v85 k0_hw13 => k0_hw13.1
theorem k0_off189_wordsi8 : ∀ (v1 : BitVec 32) (k0_t3 : Fin (k0_t3_loop v1).trips) (v85 : BitVec 32) (k0_hw13 : k0_chk13 v1 k0_t3 v85), (Rect.unit (s := S4x2560x4096) (k0_off189 v1 k0_t3 v85) S1x2560x256.size (k0_off189_inb v1 k0_t3 v85 k0_hw13)).WholeWords (EltTy.packing .i8) := fun v1 k0_t3 v85 k0_hw13 => k0_hw13.2.1 (k0_off189_inb v1 k0_t3 v85 k0_hw13)
theorem k0_off192_inb : ∀ (v1 : BitVec 32) (k0_t3 : Fin (k0_t3_loop v1).trips) (v85 : BitVec 32) (k0_hw13 : k0_chk13 v1 k0_t3 v85), ∀ a, (k0_off192 v1 k0_t3 v85) a + S1x2560x256.size a ≤ S4x2560x4096.size a := fun v1 k0_t3 v85 k0_hw13 => k0_hw13.2.2.1
theorem k0_off192_wordsi8 : ∀ (v1 : BitVec 32) (k0_t3 : Fin (k0_t3_loop v1).trips) (v85 : BitVec 32) (k0_hw13 : k0_chk13 v1 k0_t3 v85), (Rect.unit (s := S4x2560x4096) (k0_off192 v1 k0_t3 v85) S1x2560x256.size (k0_off192_inb v1 k0_t3 v85 k0_hw13)).WholeWords (EltTy.packing .i8) := fun v1 k0_t3 v85 k0_hw13 => k0_hw13.2.2.2.1 (k0_off192_inb v1 k0_t3 v85 k0_hw13)
theorem k0_off195_inb : ∀ (v1 : BitVec 32) (k0_t3 : Fin (k0_t3_loop v1).trips) (v85 : BitVec 32) (k0_hw13 : k0_chk13 v1 k0_t3 v85), ∀ a, (k0_off195 v1 k0_t3 v85) a + S1x128x5120.size a ≤ S4x1024x5120.size a := fun v1 k0_t3 v85 k0_hw13 => k0_hw13.2.2.2.2.1
theorem k0_off195_wordsi8 : ∀ (v1 : BitVec 32) (k0_t3 : Fin (k0_t3_loop v1).trips) (v85 : BitVec 32) (k0_hw13 : k0_chk13 v1 k0_t3 v85), (Rect.unit (s := S4x1024x5120) (k0_off195 v1 k0_t3 v85) S1x128x5120.size (k0_off195_inb v1 k0_t3 v85 k0_hw13)).WholeWords (EltTy.packing .i8) := fun v1 k0_t3 v85 k0_hw13 => k0_hw13.2.2.2.2.2 (k0_off195_inb v1 k0_t3 v85 k0_hw13)

def k0_off196 (v1 : BitVec 32) (k0_t3 : Fin (k0_t3_loop v1).trips) : Fin 1 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c0_i32_772 : BitVec 32 := 0#32
  let v2502 : BitVec 1 := Scalar.cmpi .sgt v2500 c0_i32_772
  let v2503 : BitVec 32 := Scalar.extui v2502
  let c0_i32_773 : BitVec 32 := 0#32
  let v2504 : BitVec 1 := Scalar.cmpi .slt v2500 c0_i32_773
  let v2505 : BitVec 32 := Scalar.extui v2504
  let v2506 : BitVec 32 := Scalar.subi v2503 v2505
  let c8_i32_771 : BitVec 32 := 8#32
  let c0_i32_774 : BitVec 32 := 0#32
  let v2507 : BitVec 1 := Scalar.cmpi .sgt c8_i32_771 c0_i32_774
  let v2508 : BitVec 32 := Scalar.extui v2507
  let c0_i32_775 : BitVec 32 := 0#32
  let v2509 : BitVec 1 := Scalar.cmpi .slt c8_i32_771 c0_i32_775
  let v2510 : BitVec 32 := Scalar.extui v2509
  let v2511 : BitVec 32 := Scalar.subi v2508 v2510
  let v2512 : BitVec 1 := Scalar.cmpi .ne v2506 v2511
  let v2513 : BitVec 32 := Scalar.remsi v2500 c8_i32_771
  let c0_i32_776 : BitVec 32 := 0#32
  let v2514 : BitVec 1 := Scalar.cmpi .ne v2513 c0_i32_776
  let v2515 : BitVec 1 := Scalar.andi v2512 v2514
  let v2501 : BitVec 32 := Scalar.divsi v2500 c8_i32_771
  let c1_i32_777 : BitVec 32 := 1#32
  let v2516 : BitVec 32 := Scalar.subi v2501 c1_i32_777
  let v2517 : BitVec 32 := Scalar.select v2515 v2516 v2501
  let v2518 : Index := Scalar.indexCast v2517
  ![v2518.toNat]
def k0_cond11 (v1 : BitVec 32) (k0_t3 : Fin (k0_t3_loop v1).trips) : BitVec 1 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_78 : BitVec 32 := 4#32
  let v129 : BitVec 32 := Scalar.addi arg21 c4_i32_78
  let c1_i32_79 : BitVec 32 := 1#32
  let v130 : BitVec 32 := Scalar.subi v129 c1_i32_79
  let v131 : BitVec 1 := Scalar.cmpi .slt v130 v2
  let v132 : BitVec 32 := Scalar.extui v131
  let c0_i32_80 : BitVec 32 := 0#32
  let v133 : BitVec 1 := Scalar.cmpi .ne v132 c0_i32_80
  v133

def k0_mult14 (v1 : BitVec 32) (k0_t3 : Fin (k0_t3_loop v1).trips) : BitVec 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c256_i32_790 : BitVec 32 := 256#32
  let v2540 : BitVec 32 := Scalar.muli v2529 c256_i32_790
  v2540
def k0_mult15 (v1 : BitVec 32) (k0_t3 : Fin (k0_t3_loop v1).trips) : BitVec 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c128_i32_791 : BitVec 32 := 128#32
  let v2542 : BitVec 32 := Scalar.muli v2529 c128_i32_791
  v2542
def k0_off197 (v1 : BitVec 32) (k0_t3 : Fin (k0_t3_loop v1).trips) : Fin 2 → Nat :=
  let c0_i32_793 : BitVec 32 := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  ![0, v2539.toNat]
def k0_off198 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  let c0_i32_794 : BitVec 32 := 0#32
  let c0_i32_795 : BitVec 32 := 0#32
  ![v2539.toNat, 0, 0]
def k0_off199 (v1 : BitVec 32) (k0_t3 : Fin (k0_t3_loop v1).trips) (v2519 : BitVec 32) : Fin 3 → Nat :=
  let c0_i32_796 : BitVec 32 := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c256_i32_790 : BitVec 32 := 256#32
  let v2540 : BitVec 32 := Scalar.muli v2529 c256_i32_790
  let v2541 : BitVec 32 := v2540
  ![v2519.toNat, 0, v2541.toNat]

def k0_off200 (v1 : BitVec 32) (k0_t3 : Fin (k0_t3_loop v1).trips) : Fin 2 → Nat :=
  let c1_i32_797 : BitVec 32 := 1#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  ![1, v2539.toNat]
def k0_off201 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  let c0_i32_798 : BitVec 32 := 0#32
  let c0_i32_799 : BitVec 32 := 0#32
  ![v2539.toNat, 0, 0]
def k0_off202 (v1 : BitVec 32) (k0_t3 : Fin (k0_t3_loop v1).trips) (v2519 : BitVec 32) : Fin 3 → Nat :=
  let c0_i32_800 : BitVec 32 := 0#32
  let c2048_i32_792 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c256_i32_790 : BitVec 32 := 256#32
  let v2540 : BitVec 32 := Scalar.muli v2529 c256_i32_790
  let v2541 : BitVec 32 := v2540
  let v2544 : BitVec 32 := Scalar.addi c2048_i32_792 v2541
  ![v2519.toNat, 0, v2544.toNat]
def k0_off203 (v1 : BitVec 32) (k0_t3 : Fin (k0_t3_loop v1).trips) : Fin 2 → Nat :=
  let c2_i32_801 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  ![2, v2539.toNat]
def k0_off204 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c4_i32_784 : BitVec 32 := 4#32
  let c0_i32_785 : BitVec 32 := 0#32
  let v2530 : BitVec 1 := Scalar.cmpi .eq c4_i32_784 c0_i32_785
  let c1_i32_786 : BitVec 32 := 1#32
  let v2531 : BitVec 32 := Scalar.select v2530 c1_i32_786 c4_i32_784
  let v2532 : BitVec 32 := Scalar.remsi v2500 v2531
  let c0_i32_788 : BitVec 32 := 0#32
  let v2534 : BitVec 1 := Scalar.cmpi .slt v2532 c0_i32_788
  let c0_i32_789 : BitVec 32 := 0#32
  let v2535 : BitVec 1 := Scalar.cmpi .slt v2531 c0_i32_789
  let v2536 : BitVec 1 := Scalar.xori v2534 v2535
  let c0_i32_787 : BitVec 32 := 0#32
  let v2533 : BitVec 1 := Scalar.cmpi .ne v2532 c0_i32_787
  let v2537 : BitVec 1 := Scalar.andi v2536 v2533
  let v2538 : BitVec 32 := Scalar.addi v2532 v2531
  let v2539 : BitVec 32 := Scalar.select v2537 v2538 v2532
  let c0_i32_802 : BitVec 32 := 0#32
  let c0_i32_803 : BitVec 32 := 0#32
  ![v2539.toNat, 0, 0]
def k0_off205 (v1 : BitVec 32) (k0_t3 : Fin (k0_t3_loop v1).trips) (v2519 : BitVec 32) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_769 : BitVec 32 := 4#32
  let v2499 : BitVec 32 := Scalar.addi arg21 c4_i32_769
  let c1_i32_770 : BitVec 32 := 1#32
  let v2500 : BitVec 32 := Scalar.subi v2499 c1_i32_770
  let c8_i32_778 : BitVec 32 := 8#32
  let c0_i32_779 : BitVec 32 := 0#32
  let v2520 : BitVec 1 := Scalar.cmpi .eq c8_i32_778 c0_i32_779
  let c1_i32_780 : BitVec 32 := 1#32
  let v2521 : BitVec 32 := Scalar.select v2520 c1_i32_780 c8_i32_778
  let v2522 : BitVec 32 := Scalar.remsi v2500 v2521
  let c0_i32_782 : BitVec 32 := 0#32
  let v2524 : BitVec 1 := Scalar.cmpi .slt v2522 c0_i32_782
  let c0_i32_783 : BitVec 32 := 0#32
  let v2525 : BitVec 1 := Scalar.cmpi .slt v2521 c0_i32_783
  let v2526 : BitVec 1 := Scalar.xori v2524 v2525
  let c0_i32_781 : BitVec 32 := 0#32
  let v2523 : BitVec 1 := Scalar.cmpi .ne v2522 c0_i32_781
  let v2527 : BitVec 1 := Scalar.andi v2526 v2523
  let v2528 : BitVec 32 := Scalar.addi v2522 v2521
  let v2529 : BitVec 32 := Scalar.select v2527 v2528 v2522
  let c128_i32_791 : BitVec 32 := 128#32
  let v2542 : BitVec 32 := Scalar.muli v2529 c128_i32_791
  let v2543 : BitVec 32 := v2542
  let c0_i32_804 : BitVec 32 := 0#32
  ![v2519.toNat, v2543.toNat, 0]

def k0_chk14 (v1 : BitVec 32) (k0_t3 : Fin (k0_t3_loop v1).trips) (v2519 : BitVec 32) : Prop :=
  (∀ (k0_h11 : k0_cond11 v1 k0_t3 = 1#1), ∀ a, (k0_off199 v1 k0_t3 v2519) a + S1x2560x256.size a ≤ S4x2560x4096.size a) ∧
  (∀ (k0_h11 : k0_cond11 v1 k0_t3 = 1#1), ∀ (hinb : ∀ a, (k0_off199 v1 k0_t3 v2519) a + S1x2560x256.size a ≤ S4x2560x4096.size a), (Rect.unit (s := S4x2560x4096) (k0_off199 v1 k0_t3 v2519) S1x2560x256.size hinb).WholeWords (EltTy.packing .i8)) ∧
  (∀ (k0_h11 : k0_cond11 v1 k0_t3 = 1#1), ∀ a, (k0_off202 v1 k0_t3 v2519) a + S1x2560x256.size a ≤ S4x2560x4096.size a) ∧
  (∀ (k0_h11 : k0_cond11 v1 k0_t3 = 1#1), ∀ (hinb : ∀ a, (k0_off202 v1 k0_t3 v2519) a + S1x2560x256.size a ≤ S4x2560x4096.size a), (Rect.unit (s := S4x2560x4096) (k0_off202 v1 k0_t3 v2519) S1x2560x256.size hinb).WholeWords (EltTy.packing .i8)) ∧
  (∀ (k0_h11 : k0_cond11 v1 k0_t3 = 1#1), ∀ a, (k0_off205 v1 k0_t3 v2519) a + S1x128x5120.size a ≤ S4x1024x5120.size a) ∧
  (∀ (k0_h11 : k0_cond11 v1 k0_t3 = 1#1), ∀ (hinb : ∀ a, (k0_off205 v1 k0_t3 v2519) a + S1x128x5120.size a ≤ S4x1024x5120.size a), (Rect.unit (s := S4x1024x5120) (k0_off205 v1 k0_t3 v2519) S1x128x5120.size hinb).WholeWords (EltTy.packing .i8))
theorem k0_off199_inb : ∀ (v1 : BitVec 32) (k0_t3 : Fin (k0_t3_loop v1).trips) (v2519 : BitVec 32) (k0_hw14 : k0_chk14 v1 k0_t3 v2519), ∀ (k0_h11 : k0_cond11 v1 k0_t3 = 1#1), ∀ a, (k0_off199 v1 k0_t3 v2519) a + S1x2560x256.size a ≤ S4x2560x4096.size a := fun v1 k0_t3 v2519 k0_hw14 k0_h11 => k0_hw14.1 k0_h11
theorem k0_off199_wordsi8 : ∀ (v1 : BitVec 32) (k0_t3 : Fin (k0_t3_loop v1).trips) (v2519 : BitVec 32) (k0_hw14 : k0_chk14 v1 k0_t3 v2519), ∀ (k0_h11 : k0_cond11 v1 k0_t3 = 1#1), (Rect.unit (s := S4x2560x4096) (k0_off199 v1 k0_t3 v2519) S1x2560x256.size (k0_off199_inb v1 k0_t3 v2519 k0_hw14 k0_h11)).WholeWords (EltTy.packing .i8) := fun v1 k0_t3 v2519 k0_hw14 k0_h11 => k0_hw14.2.1 k0_h11 (k0_off199_inb v1 k0_t3 v2519 k0_hw14 k0_h11)
theorem k0_off202_inb : ∀ (v1 : BitVec 32) (k0_t3 : Fin (k0_t3_loop v1).trips) (v2519 : BitVec 32) (k0_hw14 : k0_chk14 v1 k0_t3 v2519), ∀ (k0_h11 : k0_cond11 v1 k0_t3 = 1#1), ∀ a, (k0_off202 v1 k0_t3 v2519) a + S1x2560x256.size a ≤ S4x2560x4096.size a := fun v1 k0_t3 v2519 k0_hw14 k0_h11 => k0_hw14.2.2.1 k0_h11
theorem k0_off202_wordsi8 : ∀ (v1 : BitVec 32) (k0_t3 : Fin (k0_t3_loop v1).trips) (v2519 : BitVec 32) (k0_hw14 : k0_chk14 v1 k0_t3 v2519), ∀ (k0_h11 : k0_cond11 v1 k0_t3 = 1#1), (Rect.unit (s := S4x2560x4096) (k0_off202 v1 k0_t3 v2519) S1x2560x256.size (k0_off202_inb v1 k0_t3 v2519 k0_hw14 k0_h11)).WholeWords (EltTy.packing .i8) := fun v1 k0_t3 v2519 k0_hw14 k0_h11 => k0_hw14.2.2.2.1 k0_h11 (k0_off202_inb v1 k0_t3 v2519 k0_hw14 k0_h11)
theorem k0_off205_inb : ∀ (v1 : BitVec 32) (k0_t3 : Fin (k0_t3_loop v1).trips) (v2519 : BitVec 32) (k0_hw14 : k0_chk14 v1 k0_t3 v2519), ∀ (k0_h11 : k0_cond11 v1 k0_t3 = 1#1), ∀ a, (k0_off205 v1 k0_t3 v2519) a + S1x128x5120.size a ≤ S4x1024x5120.size a := fun v1 k0_t3 v2519 k0_hw14 k0_h11 => k0_hw14.2.2.2.2.1 k0_h11
theorem k0_off205_wordsi8 : ∀ (v1 : BitVec 32) (k0_t3 : Fin (k0_t3_loop v1).trips) (v2519 : BitVec 32) (k0_hw14 : k0_chk14 v1 k0_t3 v2519), ∀ (k0_h11 : k0_cond11 v1 k0_t3 = 1#1), (Rect.unit (s := S4x1024x5120) (k0_off205 v1 k0_t3 v2519) S1x128x5120.size (k0_off205_inb v1 k0_t3 v2519 k0_hw14 k0_h11)).WholeWords (EltTy.packing .i8) := fun v1 k0_t3 v2519 k0_hw14 k0_h11 => k0_hw14.2.2.2.2.2 k0_h11 (k0_off205_inb v1 k0_t3 v2519 k0_hw14 k0_h11)

def k0_mult16 (v1 : BitVec 32) (k0_t3 : Fin (k0_t3_loop v1).trips) : BitVec 32 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  v154
def k0_off206 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v160 : Index := Scalar.indexCast v143
  let c0_98 : Index := 0#32
  let c0_99 : Index := 0#32
  ![v160.toNat, 0, 0]
def k0_off207 (v1 : BitVec 32) (k0_t3 : Fin (k0_t3_loop v1).trips) : Fin 2 → Nat :=
  let c0_100 : Index := 0#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v163 : Index := Scalar.indexCast v155
  ![0, v163.toNat]
def k0_off208 (v1 : BitVec 32) (k0_t3 : Fin (k0_t3_loop v1).trips) : Fin 2 → Nat :=
  let c0_107 : Index := 0#32
  let c2048_i32_106 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v197 : BitVec 32 := Scalar.addi c2048_i32_106 v155
  let v198 : Index := Scalar.indexCast v197
  ![0, v198.toNat]
def k0_off209 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v231 : Index := Scalar.indexCast v143
  let c128 : Index := 128#32
  let c0_114 : Index := 0#32
  ![v231.toNat, 128, 0]
def k0_off210 (v1 : BitVec 32) (k0_t3 : Fin (k0_t3_loop v1).trips) : Fin 2 → Nat :=
  let c2 : Index := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v234 : Index := Scalar.indexCast v155
  ![2, v234.toNat]
def k0_off211 (v1 : BitVec 32) (k0_t3 : Fin (k0_t3_loop v1).trips) : Fin 2 → Nat :=
  let c2_123 : Index := 2#32
  let c2048_i32_122 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v268 : BitVec 32 := Scalar.addi c2048_i32_122 v155
  let v269 : Index := Scalar.indexCast v268
  ![2, v269.toNat]
def k0_off212 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v302 : Index := Scalar.indexCast v143
  let c256_130 : Index := 256#32
  let c0_131 : Index := 0#32
  ![v302.toNat, 256, 0]
def k0_off213 (v1 : BitVec 32) (k0_t3 : Fin (k0_t3_loop v1).trips) : Fin 2 → Nat :=
  let c4 : Index := 4#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v305 : Index := Scalar.indexCast v155
  ![4, v305.toNat]
def k0_off214 (v1 : BitVec 32) (k0_t3 : Fin (k0_t3_loop v1).trips) : Fin 2 → Nat :=
  let c4_140 : Index := 4#32
  let c2048_i32_139 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v339 : BitVec 32 := Scalar.addi c2048_i32_139 v155
  let v340 : Index := Scalar.indexCast v339
  ![4, v340.toNat]
def k0_off215 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v373 : Index := Scalar.indexCast v143
  let c384 : Index := 384#32
  let c0_147 : Index := 0#32
  ![v373.toNat, 384, 0]
def k0_off216 (v1 : BitVec 32) (k0_t3 : Fin (k0_t3_loop v1).trips) : Fin 2 → Nat :=
  let c6 : Index := 6#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v376 : Index := Scalar.indexCast v155
  ![6, v376.toNat]
def k0_off217 (v1 : BitVec 32) (k0_t3 : Fin (k0_t3_loop v1).trips) : Fin 2 → Nat :=
  let c6_156 : Index := 6#32
  let c2048_i32_155 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v410 : BitVec 32 := Scalar.addi c2048_i32_155 v155
  let v411 : Index := Scalar.indexCast v410
  ![6, v411.toNat]
def k0_off218 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v444 : Index := Scalar.indexCast v143
  let c512_163 : Index := 512#32
  let c0_164 : Index := 0#32
  ![v444.toNat, 512, 0]
def k0_off219 (v1 : BitVec 32) (k0_t3 : Fin (k0_t3_loop v1).trips) : Fin 2 → Nat :=
  let c8 : Index := 8#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v447 : Index := Scalar.indexCast v155
  ![8, v447.toNat]
def k0_off220 (v1 : BitVec 32) (k0_t3 : Fin (k0_t3_loop v1).trips) : Fin 2 → Nat :=
  let c8_173 : Index := 8#32
  let c2048_i32_172 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v481 : BitVec 32 := Scalar.addi c2048_i32_172 v155
  let v482 : Index := Scalar.indexCast v481
  ![8, v482.toNat]
def k0_off221 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v515 : Index := Scalar.indexCast v143
  let c640 : Index := 640#32
  let c0_180 : Index := 0#32
  ![v515.toNat, 640, 0]
def k0_off222 (v1 : BitVec 32) (k0_t3 : Fin (k0_t3_loop v1).trips) : Fin 2 → Nat :=
  let c10 : Index := 10#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v518 : Index := Scalar.indexCast v155
  ![10, v518.toNat]
def k0_off223 (v1 : BitVec 32) (k0_t3 : Fin (k0_t3_loop v1).trips) : Fin 2 → Nat :=
  let c10_189 : Index := 10#32
  let c2048_i32_188 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v552 : BitVec 32 := Scalar.addi c2048_i32_188 v155
  let v553 : Index := Scalar.indexCast v552
  ![10, v553.toNat]
def k0_off224 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v586 : Index := Scalar.indexCast v143
  let c768_196 : Index := 768#32
  let c0_197 : Index := 0#32
  ![v586.toNat, 768, 0]
def k0_off225 (v1 : BitVec 32) (k0_t3 : Fin (k0_t3_loop v1).trips) : Fin 2 → Nat :=
  let c12 : Index := 12#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v589 : Index := Scalar.indexCast v155
  ![12, v589.toNat]
def k0_off226 (v1 : BitVec 32) (k0_t3 : Fin (k0_t3_loop v1).trips) : Fin 2 → Nat :=
  let c12_206 : Index := 12#32
  let c2048_i32_205 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v623 : BitVec 32 := Scalar.addi c2048_i32_205 v155
  let v624 : Index := Scalar.indexCast v623
  ![12, v624.toNat]
def k0_off227 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v657 : Index := Scalar.indexCast v143
  let c896 : Index := 896#32
  let c0_213 : Index := 0#32
  ![v657.toNat, 896, 0]
def k0_off228 (v1 : BitVec 32) (k0_t3 : Fin (k0_t3_loop v1).trips) : Fin 2 → Nat :=
  let c14 : Index := 14#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v660 : Index := Scalar.indexCast v155
  ![14, v660.toNat]
def k0_off229 (v1 : BitVec 32) (k0_t3 : Fin (k0_t3_loop v1).trips) : Fin 2 → Nat :=
  let c14_222 : Index := 14#32
  let c2048_i32_221 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v694 : BitVec 32 := Scalar.addi c2048_i32_221 v155
  let v695 : Index := Scalar.indexCast v694
  ![14, v695.toNat]
def k0_off230 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v728 : Index := Scalar.indexCast v143
  let c1024_229 : Index := 1024#32
  let c0_230 : Index := 0#32
  ![v728.toNat, 1024, 0]
def k0_off231 (v1 : BitVec 32) (k0_t3 : Fin (k0_t3_loop v1).trips) : Fin 2 → Nat :=
  let c16 : Index := 16#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v731 : Index := Scalar.indexCast v155
  ![16, v731.toNat]
def k0_off232 (v1 : BitVec 32) (k0_t3 : Fin (k0_t3_loop v1).trips) : Fin 2 → Nat :=
  let c16_239 : Index := 16#32
  let c2048_i32_238 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v765 : BitVec 32 := Scalar.addi c2048_i32_238 v155
  let v766 : Index := Scalar.indexCast v765
  ![16, v766.toNat]
def k0_off233 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v799 : Index := Scalar.indexCast v143
  let c1152 : Index := 1152#32
  let c0_246 : Index := 0#32
  ![v799.toNat, 1152, 0]
def k0_off234 (v1 : BitVec 32) (k0_t3 : Fin (k0_t3_loop v1).trips) : Fin 2 → Nat :=
  let c18 : Index := 18#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v802 : Index := Scalar.indexCast v155
  ![18, v802.toNat]
def k0_off235 (v1 : BitVec 32) (k0_t3 : Fin (k0_t3_loop v1).trips) : Fin 2 → Nat :=
  let c18_255 : Index := 18#32
  let c2048_i32_254 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v836 : BitVec 32 := Scalar.addi c2048_i32_254 v155
  let v837 : Index := Scalar.indexCast v836
  ![18, v837.toNat]
def k0_off236 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v870 : Index := Scalar.indexCast v143
  let c1280_262 : Index := 1280#32
  let c0_263 : Index := 0#32
  ![v870.toNat, 1280, 0]
def k0_off237 (v1 : BitVec 32) (k0_t3 : Fin (k0_t3_loop v1).trips) : Fin 2 → Nat :=
  let c20 : Index := 20#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v873 : Index := Scalar.indexCast v155
  ![20, v873.toNat]
def k0_off238 (v1 : BitVec 32) (k0_t3 : Fin (k0_t3_loop v1).trips) : Fin 2 → Nat :=
  let c20_272 : Index := 20#32
  let c2048_i32_271 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v907 : BitVec 32 := Scalar.addi c2048_i32_271 v155
  let v908 : Index := Scalar.indexCast v907
  ![20, v908.toNat]
def k0_off239 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v941 : Index := Scalar.indexCast v143
  let c1408 : Index := 1408#32
  let c0_279 : Index := 0#32
  ![v941.toNat, 1408, 0]
def k0_off240 (v1 : BitVec 32) (k0_t3 : Fin (k0_t3_loop v1).trips) : Fin 2 → Nat :=
  let c22 : Index := 22#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v944 : Index := Scalar.indexCast v155
  ![22, v944.toNat]
def k0_off241 (v1 : BitVec 32) (k0_t3 : Fin (k0_t3_loop v1).trips) : Fin 2 → Nat :=
  let c22_288 : Index := 22#32
  let c2048_i32_287 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v978 : BitVec 32 := Scalar.addi c2048_i32_287 v155
  let v979 : Index := Scalar.indexCast v978
  ![22, v979.toNat]
def k0_off242 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1012 : Index := Scalar.indexCast v143
  let c1536_295 : Index := 1536#32
  let c0_296 : Index := 0#32
  ![v1012.toNat, 1536, 0]
def k0_off243 (v1 : BitVec 32) (k0_t3 : Fin (k0_t3_loop v1).trips) : Fin 2 → Nat :=
  let c24 : Index := 24#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1015 : Index := Scalar.indexCast v155
  ![24, v1015.toNat]
def k0_off244 (v1 : BitVec 32) (k0_t3 : Fin (k0_t3_loop v1).trips) : Fin 2 → Nat :=
  let c24_305 : Index := 24#32
  let c2048_i32_304 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1049 : BitVec 32 := Scalar.addi c2048_i32_304 v155
  let v1050 : Index := Scalar.indexCast v1049
  ![24, v1050.toNat]
def k0_off245 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1083 : Index := Scalar.indexCast v143
  let c1664 : Index := 1664#32
  let c0_312 : Index := 0#32
  ![v1083.toNat, 1664, 0]
def k0_off246 (v1 : BitVec 32) (k0_t3 : Fin (k0_t3_loop v1).trips) : Fin 2 → Nat :=
  let c26 : Index := 26#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1086 : Index := Scalar.indexCast v155
  ![26, v1086.toNat]
def k0_off247 (v1 : BitVec 32) (k0_t3 : Fin (k0_t3_loop v1).trips) : Fin 2 → Nat :=
  let c26_321 : Index := 26#32
  let c2048_i32_320 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1120 : BitVec 32 := Scalar.addi c2048_i32_320 v155
  let v1121 : Index := Scalar.indexCast v1120
  ![26, v1121.toNat]
def k0_off248 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1154 : Index := Scalar.indexCast v143
  let c1792_328 : Index := 1792#32
  let c0_329 : Index := 0#32
  ![v1154.toNat, 1792, 0]
def k0_off249 (v1 : BitVec 32) (k0_t3 : Fin (k0_t3_loop v1).trips) : Fin 2 → Nat :=
  let c28 : Index := 28#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1157 : Index := Scalar.indexCast v155
  ![28, v1157.toNat]
def k0_off250 (v1 : BitVec 32) (k0_t3 : Fin (k0_t3_loop v1).trips) : Fin 2 → Nat :=
  let c28_338 : Index := 28#32
  let c2048_i32_337 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1191 : BitVec 32 := Scalar.addi c2048_i32_337 v155
  let v1192 : Index := Scalar.indexCast v1191
  ![28, v1192.toNat]
def k0_off251 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1225 : Index := Scalar.indexCast v143
  let c1920 : Index := 1920#32
  let c0_345 : Index := 0#32
  ![v1225.toNat, 1920, 0]
def k0_off252 (v1 : BitVec 32) (k0_t3 : Fin (k0_t3_loop v1).trips) : Fin 2 → Nat :=
  let c30 : Index := 30#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1228 : Index := Scalar.indexCast v155
  ![30, v1228.toNat]
def k0_off253 (v1 : BitVec 32) (k0_t3 : Fin (k0_t3_loop v1).trips) : Fin 2 → Nat :=
  let c30_354 : Index := 30#32
  let c2048_i32_353 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1262 : BitVec 32 := Scalar.addi c2048_i32_353 v155
  let v1263 : Index := Scalar.indexCast v1262
  ![30, v1263.toNat]
def k0_off254 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1296 : Index := Scalar.indexCast v143
  let c2048_361 : Index := 2048#32
  let c0_362 : Index := 0#32
  ![v1296.toNat, 2048, 0]
def k0_off255 (v1 : BitVec 32) (k0_t3 : Fin (k0_t3_loop v1).trips) : Fin 2 → Nat :=
  let c32 : Index := 32#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1299 : Index := Scalar.indexCast v155
  ![32, v1299.toNat]
def k0_off256 (v1 : BitVec 32) (k0_t3 : Fin (k0_t3_loop v1).trips) : Fin 2 → Nat :=
  let c32_371 : Index := 32#32
  let c2048_i32_370 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1333 : BitVec 32 := Scalar.addi c2048_i32_370 v155
  let v1334 : Index := Scalar.indexCast v1333
  ![32, v1334.toNat]
def k0_off257 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1367 : Index := Scalar.indexCast v143
  let c2176 : Index := 2176#32
  let c0_378 : Index := 0#32
  ![v1367.toNat, 2176, 0]
def k0_off258 (v1 : BitVec 32) (k0_t3 : Fin (k0_t3_loop v1).trips) : Fin 2 → Nat :=
  let c34 : Index := 34#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1370 : Index := Scalar.indexCast v155
  ![34, v1370.toNat]
def k0_off259 (v1 : BitVec 32) (k0_t3 : Fin (k0_t3_loop v1).trips) : Fin 2 → Nat :=
  let c34_387 : Index := 34#32
  let c2048_i32_386 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1404 : BitVec 32 := Scalar.addi c2048_i32_386 v155
  let v1405 : Index := Scalar.indexCast v1404
  ![34, v1405.toNat]
def k0_off260 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1438 : Index := Scalar.indexCast v143
  let c2304_394 : Index := 2304#32
  let c0_395 : Index := 0#32
  ![v1438.toNat, 2304, 0]
def k0_off261 (v1 : BitVec 32) (k0_t3 : Fin (k0_t3_loop v1).trips) : Fin 2 → Nat :=
  let c36 : Index := 36#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1441 : Index := Scalar.indexCast v155
  ![36, v1441.toNat]
def k0_off262 (v1 : BitVec 32) (k0_t3 : Fin (k0_t3_loop v1).trips) : Fin 2 → Nat :=
  let c36_404 : Index := 36#32
  let c2048_i32_403 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1475 : BitVec 32 := Scalar.addi c2048_i32_403 v155
  let v1476 : Index := Scalar.indexCast v1475
  ![36, v1476.toNat]
def k0_off263 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_81 : BitVec 32 := 4#32
  let c0_i32_82 : BitVec 32 := 0#32
  let v134 : BitVec 1 := Scalar.cmpi .eq c4_i32_81 c0_i32_82
  let c1_i32_83 : BitVec 32 := 1#32
  let v135 : BitVec 32 := Scalar.select v134 c1_i32_83 c4_i32_81
  let v136 : BitVec 32 := Scalar.remsi arg21 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let v1509 : Index := Scalar.indexCast v143
  let c2432 : Index := 2432#32
  let c0_411 : Index := 0#32
  ![v1509.toNat, 2432, 0]
def k0_off264 (v1 : BitVec 32) (k0_t3 : Fin (k0_t3_loop v1).trips) : Fin 2 → Nat :=
  let c38 : Index := 38#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1512 : Index := Scalar.indexCast v155
  ![38, v1512.toNat]
def k0_off265 (v1 : BitVec 32) (k0_t3 : Fin (k0_t3_loop v1).trips) : Fin 2 → Nat :=
  let c38_420 : Index := 38#32
  let c2048_i32_419 : BitVec 32 := 2048#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_87 : BitVec 32 := 8#32
  let c0_i32_88 : BitVec 32 := 0#32
  let v144 : BitVec 1 := Scalar.cmpi .eq c8_i32_87 c0_i32_88
  let c1_i32_89 : BitVec 32 := 1#32
  let v145 : BitVec 32 := Scalar.select v144 c1_i32_89 c8_i32_87
  let v146 : BitVec 32 := Scalar.remsi arg21 v145
  let c0_i32_91 : BitVec 32 := 0#32
  let v148 : BitVec 1 := Scalar.cmpi .slt v146 c0_i32_91
  let c0_i32_92 : BitVec 32 := 0#32
  let v149 : BitVec 1 := Scalar.cmpi .slt v145 c0_i32_92
  let v150 : BitVec 1 := Scalar.xori v148 v149
  let c0_i32_90 : BitVec 32 := 0#32
  let v147 : BitVec 1 := Scalar.cmpi .ne v146 c0_i32_90
  let v151 : BitVec 1 := Scalar.andi v150 v147
  let v152 : BitVec 32 := Scalar.addi v146 v145
  let v153 : BitVec 32 := Scalar.select v151 v152 v146
  let c256_i32_93 : BitVec 32 := 256#32
  let v154 : BitVec 32 := Scalar.muli v153 c256_i32_93
  let v155 : BitVec 32 := v154
  let v1546 : BitVec 32 := Scalar.addi c2048_i32_419 v155
  let v1547 : Index := Scalar.indexCast v1546
  ![38, v1547.toNat]
def k0_off266 (v1 : BitVec 32) (k0_t3 : Fin (k0_t3_loop v1).trips) : Fin 2 → Nat :=
  let c2_i32_442 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1606 : BitVec 32 := Scalar.muli c2_i32_442 v1604
  let v1607 : Index := Scalar.indexCast v1606
  let c0_443 : Index := 0#32
  ![v1607.toNat, 0]
def k0_off267 (v1 : BitVec 32) (k0_t3 : Fin (k0_t3_loop v1).trips) : Fin 2 → Nat :=
  let c2_i32_444 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1609 : BitVec 32 := Scalar.muli c2_i32_444 v1604
  let c1_i32_445 : BitVec 32 := 1#32
  let v1610 : BitVec 32 := Scalar.addi v1609 c1_i32_445
  let v1611 : Index := Scalar.indexCast v1610
  let c0_446 : Index := 0#32
  ![v1611.toNat, 0]
def k0_off268 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1614 : Index := Scalar.indexCast v1594
  let c0_447 : Index := 0#32
  let c0_448 : Index := 0#32
  ![v1614.toNat, 0, 0]
def k0_off269 (v1 : BitVec 32) (k0_t3 : Fin (k0_t3_loop v1).trips) : Fin 2 → Nat :=
  let c2_i32_458 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1650 : BitVec 32 := Scalar.muli c2_i32_458 v1604
  let v1651 : Index := Scalar.indexCast v1650
  let c256_459 : Index := 256#32
  ![v1651.toNat, 256]
def k0_off270 (v1 : BitVec 32) (k0_t3 : Fin (k0_t3_loop v1).trips) : Fin 2 → Nat :=
  let c2_i32_460 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1653 : BitVec 32 := Scalar.muli c2_i32_460 v1604
  let c1_i32_461 : BitVec 32 := 1#32
  let v1654 : BitVec 32 := Scalar.addi v1653 c1_i32_461
  let v1655 : Index := Scalar.indexCast v1654
  let c256_462 : Index := 256#32
  ![v1655.toNat, 256]
def k0_off271 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1658 : Index := Scalar.indexCast v1594
  let c0_463 : Index := 0#32
  let c256_464 : Index := 256#32
  ![v1658.toNat, 0, 256]
def k0_off272 (v1 : BitVec 32) (k0_t3 : Fin (k0_t3_loop v1).trips) : Fin 2 → Nat :=
  let c2_i32_474 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1694 : BitVec 32 := Scalar.muli c2_i32_474 v1604
  let v1695 : Index := Scalar.indexCast v1694
  let c512_475 : Index := 512#32
  ![v1695.toNat, 512]
def k0_off273 (v1 : BitVec 32) (k0_t3 : Fin (k0_t3_loop v1).trips) : Fin 2 → Nat :=
  let c2_i32_476 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1697 : BitVec 32 := Scalar.muli c2_i32_476 v1604
  let c1_i32_477 : BitVec 32 := 1#32
  let v1698 : BitVec 32 := Scalar.addi v1697 c1_i32_477
  let v1699 : Index := Scalar.indexCast v1698
  let c512_478 : Index := 512#32
  ![v1699.toNat, 512]
def k0_off274 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1702 : Index := Scalar.indexCast v1594
  let c0_479 : Index := 0#32
  let c512_480 : Index := 512#32
  ![v1702.toNat, 0, 512]
def k0_off275 (v1 : BitVec 32) (k0_t3 : Fin (k0_t3_loop v1).trips) : Fin 2 → Nat :=
  let c2_i32_490 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1738 : BitVec 32 := Scalar.muli c2_i32_490 v1604
  let v1739 : Index := Scalar.indexCast v1738
  let c768_491 : Index := 768#32
  ![v1739.toNat, 768]
def k0_off276 (v1 : BitVec 32) (k0_t3 : Fin (k0_t3_loop v1).trips) : Fin 2 → Nat :=
  let c2_i32_492 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1741 : BitVec 32 := Scalar.muli c2_i32_492 v1604
  let c1_i32_493 : BitVec 32 := 1#32
  let v1742 : BitVec 32 := Scalar.addi v1741 c1_i32_493
  let v1743 : Index := Scalar.indexCast v1742
  let c768_494 : Index := 768#32
  ![v1743.toNat, 768]
def k0_off277 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1746 : Index := Scalar.indexCast v1594
  let c0_495 : Index := 0#32
  let c768_496 : Index := 768#32
  ![v1746.toNat, 0, 768]
def k0_off278 (v1 : BitVec 32) (k0_t3 : Fin (k0_t3_loop v1).trips) : Fin 2 → Nat :=
  let c2_i32_506 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1782 : BitVec 32 := Scalar.muli c2_i32_506 v1604
  let v1783 : Index := Scalar.indexCast v1782
  let c1024_507 : Index := 1024#32
  ![v1783.toNat, 1024]
def k0_off279 (v1 : BitVec 32) (k0_t3 : Fin (k0_t3_loop v1).trips) : Fin 2 → Nat :=
  let c2_i32_508 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1785 : BitVec 32 := Scalar.muli c2_i32_508 v1604
  let c1_i32_509 : BitVec 32 := 1#32
  let v1786 : BitVec 32 := Scalar.addi v1785 c1_i32_509
  let v1787 : Index := Scalar.indexCast v1786
  let c1024_510 : Index := 1024#32
  ![v1787.toNat, 1024]
def k0_off280 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1790 : Index := Scalar.indexCast v1594
  let c0_511 : Index := 0#32
  let c1024_512 : Index := 1024#32
  ![v1790.toNat, 0, 1024]
def k0_off281 (v1 : BitVec 32) (k0_t3 : Fin (k0_t3_loop v1).trips) : Fin 2 → Nat :=
  let c2_i32_522 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1826 : BitVec 32 := Scalar.muli c2_i32_522 v1604
  let v1827 : Index := Scalar.indexCast v1826
  let c1280_523 : Index := 1280#32
  ![v1827.toNat, 1280]
def k0_off282 (v1 : BitVec 32) (k0_t3 : Fin (k0_t3_loop v1).trips) : Fin 2 → Nat :=
  let c2_i32_524 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1829 : BitVec 32 := Scalar.muli c2_i32_524 v1604
  let c1_i32_525 : BitVec 32 := 1#32
  let v1830 : BitVec 32 := Scalar.addi v1829 c1_i32_525
  let v1831 : Index := Scalar.indexCast v1830
  let c1280_526 : Index := 1280#32
  ![v1831.toNat, 1280]
def k0_off283 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1834 : Index := Scalar.indexCast v1594
  let c0_527 : Index := 0#32
  let c1280_528 : Index := 1280#32
  ![v1834.toNat, 0, 1280]
def k0_off284 (v1 : BitVec 32) (k0_t3 : Fin (k0_t3_loop v1).trips) : Fin 2 → Nat :=
  let c2_i32_538 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1870 : BitVec 32 := Scalar.muli c2_i32_538 v1604
  let v1871 : Index := Scalar.indexCast v1870
  let c1536_539 : Index := 1536#32
  ![v1871.toNat, 1536]
def k0_off285 (v1 : BitVec 32) (k0_t3 : Fin (k0_t3_loop v1).trips) : Fin 2 → Nat :=
  let c2_i32_540 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1873 : BitVec 32 := Scalar.muli c2_i32_540 v1604
  let c1_i32_541 : BitVec 32 := 1#32
  let v1874 : BitVec 32 := Scalar.addi v1873 c1_i32_541
  let v1875 : Index := Scalar.indexCast v1874
  let c1536_542 : Index := 1536#32
  ![v1875.toNat, 1536]
def k0_off286 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1878 : Index := Scalar.indexCast v1594
  let c0_543 : Index := 0#32
  let c1536_544 : Index := 1536#32
  ![v1878.toNat, 0, 1536]
def k0_off287 (v1 : BitVec 32) (k0_t3 : Fin (k0_t3_loop v1).trips) : Fin 2 → Nat :=
  let c2_i32_554 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1914 : BitVec 32 := Scalar.muli c2_i32_554 v1604
  let v1915 : Index := Scalar.indexCast v1914
  let c1792_555 : Index := 1792#32
  ![v1915.toNat, 1792]
def k0_off288 (v1 : BitVec 32) (k0_t3 : Fin (k0_t3_loop v1).trips) : Fin 2 → Nat :=
  let c2_i32_556 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1917 : BitVec 32 := Scalar.muli c2_i32_556 v1604
  let c1_i32_557 : BitVec 32 := 1#32
  let v1918 : BitVec 32 := Scalar.addi v1917 c1_i32_557
  let v1919 : Index := Scalar.indexCast v1918
  let c1792_558 : Index := 1792#32
  ![v1919.toNat, 1792]
def k0_off289 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1922 : Index := Scalar.indexCast v1594
  let c0_559 : Index := 0#32
  let c1792_560 : Index := 1792#32
  ![v1922.toNat, 0, 1792]
def k0_off290 (v1 : BitVec 32) (k0_t3 : Fin (k0_t3_loop v1).trips) : Fin 2 → Nat :=
  let c2_i32_570 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1958 : BitVec 32 := Scalar.muli c2_i32_570 v1604
  let v1959 : Index := Scalar.indexCast v1958
  let c2048_571 : Index := 2048#32
  ![v1959.toNat, 2048]
def k0_off291 (v1 : BitVec 32) (k0_t3 : Fin (k0_t3_loop v1).trips) : Fin 2 → Nat :=
  let c2_i32_572 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v1961 : BitVec 32 := Scalar.muli c2_i32_572 v1604
  let c1_i32_573 : BitVec 32 := 1#32
  let v1962 : BitVec 32 := Scalar.addi v1961 c1_i32_573
  let v1963 : Index := Scalar.indexCast v1962
  let c2048_574 : Index := 2048#32
  ![v1963.toNat, 2048]
def k0_off292 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v1966 : Index := Scalar.indexCast v1594
  let c0_575 : Index := 0#32
  let c2048_576 : Index := 2048#32
  ![v1966.toNat, 0, 2048]
def k0_off293 (v1 : BitVec 32) (k0_t3 : Fin (k0_t3_loop v1).trips) : Fin 2 → Nat :=
  let c2_i32_586 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2002 : BitVec 32 := Scalar.muli c2_i32_586 v1604
  let v2003 : Index := Scalar.indexCast v2002
  let c2304_587 : Index := 2304#32
  ![v2003.toNat, 2304]
def k0_off294 (v1 : BitVec 32) (k0_t3 : Fin (k0_t3_loop v1).trips) : Fin 2 → Nat :=
  let c2_i32_588 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2005 : BitVec 32 := Scalar.muli c2_i32_588 v1604
  let c1_i32_589 : BitVec 32 := 1#32
  let v2006 : BitVec 32 := Scalar.addi v2005 c1_i32_589
  let v2007 : Index := Scalar.indexCast v2006
  let c2304_590 : Index := 2304#32
  ![v2007.toNat, 2304]
def k0_off295 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2010 : Index := Scalar.indexCast v1594
  let c0_591 : Index := 0#32
  let c2304_592 : Index := 2304#32
  ![v2010.toNat, 0, 2304]
def k0_off296 (v1 : BitVec 32) (k0_t3 : Fin (k0_t3_loop v1).trips) : Fin 2 → Nat :=
  let c2_i32_602 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2046 : BitVec 32 := Scalar.muli c2_i32_602 v1604
  let v2047 : Index := Scalar.indexCast v2046
  let c2560_603 : Index := 2560#32
  ![v2047.toNat, 2560]
def k0_off297 (v1 : BitVec 32) (k0_t3 : Fin (k0_t3_loop v1).trips) : Fin 2 → Nat :=
  let c2_i32_604 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2049 : BitVec 32 := Scalar.muli c2_i32_604 v1604
  let c1_i32_605 : BitVec 32 := 1#32
  let v2050 : BitVec 32 := Scalar.addi v2049 c1_i32_605
  let v2051 : Index := Scalar.indexCast v2050
  let c2560_606 : Index := 2560#32
  ![v2051.toNat, 2560]
def k0_off298 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2054 : Index := Scalar.indexCast v1594
  let c0_607 : Index := 0#32
  let c2560_608 : Index := 2560#32
  ![v2054.toNat, 0, 2560]
def k0_off299 (v1 : BitVec 32) (k0_t3 : Fin (k0_t3_loop v1).trips) : Fin 2 → Nat :=
  let c2_i32_618 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2090 : BitVec 32 := Scalar.muli c2_i32_618 v1604
  let v2091 : Index := Scalar.indexCast v2090
  let c2816_619 : Index := 2816#32
  ![v2091.toNat, 2816]
def k0_off300 (v1 : BitVec 32) (k0_t3 : Fin (k0_t3_loop v1).trips) : Fin 2 → Nat :=
  let c2_i32_620 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2093 : BitVec 32 := Scalar.muli c2_i32_620 v1604
  let c1_i32_621 : BitVec 32 := 1#32
  let v2094 : BitVec 32 := Scalar.addi v2093 c1_i32_621
  let v2095 : Index := Scalar.indexCast v2094
  let c2816_622 : Index := 2816#32
  ![v2095.toNat, 2816]
def k0_off301 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2098 : Index := Scalar.indexCast v1594
  let c0_623 : Index := 0#32
  let c2816_624 : Index := 2816#32
  ![v2098.toNat, 0, 2816]
def k0_off302 (v1 : BitVec 32) (k0_t3 : Fin (k0_t3_loop v1).trips) : Fin 2 → Nat :=
  let c2_i32_634 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2134 : BitVec 32 := Scalar.muli c2_i32_634 v1604
  let v2135 : Index := Scalar.indexCast v2134
  let c3072_635 : Index := 3072#32
  ![v2135.toNat, 3072]
def k0_off303 (v1 : BitVec 32) (k0_t3 : Fin (k0_t3_loop v1).trips) : Fin 2 → Nat :=
  let c2_i32_636 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2137 : BitVec 32 := Scalar.muli c2_i32_636 v1604
  let c1_i32_637 : BitVec 32 := 1#32
  let v2138 : BitVec 32 := Scalar.addi v2137 c1_i32_637
  let v2139 : Index := Scalar.indexCast v2138
  let c3072_638 : Index := 3072#32
  ![v2139.toNat, 3072]
def k0_off304 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2142 : Index := Scalar.indexCast v1594
  let c0_639 : Index := 0#32
  let c3072_640 : Index := 3072#32
  ![v2142.toNat, 0, 3072]
def k0_off305 (v1 : BitVec 32) (k0_t3 : Fin (k0_t3_loop v1).trips) : Fin 2 → Nat :=
  let c2_i32_650 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2178 : BitVec 32 := Scalar.muli c2_i32_650 v1604
  let v2179 : Index := Scalar.indexCast v2178
  let c3328_651 : Index := 3328#32
  ![v2179.toNat, 3328]
def k0_off306 (v1 : BitVec 32) (k0_t3 : Fin (k0_t3_loop v1).trips) : Fin 2 → Nat :=
  let c2_i32_652 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2181 : BitVec 32 := Scalar.muli c2_i32_652 v1604
  let c1_i32_653 : BitVec 32 := 1#32
  let v2182 : BitVec 32 := Scalar.addi v2181 c1_i32_653
  let v2183 : Index := Scalar.indexCast v2182
  let c3328_654 : Index := 3328#32
  ![v2183.toNat, 3328]
def k0_off307 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2186 : Index := Scalar.indexCast v1594
  let c0_655 : Index := 0#32
  let c3328_656 : Index := 3328#32
  ![v2186.toNat, 0, 3328]
def k0_off308 (v1 : BitVec 32) (k0_t3 : Fin (k0_t3_loop v1).trips) : Fin 2 → Nat :=
  let c2_i32_666 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2222 : BitVec 32 := Scalar.muli c2_i32_666 v1604
  let v2223 : Index := Scalar.indexCast v2222
  let c3584_667 : Index := 3584#32
  ![v2223.toNat, 3584]
def k0_off309 (v1 : BitVec 32) (k0_t3 : Fin (k0_t3_loop v1).trips) : Fin 2 → Nat :=
  let c2_i32_668 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2225 : BitVec 32 := Scalar.muli c2_i32_668 v1604
  let c1_i32_669 : BitVec 32 := 1#32
  let v2226 : BitVec 32 := Scalar.addi v2225 c1_i32_669
  let v2227 : Index := Scalar.indexCast v2226
  let c3584_670 : Index := 3584#32
  ![v2227.toNat, 3584]
def k0_off310 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2230 : Index := Scalar.indexCast v1594
  let c0_671 : Index := 0#32
  let c3584_672 : Index := 3584#32
  ![v2230.toNat, 0, 3584]
def k0_off311 (v1 : BitVec 32) (k0_t3 : Fin (k0_t3_loop v1).trips) : Fin 2 → Nat :=
  let c2_i32_682 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2266 : BitVec 32 := Scalar.muli c2_i32_682 v1604
  let v2267 : Index := Scalar.indexCast v2266
  let c3840_683 : Index := 3840#32
  ![v2267.toNat, 3840]
def k0_off312 (v1 : BitVec 32) (k0_t3 : Fin (k0_t3_loop v1).trips) : Fin 2 → Nat :=
  let c2_i32_684 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2269 : BitVec 32 := Scalar.muli c2_i32_684 v1604
  let c1_i32_685 : BitVec 32 := 1#32
  let v2270 : BitVec 32 := Scalar.addi v2269 c1_i32_685
  let v2271 : Index := Scalar.indexCast v2270
  let c3840_686 : Index := 3840#32
  ![v2271.toNat, 3840]
def k0_off313 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2274 : Index := Scalar.indexCast v1594
  let c0_687 : Index := 0#32
  let c3840_688 : Index := 3840#32
  ![v2274.toNat, 0, 3840]
def k0_off314 (v1 : BitVec 32) (k0_t3 : Fin (k0_t3_loop v1).trips) : Fin 2 → Nat :=
  let c2_i32_698 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2310 : BitVec 32 := Scalar.muli c2_i32_698 v1604
  let v2311 : Index := Scalar.indexCast v2310
  let c4096_699 : Index := 4096#32
  ![v2311.toNat, 4096]
def k0_off315 (v1 : BitVec 32) (k0_t3 : Fin (k0_t3_loop v1).trips) : Fin 2 → Nat :=
  let c2_i32_700 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2313 : BitVec 32 := Scalar.muli c2_i32_700 v1604
  let c1_i32_701 : BitVec 32 := 1#32
  let v2314 : BitVec 32 := Scalar.addi v2313 c1_i32_701
  let v2315 : Index := Scalar.indexCast v2314
  let c4096_702 : Index := 4096#32
  ![v2315.toNat, 4096]
def k0_off316 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2318 : Index := Scalar.indexCast v1594
  let c0_703 : Index := 0#32
  let c4096_704 : Index := 4096#32
  ![v2318.toNat, 0, 4096]
def k0_off317 (v1 : BitVec 32) (k0_t3 : Fin (k0_t3_loop v1).trips) : Fin 2 → Nat :=
  let c2_i32_714 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2354 : BitVec 32 := Scalar.muli c2_i32_714 v1604
  let v2355 : Index := Scalar.indexCast v2354
  let c4352_715 : Index := 4352#32
  ![v2355.toNat, 4352]
def k0_off318 (v1 : BitVec 32) (k0_t3 : Fin (k0_t3_loop v1).trips) : Fin 2 → Nat :=
  let c2_i32_716 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2357 : BitVec 32 := Scalar.muli c2_i32_716 v1604
  let c1_i32_717 : BitVec 32 := 1#32
  let v2358 : BitVec 32 := Scalar.addi v2357 c1_i32_717
  let v2359 : Index := Scalar.indexCast v2358
  let c4352_718 : Index := 4352#32
  ![v2359.toNat, 4352]
def k0_off319 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2362 : Index := Scalar.indexCast v1594
  let c0_719 : Index := 0#32
  let c4352_720 : Index := 4352#32
  ![v2362.toNat, 0, 4352]
def k0_off320 (v1 : BitVec 32) (k0_t3 : Fin (k0_t3_loop v1).trips) : Fin 2 → Nat :=
  let c2_i32_730 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2398 : BitVec 32 := Scalar.muli c2_i32_730 v1604
  let v2399 : Index := Scalar.indexCast v2398
  let c4608_731 : Index := 4608#32
  ![v2399.toNat, 4608]
def k0_off321 (v1 : BitVec 32) (k0_t3 : Fin (k0_t3_loop v1).trips) : Fin 2 → Nat :=
  let c2_i32_732 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2401 : BitVec 32 := Scalar.muli c2_i32_732 v1604
  let c1_i32_733 : BitVec 32 := 1#32
  let v2402 : BitVec 32 := Scalar.addi v2401 c1_i32_733
  let v2403 : Index := Scalar.indexCast v2402
  let c4608_734 : Index := 4608#32
  ![v2403.toNat, 4608]
def k0_off322 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2406 : Index := Scalar.indexCast v1594
  let c0_735 : Index := 0#32
  let c4608_736 : Index := 4608#32
  ![v2406.toNat, 0, 4608]
def k0_off323 (v1 : BitVec 32) (k0_t3 : Fin (k0_t3_loop v1).trips) : Fin 2 → Nat :=
  let c2_i32_746 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2442 : BitVec 32 := Scalar.muli c2_i32_746 v1604
  let v2443 : Index := Scalar.indexCast v2442
  let c4864_747 : Index := 4864#32
  ![v2443.toNat, 4864]
def k0_off324 (v1 : BitVec 32) (k0_t3 : Fin (k0_t3_loop v1).trips) : Fin 2 → Nat :=
  let c2_i32_748 : BitVec 32 := 2#32
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_434 : BitVec 32 := 8#32
  let c0_i32_435 : BitVec 32 := 0#32
  let v1595 : BitVec 1 := Scalar.cmpi .eq c8_i32_434 c0_i32_435
  let c1_i32_436 : BitVec 32 := 1#32
  let v1596 : BitVec 32 := Scalar.select v1595 c1_i32_436 c8_i32_434
  let v1597 : BitVec 32 := Scalar.remsi arg21 v1596
  let c0_i32_438 : BitVec 32 := 0#32
  let v1599 : BitVec 1 := Scalar.cmpi .slt v1597 c0_i32_438
  let c0_i32_439 : BitVec 32 := 0#32
  let v1600 : BitVec 1 := Scalar.cmpi .slt v1596 c0_i32_439
  let v1601 : BitVec 1 := Scalar.xori v1599 v1600
  let c0_i32_437 : BitVec 32 := 0#32
  let v1598 : BitVec 1 := Scalar.cmpi .ne v1597 c0_i32_437
  let v1602 : BitVec 1 := Scalar.andi v1601 v1598
  let v1603 : BitVec 32 := Scalar.addi v1597 v1596
  let v1604 : BitVec 32 := Scalar.select v1602 v1603 v1597
  let v2445 : BitVec 32 := Scalar.muli c2_i32_748 v1604
  let c1_i32_749 : BitVec 32 := 1#32
  let v2446 : BitVec 32 := Scalar.addi v2445 c1_i32_749
  let v2447 : Index := Scalar.indexCast v2446
  let c4864_750 : Index := 4864#32
  ![v2447.toNat, 4864]
def k0_off325 (v1 : BitVec 32) (k0_t3 : Fin (k0_t3_loop v1).trips) : Fin 3 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c4_i32_428 : BitVec 32 := 4#32
  let c0_i32_429 : BitVec 32 := 0#32
  let v1585 : BitVec 1 := Scalar.cmpi .eq c4_i32_428 c0_i32_429
  let c1_i32_430 : BitVec 32 := 1#32
  let v1586 : BitVec 32 := Scalar.select v1585 c1_i32_430 c4_i32_428
  let v1587 : BitVec 32 := Scalar.remsi arg21 v1586
  let c0_i32_432 : BitVec 32 := 0#32
  let v1589 : BitVec 1 := Scalar.cmpi .slt v1587 c0_i32_432
  let c0_i32_433 : BitVec 32 := 0#32
  let v1590 : BitVec 1 := Scalar.cmpi .slt v1586 c0_i32_433
  let v1591 : BitVec 1 := Scalar.xori v1589 v1590
  let c0_i32_431 : BitVec 32 := 0#32
  let v1588 : BitVec 1 := Scalar.cmpi .ne v1587 c0_i32_431
  let v1592 : BitVec 1 := Scalar.andi v1591 v1588
  let v1593 : BitVec 32 := Scalar.addi v1587 v1586
  let v1594 : BitVec 32 := Scalar.select v1592 v1593 v1587
  let v2450 : Index := Scalar.indexCast v1594
  let c0_751 : Index := 0#32
  let c4864_752 : Index := 4864#32
  ![v2450.toNat, 0, 4864]
def k0_off326 (v1 : BitVec 32) (k0_t3 : Fin (k0_t3_loop v1).trips) : Fin 1 → Nat :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c0_i32_33 : BitVec 32 := 0#32
  let v38 : BitVec 1 := Scalar.cmpi .sgt arg21 c0_i32_33
  let v39 : BitVec 32 := Scalar.extui v38
  let c0_i32_34 : BitVec 32 := 0#32
  let v40 : BitVec 1 := Scalar.cmpi .slt arg21 c0_i32_34
  let v41 : BitVec 32 := Scalar.extui v40
  let v42 : BitVec 32 := Scalar.subi v39 v41
  let c8_i32_32 : BitVec 32 := 8#32
  let c0_i32_35 : BitVec 32 := 0#32
  let v43 : BitVec 1 := Scalar.cmpi .sgt c8_i32_32 c0_i32_35
  let v44 : BitVec 32 := Scalar.extui v43
  let c0_i32_36 : BitVec 32 := 0#32
  let v45 : BitVec 1 := Scalar.cmpi .slt c8_i32_32 c0_i32_36
  let v46 : BitVec 32 := Scalar.extui v45
  let v47 : BitVec 32 := Scalar.subi v44 v46
  let v48 : BitVec 1 := Scalar.cmpi .ne v42 v47
  let v49 : BitVec 32 := Scalar.remsi arg21 c8_i32_32
  let c0_i32_37 : BitVec 32 := 0#32
  let v50 : BitVec 1 := Scalar.cmpi .ne v49 c0_i32_37
  let v51 : BitVec 1 := Scalar.andi v48 v50
  let v37 : BitVec 32 := Scalar.divsi arg21 c8_i32_32
  let c1_i32_38 : BitVec 32 := 1#32
  let v52 : BitVec 32 := Scalar.subi v37 c1_i32_38
  let v53 : BitVec 32 := Scalar.select v51 v52 v37
  let v2499 : Index := Scalar.indexCast v53
  ![v2499.toNat]
def k0_cond12 (v1 : BitVec 32) (k0_t3 : Fin (k0_t3_loop v1).trips) : BitVec 1 :=
  let c0_i32_24 : BitVec 32 := 0#32
  let c8_i32 : BitVec 32 := 8#32
  let v2 : BitVec 32 := Scalar.muli v1 c8_i32
  let v29 : BitVec 32 := Scalar.subi v2 c0_i32_24
  let c1_i32_25 : BitVec 32 := 1#32
  let v31 : BitVec 32 := Scalar.divsi v29 c1_i32_25
  let v32 : BitVec 32 := Scalar.muli v31 c1_i32_25
  let v33 : BitVec 32 := Scalar.addi c0_i32_24 v32
  let c1_i32_27 : BitVec 32 := 1#32
  let arg21 : BitVec 32 := Scf.iv v33 c1_i32_27 k0_t3
  let c8_i32_762 : BitVec 32 := 8#32
  let c0_i32_763 : BitVec 32 := 0#32
  let v2486 : BitVec 1 := Scalar.cmpi .eq c8_i32_762 c0_i32_763
  let c1_i32_764 : BitVec 32 := 1#32
  let v2487 : BitVec 32 := Scalar.select v2486 c1_i32_764 c8_i32_762
  let v2488 : BitVec 32 := Scalar.remsi arg21 v2487
  let c0_i32_766 : BitVec 32 := 0#32
  let v2490 : BitVec 1 := Scalar.cmpi .slt v2488 c0_i32_766
  let c0_i32_767 : BitVec 32 := 0#32
  let v2491 : BitVec 1 := Scalar.cmpi .slt v2487 c0_i32_767
  let v2492 : BitVec 1 := Scalar.xori v2490 v2491
  let c0_i32_765 : BitVec 32 := 0#32
  let v2489 : BitVec 1 := Scalar.cmpi .ne v2488 c0_i32_765
  let v2493 : BitVec 1 := Scalar.andi v2492 v2489
  let v2494 : BitVec 32 := Scalar.addi v2488 v2487
  let v2495 : BitVec 32 := Scalar.select v2493 v2494 v2488
  let c7_i32 : BitVec 32 := 7#32
  let v2496 : BitVec 1 := Scalar.cmpi .eq v2495 c7_i32
  let v2497 : BitVec 32 := Scalar.extui v2496
  let c0_i32_768 : BitVec 32 := 0#32
  let v2498 : BitVec 1 := Scalar.cmpi .ne v2497 c0_i32_768
  v2498

def k0_chk6_0 (v1 : BitVec 32) : Prop :=
  ((k0_t2_loop v1).OK) ∧
  (∀ k0_t2 : Fin (k0_t2_loop v1).trips, ∀ (k0_h5 : k0_cond5 v1 k0_t2 = 1#1), ∀ (k0_h6 : k0_cond6 v1 k0_t2 = 1#1), ∀ a, (k0_off13 v1 k0_t2) a + S1.size a ≤ S4.size a) ∧
  (∀ k0_t2 : Fin (k0_t2_loop v1).trips, ∀ (k0_h5 : k0_cond5 v1 k0_t2 = 1#1), ∀ (k0_h6 : k0_cond6 v1 k0_t2 = 1#1), ∀ a, (k0_off14 v1 k0_t2) a + S1x1.size a ≤ S2x2.size a) ∧
  (∀ k0_t2 : Fin (k0_t2_loop v1).trips, ∀ (k0_h5 : k0_cond5 v1 k0_t2 = 1#1), ∀ (k0_h6 : k0_cond6 v1 k0_t2 = 1#1), ∀ a, (k0_off15 v1 k0_t2) a + S1x40x4096.size a ≤ S2x40x4096.size a) ∧
  (∀ k0_t2 : Fin (k0_t2_loop v1).trips, ∀ (k0_h5 : k0_cond5 v1 k0_t2 = 1#1), ∀ (k0_h6 : k0_cond6 v1 k0_t2 = 1#1), ∀ (hinb : ∀ a, (k0_off15 v1 k0_t2) a + S1x40x4096.size a ≤ S2x40x4096.size a), (Rect.unit (s := S2x40x4096) (k0_off15 v1 k0_t2) S1x40x4096.size hinb).WholeWords (EltTy.packing .bf16)) ∧
  (∀ k0_t2 : Fin (k0_t2_loop v1).trips, ∀ (k0_h5 : k0_cond5 v1 k0_t2 = 1#1), ∀ (k0_h6 : k0_cond6 v1 k0_t2 = 1#1), ∀ a, (k0_off17 v1 k0_t2) a + S1x1.size a ≤ S2x2.size a) ∧
  (∀ k0_t2 : Fin (k0_t2_loop v1).trips, ∀ (k0_h5 : k0_cond5 v1 k0_t2 = 1#1), ∀ (k0_h6 : k0_cond6 v1 k0_t2 = 1#1), ∀ a, (k0_off18 v1 k0_t2) a + S1x16x5120.size a ≤ S2x16x5120.size a) ∧
  (∀ k0_t2 : Fin (k0_t2_loop v1).trips, ∀ (k0_h5 : k0_cond5 v1 k0_t2 = 1#1), ∀ (k0_h6 : k0_cond6 v1 k0_t2 = 1#1), ∀ (hinb : ∀ a, (k0_off18 v1 k0_t2) a + S1x16x5120.size a ≤ S2x16x5120.size a), (Rect.unit (s := S2x16x5120) (k0_off18 v1 k0_t2) S1x16x5120.size hinb).WholeWords (EltTy.packing .bf16)) ∧
  (∀ k0_t2 : Fin (k0_t2_loop v1).trips, ∀ (k0_h5 : k0_cond5 v1 k0_t2 = 1#1), ∀ a, (k0_off20 v1 k0_t2) a + S1.size a ≤ S4.size a) ∧
  (∀ k0_t2 : Fin (k0_t2_loop v1).trips, ∀ (k0_h5 : k0_cond5 v1 k0_t2 = 1#1), ∀ a, (k0_off21 v1 k0_t2) a + S1x1.size a ≤ S2x2.size a) ∧
  (∀ k0_t2 : Fin (k0_t2_loop v1).trips, ∀ (k0_h5 : k0_cond5 v1 k0_t2 = 1#1), ∀ a, (k0_off22 v1 k0_t2) a + S1x40x4096.size a ≤ S2x40x4096.size a) ∧
  (∀ k0_t2 : Fin (k0_t2_loop v1).trips, ∀ (k0_h5 : k0_cond5 v1 k0_t2 = 1#1), ∀ (hinb : ∀ a, (k0_off22 v1 k0_t2) a + S1x40x4096.size a ≤ S2x40x4096.size a), (Rect.unit (s := S2x40x4096) (k0_off22 v1 k0_t2) S1x40x4096.size hinb).WholeWords (EltTy.packing .bf16)) ∧
  (∀ k0_t2 : Fin (k0_t2_loop v1).trips, ∀ (k0_h5 : k0_cond5 v1 k0_t2 = 1#1), ∀ a, (k0_off24 v1 k0_t2) a + S1x1.size a ≤ S2x2.size a) ∧
  (∀ k0_t2 : Fin (k0_t2_loop v1).trips, ∀ (k0_h5 : k0_cond5 v1 k0_t2 = 1#1), ∀ a, (k0_off25 v1 k0_t2) a + S1x16x5120.size a ≤ S2x16x5120.size a) ∧
  (∀ k0_t2 : Fin (k0_t2_loop v1).trips, ∀ (k0_h5 : k0_cond5 v1 k0_t2 = 1#1), ∀ (hinb : ∀ a, (k0_off25 v1 k0_t2) a + S1x16x5120.size a ≤ S2x16x5120.size a), (Rect.unit (s := S2x16x5120) (k0_off25 v1 k0_t2) S1x16x5120.size hinb).WholeWords (EltTy.packing .bf16)) ∧
  (∀ k0_t2 : Fin (k0_t2_loop v1).trips, ∀ (k0_h5 : k0_cond5 v1 k0_t2 = 1#1), ∀ a, (k0_off27 v1 k0_t2) a + S1x40x4096.size a ≤ S2x40x4096.size a) ∧
  (∀ k0_t2 : Fin (k0_t2_loop v1).trips, ∀ (k0_h5 : k0_cond5 v1 k0_t2 = 1#1), ∀ a, (k0_off28 v1 k0_t2) a + S1x16x5120.size a ≤ S2x16x5120.size a) ∧
  (∀ k0_t2 : Fin (k0_t2_loop v1).trips, ∀ a, (k0_off29 v1 k0_t2) a + S1.size a ≤ S4.size a) ∧
  (∀ k0_t2 : Fin (k0_t2_loop v1).trips, 256 ∣ (k0_mult7 v1 k0_t2).toNat) ∧
  (∀ k0_t2 : Fin (k0_t2_loop v1).trips, 128 ∣ (k0_mult8 v1 k0_t2).toNat) ∧
  (∀ k0_t2 : Fin (k0_t2_loop v1).trips, ∀ a, (k0_off30 v1 k0_t2) a + S1x1.size a ≤ S3x4.size a) ∧
  (∀ k0_t2 : Fin (k0_t2_loop v1).trips, ∀ a, (k0_off31 v1 k0_t2) a + S1x2560x256.size a ≤ S4x2560x256.size a) ∧
  (∀ k0_t2 : Fin (k0_t2_loop v1).trips, ∀ (hinb : ∀ a, (k0_off31 v1 k0_t2) a + S1x2560x256.size a ≤ S4x2560x256.size a), (Rect.unit (s := S4x2560x256) (k0_off31 v1 k0_t2) S1x2560x256.size hinb).WholeWords (EltTy.packing .i8)) ∧
  (∀ k0_t2 : Fin (k0_t2_loop v1).trips, ∀ a, (k0_off33 v1 k0_t2) a + S1x1.size a ≤ S3x4.size a) ∧
  (∀ k0_t2 : Fin (k0_t2_loop v1).trips, ∀ a, (k0_off34 v1 k0_t2) a + S1x2560x256.size a ≤ S4x2560x256.size a) ∧
  (∀ k0_t2 : Fin (k0_t2_loop v1).trips, ∀ (hinb : ∀ a, (k0_off34 v1 k0_t2) a + S1x2560x256.size a ≤ S4x2560x256.size a), (Rect.unit (s := S4x2560x256) (k0_off34 v1 k0_t2) S1x2560x256.size hinb).WholeWords (EltTy.packing .i8)) ∧
  (∀ k0_t2 : Fin (k0_t2_loop v1).trips, ∀ a, (k0_off36 v1 k0_t2) a + S1x1.size a ≤ S3x4.size a) ∧
  (∀ k0_t2 : Fin (k0_t2_loop v1).trips, ∀ a, (k0_off37 v1 k0_t2) a + S1x128x5120.size a ≤ S4x128x5120.size a) ∧
  (∀ k0_t2 : Fin (k0_t2_loop v1).trips, ∀ (hinb : ∀ a, (k0_off37 v1 k0_t2) a + S1x128x5120.size a ≤ S4x128x5120.size a), (Rect.unit (s := S4x128x5120) (k0_off37 v1 k0_t2) S1x128x5120.size hinb).WholeWords (EltTy.packing .i8)) ∧
  (∀ k0_t2 : Fin (k0_t2_loop v1).trips, ∀ (k0_h7 : k0_cond7 v1 k0_t2 = 1#1), ∀ a, (k0_off39 v1 k0_t2) a + S1.size a ≤ S4.size a) ∧
  (∀ k0_t2 : Fin (k0_t2_loop v1).trips, ∀ (k0_h7 : k0_cond7 v1 k0_t2 = 1#1), 256 ∣ (k0_mult9 v1 k0_t2).toNat) ∧
  (∀ k0_t2 : Fin (k0_t2_loop v1).trips, ∀ (k0_h7 : k0_cond7 v1 k0_t2 = 1#1), 128 ∣ (k0_mult10 v1 k0_t2).toNat)
def k0_chk6_1 (v1 : BitVec 32) : Prop :=
  (∀ k0_t2 : Fin (k0_t2_loop v1).trips, ∀ (k0_h7 : k0_cond7 v1 k0_t2 = 1#1), ∀ a, (k0_off40 v1 k0_t2) a + S1x1.size a ≤ S3x4.size a) ∧
  (∀ k0_t2 : Fin (k0_t2_loop v1).trips, ∀ (k0_h7 : k0_cond7 v1 k0_t2 = 1#1), ∀ a, (k0_off41 v1 k0_t2) a + S1x2560x256.size a ≤ S4x2560x256.size a) ∧
  (∀ k0_t2 : Fin (k0_t2_loop v1).trips, ∀ (k0_h7 : k0_cond7 v1 k0_t2 = 1#1), ∀ (hinb : ∀ a, (k0_off41 v1 k0_t2) a + S1x2560x256.size a ≤ S4x2560x256.size a), (Rect.unit (s := S4x2560x256) (k0_off41 v1 k0_t2) S1x2560x256.size hinb).WholeWords (EltTy.packing .i8)) ∧
  (∀ k0_t2 : Fin (k0_t2_loop v1).trips, ∀ (k0_h7 : k0_cond7 v1 k0_t2 = 1#1), ∀ a, (k0_off43 v1 k0_t2) a + S1x1.size a ≤ S3x4.size a) ∧
  (∀ k0_t2 : Fin (k0_t2_loop v1).trips, ∀ (k0_h7 : k0_cond7 v1 k0_t2 = 1#1), ∀ a, (k0_off44 v1 k0_t2) a + S1x2560x256.size a ≤ S4x2560x256.size a) ∧
  (∀ k0_t2 : Fin (k0_t2_loop v1).trips, ∀ (k0_h7 : k0_cond7 v1 k0_t2 = 1#1), ∀ (hinb : ∀ a, (k0_off44 v1 k0_t2) a + S1x2560x256.size a ≤ S4x2560x256.size a), (Rect.unit (s := S4x2560x256) (k0_off44 v1 k0_t2) S1x2560x256.size hinb).WholeWords (EltTy.packing .i8)) ∧
  (∀ k0_t2 : Fin (k0_t2_loop v1).trips, ∀ (k0_h7 : k0_cond7 v1 k0_t2 = 1#1), ∀ a, (k0_off46 v1 k0_t2) a + S1x1.size a ≤ S3x4.size a) ∧
  (∀ k0_t2 : Fin (k0_t2_loop v1).trips, ∀ (k0_h7 : k0_cond7 v1 k0_t2 = 1#1), ∀ a, (k0_off47 v1 k0_t2) a + S1x128x5120.size a ≤ S4x128x5120.size a) ∧
  (∀ k0_t2 : Fin (k0_t2_loop v1).trips, ∀ (k0_h7 : k0_cond7 v1 k0_t2 = 1#1), ∀ (hinb : ∀ a, (k0_off47 v1 k0_t2) a + S1x128x5120.size a ≤ S4x128x5120.size a), (Rect.unit (s := S4x128x5120) (k0_off47 v1 k0_t2) S1x128x5120.size hinb).WholeWords (EltTy.packing .i8)) ∧
  (∀ k0_t2 : Fin (k0_t2_loop v1).trips, 256 ∣ (k0_mult11 v1 k0_t2).toNat) ∧
  (∀ k0_t2 : Fin (k0_t2_loop v1).trips, ∀ a, (k0_off49 v1 k0_t2) a + S1x128x256.size a ≤ S4x2560x256.size a) ∧
  (∀ k0_t2 : Fin (k0_t2_loop v1).trips, ∀ a, (k0_off50 v1 k0_t2) a + S2x256.size a ≤ S40x4096.size a) ∧
  (∀ k0_t2 : Fin (k0_t2_loop v1).trips, ∀ a, (k0_off51 v1 k0_t2) a + S2x256.size a ≤ S40x4096.size a) ∧
  (∀ k0_t2 : Fin (k0_t2_loop v1).trips, ∀ a, (k0_off52 v1 k0_t2) a + S1x128x256.size a ≤ S4x2560x256.size a) ∧
  (∀ k0_t2 : Fin (k0_t2_loop v1).trips, ∀ a, (k0_off53 v1 k0_t2) a + S2x256.size a ≤ S40x4096.size a) ∧
  (∀ k0_t2 : Fin (k0_t2_loop v1).trips, ∀ a, (k0_off54 v1 k0_t2) a + S2x256.size a ≤ S40x4096.size a) ∧
  (∀ k0_t2 : Fin (k0_t2_loop v1).trips, ∀ a, (k0_off55 v1 k0_t2) a + S1x128x256.size a ≤ S4x2560x256.size a) ∧
  (∀ k0_t2 : Fin (k0_t2_loop v1).trips, ∀ a, (k0_off56 v1 k0_t2) a + S2x256.size a ≤ S40x4096.size a) ∧
  (∀ k0_t2 : Fin (k0_t2_loop v1).trips, ∀ a, (k0_off57 v1 k0_t2) a + S2x256.size a ≤ S40x4096.size a) ∧
  (∀ k0_t2 : Fin (k0_t2_loop v1).trips, ∀ a, (k0_off58 v1 k0_t2) a + S1x128x256.size a ≤ S4x2560x256.size a) ∧
  (∀ k0_t2 : Fin (k0_t2_loop v1).trips, ∀ a, (k0_off59 v1 k0_t2) a + S2x256.size a ≤ S40x4096.size a) ∧
  (∀ k0_t2 : Fin (k0_t2_loop v1).trips, ∀ a, (k0_off60 v1 k0_t2) a + S2x256.size a ≤ S40x4096.size a) ∧
  (∀ k0_t2 : Fin (k0_t2_loop v1).trips, ∀ a, (k0_off61 v1 k0_t2) a + S1x128x256.size a ≤ S4x2560x256.size a) ∧
  (∀ k0_t2 : Fin (k0_t2_loop v1).trips, ∀ a, (k0_off62 v1 k0_t2) a + S2x256.size a ≤ S40x4096.size a) ∧
  (∀ k0_t2 : Fin (k0_t2_loop v1).trips, ∀ a, (k0_off63 v1 k0_t2) a + S2x256.size a ≤ S40x4096.size a) ∧
  (∀ k0_t2 : Fin (k0_t2_loop v1).trips, ∀ a, (k0_off64 v1 k0_t2) a + S1x128x256.size a ≤ S4x2560x256.size a) ∧
  (∀ k0_t2 : Fin (k0_t2_loop v1).trips, ∀ a, (k0_off65 v1 k0_t2) a + S2x256.size a ≤ S40x4096.size a) ∧
  (∀ k0_t2 : Fin (k0_t2_loop v1).trips, ∀ a, (k0_off66 v1 k0_t2) a + S2x256.size a ≤ S40x4096.size a) ∧
  (∀ k0_t2 : Fin (k0_t2_loop v1).trips, ∀ a, (k0_off67 v1 k0_t2) a + S1x128x256.size a ≤ S4x2560x256.size a) ∧
  (∀ k0_t2 : Fin (k0_t2_loop v1).trips, ∀ a, (k0_off68 v1 k0_t2) a + S2x256.size a ≤ S40x4096.size a) ∧
  (∀ k0_t2 : Fin (k0_t2_loop v1).trips, ∀ a, (k0_off69 v1 k0_t2) a + S2x256.size a ≤ S40x4096.size a) ∧
  (∀ k0_t2 : Fin (k0_t2_loop v1).trips, ∀ a, (k0_off70 v1 k0_t2) a + S1x128x256.size a ≤ S4x2560x256.size a)
def k0_chk6_2 (v1 : BitVec 32) : Prop :=
  (∀ k0_t2 : Fin (k0_t2_loop v1).trips, ∀ a, (k0_off71 v1 k0_t2) a + S2x256.size a ≤ S40x4096.size a) ∧
  (∀ k0_t2 : Fin (k0_t2_loop v1).trips, ∀ a, (k0_off72 v1 k0_t2) a + S2x256.size a ≤ S40x4096.size a) ∧
  (∀ k0_t2 : Fin (k0_t2_loop v1).trips, ∀ a, (k0_off73 v1 k0_t2) a + S1x128x256.size a ≤ S4x2560x256.size a) ∧
  (∀ k0_t2 : Fin (k0_t2_loop v1).trips, ∀ a, (k0_off74 v1 k0_t2) a + S2x256.size a ≤ S40x4096.size a) ∧
  (∀ k0_t2 : Fin (k0_t2_loop v1).trips, ∀ a, (k0_off75 v1 k0_t2) a + S2x256.size a ≤ S40x4096.size a) ∧
  (∀ k0_t2 : Fin (k0_t2_loop v1).trips, ∀ a, (k0_off76 v1 k0_t2) a + S1x128x256.size a ≤ S4x2560x256.size a) ∧
  (∀ k0_t2 : Fin (k0_t2_loop v1).trips, ∀ a, (k0_off77 v1 k0_t2) a + S2x256.size a ≤ S40x4096.size a) ∧
  (∀ k0_t2 : Fin (k0_t2_loop v1).trips, ∀ a, (k0_off78 v1 k0_t2) a + S2x256.size a ≤ S40x4096.size a) ∧
  (∀ k0_t2 : Fin (k0_t2_loop v1).trips, ∀ a, (k0_off79 v1 k0_t2) a + S1x128x256.size a ≤ S4x2560x256.size a) ∧
  (∀ k0_t2 : Fin (k0_t2_loop v1).trips, ∀ a, (k0_off80 v1 k0_t2) a + S2x256.size a ≤ S40x4096.size a) ∧
  (∀ k0_t2 : Fin (k0_t2_loop v1).trips, ∀ a, (k0_off81 v1 k0_t2) a + S2x256.size a ≤ S40x4096.size a) ∧
  (∀ k0_t2 : Fin (k0_t2_loop v1).trips, ∀ a, (k0_off82 v1 k0_t2) a + S1x128x256.size a ≤ S4x2560x256.size a) ∧
  (∀ k0_t2 : Fin (k0_t2_loop v1).trips, ∀ a, (k0_off83 v1 k0_t2) a + S2x256.size a ≤ S40x4096.size a) ∧
  (∀ k0_t2 : Fin (k0_t2_loop v1).trips, ∀ a, (k0_off84 v1 k0_t2) a + S2x256.size a ≤ S40x4096.size a) ∧
  (∀ k0_t2 : Fin (k0_t2_loop v1).trips, ∀ a, (k0_off85 v1 k0_t2) a + S1x128x256.size a ≤ S4x2560x256.size a) ∧
  (∀ k0_t2 : Fin (k0_t2_loop v1).trips, ∀ a, (k0_off86 v1 k0_t2) a + S2x256.size a ≤ S40x4096.size a) ∧
  (∀ k0_t2 : Fin (k0_t2_loop v1).trips, ∀ a, (k0_off87 v1 k0_t2) a + S2x256.size a ≤ S40x4096.size a) ∧
  (∀ k0_t2 : Fin (k0_t2_loop v1).trips, ∀ a, (k0_off88 v1 k0_t2) a + S1x128x256.size a ≤ S4x2560x256.size a) ∧
  (∀ k0_t2 : Fin (k0_t2_loop v1).trips, ∀ a, (k0_off89 v1 k0_t2) a + S2x256.size a ≤ S40x4096.size a) ∧
  (∀ k0_t2 : Fin (k0_t2_loop v1).trips, ∀ a, (k0_off90 v1 k0_t2) a + S2x256.size a ≤ S40x4096.size a) ∧
  (∀ k0_t2 : Fin (k0_t2_loop v1).trips, ∀ a, (k0_off91 v1 k0_t2) a + S1x128x256.size a ≤ S4x2560x256.size a) ∧
  (∀ k0_t2 : Fin (k0_t2_loop v1).trips, ∀ a, (k0_off92 v1 k0_t2) a + S2x256.size a ≤ S40x4096.size a) ∧
  (∀ k0_t2 : Fin (k0_t2_loop v1).trips, ∀ a, (k0_off93 v1 k0_t2) a + S2x256.size a ≤ S40x4096.size a) ∧
  (∀ k0_t2 : Fin (k0_t2_loop v1).trips, ∀ a, (k0_off94 v1 k0_t2) a + S1x128x256.size a ≤ S4x2560x256.size a) ∧
  (∀ k0_t2 : Fin (k0_t2_loop v1).trips, ∀ a, (k0_off95 v1 k0_t2) a + S2x256.size a ≤ S40x4096.size a) ∧
  (∀ k0_t2 : Fin (k0_t2_loop v1).trips, ∀ a, (k0_off96 v1 k0_t2) a + S2x256.size a ≤ S40x4096.size a) ∧
  (∀ k0_t2 : Fin (k0_t2_loop v1).trips, ∀ a, (k0_off97 v1 k0_t2) a + S1x128x256.size a ≤ S4x2560x256.size a) ∧
  (∀ k0_t2 : Fin (k0_t2_loop v1).trips, ∀ a, (k0_off98 v1 k0_t2) a + S2x256.size a ≤ S40x4096.size a) ∧
  (∀ k0_t2 : Fin (k0_t2_loop v1).trips, ∀ a, (k0_off99 v1 k0_t2) a + S2x256.size a ≤ S40x4096.size a) ∧
  (∀ k0_t2 : Fin (k0_t2_loop v1).trips, ∀ a, (k0_off100 v1 k0_t2) a + S1x128x256.size a ≤ S4x2560x256.size a) ∧
  (∀ k0_t2 : Fin (k0_t2_loop v1).trips, ∀ a, (k0_off101 v1 k0_t2) a + S2x256.size a ≤ S40x4096.size a) ∧
  (∀ k0_t2 : Fin (k0_t2_loop v1).trips, ∀ a, (k0_off102 v1 k0_t2) a + S2x256.size a ≤ S40x4096.size a)
def k0_chk6_3 (v1 : BitVec 32) : Prop :=
  (∀ k0_t2 : Fin (k0_t2_loop v1).trips, ∀ a, (k0_off103 v1 k0_t2) a + S1x128x256.size a ≤ S4x2560x256.size a) ∧
  (∀ k0_t2 : Fin (k0_t2_loop v1).trips, ∀ a, (k0_off104 v1 k0_t2) a + S2x256.size a ≤ S40x4096.size a) ∧
  (∀ k0_t2 : Fin (k0_t2_loop v1).trips, ∀ a, (k0_off105 v1 k0_t2) a + S2x256.size a ≤ S40x4096.size a) ∧
  (∀ k0_t2 : Fin (k0_t2_loop v1).trips, ∀ a, (k0_off106 v1 k0_t2) a + S1x128x256.size a ≤ S4x2560x256.size a) ∧
  (∀ k0_t2 : Fin (k0_t2_loop v1).trips, ∀ a, (k0_off107 v1 k0_t2) a + S2x256.size a ≤ S40x4096.size a) ∧
  (∀ k0_t2 : Fin (k0_t2_loop v1).trips, ∀ a, (k0_off108 v1 k0_t2) a + S2x256.size a ≤ S40x4096.size a) ∧
  (∀ k0_t2 : Fin (k0_t2_loop v1).trips, ∀ a, (k0_off109 v1 k0_t2) a + S1x256.size a ≤ S16x5120.size a) ∧
  (∀ k0_t2 : Fin (k0_t2_loop v1).trips, ∀ a, (k0_off110 v1 k0_t2) a + S1x256.size a ≤ S16x5120.size a) ∧
  (∀ k0_t2 : Fin (k0_t2_loop v1).trips, ∀ a, (k0_off111 v1 k0_t2) a + S1x128x256.size a ≤ S4x128x5120.size a) ∧
  (∀ k0_t2 : Fin (k0_t2_loop v1).trips, ∀ a, (k0_off112 v1 k0_t2) a + S1x256.size a ≤ S16x5120.size a) ∧
  (∀ k0_t2 : Fin (k0_t2_loop v1).trips, ∀ a, (k0_off113 v1 k0_t2) a + S1x256.size a ≤ S16x5120.size a) ∧
  (∀ k0_t2 : Fin (k0_t2_loop v1).trips, ∀ a, (k0_off114 v1 k0_t2) a + S1x128x256.size a ≤ S4x128x5120.size a) ∧
  (∀ k0_t2 : Fin (k0_t2_loop v1).trips, ∀ a, (k0_off115 v1 k0_t2) a + S1x256.size a ≤ S16x5120.size a) ∧
  (∀ k0_t2 : Fin (k0_t2_loop v1).trips, ∀ a, (k0_off116 v1 k0_t2) a + S1x256.size a ≤ S16x5120.size a) ∧
  (∀ k0_t2 : Fin (k0_t2_loop v1).trips, ∀ a, (k0_off117 v1 k0_t2) a + S1x128x256.size a ≤ S4x128x5120.size a) ∧
  (∀ k0_t2 : Fin (k0_t2_loop v1).trips, ∀ a, (k0_off118 v1 k0_t2) a + S1x256.size a ≤ S16x5120.size a) ∧
  (∀ k0_t2 : Fin (k0_t2_loop v1).trips, ∀ a, (k0_off119 v1 k0_t2) a + S1x256.size a ≤ S16x5120.size a) ∧
  (∀ k0_t2 : Fin (k0_t2_loop v1).trips, ∀ a, (k0_off120 v1 k0_t2) a + S1x128x256.size a ≤ S4x128x5120.size a) ∧
  (∀ k0_t2 : Fin (k0_t2_loop v1).trips, ∀ a, (k0_off121 v1 k0_t2) a + S1x256.size a ≤ S16x5120.size a) ∧
  (∀ k0_t2 : Fin (k0_t2_loop v1).trips, ∀ a, (k0_off122 v1 k0_t2) a + S1x256.size a ≤ S16x5120.size a) ∧
  (∀ k0_t2 : Fin (k0_t2_loop v1).trips, ∀ a, (k0_off123 v1 k0_t2) a + S1x128x256.size a ≤ S4x128x5120.size a) ∧
  (∀ k0_t2 : Fin (k0_t2_loop v1).trips, ∀ a, (k0_off124 v1 k0_t2) a + S1x256.size a ≤ S16x5120.size a) ∧
  (∀ k0_t2 : Fin (k0_t2_loop v1).trips, ∀ a, (k0_off125 v1 k0_t2) a + S1x256.size a ≤ S16x5120.size a) ∧
  (∀ k0_t2 : Fin (k0_t2_loop v1).trips, ∀ a, (k0_off126 v1 k0_t2) a + S1x128x256.size a ≤ S4x128x5120.size a) ∧
  (∀ k0_t2 : Fin (k0_t2_loop v1).trips, ∀ a, (k0_off127 v1 k0_t2) a + S1x256.size a ≤ S16x5120.size a) ∧
  (∀ k0_t2 : Fin (k0_t2_loop v1).trips, ∀ a, (k0_off128 v1 k0_t2) a + S1x256.size a ≤ S16x5120.size a) ∧
  (∀ k0_t2 : Fin (k0_t2_loop v1).trips, ∀ a, (k0_off129 v1 k0_t2) a + S1x128x256.size a ≤ S4x128x5120.size a) ∧
  (∀ k0_t2 : Fin (k0_t2_loop v1).trips, ∀ a, (k0_off130 v1 k0_t2) a + S1x256.size a ≤ S16x5120.size a) ∧
  (∀ k0_t2 : Fin (k0_t2_loop v1).trips, ∀ a, (k0_off131 v1 k0_t2) a + S1x256.size a ≤ S16x5120.size a) ∧
  (∀ k0_t2 : Fin (k0_t2_loop v1).trips, ∀ a, (k0_off132 v1 k0_t2) a + S1x128x256.size a ≤ S4x128x5120.size a) ∧
  (∀ k0_t2 : Fin (k0_t2_loop v1).trips, ∀ a, (k0_off133 v1 k0_t2) a + S1x256.size a ≤ S16x5120.size a) ∧
  (∀ k0_t2 : Fin (k0_t2_loop v1).trips, ∀ a, (k0_off134 v1 k0_t2) a + S1x256.size a ≤ S16x5120.size a)
def k0_chk6_4 (v1 : BitVec 32) : Prop :=
  (∀ k0_t2 : Fin (k0_t2_loop v1).trips, ∀ a, (k0_off135 v1 k0_t2) a + S1x128x256.size a ≤ S4x128x5120.size a) ∧
  (∀ k0_t2 : Fin (k0_t2_loop v1).trips, ∀ a, (k0_off136 v1 k0_t2) a + S1x256.size a ≤ S16x5120.size a) ∧
  (∀ k0_t2 : Fin (k0_t2_loop v1).trips, ∀ a, (k0_off137 v1 k0_t2) a + S1x256.size a ≤ S16x5120.size a) ∧
  (∀ k0_t2 : Fin (k0_t2_loop v1).trips, ∀ a, (k0_off138 v1 k0_t2) a + S1x128x256.size a ≤ S4x128x5120.size a) ∧
  (∀ k0_t2 : Fin (k0_t2_loop v1).trips, ∀ a, (k0_off139 v1 k0_t2) a + S1x256.size a ≤ S16x5120.size a) ∧
  (∀ k0_t2 : Fin (k0_t2_loop v1).trips, ∀ a, (k0_off140 v1 k0_t2) a + S1x256.size a ≤ S16x5120.size a) ∧
  (∀ k0_t2 : Fin (k0_t2_loop v1).trips, ∀ a, (k0_off141 v1 k0_t2) a + S1x128x256.size a ≤ S4x128x5120.size a) ∧
  (∀ k0_t2 : Fin (k0_t2_loop v1).trips, ∀ a, (k0_off142 v1 k0_t2) a + S1x256.size a ≤ S16x5120.size a) ∧
  (∀ k0_t2 : Fin (k0_t2_loop v1).trips, ∀ a, (k0_off143 v1 k0_t2) a + S1x256.size a ≤ S16x5120.size a) ∧
  (∀ k0_t2 : Fin (k0_t2_loop v1).trips, ∀ a, (k0_off144 v1 k0_t2) a + S1x128x256.size a ≤ S4x128x5120.size a) ∧
  (∀ k0_t2 : Fin (k0_t2_loop v1).trips, ∀ a, (k0_off145 v1 k0_t2) a + S1x256.size a ≤ S16x5120.size a) ∧
  (∀ k0_t2 : Fin (k0_t2_loop v1).trips, ∀ a, (k0_off146 v1 k0_t2) a + S1x256.size a ≤ S16x5120.size a) ∧
  (∀ k0_t2 : Fin (k0_t2_loop v1).trips, ∀ a, (k0_off147 v1 k0_t2) a + S1x128x256.size a ≤ S4x128x5120.size a) ∧
  (∀ k0_t2 : Fin (k0_t2_loop v1).trips, ∀ a, (k0_off148 v1 k0_t2) a + S1x256.size a ≤ S16x5120.size a) ∧
  (∀ k0_t2 : Fin (k0_t2_loop v1).trips, ∀ a, (k0_off149 v1 k0_t2) a + S1x256.size a ≤ S16x5120.size a) ∧
  (∀ k0_t2 : Fin (k0_t2_loop v1).trips, ∀ a, (k0_off150 v1 k0_t2) a + S1x128x256.size a ≤ S4x128x5120.size a) ∧
  (∀ k0_t2 : Fin (k0_t2_loop v1).trips, ∀ a, (k0_off151 v1 k0_t2) a + S1x256.size a ≤ S16x5120.size a) ∧
  (∀ k0_t2 : Fin (k0_t2_loop v1).trips, ∀ a, (k0_off152 v1 k0_t2) a + S1x256.size a ≤ S16x5120.size a) ∧
  (∀ k0_t2 : Fin (k0_t2_loop v1).trips, ∀ a, (k0_off153 v1 k0_t2) a + S1x128x256.size a ≤ S4x128x5120.size a) ∧
  (∀ k0_t2 : Fin (k0_t2_loop v1).trips, ∀ a, (k0_off154 v1 k0_t2) a + S1x256.size a ≤ S16x5120.size a) ∧
  (∀ k0_t2 : Fin (k0_t2_loop v1).trips, ∀ a, (k0_off155 v1 k0_t2) a + S1x256.size a ≤ S16x5120.size a) ∧
  (∀ k0_t2 : Fin (k0_t2_loop v1).trips, ∀ a, (k0_off156 v1 k0_t2) a + S1x128x256.size a ≤ S4x128x5120.size a) ∧
  (∀ k0_t2 : Fin (k0_t2_loop v1).trips, ∀ a, (k0_off157 v1 k0_t2) a + S1x256.size a ≤ S16x5120.size a) ∧
  (∀ k0_t2 : Fin (k0_t2_loop v1).trips, ∀ a, (k0_off158 v1 k0_t2) a + S1x256.size a ≤ S16x5120.size a) ∧
  (∀ k0_t2 : Fin (k0_t2_loop v1).trips, ∀ a, (k0_off159 v1 k0_t2) a + S1x128x256.size a ≤ S4x128x5120.size a) ∧
  (∀ k0_t2 : Fin (k0_t2_loop v1).trips, ∀ a, (k0_off160 v1 k0_t2) a + S1x256.size a ≤ S16x5120.size a) ∧
  (∀ k0_t2 : Fin (k0_t2_loop v1).trips, ∀ a, (k0_off161 v1 k0_t2) a + S1x256.size a ≤ S16x5120.size a) ∧
  (∀ k0_t2 : Fin (k0_t2_loop v1).trips, ∀ a, (k0_off162 v1 k0_t2) a + S1x128x256.size a ≤ S4x128x5120.size a) ∧
  (∀ k0_t2 : Fin (k0_t2_loop v1).trips, ∀ a, (k0_off163 v1 k0_t2) a + S1x256.size a ≤ S16x5120.size a) ∧
  (∀ k0_t2 : Fin (k0_t2_loop v1).trips, ∀ a, (k0_off164 v1 k0_t2) a + S1x256.size a ≤ S16x5120.size a) ∧
  (∀ k0_t2 : Fin (k0_t2_loop v1).trips, ∀ a, (k0_off165 v1 k0_t2) a + S1x128x256.size a ≤ S4x128x5120.size a) ∧
  (∀ k0_t2 : Fin (k0_t2_loop v1).trips, ∀ a, (k0_off166 v1 k0_t2) a + S1x256.size a ≤ S16x5120.size a)
def k0_chk6_5 (v1 : BitVec 32) : Prop :=
  (∀ k0_t2 : Fin (k0_t2_loop v1).trips, ∀ a, (k0_off167 v1 k0_t2) a + S1x256.size a ≤ S16x5120.size a) ∧
  (∀ k0_t2 : Fin (k0_t2_loop v1).trips, ∀ a, (k0_off168 v1 k0_t2) a + S1x128x256.size a ≤ S4x128x5120.size a) ∧
  (∀ k0_t2 : Fin (k0_t2_loop v1).trips, ∀ (k0_h8 : k0_cond8 v1 k0_t2 = 1#1), ∀ a, (k0_off169 v1 k0_t2) a + S1.size a ≤ S4.size a) ∧
  ((k0_t3_loop v1).OK) ∧
  (∀ k0_t3 : Fin (k0_t3_loop v1).trips, ∀ (k0_h9 : k0_cond9 v1 k0_t3 = 1#1), ∀ (k0_h10 : k0_cond10 v1 k0_t3 = 1#1), ∀ a, (k0_off170 v1 k0_t3) a + S1.size a ≤ S4.size a) ∧
  (∀ k0_t3 : Fin (k0_t3_loop v1).trips, ∀ (k0_h9 : k0_cond9 v1 k0_t3 = 1#1), ∀ (k0_h10 : k0_cond10 v1 k0_t3 = 1#1), ∀ a, (k0_off171 v1 k0_t3) a + S1x1.size a ≤ S2x2.size a) ∧
  (∀ k0_t3 : Fin (k0_t3_loop v1).trips, ∀ (k0_h9 : k0_cond9 v1 k0_t3 = 1#1), ∀ (k0_h10 : k0_cond10 v1 k0_t3 = 1#1), ∀ a, (k0_off172 v1 k0_t3) a + S1x40x4096.size a ≤ S2x40x4096.size a) ∧
  (∀ k0_t3 : Fin (k0_t3_loop v1).trips, ∀ (k0_h9 : k0_cond9 v1 k0_t3 = 1#1), ∀ (k0_h10 : k0_cond10 v1 k0_t3 = 1#1), ∀ (hinb : ∀ a, (k0_off172 v1 k0_t3) a + S1x40x4096.size a ≤ S2x40x4096.size a), (Rect.unit (s := S2x40x4096) (k0_off172 v1 k0_t3) S1x40x4096.size hinb).WholeWords (EltTy.packing .bf16)) ∧
  (∀ k0_t3 : Fin (k0_t3_loop v1).trips, ∀ (k0_h9 : k0_cond9 v1 k0_t3 = 1#1), ∀ (k0_h10 : k0_cond10 v1 k0_t3 = 1#1), ∀ a, (k0_off174 v1 k0_t3) a + S1x1.size a ≤ S2x2.size a) ∧
  (∀ k0_t3 : Fin (k0_t3_loop v1).trips, ∀ (k0_h9 : k0_cond9 v1 k0_t3 = 1#1), ∀ (k0_h10 : k0_cond10 v1 k0_t3 = 1#1), ∀ a, (k0_off175 v1 k0_t3) a + S1x16x5120.size a ≤ S2x16x5120.size a) ∧
  (∀ k0_t3 : Fin (k0_t3_loop v1).trips, ∀ (k0_h9 : k0_cond9 v1 k0_t3 = 1#1), ∀ (k0_h10 : k0_cond10 v1 k0_t3 = 1#1), ∀ (hinb : ∀ a, (k0_off175 v1 k0_t3) a + S1x16x5120.size a ≤ S2x16x5120.size a), (Rect.unit (s := S2x16x5120) (k0_off175 v1 k0_t3) S1x16x5120.size hinb).WholeWords (EltTy.packing .bf16)) ∧
  (∀ k0_t3 : Fin (k0_t3_loop v1).trips, ∀ (k0_h9 : k0_cond9 v1 k0_t3 = 1#1), ∀ a, (k0_off177 v1 k0_t3) a + S1.size a ≤ S4.size a) ∧
  (∀ k0_t3 : Fin (k0_t3_loop v1).trips, ∀ (k0_h9 : k0_cond9 v1 k0_t3 = 1#1), ∀ a, (k0_off178 v1 k0_t3) a + S1x1.size a ≤ S2x2.size a) ∧
  (∀ k0_t3 : Fin (k0_t3_loop v1).trips, ∀ (k0_h9 : k0_cond9 v1 k0_t3 = 1#1), ∀ a, (k0_off179 v1 k0_t3) a + S1x40x4096.size a ≤ S2x40x4096.size a) ∧
  (∀ k0_t3 : Fin (k0_t3_loop v1).trips, ∀ (k0_h9 : k0_cond9 v1 k0_t3 = 1#1), ∀ (hinb : ∀ a, (k0_off179 v1 k0_t3) a + S1x40x4096.size a ≤ S2x40x4096.size a), (Rect.unit (s := S2x40x4096) (k0_off179 v1 k0_t3) S1x40x4096.size hinb).WholeWords (EltTy.packing .bf16)) ∧
  (∀ k0_t3 : Fin (k0_t3_loop v1).trips, ∀ (k0_h9 : k0_cond9 v1 k0_t3 = 1#1), ∀ a, (k0_off181 v1 k0_t3) a + S1x1.size a ≤ S2x2.size a) ∧
  (∀ k0_t3 : Fin (k0_t3_loop v1).trips, ∀ (k0_h9 : k0_cond9 v1 k0_t3 = 1#1), ∀ a, (k0_off182 v1 k0_t3) a + S1x16x5120.size a ≤ S2x16x5120.size a) ∧
  (∀ k0_t3 : Fin (k0_t3_loop v1).trips, ∀ (k0_h9 : k0_cond9 v1 k0_t3 = 1#1), ∀ (hinb : ∀ a, (k0_off182 v1 k0_t3) a + S1x16x5120.size a ≤ S2x16x5120.size a), (Rect.unit (s := S2x16x5120) (k0_off182 v1 k0_t3) S1x16x5120.size hinb).WholeWords (EltTy.packing .bf16)) ∧
  (∀ k0_t3 : Fin (k0_t3_loop v1).trips, ∀ (k0_h9 : k0_cond9 v1 k0_t3 = 1#1), ∀ a, (k0_off184 v1 k0_t3) a + S1x40x4096.size a ≤ S2x40x4096.size a) ∧
  (∀ k0_t3 : Fin (k0_t3_loop v1).trips, ∀ (k0_h9 : k0_cond9 v1 k0_t3 = 1#1), ∀ a, (k0_off185 v1 k0_t3) a + S1x16x5120.size a ≤ S2x16x5120.size a) ∧
  (∀ k0_t3 : Fin (k0_t3_loop v1).trips, ∀ a, (k0_off186 v1 k0_t3) a + S1.size a ≤ S4.size a) ∧
  (∀ k0_t3 : Fin (k0_t3_loop v1).trips, 256 ∣ (k0_mult12 v1 k0_t3).toNat) ∧
  (∀ k0_t3 : Fin (k0_t3_loop v1).trips, 128 ∣ (k0_mult13 v1 k0_t3).toNat) ∧
  (∀ k0_t3 : Fin (k0_t3_loop v1).trips, ∀ a, (k0_off187 v1 k0_t3) a + S1x1.size a ≤ S3x4.size a) ∧
  (∀ k0_t3 : Fin (k0_t3_loop v1).trips, ∀ a, (k0_off188 v1 k0_t3) a + S1x2560x256.size a ≤ S4x2560x256.size a) ∧
  (∀ k0_t3 : Fin (k0_t3_loop v1).trips, ∀ (hinb : ∀ a, (k0_off188 v1 k0_t3) a + S1x2560x256.size a ≤ S4x2560x256.size a), (Rect.unit (s := S4x2560x256) (k0_off188 v1 k0_t3) S1x2560x256.size hinb).WholeWords (EltTy.packing .i8)) ∧
  (∀ k0_t3 : Fin (k0_t3_loop v1).trips, ∀ a, (k0_off190 v1 k0_t3) a + S1x1.size a ≤ S3x4.size a) ∧
  (∀ k0_t3 : Fin (k0_t3_loop v1).trips, ∀ a, (k0_off191 v1 k0_t3) a + S1x2560x256.size a ≤ S4x2560x256.size a) ∧
  (∀ k0_t3 : Fin (k0_t3_loop v1).trips, ∀ (hinb : ∀ a, (k0_off191 v1 k0_t3) a + S1x2560x256.size a ≤ S4x2560x256.size a), (Rect.unit (s := S4x2560x256) (k0_off191 v1 k0_t3) S1x2560x256.size hinb).WholeWords (EltTy.packing .i8)) ∧
  (∀ k0_t3 : Fin (k0_t3_loop v1).trips, ∀ a, (k0_off193 v1 k0_t3) a + S1x1.size a ≤ S3x4.size a) ∧
  (∀ k0_t3 : Fin (k0_t3_loop v1).trips, ∀ a, (k0_off194 v1 k0_t3) a + S1x128x5120.size a ≤ S4x128x5120.size a) ∧
  (∀ k0_t3 : Fin (k0_t3_loop v1).trips, ∀ (hinb : ∀ a, (k0_off194 v1 k0_t3) a + S1x128x5120.size a ≤ S4x128x5120.size a), (Rect.unit (s := S4x128x5120) (k0_off194 v1 k0_t3) S1x128x5120.size hinb).WholeWords (EltTy.packing .i8))
def k0_chk6_6 (v1 : BitVec 32) : Prop :=
  (∀ k0_t3 : Fin (k0_t3_loop v1).trips, ∀ (k0_h11 : k0_cond11 v1 k0_t3 = 1#1), ∀ a, (k0_off196 v1 k0_t3) a + S1.size a ≤ S4.size a) ∧
  (∀ k0_t3 : Fin (k0_t3_loop v1).trips, ∀ (k0_h11 : k0_cond11 v1 k0_t3 = 1#1), 256 ∣ (k0_mult14 v1 k0_t3).toNat) ∧
  (∀ k0_t3 : Fin (k0_t3_loop v1).trips, ∀ (k0_h11 : k0_cond11 v1 k0_t3 = 1#1), 128 ∣ (k0_mult15 v1 k0_t3).toNat) ∧
  (∀ k0_t3 : Fin (k0_t3_loop v1).trips, ∀ (k0_h11 : k0_cond11 v1 k0_t3 = 1#1), ∀ a, (k0_off197 v1 k0_t3) a + S1x1.size a ≤ S3x4.size a) ∧
  (∀ k0_t3 : Fin (k0_t3_loop v1).trips, ∀ (k0_h11 : k0_cond11 v1 k0_t3 = 1#1), ∀ a, (k0_off198 v1 k0_t3) a + S1x2560x256.size a ≤ S4x2560x256.size a) ∧
  (∀ k0_t3 : Fin (k0_t3_loop v1).trips, ∀ (k0_h11 : k0_cond11 v1 k0_t3 = 1#1), ∀ (hinb : ∀ a, (k0_off198 v1 k0_t3) a + S1x2560x256.size a ≤ S4x2560x256.size a), (Rect.unit (s := S4x2560x256) (k0_off198 v1 k0_t3) S1x2560x256.size hinb).WholeWords (EltTy.packing .i8)) ∧
  (∀ k0_t3 : Fin (k0_t3_loop v1).trips, ∀ (k0_h11 : k0_cond11 v1 k0_t3 = 1#1), ∀ a, (k0_off200 v1 k0_t3) a + S1x1.size a ≤ S3x4.size a) ∧
  (∀ k0_t3 : Fin (k0_t3_loop v1).trips, ∀ (k0_h11 : k0_cond11 v1 k0_t3 = 1#1), ∀ a, (k0_off201 v1 k0_t3) a + S1x2560x256.size a ≤ S4x2560x256.size a) ∧
  (∀ k0_t3 : Fin (k0_t3_loop v1).trips, ∀ (k0_h11 : k0_cond11 v1 k0_t3 = 1#1), ∀ (hinb : ∀ a, (k0_off201 v1 k0_t3) a + S1x2560x256.size a ≤ S4x2560x256.size a), (Rect.unit (s := S4x2560x256) (k0_off201 v1 k0_t3) S1x2560x256.size hinb).WholeWords (EltTy.packing .i8)) ∧
  (∀ k0_t3 : Fin (k0_t3_loop v1).trips, ∀ (k0_h11 : k0_cond11 v1 k0_t3 = 1#1), ∀ a, (k0_off203 v1 k0_t3) a + S1x1.size a ≤ S3x4.size a) ∧
  (∀ k0_t3 : Fin (k0_t3_loop v1).trips, ∀ (k0_h11 : k0_cond11 v1 k0_t3 = 1#1), ∀ a, (k0_off204 v1 k0_t3) a + S1x128x5120.size a ≤ S4x128x5120.size a) ∧
  (∀ k0_t3 : Fin (k0_t3_loop v1).trips, ∀ (k0_h11 : k0_cond11 v1 k0_t3 = 1#1), ∀ (hinb : ∀ a, (k0_off204 v1 k0_t3) a + S1x128x5120.size a ≤ S4x128x5120.size a), (Rect.unit (s := S4x128x5120) (k0_off204 v1 k0_t3) S1x128x5120.size hinb).WholeWords (EltTy.packing .i8)) ∧
  (∀ k0_t3 : Fin (k0_t3_loop v1).trips, 256 ∣ (k0_mult16 v1 k0_t3).toNat) ∧
  (∀ k0_t3 : Fin (k0_t3_loop v1).trips, ∀ a, (k0_off206 v1 k0_t3) a + S1x128x256.size a ≤ S4x2560x256.size a) ∧
  (∀ k0_t3 : Fin (k0_t3_loop v1).trips, ∀ a, (k0_off207 v1 k0_t3) a + S2x256.size a ≤ S40x4096.size a) ∧
  (∀ k0_t3 : Fin (k0_t3_loop v1).trips, ∀ a, (k0_off208 v1 k0_t3) a + S2x256.size a ≤ S40x4096.size a) ∧
  (∀ k0_t3 : Fin (k0_t3_loop v1).trips, ∀ a, (k0_off209 v1 k0_t3) a + S1x128x256.size a ≤ S4x2560x256.size a) ∧
  (∀ k0_t3 : Fin (k0_t3_loop v1).trips, ∀ a, (k0_off210 v1 k0_t3) a + S2x256.size a ≤ S40x4096.size a) ∧
  (∀ k0_t3 : Fin (k0_t3_loop v1).trips, ∀ a, (k0_off211 v1 k0_t3) a + S2x256.size a ≤ S40x4096.size a) ∧
  (∀ k0_t3 : Fin (k0_t3_loop v1).trips, ∀ a, (k0_off212 v1 k0_t3) a + S1x128x256.size a ≤ S4x2560x256.size a) ∧
  (∀ k0_t3 : Fin (k0_t3_loop v1).trips, ∀ a, (k0_off213 v1 k0_t3) a + S2x256.size a ≤ S40x4096.size a) ∧
  (∀ k0_t3 : Fin (k0_t3_loop v1).trips, ∀ a, (k0_off214 v1 k0_t3) a + S2x256.size a ≤ S40x4096.size a) ∧
  (∀ k0_t3 : Fin (k0_t3_loop v1).trips, ∀ a, (k0_off215 v1 k0_t3) a + S1x128x256.size a ≤ S4x2560x256.size a) ∧
  (∀ k0_t3 : Fin (k0_t3_loop v1).trips, ∀ a, (k0_off216 v1 k0_t3) a + S2x256.size a ≤ S40x4096.size a) ∧
  (∀ k0_t3 : Fin (k0_t3_loop v1).trips, ∀ a, (k0_off217 v1 k0_t3) a + S2x256.size a ≤ S40x4096.size a) ∧
  (∀ k0_t3 : Fin (k0_t3_loop v1).trips, ∀ a, (k0_off218 v1 k0_t3) a + S1x128x256.size a ≤ S4x2560x256.size a) ∧
  (∀ k0_t3 : Fin (k0_t3_loop v1).trips, ∀ a, (k0_off219 v1 k0_t3) a + S2x256.size a ≤ S40x4096.size a) ∧
  (∀ k0_t3 : Fin (k0_t3_loop v1).trips, ∀ a, (k0_off220 v1 k0_t3) a + S2x256.size a ≤ S40x4096.size a) ∧
  (∀ k0_t3 : Fin (k0_t3_loop v1).trips, ∀ a, (k0_off221 v1 k0_t3) a + S1x128x256.size a ≤ S4x2560x256.size a) ∧
  (∀ k0_t3 : Fin (k0_t3_loop v1).trips, ∀ a, (k0_off222 v1 k0_t3) a + S2x256.size a ≤ S40x4096.size a) ∧
  (∀ k0_t3 : Fin (k0_t3_loop v1).trips, ∀ a, (k0_off223 v1 k0_t3) a + S2x256.size a ≤ S40x4096.size a) ∧
  (∀ k0_t3 : Fin (k0_t3_loop v1).trips, ∀ a, (k0_off224 v1 k0_t3) a + S1x128x256.size a ≤ S4x2560x256.size a)
def k0_chk6_7 (v1 : BitVec 32) : Prop :=
  (∀ k0_t3 : Fin (k0_t3_loop v1).trips, ∀ a, (k0_off225 v1 k0_t3) a + S2x256.size a ≤ S40x4096.size a) ∧
  (∀ k0_t3 : Fin (k0_t3_loop v1).trips, ∀ a, (k0_off226 v1 k0_t3) a + S2x256.size a ≤ S40x4096.size a) ∧
  (∀ k0_t3 : Fin (k0_t3_loop v1).trips, ∀ a, (k0_off227 v1 k0_t3) a + S1x128x256.size a ≤ S4x2560x256.size a) ∧
  (∀ k0_t3 : Fin (k0_t3_loop v1).trips, ∀ a, (k0_off228 v1 k0_t3) a + S2x256.size a ≤ S40x4096.size a) ∧
  (∀ k0_t3 : Fin (k0_t3_loop v1).trips, ∀ a, (k0_off229 v1 k0_t3) a + S2x256.size a ≤ S40x4096.size a) ∧
  (∀ k0_t3 : Fin (k0_t3_loop v1).trips, ∀ a, (k0_off230 v1 k0_t3) a + S1x128x256.size a ≤ S4x2560x256.size a) ∧
  (∀ k0_t3 : Fin (k0_t3_loop v1).trips, ∀ a, (k0_off231 v1 k0_t3) a + S2x256.size a ≤ S40x4096.size a) ∧
  (∀ k0_t3 : Fin (k0_t3_loop v1).trips, ∀ a, (k0_off232 v1 k0_t3) a + S2x256.size a ≤ S40x4096.size a) ∧
  (∀ k0_t3 : Fin (k0_t3_loop v1).trips, ∀ a, (k0_off233 v1 k0_t3) a + S1x128x256.size a ≤ S4x2560x256.size a) ∧
  (∀ k0_t3 : Fin (k0_t3_loop v1).trips, ∀ a, (k0_off234 v1 k0_t3) a + S2x256.size a ≤ S40x4096.size a) ∧
  (∀ k0_t3 : Fin (k0_t3_loop v1).trips, ∀ a, (k0_off235 v1 k0_t3) a + S2x256.size a ≤ S40x4096.size a) ∧
  (∀ k0_t3 : Fin (k0_t3_loop v1).trips, ∀ a, (k0_off236 v1 k0_t3) a + S1x128x256.size a ≤ S4x2560x256.size a) ∧
  (∀ k0_t3 : Fin (k0_t3_loop v1).trips, ∀ a, (k0_off237 v1 k0_t3) a + S2x256.size a ≤ S40x4096.size a) ∧
  (∀ k0_t3 : Fin (k0_t3_loop v1).trips, ∀ a, (k0_off238 v1 k0_t3) a + S2x256.size a ≤ S40x4096.size a) ∧
  (∀ k0_t3 : Fin (k0_t3_loop v1).trips, ∀ a, (k0_off239 v1 k0_t3) a + S1x128x256.size a ≤ S4x2560x256.size a) ∧
  (∀ k0_t3 : Fin (k0_t3_loop v1).trips, ∀ a, (k0_off240 v1 k0_t3) a + S2x256.size a ≤ S40x4096.size a) ∧
  (∀ k0_t3 : Fin (k0_t3_loop v1).trips, ∀ a, (k0_off241 v1 k0_t3) a + S2x256.size a ≤ S40x4096.size a) ∧
  (∀ k0_t3 : Fin (k0_t3_loop v1).trips, ∀ a, (k0_off242 v1 k0_t3) a + S1x128x256.size a ≤ S4x2560x256.size a) ∧
  (∀ k0_t3 : Fin (k0_t3_loop v1).trips, ∀ a, (k0_off243 v1 k0_t3) a + S2x256.size a ≤ S40x4096.size a) ∧
  (∀ k0_t3 : Fin (k0_t3_loop v1).trips, ∀ a, (k0_off244 v1 k0_t3) a + S2x256.size a ≤ S40x4096.size a) ∧
  (∀ k0_t3 : Fin (k0_t3_loop v1).trips, ∀ a, (k0_off245 v1 k0_t3) a + S1x128x256.size a ≤ S4x2560x256.size a) ∧
  (∀ k0_t3 : Fin (k0_t3_loop v1).trips, ∀ a, (k0_off246 v1 k0_t3) a + S2x256.size a ≤ S40x4096.size a) ∧
  (∀ k0_t3 : Fin (k0_t3_loop v1).trips, ∀ a, (k0_off247 v1 k0_t3) a + S2x256.size a ≤ S40x4096.size a) ∧
  (∀ k0_t3 : Fin (k0_t3_loop v1).trips, ∀ a, (k0_off248 v1 k0_t3) a + S1x128x256.size a ≤ S4x2560x256.size a) ∧
  (∀ k0_t3 : Fin (k0_t3_loop v1).trips, ∀ a, (k0_off249 v1 k0_t3) a + S2x256.size a ≤ S40x4096.size a) ∧
  (∀ k0_t3 : Fin (k0_t3_loop v1).trips, ∀ a, (k0_off250 v1 k0_t3) a + S2x256.size a ≤ S40x4096.size a) ∧
  (∀ k0_t3 : Fin (k0_t3_loop v1).trips, ∀ a, (k0_off251 v1 k0_t3) a + S1x128x256.size a ≤ S4x2560x256.size a) ∧
  (∀ k0_t3 : Fin (k0_t3_loop v1).trips, ∀ a, (k0_off252 v1 k0_t3) a + S2x256.size a ≤ S40x4096.size a) ∧
  (∀ k0_t3 : Fin (k0_t3_loop v1).trips, ∀ a, (k0_off253 v1 k0_t3) a + S2x256.size a ≤ S40x4096.size a) ∧
  (∀ k0_t3 : Fin (k0_t3_loop v1).trips, ∀ a, (k0_off254 v1 k0_t3) a + S1x128x256.size a ≤ S4x2560x256.size a) ∧
  (∀ k0_t3 : Fin (k0_t3_loop v1).trips, ∀ a, (k0_off255 v1 k0_t3) a + S2x256.size a ≤ S40x4096.size a) ∧
  (∀ k0_t3 : Fin (k0_t3_loop v1).trips, ∀ a, (k0_off256 v1 k0_t3) a + S2x256.size a ≤ S40x4096.size a)
def k0_chk6_8 (v1 : BitVec 32) : Prop :=
  (∀ k0_t3 : Fin (k0_t3_loop v1).trips, ∀ a, (k0_off257 v1 k0_t3) a + S1x128x256.size a ≤ S4x2560x256.size a) ∧
  (∀ k0_t3 : Fin (k0_t3_loop v1).trips, ∀ a, (k0_off258 v1 k0_t3) a + S2x256.size a ≤ S40x4096.size a) ∧
  (∀ k0_t3 : Fin (k0_t3_loop v1).trips, ∀ a, (k0_off259 v1 k0_t3) a + S2x256.size a ≤ S40x4096.size a) ∧
  (∀ k0_t3 : Fin (k0_t3_loop v1).trips, ∀ a, (k0_off260 v1 k0_t3) a + S1x128x256.size a ≤ S4x2560x256.size a) ∧
  (∀ k0_t3 : Fin (k0_t3_loop v1).trips, ∀ a, (k0_off261 v1 k0_t3) a + S2x256.size a ≤ S40x4096.size a) ∧
  (∀ k0_t3 : Fin (k0_t3_loop v1).trips, ∀ a, (k0_off262 v1 k0_t3) a + S2x256.size a ≤ S40x4096.size a) ∧
  (∀ k0_t3 : Fin (k0_t3_loop v1).trips, ∀ a, (k0_off263 v1 k0_t3) a + S1x128x256.size a ≤ S4x2560x256.size a) ∧
  (∀ k0_t3 : Fin (k0_t3_loop v1).trips, ∀ a, (k0_off264 v1 k0_t3) a + S2x256.size a ≤ S40x4096.size a) ∧
  (∀ k0_t3 : Fin (k0_t3_loop v1).trips, ∀ a, (k0_off265 v1 k0_t3) a + S2x256.size a ≤ S40x4096.size a) ∧
  (∀ k0_t3 : Fin (k0_t3_loop v1).trips, ∀ a, (k0_off266 v1 k0_t3) a + S1x256.size a ≤ S16x5120.size a) ∧
  (∀ k0_t3 : Fin (k0_t3_loop v1).trips, ∀ a, (k0_off267 v1 k0_t3) a + S1x256.size a ≤ S16x5120.size a) ∧
  (∀ k0_t3 : Fin (k0_t3_loop v1).trips, ∀ a, (k0_off268 v1 k0_t3) a + S1x128x256.size a ≤ S4x128x5120.size a) ∧
  (∀ k0_t3 : Fin (k0_t3_loop v1).trips, ∀ a, (k0_off269 v1 k0_t3) a + S1x256.size a ≤ S16x5120.size a) ∧
  (∀ k0_t3 : Fin (k0_t3_loop v1).trips, ∀ a, (k0_off270 v1 k0_t3) a + S1x256.size a ≤ S16x5120.size a) ∧
  (∀ k0_t3 : Fin (k0_t3_loop v1).trips, ∀ a, (k0_off271 v1 k0_t3) a + S1x128x256.size a ≤ S4x128x5120.size a) ∧
  (∀ k0_t3 : Fin (k0_t3_loop v1).trips, ∀ a, (k0_off272 v1 k0_t3) a + S1x256.size a ≤ S16x5120.size a) ∧
  (∀ k0_t3 : Fin (k0_t3_loop v1).trips, ∀ a, (k0_off273 v1 k0_t3) a + S1x256.size a ≤ S16x5120.size a) ∧
  (∀ k0_t3 : Fin (k0_t3_loop v1).trips, ∀ a, (k0_off274 v1 k0_t3) a + S1x128x256.size a ≤ S4x128x5120.size a) ∧
  (∀ k0_t3 : Fin (k0_t3_loop v1).trips, ∀ a, (k0_off275 v1 k0_t3) a + S1x256.size a ≤ S16x5120.size a) ∧
  (∀ k0_t3 : Fin (k0_t3_loop v1).trips, ∀ a, (k0_off276 v1 k0_t3) a + S1x256.size a ≤ S16x5120.size a) ∧
  (∀ k0_t3 : Fin (k0_t3_loop v1).trips, ∀ a, (k0_off277 v1 k0_t3) a + S1x128x256.size a ≤ S4x128x5120.size a) ∧
  (∀ k0_t3 : Fin (k0_t3_loop v1).trips, ∀ a, (k0_off278 v1 k0_t3) a + S1x256.size a ≤ S16x5120.size a) ∧
  (∀ k0_t3 : Fin (k0_t3_loop v1).trips, ∀ a, (k0_off279 v1 k0_t3) a + S1x256.size a ≤ S16x5120.size a) ∧
  (∀ k0_t3 : Fin (k0_t3_loop v1).trips, ∀ a, (k0_off280 v1 k0_t3) a + S1x128x256.size a ≤ S4x128x5120.size a) ∧
  (∀ k0_t3 : Fin (k0_t3_loop v1).trips, ∀ a, (k0_off281 v1 k0_t3) a + S1x256.size a ≤ S16x5120.size a) ∧
  (∀ k0_t3 : Fin (k0_t3_loop v1).trips, ∀ a, (k0_off282 v1 k0_t3) a + S1x256.size a ≤ S16x5120.size a) ∧
  (∀ k0_t3 : Fin (k0_t3_loop v1).trips, ∀ a, (k0_off283 v1 k0_t3) a + S1x128x256.size a ≤ S4x128x5120.size a) ∧
  (∀ k0_t3 : Fin (k0_t3_loop v1).trips, ∀ a, (k0_off284 v1 k0_t3) a + S1x256.size a ≤ S16x5120.size a) ∧
  (∀ k0_t3 : Fin (k0_t3_loop v1).trips, ∀ a, (k0_off285 v1 k0_t3) a + S1x256.size a ≤ S16x5120.size a) ∧
  (∀ k0_t3 : Fin (k0_t3_loop v1).trips, ∀ a, (k0_off286 v1 k0_t3) a + S1x128x256.size a ≤ S4x128x5120.size a) ∧
  (∀ k0_t3 : Fin (k0_t3_loop v1).trips, ∀ a, (k0_off287 v1 k0_t3) a + S1x256.size a ≤ S16x5120.size a) ∧
  (∀ k0_t3 : Fin (k0_t3_loop v1).trips, ∀ a, (k0_off288 v1 k0_t3) a + S1x256.size a ≤ S16x5120.size a)
def k0_chk6_9 (v1 : BitVec 32) : Prop :=
  (∀ k0_t3 : Fin (k0_t3_loop v1).trips, ∀ a, (k0_off289 v1 k0_t3) a + S1x128x256.size a ≤ S4x128x5120.size a) ∧
  (∀ k0_t3 : Fin (k0_t3_loop v1).trips, ∀ a, (k0_off290 v1 k0_t3) a + S1x256.size a ≤ S16x5120.size a) ∧
  (∀ k0_t3 : Fin (k0_t3_loop v1).trips, ∀ a, (k0_off291 v1 k0_t3) a + S1x256.size a ≤ S16x5120.size a) ∧
  (∀ k0_t3 : Fin (k0_t3_loop v1).trips, ∀ a, (k0_off292 v1 k0_t3) a + S1x128x256.size a ≤ S4x128x5120.size a) ∧
  (∀ k0_t3 : Fin (k0_t3_loop v1).trips, ∀ a, (k0_off293 v1 k0_t3) a + S1x256.size a ≤ S16x5120.size a) ∧
  (∀ k0_t3 : Fin (k0_t3_loop v1).trips, ∀ a, (k0_off294 v1 k0_t3) a + S1x256.size a ≤ S16x5120.size a) ∧
  (∀ k0_t3 : Fin (k0_t3_loop v1).trips, ∀ a, (k0_off295 v1 k0_t3) a + S1x128x256.size a ≤ S4x128x5120.size a) ∧
  (∀ k0_t3 : Fin (k0_t3_loop v1).trips, ∀ a, (k0_off296 v1 k0_t3) a + S1x256.size a ≤ S16x5120.size a) ∧
  (∀ k0_t3 : Fin (k0_t3_loop v1).trips, ∀ a, (k0_off297 v1 k0_t3) a + S1x256.size a ≤ S16x5120.size a) ∧
  (∀ k0_t3 : Fin (k0_t3_loop v1).trips, ∀ a, (k0_off298 v1 k0_t3) a + S1x128x256.size a ≤ S4x128x5120.size a) ∧
  (∀ k0_t3 : Fin (k0_t3_loop v1).trips, ∀ a, (k0_off299 v1 k0_t3) a + S1x256.size a ≤ S16x5120.size a) ∧
  (∀ k0_t3 : Fin (k0_t3_loop v1).trips, ∀ a, (k0_off300 v1 k0_t3) a + S1x256.size a ≤ S16x5120.size a) ∧
  (∀ k0_t3 : Fin (k0_t3_loop v1).trips, ∀ a, (k0_off301 v1 k0_t3) a + S1x128x256.size a ≤ S4x128x5120.size a) ∧
  (∀ k0_t3 : Fin (k0_t3_loop v1).trips, ∀ a, (k0_off302 v1 k0_t3) a + S1x256.size a ≤ S16x5120.size a) ∧
  (∀ k0_t3 : Fin (k0_t3_loop v1).trips, ∀ a, (k0_off303 v1 k0_t3) a + S1x256.size a ≤ S16x5120.size a) ∧
  (∀ k0_t3 : Fin (k0_t3_loop v1).trips, ∀ a, (k0_off304 v1 k0_t3) a + S1x128x256.size a ≤ S4x128x5120.size a) ∧
  (∀ k0_t3 : Fin (k0_t3_loop v1).trips, ∀ a, (k0_off305 v1 k0_t3) a + S1x256.size a ≤ S16x5120.size a) ∧
  (∀ k0_t3 : Fin (k0_t3_loop v1).trips, ∀ a, (k0_off306 v1 k0_t3) a + S1x256.size a ≤ S16x5120.size a) ∧
  (∀ k0_t3 : Fin (k0_t3_loop v1).trips, ∀ a, (k0_off307 v1 k0_t3) a + S1x128x256.size a ≤ S4x128x5120.size a) ∧
  (∀ k0_t3 : Fin (k0_t3_loop v1).trips, ∀ a, (k0_off308 v1 k0_t3) a + S1x256.size a ≤ S16x5120.size a) ∧
  (∀ k0_t3 : Fin (k0_t3_loop v1).trips, ∀ a, (k0_off309 v1 k0_t3) a + S1x256.size a ≤ S16x5120.size a) ∧
  (∀ k0_t3 : Fin (k0_t3_loop v1).trips, ∀ a, (k0_off310 v1 k0_t3) a + S1x128x256.size a ≤ S4x128x5120.size a) ∧
  (∀ k0_t3 : Fin (k0_t3_loop v1).trips, ∀ a, (k0_off311 v1 k0_t3) a + S1x256.size a ≤ S16x5120.size a) ∧
  (∀ k0_t3 : Fin (k0_t3_loop v1).trips, ∀ a, (k0_off312 v1 k0_t3) a + S1x256.size a ≤ S16x5120.size a) ∧
  (∀ k0_t3 : Fin (k0_t3_loop v1).trips, ∀ a, (k0_off313 v1 k0_t3) a + S1x128x256.size a ≤ S4x128x5120.size a) ∧
  (∀ k0_t3 : Fin (k0_t3_loop v1).trips, ∀ a, (k0_off314 v1 k0_t3) a + S1x256.size a ≤ S16x5120.size a) ∧
  (∀ k0_t3 : Fin (k0_t3_loop v1).trips, ∀ a, (k0_off315 v1 k0_t3) a + S1x256.size a ≤ S16x5120.size a) ∧
  (∀ k0_t3 : Fin (k0_t3_loop v1).trips, ∀ a, (k0_off316 v1 k0_t3) a + S1x128x256.size a ≤ S4x128x5120.size a) ∧
  (∀ k0_t3 : Fin (k0_t3_loop v1).trips, ∀ a, (k0_off317 v1 k0_t3) a + S1x256.size a ≤ S16x5120.size a) ∧
  (∀ k0_t3 : Fin (k0_t3_loop v1).trips, ∀ a, (k0_off318 v1 k0_t3) a + S1x256.size a ≤ S16x5120.size a) ∧
  (∀ k0_t3 : Fin (k0_t3_loop v1).trips, ∀ a, (k0_off319 v1 k0_t3) a + S1x128x256.size a ≤ S4x128x5120.size a) ∧
  (∀ k0_t3 : Fin (k0_t3_loop v1).trips, ∀ a, (k0_off320 v1 k0_t3) a + S1x256.size a ≤ S16x5120.size a)
def k0_chk6_10 (v1 : BitVec 32) : Prop :=
  (∀ k0_t3 : Fin (k0_t3_loop v1).trips, ∀ a, (k0_off321 v1 k0_t3) a + S1x256.size a ≤ S16x5120.size a) ∧
  (∀ k0_t3 : Fin (k0_t3_loop v1).trips, ∀ a, (k0_off322 v1 k0_t3) a + S1x128x256.size a ≤ S4x128x5120.size a) ∧
  (∀ k0_t3 : Fin (k0_t3_loop v1).trips, ∀ a, (k0_off323 v1 k0_t3) a + S1x256.size a ≤ S16x5120.size a) ∧
  (∀ k0_t3 : Fin (k0_t3_loop v1).trips, ∀ a, (k0_off324 v1 k0_t3) a + S1x256.size a ≤ S16x5120.size a) ∧
  (∀ k0_t3 : Fin (k0_t3_loop v1).trips, ∀ a, (k0_off325 v1 k0_t3) a + S1x128x256.size a ≤ S4x128x5120.size a) ∧
  (∀ k0_t3 : Fin (k0_t3_loop v1).trips, ∀ (k0_h12 : k0_cond12 v1 k0_t3 = 1#1), ∀ a, (k0_off326 v1 k0_t3) a + S1.size a ≤ S4.size a)
def k0_chk6 (v1 : BitVec 32) : Prop :=
  k0_chk6_0 v1 ∧
  k0_chk6_1 v1 ∧
  k0_chk6_2 v1 ∧
  k0_chk6_3 v1 ∧
  k0_chk6_4 v1 ∧
  k0_chk6_5 v1 ∧
  k0_chk6_6 v1 ∧
  k0_chk6_7 v1 ∧
  k0_chk6_8 v1 ∧
  k0_chk6_9 v1 ∧
  k0_chk6_10 v1
theorem k0_t2_ok : ∀ (v1 : BitVec 32) (k0_hw6 : k0_chk6 v1), (k0_t2_loop v1).OK := fun v1 k0_hw6 => k0_hw6.1.1
theorem k0_off13_inb : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), ∀ a, (k0_off13 v1 k0_t2) a + S1.size a ≤ S4.size a := fun v1 k0_hw6 k0_t2 k0_h5 k0_h6 => k0_hw6.1.2.1 k0_t2 k0_h5 k0_h6
theorem k0_off14_inb : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), ∀ a, (k0_off14 v1 k0_t2) a + S1x1.size a ≤ S2x2.size a := fun v1 k0_hw6 k0_t2 k0_h5 k0_h6 => k0_hw6.1.2.2.1 k0_t2 k0_h5 k0_h6
theorem k0_off15_inb : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), ∀ a, (k0_off15 v1 k0_t2) a + S1x40x4096.size a ≤ S2x40x4096.size a := fun v1 k0_hw6 k0_t2 k0_h5 k0_h6 => k0_hw6.1.2.2.2.1 k0_t2 k0_h5 k0_h6
theorem k0_off15_wordsbf16 : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), (Rect.unit (s := S2x40x4096) (k0_off15 v1 k0_t2) S1x40x4096.size (k0_off15_inb v1 k0_hw6 k0_t2 k0_h5 k0_h6)).WholeWords (EltTy.packing .bf16) := fun v1 k0_hw6 k0_t2 k0_h5 k0_h6 => k0_hw6.1.2.2.2.2.1 k0_t2 k0_h5 k0_h6 (k0_off15_inb v1 k0_hw6 k0_t2 k0_h5 k0_h6)
theorem k0_off17_inb : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), ∀ a, (k0_off17 v1 k0_t2) a + S1x1.size a ≤ S2x2.size a := fun v1 k0_hw6 k0_t2 k0_h5 k0_h6 => k0_hw6.1.2.2.2.2.2.1 k0_t2 k0_h5 k0_h6
theorem k0_off18_inb : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), ∀ a, (k0_off18 v1 k0_t2) a + S1x16x5120.size a ≤ S2x16x5120.size a := fun v1 k0_hw6 k0_t2 k0_h5 k0_h6 => k0_hw6.1.2.2.2.2.2.2.1 k0_t2 k0_h5 k0_h6
theorem k0_off18_wordsbf16 : ∀ (v1 : BitVec 32) (k0_hw6 : k0_chk6 v1) (k0_t2 : Fin (k0_t2_loop v1).trips), ∀ (k0_h5 : k0_cond5 v1 k0_t2 = 1#1), ∀ (k0_h6 : k0_cond6 v1 k0_t2 = 1#1), (Rect.unit (s := S2x16x5120) (k0_off18 v1 k0_t2) S1x16x5120.size (k0_off18_inb v1 k0_hw6 k0_t2 k0_h5 k0_h6)).WholeWords (EltTy.packing .bf16) := fun v1 k0_hw6 k0_t2 k0_h5 k0_h6 => k0_hw6.1.2.2.2.2.2.2.2.1 k0_t2 k0_h5 k0_h6 (k0_off18_inb v1 k0_hw6 k0_t2 k0_h5 k0_h6)
theorem k0_off20_inb : ∀ (v1 : BitVec 32) (k0_hw6 : k0_chk6 v1) (k0_t2 : Fin (k0_t2_loop v1).trips), ∀ (k0_h5 : k0_cond5 v1 k0_t2 = 1#1), ∀ a, (k0_off20 v1 k0_t2) a + S1.size a ≤ S4.size a := fun v1 k0_hw6 k0_t2 k0_h5 => k0_hw6.1.2.2.2.2.2.2.2.2.1 k0_t2 k0_h5
theorem k0_off21_inb : ∀ (v1 : BitVec 32) (k0_hw6 : k0_chk6 v1) (k0_t2 : Fin (k0_t2_loop v1).trips), ∀ (k0_h5 : k0_cond5 v1 k0_t2 = 1#1), ∀ a, (k0_off21 v1 k0_t2) a + S1x1.size a ≤ S2x2.size a := fun v1 k0_hw6 k0_t2 k0_h5 => k0_hw6.1.2.2.2.2.2.2.2.2.2.1 k0_t2 k0_h5
theorem k0_off22_inb : ∀ (v1 : BitVec 32) (k0_hw6 : k0_chk6 v1) (k0_t2 : Fin (k0_t2_loop v1).trips), ∀ (k0_h5 : k0_cond5 v1 k0_t2 = 1#1), ∀ a, (k0_off22 v1 k0_t2) a + S1x40x4096.size a ≤ S2x40x4096.size a := fun v1 k0_hw6 k0_t2 k0_h5 => k0_hw6.1.2.2.2.2.2.2.2.2.2.2.1 k0_t2 k0_h5
theorem k0_off22_wordsbf16 : ∀ (v1 : BitVec 32) (k0_hw6 : k0_chk6 v1) (k0_t2 : Fin (k0_t2_loop v1).trips), ∀ (k0_h5 : k0_cond5 v1 k0_t2 = 1#1), (Rect.unit (s := S2x40x4096) (k0_off22 v1 k0_t2) S1x40x4096.size (k0_off22_inb v1 k0_hw6 k0_t2 k0_h5)).WholeWords (EltTy.packing .bf16) := fun v1 k0_hw6 k0_t2 k0_h5 => k0_hw6.1.2.2.2.2.2.2.2.2.2.2.2.1 k0_t2 k0_h5 (k0_off22_inb v1 k0_hw6 k0_t2 k0_h5)
theorem k0_off24_inb : ∀ (v1 : BitVec 32) (k0_hw6 : k0_chk6 v1) (k0_t2 : Fin (k0_t2_loop v1).trips), ∀ (k0_h5 : k0_cond5 v1 k0_t2 = 1#1), ∀ a, (k0_off24 v1 k0_t2) a + S1x1.size a ≤ S2x2.size a := fun v1 k0_hw6 k0_t2 k0_h5 => k0_hw6.1.2.2.2.2.2.2.2.2.2.2.2.2.1 k0_t2 k0_h5
theorem k0_off25_inb : ∀ (v1 : BitVec 32) (k0_hw6 : k0_chk6 v1) (k0_t2 : Fin (k0_t2_loop v1).trips), ∀ (k0_h5 : k0_cond5 v1 k0_t2 = 1#1), ∀ a, (k0_off25 v1 k0_t2) a + S1x16x5120.size a ≤ S2x16x5120.size a := fun v1 k0_hw6 k0_t2 k0_h5 => k0_hw6.1.2.2.2.2.2.2.2.2.2.2.2.2.2.1 k0_t2 k0_h5
theorem k0_off25_wordsbf16 : ∀ (v1 : BitVec 32) (k0_hw6 : k0_chk6 v1) (k0_t2 : Fin (k0_t2_loop v1).trips), ∀ (k0_h5 : k0_cond5 v1 k0_t2 = 1#1), (Rect.unit (s := S2x16x5120) (k0_off25 v1 k0_t2) S1x16x5120.size (k0_off25_inb v1 k0_hw6 k0_t2 k0_h5)).WholeWords (EltTy.packing .bf16) := fun v1 k0_hw6 k0_t2 k0_h5 => k0_hw6.1.2.2.2.2.2.2.2.2.2.2.2.2.2.2.1 k0_t2 k0_h5 (k0_off25_inb v1 k0_hw6 k0_t2 k0_h5)
theorem k0_off27_inb : ∀ (v1 : BitVec 32) (k0_hw6 : k0_chk6 v1) (k0_t2 : Fin (k0_t2_loop v1).trips), ∀ (k0_h5 : k0_cond5 v1 k0_t2 = 1#1), ∀ a, (k0_off27 v1 k0_t2) a + S1x40x4096.size a ≤ S2x40x4096.size a := fun v1 k0_hw6 k0_t2 k0_h5 => k0_hw6.1.2.2.2.2.2.2.2.2.2.2.2.2.2.2.2.1 k0_t2 k0_h5
theorem k0_off28_inb : ∀ (v1 : BitVec 32) (k0_hw6 : k0_chk6 v1) (k0_t2 : Fin (k0_t2_loop v1).trips), ∀ (k0_h5 : k0_cond5 v1 k0_t2 = 1#1), ∀ a, (k0_off28 v1 k0_t2) a + S1x16x5120.size a ≤ S2x16x5120.size a := fun v1 k0_hw6 k0_t2 k0_h5 => k0_hw6.1.2.2.2.2.2.2.2.2.2.2.2.2.2.2.2.2.1 k0_t2 k0_h5
theorem k0_off29_inb : ∀ (v1 : BitVec 32) (k0_hw6 : k0_chk6 v1) (k0_t2 : Fin (k0_t2_loop v1).trips), ∀ a, (k0_off29 v1 k0_t2) a + S1.size a ≤ S4.size a := fun v1 k0_hw6 k0_t2 => k0_hw6.1.2.2.2.2.2.2.2.2.2.2.2.2.2.2.2.2.2.1 k0_t2
theorem k0_mult7_dvd : ∀ (v1 : BitVec 32) (k0_hw6 : k0_chk6 v1) (k0_t2 : Fin (k0_t2_loop v1).trips), 256 ∣ (k0_mult7 v1 k0_t2).toNat := fun v1 k0_hw6 k0_t2 => k0_hw6.1.2.2.2.2.2.2.2.2.2.2.2.2.2.2.2.2.2.2.1 k0_t2
theorem k0_mult8_dvd : ∀ (v1 : BitVec 32) (k0_hw6 : k0_chk6 v1) (k0_t2 : Fin (k0_t2_loop v1).trips), 128 ∣ (k0_mult8 v1 k0_t2).toNat := fun v1 k0_hw6 k0_t2 => k0_hw6.1.2.2.2.2.2.2.2.2.2.2.2.2.2.2.2.2.2.2.2.1 k0_t2
theorem k0_off30_inb : ∀ (v1 : BitVec 32) (k0_hw6 : k0_chk6 v1) (k0_t2 : Fin (k0_t2_loop v1).trips), ∀ a, (k0_off30 v1 k0_t2) a + S1x1.size a ≤ S3x4.size a := fun v1 k0_hw6 k0_t2 => k0_hw6.1.2.2.2.2.2.2.2.2.2.2.2.2.2.2.2.2.2.2.2.2.1 k0_t2
theorem k0_off31_inb : ∀ (v1 : BitVec 32) (k0_hw6 : k0_chk6 v1) (k0_t2 : Fin (k0_t2_loop v1).trips), ∀ a, (k0_off31 v1 k0_t2) a + S1x2560x256.size a ≤ S4x2560x256.size a := fun v1 k0_hw6 k0_t2 => k0_hw6.1.2.2.2.2.2.2.2.2.2.2.2.2.2.2.2.2.2.2.2.2.2.1 k0_t2
theorem k0_off31_wordsi8 : ∀ (v1 : BitVec 32) (k0_hw6 : k0_chk6 v1) (k0_t2 : Fin (k0_t2_loop v1).trips), (Rect.unit (s := S4x2560x256) (k0_off31 v1 k0_t2) S1x2560x256.size (k0_off31_inb v1 k0_hw6 k0_t2)).WholeWords (EltTy.packing .i8) := fun v1 k0_hw6 k0_t2 => k0_hw6.1.2.2.2.2.2.2.2.2.2.2.2.2.2.2.2.2.2.2.2.2.2.2.1 k0_t2 (k0_off31_inb v1 k0_hw6 k0_t2)
theorem k0_off33_inb : ∀ (v1 : BitVec 32) (k0_hw6 : k0_chk6 v1) (k0_t2 : Fin (k0_t2_loop v1).trips), ∀ a, (k0_off33 v1 k0_t2) a + S1x1.size a ≤ S3x4.size a := fun v1 k0_hw6 k0_t2 => k0_hw6.1.2.2.2.2.2.2.2.2.2.2.2.2.2.2.2.2.2.2.2.2.2.2.2.1 k0_t2
theorem k0_off34_inb : ∀ (v1 : BitVec 32) (k0_hw6 : k0_chk6 v1) (k0_t2 : Fin (k0_t2_loop v1).trips), ∀ a, (k0_off34 v1 k0_t2) a + S1x2560x256.size a ≤ S4x2560x256.size a := fun v1 k0_hw6 k0_t2 => k0_hw6.1.2.2.2.2.2.2.2.2.2.2.2.2.2.2.2.2.2.2.2.2.2.2.2.2.1 k0_t2
theorem k0_off34_wordsi8 : ∀ (v1 : BitVec 32) (k0_hw6 : k0_chk6 v1) (k0_t2 : Fin (k0_t2_loop v1).trips), (Rect.unit (s := S4x2560x256) (k0_off34 v1 k0_t2) S1x2560x256.size (k0_off34_inb v1 k0_hw6 k0_t2)).WholeWords (EltTy.packing .i8) := fun v1 k0_hw6 k0_t2 => k0_hw6.1.2.2.2.2.2.2.2.2.2.2.2.2.2.2.2.2.2.2.2.2.2.2.2.2.2.1 k0_t2 (k0_off34_inb v1 k0_hw6 k0_t2)
theorem k0_off36_inb : ∀ (v1 : BitVec 32) (k0_hw6 : k0_chk6 v1) (k0_t2 : Fin (k0_t2_loop v1).trips), ∀ a, (k0_off36 v1 k0_t2) a + S1x1.size a ≤ S3x4.size a := fun v1 k0_hw6 k0_t2 => k0_hw6.1.2.2.2.2.2.2.2.2.2.2.2.2.2.2.2.2.2.2.2.2.2.2.2.2.2.2.1 k0_t2
theorem k0_off37_inb : ∀ (v1 : BitVec 32) (k0_hw6 : k0_chk6 v1) (k0_t2 : Fin (k0_t2_loop v1).trips), ∀ a, (k0_off37 v1 k0_t2) a + S1x128x5120.size a ≤ S4x128x5120.size a := fun v1 k0_hw6 k0_t2 => k0_hw6.1.2.2.2.2.2.2.2.2.2.2.2.2.2.2.2.2.2.2.2.2.2.2.2.2.2.2.2.1 k0_t2
theorem k0_off37_wordsi8 : ∀ (v1 : BitVec 32) (k0_hw6 : k0_chk6 v1) (k0_t2 : Fin (k0_t2_loop v1).trips), (Rect.unit (s := S4x128x5120) (k0_off37 v1 k0_t2) S1x128x5120.size (k0_off37_inb v1 k0_hw6 k0_t2)).WholeWords (EltTy.packing .i8) := fun v1 k0_hw6 k0_t2 => k0_hw6.1.2.2.2.2.2.2.2.2.2.2.2.2.2.2.2.2.2.2.2.2.2.2.2.2.2.2.2.2.1 k0_t2 (k0_off37_inb v1 k0_hw6 k0_t2)
theorem k0_off39_inb : ∀ (v1 : BitVec 32) (k0_hw6 : k0_chk6 v1) (k0_t2 : Fin (k0_t2_loop v1).trips), ∀ (k0_h7 : k0_cond7 v1 k0_t2 = 1#1), ∀ a, (k0_off39 v1 k0_t2) a + S1.size a ≤ S4.size a := fun v1 k0_hw6 k0_t2 k0_h7 => k0_hw6.1.2.2.2.2.2.2.2.2.2.2.2.2.2.2.2.2.2.2.2.2.2.2.2.2.2.2.2.2.2.1 k0_t2 k0_h7
theorem k0_mult9_dvd : ∀ (v1 : BitVec 32) (k0_hw6 : k0_chk6 v1) (k0_t2 : Fin (k0_t2_loop v1).trips), ∀ (k0_h7 : k0_cond7 v1 k0_t2 = 1#1), 256 ∣ (k0_mult9 v1 k0_t2).toNat := fun v1 k0_hw6 k0_t2 k0_h7 => k0_hw6.1.2.2.2.2.2.2.2.2.2.2.2.2.2.2.2.2.2.2.2.2.2.2.2.2.2.2.2.2.2.2.1 k0_t2 k0_h7
theorem k0_mult10_dvd : ∀ (v1 : BitVec 32) (k0_hw6 : k0_chk6 v1) (k0_t2 : Fin (k0_t2_loop v1).trips), ∀ (k0_h7 : k0_cond7 v1 k0_t2 = 1#1), 128 ∣ (k0_mult10 v1 k0_t2).toNat := fun v1 k0_hw6 k0_t2 k0_h7 => k0_hw6.1.2.2.2.2.2.2.2.2.2.2.2.2.2.2.2.2.2.2.2.2.2.2.2.2.2.2.2.2.2.2.2 k0_t2 k0_h7
theorem k0_off40_inb : ∀ (v1 : BitVec 32) (k0_hw6 : k0_chk6 v1) (k0_t2 : Fin (k0_t2_loop v1).trips), ∀ (k0_h7 : k0_cond7 v1 k0_t2 = 1#1), ∀ a, (k0_off40 v1 k0_t2) a + S1x1.size a ≤ S3x4.size a := fun v1 k0_hw6 k0_t2 k0_h7 => k0_hw6.2.1.1 k0_t2 k0_h7
theorem k0_off41_inb : ∀ (v1 : BitVec 32) (k0_hw6 : k0_chk6 v1) (k0_t2 : Fin (k0_t2_loop v1).trips), ∀ (k0_h7 : k0_cond7 v1 k0_t2 = 1#1), ∀ a, (k0_off41 v1 k0_t2) a + S1x2560x256.size a ≤ S4x2560x256.size a := fun v1 k0_hw6 k0_t2 k0_h7 => k0_hw6.2.1.2.1 k0_t2 k0_h7
theorem k0_off41_wordsi8 : ∀ (v1 : BitVec 32) (k0_hw6 : k0_chk6 v1) (k0_t2 : Fin (k0_t2_loop v1).trips), ∀ (k0_h7 : k0_cond7 v1 k0_t2 = 1#1), (Rect.unit (s := S4x2560x256) (k0_off41 v1 k0_t2) S1x2560x256.size (k0_off41_inb v1 k0_hw6 k0_t2 k0_h7)).WholeWords (EltTy.packing .i8) := fun v1 k0_hw6 k0_t2 k0_h7 => k0_hw6.2.1.2.2.1 k0_t2 k0_h7 (k0_off41_inb v1 k0_hw6 k0_t2 k0_h7)
theorem k0_off43_inb : ∀ (v1 : BitVec 32) (k0_hw6 : k0_chk6 v1) (k0_t2 : Fin (k0_t2_loop v1).trips), ∀ (k0_h7 : k0_cond7 v1 k0_t2 = 1#1), ∀ a, (k0_off43 v1 k0_t2) a + S1x1.size a ≤ S3x4.size a := fun v1 k0_hw6 k0_t2 k0_h7 => k0_hw6.2.1.2.2.2.1 k0_t2 k0_h7
theorem k0_off44_inb : ∀ (v1 : BitVec 32) (k0_hw6 : k0_chk6 v1) (k0_t2 : Fin (k0_t2_loop v1).trips), ∀ (k0_h7 : k0_cond7 v1 k0_t2 = 1#1), ∀ a, (k0_off44 v1 k0_t2) a + S1x2560x256.size a ≤ S4x2560x256.size a := fun v1 k0_hw6 k0_t2 k0_h7 => k0_hw6.2.1.2.2.2.2.1 k0_t2 k0_h7
theorem k0_off44_wordsi8 : ∀ (v1 : BitVec 32) (k0_hw6 : k0_chk6 v1) (k0_t2 : Fin (k0_t2_loop v1).trips), ∀ (k0_h7 : k0_cond7 v1 k0_t2 = 1#1), (Rect.unit (s := S4x2560x256) (k0_off44 v1 k0_t2) S1x2560x256.size (k0_off44_inb v1 k0_hw6 k0_t2 k0_h7)).WholeWords (EltTy.packing .i8) := fun v1 k0_hw6 k0_t2 k0_h7 => k0_hw6.2.1.2.2.2.2.2.1 k0_t2 k0_h7 (k0_off44_inb v1 k0_hw6 k0_t2 k0_h7)
theorem k0_off46_inb : ∀ (v1 : BitVec 32) (k0_hw6 : k0_chk6 v1) (k0_t2 : Fin (k0_t2_loop v1).trips), ∀ (k0_h7 : k0_cond7 v1 k0_t2 = 1#1), ∀ a, (k0_off46 v1 k0_t2) a + S1x1.size a ≤ S3x4.size a := fun v1 k0_hw6 k0_t2 k0_h7 => k0_hw6.2.1.2.2.2.2.2.2.1 k0_t2 k0_h7
theorem k0_off47_inb : ∀ (v1 : BitVec 32) (k0_hw6 : k0_chk6 v1) (k0_t2 : Fin (k0_t2_loop v1).trips), ∀ (k0_h7 : k0_cond7 v1 k0_t2 = 1#1), ∀ a, (k0_off47 v1 k0_t2) a + S1x128x5120.size a ≤ S4x128x5120.size a := fun v1 k0_hw6 k0_t2 k0_h7 => k0_hw6.2.1.2.2.2.2.2.2.2.1 k0_t2 k0_h7
theorem k0_off47_wordsi8 : ∀ (v1 : BitVec 32) (k0_hw6 : k0_chk6 v1) (k0_t2 : Fin (k0_t2_loop v1).trips), ∀ (k0_h7 : k0_cond7 v1 k0_t2 = 1#1), (Rect.unit (s := S4x128x5120) (k0_off47 v1 k0_t2) S1x128x5120.size (k0_off47_inb v1 k0_hw6 k0_t2 k0_h7)).WholeWords (EltTy.packing .i8) := fun v1 k0_hw6 k0_t2 k0_h7 => k0_hw6.2.1.2.2.2.2.2.2.2.2.1 k0_t2 k0_h7 (k0_off47_inb v1 k0_hw6 k0_t2 k0_h7)
theorem k0_mult11_dvd : ∀ (v1 : BitVec 32) (k0_hw6 : k0_chk6 v1) (k0_t2 : Fin (k0_t2_loop v1).trips), 256 ∣ (k0_mult11 v1 k0_t2).toNat := fun v1 k0_hw6 k0_t2 => k0_hw6.2.1.2.2.2.2.2.2.2.2.2.1 k0_t2
theorem k0_off49_inb : ∀ (v1 : BitVec 32) (k0_hw6 : k0_chk6 v1) (k0_t2 : Fin (k0_t2_loop v1).trips), ∀ a, (k0_off49 v1 k0_t2) a + S1x128x256.size a ≤ S4x2560x256.size a := fun v1 k0_hw6 k0_t2 => k0_hw6.2.1.2.2.2.2.2.2.2.2.2.2.1 k0_t2
theorem k0_off50_inb : ∀ (v1 : BitVec 32) (k0_hw6 : k0_chk6 v1) (k0_t2 : Fin (k0_t2_loop v1).trips), ∀ a, (k0_off50 v1 k0_t2) a + S2x256.size a ≤ S40x4096.size a := fun v1 k0_hw6 k0_t2 => k0_hw6.2.1.2.2.2.2.2.2.2.2.2.2.2.1 k0_t2
theorem k0_off51_inb : ∀ (v1 : BitVec 32) (k0_hw6 : k0_chk6 v1) (k0_t2 : Fin (k0_t2_loop v1).trips), ∀ a, (k0_off51 v1 k0_t2) a + S2x256.size a ≤ S40x4096.size a := fun v1 k0_hw6 k0_t2 => k0_hw6.2.1.2.2.2.2.2.2.2.2.2.2.2.2.1 k0_t2
theorem k0_off52_inb : ∀ (v1 : BitVec 32) (k0_hw6 : k0_chk6 v1) (k0_t2 : Fin (k0_t2_loop v1).trips), ∀ a, (k0_off52 v1 k0_t2) a + S1x128x256.size a ≤ S4x2560x256.size a := fun v1 k0_hw6 k0_t2 => k0_hw6.2.1.2.2.2.2.2.2.2.2.2.2.2.2.2.1 k0_t2
theorem k0_off53_inb : ∀ (v1 : BitVec 32) (k0_hw6 : k0_chk6 v1) (k0_t2 : Fin (k0_t2_loop v1).trips), ∀ a, (k0_off53 v1 k0_t2) a + S2x256.size a ≤ S40x4096.size a := fun v1 k0_hw6 k0_t2 => k0_hw6.2.1.2.2.2.2.2.2.2.2.2.2.2.2.2.2.1 k0_t2
theorem k0_off54_inb : ∀ (v1 : BitVec 32) (k0_hw6 : k0_chk6 v1) (k0_t2 : Fin (k0_t2_loop v1).trips), ∀ a, (k0_off54 v1 k0_t2) a + S2x256.size a ≤ S40x4096.size a := fun v1 k0_hw6 k0_t2 => k0_hw6.2.1.2.2.2.2.2.2.2.2.2.2.2.2.2.2.2.1 k0_t2
theorem k0_off55_inb : ∀ (v1 : BitVec 32) (k0_hw6 : k0_chk6 v1) (k0_t2 : Fin (k0_t2_loop v1).trips), ∀ a, (k0_off55 v1 k0_t2) a + S1x128x256.size a ≤ S4x2560x256.size a := fun v1 k0_hw6 k0_t2 => k0_hw6.2.1.2.2.2.2.2.2.2.2.2.2.2.2.2.2.2.2.1 k0_t2
theorem k0_off56_inb : ∀ (v1 : BitVec 32) (k0_hw6 : k0_chk6 v1) (k0_t2 : Fin (k0_t2_loop v1).trips), ∀ a, (k0_off56 v1 k0_t2) a + S2x256.size a ≤ S40x4096.size a := fun v1 k0_hw6 k0_t2 => k0_hw6.2.1.2.2.2.2.2.2.2.2.2.2.2.2.2.2.2.2.2.1 k0_t2
theorem k0_off57_inb : ∀ (v1 : BitVec 32) (k0_hw6 : k0_chk6 v1) (k0_t2 : Fin (k0_t2_loop v1).trips), ∀ a, (k0_off57 v1 k0_t2) a + S2x256.size a ≤ S40x4096.size a := fun v1 k0_hw6 k0_t2 => k0_hw6.2.1.2.2.2.2.2.2.2.2.2.2.2.2.2.2.2.2.2.2.1 k0_t2
theorem k0_off58_inb : ∀ (v1 : BitVec 32) (k0_hw6 : k0_chk6 v1) (k0_t2 : Fin (k0_t2_loop v1).trips), ∀ a, (k0_off58 v1 k0_t2) a + S1x128x256.size a ≤ S4x2560x256.size a := fun v1 k0_hw6 k0_t2 => k0_hw6.2.1.2.2.2.2.2.2.2.2.2.2.2.2.2.2.2.2.2.2.2.1 k0_t2
theorem k0_off59_inb : ∀ (v1 : BitVec 32) (k0_hw6 : k0_chk6 v1) (k0_t2 : Fin (k0_t2_loop v1).trips), ∀ a, (k0_off59 v1 k0_t2) a + S2x256.size a ≤ S40x4096.size a := fun v1 k0_hw6 k0_t2 => k0_hw6.2.1.2.2.2.2.2.2.2.2.2.2.2.2.2.2.2.2.2.2.2.2.1 k0_t2
theorem k0_off60_inb : ∀ (v1 : BitVec 32) (k0_hw6 : k0_chk6 v1) (k0_t2 : Fin (k0_t2_loop v1).trips), ∀ a, (k0_off60 v1 k0_t2) a + S2x256.size a ≤ S40x4096.size a := fun v1 k0_hw6 k0_t2 => k0_hw6.2.1.2.2.2.2.2.2.2.2.2.2.2.2.2.2.2.2.2.2.2.2.2.1 k0_t2
theorem k0_off61_inb : ∀ (v1 : BitVec 32) (k0_hw6 : k0_chk6 v1) (k0_t2 : Fin (k0_t2_loop v1).trips), ∀ a, (k0_off61 v1 k0_t2) a + S1x128x256.size a ≤ S4x2560x256.size a := fun v1 k0_hw6 k0_t2 => k0_hw6.2.1.2.2.2.2.2.2.2.2.2.2.2.2.2.2.2.2.2.2.2.2.2.2.1 k0_t2
theorem k0_off62_inb : ∀ (v1 : BitVec 32) (k0_hw6 : k0_chk6 v1) (k0_t2 : Fin (k0_t2_loop v1).trips), ∀ a, (k0_off62 v1 k0_t2) a + S2x256.size a ≤ S40x4096.size a := fun v1 k0_hw6 k0_t2 => k0_hw6.2.1.2.2.2.2.2.2.2.2.2.2.2.2.2.2.2.2.2.2.2.2.2.2.2.1 k0_t2
theorem k0_off63_inb : ∀ (v1 : BitVec 32) (k0_hw6 : k0_chk6 v1) (k0_t2 : Fin (k0_t2_loop v1).trips), ∀ a, (k0_off63 v1 k0_t2) a + S2x256.size a ≤ S40x4096.size a := fun v1 k0_hw6 k0_t2 => k0_hw6.2.1.2.2.2.2.2.2.2.2.2.2.2.2.2.2.2.2.2.2.2.2.2.2.2.2.1 k0_t2
theorem k0_off64_inb : ∀ (v1 : BitVec 32) (k0_hw6 : k0_chk6 v1) (k0_t2 : Fin (k0_t2_loop v1).trips), ∀ a, (k0_off64 v1 k0_t2) a + S1x128x256.size a ≤ S4x2560x256.size a := fun v1 k0_hw6 k0_t2 => k0_hw6.2.1.2.2.2.2.2.2.2.2.2.2.2.2.2.2.2.2.2.2.2.2.2.2.2.2.2.1 k0_t2
theorem k0_off65_inb : ∀ (v1 : BitVec 32) (k0_hw6 : k0_chk6 v1) (k0_t2 : Fin (k0_t2_loop v1).trips), ∀ a, (k0_off65 v1 k0_t2) a + S2x256.size a ≤ S40x4096.size a := fun v1 k0_hw6 k0_t2 => k0_hw6.2.1.2.2.2.2.2.2.2.2.2.2.2.2.2.2.2.2.2.2.2.2.2.2.2.2.2.2.1 k0_t2
theorem k0_off66_inb : ∀ (v1 : BitVec 32) (k0_hw6 : k0_chk6 v1) (k0_t2 : Fin (k0_t2_loop v1).trips), ∀ a, (k0_off66 v1 k0_t2) a + S2x256.size a ≤ S40x4096.size a := fun v1 k0_hw6 k0_t2 => k0_hw6.2.1.2.2.2.2.2.2.2.2.2.2.2.2.2.2.2.2.2.2.2.2.2.2.2.2.2.2.2.1 k0_t2
theorem k0_off67_inb : ∀ (v1 : BitVec 32) (k0_hw6 : k0_chk6 v1) (k0_t2 : Fin (k0_t2_loop v1).trips), ∀ a, (k0_off67 v1 k0_t2) a + S1x128x256.size a ≤ S4x2560x256.size a := fun v1 k0_hw6 k0_t2 => k0_hw6.2.1.2.2.2.2.2.2.2.2.2.2.2.2.2.2.2.2.2.2.2.2.2.2.2.2.2.2.2.2.1 k0_t2
theorem k0_off68_inb : ∀ (v1 : BitVec 32) (k0_hw6 : k0_chk6 v1) (k0_t2 : Fin (k0_t2_loop v1).trips), ∀ a, (k0_off68 v1 k0_t2) a + S2x256.size a ≤ S40x4096.size a := fun v1 k0_hw6 k0_t2 => k0_hw6.2.1.2.2.2.2.2.2.2.2.2.2.2.2.2.2.2.2.2.2.2.2.2.2.2.2.2.2.2.2.2.1 k0_t2
theorem k0_off69_inb : ∀ (v1 : BitVec 32) (k0_hw6 : k0_chk6 v1) (k0_t2 : Fin (k0_t2_loop v1).trips), ∀ a, (k0_off69 v1 k0_t2) a + S2x256.size a ≤ S40x4096.size a := fun v1 k0_hw6 k0_t2 => k0_hw6.2.1.2.2.2.2.2.2.2.2.2.2.2.2.2.2.2.2.2.2.2.2.2.2.2.2.2.2.2.2.2.2.1 k0_t2
theorem k0_off70_inb : ∀ (v1 : BitVec 32) (k0_hw6 : k0_chk6 v1) (k0_t2 : Fin (k0_t2_loop v1).trips), ∀ a, (k0_off70 v1 k0_t2) a + S1x128x256.size a ≤ S4x2560x256.size a := fun v1 k0_hw6 k0_t2 => k0_hw6.2.1.2.2.2.2.2.2.2.2.2.2.2.2.2.2.2.2.2.2.2.2.2.2.2.2.2.2.2.2.2.2.2 k0_t2
theorem k0_off71_inb : ∀ (v1 : BitVec 32) (k0_hw6 : k0_chk6 v1) (k0_t2 : Fin (k0_t2_loop v1).trips), ∀ a, (k0_off71 v1 k0_t2) a + S2x256.size a ≤ S40x4096.size a := fun v1 k0_hw6 k0_t2 => k0_hw6.2.2.1.1 k0_t2
theorem k0_off72_inb : ∀ (v1 : BitVec 32) (k0_hw6 : k0_chk6 v1) (k0_t2 : Fin (k0_t2_loop v1).trips), ∀ a, (k0_off72 v1 k0_t2) a + S2x256.size a ≤ S40x4096.size a := fun v1 k0_hw6 k0_t2 => k0_hw6.2.2.1.2.1 k0_t2
theorem k0_off73_inb : ∀ (v1 : BitVec 32) (k0_hw6 : k0_chk6 v1) (k0_t2 : Fin (k0_t2_loop v1).trips), ∀ a, (k0_off73 v1 k0_t2) a + S1x128x256.size a ≤ S4x2560x256.size a := fun v1 k0_hw6 k0_t2 => k0_hw6.2.2.1.2.2.1 k0_t2
theorem k0_off74_inb : ∀ (v1 : BitVec 32) (k0_hw6 : k0_chk6 v1) (k0_t2 : Fin (k0_t2_loop v1).trips), ∀ a, (k0_off74 v1 k0_t2) a + S2x256.size a ≤ S40x4096.size a := fun v1 k0_hw6 k0_t2 => k0_hw6.2.2.1.2.2.2.1 k0_t2
theorem k0_off75_inb : ∀ (v1 : BitVec 32) (k0_hw6 : k0_chk6 v1) (k0_t2 : Fin (k0_t2_loop v1).trips), ∀ a, (k0_off75 v1 k0_t2) a + S2x256.size a ≤ S40x4096.size a := fun v1 k0_hw6 k0_t2 => k0_hw6.2.2.1.2.2.2.2.1 k0_t2
theorem k0_off76_inb : ∀ (v1 : BitVec 32) (k0_hw6 : k0_chk6 v1) (k0_t2 : Fin (k0_t2_loop v1).trips), ∀ a, (k0_off76 v1 k0_t2) a + S1x128x256.size a ≤ S4x2560x256.size a := fun v1 k0_hw6 k0_t2 => k0_hw6.2.2.1.2.2.2.2.2.1 k0_t2
theorem k0_off77_inb : ∀ (v1 : BitVec 32) (k0_hw6 : k0_chk6 v1) (k0_t2 : Fin (k0_t2_loop v1).trips), ∀ a, (k0_off77 v1 k0_t2) a + S2x256.size a ≤ S40x4096.size a := fun v1 k0_hw6 k0_t2 => k0_hw6.2.2.1.2.2.2.2.2.2.1 k0_t2
theorem k0_off78_inb : ∀ (v1 : BitVec 32) (k0_hw6 : k0_chk6 v1) (k0_t2 : Fin (k0_t2_loop v1).trips), ∀ a, (k0_off78 v1 k0_t2) a + S2x256.size a ≤ S40x4096.size a := fun v1 k0_hw6 k0_t2 => k0_hw6.2.2.1.2.2.2.2.2.2.2.1 k0_t2
theorem k0_off79_inb : ∀ (v1 : BitVec 32) (k0_hw6 : k0_chk6 v1) (k0_t2 : Fin (k0_t2_loop v1).trips), ∀ a, (k0_off79 v1 k0_t2) a + S1x128x256.size a ≤ S4x2560x256.size a := fun v1 k0_hw6 k0_t2 => k0_hw6.2.2.1.2.2.2.2.2.2.2.2.1 k0_t2
theorem k0_off80_inb : ∀ (v1 : BitVec 32) (k0_hw6 : k0_chk6 v1) (k0_t2 : Fin (k0_t2_loop v1).trips), ∀ a, (k0_off80 v1 k0_t2) a + S2x256.size a ≤ S40x4096.size a := fun v1 k0_hw6 k0_t2 => k0_hw6.2.2.1.2.2.2.2.2.2.2.2.2.1 k0_t2
theorem k0_off81_inb : ∀ (v1 : BitVec 32) (k0_hw6 : k0_chk6 v1) (k0_t2 : Fin (k0_t2_loop v1).trips), ∀ a, (k0_off81 v1 k0_t2) a + S2x256.size a ≤ S40x4096.size a := fun v1 k0_hw6 k0_t2 => k0_hw6.2.2.1.2.2.2.2.2.2.2.2.2.2.1 k0_t2
theorem k0_off82_inb : ∀ (v1 : BitVec 32) (k0_hw6 : k0_chk6 v1) (k0_t2 : Fin (k0_t2_loop v1).trips), ∀ a, (k0_off82 v1 k0_t2) a + S1x128x256.size a ≤ S4x2560x256.size a := fun v1 k0_hw6 k0_t2 => k0_hw6.2.2.1.2.2.2.2.2.2.2.2.2.2.2.1 k0_t2
theorem k0_off83_inb : ∀ (v1 : BitVec 32) (k0_hw6 : k0_chk6 v1) (k0_t2 : Fin (k0_t2_loop v1).trips), ∀ a, (k0_off83 v1 k0_t2) a + S2x256.size a ≤ S40x4096.size a := fun v1 k0_hw6 k0_t2 => k0_hw6.2.2.1.2.2.2.2.2.2.2.2.2.2.2.2.1 k0_t2
theorem k0_off84_inb : ∀ (v1 : BitVec 32) (k0_hw6 : k0_chk6 v1) (k0_t2 : Fin (k0_t2_loop v1).trips), ∀ a, (k0_off84 v1 k0_t2) a + S2x256.size a ≤ S40x4096.size a := fun v1 k0_hw6 k0_t2 => k0_hw6.2.2.1.2.2.2.2.2.2.2.2.2.2.2.2.2.1 k0_t2
theorem k0_off85_inb : ∀ (v1 : BitVec 32) (k0_hw6 : k0_chk6 v1) (k0_t2 : Fin (k0_t2_loop v1).trips), ∀ a, (k0_off85 v1 k0_t2) a + S1x128x256.size a ≤ S4x2560x256.size a := fun v1 k0_hw6 k0_t2 => k0_hw6.2.2.1.2.2.2.2.2.2.2.2.2.2.2.2.2.2.1 k0_t2
theorem k0_off86_inb : ∀ (v1 : BitVec 32) (k0_hw6 : k0_chk6 v1) (k0_t2 : Fin (k0_t2_loop v1).trips), ∀ a, (k0_off86 v1 k0_t2) a + S2x256.size a ≤ S40x4096.size a := fun v1 k0_hw6 k0_t2 => k0_hw6.2.2.1.2.2.2.2.2.2.2.2.2.2.2.2.2.2.2.1 k0_t2
theorem k0_off87_inb : ∀ (v1 : BitVec 32) (k0_hw6 : k0_chk6 v1) (k0_t2 : Fin (k0_t2_loop v1).trips), ∀ a, (k0_off87 v1 k0_t2) a + S2x256.size a ≤ S40x4096.size a := fun v1 k0_hw6 k0_t2 => k0_hw6.2.2.1.2.2.2.2.2.2.2.2.2.2.2.2.2.2.2.2.1 k0_t2
theorem k0_off88_inb : ∀ (v1 : BitVec 32) (k0_hw6 : k0_chk6 v1) (k0_t2 : Fin (k0_t2_loop v1).trips), ∀ a, (k0_off88 v1 k0_t2) a + S1x128x256.size a ≤ S4x2560x256.size a := fun v1 k0_hw6 k0_t2 => k0_hw6.2.2.1.2.2.2.2.2.2.2.2.2.2.2.2.2.2.2.2.2.1 k0_t2
theorem k0_off89_inb : ∀ (v1 : BitVec 32) (k0_hw6 : k0_chk6 v1) (k0_t2 : Fin (k0_t2_loop v1).trips), ∀ a, (k0_off89 v1 k0_t2) a + S2x256.size a ≤ S40x4096.size a := fun v1 k0_hw6 k0_t2 => k0_hw6.2.2.1.2.2.2.2.2.2.2.2.2.2.2.2.2.2.2.2.2.2.1 k0_t2
theorem k0_off90_inb : ∀ (v1 : BitVec 32) (k0_hw6 : k0_chk6 v1) (k0_t2 : Fin (k0_t2_loop v1).trips), ∀ a, (k0_off90 v1 k0_t2) a + S2x256.size a ≤ S40x4096.size a := fun v1 k0_hw6 k0_t2 => k0_hw6.2.2.1.2.2.2.2.2.2.2.2.2.2.2.2.2.2.2.2.2.2.2.1 k0_t2
theorem k0_off91_inb : ∀ (v1 : BitVec 32) (k0_hw6 : k0_chk6 v1) (k0_t2 : Fin (k0_t2_loop v1).trips), ∀ a, (k0_off91 v1 k0_t2) a + S1x128x256.size a ≤ S4x2560x256.size a := fun v1 k0_hw6 k0_t2 => k0_hw6.2.2.1.2.2.2.2.2.2.2.2.2.2.2.2.2.2.2.2.2.2.2.2.1 k0_t2
theorem k0_off92_inb : ∀ (v1 : BitVec 32) (k0_hw6 : k0_chk6 v1) (k0_t2 : Fin (k0_t2_loop v1).trips), ∀ a, (k0_off92 v1 k0_t2) a + S2x256.size a ≤ S40x4096.size a := fun v1 k0_hw6 k0_t2 => k0_hw6.2.2.1.2.2.2.2.2.2.2.2.2.2.2.2.2.2.2.2.2.2.2.2.2.1 k0_t2
theorem k0_off93_inb : ∀ (v1 : BitVec 32) (k0_hw6 : k0_chk6 v1) (k0_t2 : Fin (k0_t2_loop v1).trips), ∀ a, (k0_off93 v1 k0_t2) a + S2x256.size a ≤ S40x4096.size a := fun v1 k0_hw6 k0_t2 => k0_hw6.2.2.1.2.2.2.2.2.2.2.2.2.2.2.2.2.2.2.2.2.2.2.2.2.2.1 k0_t2
theorem k0_off94_inb : ∀ (v1 : BitVec 32) (k0_hw6 : k0_chk6 v1) (k0_t2 : Fin (k0_t2_loop v1).trips), ∀ a, (k0_off94 v1 k0_t2) a + S1x128x256.size a ≤ S4x2560x256.size a := fun v1 k0_hw6 k0_t2 => k0_hw6.2.2.1.2.2.2.2.2.2.2.2.2.2.2.2.2.2.2.2.2.2.2.2.2.2.2.1 k0_t2
theorem k0_off95_inb : ∀ (v1 : BitVec 32) (k0_hw6 : k0_chk6 v1) (k0_t2 : Fin (k0_t2_loop v1).trips), ∀ a, (k0_off95 v1 k0_t2) a + S2x256.size a ≤ S40x4096.size a := fun v1 k0_hw6 k0_t2 => k0_hw6.2.2.1.2.2.2.2.2.2.2.2.2.2.2.2.2.2.2.2.2.2.2.2.2.2.2.2.1 k0_t2
theorem k0_off96_inb : ∀ (v1 : BitVec 32) (k0_hw6 : k0_chk6 v1) (k0_t2 : Fin (k0_t2_loop v1).trips), ∀ a, (k0_off96 v1 k0_t2) a + S2x256.size a ≤ S40x4096.size a := fun v1 k0_hw6 k0_t2 => k0_hw6.2.2.1.2.2.2.2.2.2.2.2.2.2.2.2.2.2.2.2.2.2.2.2.2.2.2.2.2.1 k0_t2
theorem k0_off97_inb : ∀ (v1 : BitVec 32) (k0_hw6 : k0_chk6 v1) (k0_t2 : Fin (k0_t2_loop v1).trips), ∀ a, (k0_off97 v1 k0_t2) a + S1x128x256.size a ≤ S4x2560x256.size a := fun v1 k0_hw6 k0_t2 => k0_hw6.2.2.1.2.2.2.2.2.2.2.2.2.2.2.2.2.2.2.2.2.2.2.2.2.2.2.2.2.2.1 k0_t2
theorem k0_off98_inb : ∀ (v1 : BitVec 32) (k0_hw6 : k0_chk6 v1) (k0_t2 : Fin (k0_t2_loop v1).trips), ∀ a, (k0_off98 v1 k0_t2) a + S2x256.size a ≤ S40x4096.size a := fun v1 k0_hw6 k0_t2 => k0_hw6.2.2.1.2.2.2.2.2.2.2.2.2.2.2.2.2.2.2.2.2.2.2.2.2.2.2.2.2.2.2.1 k0_t2
theorem k0_off99_inb : ∀ (v1 : BitVec 32) (k0_hw6 : k0_chk6 v1) (k0_t2 : Fin (k0_t2_loop v1).trips), ∀ a, (k0_off99 v1 k0_t2) a + S2x256.size a ≤ S40x4096.size a := fun v1 k0_hw6 k0_t2 => k0_hw6.2.2.1.2.2.2.2.2.2.2.2.2.2.2.2.2.2.2.2.2.2.2.2.2.2.2.2.2.2.2.2.1 k0_t2
theorem k0_off100_inb : ∀ (v1 : BitVec 32) (k0_hw6 : k0_chk6 v1) (k0_t2 : Fin (k0_t2_loop v1).trips), ∀ a, (k0_off100 v1 k0_t2) a + S1x128x256.size a ≤ S4x2560x256.size a := fun v1 k0_hw6 k0_t2 => k0_hw6.2.2.1.2.2.2.2.2.2.2.2.2.2.2.2.2.2.2.2.2.2.2.2.2.2.2.2.2.2.2.2.2.1 k0_t2
theorem k0_off101_inb : ∀ (v1 : BitVec 32) (k0_hw6 : k0_chk6 v1) (k0_t2 : Fin (k0_t2_loop v1).trips), ∀ a, (k0_off101 v1 k0_t2) a + S2x256.size a ≤ S40x4096.size a := fun v1 k0_hw6 k0_t2 => k0_hw6.2.2.1.2.2.2.2.2.2.2.2.2.2.2.2.2.2.2.2.2.2.2.2.2.2.2.2.2.2.2.2.2.2.1 k0_t2
theorem k0_off102_inb : ∀ (v1 : BitVec 32) (k0_hw6 : k0_chk6 v1) (k0_t2 : Fin (k0_t2_loop v1).trips), ∀ a, (k0_off102 v1 k0_t2) a + S2x256.size a ≤ S40x4096.size a := fun v1 k0_hw6 k0_t2 => k0_hw6.2.2.1.2.2.2.2.2.2.2.2.2.2.2.2.2.2.2.2.2.2.2.2.2.2.2.2.2.2.2.2.2.2.2 k0_t2
theorem k0_off103_inb : ∀ (v1 : BitVec 32) (k0_hw6 : k0_chk6 v1) (k0_t2 : Fin (k0_t2_loop v1).trips), ∀ a, (k0_off103 v1 k0_t2) a + S1x128x256.size a ≤ S4x2560x256.size a := fun v1 k0_hw6 k0_t2 => k0_hw6.2.2.2.1.1 k0_t2
theorem k0_off104_inb : ∀ (v1 : BitVec 32) (k0_hw6 : k0_chk6 v1) (k0_t2 : Fin (k0_t2_loop v1).trips), ∀ a, (k0_off104 v1 k0_t2) a + S2x256.size a ≤ S40x4096.size a := fun v1 k0_hw6 k0_t2 => k0_hw6.2.2.2.1.2.1 k0_t2
theorem k0_off105_inb : ∀ (v1 : BitVec 32) (k0_hw6 : k0_chk6 v1) (k0_t2 : Fin (k0_t2_loop v1).trips), ∀ a, (k0_off105 v1 k0_t2) a + S2x256.size a ≤ S40x4096.size a := fun v1 k0_hw6 k0_t2 => k0_hw6.2.2.2.1.2.2.1 k0_t2
theorem k0_off106_inb : ∀ (v1 : BitVec 32) (k0_hw6 : k0_chk6 v1) (k0_t2 : Fin (k0_t2_loop v1).trips), ∀ a, (k0_off106 v1 k0_t2) a + S1x128x256.size a ≤ S4x2560x256.size a := fun v1 k0_hw6 k0_t2 => k0_hw6.2.2.2.1.2.2.2.1 k0_t2
theorem k0_off107_inb : ∀ (v1 : BitVec 32) (k0_hw6 : k0_chk6 v1) (k0_t2 : Fin (k0_t2_loop v1).trips), ∀ a, (k0_off107 v1 k0_t2) a + S2x256.size a ≤ S40x4096.size a := fun v1 k0_hw6 k0_t2 => k0_hw6.2.2.2.1.2.2.2.2.1 k0_t2
theorem k0_off108_inb : ∀ (v1 : BitVec 32) (k0_hw6 : k0_chk6 v1) (k0_t2 : Fin (k0_t2_loop v1).trips), ∀ a, (k0_off108 v1 k0_t2) a + S2x256.size a ≤ S40x4096.size a := fun v1 k0_hw6 k0_t2 => k0_hw6.2.2.2.1.2.2.2.2.2.1 k0_t2
theorem k0_off109_inb : ∀ (v1 : BitVec 32) (k0_hw6 : k0_chk6 v1) (k0_t2 : Fin (k0_t2_loop v1).trips), ∀ a, (k0_off109 v1 k0_t2) a + S1x256.size a ≤ S16x5120.size a := fun v1 k0_hw6 k0_t2 => k0_hw6.2.2.2.1.2.2.2.2.2.2.1 k0_t2
theorem k0_off110_inb : ∀ (v1 : BitVec 32) (k0_hw6 : k0_chk6 v1) (k0_t2 : Fin (k0_t2_loop v1).trips), ∀ a, (k0_off110 v1 k0_t2) a + S1x256.size a ≤ S16x5120.size a := fun v1 k0_hw6 k0_t2 => k0_hw6.2.2.2.1.2.2.2.2.2.2.2.1 k0_t2
theorem k0_off111_inb : ∀ (v1 : BitVec 32) (k0_hw6 : k0_chk6 v1) (k0_t2 : Fin (k0_t2_loop v1).trips), ∀ a, (k0_off111 v1 k0_t2) a + S1x128x256.size a ≤ S4x128x5120.size a := fun v1 k0_hw6 k0_t2 => k0_hw6.2.2.2.1.2.2.2.2.2.2.2.2.1 k0_t2
theorem k0_off112_inb : ∀ (v1 : BitVec 32) (k0_hw6 : k0_chk6 v1) (k0_t2 : Fin (k0_t2_loop v1).trips), ∀ a, (k0_off112 v1 k0_t2) a + S1x256.size a ≤ S16x5120.size a := fun v1 k0_hw6 k0_t2 => k0_hw6.2.2.2.1.2.2.2.2.2.2.2.2.2.1 k0_t2
theorem k0_off113_inb : ∀ (v1 : BitVec 32) (k0_hw6 : k0_chk6 v1) (k0_t2 : Fin (k0_t2_loop v1).trips), ∀ a, (k0_off113 v1 k0_t2) a + S1x256.size a ≤ S16x5120.size a := fun v1 k0_hw6 k0_t2 => k0_hw6.2.2.2.1.2.2.2.2.2.2.2.2.2.2.1 k0_t2
theorem k0_off114_inb : ∀ (v1 : BitVec 32) (k0_hw6 : k0_chk6 v1) (k0_t2 : Fin (k0_t2_loop v1).trips), ∀ a, (k0_off114 v1 k0_t2) a + S1x128x256.size a ≤ S4x128x5120.size a := fun v1 k0_hw6 k0_t2 => k0_hw6.2.2.2.1.2.2.2.2.2.2.2.2.2.2.2.1 k0_t2
theorem k0_off115_inb : ∀ (v1 : BitVec 32) (k0_hw6 : k0_chk6 v1) (k0_t2 : Fin (k0_t2_loop v1).trips), ∀ a, (k0_off115 v1 k0_t2) a + S1x256.size a ≤ S16x5120.size a := fun v1 k0_hw6 k0_t2 => k0_hw6.2.2.2.1.2.2.2.2.2.2.2.2.2.2.2.2.1 k0_t2
theorem k0_off116_inb : ∀ (v1 : BitVec 32) (k0_hw6 : k0_chk6 v1) (k0_t2 : Fin (k0_t2_loop v1).trips), ∀ a, (k0_off116 v1 k0_t2) a + S1x256.size a ≤ S16x5120.size a := fun v1 k0_hw6 k0_t2 => k0_hw6.2.2.2.1.2.2.2.2.2.2.2.2.2.2.2.2.2.1 k0_t2
theorem k0_off117_inb : ∀ (v1 : BitVec 32) (k0_hw6 : k0_chk6 v1) (k0_t2 : Fin (k0_t2_loop v1).trips), ∀ a, (k0_off117 v1 k0_t2) a + S1x128x256.size a ≤ S4x128x5120.size a := fun v1 k0_hw6 k0_t2 => k0_hw6.2.2.2.1.2.2.2.2.2.2.2.2.2.2.2.2.2.2.1 k0_t2
theorem k0_off118_inb : ∀ (v1 : BitVec 32) (k0_hw6 : k0_chk6 v1) (k0_t2 : Fin (k0_t2_loop v1).trips), ∀ a, (k0_off118 v1 k0_t2) a + S1x256.size a ≤ S16x5120.size a := fun v1 k0_hw6 k0_t2 => k0_hw6.2.2.2.1.2.2.2.2.2.2.2.2.2.2.2.2.2.2.2.1 k0_t2
theorem k0_off119_inb : ∀ (v1 : BitVec 32) (k0_hw6 : k0_chk6 v1) (k0_t2 : Fin (k0_t2_loop v1).trips), ∀ a, (k0_off119 v1 k0_t2) a + S1x256.size a ≤ S16x5120.size a := fun v1 k0_hw6 k0_t2 => k0_hw6.2.2.2.1.2.2.2.2.2.2.2.2.2.2.2.2.2.2.2.2.1 k0_t2
theorem k0_off120_inb : ∀ (v1 : BitVec 32) (k0_hw6 : k0_chk6 v1) (k0_t2 : Fin (k0_t2_loop v1).trips), ∀ a, (k0_off120 v1 k0_t2) a + S1x128x256.size a ≤ S4x128x5120.size a := fun v1 k0_hw6 k0_t2 => k0_hw6.2.2.2.1.2.2.2.2.2.2.2.2.2.2.2.2.2.2.2.2.2.1 k0_t2
theorem k0_off121_inb : ∀ (v1 : BitVec 32) (k0_hw6 : k0_chk6 v1) (k0_t2 : Fin (k0_t2_loop v1).trips), ∀ a, (k0_off121 v1 k0_t2) a + S1x256.size a ≤ S16x5120.size a := fun v1 k0_hw6 k0_t2 => k0_hw6.2.2.2.1.2.2.2.2.2.2.2.2.2.2.2.2.2.2.2.2.2.2.1 k0_t2
theorem k0_off122_inb : ∀ (v1 : BitVec 32) (k0_hw6 : k0_chk6 v1) (k0_t2 : Fin (k0_t2_loop v1).trips), ∀ a, (k0_off122 v1 k0_t2) a + S1x256.size a ≤ S16x5120.size a := fun v1 k0_hw6 k0_t2 => k0_hw6.2.2.2.1.2.2.2.2.2.2.2.2.2.2.2.2.2.2.2.2.2.2.2.1 k0_t2
theorem k0_off123_inb : ∀ (v1 : BitVec 32) (k0_hw6 : k0_chk6 v1) (k0_t2 : Fin (k0_t2_loop v1).trips), ∀ a, (k0_off123 v1 k0_t2) a + S1x128x256.size a ≤ S4x128x5120.size a := fun v1 k0_hw6 k0_t2 => k0_hw6.2.2.2.1.2.2.2.2.2.2.2.2.2.2.2.2.2.2.2.2.2.2.2.2.1 k0_t2
theorem k0_off124_inb : ∀ (v1 : BitVec 32) (k0_hw6 : k0_chk6 v1) (k0_t2 : Fin (k0_t2_loop v1).trips), ∀ a, (k0_off124 v1 k0_t2) a + S1x256.size a ≤ S16x5120.size a := fun v1 k0_hw6 k0_t2 => k0_hw6.2.2.2.1.2.2.2.2.2.2.2.2.2.2.2.2.2.2.2.2.2.2.2.2.2.1 k0_t2
theorem k0_off125_inb : ∀ (v1 : BitVec 32) (k0_hw6 : k0_chk6 v1) (k0_t2 : Fin (k0_t2_loop v1).trips), ∀ a, (k0_off125 v1 k0_t2) a + S1x256.size a ≤ S16x5120.size a := fun v1 k0_hw6 k0_t2 => k0_hw6.2.2.2.1.2.2.2.2.2.2.2.2.2.2.2.2.2.2.2.2.2.2.2.2.2.2.1 k0_t2
theorem k0_off126_inb : ∀ (v1 : BitVec 32) (k0_hw6 : k0_chk6 v1) (k0_t2 : Fin (k0_t2_loop v1).trips), ∀ a, (k0_off126 v1 k0_t2) a + S1x128x256.size a ≤ S4x128x5120.size a := fun v1 k0_hw6 k0_t2 => k0_hw6.2.2.2.1.2.2.2.2.2.2.2.2.2.2.2.2.2.2.2.2.2.2.2.2.2.2.2.1 k0_t2
theorem k0_off127_inb : ∀ (v1 : BitVec 32) (k0_hw6 : k0_chk6 v1) (k0_t2 : Fin (k0_t2_loop v1).trips), ∀ a, (k0_off127 v1 k0_t2) a + S1x256.size a ≤ S16x5120.size a := fun v1 k0_hw6 k0_t2 => k0_hw6.2.2.2.1.2.2.2.2.2.2.2.2.2.2.2.2.2.2.2.2.2.2.2.2.2.2.2.2.1 k0_t2
theorem k0_off128_inb : ∀ (v1 : BitVec 32) (k0_hw6 : k0_chk6 v1) (k0_t2 : Fin (k0_t2_loop v1).trips), ∀ a, (k0_off128 v1 k0_t2) a + S1x256.size a ≤ S16x5120.size a := fun v1 k0_hw6 k0_t2 => k0_hw6.2.2.2.1.2.2.2.2.2.2.2.2.2.2.2.2.2.2.2.2.2.2.2.2.2.2.2.2.2.1 k0_t2
theorem k0_off129_inb : ∀ (v1 : BitVec 32) (k0_hw6 : k0_chk6 v1) (k0_t2 : Fin (k0_t2_loop v1).trips), ∀ a, (k0_off129 v1 k0_t2) a + S1x128x256.size a ≤ S4x128x5120.size a := fun v1 k0_hw6 k0_t2 => k0_hw6.2.2.2.1.2.2.2.2.2.2.2.2.2.2.2.2.2.2.2.2.2.2.2.2.2.2.2.2.2.2.1 k0_t2
theorem k0_off130_inb : ∀ (v1 : BitVec 32) (k0_hw6 : k0_chk6 v1) (k0_t2 : Fin (k0_t2_loop v1).trips), ∀ a, (k0_off130 v1 k0_t2) a + S1x256.size a ≤ S16x5120.size a := fun v1 k0_hw6 k0_t2 => k0_hw6.2.2.2.1.2.2.2.2.2.2.2.2.2.2.2.2.2.2.2.2.2.2.2.2.2.2.2.2.2.2.2.1 k0_t2
theorem k0_off131_inb : ∀ (v1 : BitVec 32) (k0_hw6 : k0_chk6 v1) (k0_t2 : Fin (k0_t2_loop v1).trips), ∀ a, (k0_off131 v1 k0_t2) a + S1x256.size a ≤ S16x5120.size a := fun v1 k0_hw6 k0_t2 => k0_hw6.2.2.2.1.2.2.2.2.2.2.2.2.2.2.2.2.2.2.2.2.2.2.2.2.2.2.2.2.2.2.2.2.1 k0_t2
theorem k0_off132_inb : ∀ (v1 : BitVec 32) (k0_hw6 : k0_chk6 v1) (k0_t2 : Fin (k0_t2_loop v1).trips), ∀ a, (k0_off132 v1 k0_t2) a + S1x128x256.size a ≤ S4x128x5120.size a := fun v1 k0_hw6 k0_t2 => k0_hw6.2.2.2.1.2.2.2.2.2.2.2.2.2.2.2.2.2.2.2.2.2.2.2.2.2.2.2.2.2.2.2.2.2.1 k0_t2
theorem k0_off133_inb : ∀ (v1 : BitVec 32) (k0_hw6 : k0_chk6 v1) (k0_t2 : Fin (k0_t2_loop v1).trips), ∀ a, (k0_off133 v1 k0_t2) a + S1x256.size a ≤ S16x5120.size a := fun v1 k0_hw6 k0_t2 => k0_hw6.2.2.2.1.2.2.2.2.2.2.2.2.2.2.2.2.2.2.2.2.2.2.2.2.2.2.2.2.2.2.2.2.2.2.1 k0_t2
theorem k0_off134_inb : ∀ (v1 : BitVec 32) (k0_hw6 : k0_chk6 v1) (k0_t2 : Fin (k0_t2_loop v1).trips), ∀ a, (k0_off134 v1 k0_t2) a + S1x256.size a ≤ S16x5120.size a := fun v1 k0_hw6 k0_t2 => k0_hw6.2.2.2.1.2.2.2.2.2.2.2.2.2.2.2.2.2.2.2.2.2.2.2.2.2.2.2.2.2.2.2.2.2.2.2 k0_t2
theorem k0_off135_inb : ∀ (v1 : BitVec 32) (k0_hw6 : k0_chk6 v1) (k0_t2 : Fin (k0_t2_loop v1).trips), ∀ a, (k0_off135 v1 k0_t2) a + S1x128x256.size a ≤ S4x128x5120.size a := fun v1 k0_hw6 k0_t2 => k0_hw6.2.2.2.2.1.1 k0_t2
theorem k0_off136_inb : ∀ (v1 : BitVec 32) (k0_hw6 : k0_chk6 v1) (k0_t2 : Fin (k0_t2_loop v1).trips), ∀ a, (k0_off136 v1 k0_t2) a + S1x256.size a ≤ S16x5120.size a := fun v1 k0_hw6 k0_t2 => k0_hw6.2.2.2.2.1.2.1 k0_t2
theorem k0_off137_inb : ∀ (v1 : BitVec 32) (k0_hw6 : k0_chk6 v1) (k0_t2 : Fin (k0_t2_loop v1).trips), ∀ a, (k0_off137 v1 k0_t2) a + S1x256.size a ≤ S16x5120.size a := fun v1 k0_hw6 k0_t2 => k0_hw6.2.2.2.2.1.2.2.1 k0_t2
theorem k0_off138_inb : ∀ (v1 : BitVec 32) (k0_hw6 : k0_chk6 v1) (k0_t2 : Fin (k0_t2_loop v1).trips), ∀ a, (k0_off138 v1 k0_t2) a + S1x128x256.size a ≤ S4x128x5120.size a := fun v1 k0_hw6 k0_t2 => k0_hw6.2.2.2.2.1.2.2.2.1 k0_t2
theorem k0_off139_inb : ∀ (v1 : BitVec 32) (k0_hw6 : k0_chk6 v1) (k0_t2 : Fin (k0_t2_loop v1).trips), ∀ a, (k0_off139 v1 k0_t2) a + S1x256.size a ≤ S16x5120.size a := fun v1 k0_hw6 k0_t2 => k0_hw6.2.2.2.2.1.2.2.2.2.1 k0_t2
theorem k0_off140_inb : ∀ (v1 : BitVec 32) (k0_hw6 : k0_chk6 v1) (k0_t2 : Fin (k0_t2_loop v1).trips), ∀ a, (k0_off140 v1 k0_t2) a + S1x256.size a ≤ S16x5120.size a := fun v1 k0_hw6 k0_t2 => k0_hw6.2.2.2.2.1.2.2.2.2.2.1 k0_t2
theorem k0_off141_inb : ∀ (v1 : BitVec 32) (k0_hw6 : k0_chk6 v1) (k0_t2 : Fin (k0_t2_loop v1).trips), ∀ a, (k0_off141 v1 k0_t2) a + S1x128x256.size a ≤ S4x128x5120.size a := fun v1 k0_hw6 k0_t2 => k0_hw6.2.2.2.2.1.2.2.2.2.2.2.1 k0_t2
theorem k0_off142_inb : ∀ (v1 : BitVec 32) (k0_hw6 : k0_chk6 v1) (k0_t2 : Fin (k0_t2_loop v1).trips), ∀ a, (k0_off142 v1 k0_t2) a + S1x256.size a ≤ S16x5120.size a := fun v1 k0_hw6 k0_t2 => k0_hw6.2.2.2.2.1.2.2.2.2.2.2.2.1 k0_t2
theorem k0_off143_inb : ∀ (v1 : BitVec 32) (k0_hw6 : k0_chk6 v1) (k0_t2 : Fin (k0_t2_loop v1).trips), ∀ a, (k0_off143 v1 k0_t2) a + S1x256.size a ≤ S16x5120.size a := fun v1 k0_hw6 k0_t2 => k0_hw6.2.2.2.2.1.2.2.2.2.2.2.2.2.1 k0_t2
theorem k0_off144_inb : ∀ (v1 : BitVec 32) (k0_hw6 : k0_chk6 v1) (k0_t2 : Fin (k0_t2_loop v1).trips), ∀ a, (k0_off144 v1 k0_t2) a + S1x128x256.size a ≤ S4x128x5120.size a := fun v1 k0_hw6 k0_t2 => k0_hw6.2.2.2.2.1.2.2.2.2.2.2.2.2.2.1 k0_t2
theorem k0_off145_inb : ∀ (v1 : BitVec 32) (k0_hw6 : k0_chk6 v1) (k0_t2 : Fin (k0_t2_loop v1).trips), ∀ a, (k0_off145 v1 k0_t2) a + S1x256.size a ≤ S16x5120.size a := fun v1 k0_hw6 k0_t2 => k0_hw6.2.2.2.2.1.2.2.2.2.2.2.2.2.2.2.1 k0_t2
theorem k0_off146_inb : ∀ (v1 : BitVec 32) (k0_hw6 : k0_chk6 v1) (k0_t2 : Fin (k0_t2_loop v1).trips), ∀ a, (k0_off146 v1 k0_t2) a + S1x256.size a ≤ S16x5120.size a := fun v1 k0_hw6 k0_t2 => k0_hw6.2.2.2.2.1.2.2.2.2.2.2.2.2.2.2.2.1 k0_t2
theorem k0_off147_inb : ∀ (v1 : BitVec 32) (k0_hw6 : k0_chk6 v1) (k0_t2 : Fin (k0_t2_loop v1).trips), ∀ a, (k0_off147 v1 k0_t2) a + S1x128x256.size a ≤ S4x128x5120.size a := fun v1 k0_hw6 k0_t2 => k0_hw6.2.2.2.2.1.2.2.2.2.2.2.2.2.2.2.2.2.1 k0_t2
theorem k0_off148_inb : ∀ (v1 : BitVec 32) (k0_hw6 : k0_chk6 v1) (k0_t2 : Fin (k0_t2_loop v1).trips), ∀ a, (k0_off148 v1 k0_t2) a + S1x256.size a ≤ S16x5120.size a := fun v1 k0_hw6 k0_t2 => k0_hw6.2.2.2.2.1.2.2.2.2.2.2.2.2.2.2.2.2.2.1 k0_t2
theorem k0_off149_inb : ∀ (v1 : BitVec 32) (k0_hw6 : k0_chk6 v1) (k0_t2 : Fin (k0_t2_loop v1).trips), ∀ a, (k0_off149 v1 k0_t2) a + S1x256.size a ≤ S16x5120.size a := fun v1 k0_hw6 k0_t2 => k0_hw6.2.2.2.2.1.2.2.2.2.2.2.2.2.2.2.2.2.2.2.1 k0_t2
theorem k0_off150_inb : ∀ (v1 : BitVec 32) (k0_hw6 : k0_chk6 v1) (k0_t2 : Fin (k0_t2_loop v1).trips), ∀ a, (k0_off150 v1 k0_t2) a + S1x128x256.size a ≤ S4x128x5120.size a := fun v1 k0_hw6 k0_t2 => k0_hw6.2.2.2.2.1.2.2.2.2.2.2.2.2.2.2.2.2.2.2.2.1 k0_t2
theorem k0_off151_inb : ∀ (v1 : BitVec 32) (k0_hw6 : k0_chk6 v1) (k0_t2 : Fin (k0_t2_loop v1).trips), ∀ a, (k0_off151 v1 k0_t2) a + S1x256.size a ≤ S16x5120.size a := fun v1 k0_hw6 k0_t2 => k0_hw6.2.2.2.2.1.2.2.2.2.2.2.2.2.2.2.2.2.2.2.2.2.1 k0_t2
theorem k0_off152_inb : ∀ (v1 : BitVec 32) (k0_hw6 : k0_chk6 v1) (k0_t2 : Fin (k0_t2_loop v1).trips), ∀ a, (k0_off152 v1 k0_t2) a + S1x256.size a ≤ S16x5120.size a := fun v1 k0_hw6 k0_t2 => k0_hw6.2.2.2.2.1.2.2.2.2.2.2.2.2.2.2.2.2.2.2.2.2.2.1 k0_t2
theorem k0_off153_inb : ∀ (v1 : BitVec 32) (k0_hw6 : k0_chk6 v1) (k0_t2 : Fin (k0_t2_loop v1).trips), ∀ a, (k0_off153 v1 k0_t2) a + S1x128x256.size a ≤ S4x128x5120.size a := fun v1 k0_hw6 k0_t2 => k0_hw6.2.2.2.2.1.2.2.2.2.2.2.2.2.2.2.2.2.2.2.2.2.2.2.1 k0_t2
theorem k0_off154_inb : ∀ (v1 : BitVec 32) (k0_hw6 : k0_chk6 v1) (k0_t2 : Fin (k0_t2_loop v1).trips), ∀ a, (k0_off154 v1 k0_t2) a + S1x256.size a ≤ S16x5120.size a := fun v1 k0_hw6 k0_t2 => k0_hw6.2.2.2.2.1.2.2.2.2.2.2.2.2.2.2.2.2.2.2.2.2.2.2.2.1 k0_t2
theorem k0_off155_inb : ∀ (v1 : BitVec 32) (k0_hw6 : k0_chk6 v1) (k0_t2 : Fin (k0_t2_loop v1).trips), ∀ a, (k0_off155 v1 k0_t2) a + S1x256.size a ≤ S16x5120.size a := fun v1 k0_hw6 k0_t2 => k0_hw6.2.2.2.2.1.2.2.2.2.2.2.2.2.2.2.2.2.2.2.2.2.2.2.2.2.1 k0_t2
theorem k0_off156_inb : ∀ (v1 : BitVec 32) (k0_hw6 : k0_chk6 v1) (k0_t2 : Fin (k0_t2_loop v1).trips), ∀ a, (k0_off156 v1 k0_t2) a + S1x128x256.size a ≤ S4x128x5120.size a := fun v1 k0_hw6 k0_t2 => k0_hw6.2.2.2.2.1.2.2.2.2.2.2.2.2.2.2.2.2.2.2.2.2.2.2.2.2.2.1 k0_t2
theorem k0_off157_inb : ∀ (v1 : BitVec 32) (k0_hw6 : k0_chk6 v1) (k0_t2 : Fin (k0_t2_loop v1).trips), ∀ a, (k0_off157 v1 k0_t2) a + S1x256.size a ≤ S16x5120.size a := fun v1 k0_hw6 k0_t2 => k0_hw6.2.2.2.2.1.2.2.2.2.2.2.2.2.2.2.2.2.2.2.2.2.2.2.2.2.2.2.1 k0_t2
theorem k0_off158_inb : ∀ (v1 : BitVec 32) (k0_hw6 : k0_chk6 v1) (k0_t2 : Fin (k0_t2_loop v1).trips), ∀ a, (k0_off158 v1 k0_t2) a + S1x256.size a ≤ S16x5120.size a := fun v1 k0_hw6 k0_t2 => k0_hw6.2.2.2.2.1.2.2.2.2.2.2.2.2.2.2.2.2.2.2.2.2.2.2.2.2.2.2.2.1 k0_t2
theorem k0_off159_inb : ∀ (v1 : BitVec 32) (k0_hw6 : k0_chk6 v1) (k0_t2 : Fin (k0_t2_loop v1).trips), ∀ a, (k0_off159 v1 k0_t2) a + S1x128x256.size a ≤ S4x128x5120.size a := fun v1 k0_hw6 k0_t2 => k0_hw6.2.2.2.2.1.2.2.2.2.2.2.2.2.2.2.2.2.2.2.2.2.2.2.2.2.2.2.2.2.1 k0_t2
theorem k0_off160_inb : ∀ (v1 : BitVec 32) (k0_hw6 : k0_chk6 v1) (k0_t2 : Fin (k0_t2_loop v1).trips), ∀ a, (k0_off160 v1 k0_t2) a + S1x256.size a ≤ S16x5120.size a := fun v1 k0_hw6 k0_t2 => k0_hw6.2.2.2.2.1.2.2.2.2.2.2.2.2.2.2.2.2.2.2.2.2.2.2.2.2.2.2.2.2.2.1 k0_t2
theorem k0_off161_inb : ∀ (v1 : BitVec 32) (k0_hw6 : k0_chk6 v1) (k0_t2 : Fin (k0_t2_loop v1).trips), ∀ a, (k0_off161 v1 k0_t2) a + S1x256.size a ≤ S16x5120.size a := fun v1 k0_hw6 k0_t2 => k0_hw6.2.2.2.2.1.2.2.2.2.2.2.2.2.2.2.2.2.2.2.2.2.2.2.2.2.2.2.2.2.2.2.1 k0_t2
theorem k0_off162_inb : ∀ (v1 : BitVec 32) (k0_hw6 : k0_chk6 v1) (k0_t2 : Fin (k0_t2_loop v1).trips), ∀ a, (k0_off162 v1 k0_t2) a + S1x128x256.size a ≤ S4x128x5120.size a := fun v1 k0_hw6 k0_t2 => k0_hw6.2.2.2.2.1.2.2.2.2.2.2.2.2.2.2.2.2.2.2.2.2.2.2.2.2.2.2.2.2.2.2.2.1 k0_t2
theorem k0_off163_inb : ∀ (v1 : BitVec 32) (k0_hw6 : k0_chk6 v1) (k0_t2 : Fin (k0_t2_loop v1).trips), ∀ a, (k0_off163 v1 k0_t2) a + S1x256.size a ≤ S16x5120.size a := fun v1 k0_hw6 k0_t2 => k0_hw6.2.2.2.2.1.2.2.2.2.2.2.2.2.2.2.2.2.2.2.2.2.2.2.2.2.2.2.2.2.2.2.2.2.1 k0_t2
theorem k0_off164_inb : ∀ (v1 : BitVec 32) (k0_hw6 : k0_chk6 v1) (k0_t2 : Fin (k0_t2_loop v1).trips), ∀ a, (k0_off164 v1 k0_t2) a + S1x256.size a ≤ S16x5120.size a := fun v1 k0_hw6 k0_t2 => k0_hw6.2.2.2.2.1.2.2.2.2.2.2.2.2.2.2.2.2.2.2.2.2.2.2.2.2.2.2.2.2.2.2.2.2.2.1 k0_t2
theorem k0_off165_inb : ∀ (v1 : BitVec 32) (k0_hw6 : k0_chk6 v1) (k0_t2 : Fin (k0_t2_loop v1).trips), ∀ a, (k0_off165 v1 k0_t2) a + S1x128x256.size a ≤ S4x128x5120.size a := fun v1 k0_hw6 k0_t2 => k0_hw6.2.2.2.2.1.2.2.2.2.2.2.2.2.2.2.2.2.2.2.2.2.2.2.2.2.2.2.2.2.2.2.2.2.2.2.1 k0_t2
theorem k0_off166_inb : ∀ (v1 : BitVec 32) (k0_hw6 : k0_chk6 v1) (k0_t2 : Fin (k0_t2_loop v1).trips), ∀ a, (k0_off166 v1 k0_t2) a + S1x256.size a ≤ S16x5120.size a := fun v1 k0_hw6 k0_t2 => k0_hw6.2.2.2.2.1.2.2.2.2.2.2.2.2.2.2.2.2.2.2.2.2.2.2.2.2.2.2.2.2.2.2.2.2.2.2.2 k0_t2
theorem k0_off167_inb : ∀ (v1 : BitVec 32) (k0_hw6 : k0_chk6 v1) (k0_t2 : Fin (k0_t2_loop v1).trips), ∀ a, (k0_off167 v1 k0_t2) a + S1x256.size a ≤ S16x5120.size a := fun v1 k0_hw6 k0_t2 => k0_hw6.2.2.2.2.2.1.1 k0_t2
theorem k0_off168_inb : ∀ (v1 : BitVec 32) (k0_hw6 : k0_chk6 v1) (k0_t2 : Fin (k0_t2_loop v1).trips), ∀ a, (k0_off168 v1 k0_t2) a + S1x128x256.size a ≤ S4x128x5120.size a := fun v1 k0_hw6 k0_t2 => k0_hw6.2.2.2.2.2.1.2.1 k0_t2
theorem k0_off169_inb : ∀ (v1 : BitVec 32) (k0_hw6 : k0_chk6 v1) (k0_t2 : Fin (k0_t2_loop v1).trips), ∀ (k0_h8 : k0_cond8 v1 k0_t2 = 1#1), ∀ a, (k0_off169 v1 k0_t2) a + S1.size a ≤ S4.size a := fun v1 k0_hw6 k0_t2 k0_h8 => k0_hw6.2.2.2.2.2.1.2.2.1 k0_t2 k0_h8
theorem k0_t3_ok : ∀ (v1 : BitVec 32) (k0_hw6 : k0_chk6 v1), (k0_t3_loop v1).OK := fun v1 k0_hw6 => k0_hw6.2.2.2.2.2.1.2.2.2.1
theorem k0_off170_inb : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), ∀ a, (k0_off170 v1 k0_t3) a + S1.size a ≤ S4.size a := fun v1 k0_hw6 k0_t3 k0_h9 k0_h10 => k0_hw6.2.2.2.2.2.1.2.2.2.2.1 k0_t3 k0_h9 k0_h10
theorem k0_off171_inb : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), ∀ a, (k0_off171 v1 k0_t3) a + S1x1.size a ≤ S2x2.size a := fun v1 k0_hw6 k0_t3 k0_h9 k0_h10 => k0_hw6.2.2.2.2.2.1.2.2.2.2.2.1 k0_t3 k0_h9 k0_h10
theorem k0_off172_inb : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), ∀ a, (k0_off172 v1 k0_t3) a + S1x40x4096.size a ≤ S2x40x4096.size a := fun v1 k0_hw6 k0_t3 k0_h9 k0_h10 => k0_hw6.2.2.2.2.2.1.2.2.2.2.2.2.1 k0_t3 k0_h9 k0_h10
theorem k0_off172_wordsbf16 : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), (Rect.unit (s := S2x40x4096) (k0_off172 v1 k0_t3) S1x40x4096.size (k0_off172_inb v1 k0_hw6 k0_t3 k0_h9 k0_h10)).WholeWords (EltTy.packing .bf16) := fun v1 k0_hw6 k0_t3 k0_h9 k0_h10 => k0_hw6.2.2.2.2.2.1.2.2.2.2.2.2.2.1 k0_t3 k0_h9 k0_h10 (k0_off172_inb v1 k0_hw6 k0_t3 k0_h9 k0_h10)
theorem k0_off174_inb : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), ∀ a, (k0_off174 v1 k0_t3) a + S1x1.size a ≤ S2x2.size a := fun v1 k0_hw6 k0_t3 k0_h9 k0_h10 => k0_hw6.2.2.2.2.2.1.2.2.2.2.2.2.2.2.1 k0_t3 k0_h9 k0_h10
theorem k0_off175_inb : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), ∀ a, (k0_off175 v1 k0_t3) a + S1x16x5120.size a ≤ S2x16x5120.size a := fun v1 k0_hw6 k0_t3 k0_h9 k0_h10 => k0_hw6.2.2.2.2.2.1.2.2.2.2.2.2.2.2.2.1 k0_t3 k0_h9 k0_h10
theorem k0_off175_wordsbf16 : ∀ (v1 : BitVec 32) (k0_hw6 : k0_chk6 v1) (k0_t3 : Fin (k0_t3_loop v1).trips), ∀ (k0_h9 : k0_cond9 v1 k0_t3 = 1#1), ∀ (k0_h10 : k0_cond10 v1 k0_t3 = 1#1), (Rect.unit (s := S2x16x5120) (k0_off175 v1 k0_t3) S1x16x5120.size (k0_off175_inb v1 k0_hw6 k0_t3 k0_h9 k0_h10)).WholeWords (EltTy.packing .bf16) := fun v1 k0_hw6 k0_t3 k0_h9 k0_h10 => k0_hw6.2.2.2.2.2.1.2.2.2.2.2.2.2.2.2.2.1 k0_t3 k0_h9 k0_h10 (k0_off175_inb v1 k0_hw6 k0_t3 k0_h9 k0_h10)
theorem k0_off177_inb : ∀ (v1 : BitVec 32) (k0_hw6 : k0_chk6 v1) (k0_t3 : Fin (k0_t3_loop v1).trips), ∀ (k0_h9 : k0_cond9 v1 k0_t3 = 1#1), ∀ a, (k0_off177 v1 k0_t3) a + S1.size a ≤ S4.size a := fun v1 k0_hw6 k0_t3 k0_h9 => k0_hw6.2.2.2.2.2.1.2.2.2.2.2.2.2.2.2.2.2.1 k0_t3 k0_h9
theorem k0_off178_inb : ∀ (v1 : BitVec 32) (k0_hw6 : k0_chk6 v1) (k0_t3 : Fin (k0_t3_loop v1).trips), ∀ (k0_h9 : k0_cond9 v1 k0_t3 = 1#1), ∀ a, (k0_off178 v1 k0_t3) a + S1x1.size a ≤ S2x2.size a := fun v1 k0_hw6 k0_t3 k0_h9 => k0_hw6.2.2.2.2.2.1.2.2.2.2.2.2.2.2.2.2.2.2.1 k0_t3 k0_h9
theorem k0_off179_inb : ∀ (v1 : BitVec 32) (k0_hw6 : k0_chk6 v1) (k0_t3 : Fin (k0_t3_loop v1).trips), ∀ (k0_h9 : k0_cond9 v1 k0_t3 = 1#1), ∀ a, (k0_off179 v1 k0_t3) a + S1x40x4096.size a ≤ S2x40x4096.size a := fun v1 k0_hw6 k0_t3 k0_h9 => k0_hw6.2.2.2.2.2.1.2.2.2.2.2.2.2.2.2.2.2.2.2.1 k0_t3 k0_h9
theorem k0_off179_wordsbf16 : ∀ (v1 : BitVec 32) (k0_hw6 : k0_chk6 v1) (k0_t3 : Fin (k0_t3_loop v1).trips), ∀ (k0_h9 : k0_cond9 v1 k0_t3 = 1#1), (Rect.unit (s := S2x40x4096) (k0_off179 v1 k0_t3) S1x40x4096.size (k0_off179_inb v1 k0_hw6 k0_t3 k0_h9)).WholeWords (EltTy.packing .bf16) := fun v1 k0_hw6 k0_t3 k0_h9 => k0_hw6.2.2.2.2.2.1.2.2.2.2.2.2.2.2.2.2.2.2.2.2.1 k0_t3 k0_h9 (k0_off179_inb v1 k0_hw6 k0_t3 k0_h9)
theorem k0_off181_inb : ∀ (v1 : BitVec 32) (k0_hw6 : k0_chk6 v1) (k0_t3 : Fin (k0_t3_loop v1).trips), ∀ (k0_h9 : k0_cond9 v1 k0_t3 = 1#1), ∀ a, (k0_off181 v1 k0_t3) a + S1x1.size a ≤ S2x2.size a := fun v1 k0_hw6 k0_t3 k0_h9 => k0_hw6.2.2.2.2.2.1.2.2.2.2.2.2.2.2.2.2.2.2.2.2.2.1 k0_t3 k0_h9
theorem k0_off182_inb : ∀ (v1 : BitVec 32) (k0_hw6 : k0_chk6 v1) (k0_t3 : Fin (k0_t3_loop v1).trips), ∀ (k0_h9 : k0_cond9 v1 k0_t3 = 1#1), ∀ a, (k0_off182 v1 k0_t3) a + S1x16x5120.size a ≤ S2x16x5120.size a := fun v1 k0_hw6 k0_t3 k0_h9 => k0_hw6.2.2.2.2.2.1.2.2.2.2.2.2.2.2.2.2.2.2.2.2.2.2.1 k0_t3 k0_h9
theorem k0_off182_wordsbf16 : ∀ (v1 : BitVec 32) (k0_hw6 : k0_chk6 v1) (k0_t3 : Fin (k0_t3_loop v1).trips), ∀ (k0_h9 : k0_cond9 v1 k0_t3 = 1#1), (Rect.unit (s := S2x16x5120) (k0_off182 v1 k0_t3) S1x16x5120.size (k0_off182_inb v1 k0_hw6 k0_t3 k0_h9)).WholeWords (EltTy.packing .bf16) := fun v1 k0_hw6 k0_t3 k0_h9 => k0_hw6.2.2.2.2.2.1.2.2.2.2.2.2.2.2.2.2.2.2.2.2.2.2.2.1 k0_t3 k0_h9 (k0_off182_inb v1 k0_hw6 k0_t3 k0_h9)
theorem k0_off184_inb : ∀ (v1 : BitVec 32) (k0_hw6 : k0_chk6 v1) (k0_t3 : Fin (k0_t3_loop v1).trips), ∀ (k0_h9 : k0_cond9 v1 k0_t3 = 1#1), ∀ a, (k0_off184 v1 k0_t3) a + S1x40x4096.size a ≤ S2x40x4096.size a := fun v1 k0_hw6 k0_t3 k0_h9 => k0_hw6.2.2.2.2.2.1.2.2.2.2.2.2.2.2.2.2.2.2.2.2.2.2.2.2.1 k0_t3 k0_h9
theorem k0_off185_inb : ∀ (v1 : BitVec 32) (k0_hw6 : k0_chk6 v1) (k0_t3 : Fin (k0_t3_loop v1).trips), ∀ (k0_h9 : k0_cond9 v1 k0_t3 = 1#1), ∀ a, (k0_off185 v1 k0_t3) a + S1x16x5120.size a ≤ S2x16x5120.size a := fun v1 k0_hw6 k0_t3 k0_h9 => k0_hw6.2.2.2.2.2.1.2.2.2.2.2.2.2.2.2.2.2.2.2.2.2.2.2.2.2.1 k0_t3 k0_h9
theorem k0_off186_inb : ∀ (v1 : BitVec 32) (k0_hw6 : k0_chk6 v1) (k0_t3 : Fin (k0_t3_loop v1).trips), ∀ a, (k0_off186 v1 k0_t3) a + S1.size a ≤ S4.size a := fun v1 k0_hw6 k0_t3 => k0_hw6.2.2.2.2.2.1.2.2.2.2.2.2.2.2.2.2.2.2.2.2.2.2.2.2.2.2.1 k0_t3
theorem k0_mult12_dvd : ∀ (v1 : BitVec 32) (k0_hw6 : k0_chk6 v1) (k0_t3 : Fin (k0_t3_loop v1).trips), 256 ∣ (k0_mult12 v1 k0_t3).toNat := fun v1 k0_hw6 k0_t3 => k0_hw6.2.2.2.2.2.1.2.2.2.2.2.2.2.2.2.2.2.2.2.2.2.2.2.2.2.2.2.1 k0_t3
theorem k0_mult13_dvd : ∀ (v1 : BitVec 32) (k0_hw6 : k0_chk6 v1) (k0_t3 : Fin (k0_t3_loop v1).trips), 128 ∣ (k0_mult13 v1 k0_t3).toNat := fun v1 k0_hw6 k0_t3 => k0_hw6.2.2.2.2.2.1.2.2.2.2.2.2.2.2.2.2.2.2.2.2.2.2.2.2.2.2.2.2.1 k0_t3
theorem k0_off187_inb : ∀ (v1 : BitVec 32) (k0_hw6 : k0_chk6 v1) (k0_t3 : Fin (k0_t3_loop v1).trips), ∀ a, (k0_off187 v1 k0_t3) a + S1x1.size a ≤ S3x4.size a := fun v1 k0_hw6 k0_t3 => k0_hw6.2.2.2.2.2.1.2.2.2.2.2.2.2.2.2.2.2.2.2.2.2.2.2.2.2.2.2.2.2.1 k0_t3
theorem k0_off188_inb : ∀ (v1 : BitVec 32) (k0_hw6 : k0_chk6 v1) (k0_t3 : Fin (k0_t3_loop v1).trips), ∀ a, (k0_off188 v1 k0_t3) a + S1x2560x256.size a ≤ S4x2560x256.size a := fun v1 k0_hw6 k0_t3 => k0_hw6.2.2.2.2.2.1.2.2.2.2.2.2.2.2.2.2.2.2.2.2.2.2.2.2.2.2.2.2.2.2.1 k0_t3
theorem k0_off188_wordsi8 : ∀ (v1 : BitVec 32) (k0_hw6 : k0_chk6 v1) (k0_t3 : Fin (k0_t3_loop v1).trips), (Rect.unit (s := S4x2560x256) (k0_off188 v1 k0_t3) S1x2560x256.size (k0_off188_inb v1 k0_hw6 k0_t3)).WholeWords (EltTy.packing .i8) := fun v1 k0_hw6 k0_t3 => k0_hw6.2.2.2.2.2.1.2.2.2.2.2.2.2.2.2.2.2.2.2.2.2.2.2.2.2.2.2.2.2.2.2.1 k0_t3 (k0_off188_inb v1 k0_hw6 k0_t3)
theorem k0_off190_inb : ∀ (v1 : BitVec 32) (k0_hw6 : k0_chk6 v1) (k0_t3 : Fin (k0_t3_loop v1).trips), ∀ a, (k0_off190 v1 k0_t3) a + S1x1.size a ≤ S3x4.size a := fun v1 k0_hw6 k0_t3 => k0_hw6.2.2.2.2.2.1.2.2.2.2.2.2.2.2.2.2.2.2.2.2.2.2.2.2.2.2.2.2.2.2.2.2.1 k0_t3
theorem k0_off191_inb : ∀ (v1 : BitVec 32) (k0_hw6 : k0_chk6 v1) (k0_t3 : Fin (k0_t3_loop v1).trips), ∀ a, (k0_off191 v1 k0_t3) a + S1x2560x256.size a ≤ S4x2560x256.size a := fun v1 k0_hw6 k0_t3 => k0_hw6.2.2.2.2.2.1.2.2.2.2.2.2.2.2.2.2.2.2.2.2.2.2.2.2.2.2.2.2.2.2.2.2.2.1 k0_t3
theorem k0_off191_wordsi8 : ∀ (v1 : BitVec 32) (k0_hw6 : k0_chk6 v1) (k0_t3 : Fin (k0_t3_loop v1).trips), (Rect.unit (s := S4x2560x256) (k0_off191 v1 k0_t3) S1x2560x256.size (k0_off191_inb v1 k0_hw6 k0_t3)).WholeWords (EltTy.packing .i8) := fun v1 k0_hw6 k0_t3 => k0_hw6.2.2.2.2.2.1.2.2.2.2.2.2.2.2.2.2.2.2.2.2.2.2.2.2.2.2.2.2.2.2.2.2.2.2.1 k0_t3 (k0_off191_inb v1 k0_hw6 k0_t3)
theorem k0_off193_inb : ∀ (v1 : BitVec 32) (k0_hw6 : k0_chk6 v1) (k0_t3 : Fin (k0_t3_loop v1).trips), ∀ a, (k0_off193 v1 k0_t3) a + S1x1.size a ≤ S3x4.size a := fun v1 k0_hw6 k0_t3 => k0_hw6.2.2.2.2.2.1.2.2.2.2.2.2.2.2.2.2.2.2.2.2.2.2.2.2.2.2.2.2.2.2.2.2.2.2.2.1 k0_t3
theorem k0_off194_inb : ∀ (v1 : BitVec 32) (k0_hw6 : k0_chk6 v1) (k0_t3 : Fin (k0_t3_loop v1).trips), ∀ a, (k0_off194 v1 k0_t3) a + S1x128x5120.size a ≤ S4x128x5120.size a := fun v1 k0_hw6 k0_t3 => k0_hw6.2.2.2.2.2.1.2.2.2.2.2.2.2.2.2.2.2.2.2.2.2.2.2.2.2.2.2.2.2.2.2.2.2.2.2.2.1 k0_t3
theorem k0_off194_wordsi8 : ∀ (v1 : BitVec 32) (k0_hw6 : k0_chk6 v1) (k0_t3 : Fin (k0_t3_loop v1).trips), (Rect.unit (s := S4x128x5120) (k0_off194 v1 k0_t3) S1x128x5120.size (k0_off194_inb v1 k0_hw6 k0_t3)).WholeWords (EltTy.packing .i8) := fun v1 k0_hw6 k0_t3 => k0_hw6.2.2.2.2.2.1.2.2.2.2.2.2.2.2.2.2.2.2.2.2.2.2.2.2.2.2.2.2.2.2.2.2.2.2.2.2.2 k0_t3 (k0_off194_inb v1 k0_hw6 k0_t3)
theorem k0_off196_inb : ∀ (v1 : BitVec 32) (k0_hw6 : k0_chk6 v1) (k0_t3 : Fin (k0_t3_loop v1).trips), ∀ (k0_h11 : k0_cond11 v1 k0_t3 = 1#1), ∀ a, (k0_off196 v1 k0_t3) a + S1.size a ≤ S4.size a := fun v1 k0_hw6 k0_t3 k0_h11 => k0_hw6.2.2.2.2.2.2.1.1 k0_t3 k0_h11
theorem k0_mult14_dvd : ∀ (v1 : BitVec 32) (k0_hw6 : k0_chk6 v1) (k0_t3 : Fin (k0_t3_loop v1).trips), ∀ (k0_h11 : k0_cond11 v1 k0_t3 = 1#1), 256 ∣ (k0_mult14 v1 k0_t3).toNat := fun v1 k0_hw6 k0_t3 k0_h11 => k0_hw6.2.2.2.2.2.2.1.2.1 k0_t3 k0_h11
theorem k0_mult15_dvd : ∀ (v1 : BitVec 32) (k0_hw6 : k0_chk6 v1) (k0_t3 : Fin (k0_t3_loop v1).trips), ∀ (k0_h11 : k0_cond11 v1 k0_t3 = 1#1), 128 ∣ (k0_mult15 v1 k0_t3).toNat := fun v1 k0_hw6 k0_t3 k0_h11 => k0_hw6.2.2.2.2.2.2.1.2.2.1 k0_t3 k0_h11
theorem k0_off197_inb : ∀ (v1 : BitVec 32) (k0_hw6 : k0_chk6 v1) (k0_t3 : Fin (k0_t3_loop v1).trips), ∀ (k0_h11 : k0_cond11 v1 k0_t3 = 1#1), ∀ a, (k0_off197 v1 k0_t3) a + S1x1.size a ≤ S3x4.size a := fun v1 k0_hw6 k0_t3 k0_h11 => k0_hw6.2.2.2.2.2.2.1.2.2.2.1 k0_t3 k0_h11
theorem k0_off198_inb : ∀ (v1 : BitVec 32) (k0_hw6 : k0_chk6 v1) (k0_t3 : Fin (k0_t3_loop v1).trips), ∀ (k0_h11 : k0_cond11 v1 k0_t3 = 1#1), ∀ a, (k0_off198 v1 k0_t3) a + S1x2560x256.size a ≤ S4x2560x256.size a := fun v1 k0_hw6 k0_t3 k0_h11 => k0_hw6.2.2.2.2.2.2.1.2.2.2.2.1 k0_t3 k0_h11
theorem k0_off198_wordsi8 : ∀ (v1 : BitVec 32) (k0_hw6 : k0_chk6 v1) (k0_t3 : Fin (k0_t3_loop v1).trips), ∀ (k0_h11 : k0_cond11 v1 k0_t3 = 1#1), (Rect.unit (s := S4x2560x256) (k0_off198 v1 k0_t3) S1x2560x256.size (k0_off198_inb v1 k0_hw6 k0_t3 k0_h11)).WholeWords (EltTy.packing .i8) := fun v1 k0_hw6 k0_t3 k0_h11 => k0_hw6.2.2.2.2.2.2.1.2.2.2.2.2.1 k0_t3 k0_h11 (k0_off198_inb v1 k0_hw6 k0_t3 k0_h11)
theorem k0_off200_inb : ∀ (v1 : BitVec 32) (k0_hw6 : k0_chk6 v1) (k0_t3 : Fin (k0_t3_loop v1).trips), ∀ (k0_h11 : k0_cond11 v1 k0_t3 = 1#1), ∀ a, (k0_off200 v1 k0_t3) a + S1x1.size a ≤ S3x4.size a := fun v1 k0_hw6 k0_t3 k0_h11 => k0_hw6.2.2.2.2.2.2.1.2.2.2.2.2.2.1 k0_t3 k0_h11
theorem k0_off201_inb : ∀ (v1 : BitVec 32) (k0_hw6 : k0_chk6 v1) (k0_t3 : Fin (k0_t3_loop v1).trips), ∀ (k0_h11 : k0_cond11 v1 k0_t3 = 1#1), ∀ a, (k0_off201 v1 k0_t3) a + S1x2560x256.size a ≤ S4x2560x256.size a := fun v1 k0_hw6 k0_t3 k0_h11 => k0_hw6.2.2.2.2.2.2.1.2.2.2.2.2.2.2.1 k0_t3 k0_h11
theorem k0_off201_wordsi8 : ∀ (v1 : BitVec 32) (k0_hw6 : k0_chk6 v1) (k0_t3 : Fin (k0_t3_loop v1).trips), ∀ (k0_h11 : k0_cond11 v1 k0_t3 = 1#1), (Rect.unit (s := S4x2560x256) (k0_off201 v1 k0_t3) S1x2560x256.size (k0_off201_inb v1 k0_hw6 k0_t3 k0_h11)).WholeWords (EltTy.packing .i8) := fun v1 k0_hw6 k0_t3 k0_h11 => k0_hw6.2.2.2.2.2.2.1.2.2.2.2.2.2.2.2.1 k0_t3 k0_h11 (k0_off201_inb v1 k0_hw6 k0_t3 k0_h11)
theorem k0_off203_inb : ∀ (v1 : BitVec 32) (k0_hw6 : k0_chk6 v1) (k0_t3 : Fin (k0_t3_loop v1).trips), ∀ (k0_h11 : k0_cond11 v1 k0_t3 = 1#1), ∀ a, (k0_off203 v1 k0_t3) a + S1x1.size a ≤ S3x4.size a := fun v1 k0_hw6 k0_t3 k0_h11 => k0_hw6.2.2.2.2.2.2.1.2.2.2.2.2.2.2.2.2.1 k0_t3 k0_h11
theorem k0_off204_inb : ∀ (v1 : BitVec 32) (k0_hw6 : k0_chk6 v1) (k0_t3 : Fin (k0_t3_loop v1).trips), ∀ (k0_h11 : k0_cond11 v1 k0_t3 = 1#1), ∀ a, (k0_off204 v1 k0_t3) a + S1x128x5120.size a ≤ S4x128x5120.size a := fun v1 k0_hw6 k0_t3 k0_h11 => k0_hw6.2.2.2.2.2.2.1.2.2.2.2.2.2.2.2.2.2.1 k0_t3 k0_h11
theorem k0_off204_wordsi8 : ∀ (v1 : BitVec 32) (k0_hw6 : k0_chk6 v1) (k0_t3 : Fin (k0_t3_loop v1).trips), ∀ (k0_h11 : k0_cond11 v1 k0_t3 = 1#1), (Rect.unit (s := S4x128x5120) (k0_off204 v1 k0_t3) S1x128x5120.size (k0_off204_inb v1 k0_hw6 k0_t3 k0_h11)).WholeWords (EltTy.packing .i8) := fun v1 k0_hw6 k0_t3 k0_h11 => k0_hw6.2.2.2.2.2.2.1.2.2.2.2.2.2.2.2.2.2.2.1 k0_t3 k0_h11 (k0_off204_inb v1 k0_hw6 k0_t3 k0_h11)
theorem k0_mult16_dvd : ∀ (v1 : BitVec 32) (k0_hw6 : k0_chk6 v1) (k0_t3 : Fin (k0_t3_loop v1).trips), 256 ∣ (k0_mult16 v1 k0_t3).toNat := fun v1 k0_hw6 k0_t3 => k0_hw6.2.2.2.2.2.2.1.2.2.2.2.2.2.2.2.2.2.2.2.1 k0_t3
theorem k0_off206_inb : ∀ (v1 : BitVec 32) (k0_hw6 : k0_chk6 v1) (k0_t3 : Fin (k0_t3_loop v1).trips), ∀ a, (k0_off206 v1 k0_t3) a + S1x128x256.size a ≤ S4x2560x256.size a := fun v1 k0_hw6 k0_t3 => k0_hw6.2.2.2.2.2.2.1.2.2.2.2.2.2.2.2.2.2.2.2.2.1 k0_t3
theorem k0_off207_inb : ∀ (v1 : BitVec 32) (k0_hw6 : k0_chk6 v1) (k0_t3 : Fin (k0_t3_loop v1).trips), ∀ a, (k0_off207 v1 k0_t3) a + S2x256.size a ≤ S40x4096.size a := fun v1 k0_hw6 k0_t3 => k0_hw6.2.2.2.2.2.2.1.2.2.2.2.2.2.2.2.2.2.2.2.2.2.1 k0_t3
theorem k0_off208_inb : ∀ (v1 : BitVec 32) (k0_hw6 : k0_chk6 v1) (k0_t3 : Fin (k0_t3_loop v1).trips), ∀ a, (k0_off208 v1 k0_t3) a + S2x256.size a ≤ S40x4096.size a := fun v1 k0_hw6 k0_t3 => k0_hw6.2.2.2.2.2.2.1.2.2.2.2.2.2.2.2.2.2.2.2.2.2.2.1 k0_t3
theorem k0_off209_inb : ∀ (v1 : BitVec 32) (k0_hw6 : k0_chk6 v1) (k0_t3 : Fin (k0_t3_loop v1).trips), ∀ a, (k0_off209 v1 k0_t3) a + S1x128x256.size a ≤ S4x2560x256.size a := fun v1 k0_hw6 k0_t3 => k0_hw6.2.2.2.2.2.2.1.2.2.2.2.2.2.2.2.2.2.2.2.2.2.2.2.1 k0_t3
theorem k0_off210_inb : ∀ (v1 : BitVec 32) (k0_hw6 : k0_chk6 v1) (k0_t3 : Fin (k0_t3_loop v1).trips), ∀ a, (k0_off210 v1 k0_t3) a + S2x256.size a ≤ S40x4096.size a := fun v1 k0_hw6 k0_t3 => k0_hw6.2.2.2.2.2.2.1.2.2.2.2.2.2.2.2.2.2.2.2.2.2.2.2.2.1 k0_t3
theorem k0_off211_inb : ∀ (v1 : BitVec 32) (k0_hw6 : k0_chk6 v1) (k0_t3 : Fin (k0_t3_loop v1).trips), ∀ a, (k0_off211 v1 k0_t3) a + S2x256.size a ≤ S40x4096.size a := fun v1 k0_hw6 k0_t3 => k0_hw6.2.2.2.2.2.2.1.2.2.2.2.2.2.2.2.2.2.2.2.2.2.2.2.2.2.1 k0_t3
theorem k0_off212_inb : ∀ (v1 : BitVec 32) (k0_hw6 : k0_chk6 v1) (k0_t3 : Fin (k0_t3_loop v1).trips), ∀ a, (k0_off212 v1 k0_t3) a + S1x128x256.size a ≤ S4x2560x256.size a := fun v1 k0_hw6 k0_t3 => k0_hw6.2.2.2.2.2.2.1.2.2.2.2.2.2.2.2.2.2.2.2.2.2.2.2.2.2.2.1 k0_t3
theorem k0_off213_inb : ∀ (v1 : BitVec 32) (k0_hw6 : k0_chk6 v1) (k0_t3 : Fin (k0_t3_loop v1).trips), ∀ a, (k0_off213 v1 k0_t3) a + S2x256.size a ≤ S40x4096.size a := fun v1 k0_hw6 k0_t3 => k0_hw6.2.2.2.2.2.2.1.2.2.2.2.2.2.2.2.2.2.2.2.2.2.2.2.2.2.2.2.1 k0_t3
theorem k0_off214_inb : ∀ (v1 : BitVec 32) (k0_hw6 : k0_chk6 v1) (k0_t3 : Fin (k0_t3_loop v1).trips), ∀ a, (k0_off214 v1 k0_t3) a + S2x256.size a ≤ S40x4096.size a := fun v1 k0_hw6 k0_t3 => k0_hw6.2.2.2.2.2.2.1.2.2.2.2.2.2.2.2.2.2.2.2.2.2.2.2.2.2.2.2.2.1 k0_t3
theorem k0_off215_inb : ∀ (v1 : BitVec 32) (k0_hw6 : k0_chk6 v1) (k0_t3 : Fin (k0_t3_loop v1).trips), ∀ a, (k0_off215 v1 k0_t3) a + S1x128x256.size a ≤ S4x2560x256.size a := fun v1 k0_hw6 k0_t3 => k0_hw6.2.2.2.2.2.2.1.2.2.2.2.2.2.2.2.2.2.2.2.2.2.2.2.2.2.2.2.2.2.1 k0_t3
theorem k0_off216_inb : ∀ (v1 : BitVec 32) (k0_hw6 : k0_chk6 v1) (k0_t3 : Fin (k0_t3_loop v1).trips), ∀ a, (k0_off216 v1 k0_t3) a + S2x256.size a ≤ S40x4096.size a := fun v1 k0_hw6 k0_t3 => k0_hw6.2.2.2.2.2.2.1.2.2.2.2.2.2.2.2.2.2.2.2.2.2.2.2.2.2.2.2.2.2.2.1 k0_t3
theorem k0_off217_inb : ∀ (v1 : BitVec 32) (k0_hw6 : k0_chk6 v1) (k0_t3 : Fin (k0_t3_loop v1).trips), ∀ a, (k0_off217 v1 k0_t3) a + S2x256.size a ≤ S40x4096.size a := fun v1 k0_hw6 k0_t3 => k0_hw6.2.2.2.2.2.2.1.2.2.2.2.2.2.2.2.2.2.2.2.2.2.2.2.2.2.2.2.2.2.2.2.1 k0_t3
theorem k0_off218_inb : ∀ (v1 : BitVec 32) (k0_hw6 : k0_chk6 v1) (k0_t3 : Fin (k0_t3_loop v1).trips), ∀ a, (k0_off218 v1 k0_t3) a + S1x128x256.size a ≤ S4x2560x256.size a := fun v1 k0_hw6 k0_t3 => k0_hw6.2.2.2.2.2.2.1.2.2.2.2.2.2.2.2.2.2.2.2.2.2.2.2.2.2.2.2.2.2.2.2.2.1 k0_t3
theorem k0_off219_inb : ∀ (v1 : BitVec 32) (k0_hw6 : k0_chk6 v1) (k0_t3 : Fin (k0_t3_loop v1).trips), ∀ a, (k0_off219 v1 k0_t3) a + S2x256.size a ≤ S40x4096.size a := fun v1 k0_hw6 k0_t3 => k0_hw6.2.2.2.2.2.2.1.2.2.2.2.2.2.2.2.2.2.2.2.2.2.2.2.2.2.2.2.2.2.2.2.2.2.1 k0_t3
theorem k0_off220_inb : ∀ (v1 : BitVec 32) (k0_hw6 : k0_chk6 v1) (k0_t3 : Fin (k0_t3_loop v1).trips), ∀ a, (k0_off220 v1 k0_t3) a + S2x256.size a ≤ S40x4096.size a := fun v1 k0_hw6 k0_t3 => k0_hw6.2.2.2.2.2.2.1.2.2.2.2.2.2.2.2.2.2.2.2.2.2.2.2.2.2.2.2.2.2.2.2.2.2.2.1 k0_t3
theorem k0_off221_inb : ∀ (v1 : BitVec 32) (k0_hw6 : k0_chk6 v1) (k0_t3 : Fin (k0_t3_loop v1).trips), ∀ a, (k0_off221 v1 k0_t3) a + S1x128x256.size a ≤ S4x2560x256.size a := fun v1 k0_hw6 k0_t3 => k0_hw6.2.2.2.2.2.2.1.2.2.2.2.2.2.2.2.2.2.2.2.2.2.2.2.2.2.2.2.2.2.2.2.2.2.2.2.1 k0_t3
theorem k0_off222_inb : ∀ (v1 : BitVec 32) (k0_hw6 : k0_chk6 v1) (k0_t3 : Fin (k0_t3_loop v1).trips), ∀ a, (k0_off222 v1 k0_t3) a + S2x256.size a ≤ S40x4096.size a := fun v1 k0_hw6 k0_t3 => k0_hw6.2.2.2.2.2.2.1.2.2.2.2.2.2.2.2.2.2.2.2.2.2.2.2.2.2.2.2.2.2.2.2.2.2.2.2.2.1 k0_t3
theorem k0_off223_inb : ∀ (v1 : BitVec 32) (k0_hw6 : k0_chk6 v1) (k0_t3 : Fin (k0_t3_loop v1).trips), ∀ a, (k0_off223 v1 k0_t3) a + S2x256.size a ≤ S40x4096.size a := fun v1 k0_hw6 k0_t3 => k0_hw6.2.2.2.2.2.2.1.2.2.2.2.2.2.2.2.2.2.2.2.2.2.2.2.2.2.2.2.2.2.2.2.2.2.2.2.2.2.1 k0_t3
theorem k0_off224_inb : ∀ (v1 : BitVec 32) (k0_hw6 : k0_chk6 v1) (k0_t3 : Fin (k0_t3_loop v1).trips), ∀ a, (k0_off224 v1 k0_t3) a + S1x128x256.size a ≤ S4x2560x256.size a := fun v1 k0_hw6 k0_t3 => k0_hw6.2.2.2.2.2.2.1.2.2.2.2.2.2.2.2.2.2.2.2.2.2.2.2.2.2.2.2.2.2.2.2.2.2.2.2.2.2.2 k0_t3
theorem k0_off225_inb : ∀ (v1 : BitVec 32) (k0_hw6 : k0_chk6 v1) (k0_t3 : Fin (k0_t3_loop v1).trips), ∀ a, (k0_off225 v1 k0_t3) a + S2x256.size a ≤ S40x4096.size a := fun v1 k0_hw6 k0_t3 => k0_hw6.2.2.2.2.2.2.2.1.1 k0_t3
theorem k0_off226_inb : ∀ (v1 : BitVec 32) (k0_hw6 : k0_chk6 v1) (k0_t3 : Fin (k0_t3_loop v1).trips), ∀ a, (k0_off226 v1 k0_t3) a + S2x256.size a ≤ S40x4096.size a := fun v1 k0_hw6 k0_t3 => k0_hw6.2.2.2.2.2.2.2.1.2.1 k0_t3
theorem k0_off227_inb : ∀ (v1 : BitVec 32) (k0_hw6 : k0_chk6 v1) (k0_t3 : Fin (k0_t3_loop v1).trips), ∀ a, (k0_off227 v1 k0_t3) a + S1x128x256.size a ≤ S4x2560x256.size a := fun v1 k0_hw6 k0_t3 => k0_hw6.2.2.2.2.2.2.2.1.2.2.1 k0_t3
theorem k0_off228_inb : ∀ (v1 : BitVec 32) (k0_hw6 : k0_chk6 v1) (k0_t3 : Fin (k0_t3_loop v1).trips), ∀ a, (k0_off228 v1 k0_t3) a + S2x256.size a ≤ S40x4096.size a := fun v1 k0_hw6 k0_t3 => k0_hw6.2.2.2.2.2.2.2.1.2.2.2.1 k0_t3
theorem k0_off229_inb : ∀ (v1 : BitVec 32) (k0_hw6 : k0_chk6 v1) (k0_t3 : Fin (k0_t3_loop v1).trips), ∀ a, (k0_off229 v1 k0_t3) a + S2x256.size a ≤ S40x4096.size a := fun v1 k0_hw6 k0_t3 => k0_hw6.2.2.2.2.2.2.2.1.2.2.2.2.1 k0_t3
theorem k0_off230_inb : ∀ (v1 : BitVec 32) (k0_hw6 : k0_chk6 v1) (k0_t3 : Fin (k0_t3_loop v1).trips), ∀ a, (k0_off230 v1 k0_t3) a + S1x128x256.size a ≤ S4x2560x256.size a := fun v1 k0_hw6 k0_t3 => k0_hw6.2.2.2.2.2.2.2.1.2.2.2.2.2.1 k0_t3
theorem k0_off231_inb : ∀ (v1 : BitVec 32) (k0_hw6 : k0_chk6 v1) (k0_t3 : Fin (k0_t3_loop v1).trips), ∀ a, (k0_off231 v1 k0_t3) a + S2x256.size a ≤ S40x4096.size a := fun v1 k0_hw6 k0_t3 => k0_hw6.2.2.2.2.2.2.2.1.2.2.2.2.2.2.1 k0_t3
theorem k0_off232_inb : ∀ (v1 : BitVec 32) (k0_hw6 : k0_chk6 v1) (k0_t3 : Fin (k0_t3_loop v1).trips), ∀ a, (k0_off232 v1 k0_t3) a + S2x256.size a ≤ S40x4096.size a := fun v1 k0_hw6 k0_t3 => k0_hw6.2.2.2.2.2.2.2.1.2.2.2.2.2.2.2.1 k0_t3
theorem k0_off233_inb : ∀ (v1 : BitVec 32) (k0_hw6 : k0_chk6 v1) (k0_t3 : Fin (k0_t3_loop v1).trips), ∀ a, (k0_off233 v1 k0_t3) a + S1x128x256.size a ≤ S4x2560x256.size a := fun v1 k0_hw6 k0_t3 => k0_hw6.2.2.2.2.2.2.2.1.2.2.2.2.2.2.2.2.1 k0_t3
theorem k0_off234_inb : ∀ (v1 : BitVec 32) (k0_hw6 : k0_chk6 v1) (k0_t3 : Fin (k0_t3_loop v1).trips), ∀ a, (k0_off234 v1 k0_t3) a + S2x256.size a ≤ S40x4096.size a := fun v1 k0_hw6 k0_t3 => k0_hw6.2.2.2.2.2.2.2.1.2.2.2.2.2.2.2.2.2.1 k0_t3
theorem k0_off235_inb : ∀ (v1 : BitVec 32) (k0_hw6 : k0_chk6 v1) (k0_t3 : Fin (k0_t3_loop v1).trips), ∀ a, (k0_off235 v1 k0_t3) a + S2x256.size a ≤ S40x4096.size a := fun v1 k0_hw6 k0_t3 => k0_hw6.2.2.2.2.2.2.2.1.2.2.2.2.2.2.2.2.2.2.1 k0_t3
theorem k0_off236_inb : ∀ (v1 : BitVec 32) (k0_hw6 : k0_chk6 v1) (k0_t3 : Fin (k0_t3_loop v1).trips), ∀ a, (k0_off236 v1 k0_t3) a + S1x128x256.size a ≤ S4x2560x256.size a := fun v1 k0_hw6 k0_t3 => k0_hw6.2.2.2.2.2.2.2.1.2.2.2.2.2.2.2.2.2.2.2.1 k0_t3
theorem k0_off237_inb : ∀ (v1 : BitVec 32) (k0_hw6 : k0_chk6 v1) (k0_t3 : Fin (k0_t3_loop v1).trips), ∀ a, (k0_off237 v1 k0_t3) a + S2x256.size a ≤ S40x4096.size a := fun v1 k0_hw6 k0_t3 => k0_hw6.2.2.2.2.2.2.2.1.2.2.2.2.2.2.2.2.2.2.2.2.1 k0_t3
theorem k0_off238_inb : ∀ (v1 : BitVec 32) (k0_hw6 : k0_chk6 v1) (k0_t3 : Fin (k0_t3_loop v1).trips), ∀ a, (k0_off238 v1 k0_t3) a + S2x256.size a ≤ S40x4096.size a := fun v1 k0_hw6 k0_t3 => k0_hw6.2.2.2.2.2.2.2.1.2.2.2.2.2.2.2.2.2.2.2.2.2.1 k0_t3
theorem k0_off239_inb : ∀ (v1 : BitVec 32) (k0_hw6 : k0_chk6 v1) (k0_t3 : Fin (k0_t3_loop v1).trips), ∀ a, (k0_off239 v1 k0_t3) a + S1x128x256.size a ≤ S4x2560x256.size a := fun v1 k0_hw6 k0_t3 => k0_hw6.2.2.2.2.2.2.2.1.2.2.2.2.2.2.2.2.2.2.2.2.2.2.1 k0_t3
theorem k0_off240_inb : ∀ (v1 : BitVec 32) (k0_hw6 : k0_chk6 v1) (k0_t3 : Fin (k0_t3_loop v1).trips), ∀ a, (k0_off240 v1 k0_t3) a + S2x256.size a ≤ S40x4096.size a := fun v1 k0_hw6 k0_t3 => k0_hw6.2.2.2.2.2.2.2.1.2.2.2.2.2.2.2.2.2.2.2.2.2.2.2.1 k0_t3
theorem k0_off241_inb : ∀ (v1 : BitVec 32) (k0_hw6 : k0_chk6 v1) (k0_t3 : Fin (k0_t3_loop v1).trips), ∀ a, (k0_off241 v1 k0_t3) a + S2x256.size a ≤ S40x4096.size a := fun v1 k0_hw6 k0_t3 => k0_hw6.2.2.2.2.2.2.2.1.2.2.2.2.2.2.2.2.2.2.2.2.2.2.2.2.1 k0_t3
theorem k0_off242_inb : ∀ (v1 : BitVec 32) (k0_hw6 : k0_chk6 v1) (k0_t3 : Fin (k0_t3_loop v1).trips), ∀ a, (k0_off242 v1 k0_t3) a + S1x128x256.size a ≤ S4x2560x256.size a := fun v1 k0_hw6 k0_t3 => k0_hw6.2.2.2.2.2.2.2.1.2.2.2.2.2.2.2.2.2.2.2.2.2.2.2.2.2.1 k0_t3
theorem k0_off243_inb : ∀ (v1 : BitVec 32) (k0_hw6 : k0_chk6 v1) (k0_t3 : Fin (k0_t3_loop v1).trips), ∀ a, (k0_off243 v1 k0_t3) a + S2x256.size a ≤ S40x4096.size a := fun v1 k0_hw6 k0_t3 => k0_hw6.2.2.2.2.2.2.2.1.2.2.2.2.2.2.2.2.2.2.2.2.2.2.2.2.2.2.1 k0_t3
theorem k0_off244_inb : ∀ (v1 : BitVec 32) (k0_hw6 : k0_chk6 v1) (k0_t3 : Fin (k0_t3_loop v1).trips), ∀ a, (k0_off244 v1 k0_t3) a + S2x256.size a ≤ S40x4096.size a := fun v1 k0_hw6 k0_t3 => k0_hw6.2.2.2.2.2.2.2.1.2.2.2.2.2.2.2.2.2.2.2.2.2.2.2.2.2.2.2.1 k0_t3
theorem k0_off245_inb : ∀ (v1 : BitVec 32) (k0_hw6 : k0_chk6 v1) (k0_t3 : Fin (k0_t3_loop v1).trips), ∀ a, (k0_off245 v1 k0_t3) a + S1x128x256.size a ≤ S4x2560x256.size a := fun v1 k0_hw6 k0_t3 => k0_hw6.2.2.2.2.2.2.2.1.2.2.2.2.2.2.2.2.2.2.2.2.2.2.2.2.2.2.2.2.1 k0_t3
theorem k0_off246_inb : ∀ (v1 : BitVec 32) (k0_hw6 : k0_chk6 v1) (k0_t3 : Fin (k0_t3_loop v1).trips), ∀ a, (k0_off246 v1 k0_t3) a + S2x256.size a ≤ S40x4096.size a := fun v1 k0_hw6 k0_t3 => k0_hw6.2.2.2.2.2.2.2.1.2.2.2.2.2.2.2.2.2.2.2.2.2.2.2.2.2.2.2.2.2.1 k0_t3
theorem k0_off247_inb : ∀ (v1 : BitVec 32) (k0_hw6 : k0_chk6 v1) (k0_t3 : Fin (k0_t3_loop v1).trips), ∀ a, (k0_off247 v1 k0_t3) a + S2x256.size a ≤ S40x4096.size a := fun v1 k0_hw6 k0_t3 => k0_hw6.2.2.2.2.2.2.2.1.2.2.2.2.2.2.2.2.2.2.2.2.2.2.2.2.2.2.2.2.2.2.1 k0_t3
theorem k0_off248_inb : ∀ (v1 : BitVec 32) (k0_hw6 : k0_chk6 v1) (k0_t3 : Fin (k0_t3_loop v1).trips), ∀ a, (k0_off248 v1 k0_t3) a + S1x128x256.size a ≤ S4x2560x256.size a := fun v1 k0_hw6 k0_t3 => k0_hw6.2.2.2.2.2.2.2.1.2.2.2.2.2.2.2.2.2.2.2.2.2.2.2.2.2.2.2.2.2.2.2.1 k0_t3
theorem k0_off249_inb : ∀ (v1 : BitVec 32) (k0_hw6 : k0_chk6 v1) (k0_t3 : Fin (k0_t3_loop v1).trips), ∀ a, (k0_off249 v1 k0_t3) a + S2x256.size a ≤ S40x4096.size a := fun v1 k0_hw6 k0_t3 => k0_hw6.2.2.2.2.2.2.2.1.2.2.2.2.2.2.2.2.2.2.2.2.2.2.2.2.2.2.2.2.2.2.2.2.1 k0_t3
theorem k0_off250_inb : ∀ (v1 : BitVec 32) (k0_hw6 : k0_chk6 v1) (k0_t3 : Fin (k0_t3_loop v1).trips), ∀ a, (k0_off250 v1 k0_t3) a + S2x256.size a ≤ S40x4096.size a := fun v1 k0_hw6 k0_t3 => k0_hw6.2.2.2.2.2.2.2.1.2.2.2.2.2.2.2.2.2.2.2.2.2.2.2.2.2.2.2.2.2.2.2.2.2.1 k0_t3
theorem k0_off251_inb : ∀ (v1 : BitVec 32) (k0_hw6 : k0_chk6 v1) (k0_t3 : Fin (k0_t3_loop v1).trips), ∀ a, (k0_off251 v1 k0_t3) a + S1x128x256.size a ≤ S4x2560x256.size a := fun v1 k0_hw6 k0_t3 => k0_hw6.2.2.2.2.2.2.2.1.2.2.2.2.2.2.2.2.2.2.2.2.2.2.2.2.2.2.2.2.2.2.2.2.2.2.1 k0_t3
theorem k0_off252_inb : ∀ (v1 : BitVec 32) (k0_hw6 : k0_chk6 v1) (k0_t3 : Fin (k0_t3_loop v1).trips), ∀ a, (k0_off252 v1 k0_t3) a + S2x256.size a ≤ S40x4096.size a := fun v1 k0_hw6 k0_t3 => k0_hw6.2.2.2.2.2.2.2.1.2.2.2.2.2.2.2.2.2.2.2.2.2.2.2.2.2.2.2.2.2.2.2.2.2.2.2.1 k0_t3
theorem k0_off253_inb : ∀ (v1 : BitVec 32) (k0_hw6 : k0_chk6 v1) (k0_t3 : Fin (k0_t3_loop v1).trips), ∀ a, (k0_off253 v1 k0_t3) a + S2x256.size a ≤ S40x4096.size a := fun v1 k0_hw6 k0_t3 => k0_hw6.2.2.2.2.2.2.2.1.2.2.2.2.2.2.2.2.2.2.2.2.2.2.2.2.2.2.2.2.2.2.2.2.2.2.2.2.1 k0_t3
theorem k0_off254_inb : ∀ (v1 : BitVec 32) (k0_hw6 : k0_chk6 v1) (k0_t3 : Fin (k0_t3_loop v1).trips), ∀ a, (k0_off254 v1 k0_t3) a + S1x128x256.size a ≤ S4x2560x256.size a := fun v1 k0_hw6 k0_t3 => k0_hw6.2.2.2.2.2.2.2.1.2.2.2.2.2.2.2.2.2.2.2.2.2.2.2.2.2.2.2.2.2.2.2.2.2.2.2.2.2.1 k0_t3
theorem k0_off255_inb : ∀ (v1 : BitVec 32) (k0_hw6 : k0_chk6 v1) (k0_t3 : Fin (k0_t3_loop v1).trips), ∀ a, (k0_off255 v1 k0_t3) a + S2x256.size a ≤ S40x4096.size a := fun v1 k0_hw6 k0_t3 => k0_hw6.2.2.2.2.2.2.2.1.2.2.2.2.2.2.2.2.2.2.2.2.2.2.2.2.2.2.2.2.2.2.2.2.2.2.2.2.2.2.1 k0_t3
theorem k0_off256_inb : ∀ (v1 : BitVec 32) (k0_hw6 : k0_chk6 v1) (k0_t3 : Fin (k0_t3_loop v1).trips), ∀ a, (k0_off256 v1 k0_t3) a + S2x256.size a ≤ S40x4096.size a := fun v1 k0_hw6 k0_t3 => k0_hw6.2.2.2.2.2.2.2.1.2.2.2.2.2.2.2.2.2.2.2.2.2.2.2.2.2.2.2.2.2.2.2.2.2.2.2.2.2.2.2 k0_t3
theorem k0_off257_inb : ∀ (v1 : BitVec 32) (k0_hw6 : k0_chk6 v1) (k0_t3 : Fin (k0_t3_loop v1).trips), ∀ a, (k0_off257 v1 k0_t3) a + S1x128x256.size a ≤ S4x2560x256.size a := fun v1 k0_hw6 k0_t3 => k0_hw6.2.2.2.2.2.2.2.2.1.1 k0_t3
theorem k0_off258_inb : ∀ (v1 : BitVec 32) (k0_hw6 : k0_chk6 v1) (k0_t3 : Fin (k0_t3_loop v1).trips), ∀ a, (k0_off258 v1 k0_t3) a + S2x256.size a ≤ S40x4096.size a := fun v1 k0_hw6 k0_t3 => k0_hw6.2.2.2.2.2.2.2.2.1.2.1 k0_t3
theorem k0_off259_inb : ∀ (v1 : BitVec 32) (k0_hw6 : k0_chk6 v1) (k0_t3 : Fin (k0_t3_loop v1).trips), ∀ a, (k0_off259 v1 k0_t3) a + S2x256.size a ≤ S40x4096.size a := fun v1 k0_hw6 k0_t3 => k0_hw6.2.2.2.2.2.2.2.2.1.2.2.1 k0_t3
theorem k0_off260_inb : ∀ (v1 : BitVec 32) (k0_hw6 : k0_chk6 v1) (k0_t3 : Fin (k0_t3_loop v1).trips), ∀ a, (k0_off260 v1 k0_t3) a + S1x128x256.size a ≤ S4x2560x256.size a := fun v1 k0_hw6 k0_t3 => k0_hw6.2.2.2.2.2.2.2.2.1.2.2.2.1 k0_t3
theorem k0_off261_inb : ∀ (v1 : BitVec 32) (k0_hw6 : k0_chk6 v1) (k0_t3 : Fin (k0_t3_loop v1).trips), ∀ a, (k0_off261 v1 k0_t3) a + S2x256.size a ≤ S40x4096.size a := fun v1 k0_hw6 k0_t3 => k0_hw6.2.2.2.2.2.2.2.2.1.2.2.2.2.1 k0_t3
theorem k0_off262_inb : ∀ (v1 : BitVec 32) (k0_hw6 : k0_chk6 v1) (k0_t3 : Fin (k0_t3_loop v1).trips), ∀ a, (k0_off262 v1 k0_t3) a + S2x256.size a ≤ S40x4096.size a := fun v1 k0_hw6 k0_t3 => k0_hw6.2.2.2.2.2.2.2.2.1.2.2.2.2.2.1 k0_t3
theorem k0_off263_inb : ∀ (v1 : BitVec 32) (k0_hw6 : k0_chk6 v1) (k0_t3 : Fin (k0_t3_loop v1).trips), ∀ a, (k0_off263 v1 k0_t3) a + S1x128x256.size a ≤ S4x2560x256.size a := fun v1 k0_hw6 k0_t3 => k0_hw6.2.2.2.2.2.2.2.2.1.2.2.2.2.2.2.1 k0_t3
theorem k0_off264_inb : ∀ (v1 : BitVec 32) (k0_hw6 : k0_chk6 v1) (k0_t3 : Fin (k0_t3_loop v1).trips), ∀ a, (k0_off264 v1 k0_t3) a + S2x256.size a ≤ S40x4096.size a := fun v1 k0_hw6 k0_t3 => k0_hw6.2.2.2.2.2.2.2.2.1.2.2.2.2.2.2.2.1 k0_t3
theorem k0_off265_inb : ∀ (v1 : BitVec 32) (k0_hw6 : k0_chk6 v1) (k0_t3 : Fin (k0_t3_loop v1).trips), ∀ a, (k0_off265 v1 k0_t3) a + S2x256.size a ≤ S40x4096.size a := fun v1 k0_hw6 k0_t3 => k0_hw6.2.2.2.2.2.2.2.2.1.2.2.2.2.2.2.2.2.1 k0_t3
theorem k0_off266_inb : ∀ (v1 : BitVec 32) (k0_hw6 : k0_chk6 v1) (k0_t3 : Fin (k0_t3_loop v1).trips), ∀ a, (k0_off266 v1 k0_t3) a + S1x256.size a ≤ S16x5120.size a := fun v1 k0_hw6 k0_t3 => k0_hw6.2.2.2.2.2.2.2.2.1.2.2.2.2.2.2.2.2.2.1 k0_t3
theorem k0_off267_inb : ∀ (v1 : BitVec 32) (k0_hw6 : k0_chk6 v1) (k0_t3 : Fin (k0_t3_loop v1).trips), ∀ a, (k0_off267 v1 k0_t3) a + S1x256.size a ≤ S16x5120.size a := fun v1 k0_hw6 k0_t3 => k0_hw6.2.2.2.2.2.2.2.2.1.2.2.2.2.2.2.2.2.2.2.1 k0_t3
theorem k0_off268_inb : ∀ (v1 : BitVec 32) (k0_hw6 : k0_chk6 v1) (k0_t3 : Fin (k0_t3_loop v1).trips), ∀ a, (k0_off268 v1 k0_t3) a + S1x128x256.size a ≤ S4x128x5120.size a := fun v1 k0_hw6 k0_t3 => k0_hw6.2.2.2.2.2.2.2.2.1.2.2.2.2.2.2.2.2.2.2.2.1 k0_t3
theorem k0_off269_inb : ∀ (v1 : BitVec 32) (k0_hw6 : k0_chk6 v1) (k0_t3 : Fin (k0_t3_loop v1).trips), ∀ a, (k0_off269 v1 k0_t3) a + S1x256.size a ≤ S16x5120.size a := fun v1 k0_hw6 k0_t3 => k0_hw6.2.2.2.2.2.2.2.2.1.2.2.2.2.2.2.2.2.2.2.2.2.1 k0_t3
theorem k0_off270_inb : ∀ (v1 : BitVec 32) (k0_hw6 : k0_chk6 v1) (k0_t3 : Fin (k0_t3_loop v1).trips), ∀ a, (k0_off270 v1 k0_t3) a + S1x256.size a ≤ S16x5120.size a := fun v1 k0_hw6 k0_t3 => k0_hw6.2.2.2.2.2.2.2.2.1.2.2.2.2.2.2.2.2.2.2.2.2.2.1 k0_t3
theorem k0_off271_inb : ∀ (v1 : BitVec 32) (k0_hw6 : k0_chk6 v1) (k0_t3 : Fin (k0_t3_loop v1).trips), ∀ a, (k0_off271 v1 k0_t3) a + S1x128x256.size a ≤ S4x128x5120.size a := fun v1 k0_hw6 k0_t3 => k0_hw6.2.2.2.2.2.2.2.2.1.2.2.2.2.2.2.2.2.2.2.2.2.2.2.1 k0_t3
theorem k0_off272_inb : ∀ (v1 : BitVec 32) (k0_hw6 : k0_chk6 v1) (k0_t3 : Fin (k0_t3_loop v1).trips), ∀ a, (k0_off272 v1 k0_t3) a + S1x256.size a ≤ S16x5120.size a := fun v1 k0_hw6 k0_t3 => k0_hw6.2.2.2.2.2.2.2.2.1.2.2.2.2.2.2.2.2.2.2.2.2.2.2.2.1 k0_t3
theorem k0_off273_inb : ∀ (v1 : BitVec 32) (k0_hw6 : k0_chk6 v1) (k0_t3 : Fin (k0_t3_loop v1).trips), ∀ a, (k0_off273 v1 k0_t3) a + S1x256.size a ≤ S16x5120.size a := fun v1 k0_hw6 k0_t3 => k0_hw6.2.2.2.2.2.2.2.2.1.2.2.2.2.2.2.2.2.2.2.2.2.2.2.2.2.1 k0_t3
theorem k0_off274_inb : ∀ (v1 : BitVec 32) (k0_hw6 : k0_chk6 v1) (k0_t3 : Fin (k0_t3_loop v1).trips), ∀ a, (k0_off274 v1 k0_t3) a + S1x128x256.size a ≤ S4x128x5120.size a := fun v1 k0_hw6 k0_t3 => k0_hw6.2.2.2.2.2.2.2.2.1.2.2.2.2.2.2.2.2.2.2.2.2.2.2.2.2.2.1 k0_t3
theorem k0_off275_inb : ∀ (v1 : BitVec 32) (k0_hw6 : k0_chk6 v1) (k0_t3 : Fin (k0_t3_loop v1).trips), ∀ a, (k0_off275 v1 k0_t3) a + S1x256.size a ≤ S16x5120.size a := fun v1 k0_hw6 k0_t3 => k0_hw6.2.2.2.2.2.2.2.2.1.2.2.2.2.2.2.2.2.2.2.2.2.2.2.2.2.2.2.1 k0_t3
theorem k0_off276_inb : ∀ (v1 : BitVec 32) (k0_hw6 : k0_chk6 v1) (k0_t3 : Fin (k0_t3_loop v1).trips), ∀ a, (k0_off276 v1 k0_t3) a + S1x256.size a ≤ S16x5120.size a := fun v1 k0_hw6 k0_t3 => k0_hw6.2.2.2.2.2.2.2.2.1.2.2.2.2.2.2.2.2.2.2.2.2.2.2.2.2.2.2.2.1 k0_t3
theorem k0_off277_inb : ∀ (v1 : BitVec 32) (k0_hw6 : k0_chk6 v1) (k0_t3 : Fin (k0_t3_loop v1).trips), ∀ a, (k0_off277 v1 k0_t3) a + S1x128x256.size a ≤ S4x128x5120.size a := fun v1 k0_hw6 k0_t3 => k0_hw6.2.2.2.2.2.2.2.2.1.2.2.2.2.2.2.2.2.2.2.2.2.2.2.2.2.2.2.2.2.1 k0_t3
theorem k0_off278_inb : ∀ (v1 : BitVec 32) (k0_hw6 : k0_chk6 v1) (k0_t3 : Fin (k0_t3_loop v1).trips), ∀ a, (k0_off278 v1 k0_t3) a + S1x256.size a ≤ S16x5120.size a := fun v1 k0_hw6 k0_t3 => k0_hw6.2.2.2.2.2.2.2.2.1.2.2.2.2.2.2.2.2.2.2.2.2.2.2.2.2.2.2.2.2.2.1 k0_t3
theorem k0_off279_inb : ∀ (v1 : BitVec 32) (k0_hw6 : k0_chk6 v1) (k0_t3 : Fin (k0_t3_loop v1).trips), ∀ a, (k0_off279 v1 k0_t3) a + S1x256.size a ≤ S16x5120.size a := fun v1 k0_hw6 k0_t3 => k0_hw6.2.2.2.2.2.2.2.2.1.2.2.2.2.2.2.2.2.2.2.2.2.2.2.2.2.2.2.2.2.2.2.1 k0_t3
theorem k0_off280_inb : ∀ (v1 : BitVec 32) (k0_hw6 : k0_chk6 v1) (k0_t3 : Fin (k0_t3_loop v1).trips), ∀ a, (k0_off280 v1 k0_t3) a + S1x128x256.size a ≤ S4x128x5120.size a := fun v1 k0_hw6 k0_t3 => k0_hw6.2.2.2.2.2.2.2.2.1.2.2.2.2.2.2.2.2.2.2.2.2.2.2.2.2.2.2.2.2.2.2.2.1 k0_t3
theorem k0_off281_inb : ∀ (v1 : BitVec 32) (k0_hw6 : k0_chk6 v1) (k0_t3 : Fin (k0_t3_loop v1).trips), ∀ a, (k0_off281 v1 k0_t3) a + S1x256.size a ≤ S16x5120.size a := fun v1 k0_hw6 k0_t3 => k0_hw6.2.2.2.2.2.2.2.2.1.2.2.2.2.2.2.2.2.2.2.2.2.2.2.2.2.2.2.2.2.2.2.2.2.1 k0_t3
theorem k0_off282_inb : ∀ (v1 : BitVec 32) (k0_hw6 : k0_chk6 v1) (k0_t3 : Fin (k0_t3_loop v1).trips), ∀ a, (k0_off282 v1 k0_t3) a + S1x256.size a ≤ S16x5120.size a := fun v1 k0_hw6 k0_t3 => k0_hw6.2.2.2.2.2.2.2.2.1.2.2.2.2.2.2.2.2.2.2.2.2.2.2.2.2.2.2.2.2.2.2.2.2.2.1 k0_t3
theorem k0_off283_inb : ∀ (v1 : BitVec 32) (k0_hw6 : k0_chk6 v1) (k0_t3 : Fin (k0_t3_loop v1).trips), ∀ a, (k0_off283 v1 k0_t3) a + S1x128x256.size a ≤ S4x128x5120.size a := fun v1 k0_hw6 k0_t3 => k0_hw6.2.2.2.2.2.2.2.2.1.2.2.2.2.2.2.2.2.2.2.2.2.2.2.2.2.2.2.2.2.2.2.2.2.2.2.1 k0_t3
theorem k0_off284_inb : ∀ (v1 : BitVec 32) (k0_hw6 : k0_chk6 v1) (k0_t3 : Fin (k0_t3_loop v1).trips), ∀ a, (k0_off284 v1 k0_t3) a + S1x256.size a ≤ S16x5120.size a := fun v1 k0_hw6 k0_t3 => k0_hw6.2.2.2.2.2.2.2.2.1.2.2.2.2.2.2.2.2.2.2.2.2.2.2.2.2.2.2.2.2.2.2.2.2.2.2.2.1 k0_t3
theorem k0_off285_inb : ∀ (v1 : BitVec 32) (k0_hw6 : k0_chk6 v1) (k0_t3 : Fin (k0_t3_loop v1).trips), ∀ a, (k0_off285 v1 k0_t3) a + S1x256.size a ≤ S16x5120.size a := fun v1 k0_hw6 k0_t3 => k0_hw6.2.2.2.2.2.2.2.2.1.2.2.2.2.2.2.2.2.2.2.2.2.2.2.2.2.2.2.2.2.2.2.2.2.2.2.2.2.1 k0_t3
theorem k0_off286_inb : ∀ (v1 : BitVec 32) (k0_hw6 : k0_chk6 v1) (k0_t3 : Fin (k0_t3_loop v1).trips), ∀ a, (k0_off286 v1 k0_t3) a + S1x128x256.size a ≤ S4x128x5120.size a := fun v1 k0_hw6 k0_t3 => k0_hw6.2.2.2.2.2.2.2.2.1.2.2.2.2.2.2.2.2.2.2.2.2.2.2.2.2.2.2.2.2.2.2.2.2.2.2.2.2.2.1 k0_t3
theorem k0_off287_inb : ∀ (v1 : BitVec 32) (k0_hw6 : k0_chk6 v1) (k0_t3 : Fin (k0_t3_loop v1).trips), ∀ a, (k0_off287 v1 k0_t3) a + S1x256.size a ≤ S16x5120.size a := fun v1 k0_hw6 k0_t3 => k0_hw6.2.2.2.2.2.2.2.2.1.2.2.2.2.2.2.2.2.2.2.2.2.2.2.2.2.2.2.2.2.2.2.2.2.2.2.2.2.2.2.1 k0_t3
theorem k0_off288_inb : ∀ (v1 : BitVec 32) (k0_hw6 : k0_chk6 v1) (k0_t3 : Fin (k0_t3_loop v1).trips), ∀ a, (k0_off288 v1 k0_t3) a + S1x256.size a ≤ S16x5120.size a := fun v1 k0_hw6 k0_t3 => k0_hw6.2.2.2.2.2.2.2.2.1.2.2.2.2.2.2.2.2.2.2.2.2.2.2.2.2.2.2.2.2.2.2.2.2.2.2.2.2.2.2.2 k0_t3
theorem k0_off289_inb : ∀ (v1 : BitVec 32) (k0_hw6 : k0_chk6 v1) (k0_t3 : Fin (k0_t3_loop v1).trips), ∀ a, (k0_off289 v1 k0_t3) a + S1x128x256.size a ≤ S4x128x5120.size a := fun v1 k0_hw6 k0_t3 => k0_hw6.2.2.2.2.2.2.2.2.2.1.1 k0_t3
theorem k0_off290_inb : ∀ (v1 : BitVec 32) (k0_hw6 : k0_chk6 v1) (k0_t3 : Fin (k0_t3_loop v1).trips), ∀ a, (k0_off290 v1 k0_t3) a + S1x256.size a ≤ S16x5120.size a := fun v1 k0_hw6 k0_t3 => k0_hw6.2.2.2.2.2.2.2.2.2.1.2.1 k0_t3
theorem k0_off291_inb : ∀ (v1 : BitVec 32) (k0_hw6 : k0_chk6 v1) (k0_t3 : Fin (k0_t3_loop v1).trips), ∀ a, (k0_off291 v1 k0_t3) a + S1x256.size a ≤ S16x5120.size a := fun v1 k0_hw6 k0_t3 => k0_hw6.2.2.2.2.2.2.2.2.2.1.2.2.1 k0_t3
theorem k0_off292_inb : ∀ (v1 : BitVec 32) (k0_hw6 : k0_chk6 v1) (k0_t3 : Fin (k0_t3_loop v1).trips), ∀ a, (k0_off292 v1 k0_t3) a + S1x128x256.size a ≤ S4x128x5120.size a := fun v1 k0_hw6 k0_t3 => k0_hw6.2.2.2.2.2.2.2.2.2.1.2.2.2.1 k0_t3
theorem k0_off293_inb : ∀ (v1 : BitVec 32) (k0_hw6 : k0_chk6 v1) (k0_t3 : Fin (k0_t3_loop v1).trips), ∀ a, (k0_off293 v1 k0_t3) a + S1x256.size a ≤ S16x5120.size a := fun v1 k0_hw6 k0_t3 => k0_hw6.2.2.2.2.2.2.2.2.2.1.2.2.2.2.1 k0_t3
theorem k0_off294_inb : ∀ (v1 : BitVec 32) (k0_hw6 : k0_chk6 v1) (k0_t3 : Fin (k0_t3_loop v1).trips), ∀ a, (k0_off294 v1 k0_t3) a + S1x256.size a ≤ S16x5120.size a := fun v1 k0_hw6 k0_t3 => k0_hw6.2.2.2.2.2.2.2.2.2.1.2.2.2.2.2.1 k0_t3
theorem k0_off295_inb : ∀ (v1 : BitVec 32) (k0_hw6 : k0_chk6 v1) (k0_t3 : Fin (k0_t3_loop v1).trips), ∀ a, (k0_off295 v1 k0_t3) a + S1x128x256.size a ≤ S4x128x5120.size a := fun v1 k0_hw6 k0_t3 => k0_hw6.2.2.2.2.2.2.2.2.2.1.2.2.2.2.2.2.1 k0_t3
theorem k0_off296_inb : ∀ (v1 : BitVec 32) (k0_hw6 : k0_chk6 v1) (k0_t3 : Fin (k0_t3_loop v1).trips), ∀ a, (k0_off296 v1 k0_t3) a + S1x256.size a ≤ S16x5120.size a := fun v1 k0_hw6 k0_t3 => k0_hw6.2.2.2.2.2.2.2.2.2.1.2.2.2.2.2.2.2.1 k0_t3
theorem k0_off297_inb : ∀ (v1 : BitVec 32) (k0_hw6 : k0_chk6 v1) (k0_t3 : Fin (k0_t3_loop v1).trips), ∀ a, (k0_off297 v1 k0_t3) a + S1x256.size a ≤ S16x5120.size a := fun v1 k0_hw6 k0_t3 => k0_hw6.2.2.2.2.2.2.2.2.2.1.2.2.2.2.2.2.2.2.1 k0_t3
theorem k0_off298_inb : ∀ (v1 : BitVec 32) (k0_hw6 : k0_chk6 v1) (k0_t3 : Fin (k0_t3_loop v1).trips), ∀ a, (k0_off298 v1 k0_t3) a + S1x128x256.size a ≤ S4x128x5120.size a := fun v1 k0_hw6 k0_t3 => k0_hw6.2.2.2.2.2.2.2.2.2.1.2.2.2.2.2.2.2.2.2.1 k0_t3
theorem k0_off299_inb : ∀ (v1 : BitVec 32) (k0_hw6 : k0_chk6 v1) (k0_t3 : Fin (k0_t3_loop v1).trips), ∀ a, (k0_off299 v1 k0_t3) a + S1x256.size a ≤ S16x5120.size a := fun v1 k0_hw6 k0_t3 => k0_hw6.2.2.2.2.2.2.2.2.2.1.2.2.2.2.2.2.2.2.2.2.1 k0_t3
theorem k0_off300_inb : ∀ (v1 : BitVec 32) (k0_hw6 : k0_chk6 v1) (k0_t3 : Fin (k0_t3_loop v1).trips), ∀ a, (k0_off300 v1 k0_t3) a + S1x256.size a ≤ S16x5120.size a := fun v1 k0_hw6 k0_t3 => k0_hw6.2.2.2.2.2.2.2.2.2.1.2.2.2.2.2.2.2.2.2.2.2.1 k0_t3
theorem k0_off301_inb : ∀ (v1 : BitVec 32) (k0_hw6 : k0_chk6 v1) (k0_t3 : Fin (k0_t3_loop v1).trips), ∀ a, (k0_off301 v1 k0_t3) a + S1x128x256.size a ≤ S4x128x5120.size a := fun v1 k0_hw6 k0_t3 => k0_hw6.2.2.2.2.2.2.2.2.2.1.2.2.2.2.2.2.2.2.2.2.2.2.1 k0_t3
theorem k0_off302_inb : ∀ (v1 : BitVec 32) (k0_hw6 : k0_chk6 v1) (k0_t3 : Fin (k0_t3_loop v1).trips), ∀ a, (k0_off302 v1 k0_t3) a + S1x256.size a ≤ S16x5120.size a := fun v1 k0_hw6 k0_t3 => k0_hw6.2.2.2.2.2.2.2.2.2.1.2.2.2.2.2.2.2.2.2.2.2.2.2.1 k0_t3
theorem k0_off303_inb : ∀ (v1 : BitVec 32) (k0_hw6 : k0_chk6 v1) (k0_t3 : Fin (k0_t3_loop v1).trips), ∀ a, (k0_off303 v1 k0_t3) a + S1x256.size a ≤ S16x5120.size a := fun v1 k0_hw6 k0_t3 => k0_hw6.2.2.2.2.2.2.2.2.2.1.2.2.2.2.2.2.2.2.2.2.2.2.2.2.1 k0_t3
theorem k0_off304_inb : ∀ (v1 : BitVec 32) (k0_hw6 : k0_chk6 v1) (k0_t3 : Fin (k0_t3_loop v1).trips), ∀ a, (k0_off304 v1 k0_t3) a + S1x128x256.size a ≤ S4x128x5120.size a := fun v1 k0_hw6 k0_t3 => k0_hw6.2.2.2.2.2.2.2.2.2.1.2.2.2.2.2.2.2.2.2.2.2.2.2.2.2.1 k0_t3
theorem k0_off305_inb : ∀ (v1 : BitVec 32) (k0_hw6 : k0_chk6 v1) (k0_t3 : Fin (k0_t3_loop v1).trips), ∀ a, (k0_off305 v1 k0_t3) a + S1x256.size a ≤ S16x5120.size a := fun v1 k0_hw6 k0_t3 => k0_hw6.2.2.2.2.2.2.2.2.2.1.2.2.2.2.2.2.2.2.2.2.2.2.2.2.2.2.1 k0_t3
theorem k0_off306_inb : ∀ (v1 : BitVec 32) (k0_hw6 : k0_chk6 v1) (k0_t3 : Fin (k0_t3_loop v1).trips), ∀ a, (k0_off306 v1 k0_t3) a + S1x256.size a ≤ S16x5120.size a := fun v1 k0_hw6 k0_t3 => k0_hw6.2.2.2.2.2.2.2.2.2.1.2.2.2.2.2.2.2.2.2.2.2.2.2.2.2.2.2.1 k0_t3
theorem k0_off307_inb : ∀ (v1 : BitVec 32) (k0_hw6 : k0_chk6 v1) (k0_t3 : Fin (k0_t3_loop v1).trips), ∀ a, (k0_off307 v1 k0_t3) a + S1x128x256.size a ≤ S4x128x5120.size a := fun v1 k0_hw6 k0_t3 => k0_hw6.2.2.2.2.2.2.2.2.2.1.2.2.2.2.2.2.2.2.2.2.2.2.2.2.2.2.2.2.1 k0_t3
theorem k0_off308_inb : ∀ (v1 : BitVec 32) (k0_hw6 : k0_chk6 v1) (k0_t3 : Fin (k0_t3_loop v1).trips), ∀ a, (k0_off308 v1 k0_t3) a + S1x256.size a ≤ S16x5120.size a := fun v1 k0_hw6 k0_t3 => k0_hw6.2.2.2.2.2.2.2.2.2.1.2.2.2.2.2.2.2.2.2.2.2.2.2.2.2.2.2.2.2.1 k0_t3
theorem k0_off309_inb : ∀ (v1 : BitVec 32) (k0_hw6 : k0_chk6 v1) (k0_t3 : Fin (k0_t3_loop v1).trips), ∀ a, (k0_off309 v1 k0_t3) a + S1x256.size a ≤ S16x5120.size a := fun v1 k0_hw6 k0_t3 => k0_hw6.2.2.2.2.2.2.2.2.2.1.2.2.2.2.2.2.2.2.2.2.2.2.2.2.2.2.2.2.2.2.1 k0_t3
theorem k0_off310_inb : ∀ (v1 : BitVec 32) (k0_hw6 : k0_chk6 v1) (k0_t3 : Fin (k0_t3_loop v1).trips), ∀ a, (k0_off310 v1 k0_t3) a + S1x128x256.size a ≤ S4x128x5120.size a := fun v1 k0_hw6 k0_t3 => k0_hw6.2.2.2.2.2.2.2.2.2.1.2.2.2.2.2.2.2.2.2.2.2.2.2.2.2.2.2.2.2.2.2.1 k0_t3
theorem k0_off311_inb : ∀ (v1 : BitVec 32) (k0_hw6 : k0_chk6 v1) (k0_t3 : Fin (k0_t3_loop v1).trips), ∀ a, (k0_off311 v1 k0_t3) a + S1x256.size a ≤ S16x5120.size a := fun v1 k0_hw6 k0_t3 => k0_hw6.2.2.2.2.2.2.2.2.2.1.2.2.2.2.2.2.2.2.2.2.2.2.2.2.2.2.2.2.2.2.2.2.1 k0_t3
theorem k0_off312_inb : ∀ (v1 : BitVec 32) (k0_hw6 : k0_chk6 v1) (k0_t3 : Fin (k0_t3_loop v1).trips), ∀ a, (k0_off312 v1 k0_t3) a + S1x256.size a ≤ S16x5120.size a := fun v1 k0_hw6 k0_t3 => k0_hw6.2.2.2.2.2.2.2.2.2.1.2.2.2.2.2.2.2.2.2.2.2.2.2.2.2.2.2.2.2.2.2.2.2.1 k0_t3
theorem k0_off313_inb : ∀ (v1 : BitVec 32) (k0_hw6 : k0_chk6 v1) (k0_t3 : Fin (k0_t3_loop v1).trips), ∀ a, (k0_off313 v1 k0_t3) a + S1x128x256.size a ≤ S4x128x5120.size a := fun v1 k0_hw6 k0_t3 => k0_hw6.2.2.2.2.2.2.2.2.2.1.2.2.2.2.2.2.2.2.2.2.2.2.2.2.2.2.2.2.2.2.2.2.2.2.1 k0_t3
theorem k0_off314_inb : ∀ (v1 : BitVec 32) (k0_hw6 : k0_chk6 v1) (k0_t3 : Fin (k0_t3_loop v1).trips), ∀ a, (k0_off314 v1 k0_t3) a + S1x256.size a ≤ S16x5120.size a := fun v1 k0_hw6 k0_t3 => k0_hw6.2.2.2.2.2.2.2.2.2.1.2.2.2.2.2.2.2.2.2.2.2.2.2.2.2.2.2.2.2.2.2.2.2.2.2.1 k0_t3
theorem k0_off315_inb : ∀ (v1 : BitVec 32) (k0_hw6 : k0_chk6 v1) (k0_t3 : Fin (k0_t3_loop v1).trips), ∀ a, (k0_off315 v1 k0_t3) a + S1x256.size a ≤ S16x5120.size a := fun v1 k0_hw6 k0_t3 => k0_hw6.2.2.2.2.2.2.2.2.2.1.2.2.2.2.2.2.2.2.2.2.2.2.2.2.2.2.2.2.2.2.2.2.2.2.2.2.1 k0_t3
theorem k0_off316_inb : ∀ (v1 : BitVec 32) (k0_hw6 : k0_chk6 v1) (k0_t3 : Fin (k0_t3_loop v1).trips), ∀ a, (k0_off316 v1 k0_t3) a + S1x128x256.size a ≤ S4x128x5120.size a := fun v1 k0_hw6 k0_t3 => k0_hw6.2.2.2.2.2.2.2.2.2.1.2.2.2.2.2.2.2.2.2.2.2.2.2.2.2.2.2.2.2.2.2.2.2.2.2.2.2.1 k0_t3
theorem k0_off317_inb : ∀ (v1 : BitVec 32) (k0_hw6 : k0_chk6 v1) (k0_t3 : Fin (k0_t3_loop v1).trips), ∀ a, (k0_off317 v1 k0_t3) a + S1x256.size a ≤ S16x5120.size a := fun v1 k0_hw6 k0_t3 => k0_hw6.2.2.2.2.2.2.2.2.2.1.2.2.2.2.2.2.2.2.2.2.2.2.2.2.2.2.2.2.2.2.2.2.2.2.2.2.2.2.1 k0_t3
theorem k0_off318_inb : ∀ (v1 : BitVec 32) (k0_hw6 : k0_chk6 v1) (k0_t3 : Fin (k0_t3_loop v1).trips), ∀ a, (k0_off318 v1 k0_t3) a + S1x256.size a ≤ S16x5120.size a := fun v1 k0_hw6 k0_t3 => k0_hw6.2.2.2.2.2.2.2.2.2.1.2.2.2.2.2.2.2.2.2.2.2.2.2.2.2.2.2.2.2.2.2.2.2.2.2.2.2.2.2.1 k0_t3
theorem k0_off319_inb : ∀ (v1 : BitVec 32) (k0_hw6 : k0_chk6 v1) (k0_t3 : Fin (k0_t3_loop v1).trips), ∀ a, (k0_off319 v1 k0_t3) a + S1x128x256.size a ≤ S4x128x5120.size a := fun v1 k0_hw6 k0_t3 => k0_hw6.2.2.2.2.2.2.2.2.2.1.2.2.2.2.2.2.2.2.2.2.2.2.2.2.2.2.2.2.2.2.2.2.2.2.2.2.2.2.2.2.1 k0_t3
theorem k0_off320_inb : ∀ (v1 : BitVec 32) (k0_hw6 : k0_chk6 v1) (k0_t3 : Fin (k0_t3_loop v1).trips), ∀ a, (k0_off320 v1 k0_t3) a + S1x256.size a ≤ S16x5120.size a := fun v1 k0_hw6 k0_t3 => k0_hw6.2.2.2.2.2.2.2.2.2.1.2.2.2.2.2.2.2.2.2.2.2.2.2.2.2.2.2.2.2.2.2.2.2.2.2.2.2.2.2.2.2 k0_t3
theorem k0_off321_inb : ∀ (v1 : BitVec 32) (k0_hw6 : k0_chk6 v1) (k0_t3 : Fin (k0_t3_loop v1).trips), ∀ a, (k0_off321 v1 k0_t3) a + S1x256.size a ≤ S16x5120.size a := fun v1 k0_hw6 k0_t3 => k0_hw6.2.2.2.2.2.2.2.2.2.2.1 k0_t3
theorem k0_off322_inb : ∀ (v1 : BitVec 32) (k0_hw6 : k0_chk6 v1) (k0_t3 : Fin (k0_t3_loop v1).trips), ∀ a, (k0_off322 v1 k0_t3) a + S1x128x256.size a ≤ S4x128x5120.size a := fun v1 k0_hw6 k0_t3 => k0_hw6.2.2.2.2.2.2.2.2.2.2.2.1 k0_t3
theorem k0_off323_inb : ∀ (v1 : BitVec 32) (k0_hw6 : k0_chk6 v1) (k0_t3 : Fin (k0_t3_loop v1).trips), ∀ a, (k0_off323 v1 k0_t3) a + S1x256.size a ≤ S16x5120.size a := fun v1 k0_hw6 k0_t3 => k0_hw6.2.2.2.2.2.2.2.2.2.2.2.2.1 k0_t3
theorem k0_off324_inb : ∀ (v1 : BitVec 32) (k0_hw6 : k0_chk6 v1) (k0_t3 : Fin (k0_t3_loop v1).trips), ∀ a, (k0_off324 v1 k0_t3) a + S1x256.size a ≤ S16x5120.size a := fun v1 k0_hw6 k0_t3 => k0_hw6.2.2.2.2.2.2.2.2.2.2.2.2.2.1 k0_t3
theorem k0_off325_inb : ∀ (v1 : BitVec 32) (k0_hw6 : k0_chk6 v1) (k0_t3 : Fin (k0_t3_loop v1).trips), ∀ a, (k0_off325 v1 k0_t3) a + S1x128x256.size a ≤ S4x128x5120.size a := fun v1 k0_hw6 k0_t3 => k0_hw6.2.2.2.2.2.2.2.2.2.2.2.2.2.2.1 k0_t3
theorem k0_off326_inb : ∀ (v1 : BitVec 32) (k0_hw6 : k0_chk6 v1) (k0_t3 : Fin (k0_t3_loop v1).trips), ∀ (k0_h12 : k0_cond12 v1 k0_t3 = 1#1), ∀ a, (k0_off326 v1 k0_t3) a + S1.size a ≤ S4.size a := fun v1 k0_hw6 k0_t3 k0_h12 => k0_hw6.2.2.2.2.2.2.2.2.2.2.2.2.2.2.2 k0_t3 k0_h12

abbrev stage0_0 : Fin 1 → Memref sig .tc .smem S16x1x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16x1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x1x5120 : Shape := ⟨3, ![16, 1, 5120]⟩
abbrev S16x1x2 : Shape := ⟨3, ![16, 1, 2]⟩
abbrev S4x2560x4096 : Shape := ⟨3, ![4, 2560, 4096]⟩
abbrev S4x40x4096 : Shape := ⟨3, ![4, 40, 4096]⟩
abbrev S4x1024x5120 : Shape := ⟨3, ![4, 1024, 5120]⟩
abbrev S4x16x5120 : Shape := ⟨3, ![4, 16, 5120]⟩
abbrev S16x5120 : Shape := ⟨2, ![16, 5120]⟩
abbrev S16x2560 : Shape := ⟨2, ![16, 2560]⟩
abbrev S16x2 : Shape := ⟨2, ![16, 2]⟩
abbrev S_ : Shape := ⟨0, ![]⟩
abbrev S16 : Shape := ⟨1, ![16]⟩
abbrev S1x2560x2048 : Shape := ⟨3, ![1, 2560, 2048]⟩
abbrev S2560x2048 : Shape := ⟨2, ![2560, 2048]⟩
abbrev S1x40x2048 : Shape := ⟨3, ![1, 40, 2048]⟩
abbrev S40x2048 : Shape := ⟨2, ![40, 2048]⟩
abbrev S40x64x2048 : Shape := ⟨3, ![40, 64, 2048]⟩
abbrev S16x2048 : Shape := ⟨2, ![16, 2048]⟩
abbrev S16x1024 : Shape := ⟨2, ![16, 1024]⟩
abbrev S1x1024x5120 : Shape := ⟨3, ![1, 1024, 5120]⟩
abbrev S1024x5120 : Shape := ⟨2, ![1024, 5120]⟩
abbrev S1x16x5120 : Shape := ⟨3, ![1, 16, 5120]⟩
abbrev S16x64x5120 : Shape := ⟨3, ![16, 64, 5120]⟩
abbrev S16x1 : Shape := ⟨2, ![16, 1]⟩

abbrev nBuf : Space → Nat
  | .hbm => 559
  | .vmem => 0
  | .smem => 0
  | _ => 0

abbrev hbmTy0_0 (i : Nat) : BufTy := match i % 128 with
  | 0 => ⟨S16x1x5120, .bf16⟩
  | 1 => ⟨S16x1x2, .i32⟩
  | 2 => ⟨S16x1x2, .f32⟩
  | 3 => ⟨S4x2560x4096, .i8⟩
  | 4 => ⟨S4x40x4096, .bf16⟩
  | 5 => ⟨S4x1024x5120, .i8⟩
  | 6 => ⟨S4x16x5120, .bf16⟩
  | 7 => ⟨S16x5120, .bf16⟩
  | 8 => ⟨S16x2560, .bf16⟩
  | 9 => ⟨S16x2560, .bf16⟩
  | 10 => ⟨S16x2, .i32⟩
  | 11 => ⟨S16x2, .f32⟩
  | 12 => ⟨S_, .f32⟩
  | 13 => ⟨S16x5120, .f32⟩
  | 14 => ⟨S_, .i32⟩
  | 15 => ⟨S16x2, .i32⟩
  | 16 => ⟨S16x2, .i1⟩
  | 17 => ⟨S_, .i1⟩
  | 18 => ⟨S16, .i1⟩
  | 19 => ⟨S_, .f32⟩
  | 20 => ⟨S_, .f32⟩
  | 21 => ⟨S16x2, .f32⟩
  | 22 => ⟨S16x2, .f32⟩
  | 23 => ⟨S_, .f32⟩
  | 24 => ⟨S16, .f32⟩
  | 25 => ⟨S1x2560x2048, .i8⟩
  | 26 => ⟨S2560x2048, .i8⟩
  | 27 => ⟨S1x40x2048, .bf16⟩
  | 28 => ⟨S40x2048, .bf16⟩
  | 29 => ⟨S2560x2048, .i32⟩
  | 30 => ⟨S_, .i32⟩
  | 31 => ⟨S2560x2048, .i32⟩
  | 32 => ⟨S2560x2048, .i32⟩
  | 33 => ⟨S_, .i32⟩
  | 34 => ⟨S2560x2048, .i32⟩
  | 35 => ⟨S2560x2048, .i32⟩
  | 36 => ⟨S_, .i32⟩
  | 37 => ⟨S2560x2048, .i32⟩
  | 38 => ⟨S2560x2048, .i1⟩
  | 39 => ⟨S_, .i32⟩
  | 40 => ⟨S2560x2048, .i32⟩
  | 41 => ⟨S2560x2048, .i32⟩
  | 42 => ⟨S2560x2048, .i32⟩
  | 43 => ⟨S_, .i32⟩
  | 44 => ⟨S2560x2048, .i32⟩
  | 45 => ⟨S2560x2048, .i1⟩
  | 46 => ⟨S_, .i32⟩
  | 47 => ⟨S2560x2048, .i32⟩
  | 48 => ⟨S2560x2048, .i32⟩
  | 49 => ⟨S2560x2048, .i32⟩
  | 50 => ⟨S40x64x2048, .bf16⟩
  | 51 => ⟨S2560x2048, .bf16⟩
  | 52 => ⟨S2560x2048, .bf16⟩
  | 53 => ⟨S2560x2048, .bf16⟩
  | 54 => ⟨S2560x2048, .bf16⟩
  | 55 => ⟨S2560x2048, .bf16⟩
  | 56 => ⟨S16x2048, .f32⟩
  | 57 => ⟨S16x2048, .f32⟩
  | 58 => ⟨S16x2048, .f32⟩
  | 59 => ⟨S1x2560x2048, .i8⟩
  | 60 => ⟨S2560x2048, .i8⟩
  | 61 => ⟨S1x40x2048, .bf16⟩
  | 62 => ⟨S40x2048, .bf16⟩
  | 63 => ⟨S2560x2048, .i32⟩
  | 64 => ⟨S_, .i32⟩
  | 65 => ⟨S2560x2048, .i32⟩
  | 66 => ⟨S2560x2048, .i32⟩
  | 67 => ⟨S_, .i32⟩
  | 68 => ⟨S2560x2048, .i32⟩
  | 69 => ⟨S2560x2048, .i32⟩
  | 70 => ⟨S_, .i32⟩
  | 71 => ⟨S2560x2048, .i32⟩
  | 72 => ⟨S2560x2048, .i1⟩
  | 73 => ⟨S_, .i32⟩
  | 74 => ⟨S2560x2048, .i32⟩
  | 75 => ⟨S2560x2048, .i32⟩
  | 76 => ⟨S2560x2048, .i32⟩
  | 77 => ⟨S_, .i32⟩
  | 78 => ⟨S2560x2048, .i32⟩
  | 79 => ⟨S2560x2048, .i1⟩
  | 80 => ⟨S_, .i32⟩
  | 81 => ⟨S2560x2048, .i32⟩
  | 82 => ⟨S2560x2048, .i32⟩
  | 83 => ⟨S2560x2048, .i32⟩
  | 84 => ⟨S40x64x2048, .bf16⟩
  | 85 => ⟨S2560x2048, .bf16⟩
  | 86 => ⟨S2560x2048, .bf16⟩
  | 87 => ⟨S2560x2048, .bf16⟩
  | 88 => ⟨S2560x2048, .bf16⟩
  | 89 => ⟨S2560x2048, .bf16⟩
  | 90 => ⟨S16x2048, .f32⟩
  | 91 => ⟨S16x2048, .f32⟩
  | 92 => ⟨S16x2048, .f32⟩
  | 93 => ⟨S16x2048, .f32⟩
  | 94 => ⟨S16x2048, .f32⟩
  | 95 => ⟨S_, .f32⟩
  | 96 => ⟨S16x2048, .f32⟩
  | 97 => ⟨S16x2048, .f32⟩
  | 98 => ⟨S_, .f32⟩
  | 99 => ⟨S16x2048, .f32⟩
  | 100 => ⟨S16x2048, .f32⟩
  | 101 => ⟨S16x2048, .f32⟩
  | 102 => ⟨S16x2048, .f32⟩
  | 103 => ⟨S16x2048, .bf16⟩
  | 104 => ⟨S16x1024, .bf16⟩
  | 105 => ⟨S16x1024, .bf16⟩
  | 106 => ⟨S1x1024x5120, .i8⟩
  | 107 => ⟨S1024x5120, .i8⟩
  | 108 => ⟨S1x16x5120, .bf16⟩
  | 109 => ⟨S16x5120, .bf16⟩
  | 110 => ⟨S1024x5120, .i32⟩
  | 111 => ⟨S_, .i32⟩
  | 112 => ⟨S1024x5120, .i32⟩
  | 113 => ⟨S1024x5120, .i32⟩
  | 114 => ⟨S_, .i32⟩
  | 115 => ⟨S1024x5120, .i32⟩
  | 116 => ⟨S1024x5120, .i32⟩
  | 117 => ⟨S_, .i32⟩
  | 118 => ⟨S1024x5120, .i32⟩
  | 119 => ⟨S1024x5120, .i1⟩
  | 120 => ⟨S_, .i32⟩
  | 121 => ⟨S1024x5120, .i32⟩
  | 122 => ⟨S1024x5120, .i32⟩
  | 123 => ⟨S1024x5120, .i32⟩
  | 124 => ⟨S_, .i32⟩
  | 125 => ⟨S1024x5120, .i32⟩
  | 126 => ⟨S1024x5120, .i1⟩
  | 127 => ⟨S_, .i32⟩
  | _ => ⟨S16x1x5120, .bf16⟩

abbrev hbmTy0_1 (i : Nat) : BufTy := match i % 128 with
  | 0 => ⟨S1024x5120, .i32⟩
  | 1 => ⟨S1024x5120, .i32⟩
  | 2 => ⟨S1024x5120, .i32⟩
  | 3 => ⟨S16x64x5120, .bf16⟩
  | 4 => ⟨S1024x5120, .bf16⟩
  | 5 => ⟨S1024x5120, .bf16⟩
  | 6 => ⟨S1024x5120, .bf16⟩
  | 7 => ⟨S1024x5120, .bf16⟩
  | 8 => ⟨S1024x5120, .bf16⟩
  | 9 => ⟨S16x5120, .f32⟩
  | 10 => ⟨S16x5120, .f32⟩
  | 11 => ⟨S16x5120, .f32⟩
  | 12 => ⟨S16x1, .i1⟩
  | 13 => ⟨S16x1, .f32⟩
  | 14 => ⟨S16x5120, .f32⟩
  | 15 => ⟨S16x5120, .f32⟩
  | 16 => ⟨S_, .f32⟩
  | 17 => ⟨S_, .f32⟩
  | 18 => ⟨S16x5120, .i1⟩
  | 19 => ⟨S16x5120, .f32⟩
  | 20 => ⟨S16x5120, .f32⟩
  | 21 => ⟨S16x5120, .f32⟩
  | 22 => ⟨S_, .i32⟩
  | 23 => ⟨S16x2, .i32⟩
  | 24 => ⟨S16x2, .i1⟩
  | 25 => ⟨S_, .i1⟩
  | 26 => ⟨S16, .i1⟩
  | 27 => ⟨S_, .f32⟩
  | 28 => ⟨S_, .f32⟩
  | 29 => ⟨S16x2, .f32⟩
  | 30 => ⟨S16x2, .f32⟩
  | 31 => ⟨S_, .f32⟩
  | 32 => ⟨S16, .f32⟩
  | 33 => ⟨S1x2560x2048, .i8⟩
  | 34 => ⟨S2560x2048, .i8⟩
  | 35 => ⟨S1x40x2048, .bf16⟩
  | 36 => ⟨S40x2048, .bf16⟩
  | 37 => ⟨S2560x2048, .i32⟩
  | 38 => ⟨S_, .i32⟩
  | 39 => ⟨S2560x2048, .i32⟩
  | 40 => ⟨S2560x2048, .i32⟩
  | 41 => ⟨S_, .i32⟩
  | 42 => ⟨S2560x2048, .i32⟩
  | 43 => ⟨S2560x2048, .i32⟩
  | 44 => ⟨S_, .i32⟩
  | 45 => ⟨S2560x2048, .i32⟩
  | 46 => ⟨S2560x2048, .i1⟩
  | 47 => ⟨S_, .i32⟩
  | 48 => ⟨S2560x2048, .i32⟩
  | 49 => ⟨S2560x2048, .i32⟩
  | 50 => ⟨S2560x2048, .i32⟩
  | 51 => ⟨S_, .i32⟩
  | 52 => ⟨S2560x2048, .i32⟩
  | 53 => ⟨S2560x2048, .i1⟩
  | 54 => ⟨S_, .i32⟩
  | 55 => ⟨S2560x2048, .i32⟩
  | 56 => ⟨S2560x2048, .i32⟩
  | 57 => ⟨S2560x2048, .i32⟩
  | 58 => ⟨S40x64x2048, .bf16⟩
  | 59 => ⟨S2560x2048, .bf16⟩
  | 60 => ⟨S2560x2048, .bf16⟩
  | 61 => ⟨S2560x2048, .bf16⟩
  | 62 => ⟨S2560x2048, .bf16⟩
  | 63 => ⟨S2560x2048, .bf16⟩
  | 64 => ⟨S16x2048, .f32⟩
  | 65 => ⟨S16x2048, .f32⟩
  | 66 => ⟨S16x2048, .f32⟩
  | 67 => ⟨S1x2560x2048, .i8⟩
  | 68 => ⟨S2560x2048, .i8⟩
  | 69 => ⟨S1x40x2048, .bf16⟩
  | 70 => ⟨S40x2048, .bf16⟩
  | 71 => ⟨S2560x2048, .i32⟩
  | 72 => ⟨S_, .i32⟩
  | 73 => ⟨S2560x2048, .i32⟩
  | 74 => ⟨S2560x2048, .i32⟩
  | 75 => ⟨S_, .i32⟩
  | 76 => ⟨S2560x2048, .i32⟩
  | 77 => ⟨S2560x2048, .i32⟩
  | 78 => ⟨S_, .i32⟩
  | 79 => ⟨S2560x2048, .i32⟩
  | 80 => ⟨S2560x2048, .i1⟩
  | 81 => ⟨S_, .i32⟩
  | 82 => ⟨S2560x2048, .i32⟩
  | 83 => ⟨S2560x2048, .i32⟩
  | 84 => ⟨S2560x2048, .i32⟩
  | 85 => ⟨S_, .i32⟩
  | 86 => ⟨S2560x2048, .i32⟩
  | 87 => ⟨S2560x2048, .i1⟩
  | 88 => ⟨S_, .i32⟩
  | 89 => ⟨S2560x2048, .i32⟩
  | 90 => ⟨S2560x2048, .i32⟩
  | 91 => ⟨S2560x2048, .i32⟩
  | 92 => ⟨S40x64x2048, .bf16⟩
  | 93 => ⟨S2560x2048, .bf16⟩
  | 94 => ⟨S2560x2048, .bf16⟩
  | 95 => ⟨S2560x2048, .bf16⟩
  | 96 => ⟨S2560x2048, .bf16⟩
  | 97 => ⟨S2560x2048, .bf16⟩
  | 98 => ⟨S16x2048, .f32⟩
  | 99 => ⟨S16x2048, .f32⟩
  | 100 => ⟨S16x2048, .f32⟩
  | 101 => ⟨S16x2048, .f32⟩
  | 102 => ⟨S16x2048, .f32⟩
  | 103 => ⟨S_, .f32⟩
  | 104 => ⟨S16x2048, .f32⟩
  | 105 => ⟨S16x2048, .f32⟩
  | 106 => ⟨S_, .f32⟩
  | 107 => ⟨S16x2048, .f32⟩
  | 108 => ⟨S16x2048, .f32⟩
  | 109 => ⟨S16x2048, .f32⟩
  | 110 => ⟨S16x2048, .f32⟩
  | 111 => ⟨S16x2048, .bf16⟩
  | 112 => ⟨S16x1024, .bf16⟩
  | 113 => ⟨S16x1024, .bf16⟩
  | 114 => ⟨S1x1024x5120, .i8⟩
  | 115 => ⟨S1024x5120, .i8⟩
  | 116 => ⟨S1x16x5120, .bf16⟩
  | 117 => ⟨S16x5120, .bf16⟩
  | 118 => ⟨S1024x5120, .i32⟩
  | 119 => ⟨S_, .i32⟩
  | 120 => ⟨S1024x5120, .i32⟩
  | 121 => ⟨S1024x5120, .i32⟩
  | 122 => ⟨S_, .i32⟩
  | 123 => ⟨S1024x5120, .i32⟩
  | 124 => ⟨S1024x5120, .i32⟩
  | 125 => ⟨S_, .i32⟩
  | 126 => ⟨S1024x5120, .i32⟩
  | 127 => ⟨S1024x5120, .i1⟩
  | _ => ⟨S16x1x5120, .bf16⟩

abbrev hbmTy0_2 (i : Nat) : BufTy := match i % 128 with
  | 0 => ⟨S_, .i32⟩
  | 1 => ⟨S1024x5120, .i32⟩
  | 2 => ⟨S1024x5120, .i32⟩
  | 3 => ⟨S1024x5120, .i32⟩
  | 4 => ⟨S_, .i32⟩
  | 5 => ⟨S1024x5120, .i32⟩
  | 6 => ⟨S1024x5120, .i1⟩
  | 7 => ⟨S_, .i32⟩
  | 8 => ⟨S1024x5120, .i32⟩
  | 9 => ⟨S1024x5120, .i32⟩
  | 10 => ⟨S1024x5120, .i32⟩
  | 11 => ⟨S16x64x5120, .bf16⟩
  | 12 => ⟨S1024x5120, .bf16⟩
  | 13 => ⟨S1024x5120, .bf16⟩
  | 14 => ⟨S1024x5120, .bf16⟩
  | 15 => ⟨S1024x5120, .bf16⟩
  | 16 => ⟨S1024x5120, .bf16⟩
  | 17 => ⟨S16x5120, .f32⟩
  | 18 => ⟨S16x5120, .f32⟩
  | 19 => ⟨S16x5120, .f32⟩
  | 20 => ⟨S16x1, .i1⟩
  | 21 => ⟨S16x1, .f32⟩
  | 22 => ⟨S16x5120, .f32⟩
  | 23 => ⟨S16x5120, .f32⟩
  | 24 => ⟨S_, .f32⟩
  | 25 => ⟨S_, .f32⟩
  | 26 => ⟨S16x5120, .i1⟩
  | 27 => ⟨S16x5120, .f32⟩
  | 28 => ⟨S16x5120, .f32⟩
  | 29 => ⟨S16x5120, .f32⟩
  | 30 => ⟨S_, .i32⟩
  | 31 => ⟨S16x2, .i32⟩
  | 32 => ⟨S16x2, .i1⟩
  | 33 => ⟨S_, .i1⟩
  | 34 => ⟨S16, .i1⟩
  | 35 => ⟨S_, .f32⟩
  | 36 => ⟨S_, .f32⟩
  | 37 => ⟨S16x2, .f32⟩
  | 38 => ⟨S16x2, .f32⟩
  | 39 => ⟨S_, .f32⟩
  | 40 => ⟨S16, .f32⟩
  | 41 => ⟨S1x2560x2048, .i8⟩
  | 42 => ⟨S2560x2048, .i8⟩
  | 43 => ⟨S1x40x2048, .bf16⟩
  | 44 => ⟨S40x2048, .bf16⟩
  | 45 => ⟨S2560x2048, .i32⟩
  | 46 => ⟨S_, .i32⟩
  | 47 => ⟨S2560x2048, .i32⟩
  | 48 => ⟨S2560x2048, .i32⟩
  | 49 => ⟨S_, .i32⟩
  | 50 => ⟨S2560x2048, .i32⟩
  | 51 => ⟨S2560x2048, .i32⟩
  | 52 => ⟨S_, .i32⟩
  | 53 => ⟨S2560x2048, .i32⟩
  | 54 => ⟨S2560x2048, .i1⟩
  | 55 => ⟨S_, .i32⟩
  | 56 => ⟨S2560x2048, .i32⟩
  | 57 => ⟨S2560x2048, .i32⟩
  | 58 => ⟨S2560x2048, .i32⟩
  | 59 => ⟨S_, .i32⟩
  | 60 => ⟨S2560x2048, .i32⟩
  | 61 => ⟨S2560x2048, .i1⟩
  | 62 => ⟨S_, .i32⟩
  | 63 => ⟨S2560x2048, .i32⟩
  | 64 => ⟨S2560x2048, .i32⟩
  | 65 => ⟨S2560x2048, .i32⟩
  | 66 => ⟨S40x64x2048, .bf16⟩
  | 67 => ⟨S2560x2048, .bf16⟩
  | 68 => ⟨S2560x2048, .bf16⟩
  | 69 => ⟨S2560x2048, .bf16⟩
  | 70 => ⟨S2560x2048, .bf16⟩
  | 71 => ⟨S2560x2048, .bf16⟩
  | 72 => ⟨S16x2048, .f32⟩
  | 73 => ⟨S16x2048, .f32⟩
  | 74 => ⟨S16x2048, .f32⟩
  | 75 => ⟨S1x2560x2048, .i8⟩
  | 76 => ⟨S2560x2048, .i8⟩
  | 77 => ⟨S1x40x2048, .bf16⟩
  | 78 => ⟨S40x2048, .bf16⟩
  | 79 => ⟨S2560x2048, .i32⟩
  | 80 => ⟨S_, .i32⟩
  | 81 => ⟨S2560x2048, .i32⟩
  | 82 => ⟨S2560x2048, .i32⟩
  | 83 => ⟨S_, .i32⟩
  | 84 => ⟨S2560x2048, .i32⟩
  | 85 => ⟨S2560x2048, .i32⟩
  | 86 => ⟨S_, .i32⟩
  | 87 => ⟨S2560x2048, .i32⟩
  | 88 => ⟨S2560x2048, .i1⟩
  | 89 => ⟨S_, .i32⟩
  | 90 => ⟨S2560x2048, .i32⟩
  | 91 => ⟨S2560x2048, .i32⟩
  | 92 => ⟨S2560x2048, .i32⟩
  | 93 => ⟨S_, .i32⟩
  | 94 => ⟨S2560x2048, .i32⟩
  | 95 => ⟨S2560x2048, .i1⟩
  | 96 => ⟨S_, .i32⟩
  | 97 => ⟨S2560x2048, .i32⟩
  | 98 => ⟨S2560x2048, .i32⟩
  | 99 => ⟨S2560x2048, .i32⟩
  | 100 => ⟨S40x64x2048, .bf16⟩
  | 101 => ⟨S2560x2048, .bf16⟩
  | 102 => ⟨S2560x2048, .bf16⟩
  | 103 => ⟨S2560x2048, .bf16⟩
  | 104 => ⟨S2560x2048, .bf16⟩
  | 105 => ⟨S2560x2048, .bf16⟩
  | 106 => ⟨S16x2048, .f32⟩
  | 107 => ⟨S16x2048, .f32⟩
  | 108 => ⟨S16x2048, .f32⟩
  | 109 => ⟨S16x2048, .f32⟩
  | 110 => ⟨S16x2048, .f32⟩
  | 111 => ⟨S_, .f32⟩
  | 112 => ⟨S16x2048, .f32⟩
  | 113 => ⟨S16x2048, .f32⟩
  | 114 => ⟨S_, .f32⟩
  | 115 => ⟨S16x2048, .f32⟩
  | 116 => ⟨S16x2048, .f32⟩
  | 117 => ⟨S16x2048, .f32⟩
  | 118 => ⟨S16x2048, .f32⟩
  | 119 => ⟨S16x2048, .bf16⟩
  | 120 => ⟨S16x1024, .bf16⟩
  | 121 => ⟨S16x1024, .bf16⟩
  | 122 => ⟨S1x1024x5120, .i8⟩
  | 123 => ⟨S1024x5120, .i8⟩
  | 124 => ⟨S1x16x5120, .bf16⟩
  | 125 => ⟨S16x5120, .bf16⟩
  | 126 => ⟨S1024x5120, .i32⟩
  | 127 => ⟨S_, .i32⟩
  | _ => ⟨S16x1x5120, .bf16⟩

abbrev hbmTy0_3 (i : Nat) : BufTy := match i % 128 with
  | 0 => ⟨S1024x5120, .i32⟩
  | 1 => ⟨S1024x5120, .i32⟩
  | 2 => ⟨S_, .i32⟩
  | 3 => ⟨S1024x5120, .i32⟩
  | 4 => ⟨S1024x5120, .i32⟩
  | 5 => ⟨S_, .i32⟩
  | 6 => ⟨S1024x5120, .i32⟩
  | 7 => ⟨S1024x5120, .i1⟩
  | 8 => ⟨S_, .i32⟩
  | 9 => ⟨S1024x5120, .i32⟩
  | 10 => ⟨S1024x5120, .i32⟩
  | 11 => ⟨S1024x5120, .i32⟩
  | 12 => ⟨S_, .i32⟩
  | 13 => ⟨S1024x5120, .i32⟩
  | 14 => ⟨S1024x5120, .i1⟩
  | 15 => ⟨S_, .i32⟩
  | 16 => ⟨S1024x5120, .i32⟩
  | 17 => ⟨S1024x5120, .i32⟩
  | 18 => ⟨S1024x5120, .i32⟩
  | 19 => ⟨S16x64x5120, .bf16⟩
  | 20 => ⟨S1024x5120, .bf16⟩
  | 21 => ⟨S1024x5120, .bf16⟩
  | 22 => ⟨S1024x5120, .bf16⟩
  | 23 => ⟨S1024x5120, .bf16⟩
  | 24 => ⟨S1024x5120, .bf16⟩
  | 25 => ⟨S16x5120, .f32⟩
  | 26 => ⟨S16x5120, .f32⟩
  | 27 => ⟨S16x5120, .f32⟩
  | 28 => ⟨S16x1, .i1⟩
  | 29 => ⟨S16x1, .f32⟩
  | 30 => ⟨S16x5120, .f32⟩
  | 31 => ⟨S16x5120, .f32⟩
  | 32 => ⟨S_, .f32⟩
  | 33 => ⟨S_, .f32⟩
  | 34 => ⟨S16x5120, .i1⟩
  | 35 => ⟨S16x5120, .f32⟩
  | 36 => ⟨S16x5120, .f32⟩
  | 37 => ⟨S16x5120, .f32⟩
  | 38 => ⟨S_, .i32⟩
  | 39 => ⟨S16x2, .i32⟩
  | 40 => ⟨S16x2, .i1⟩
  | 41 => ⟨S_, .i1⟩
  | 42 => ⟨S16, .i1⟩
  | 43 => ⟨S_, .f32⟩
  | 44 => ⟨S_, .f32⟩
  | 45 => ⟨S16x2, .f32⟩
  | 46 => ⟨S16x2, .f32⟩
  | 47 => ⟨S_, .f32⟩
  | 48 => ⟨S16, .f32⟩
  | 49 => ⟨S1x2560x2048, .i8⟩
  | 50 => ⟨S2560x2048, .i8⟩
  | 51 => ⟨S1x40x2048, .bf16⟩
  | 52 => ⟨S40x2048, .bf16⟩
  | 53 => ⟨S2560x2048, .i32⟩
  | 54 => ⟨S_, .i32⟩
  | 55 => ⟨S2560x2048, .i32⟩
  | 56 => ⟨S2560x2048, .i32⟩
  | 57 => ⟨S_, .i32⟩
  | 58 => ⟨S2560x2048, .i32⟩
  | 59 => ⟨S2560x2048, .i32⟩
  | 60 => ⟨S_, .i32⟩
  | 61 => ⟨S2560x2048, .i32⟩
  | 62 => ⟨S2560x2048, .i1⟩
  | 63 => ⟨S_, .i32⟩
  | 64 => ⟨S2560x2048, .i32⟩
  | 65 => ⟨S2560x2048, .i32⟩
  | 66 => ⟨S2560x2048, .i32⟩
  | 67 => ⟨S_, .i32⟩
  | 68 => ⟨S2560x2048, .i32⟩
  | 69 => ⟨S2560x2048, .i1⟩
  | 70 => ⟨S_, .i32⟩
  | 71 => ⟨S2560x2048, .i32⟩
  | 72 => ⟨S2560x2048, .i32⟩
  | 73 => ⟨S2560x2048, .i32⟩
  | 74 => ⟨S40x64x2048, .bf16⟩
  | 75 => ⟨S2560x2048, .bf16⟩
  | 76 => ⟨S2560x2048, .bf16⟩
  | 77 => ⟨S2560x2048, .bf16⟩
  | 78 => ⟨S2560x2048, .bf16⟩
  | 79 => ⟨S2560x2048, .bf16⟩
  | 80 => ⟨S16x2048, .f32⟩
  | 81 => ⟨S16x2048, .f32⟩
  | 82 => ⟨S16x2048, .f32⟩
  | 83 => ⟨S1x2560x2048, .i8⟩
  | 84 => ⟨S2560x2048, .i8⟩
  | 85 => ⟨S1x40x2048, .bf16⟩
  | 86 => ⟨S40x2048, .bf16⟩
  | 87 => ⟨S2560x2048, .i32⟩
  | 88 => ⟨S_, .i32⟩
  | 89 => ⟨S2560x2048, .i32⟩
  | 90 => ⟨S2560x2048, .i32⟩
  | 91 => ⟨S_, .i32⟩
  | 92 => ⟨S2560x2048, .i32⟩
  | 93 => ⟨S2560x2048, .i32⟩
  | 94 => ⟨S_, .i32⟩
  | 95 => ⟨S2560x2048, .i32⟩
  | 96 => ⟨S2560x2048, .i1⟩
  | 97 => ⟨S_, .i32⟩
  | 98 => ⟨S2560x2048, .i32⟩
  | 99 => ⟨S2560x2048, .i32⟩
  | 100 => ⟨S2560x2048, .i32⟩
  | 101 => ⟨S_, .i32⟩
  | 102 => ⟨S2560x2048, .i32⟩
  | 103 => ⟨S2560x2048, .i1⟩
  | 104 => ⟨S_, .i32⟩
  | 105 => ⟨S2560x2048, .i32⟩
  | 106 => ⟨S2560x2048, .i32⟩
  | 107 => ⟨S2560x2048, .i32⟩
  | 108 => ⟨S40x64x2048, .bf16⟩
  | 109 => ⟨S2560x2048, .bf16⟩
  | 110 => ⟨S2560x2048, .bf16⟩
  | 111 => ⟨S2560x2048, .bf16⟩
  | 112 => ⟨S2560x2048, .bf16⟩
  | 113 => ⟨S2560x2048, .bf16⟩
  | 114 => ⟨S16x2048, .f32⟩
  | 115 => ⟨S16x2048, .f32⟩
  | 116 => ⟨S16x2048, .f32⟩
  | 117 => ⟨S16x2048, .f32⟩
  | 118 => ⟨S16x2048, .f32⟩
  | 119 => ⟨S_, .f32⟩
  | 120 => ⟨S16x2048, .f32⟩
  | 121 => ⟨S16x2048, .f32⟩
  | 122 => ⟨S_, .f32⟩
  | 123 => ⟨S16x2048, .f32⟩
  | 124 => ⟨S16x2048, .f32⟩
  | 125 => ⟨S16x2048, .f32⟩
  | 126 => ⟨S16x2048, .f32⟩
  | 127 => ⟨S16x2048, .bf16⟩
  | _ => ⟨S16x1x5120, .bf16⟩

abbrev hbmTy0_4 (i : Nat) : BufTy := match i % 128 with
  | 0 => ⟨S16x1024, .bf16⟩
  | 1 => ⟨S16x1024, .bf16⟩
  | 2 => ⟨S1x1024x5120, .i8⟩
  | 3 => ⟨S1024x5120, .i8⟩
  | 4 => ⟨S1x16x5120, .bf16⟩
  | 5 => ⟨S16x5120, .bf16⟩
  | 6 => ⟨S1024x5120, .i32⟩
  | 7 => ⟨S_, .i32⟩
  | 8 => ⟨S1024x5120, .i32⟩
  | 9 => ⟨S1024x5120, .i32⟩
  | 10 => ⟨S_, .i32⟩
  | 11 => ⟨S1024x5120, .i32⟩
  | 12 => ⟨S1024x5120, .i32⟩
  | 13 => ⟨S_, .i32⟩
  | 14 => ⟨S1024x5120, .i32⟩
  | 15 => ⟨S1024x5120, .i1⟩
  | 16 => ⟨S_, .i32⟩
  | 17 => ⟨S1024x5120, .i32⟩
  | 18 => ⟨S1024x5120, .i32⟩
  | 19 => ⟨S1024x5120, .i32⟩
  | 20 => ⟨S_, .i32⟩
  | 21 => ⟨S1024x5120, .i32⟩
  | 22 => ⟨S1024x5120, .i1⟩
  | 23 => ⟨S_, .i32⟩
  | 24 => ⟨S1024x5120, .i32⟩
  | 25 => ⟨S1024x5120, .i32⟩
  | 26 => ⟨S1024x5120, .i32⟩
  | 27 => ⟨S16x64x5120, .bf16⟩
  | 28 => ⟨S1024x5120, .bf16⟩
  | 29 => ⟨S1024x5120, .bf16⟩
  | 30 => ⟨S1024x5120, .bf16⟩
  | 31 => ⟨S1024x5120, .bf16⟩
  | 32 => ⟨S1024x5120, .bf16⟩
  | 33 => ⟨S16x5120, .f32⟩
  | 34 => ⟨S16x5120, .f32⟩
  | 35 => ⟨S16x5120, .f32⟩
  | 36 => ⟨S16x1, .i1⟩
  | 37 => ⟨S16x1, .f32⟩
  | 38 => ⟨S16x5120, .f32⟩
  | 39 => ⟨S16x5120, .f32⟩
  | 40 => ⟨S_, .f32⟩
  | 41 => ⟨S_, .f32⟩
  | 42 => ⟨S16x5120, .i1⟩
  | 43 => ⟨S16x5120, .f32⟩
  | 44 => ⟨S16x5120, .f32⟩
  | 45 => ⟨S16x5120, .f32⟩
  | 46 => ⟨S16x5120, .bf16⟩
  | _ => ⟨S16x1x5120, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x1x5120, .bf16⟩

abbrev bufTy : (tb : Table) → Fin (tcTables nBuf tb) → BufTy
  | .hbm, ⟨i, _⟩ => hbmTy i
  | _, _ => ⟨S16x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call5_v0 : Ref sig .tc := ⟨.hbm, 93, rfl⟩
abbrev main_call5_v1 : Ref sig .tc := ⟨.hbm, 94, rfl⟩
abbrev main_call5_cst : Ref sig .tc := ⟨.hbm, 95, rfl⟩
abbrev main_call5_v2 : Ref sig .tc := ⟨.hbm, 96, rfl⟩
abbrev main_call5_v3 : Ref sig .tc := ⟨.hbm, 97, rfl⟩
abbrev main_call5_cst_0 : Ref sig .tc := ⟨.hbm, 98, rfl⟩
abbrev main_call5_v4 : Ref sig .tc := ⟨.hbm, 99, rfl⟩
abbrev main_call5_v5 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_15 : Ref sig .tc := ⟨.hbm, 111, rfl⟩
abbrev main_v77 : Ref sig .tc := ⟨.hbm, 112, rfl⟩
abbrev main_v78 : Ref sig .tc := ⟨.hbm, 113, rfl⟩
abbrev main_c_16 : Ref sig .tc := ⟨.hbm, 114, rfl⟩
abbrev main_v79 : Ref sig .tc := ⟨.hbm, 115, rfl⟩
abbrev main_v80 : Ref sig .tc := ⟨.hbm, 116, rfl⟩
abbrev main_c_17 : Ref sig .tc := ⟨.hbm, 117, rfl⟩
abbrev main_v81 : Ref sig .tc := ⟨.hbm, 118, rfl⟩
abbrev main_v82 : Ref sig .tc := ⟨.hbm, 119, rfl⟩
abbrev main_c_18 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_21 : Ref sig .tc := ⟨.hbm, 144, rfl⟩
abbrev main_call8_v0 : Ref sig .tc := ⟨.hbm, 145, rfl⟩
abbrev main_call8_v1 : Ref sig .tc := ⟨.hbm, 146, rfl⟩
abbrev main_call8_v2 : Ref sig .tc := ⟨.hbm, 147, rfl⟩
abbrev main_v104 : Ref sig .tc := ⟨.hbm, 148, rfl⟩
abbrev main_v105 : Ref sig .tc := ⟨.hbm, 149, rfl⟩
abbrev main_c_22 : Ref sig .tc := ⟨.hbm, 150, rfl⟩
abbrev main_v106 : Ref sig .tc := ⟨.hbm, 151, rfl⟩
abbrev main_v107 : Ref sig .tc := ⟨.hbm, 152, rfl⟩
abbrev main_c_23 : Ref sig .tc := ⟨.hbm, 153, rfl⟩
abbrev main_v108 : Ref sig .tc := ⟨.hbm, 154, rfl⟩
abbrev main_cst_24 : Ref sig .tc := ⟨.hbm, 155, rfl⟩
abbrev main_call9_v0 : Ref sig .tc := ⟨.hbm, 156, rfl⟩
abbrev main_call9_v1 : Ref sig .tc := ⟨.hbm, 157, rfl⟩
abbrev main_v109 : Ref sig .tc := ⟨.hbm, 158, rfl⟩
abbrev main_cst_25 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_c_26 : Ref sig .tc := ⟨.hbm, 166, rfl⟩
abbrev main_v116 : Ref sig .tc := ⟨.hbm, 167, rfl⟩
abbrev main_v117 : Ref sig .tc := ⟨.hbm, 168, rfl⟩
abbrev main_c_27 : Ref sig .tc := ⟨.hbm, 169, rfl⟩
abbrev main_v118 : Ref sig .tc := ⟨.hbm, 170, rfl⟩
abbrev main_v119 : Ref sig .tc := ⟨.hbm, 171, rfl⟩
abbrev main_c_28 : Ref sig .tc := ⟨.hbm, 172, rfl⟩
abbrev main_v120 : Ref sig .tc := ⟨.hbm, 173, rfl⟩
abbrev main_v121 : Ref sig .tc := ⟨.hbm, 174, rfl⟩
abbrev main_c_29 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_c_30 : Ref sig .tc := ⟨.hbm, 179, rfl⟩
abbrev main_v125 : Ref sig .tc := ⟨.hbm, 180, rfl⟩
abbrev main_v126 : Ref sig .tc := ⟨.hbm, 181, rfl⟩
abbrev main_c_31 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_c_32 : Ref sig .tc := ⟨.hbm, 200, rfl⟩
abbrev main_v144 : Ref sig .tc := ⟨.hbm, 201, rfl⟩
abbrev main_v145 : Ref sig .tc := ⟨.hbm, 202, rfl⟩
abbrev main_c_33 : Ref sig .tc := ⟨.hbm, 203, rfl⟩
abbrev main_v146 : Ref sig .tc := ⟨.hbm, 204, rfl⟩
abbrev main_v147 : Ref sig .tc := ⟨.hbm, 205, rfl⟩
abbrev main_c_34 : Ref sig .tc := ⟨.hbm, 206, rfl⟩
abbrev main_v148 : Ref sig .tc := ⟨.hbm, 207, rfl⟩
abbrev main_v149 : Ref sig .tc := ⟨.hbm, 208, rfl⟩
abbrev main_c_35 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_c_36 : Ref sig .tc := ⟨.hbm, 213, rfl⟩
abbrev main_v153 : Ref sig .tc := ⟨.hbm, 214, rfl⟩
abbrev main_v154 : Ref sig .tc := ⟨.hbm, 215, rfl⟩
abbrev main_c_37 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_call14_v0 : Ref sig .tc := ⟨.hbm, 229, rfl⟩
abbrev main_call14_v1 : Ref sig .tc := ⟨.hbm, 230, rfl⟩
abbrev main_call14_cst : Ref sig .tc := ⟨.hbm, 231, rfl⟩
abbrev main_call14_v2 : Ref sig .tc := ⟨.hbm, 232, rfl⟩
abbrev main_call14_v3 : Ref sig .tc := ⟨.hbm, 233, rfl⟩
abbrev main_call14_cst_0 : Ref sig .tc := ⟨.hbm, 234, rfl⟩
abbrev main_call14_v4 : Ref sig .tc := ⟨.hbm, 235, rfl⟩
abbrev main_call14_v5 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_c_38 : Ref sig .tc := ⟨.hbm, 247, rfl⟩
abbrev main_v177 : Ref sig .tc := ⟨.hbm, 248, rfl⟩
abbrev main_v178 : Ref sig .tc := ⟨.hbm, 249, rfl⟩
abbrev main_c_39 : Ref sig .tc := ⟨.hbm, 250, rfl⟩
abbrev main_v179 : Ref sig .tc := ⟨.hbm, 251, rfl⟩
abbrev main_v180 : Ref sig .tc := ⟨.hbm, 252, rfl⟩
abbrev main_c_40 : Ref sig .tc := ⟨.hbm, 253, rfl⟩
abbrev main_v181 : Ref sig .tc := ⟨.hbm, 254, rfl⟩
abbrev main_v182 : Ref sig .tc := ⟨.hbm, 255, rfl⟩
abbrev main_c_41 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_c_42 : Ref sig .tc := ⟨.hbm, 260, rfl⟩
abbrev main_v186 : Ref sig .tc := ⟨.hbm, 261, rfl⟩
abbrev main_v187 : Ref sig .tc := ⟨.hbm, 262, rfl⟩
abbrev main_c_43 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_cst_44 : Ref sig .tc := ⟨.hbm, 280, rfl⟩
abbrev main_call17_v0 : Ref sig .tc := ⟨.hbm, 281, rfl⟩
abbrev main_call17_v1 : Ref sig .tc := ⟨.hbm, 282, rfl⟩
abbrev main_call17_v2 : Ref sig .tc := ⟨.hbm, 283, rfl⟩
abbrev main_v204 : Ref sig .tc := ⟨.hbm, 284, rfl⟩
abbrev main_v205 : Ref sig .tc := ⟨.hbm, 285, rfl⟩
abbrev main_c_45 : Ref sig .tc := ⟨.hbm, 286, rfl⟩
abbrev main_v206 : Ref sig .tc := ⟨.hbm, 287, rfl⟩
abbrev main_v207 : Ref sig .tc := ⟨.hbm, 288, rfl⟩
abbrev main_c_46 : Ref sig .tc := ⟨.hbm, 289, rfl⟩
abbrev main_v208 : Ref sig .tc := ⟨.hbm, 290, rfl⟩
abbrev main_cst_47 : Ref sig .tc := ⟨.hbm, 291, rfl⟩
abbrev main_call18_v0 : Ref sig .tc := ⟨.hbm, 292, rfl⟩
abbrev main_call18_v1 : Ref sig .tc := ⟨.hbm, 293, rfl⟩
abbrev main_v209 : Ref sig .tc := ⟨.hbm, 294, rfl⟩
abbrev main_cst_48 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_c_49 : Ref sig .tc := ⟨.hbm, 302, rfl⟩
abbrev main_v216 : Ref sig .tc := ⟨.hbm, 303, rfl⟩
abbrev main_v217 : Ref sig .tc := ⟨.hbm, 304, rfl⟩
abbrev main_c_50 : Ref sig .tc := ⟨.hbm, 305, rfl⟩
abbrev main_v218 : Ref sig .tc := ⟨.hbm, 306, rfl⟩
abbrev main_v219 : Ref sig .tc := ⟨.hbm, 307, rfl⟩
abbrev main_c_51 : Ref sig .tc := ⟨.hbm, 308, rfl⟩
abbrev main_v220 : Ref sig .tc := ⟨.hbm, 309, rfl⟩
abbrev main_v221 : Ref sig .tc := ⟨.hbm, 310, rfl⟩
abbrev main_c_52 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_c_53 : Ref sig .tc := ⟨.hbm, 315, rfl⟩
abbrev main_v225 : Ref sig .tc := ⟨.hbm, 316, rfl⟩
abbrev main_v226 : Ref sig .tc := ⟨.hbm, 317, rfl⟩
abbrev main_c_54 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_c_55 : Ref sig .tc := ⟨.hbm, 336, rfl⟩
abbrev main_v244 : Ref sig .tc := ⟨.hbm, 337, rfl⟩
abbrev main_v245 : Ref sig .tc := ⟨.hbm, 338, rfl⟩
abbrev main_c_56 : Ref sig .tc := ⟨.hbm, 339, rfl⟩
abbrev main_v246 : Ref sig .tc := ⟨.hbm, 340, rfl⟩
abbrev main_v247 : Ref sig .tc := ⟨.hbm, 341, rfl⟩
abbrev main_c_57 : Ref sig .tc := ⟨.hbm, 342, rfl⟩
abbrev main_v248 : Ref sig .tc := ⟨.hbm, 343, rfl⟩
abbrev main_v249 : Ref sig .tc := ⟨.hbm, 344, rfl⟩
abbrev main_c_58 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_c_59 : Ref sig .tc := ⟨.hbm, 349, rfl⟩
abbrev main_v253 : Ref sig .tc := ⟨.hbm, 350, rfl⟩
abbrev main_v254 : Ref sig .tc := ⟨.hbm, 351, rfl⟩
abbrev main_c_60 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_call23_v0 : Ref sig .tc := ⟨.hbm, 365, rfl⟩
abbrev main_call23_v1 : Ref sig .tc := ⟨.hbm, 366, rfl⟩
abbrev main_call23_cst : Ref sig .tc := ⟨.hbm, 367, rfl⟩
abbrev main_call23_v2 : Ref sig .tc := ⟨.hbm, 368, rfl⟩
abbrev main_call23_v3 : Ref sig .tc := ⟨.hbm, 369, rfl⟩
abbrev main_call23_cst_0 : Ref sig .tc := ⟨.hbm, 370, rfl⟩
abbrev main_call23_v4 : Ref sig .tc := ⟨.hbm, 371, rfl⟩
abbrev main_call23_v5 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_v276 : Ref sig .tc := ⟨.hbm, 382, rfl⟩
abbrev main_c_61 : Ref sig .tc := ⟨.hbm, 383, rfl⟩
abbrev main_v277 : Ref sig .tc := ⟨.hbm, 384, rfl⟩
abbrev main_v278 : Ref sig .tc := ⟨.hbm, 385, rfl⟩
abbrev main_c_62 : Ref sig .tc := ⟨.hbm, 386, rfl⟩
abbrev main_v279 : Ref sig .tc := ⟨.hbm, 387, rfl⟩
abbrev main_v280 : Ref sig .tc := ⟨.hbm, 388, rfl⟩
abbrev main_c_63 : Ref sig .tc := ⟨.hbm, 389, rfl⟩
abbrev main_v281 : Ref sig .tc := ⟨.hbm, 390, rfl⟩
abbrev main_v282 : Ref sig .tc := ⟨.hbm, 391, rfl⟩
abbrev main_c_64 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_c_65 : Ref sig .tc := ⟨.hbm, 396, rfl⟩
abbrev main_v286 : Ref sig .tc := ⟨.hbm, 397, rfl⟩
abbrev main_v287 : Ref sig .tc := ⟨.hbm, 398, rfl⟩
abbrev main_c_66 : Ref sig .tc := ⟨.hbm, 399, rfl⟩
abbrev main_v288 : Ref sig .tc := ⟨.hbm, 400, rfl⟩
abbrev main_v289 : Ref sig .tc := ⟨.hbm, 401, rfl⟩
abbrev main_v290 : Ref sig .tc := ⟨.hbm, 402, rfl⟩
abbrev main_v291 : Ref sig .tc := ⟨.hbm, 403, rfl⟩
abbrev main_v292 : Ref sig .tc := ⟨.hbm, 404, rfl⟩
abbrev main_v293 : Ref sig .tc := ⟨.hbm, 405, rfl⟩
abbrev main_v294 : Ref sig .tc := ⟨.hbm, 406, rfl⟩
abbrev main_v295 : Ref sig .tc := ⟨.hbm, 407, rfl⟩
abbrev main_v296 : Ref sig .tc := ⟨.hbm, 408, rfl⟩
abbrev main_v297 : Ref sig .tc := ⟨.hbm, 409, rfl⟩
abbrev main_v298 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_cst_67 : Ref sig .tc := ⟨.hbm, 416, rfl⟩
abbrev main_call26_v0 : Ref sig .tc := ⟨.hbm, 417, rfl⟩
abbrev main_call26_v1 : Ref sig .tc := ⟨.hbm, 418, rfl⟩
abbrev main_call26_v2 : Ref sig .tc := ⟨.hbm, 419, rfl⟩
abbrev main_v304 : Ref sig .tc := ⟨.hbm, 420, rfl⟩
abbrev main_v305 : Ref sig .tc := ⟨.hbm, 421, rfl⟩
abbrev main_c_68 : Ref sig .tc := ⟨.hbm, 422, rfl⟩
abbrev main_v306 : Ref sig .tc := ⟨.hbm, 423, rfl⟩
abbrev main_v307 : Ref sig .tc := ⟨.hbm, 424, rfl⟩
abbrev main_c_69 : Ref sig .tc := ⟨.hbm, 425, rfl⟩
abbrev main_v308 : Ref sig .tc := ⟨.hbm, 426, rfl⟩
abbrev main_cst_70 : Ref sig .tc := ⟨.hbm, 427, rfl⟩
abbrev main_call27_v0 : Ref sig .tc := ⟨.hbm, 428, rfl⟩
abbrev main_call27_v1 : Ref sig .tc := ⟨.hbm, 429, rfl⟩
abbrev main_v309 : Ref sig .tc := ⟨.hbm, 430, rfl⟩
abbrev main_cst_71 : Ref sig .tc := ⟨.hbm, 431, rfl⟩
abbrev main_v310 : Ref sig .tc := ⟨.hbm, 432, rfl⟩
abbrev main_v311 : Ref sig .tc := ⟨.hbm, 433, rfl⟩
abbrev main_v312 : Ref sig .tc := ⟨.hbm, 434, rfl⟩
abbrev main_v313 : Ref sig .tc := ⟨.hbm, 435, rfl⟩
abbrev main_v314 : Ref sig .tc := ⟨.hbm, 436, rfl⟩
abbrev main_v315 : Ref sig .tc := ⟨.hbm, 437, rfl⟩
abbrev main_c_72 : Ref sig .tc := ⟨.hbm, 438, rfl⟩
abbrev main_v316 : Ref sig .tc := ⟨.hbm, 439, rfl⟩
abbrev main_v317 : Ref sig .tc := ⟨.hbm, 440, rfl⟩
abbrev main_c_73 : Ref sig .tc := ⟨.hbm, 441, rfl⟩
abbrev main_v318 : Ref sig .tc := ⟨.hbm, 442, rfl⟩
abbrev main_v319 : Ref sig .tc := ⟨.hbm, 443, rfl⟩
abbrev main_c_74 : Ref sig .tc := ⟨.hbm, 444, rfl⟩
abbrev main_v320 : Ref sig .tc := ⟨.hbm, 445, rfl⟩
abbrev main_v321 : Ref sig .tc := ⟨.hbm, 446, rfl⟩
abbrev main_c_75 : Ref sig .tc := ⟨.hbm, 447, rfl⟩
abbrev main_v322 : Ref sig .tc := ⟨.hbm, 448, rfl⟩
abbrev main_v323 : Ref sig .tc := ⟨.hbm, 449, rfl⟩
abbrev main_v324 : Ref sig .tc := ⟨.hbm, 450, rfl⟩
abbrev main_c_76 : Ref sig .tc := ⟨.hbm, 451, rfl⟩
abbrev main_v325 : Ref sig .tc := ⟨.hbm, 452, rfl⟩
abbrev main_v326 : Ref sig .tc := ⟨.hbm, 453, rfl⟩
abbrev main_c_77 : Ref sig .tc := ⟨.hbm, 454, rfl⟩
abbrev main_v327 : Ref sig .tc := ⟨.hbm, 455, rfl⟩
abbrev main_v328 : Ref sig .tc := ⟨.hbm, 456, rfl⟩
abbrev main_v329 : Ref sig .tc := ⟨.hbm, 457, rfl⟩
abbrev main_v330 : Ref sig .tc := ⟨.hbm, 458, rfl⟩
abbrev main_v331 : Ref sig .tc := ⟨.hbm, 459, rfl⟩
abbrev main_v332 : Ref sig .tc := ⟨.hbm, 460, rfl⟩
abbrev main_v333 : Ref sig .tc := ⟨.hbm, 461, rfl⟩
abbrev main_v334 : Ref sig .tc := ⟨.hbm, 462, rfl⟩
abbrev main_v335 : Ref sig .tc := ⟨.hbm, 463, rfl⟩
abbrev main_v336 : Ref sig .tc := ⟨.hbm, 464, rfl⟩
abbrev main_v337 : Ref sig .tc := ⟨.hbm, 465, rfl⟩
abbrev main_v338 : Ref sig .tc := ⟨.hbm, 466, rfl⟩
abbrev main_v339 : Ref sig .tc := ⟨.hbm, 467, rfl⟩
abbrev main_v340 : Ref sig .tc := ⟨.hbm, 468, rfl⟩
abbrev main_v341 : Ref sig .tc := ⟨.hbm, 469, rfl⟩
abbrev main_v342 : Ref sig .tc := ⟨.hbm, 470, rfl⟩
abbrev main_v343 : Ref sig .tc := ⟨.hbm, 471, rfl⟩
abbrev main_c_78 : Ref sig .tc := ⟨.hbm, 472, rfl⟩
abbrev main_v344 : Ref sig .tc := ⟨.hbm, 473, rfl⟩
abbrev main_v345 : Ref sig .tc := ⟨.hbm, 474, rfl⟩
abbrev main_c_79 : Ref sig .tc := ⟨.hbm, 475, rfl⟩
abbrev main_v346 : Ref sig .tc := ⟨.hbm, 476, rfl⟩
abbrev main_v347 : Ref sig .tc := ⟨.hbm, 477, rfl⟩
abbrev main_c_80 : Ref sig .tc := ⟨.hbm, 478, rfl⟩
abbrev main_v348 : Ref sig .tc := ⟨.hbm, 479, rfl⟩
abbrev main_v349 : Ref sig .tc := ⟨.hbm, 480, rfl⟩
abbrev main_c_81 : Ref sig .tc := ⟨.hbm, 481, rfl⟩
abbrev main_v350 : Ref sig .tc := ⟨.hbm, 482, rfl⟩
abbrev main_v351 : Ref sig .tc := ⟨.hbm, 483, rfl⟩
abbrev main_v352 : Ref sig .tc := ⟨.hbm, 484, rfl⟩
abbrev main_c_82 : Ref sig .tc := ⟨.hbm, 485, rfl⟩
abbrev main_v353 : Ref sig .tc := ⟨.hbm, 486, rfl⟩
abbrev main_v354 : Ref sig .tc := ⟨.hbm, 487, rfl⟩
abbrev main_c_83 : Ref sig .tc := ⟨.hbm, 488, rfl⟩
abbrev main_v355 : Ref sig .tc := ⟨.hbm, 489, rfl⟩
abbrev main_v356 : Ref sig .tc := ⟨.hbm, 490, rfl⟩
abbrev main_v357 : Ref sig .tc := ⟨.hbm, 491, rfl⟩
abbrev main_v358 : Ref sig .tc := ⟨.hbm, 492, rfl⟩
abbrev main_v359 : Ref sig .tc := ⟨.hbm, 493, rfl⟩
abbrev main_v360 : Ref sig .tc := ⟨.hbm, 494, rfl⟩
abbrev main_v361 : Ref sig .tc := ⟨.hbm, 495, rfl⟩
abbrev main_v362 : Ref sig .tc := ⟨.hbm, 496, rfl⟩
abbrev main_v363 : Ref sig .tc := ⟨.hbm, 497, rfl⟩
abbrev main_v364 : Ref sig .tc := ⟨.hbm, 498, rfl⟩
abbrev main_v365 : Ref sig .tc := ⟨.hbm, 499, rfl⟩
abbrev main_v366 : Ref sig .tc := ⟨.hbm, 500, rfl⟩
abbrev main_call32_v0 : Ref sig .tc := ⟨.hbm, 501, rfl⟩
abbrev main_call32_v1 : Ref sig .tc := ⟨.hbm, 502, rfl⟩
abbrev main_call32_cst : Ref sig .tc := ⟨.hbm, 503, rfl⟩
abbrev main_call32_v2 : Ref sig .tc := ⟨.hbm, 504, rfl⟩
abbrev main_call32_v3 : Ref sig .tc := ⟨.hbm, 505, rfl⟩
abbrev main_call32_cst_0 : Ref sig .tc := ⟨.hbm, 506, rfl⟩
abbrev main_call32_v4 : Ref sig .tc := ⟨.hbm, 507, rfl⟩
abbrev main_call32_v5 : Ref sig .tc := ⟨.hbm, 508, rfl⟩
abbrev main_v367 : Ref sig .tc := ⟨.hbm, 509, rfl⟩
abbrev main_v368 : Ref sig .tc := ⟨.hbm, 510, rfl⟩
abbrev main_v369 : Ref sig .tc := ⟨.hbm, 511, rfl⟩
abbrev main_v370 : Ref sig .tc := ⟨.hbm, 512, rfl⟩
abbrev main_v371 : Ref sig .tc := ⟨.hbm, 513, rfl⟩
abbrev main_v372 : Ref sig .tc := ⟨.hbm, 514, rfl⟩
abbrev main_v373 : Ref sig .tc := ⟨.hbm, 515, rfl⟩
abbrev main_v374 : Ref sig .tc := ⟨.hbm, 516, rfl⟩
abbrev main_v375 : Ref sig .tc := ⟨.hbm, 517, rfl⟩
abbrev main_v376 : Ref sig .tc := ⟨.hbm, 518, rfl⟩
abbrev main_c_84 : Ref sig .tc := ⟨.hbm, 519, rfl⟩
abbrev main_v377 : Ref sig .tc := ⟨.hbm, 520, rfl⟩
abbrev main_v378 : Ref sig .tc := ⟨.hbm, 521, rfl⟩
abbrev main_c_85 : Ref sig .tc := ⟨.hbm, 522, rfl⟩
abbrev main_v379 : Ref sig .tc := ⟨.hbm, 523, rfl⟩
abbrev main_v380 : Ref sig .tc := ⟨.hbm, 524, rfl⟩
abbrev main_c_86 : Ref sig .tc := ⟨.hbm, 525, rfl⟩
abbrev main_v381 : Ref sig .tc := ⟨.hbm, 526, rfl⟩
abbrev main_v382 : Ref sig .tc := ⟨.hbm, 527, rfl⟩
abbrev main_c_87 : Ref sig .tc := ⟨.hbm, 528, rfl⟩
abbrev main_v383 : Ref sig .tc := ⟨.hbm, 529, rfl⟩
abbrev main_v384 : Ref sig .tc := ⟨.hbm, 530, rfl⟩
abbrev main_v385 : Ref sig .tc := ⟨.hbm, 531, rfl⟩
abbrev main_c_88 : Ref sig .tc := ⟨.hbm, 532, rfl⟩
abbrev main_v386 : Ref sig .tc := ⟨.hbm, 533, rfl⟩
abbrev main_v387 : Ref sig .tc := ⟨.hbm, 534, rfl⟩
abbrev main_c_89 : Ref sig .tc := ⟨.hbm, 535, rfl⟩
abbrev main_v388 : Ref sig .tc := ⟨.hbm, 536, rfl⟩
abbrev main_v389 : Ref sig .tc := ⟨.hbm, 537, rfl⟩
abbrev main_v390 : Ref sig .tc := ⟨.hbm, 538, rfl⟩
abbrev main_v391 : Ref sig .tc := ⟨.hbm, 539, rfl⟩
abbrev main_v392 : Ref sig .tc := ⟨.hbm, 540, rfl⟩
abbrev main_v393 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_v397 : Ref sig .tc := ⟨.hbm, 545, rfl⟩
abbrev main_v398 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_v402 : Ref sig .tc := ⟨.hbm, 550, rfl⟩
abbrev main_v403 : Ref sig .tc := ⟨.hbm, 551, rfl⟩
abbrev main_cst_90 : Ref sig .tc := ⟨.hbm, 552, rfl⟩
abbrev main_call35_v0 : Ref sig .tc := ⟨.hbm, 553, rfl⟩
abbrev main_call35_v1 : Ref sig .tc := ⟨.hbm, 554, rfl⟩
abbrev main_call35_v2 : Ref sig .tc := ⟨.hbm, 555, rfl⟩
abbrev main_v404 : Ref sig .tc := ⟨.hbm, 556, rfl⟩
abbrev main_v405 : Ref sig .tc := ⟨.hbm, 557, rfl⟩
abbrev main_v406 : Ref sig .tc := ⟨.hbm, 558, rfl⟩

abbrev nD : Nat := 1
abbrev τ : Topo := Topo.v7x

variable {F : FTy → Type} [FloatOps F]
-- ==== Proof.Names.lean ====
/-
  Names for what the kernel moves: the four slots of each weight buffer, the two slots of each scale buffer, their
  DMA cells, and the blocks of the weights and scales they are filled from. Every index chain the kernel computes is
  put in closed form here, from the one fact that at most four experts are active.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Ring.Trips
public import Idealize.ShloMosaic.Lib.LoopRemainder
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The whole buffers -/

abbrev wguM : Memref sig .tc .hbm S4x2560x4096 .i8 := Memref.whole main_arg3
abbrev sguM : Memref sig .tc .hbm S4x40x4096 .bf16 := Memref.whole main_arg4
abbrev wdM : Memref sig .tc .hbm S4x1024x5120 .i8 := Memref.whole main_arg5
abbrev sdM : Memref sig .tc .hbm S4x16x5120 .bf16 := Memref.whole main_arg6
abbrev actM : Memref sig .tc .smem S4 .i32 := Memref.whole cc0_scratch0
abbrev gM : Memref sig .tc .vmem S4x2560x256 .i8 := Memref.whole cc0_scratch1
abbrev uM : Memref sig .tc .vmem S4x2560x256 .i8 := Memref.whole cc0_scratch2
abbrev dM : Memref sig .tc .vmem S4x128x5120 .i8 := Memref.whole cc0_scratch3
abbrev sgM : Memref sig .tc .vmem S2x40x4096 .bf16 := Memref.whole cc0_scratch4
abbrev seM : Memref sig .tc .vmem S2x16x5120 .bf16 := Memref.whole cc0_scratch5
abbrev sgwM : Memref sig .tc .vmem S40x4096 .f32 := Memref.whole cc0_scratch6
abbrev sdwM : Memref sig .tc .vmem S16x5120 .f32 := Memref.whole cc0_scratch7
abbrev hM : Memref sig .tc .vmem S16x256 .bf16 := Memref.whole cc0_scratch8
abbrev yM : Memref sig .tc .vmem S16x5120 .f32 := Memref.whole cc0_scratch9
abbrev accM : Memref sig .tc .vmem S16x5120 .f32 := Memref.whole cc0_scratch10

/-! ## Slots, cells and blocks -/

abbrev slotOff {n : ℕ} (s : Fin n) : Fin 3 → Nat := ![s.val, 0, 0]
theorem gS_inb (s : Fin 4) : ∀ a, slotOff s a + S1x2560x256.size a ≤ S4x2560x256.size a := by
  have := s.isLt; intro a; fin_cases a
  · show s.val + 1 ≤ 4; omega
  · show 0 + 2560 ≤ 2560; omega
  · show 0 + 256 ≤ 256; omega
def gS (s : Fin 4) : Memref sig .tc .vmem S2560x256 .i8 :=
  (gM.slice (Rect.unit (s := S4x2560x256) (slotOff s) S1x2560x256.size (gS_inb s)) (fun _ => rfl)).squeeze S2560x256 squeezes_S1x2560x256_S2560x256
theorem gS_congr {off : Fin 3 → Nat} {s : Fin 4} (e : off = slotOff s) (hh hs) :
    (gM.slice (Rect.unit (s := S4x2560x256) off S1x2560x256.size hh) hs).squeeze S2560x256 squeezes_S1x2560x256_S2560x256 = gS s :=
  congrArg (fun M : Memref sig .tc .vmem S1x2560x256 .i8 => M.squeeze S2560x256 squeezes_S1x2560x256_S2560x256) (Memref.slice_unit_congr _ e _ _ _ _)
theorem uS_inb (s : Fin 4) : ∀ a, slotOff s a + S1x2560x256.size a ≤ S4x2560x256.size a := by
  have := s.isLt; intro a; fin_cases a
  · show s.val + 1 ≤ 4; omega
  · show 0 + 2560 ≤ 2560; omega
  · show 0 + 256 ≤ 256; omega
def uS (s : Fin 4) : Memref sig .tc .vmem S2560x256 .i8 :=
  (uM.slice (Rect.unit (s := S4x2560x256) (slotOff s) S1x2560x256.size (uS_inb s)) (fun _ => rfl)).squeeze S2560x256 squeezes_S1x2560x256_S2560x256
theorem uS_congr {off : Fin 3 → Nat} {s : Fin 4} (e : off = slotOff s) (hh hs) :
    (uM.slice (Rect.unit (s := S4x2560x256) off S1x2560x256.size hh) hs).squeeze S2560x256 squeezes_S1x2560x256_S2560x256 = uS s :=
  congrArg (fun M : Memref sig .tc .vmem S1x2560x256 .i8 => M.squeeze S2560x256 squeezes_S1x2560x256_S2560x256) (Memref.slice_unit_congr _ e _ _ _ _)
theorem dS_inb (s : Fin 4) : ∀ a, slotOff s a + S1x128x5120.size a ≤ S4x128x5120.size a := by
  have := s.isLt; intro a; fin_cases a
  · show s.val + 1 ≤ 4; omega
  · show 0 + 128 ≤ 128; omega
  · show 0 + 5120 ≤ 5120; omega
def dS (s : Fin 4) : Memref sig .tc .vmem S128x5120 .i8 :=
  (dM.slice (Rect.unit (s := S4x128x5120) (slotOff s) S1x128x5120.size (dS_inb s)) (fun _ => rfl)).squeeze S128x5120 squeezes_S1x128x5120_S128x5120
theorem dS_congr {off : Fin 3 → Nat} {s : Fin 4} (e : off = slotOff s) (hh hs) :
    (dM.slice (Rect.unit (s := S4x128x5120) off S1x128x5120.size hh) hs).squeeze S128x5120 squeezes_S1x128x5120_S128x5120 = dS s :=
  congrArg (fun M : Memref sig .tc .vmem S1x128x5120 .i8 => M.squeeze S128x5120 squeezes_S1x128x5120_S128x5120) (Memref.slice_unit_congr _ e _ _ _ _)
theorem sgS_inb (s : Fin 2) : ∀ a, slotOff s a + S1x40x4096.size a ≤ S2x40x4096.size a := by
  have := s.isLt; intro a; fin_cases a
  · show s.val + 1 ≤ 2; omega
  · show 0 + 40 ≤ 40; omega
  · show 0 + 4096 ≤ 4096; omega
def sgS (s : Fin 2) : Memref sig .tc .vmem S40x4096 .bf16 :=
  (sgM.slice (Rect.unit (s := S2x40x4096) (slotOff s) S1x40x4096.size (sgS_inb s)) (fun _ => rfl)).squeeze S40x4096 squeezes_S1x40x4096_S40x4096
theorem sgS_congr {off : Fin 3 → Nat} {s : Fin 2} (e : off = slotOff s) (hh hs) :
    (sgM.slice (Rect.unit (s := S2x40x4096) off S1x40x4096.size hh) hs).squeeze S40x4096 squeezes_S1x40x4096_S40x4096 = sgS s :=
  congrArg (fun M : Memref sig .tc .vmem S1x40x4096 .bf16 => M.squeeze S40x4096 squeezes_S1x40x4096_S40x4096) (Memref.slice_unit_congr _ e _ _ _ _)
theorem seS_inb (s : Fin 2) : ∀ a, slotOff s a + S1x16x5120.size a ≤ S2x16x5120.size a := by
  have := s.isLt; intro a; fin_cases a
  · show s.val + 1 ≤ 2; omega
  · show 0 + 16 ≤ 16; omega
  · show 0 + 5120 ≤ 5120; omega
def seS (s : Fin 2) : Memref sig .tc .vmem S16x5120 .bf16 :=
  (seM.slice (Rect.unit (s := S2x16x5120) (slotOff s) S1x16x5120.size (seS_inb s)) (fun _ => rfl)).squeeze S16x5120 squeezes_S1x16x5120_S16x5120
theorem seS_congr {off : Fin 3 → Nat} {s : Fin 2} (e : off = slotOff s) (hh hs) :
    (seM.slice (Rect.unit (s := S2x16x5120) off S1x16x5120.size hh) hs).squeeze S16x5120 squeezes_S1x16x5120_S16x5120 = seS s :=
  congrArg (fun M : Memref sig .tc .vmem S1x16x5120 .bf16 => M.squeeze S16x5120 squeezes_S1x16x5120_S16x5120) (Memref.slice_unit_congr _ e _ _ _ _)
abbrev gCOff (s : Fin 4) : Fin 2 → Nat := ![0, s.val]
theorem gC_inb (s : Fin 4) : ∀ a, gCOff s a + S1x1.size a ≤ S3x4.size a := by
  have := s.isLt; intro a; fin_cases a
  · show 0 + 1 ≤ 3; omega
  · show s.val + 1 ≤ 4; omega
def gC (s : Fin 4) : DmaSems sig S_ := (cc0_scratch11.slice (Rect.unit (s := S3x4) (gCOff s) S1x1.size (gC_inb s))).squeeze S_ squeezes_S1x1_S_
theorem gC_congr {off : Fin 2 → Nat} {s : Fin 4} (e : off = gCOff s) (hh) :
    (cc0_scratch11.slice (Rect.unit (s := S3x4) off S1x1.size hh)).squeeze S_ squeezes_S1x1_S_ = gC s :=
  congrArg (fun A : DmaSems sig S1x1 => A.squeeze S_ squeezes_S1x1_S_) (SemArray.slice_unit_congr _ e _ _)
abbrev uCOff (s : Fin 4) : Fin 2 → Nat := ![1, s.val]
theorem uC_inb (s : Fin 4) : ∀ a, uCOff s a + S1x1.size a ≤ S3x4.size a := by
  have := s.isLt; intro a; fin_cases a
  · show 1 + 1 ≤ 3; omega
  · show s.val + 1 ≤ 4; omega
def uC (s : Fin 4) : DmaSems sig S_ := (cc0_scratch11.slice (Rect.unit (s := S3x4) (uCOff s) S1x1.size (uC_inb s))).squeeze S_ squeezes_S1x1_S_
theorem uC_congr {off : Fin 2 → Nat} {s : Fin 4} (e : off = uCOff s) (hh) :
    (cc0_scratch11.slice (Rect.unit (s := S3x4) off S1x1.size hh)).squeeze S_ squeezes_S1x1_S_ = uC s :=
  congrArg (fun A : DmaSems sig S1x1 => A.squeeze S_ squeezes_S1x1_S_) (SemArray.slice_unit_congr _ e _ _)
abbrev dCOff (s : Fin 4) : Fin 2 → Nat := ![2, s.val]
theorem dC_inb (s : Fin 4) : ∀ a, dCOff s a + S1x1.size a ≤ S3x4.size a := by
  have := s.isLt; intro a; fin_cases a
  · show 2 + 1 ≤ 3; omega
  · show s.val + 1 ≤ 4; omega
def dC (s : Fin 4) : DmaSems sig S_ := (cc0_scratch11.slice (Rect.unit (s := S3x4) (dCOff s) S1x1.size (dC_inb s))).squeeze S_ squeezes_S1x1_S_
theorem dC_congr {off : Fin 2 → Nat} {s : Fin 4} (e : off = dCOff s) (hh) :
    (cc0_scratch11.slice (Rect.unit (s := S3x4) off S1x1.size hh)).squeeze S_ squeezes_S1x1_S_ = dC s :=
  congrArg (fun A : DmaSems sig S1x1 => A.squeeze S_ squeezes_S1x1_S_) (SemArray.slice_unit_congr _ e _ _)
abbrev sgCOff (s : Fin 2) : Fin 2 → Nat := ![0, s.val]
theorem sgC_inb (s : Fin 2) : ∀ a, sgCOff s a + S1x1.size a ≤ S2x2.size a := by
  have := s.isLt; intro a; fin_cases a
  · show 0 + 1 ≤ 2; omega
  · show s.val + 1 ≤ 2; omega
def sgC (s : Fin 2) : DmaSems sig S_ := (cc0_scratch12.slice (Rect.unit (s := S2x2) (sgCOff s) S1x1.size (sgC_inb s))).squeeze S_ squeezes_S1x1_S_
theorem sgC_congr {off : Fin 2 → Nat} {s : Fin 2} (e : off = sgCOff s) (hh) :
    (cc0_scratch12.slice (Rect.unit (s := S2x2) off S1x1.size hh)).squeeze S_ squeezes_S1x1_S_ = sgC s :=
  congrArg (fun A : DmaSems sig S1x1 => A.squeeze S_ squeezes_S1x1_S_) (SemArray.slice_unit_congr _ e _ _)
abbrev seCOff (s : Fin 2) : Fin 2 → Nat := ![1, s.val]
theorem seC_inb (s : Fin 2) : ∀ a, seCOff s a + S1x1.size a ≤ S2x2.size a := by
  have := s.isLt; intro a; fin_cases a
  · show 1 + 1 ≤ 2; omega
  · show s.val + 1 ≤ 2; omega
def seC (s : Fin 2) : DmaSems sig S_ := (cc0_scratch12.slice (Rect.unit (s := S2x2) (seCOff s) S1x1.size (seC_inb s))).squeeze S_ squeezes_S1x1_S_
theorem seC_congr {off : Fin 2 → Nat} {s : Fin 2} (e : off = seCOff s) (hh) :
    (cc0_scratch12.slice (Rect.unit (s := S2x2) off S1x1.size hh)).squeeze S_ squeezes_S1x1_S_ = seC s :=
  congrArg (fun A : DmaSems sig S1x1 => A.squeeze S_ squeezes_S1x1_S_) (SemArray.slice_unit_congr _ e _ _)
abbrev gBOff (e : Fin 4) (j : Fin 8) : Fin 3 → Nat := ![e.val, 0, 256 * j.val]
theorem gB_inb (e : Fin 4) (j : Fin 8) : ∀ a, gBOff e j a + S1x2560x256.size a ≤ S4x2560x4096.size a := by
  have := e.isLt; have := j.isLt; intro a; fin_cases a
  · show e.val + 1 ≤ 4; omega
  · show 0 + 2560 ≤ 2560; omega
  · show 256 * j.val + 256 ≤ 4096; omega
def gB (e : Fin 4) (j : Fin 8) : Memref sig .tc .hbm S2560x256 .i8 :=
  (wguM.slice (Rect.unit (s := S4x2560x4096) (gBOff e j) S1x2560x256.size (gB_inb e j)) (fun _ => rfl)).squeeze S2560x256 squeezes_S1x2560x256_S2560x256
theorem gB_congr {off : Fin 3 → Nat} {e : Fin 4} {j : Fin 8} (w : BitVec 32) (hw : off 0 = w.toNat) (he : e = Fin.ofNat 4 w.toNat)
    (h1 : off 1 = gBOff e j 1) (h2 : off 2 = gBOff e j 2) (hh hs) :
    (wguM.slice (Rect.unit (s := S4x2560x4096) off S1x2560x256.size hh) hs).squeeze S2560x256 squeezes_S1x2560x256_S2560x256 = gB e j := by
  have e0 : off = gBOff e j := by
    have h0 : off 0 + 1 ≤ 4 := hh 0
    funext a; fin_cases a
    · subst he; show off 0 = w.toNat % 4; omega
    · exact h1
    · exact h2
  exact congrArg (fun M : Memref sig .tc .hbm S1x2560x256 .i8 => M.squeeze S2560x256 squeezes_S1x2560x256_S2560x256) (Memref.slice_unit_congr _ e0 _ _ _ _)
abbrev uBOff (e : Fin 4) (j : Fin 8) : Fin 3 → Nat := ![e.val, 0, 2048 + 256 * j.val]
theorem uB_inb (e : Fin 4) (j : Fin 8) : ∀ a, uBOff e j a + S1x2560x256.size a ≤ S4x2560x4096.size a := by
  have := e.isLt; have := j.isLt; intro a; fin_cases a
  · show e.val + 1 ≤ 4; omega
  · show 0 + 2560 ≤ 2560; omega
  · show 2048 + 256 * j.val + 256 ≤ 4096; omega
def uB (e : Fin 4) (j : Fin 8) : Memref sig .tc .hbm S2560x256 .i8 :=
  (wguM.slice (Rect.unit (s := S4x2560x4096) (uBOff e j) S1x2560x256.size (uB_inb e j)) (fun _ => rfl)).squeeze S2560x256 squeezes_S1x2560x256_S2560x256
theorem uB_congr {off : Fin 3 → Nat} {e : Fin 4} {j : Fin 8} (w : BitVec 32) (hw : off 0 = w.toNat) (he : e = Fin.ofNat 4 w.toNat)
    (h1 : off 1 = uBOff e j 1) (h2 : off 2 = uBOff e j 2) (hh hs) :
    (wguM.slice (Rect.unit (s := S4x2560x4096) off S1x2560x256.size hh) hs).squeeze S2560x256 squeezes_S1x2560x256_S2560x256 = uB e j := by
  have e0 : off = uBOff e j := by
    have h0 : off 0 + 1 ≤ 4 := hh 0
    funext a; fin_cases a
    · subst he; show off 0 = w.toNat % 4; omega
    · exact h1
    · exact h2
  exact congrArg (fun M : Memref sig .tc .hbm S1x2560x256 .i8 => M.squeeze S2560x256 squeezes_S1x2560x256_S2560x256) (Memref.slice_unit_congr _ e0 _ _ _ _)
abbrev dBOff (e : Fin 4) (j : Fin 8) : Fin 3 → Nat := ![e.val, 128 * j.val, 0]
theorem dB_inb (e : Fin 4) (j : Fin 8) : ∀ a, dBOff e j a + S1x128x5120.size a ≤ S4x1024x5120.size a := by
  have := e.isLt; have := j.isLt; intro a; fin_cases a
  · show e.val + 1 ≤ 4; omega
  · show 128 * j.val + 128 ≤ 1024; omega
  · show 0 + 5120 ≤ 5120; omega
def dB (e : Fin 4) (j : Fin 8) : Memref sig .tc .hbm S128x5120 .i8 :=
  (wdM.slice (Rect.unit (s := S4x1024x5120) (dBOff e j) S1x128x5120.size (dB_inb e j)) (fun _ => rfl)).squeeze S128x5120 squeezes_S1x128x5120_S128x5120
theorem dB_congr {off : Fin 3 → Nat} {e : Fin 4} {j : Fin 8} (w : BitVec 32) (hw : off 0 = w.toNat) (he : e = Fin.ofNat 4 w.toNat)
    (h1 : off 1 = dBOff e j 1) (h2 : off 2 = dBOff e j 2) (hh hs) :
    (wdM.slice (Rect.unit (s := S4x1024x5120) off S1x128x5120.size hh) hs).squeeze S128x5120 squeezes_S1x128x5120_S128x5120 = dB e j := by
  have e0 : off = dBOff e j := by
    have h0 : off 0 + 1 ≤ 4 := hh 0
    funext a; fin_cases a
    · subst he; show off 0 = w.toNat % 4; omega
    · exact h1
    · exact h2
  exact congrArg (fun M : Memref sig .tc .hbm S1x128x5120 .i8 => M.squeeze S128x5120 squeezes_S1x128x5120_S128x5120) (Memref.slice_unit_congr _ e0 _ _ _ _)
abbrev sgBOff (e : Fin 4) : Fin 3 → Nat := ![e.val, 0, 0]
theorem sgB_inb (e : Fin 4) : ∀ a, sgBOff e a + S1x40x4096.size a ≤ S4x40x4096.size a := by
  have := e.isLt; intro a; fin_cases a
  · show e.val + 1 ≤ 4; omega
  · show 0 + 40 ≤ 40; omega
  · show 0 + 4096 ≤ 4096; omega
def sgB (e : Fin 4) : Memref sig .tc .hbm S40x4096 .bf16 :=
  (sguM.slice (Rect.unit (s := S4x40x4096) (sgBOff e) S1x40x4096.size (sgB_inb e)) (fun _ => rfl)).squeeze S40x4096 squeezes_S1x40x4096_S40x4096
theorem sgB_congr {off : Fin 3 → Nat} {e : Fin 4} (w : BitVec 32) (hw : off 0 = w.toNat) (he : e = Fin.ofNat 4 w.toNat)
    (h1 : off 1 = sgBOff e 1) (h2 : off 2 = sgBOff e 2) (hh hs) :
    (sguM.slice (Rect.unit (s := S4x40x4096) off S1x40x4096.size hh) hs).squeeze S40x4096 squeezes_S1x40x4096_S40x4096 = sgB e := by
  have e0 : off = sgBOff e := by
    have h0 : off 0 + 1 ≤ 4 := hh 0
    funext a; fin_cases a
    · subst he; show off 0 = w.toNat % 4; omega
    · exact h1
    · exact h2
  exact congrArg (fun M : Memref sig .tc .hbm S1x40x4096 .bf16 => M.squeeze S40x4096 squeezes_S1x40x4096_S40x4096) (Memref.slice_unit_congr _ e0 _ _ _ _)
abbrev seBOff (e : Fin 4) : Fin 3 → Nat := ![e.val, 0, 0]
theorem seB_inb (e : Fin 4) : ∀ a, seBOff e a + S1x16x5120.size a ≤ S4x16x5120.size a := by
  have := e.isLt; intro a; fin_cases a
  · show e.val + 1 ≤ 4; omega
  · show 0 + 16 ≤ 16; omega
  · show 0 + 5120 ≤ 5120; omega
def seB (e : Fin 4) : Memref sig .tc .hbm S16x5120 .bf16 :=
  (sdM.slice (Rect.unit (s := S4x16x5120) (seBOff e) S1x16x5120.size (seB_inb e)) (fun _ => rfl)).squeeze S16x5120 squeezes_S1x16x5120_S16x5120
theorem seB_congr {off : Fin 3 → Nat} {e : Fin 4} (w : BitVec 32) (hw : off 0 = w.toNat) (he : e = Fin.ofNat 4 w.toNat)
    (h1 : off 1 = seBOff e 1) (h2 : off 2 = seBOff e 2) (hh hs) :
    (sdM.slice (Rect.unit (s := S4x16x5120) off S1x16x5120.size hh) hs).squeeze S16x5120 squeezes_S1x16x5120_S16x5120 = seB e := by
  have e0 : off = seBOff e := by
    have h0 : off 0 + 1 ≤ 4 := hh 0
    funext a; fin_cases a
    · subst he; show off 0 = w.toNat % 4; omega
    · exact h1
    · exact h2
  exact congrArg (fun M : Memref sig .tc .hbm S1x16x5120 .bf16 => M.squeeze S16x5120 squeezes_S1x16x5120_S16x5120) (Memref.slice_unit_congr _ e0 _ _ _ _)

instance {n : ℕ} (s : Fin n) : ClosedOff (slotOff s) := ⟨slotOff s, rfl⟩

/-! ## The step count and the index chains

At most four experts are active (`Fact (v.toNat ≤ 4)`), so a trip of the step loop is below 32 and every chain is
decided by its 32 values; the count itself only bounds the trip. -/

theorem trips_eq (v : BitVec 32) [h : Fact (v.toNat ≤ 4)] : (k0_t2_loop v).trips = 8 * v.toNat := by
  have h4 := h.out
  have e : v = BitVec.ofNat 32 v.toNat := by simp
  rw [e]
  match h : v.toNat, h4 with
  | 0, _ => decide
  | 1, _ => decide
  | 2, _ => decide
  | 3, _ => decide
  | 4, _ => decide
  | n + 5, hn => omega
theorem t_lt {v : BitVec 32} [h : Fact (v.toNat ≤ 4)] (t : Fin (k0_t2_loop v).trips) : t.val < 32 := by
  have h1 := t.isLt; have h2 := trips_eq v; have h3 := h.out; omega
/-- A trip of the longest loop. -/
abbrev t4 (n : Fin 32) : Fin (k0_t2_loop 4#32).trips := ⟨n.val, Nat.lt_of_lt_of_eq n.isLt (by decide)⟩

section Chain
variable (v : BitVec 32) [Fact (v.toNat ≤ 4)] (t : Fin (k0_t2_loop v).trips)

theorem off13_eq : k0_off13 v t = ![t.val / 8 + 1] := by
  have h := t_lt t
  obtain ⟨n, hn⟩ := t
  dsimp only [k0_off13] at h ⊢
  clear hn; revert n; clear * -; decide +kernel
theorem off14_eq : k0_off14 v t = ![0, (t.val / 8 + 1) % 2] := by
  have h := t_lt t
  obtain ⟨n, hn⟩ := t
  dsimp only [k0_off14] at h ⊢
  clear hn; revert n; clear * -; decide +kernel
theorem off15_eq : k0_off15 v t = ![(t.val / 8 + 1) % 2, 0, 0] := by
  have h := t_lt t
  obtain ⟨n, hn⟩ := t
  dsimp only [k0_off15] at h ⊢
  clear hn; revert n; clear * -; decide +kernel
theorem off17_eq : k0_off17 v t = ![1, (t.val / 8 + 1) % 2] := by
  have h := t_lt t
  obtain ⟨n, hn⟩ := t
  dsimp only [k0_off17] at h ⊢
  clear hn; revert n; clear * -; decide +kernel
theorem off18_eq : k0_off18 v t = ![(t.val / 8 + 1) % 2, 0, 0] := by
  have h := t_lt t
  obtain ⟨n, hn⟩ := t
  dsimp only [k0_off18] at h ⊢
  clear hn; revert n; clear * -; decide +kernel
theorem off20_eq : k0_off20 v t = ![t.val / 8] := by
  have h := t_lt t
  obtain ⟨n, hn⟩ := t
  dsimp only [k0_off20] at h ⊢
  clear hn; revert n; clear * -; decide +kernel
theorem off21_eq : k0_off21 v t = ![0, t.val / 8 % 2] := by
  have h := t_lt t
  obtain ⟨n, hn⟩ := t
  dsimp only [k0_off21] at h ⊢
  clear hn; revert n; clear * -; decide +kernel
theorem off22_eq : k0_off22 v t = ![t.val / 8 % 2, 0, 0] := by
  have h := t_lt t
  obtain ⟨n, hn⟩ := t
  dsimp only [k0_off22] at h ⊢
  clear hn; revert n; clear * -; decide +kernel
theorem off24_eq : k0_off24 v t = ![1, t.val / 8 % 2] := by
  have h := t_lt t
  obtain ⟨n, hn⟩ := t
  dsimp only [k0_off24] at h ⊢
  clear hn; revert n; clear * -; decide +kernel
theorem off25_eq : k0_off25 v t = ![t.val / 8 % 2, 0, 0] := by
  have h := t_lt t
  obtain ⟨n, hn⟩ := t
  dsimp only [k0_off25] at h ⊢
  clear hn; revert n; clear * -; decide +kernel
theorem off27_eq : k0_off27 v t = ![t.val / 8 % 2, 0, 0] := by
  have h := t_lt t
  obtain ⟨n, hn⟩ := t
  dsimp only [k0_off27] at h ⊢
  clear hn; revert n; clear * -; decide +kernel
instance : ClosedOff (k0_off27 v t) := ⟨![(Ring.sl 2 (t.val / 8)).val, 0, 0], (off27_eq v t).trans (by simp only [Ring.sl_val])⟩
theorem off28_eq : k0_off28 v t = ![t.val / 8 % 2, 0, 0] := by
  have h := t_lt t
  obtain ⟨n, hn⟩ := t
  dsimp only [k0_off28] at h ⊢
  clear hn; revert n; clear * -; decide +kernel
instance : ClosedOff (k0_off28 v t) := ⟨![(Ring.sl 2 (t.val / 8)).val, 0, 0], (off28_eq v t).trans (by simp only [Ring.sl_val])⟩
theorem off29_eq : k0_off29 v t = ![t.val / 8] := by
  have h := t_lt t
  obtain ⟨n, hn⟩ := t
  dsimp only [k0_off29] at h ⊢
  clear hn; revert n; clear * -; decide +kernel
theorem off30_eq : k0_off30 v t = ![0, t.val % 4] := by
  have h := t_lt t
  obtain ⟨n, hn⟩ := t
  dsimp only [k0_off30] at h ⊢
  clear hn; revert n; clear * -; decide +kernel
theorem off31_eq : k0_off31 v t = ![t.val % 4, 0, 0] := by
  have h := t_lt t
  obtain ⟨n, hn⟩ := t
  dsimp only [k0_off31] at h ⊢
  clear hn; revert n; clear * -; decide +kernel
theorem off32_eq (w : BitVec 32) : k0_off32 v t w 0 = w.toNat ∧ k0_off32 v t w 1 = 0 ∧ k0_off32 v t w 2 = 256 * (t.val % 8) := by
  have h : k0_off32 v t 0#32 = ![0, 0, 256 * (t.val % 8)] := by
    have h := t_lt t
    obtain ⟨n, hn⟩ := t
    dsimp only [k0_off32] at h ⊢
    clear hn; revert n; clear * -; decide +kernel
  exact ⟨rfl, congrFun h 1, congrFun h 2⟩
theorem off33_eq : k0_off33 v t = ![1, t.val % 4] := by
  have h := t_lt t
  obtain ⟨n, hn⟩ := t
  dsimp only [k0_off33] at h ⊢
  clear hn; revert n; clear * -; decide +kernel
theorem off34_eq : k0_off34 v t = ![t.val % 4, 0, 0] := by
  have h := t_lt t
  obtain ⟨n, hn⟩ := t
  dsimp only [k0_off34] at h ⊢
  clear hn; revert n; clear * -; decide +kernel
theorem off35_eq (w : BitVec 32) : k0_off35 v t w 0 = w.toNat ∧ k0_off35 v t w 1 = 0 ∧ k0_off35 v t w 2 = 2048 + 256 * (t.val % 8) := by
  have h : k0_off35 v t 0#32 = ![0, 0, 2048 + 256 * (t.val % 8)] := by
    have h := t_lt t
    obtain ⟨n, hn⟩ := t
    dsimp only [k0_off35] at h ⊢
    clear hn; revert n; clear * -; decide +kernel
  exact ⟨rfl, congrFun h 1, congrFun h 2⟩
theorem off36_eq : k0_off36 v t = ![2, t.val % 4] := by
  have h := t_lt t
  obtain ⟨n, hn⟩ := t
  dsimp only [k0_off36] at h ⊢
  clear hn; revert n; clear * -; decide +kernel
theorem off37_eq : k0_off37 v t = ![t.val % 4, 0, 0] := by
  have h := t_lt t
  obtain ⟨n, hn⟩ := t
  dsimp only [k0_off37] at h ⊢
  clear hn; revert n; clear * -; decide +kernel
theorem off38_eq (w : BitVec 32) : k0_off38 v t w 0 = w.toNat ∧ k0_off38 v t w 1 = 128 * (t.val % 8) ∧ k0_off38 v t w 2 = 0 := by
  have h : k0_off38 v t 0#32 = ![0, 128 * (t.val % 8), 0] := by
    have h := t_lt t
    obtain ⟨n, hn⟩ := t
    dsimp only [k0_off38] at h ⊢
    clear hn; revert n; clear * -; decide +kernel
  exact ⟨rfl, congrFun h 1, congrFun h 2⟩
theorem off39_eq : k0_off39 v t = ![(t.val + 3) / 8] := by
  have h := t_lt t
  obtain ⟨n, hn⟩ := t
  dsimp only [k0_off39] at h ⊢
  clear hn; revert n; clear * -; decide +kernel
theorem off40_eq : k0_off40 v t = ![0, (t.val + 3) % 4] := by
  have h := t_lt t
  obtain ⟨n, hn⟩ := t
  dsimp only [k0_off40] at h ⊢
  clear hn; revert n; clear * -; decide +kernel
theorem off41_eq : k0_off41 v t = ![(t.val + 3) % 4, 0, 0] := by
  have h := t_lt t
  obtain ⟨n, hn⟩ := t
  dsimp only [k0_off41] at h ⊢
  clear hn; revert n; clear * -; decide +kernel
theorem off42_eq (w : BitVec 32) : k0_off42 v t w 0 = w.toNat ∧ k0_off42 v t w 1 = 0 ∧ k0_off42 v t w 2 = 256 * ((t.val + 3) % 8) := by
  have h : k0_off42 v t 0#32 = ![0, 0, 256 * ((t.val + 3) % 8)] := by
    have h := t_lt t
    obtain ⟨n, hn⟩ := t
    dsimp only [k0_off42] at h ⊢
    clear hn; revert n; clear * -; decide +kernel
  exact ⟨rfl, congrFun h 1, congrFun h 2⟩
theorem off43_eq : k0_off43 v t = ![1, (t.val + 3) % 4] := by
  have h := t_lt t
  obtain ⟨n, hn⟩ := t
  dsimp only [k0_off43] at h ⊢
  clear hn; revert n; clear * -; decide +kernel
theorem off44_eq : k0_off44 v t = ![(t.val + 3) % 4, 0, 0] := by
  have h := t_lt t
  obtain ⟨n, hn⟩ := t
  dsimp only [k0_off44] at h ⊢
  clear hn; revert n; clear * -; decide +kernel
theorem off45_eq (w : BitVec 32) : k0_off45 v t w 0 = w.toNat ∧ k0_off45 v t w 1 = 0 ∧ k0_off45 v t w 2 = 2048 + 256 * ((t.val + 3) % 8) := by
  have h : k0_off45 v t 0#32 = ![0, 0, 2048 + 256 * ((t.val + 3) % 8)] := by
    have h := t_lt t
    obtain ⟨n, hn⟩ := t
    dsimp only [k0_off45] at h ⊢
    clear hn; revert n; clear * -; decide +kernel
  exact ⟨rfl, congrFun h 1, congrFun h 2⟩
theorem off46_eq : k0_off46 v t = ![2, (t.val + 3) % 4] := by
  have h := t_lt t
  obtain ⟨n, hn⟩ := t
  dsimp only [k0_off46] at h ⊢
  clear hn; revert n; clear * -; decide +kernel
theorem off47_eq : k0_off47 v t = ![(t.val + 3) % 4, 0, 0] := by
  have h := t_lt t
  obtain ⟨n, hn⟩ := t
  dsimp only [k0_off47] at h ⊢
  clear hn; revert n; clear * -; decide +kernel
theorem off48_eq (w : BitVec 32) : k0_off48 v t w 0 = w.toNat ∧ k0_off48 v t w 1 = 128 * ((t.val + 3) % 8) ∧ k0_off48 v t w 2 = 0 := by
  have h : k0_off48 v t 0#32 = ![0, 128 * ((t.val + 3) % 8), 0] := by
    have h := t_lt t
    obtain ⟨n, hn⟩ := t
    dsimp only [k0_off48] at h ⊢
    clear hn; revert n; clear * -; decide +kernel
  exact ⟨rfl, congrFun h 1, congrFun h 2⟩
theorem off49_eq : k0_off49 v t = ![t.val % 4, 0, 0] := by
  have h := t_lt t
  obtain ⟨n, hn⟩ := t
  dsimp only [k0_off49] at h ⊢
  clear hn; revert n; clear * -; decide +kernel
instance : ClosedOff (k0_off49 v t) := ⟨![(Ring.sl 4 t.val).val, 0, 0], (off49_eq v t).trans (by simp only [Ring.sl_val])⟩
theorem off50_eq : k0_off50 v t = ![0, 256 * (t.val % 8)] := by
  have h := t_lt t
  obtain ⟨n, hn⟩ := t
  dsimp only [k0_off50] at h ⊢
  clear hn; revert n; clear * -; decide +kernel
instance : ClosedOff (k0_off50 v t) := ⟨_, off50_eq v t⟩
theorem off51_eq : k0_off51 v t = ![0, 2048 + 256 * (t.val % 8)] := by
  have h := t_lt t
  obtain ⟨n, hn⟩ := t
  dsimp only [k0_off51] at h ⊢
  clear hn; revert n; clear * -; decide +kernel
instance : ClosedOff (k0_off51 v t) := ⟨_, off51_eq v t⟩
theorem off52_eq : k0_off52 v t = ![t.val % 4, 128, 0] := by
  have h := t_lt t
  obtain ⟨n, hn⟩ := t
  dsimp only [k0_off52] at h ⊢
  clear hn; revert n; clear * -; decide +kernel
instance : ClosedOff (k0_off52 v t) := ⟨![(Ring.sl 4 t.val).val, 128, 0], (off52_eq v t).trans (by simp only [Ring.sl_val])⟩
theorem off53_eq : k0_off53 v t = ![2, 256 * (t.val % 8)] := by
  have h := t_lt t
  obtain ⟨n, hn⟩ := t
  dsimp only [k0_off53] at h ⊢
  clear hn; revert n; clear * -; decide +kernel
instance : ClosedOff (k0_off53 v t) := ⟨_, off53_eq v t⟩
theorem off54_eq : k0_off54 v t = ![2, 2048 + 256 * (t.val % 8)] := by
  have h := t_lt t
  obtain ⟨n, hn⟩ := t
  dsimp only [k0_off54] at h ⊢
  clear hn; revert n; clear * -; decide +kernel
instance : ClosedOff (k0_off54 v t) := ⟨_, off54_eq v t⟩
theorem off55_eq : k0_off55 v t = ![t.val % 4, 256, 0] := by
  have h := t_lt t
  obtain ⟨n, hn⟩ := t
  dsimp only [k0_off55] at h ⊢
  clear hn; revert n; clear * -; decide +kernel
instance : ClosedOff (k0_off55 v t) := ⟨![(Ring.sl 4 t.val).val, 256, 0], (off55_eq v t).trans (by simp only [Ring.sl_val])⟩
theorem off56_eq : k0_off56 v t = ![4, 256 * (t.val % 8)] := by
  have h := t_lt t
  obtain ⟨n, hn⟩ := t
  dsimp only [k0_off56] at h ⊢
  clear hn; revert n; clear * -; decide +kernel
instance : ClosedOff (k0_off56 v t) := ⟨_, off56_eq v t⟩
theorem off57_eq : k0_off57 v t = ![4, 2048 + 256 * (t.val % 8)] := by
  have h := t_lt t
  obtain ⟨n, hn⟩ := t
  dsimp only [k0_off57] at h ⊢
  clear hn; revert n; clear * -; decide +kernel
instance : ClosedOff (k0_off57 v t) := ⟨_, off57_eq v t⟩
theorem off58_eq : k0_off58 v t = ![t.val % 4, 384, 0] := by
  have h := t_lt t
  obtain ⟨n, hn⟩ := t
  dsimp only [k0_off58] at h ⊢
  clear hn; revert n; clear * -; decide +kernel
instance : ClosedOff (k0_off58 v t) := ⟨![(Ring.sl 4 t.val).val, 384, 0], (off58_eq v t).trans (by simp only [Ring.sl_val])⟩
theorem off59_eq : k0_off59 v t = ![6, 256 * (t.val % 8)] := by
  have h := t_lt t
  obtain ⟨n, hn⟩ := t
  dsimp only [k0_off59] at h ⊢
  clear hn; revert n; clear * -; decide +kernel
instance : ClosedOff (k0_off59 v t) := ⟨_, off59_eq v t⟩
theorem off60_eq : k0_off60 v t = ![6, 2048 + 256 * (t.val % 8)] := by
  have h := t_lt t
  obtain ⟨n, hn⟩ := t
  dsimp only [k0_off60] at h ⊢
  clear hn; revert n; clear * -; decide +kernel
instance : ClosedOff (k0_off60 v t) := ⟨_, off60_eq v t⟩
theorem off61_eq : k0_off61 v t = ![t.val % 4, 512, 0] := by
  have h := t_lt t
  obtain ⟨n, hn⟩ := t
  dsimp only [k0_off61] at h ⊢
  clear hn; revert n; clear * -; decide +kernel
instance : ClosedOff (k0_off61 v t) := ⟨![(Ring.sl 4 t.val).val, 512, 0], (off61_eq v t).trans (by simp only [Ring.sl_val])⟩
theorem off62_eq : k0_off62 v t = ![8, 256 * (t.val % 8)] := by
  have h := t_lt t
  obtain ⟨n, hn⟩ := t
  dsimp only [k0_off62] at h ⊢
  clear hn; revert n; clear * -; decide +kernel
instance : ClosedOff (k0_off62 v t) := ⟨_, off62_eq v t⟩
theorem off63_eq : k0_off63 v t = ![8, 2048 + 256 * (t.val % 8)] := by
  have h := t_lt t
  obtain ⟨n, hn⟩ := t
  dsimp only [k0_off63] at h ⊢
  clear hn; revert n; clear * -; decide +kernel
instance : ClosedOff (k0_off63 v t) := ⟨_, off63_eq v t⟩
theorem off64_eq : k0_off64 v t = ![t.val % 4, 640, 0] := by
  have h := t_lt t
  obtain ⟨n, hn⟩ := t
  dsimp only [k0_off64] at h ⊢
  clear hn; revert n; clear * -; decide +kernel
instance : ClosedOff (k0_off64 v t) := ⟨![(Ring.sl 4 t.val).val, 640, 0], (off64_eq v t).trans (by simp only [Ring.sl_val])⟩
theorem off65_eq : k0_off65 v t = ![10, 256 * (t.val % 8)] := by
  have h := t_lt t
  obtain ⟨n, hn⟩ := t
  dsimp only [k0_off65] at h ⊢
  clear hn; revert n; clear * -; decide +kernel
instance : ClosedOff (k0_off65 v t) := ⟨_, off65_eq v t⟩
theorem off66_eq : k0_off66 v t = ![10, 2048 + 256 * (t.val % 8)] := by
  have h := t_lt t
  obtain ⟨n, hn⟩ := t
  dsimp only [k0_off66] at h ⊢
  clear hn; revert n; clear * -; decide +kernel
instance : ClosedOff (k0_off66 v t) := ⟨_, off66_eq v t⟩
theorem off67_eq : k0_off67 v t = ![t.val % 4, 768, 0] := by
  have h := t_lt t
  obtain ⟨n, hn⟩ := t
  dsimp only [k0_off67] at h ⊢
  clear hn; revert n; clear * -; decide +kernel
instance : ClosedOff (k0_off67 v t) := ⟨![(Ring.sl 4 t.val).val, 768, 0], (off67_eq v t).trans (by simp only [Ring.sl_val])⟩
theorem off68_eq : k0_off68 v t = ![12, 256 * (t.val % 8)] := by
  have h := t_lt t
  obtain ⟨n, hn⟩ := t
  dsimp only [k0_off68] at h ⊢
  clear hn; revert n; clear * -; decide +kernel
instance : ClosedOff (k0_off68 v t) := ⟨_, off68_eq v t⟩
theorem off69_eq : k0_off69 v t = ![12, 2048 + 256 * (t.val % 8)] := by
  have h := t_lt t
  obtain ⟨n, hn⟩ := t
  dsimp only [k0_off69] at h ⊢
  clear hn; revert n; clear * -; decide +kernel
instance : ClosedOff (k0_off69 v t) := ⟨_, off69_eq v t⟩
theorem off70_eq : k0_off70 v t = ![t.val % 4, 896, 0] := by
  have h := t_lt t
  obtain ⟨n, hn⟩ := t
  dsimp only [k0_off70] at h ⊢
  clear hn; revert n; clear * -; decide +kernel
instance : ClosedOff (k0_off70 v t) := ⟨![(Ring.sl 4 t.val).val, 896, 0], (off70_eq v t).trans (by simp only [Ring.sl_val])⟩
theorem off71_eq : k0_off71 v t = ![14, 256 * (t.val % 8)] := by
  have h := t_lt t
  obtain ⟨n, hn⟩ := t
  dsimp only [k0_off71] at h ⊢
  clear hn; revert n; clear * -; decide +kernel
instance : ClosedOff (k0_off71 v t) := ⟨_, off71_eq v t⟩
theorem off72_eq : k0_off72 v t = ![14, 2048 + 256 * (t.val % 8)] := by
  have h := t_lt t
  obtain ⟨n, hn⟩ := t
  dsimp only [k0_off72] at h ⊢
  clear hn; revert n; clear * -; decide +kernel
instance : ClosedOff (k0_off72 v t) := ⟨_, off72_eq v t⟩
theorem off73_eq : k0_off73 v t = ![t.val % 4, 1024, 0] := by
  have h := t_lt t
  obtain ⟨n, hn⟩ := t
  dsimp only [k0_off73] at h ⊢
  clear hn; revert n; clear * -; decide +kernel
instance : ClosedOff (k0_off73 v t) := ⟨![(Ring.sl 4 t.val).val, 1024, 0], (off73_eq v t).trans (by simp only [Ring.sl_val])⟩
theorem off74_eq : k0_off74 v t = ![16, 256 * (t.val % 8)] := by
  have h := t_lt t
  obtain ⟨n, hn⟩ := t
  dsimp only [k0_off74] at h ⊢
  clear hn; revert n; clear * -; decide +kernel
instance : ClosedOff (k0_off74 v t) := ⟨_, off74_eq v t⟩
theorem off75_eq : k0_off75 v t = ![16, 2048 + 256 * (t.val % 8)] := by
  have h := t_lt t
  obtain ⟨n, hn⟩ := t
  dsimp only [k0_off75] at h ⊢
  clear hn; revert n; clear * -; decide +kernel
instance : ClosedOff (k0_off75 v t) := ⟨_, off75_eq v t⟩
theorem off76_eq : k0_off76 v t = ![t.val % 4, 1152, 0] := by
  have h := t_lt t
  obtain ⟨n, hn⟩ := t
  dsimp only [k0_off76] at h ⊢
  clear hn; revert n; clear * -; decide +kernel
instance : ClosedOff (k0_off76 v t) := ⟨![(Ring.sl 4 t.val).val, 1152, 0], (off76_eq v t).trans (by simp only [Ring.sl_val])⟩
theorem off77_eq : k0_off77 v t = ![18, 256 * (t.val % 8)] := by
  have h := t_lt t
  obtain ⟨n, hn⟩ := t
  dsimp only [k0_off77] at h ⊢
  clear hn; revert n; clear * -; decide +kernel
instance : ClosedOff (k0_off77 v t) := ⟨_, off77_eq v t⟩
theorem off78_eq : k0_off78 v t = ![18, 2048 + 256 * (t.val % 8)] := by
  have h := t_lt t
  obtain ⟨n, hn⟩ := t
  dsimp only [k0_off78] at h ⊢
  clear hn; revert n; clear * -; decide +kernel
instance : ClosedOff (k0_off78 v t) := ⟨_, off78_eq v t⟩
theorem off79_eq : k0_off79 v t = ![t.val % 4, 1280, 0] := by
  have h := t_lt t
  obtain ⟨n, hn⟩ := t
  dsimp only [k0_off79] at h ⊢
  clear hn; revert n; clear * -; decide +kernel
instance : ClosedOff (k0_off79 v t) := ⟨![(Ring.sl 4 t.val).val, 1280, 0], (off79_eq v t).trans (by simp only [Ring.sl_val])⟩
theorem off80_eq : k0_off80 v t = ![20, 256 * (t.val % 8)] := by
  have h := t_lt t
  obtain ⟨n, hn⟩ := t
  dsimp only [k0_off80] at h ⊢
  clear hn; revert n; clear * -; decide +kernel
instance : ClosedOff (k0_off80 v t) := ⟨_, off80_eq v t⟩
theorem off81_eq : k0_off81 v t = ![20, 2048 + 256 * (t.val % 8)] := by
  have h := t_lt t
  obtain ⟨n, hn⟩ := t
  dsimp only [k0_off81] at h ⊢
  clear hn; revert n; clear * -; decide +kernel
instance : ClosedOff (k0_off81 v t) := ⟨_, off81_eq v t⟩
theorem off82_eq : k0_off82 v t = ![t.val % 4, 1408, 0] := by
  have h := t_lt t
  obtain ⟨n, hn⟩ := t
  dsimp only [k0_off82] at h ⊢
  clear hn; revert n; clear * -; decide +kernel
instance : ClosedOff (k0_off82 v t) := ⟨![(Ring.sl 4 t.val).val, 1408, 0], (off82_eq v t).trans (by simp only [Ring.sl_val])⟩
theorem off83_eq : k0_off83 v t = ![22, 256 * (t.val % 8)] := by
  have h := t_lt t
  obtain ⟨n, hn⟩ := t
  dsimp only [k0_off83] at h ⊢
  clear hn; revert n; clear * -; decide +kernel
instance : ClosedOff (k0_off83 v t) := ⟨_, off83_eq v t⟩
theorem off84_eq : k0_off84 v t = ![22, 2048 + 256 * (t.val % 8)] := by
  have h := t_lt t
  obtain ⟨n, hn⟩ := t
  dsimp only [k0_off84] at h ⊢
  clear hn; revert n; clear * -; decide +kernel
instance : ClosedOff (k0_off84 v t) := ⟨_, off84_eq v t⟩
theorem off85_eq : k0_off85 v t = ![t.val % 4, 1536, 0] := by
  have h := t_lt t
  obtain ⟨n, hn⟩ := t
  dsimp only [k0_off85] at h ⊢
  clear hn; revert n; clear * -; decide +kernel
instance : ClosedOff (k0_off85 v t) := ⟨![(Ring.sl 4 t.val).val, 1536, 0], (off85_eq v t).trans (by simp only [Ring.sl_val])⟩
theorem off86_eq : k0_off86 v t = ![24, 256 * (t.val % 8)] := by
  have h := t_lt t
  obtain ⟨n, hn⟩ := t
  dsimp only [k0_off86] at h ⊢
  clear hn; revert n; clear * -; decide +kernel
instance : ClosedOff (k0_off86 v t) := ⟨_, off86_eq v t⟩
theorem off87_eq : k0_off87 v t = ![24, 2048 + 256 * (t.val % 8)] := by
  have h := t_lt t
  obtain ⟨n, hn⟩ := t
  dsimp only [k0_off87] at h ⊢
  clear hn; revert n; clear * -; decide +kernel
instance : ClosedOff (k0_off87 v t) := ⟨_, off87_eq v t⟩
theorem off88_eq : k0_off88 v t = ![t.val % 4, 1664, 0] := by
  have h := t_lt t
  obtain ⟨n, hn⟩ := t
  dsimp only [k0_off88] at h ⊢
  clear hn; revert n; clear * -; decide +kernel
instance : ClosedOff (k0_off88 v t) := ⟨![(Ring.sl 4 t.val).val, 1664, 0], (off88_eq v t).trans (by simp only [Ring.sl_val])⟩
theorem off89_eq : k0_off89 v t = ![26, 256 * (t.val % 8)] := by
  have h := t_lt t
  obtain ⟨n, hn⟩ := t
  dsimp only [k0_off89] at h ⊢
  clear hn; revert n; clear * -; decide +kernel
instance : ClosedOff (k0_off89 v t) := ⟨_, off89_eq v t⟩
theorem off90_eq : k0_off90 v t = ![26, 2048 + 256 * (t.val % 8)] := by
  have h := t_lt t
  obtain ⟨n, hn⟩ := t
  dsimp only [k0_off90] at h ⊢
  clear hn; revert n; clear * -; decide +kernel
instance : ClosedOff (k0_off90 v t) := ⟨_, off90_eq v t⟩
theorem off91_eq : k0_off91 v t = ![t.val % 4, 1792, 0] := by
  have h := t_lt t
  obtain ⟨n, hn⟩ := t
  dsimp only [k0_off91] at h ⊢
  clear hn; revert n; clear * -; decide +kernel
instance : ClosedOff (k0_off91 v t) := ⟨![(Ring.sl 4 t.val).val, 1792, 0], (off91_eq v t).trans (by simp only [Ring.sl_val])⟩
theorem off92_eq : k0_off92 v t = ![28, 256 * (t.val % 8)] := by
  have h := t_lt t
  obtain ⟨n, hn⟩ := t
  dsimp only [k0_off92] at h ⊢
  clear hn; revert n; clear * -; decide +kernel
instance : ClosedOff (k0_off92 v t) := ⟨_, off92_eq v t⟩
theorem off93_eq : k0_off93 v t = ![28, 2048 + 256 * (t.val % 8)] := by
  have h := t_lt t
  obtain ⟨n, hn⟩ := t
  dsimp only [k0_off93] at h ⊢
  clear hn; revert n; clear * -; decide +kernel
instance : ClosedOff (k0_off93 v t) := ⟨_, off93_eq v t⟩
theorem off94_eq : k0_off94 v t = ![t.val % 4, 1920, 0] := by
  have h := t_lt t
  obtain ⟨n, hn⟩ := t
  dsimp only [k0_off94] at h ⊢
  clear hn; revert n; clear * -; decide +kernel
instance : ClosedOff (k0_off94 v t) := ⟨![(Ring.sl 4 t.val).val, 1920, 0], (off94_eq v t).trans (by simp only [Ring.sl_val])⟩
theorem off95_eq : k0_off95 v t = ![30, 256 * (t.val % 8)] := by
  have h := t_lt t
  obtain ⟨n, hn⟩ := t
  dsimp only [k0_off95] at h ⊢
  clear hn; revert n; clear * -; decide +kernel
instance : ClosedOff (k0_off95 v t) := ⟨_, off95_eq v t⟩
theorem off96_eq : k0_off96 v t = ![30, 2048 + 256 * (t.val % 8)] := by
  have h := t_lt t
  obtain ⟨n, hn⟩ := t
  dsimp only [k0_off96] at h ⊢
  clear hn; revert n; clear * -; decide +kernel
instance : ClosedOff (k0_off96 v t) := ⟨_, off96_eq v t⟩
theorem off97_eq : k0_off97 v t = ![t.val % 4, 2048, 0] := by
  have h := t_lt t
  obtain ⟨n, hn⟩ := t
  dsimp only [k0_off97] at h ⊢
  clear hn; revert n; clear * -; decide +kernel
instance : ClosedOff (k0_off97 v t) := ⟨![(Ring.sl 4 t.val).val, 2048, 0], (off97_eq v t).trans (by simp only [Ring.sl_val])⟩
theorem off98_eq : k0_off98 v t = ![32, 256 * (t.val % 8)] := by
  have h := t_lt t
  obtain ⟨n, hn⟩ := t
  dsimp only [k0_off98] at h ⊢
  clear hn; revert n; clear * -; decide +kernel
instance : ClosedOff (k0_off98 v t) := ⟨_, off98_eq v t⟩
theorem off99_eq : k0_off99 v t = ![32, 2048 + 256 * (t.val % 8)] := by
  have h := t_lt t
  obtain ⟨n, hn⟩ := t
  dsimp only [k0_off99] at h ⊢
  clear hn; revert n; clear * -; decide +kernel
instance : ClosedOff (k0_off99 v t) := ⟨_, off99_eq v t⟩
theorem off100_eq : k0_off100 v t = ![t.val % 4, 2176, 0] := by
  have h := t_lt t
  obtain ⟨n, hn⟩ := t
  dsimp only [k0_off100] at h ⊢
  clear hn; revert n; clear * -; decide +kernel
instance : ClosedOff (k0_off100 v t) := ⟨![(Ring.sl 4 t.val).val, 2176, 0], (off100_eq v t).trans (by simp only [Ring.sl_val])⟩
theorem off101_eq : k0_off101 v t = ![34, 256 * (t.val % 8)] := by
  have h := t_lt t
  obtain ⟨n, hn⟩ := t
  dsimp only [k0_off101] at h ⊢
  clear hn; revert n; clear * -; decide +kernel
instance : ClosedOff (k0_off101 v t) := ⟨_, off101_eq v t⟩
theorem off102_eq : k0_off102 v t = ![34, 2048 + 256 * (t.val % 8)] := by
  have h := t_lt t
  obtain ⟨n, hn⟩ := t
  dsimp only [k0_off102] at h ⊢
  clear hn; revert n; clear * -; decide +kernel
instance : ClosedOff (k0_off102 v t) := ⟨_, off102_eq v t⟩
theorem off103_eq : k0_off103 v t = ![t.val % 4, 2304, 0] := by
  have h := t_lt t
  obtain ⟨n, hn⟩ := t
  dsimp only [k0_off103] at h ⊢
  clear hn; revert n; clear * -; decide +kernel
instance : ClosedOff (k0_off103 v t) := ⟨![(Ring.sl 4 t.val).val, 2304, 0], (off103_eq v t).trans (by simp only [Ring.sl_val])⟩
theorem off104_eq : k0_off104 v t = ![36, 256 * (t.val % 8)] := by
  have h := t_lt t
  obtain ⟨n, hn⟩ := t
  dsimp only [k0_off104] at h ⊢
  clear hn; revert n; clear * -; decide +kernel
instance : ClosedOff (k0_off104 v t) := ⟨_, off104_eq v t⟩
theorem off105_eq : k0_off105 v t = ![36, 2048 + 256 * (t.val % 8)] := by
  have h := t_lt t
  obtain ⟨n, hn⟩ := t
  dsimp only [k0_off105] at h ⊢
  clear hn; revert n; clear * -; decide +kernel
instance : ClosedOff (k0_off105 v t) := ⟨_, off105_eq v t⟩
theorem off106_eq : k0_off106 v t = ![t.val % 4, 2432, 0] := by
  have h := t_lt t
  obtain ⟨n, hn⟩ := t
  dsimp only [k0_off106] at h ⊢
  clear hn; revert n; clear * -; decide +kernel
instance : ClosedOff (k0_off106 v t) := ⟨![(Ring.sl 4 t.val).val, 2432, 0], (off106_eq v t).trans (by simp only [Ring.sl_val])⟩
theorem off107_eq : k0_off107 v t = ![38, 256 * (t.val % 8)] := by
  have h := t_lt t
  obtain ⟨n, hn⟩ := t
  dsimp only [k0_off107] at h ⊢
  clear hn; revert n; clear * -; decide +kernel
instance : ClosedOff (k0_off107 v t) := ⟨_, off107_eq v t⟩
theorem off108_eq : k0_off108 v t = ![38, 2048 + 256 * (t.val % 8)] := by
  have h := t_lt t
  obtain ⟨n, hn⟩ := t
  dsimp only [k0_off108] at h ⊢
  clear hn; revert n; clear * -; decide +kernel
instance : ClosedOff (k0_off108 v t) := ⟨_, off108_eq v t⟩
theorem off109_eq : k0_off109 v t = ![2 * (t.val % 8), 0] := by
  have h := t_lt t
  obtain ⟨n, hn⟩ := t
  dsimp only [k0_off109] at h ⊢
  clear hn; revert n; clear * -; decide +kernel
instance : ClosedOff (k0_off109 v t) := ⟨_, off109_eq v t⟩
theorem off110_eq : k0_off110 v t = ![1 + 2 * (t.val % 8), 0] := by
  have h := t_lt t
  obtain ⟨n, hn⟩ := t
  dsimp only [k0_off110] at h ⊢
  clear hn; revert n; clear * -; decide +kernel
instance : ClosedOff (k0_off110 v t) := ⟨_, off110_eq v t⟩
theorem off111_eq : k0_off111 v t = ![t.val % 4, 0, 0] := by
  have h := t_lt t
  obtain ⟨n, hn⟩ := t
  dsimp only [k0_off111] at h ⊢
  clear hn; revert n; clear * -; decide +kernel
instance : ClosedOff (k0_off111 v t) := ⟨![(Ring.sl 4 t.val).val, 0, 0], (off111_eq v t).trans (by simp only [Ring.sl_val])⟩
theorem off112_eq : k0_off112 v t = ![2 * (t.val % 8), 256] := by
  have h := t_lt t
  obtain ⟨n, hn⟩ := t
  dsimp only [k0_off112] at h ⊢
  clear hn; revert n; clear * -; decide +kernel
instance : ClosedOff (k0_off112 v t) := ⟨_, off112_eq v t⟩
theorem off113_eq : k0_off113 v t = ![1 + 2 * (t.val % 8), 256] := by
  have h := t_lt t
  obtain ⟨n, hn⟩ := t
  dsimp only [k0_off113] at h ⊢
  clear hn; revert n; clear * -; decide +kernel
instance : ClosedOff (k0_off113 v t) := ⟨_, off113_eq v t⟩
theorem off114_eq : k0_off114 v t = ![t.val % 4, 0, 256] := by
  have h := t_lt t
  obtain ⟨n, hn⟩ := t
  dsimp only [k0_off114] at h ⊢
  clear hn; revert n; clear * -; decide +kernel
instance : ClosedOff (k0_off114 v t) := ⟨![(Ring.sl 4 t.val).val, 0, 256], (off114_eq v t).trans (by simp only [Ring.sl_val])⟩
theorem off115_eq : k0_off115 v t = ![2 * (t.val % 8), 512] := by
  have h := t_lt t
  obtain ⟨n, hn⟩ := t
  dsimp only [k0_off115] at h ⊢
  clear hn; revert n; clear * -; decide +kernel
instance : ClosedOff (k0_off115 v t) := ⟨_, off115_eq v t⟩
theorem off116_eq : k0_off116 v t = ![1 + 2 * (t.val % 8), 512] := by
  have h := t_lt t
  obtain ⟨n, hn⟩ := t
  dsimp only [k0_off116] at h ⊢
  clear hn; revert n; clear * -; decide +kernel
instance : ClosedOff (k0_off116 v t) := ⟨_, off116_eq v t⟩
theorem off117_eq : k0_off117 v t = ![t.val % 4, 0, 512] := by
  have h := t_lt t
  obtain ⟨n, hn⟩ := t
  dsimp only [k0_off117] at h ⊢
  clear hn; revert n; clear * -; decide +kernel
instance : ClosedOff (k0_off117 v t) := ⟨![(Ring.sl 4 t.val).val, 0, 512], (off117_eq v t).trans (by simp only [Ring.sl_val])⟩
theorem off118_eq : k0_off118 v t = ![2 * (t.val % 8), 768] := by
  have h := t_lt t
  obtain ⟨n, hn⟩ := t
  dsimp only [k0_off118] at h ⊢
  clear hn; revert n; clear * -; decide +kernel
instance : ClosedOff (k0_off118 v t) := ⟨_, off118_eq v t⟩
theorem off119_eq : k0_off119 v t = ![1 + 2 * (t.val % 8), 768] := by
  have h := t_lt t
  obtain ⟨n, hn⟩ := t
  dsimp only [k0_off119] at h ⊢
  clear hn; revert n; clear * -; decide +kernel
instance : ClosedOff (k0_off119 v t) := ⟨_, off119_eq v t⟩
theorem off120_eq : k0_off120 v t = ![t.val % 4, 0, 768] := by
  have h := t_lt t
  obtain ⟨n, hn⟩ := t
  dsimp only [k0_off120] at h ⊢
  clear hn; revert n; clear * -; decide +kernel
instance : ClosedOff (k0_off120 v t) := ⟨![(Ring.sl 4 t.val).val, 0, 768], (off120_eq v t).trans (by simp only [Ring.sl_val])⟩
theorem off121_eq : k0_off121 v t = ![2 * (t.val % 8), 1024] := by
  have h := t_lt t
  obtain ⟨n, hn⟩ := t
  dsimp only [k0_off121] at h ⊢
  clear hn; revert n; clear * -; decide +kernel
instance : ClosedOff (k0_off121 v t) := ⟨_, off121_eq v t⟩
theorem off122_eq : k0_off122 v t = ![1 + 2 * (t.val % 8), 1024] := by
  have h := t_lt t
  obtain ⟨n, hn⟩ := t
  dsimp only [k0_off122] at h ⊢
  clear hn; revert n; clear * -; decide +kernel
instance : ClosedOff (k0_off122 v t) := ⟨_, off122_eq v t⟩
theorem off123_eq : k0_off123 v t = ![t.val % 4, 0, 1024] := by
  have h := t_lt t
  obtain ⟨n, hn⟩ := t
  dsimp only [k0_off123] at h ⊢
  clear hn; revert n; clear * -; decide +kernel
instance : ClosedOff (k0_off123 v t) := ⟨![(Ring.sl 4 t.val).val, 0, 1024], (off123_eq v t).trans (by simp only [Ring.sl_val])⟩
theorem off124_eq : k0_off124 v t = ![2 * (t.val % 8), 1280] := by
  have h := t_lt t
  obtain ⟨n, hn⟩ := t
  dsimp only [k0_off124] at h ⊢
  clear hn; revert n; clear * -; decide +kernel
instance : ClosedOff (k0_off124 v t) := ⟨_, off124_eq v t⟩
theorem off125_eq : k0_off125 v t = ![1 + 2 * (t.val % 8), 1280] := by
  have h := t_lt t
  obtain ⟨n, hn⟩ := t
  dsimp only [k0_off125] at h ⊢
  clear hn; revert n; clear * -; decide +kernel
instance : ClosedOff (k0_off125 v t) := ⟨_, off125_eq v t⟩
theorem off126_eq : k0_off126 v t = ![t.val % 4, 0, 1280] := by
  have h := t_lt t
  obtain ⟨n, hn⟩ := t
  dsimp only [k0_off126] at h ⊢
  clear hn; revert n; clear * -; decide +kernel
instance : ClosedOff (k0_off126 v t) := ⟨![(Ring.sl 4 t.val).val, 0, 1280], (off126_eq v t).trans (by simp only [Ring.sl_val])⟩
theorem off127_eq : k0_off127 v t = ![2 * (t.val % 8), 1536] := by
  have h := t_lt t
  obtain ⟨n, hn⟩ := t
  dsimp only [k0_off127] at h ⊢
  clear hn; revert n; clear * -; decide +kernel
instance : ClosedOff (k0_off127 v t) := ⟨_, off127_eq v t⟩
theorem off128_eq : k0_off128 v t = ![1 + 2 * (t.val % 8), 1536] := by
  have h := t_lt t
  obtain ⟨n, hn⟩ := t
  dsimp only [k0_off128] at h ⊢
  clear hn; revert n; clear * -; decide +kernel
instance : ClosedOff (k0_off128 v t) := ⟨_, off128_eq v t⟩
theorem off129_eq : k0_off129 v t = ![t.val % 4, 0, 1536] := by
  have h := t_lt t
  obtain ⟨n, hn⟩ := t
  dsimp only [k0_off129] at h ⊢
  clear hn; revert n; clear * -; decide +kernel
instance : ClosedOff (k0_off129 v t) := ⟨![(Ring.sl 4 t.val).val, 0, 1536], (off129_eq v t).trans (by simp only [Ring.sl_val])⟩
theorem off130_eq : k0_off130 v t = ![2 * (t.val % 8), 1792] := by
  have h := t_lt t
  obtain ⟨n, hn⟩ := t
  dsimp only [k0_off130] at h ⊢
  clear hn; revert n; clear * -; decide +kernel
instance : ClosedOff (k0_off130 v t) := ⟨_, off130_eq v t⟩
theorem off131_eq : k0_off131 v t = ![1 + 2 * (t.val % 8), 1792] := by
  have h := t_lt t
  obtain ⟨n, hn⟩ := t
  dsimp only [k0_off131] at h ⊢
  clear hn; revert n; clear * -; decide +kernel
instance : ClosedOff (k0_off131 v t) := ⟨_, off131_eq v t⟩
theorem off132_eq : k0_off132 v t = ![t.val % 4, 0, 1792] := by
  have h := t_lt t
  obtain ⟨n, hn⟩ := t
  dsimp only [k0_off132] at h ⊢
  clear hn; revert n; clear * -; decide +kernel
instance : ClosedOff (k0_off132 v t) := ⟨![(Ring.sl 4 t.val).val, 0, 1792], (off132_eq v t).trans (by simp only [Ring.sl_val])⟩
theorem off133_eq : k0_off133 v t = ![2 * (t.val % 8), 2048] := by
  have h := t_lt t
  obtain ⟨n, hn⟩ := t
  dsimp only [k0_off133] at h ⊢
  clear hn; revert n; clear * -; decide +kernel
instance : ClosedOff (k0_off133 v t) := ⟨_, off133_eq v t⟩
theorem off134_eq : k0_off134 v t = ![1 + 2 * (t.val % 8), 2048] := by
  have h := t_lt t
  obtain ⟨n, hn⟩ := t
  dsimp only [k0_off134] at h ⊢
  clear hn; revert n; clear * -; decide +kernel
instance : ClosedOff (k0_off134 v t) := ⟨_, off134_eq v t⟩
theorem off135_eq : k0_off135 v t = ![t.val % 4, 0, 2048] := by
  have h := t_lt t
  obtain ⟨n, hn⟩ := t
  dsimp only [k0_off135] at h ⊢
  clear hn; revert n; clear * -; decide +kernel
instance : ClosedOff (k0_off135 v t) := ⟨![(Ring.sl 4 t.val).val, 0, 2048], (off135_eq v t).trans (by simp only [Ring.sl_val])⟩
theorem off136_eq : k0_off136 v t = ![2 * (t.val % 8), 2304] := by
  have h := t_lt t
  obtain ⟨n, hn⟩ := t
  dsimp only [k0_off136] at h ⊢
  clear hn; revert n; clear * -; decide +kernel
instance : ClosedOff (k0_off136 v t) := ⟨_, off136_eq v t⟩
theorem off137_eq : k0_off137 v t = ![1 + 2 * (t.val % 8), 2304] := by
  have h := t_lt t
  obtain ⟨n, hn⟩ := t
  dsimp only [k0_off137] at h ⊢
  clear hn; revert n; clear * -; decide +kernel
instance : ClosedOff (k0_off137 v t) := ⟨_, off137_eq v t⟩
theorem off138_eq : k0_off138 v t = ![t.val % 4, 0, 2304] := by
  have h := t_lt t
  obtain ⟨n, hn⟩ := t
  dsimp only [k0_off138] at h ⊢
  clear hn; revert n; clear * -; decide +kernel
instance : ClosedOff (k0_off138 v t) := ⟨![(Ring.sl 4 t.val).val, 0, 2304], (off138_eq v t).trans (by simp only [Ring.sl_val])⟩
theorem off139_eq : k0_off139 v t = ![2 * (t.val % 8), 2560] := by
  have h := t_lt t
  obtain ⟨n, hn⟩ := t
  dsimp only [k0_off139] at h ⊢
  clear hn; revert n; clear * -; decide +kernel
instance : ClosedOff (k0_off139 v t) := ⟨_, off139_eq v t⟩
theorem off140_eq : k0_off140 v t = ![1 + 2 * (t.val % 8), 2560] := by
  have h := t_lt t
  obtain ⟨n, hn⟩ := t
  dsimp only [k0_off140] at h ⊢
  clear hn; revert n; clear * -; decide +kernel
instance : ClosedOff (k0_off140 v t) := ⟨_, off140_eq v t⟩
theorem off141_eq : k0_off141 v t = ![t.val % 4, 0, 2560] := by
  have h := t_lt t
  obtain ⟨n, hn⟩ := t
  dsimp only [k0_off141] at h ⊢
  clear hn; revert n; clear * -; decide +kernel
instance : ClosedOff (k0_off141 v t) := ⟨![(Ring.sl 4 t.val).val, 0, 2560], (off141_eq v t).trans (by simp only [Ring.sl_val])⟩
theorem off142_eq : k0_off142 v t = ![2 * (t.val % 8), 2816] := by
  have h := t_lt t
  obtain ⟨n, hn⟩ := t
  dsimp only [k0_off142] at h ⊢
  clear hn; revert n; clear * -; decide +kernel
instance : ClosedOff (k0_off142 v t) := ⟨_, off142_eq v t⟩
theorem off143_eq : k0_off143 v t = ![1 + 2 * (t.val % 8), 2816] := by
  have h := t_lt t
  obtain ⟨n, hn⟩ := t
  dsimp only [k0_off143] at h ⊢
  clear hn; revert n; clear * -; decide +kernel
instance : ClosedOff (k0_off143 v t) := ⟨_, off143_eq v t⟩
theorem off144_eq : k0_off144 v t = ![t.val % 4, 0, 2816] := by
  have h := t_lt t
  obtain ⟨n, hn⟩ := t
  dsimp only [k0_off144] at h ⊢
  clear hn; revert n; clear * -; decide +kernel
instance : ClosedOff (k0_off144 v t) := ⟨![(Ring.sl 4 t.val).val, 0, 2816], (off144_eq v t).trans (by simp only [Ring.sl_val])⟩
theorem off145_eq : k0_off145 v t = ![2 * (t.val % 8), 3072] := by
  have h := t_lt t
  obtain ⟨n, hn⟩ := t
  dsimp only [k0_off145] at h ⊢
  clear hn; revert n; clear * -; decide +kernel
instance : ClosedOff (k0_off145 v t) := ⟨_, off145_eq v t⟩
theorem off146_eq : k0_off146 v t = ![1 + 2 * (t.val % 8), 3072] := by
  have h := t_lt t
  obtain ⟨n, hn⟩ := t
  dsimp only [k0_off146] at h ⊢
  clear hn; revert n; clear * -; decide +kernel
instance : ClosedOff (k0_off146 v t) := ⟨_, off146_eq v t⟩
theorem off147_eq : k0_off147 v t = ![t.val % 4, 0, 3072] := by
  have h := t_lt t
  obtain ⟨n, hn⟩ := t
  dsimp only [k0_off147] at h ⊢
  clear hn; revert n; clear * -; decide +kernel
instance : ClosedOff (k0_off147 v t) := ⟨![(Ring.sl 4 t.val).val, 0, 3072], (off147_eq v t).trans (by simp only [Ring.sl_val])⟩
theorem off148_eq : k0_off148 v t = ![2 * (t.val % 8), 3328] := by
  have h := t_lt t
  obtain ⟨n, hn⟩ := t
  dsimp only [k0_off148] at h ⊢
  clear hn; revert n; clear * -; decide +kernel
instance : ClosedOff (k0_off148 v t) := ⟨_, off148_eq v t⟩
theorem off149_eq : k0_off149 v t = ![1 + 2 * (t.val % 8), 3328] := by
  have h := t_lt t
  obtain ⟨n, hn⟩ := t
  dsimp only [k0_off149] at h ⊢
  clear hn; revert n; clear * -; decide +kernel
instance : ClosedOff (k0_off149 v t) := ⟨_, off149_eq v t⟩
theorem off150_eq : k0_off150 v t = ![t.val % 4, 0, 3328] := by
  have h := t_lt t
  obtain ⟨n, hn⟩ := t
  dsimp only [k0_off150] at h ⊢
  clear hn; revert n; clear * -; decide +kernel
instance : ClosedOff (k0_off150 v t) := ⟨![(Ring.sl 4 t.val).val, 0, 3328], (off150_eq v t).trans (by simp only [Ring.sl_val])⟩
theorem off151_eq : k0_off151 v t = ![2 * (t.val % 8), 3584] := by
  have h := t_lt t
  obtain ⟨n, hn⟩ := t
  dsimp only [k0_off151] at h ⊢
  clear hn; revert n; clear * -; decide +kernel
instance : ClosedOff (k0_off151 v t) := ⟨_, off151_eq v t⟩
theorem off152_eq : k0_off152 v t = ![1 + 2 * (t.val % 8), 3584] := by
  have h := t_lt t
  obtain ⟨n, hn⟩ := t
  dsimp only [k0_off152] at h ⊢
  clear hn; revert n; clear * -; decide +kernel
instance : ClosedOff (k0_off152 v t) := ⟨_, off152_eq v t⟩
theorem off153_eq : k0_off153 v t = ![t.val % 4, 0, 3584] := by
  have h := t_lt t
  obtain ⟨n, hn⟩ := t
  dsimp only [k0_off153] at h ⊢
  clear hn; revert n; clear * -; decide +kernel
instance : ClosedOff (k0_off153 v t) := ⟨![(Ring.sl 4 t.val).val, 0, 3584], (off153_eq v t).trans (by simp only [Ring.sl_val])⟩
theorem off154_eq : k0_off154 v t = ![2 * (t.val % 8), 3840] := by
  have h := t_lt t
  obtain ⟨n, hn⟩ := t
  dsimp only [k0_off154] at h ⊢
  clear hn; revert n; clear * -; decide +kernel
instance : ClosedOff (k0_off154 v t) := ⟨_, off154_eq v t⟩
theorem off155_eq : k0_off155 v t = ![1 + 2 * (t.val % 8), 3840] := by
  have h := t_lt t
  obtain ⟨n, hn⟩ := t
  dsimp only [k0_off155] at h ⊢
  clear hn; revert n; clear * -; decide +kernel
instance : ClosedOff (k0_off155 v t) := ⟨_, off155_eq v t⟩
theorem off156_eq : k0_off156 v t = ![t.val % 4, 0, 3840] := by
  have h := t_lt t
  obtain ⟨n, hn⟩ := t
  dsimp only [k0_off156] at h ⊢
  clear hn; revert n; clear * -; decide +kernel
instance : ClosedOff (k0_off156 v t) := ⟨![(Ring.sl 4 t.val).val, 0, 3840], (off156_eq v t).trans (by simp only [Ring.sl_val])⟩
theorem off157_eq : k0_off157 v t = ![2 * (t.val % 8), 4096] := by
  have h := t_lt t
  obtain ⟨n, hn⟩ := t
  dsimp only [k0_off157] at h ⊢
  clear hn; revert n; clear * -; decide +kernel
instance : ClosedOff (k0_off157 v t) := ⟨_, off157_eq v t⟩
theorem off158_eq : k0_off158 v t = ![1 + 2 * (t.val % 8), 4096] := by
  have h := t_lt t
  obtain ⟨n, hn⟩ := t
  dsimp only [k0_off158] at h ⊢
  clear hn; revert n; clear * -; decide +kernel
instance : ClosedOff (k0_off158 v t) := ⟨_, off158_eq v t⟩
theorem off159_eq : k0_off159 v t = ![t.val % 4, 0, 4096] := by
  have h := t_lt t
  obtain ⟨n, hn⟩ := t
  dsimp only [k0_off159] at h ⊢
  clear hn; revert n; clear * -; decide +kernel
instance : ClosedOff (k0_off159 v t) := ⟨![(Ring.sl 4 t.val).val, 0, 4096], (off159_eq v t).trans (by simp only [Ring.sl_val])⟩
theorem off160_eq : k0_off160 v t = ![2 * (t.val % 8), 4352] := by
  have h := t_lt t
  obtain ⟨n, hn⟩ := t
  dsimp only [k0_off160] at h ⊢
  clear hn; revert n; clear * -; decide +kernel
instance : ClosedOff (k0_off160 v t) := ⟨_, off160_eq v t⟩
theorem off161_eq : k0_off161 v t = ![1 + 2 * (t.val % 8), 4352] := by
  have h := t_lt t
  obtain ⟨n, hn⟩ := t
  dsimp only [k0_off161] at h ⊢
  clear hn; revert n; clear * -; decide +kernel
instance : ClosedOff (k0_off161 v t) := ⟨_, off161_eq v t⟩
theorem off162_eq : k0_off162 v t = ![t.val % 4, 0, 4352] := by
  have h := t_lt t
  obtain ⟨n, hn⟩ := t
  dsimp only [k0_off162] at h ⊢
  clear hn; revert n; clear * -; decide +kernel
instance : ClosedOff (k0_off162 v t) := ⟨![(Ring.sl 4 t.val).val, 0, 4352], (off162_eq v t).trans (by simp only [Ring.sl_val])⟩
theorem off163_eq : k0_off163 v t = ![2 * (t.val % 8), 4608] := by
  have h := t_lt t
  obtain ⟨n, hn⟩ := t
  dsimp only [k0_off163] at h ⊢
  clear hn; revert n; clear * -; decide +kernel
instance : ClosedOff (k0_off163 v t) := ⟨_, off163_eq v t⟩
theorem off164_eq : k0_off164 v t = ![1 + 2 * (t.val % 8), 4608] := by
  have h := t_lt t
  obtain ⟨n, hn⟩ := t
  dsimp only [k0_off164] at h ⊢
  clear hn; revert n; clear * -; decide +kernel
instance : ClosedOff (k0_off164 v t) := ⟨_, off164_eq v t⟩
theorem off165_eq : k0_off165 v t = ![t.val % 4, 0, 4608] := by
  have h := t_lt t
  obtain ⟨n, hn⟩ := t
  dsimp only [k0_off165] at h ⊢
  clear hn; revert n; clear * -; decide +kernel
instance : ClosedOff (k0_off165 v t) := ⟨![(Ring.sl 4 t.val).val, 0, 4608], (off165_eq v t).trans (by simp only [Ring.sl_val])⟩
theorem off166_eq : k0_off166 v t = ![2 * (t.val % 8), 4864] := by
  have h := t_lt t
  obtain ⟨n, hn⟩ := t
  dsimp only [k0_off166] at h ⊢
  clear hn; revert n; clear * -; decide +kernel
instance : ClosedOff (k0_off166 v t) := ⟨_, off166_eq v t⟩
theorem off167_eq : k0_off167 v t = ![1 + 2 * (t.val % 8), 4864] := by
  have h := t_lt t
  obtain ⟨n, hn⟩ := t
  dsimp only [k0_off167] at h ⊢
  clear hn; revert n; clear * -; decide +kernel
instance : ClosedOff (k0_off167 v t) := ⟨_, off167_eq v t⟩
theorem off168_eq : k0_off168 v t = ![t.val % 4, 0, 4864] := by
  have h := t_lt t
  obtain ⟨n, hn⟩ := t
  dsimp only [k0_off168] at h ⊢
  clear hn; revert n; clear * -; decide +kernel
instance : ClosedOff (k0_off168 v t) := ⟨![(Ring.sl 4 t.val).val, 0, 4864], (off168_eq v t).trans (by simp only [Ring.sl_val])⟩
theorem off169_eq : k0_off169 v t = ![t.val / 8] := by
  have h := t_lt t
  obtain ⟨n, hn⟩ := t
  dsimp only [k0_off169] at h ⊢
  clear hn; revert n; clear * -; decide +kernel
instance : ClosedOff (k0_off169 v t) := ⟨_, off169_eq v t⟩

end Chain

/-! ## The kernel's slices are the named ones -/

section Canon
variable (v : BitVec 32) [Fact (v.toNat ≤ 4)] (t : Fin (k0_t2_loop v).trips) (w : BitVec 32)

@[sl_canon] theorem sgS_15 (hh hs) :
    (sgM.slice (Rect.unit (s := S2x40x4096) (k0_off15 v t) S1x40x4096.size hh) hs).squeeze S40x4096 squeezes_S1x40x4096_S40x4096 = sgS (Ring.sl 2 (t.val / 8 + 1)) := sgS_congr ((off15_eq v t).trans (by simp only [slotOff, Ring.sl_val])) hh hs
@[sl_canon] theorem seS_18 (hh hs) :
    (seM.slice (Rect.unit (s := S2x16x5120) (k0_off18 v t) S1x16x5120.size hh) hs).squeeze S16x5120 squeezes_S1x16x5120_S16x5120 = seS (Ring.sl 2 (t.val / 8 + 1)) := seS_congr ((off18_eq v t).trans (by simp only [slotOff, Ring.sl_val])) hh hs
@[sl_canon] theorem sgS_22 (hh hs) :
    (sgM.slice (Rect.unit (s := S2x40x4096) (k0_off22 v t) S1x40x4096.size hh) hs).squeeze S40x4096 squeezes_S1x40x4096_S40x4096 = sgS (Ring.sl 2 (t.val / 8)) := sgS_congr ((off22_eq v t).trans (by simp only [slotOff, Ring.sl_val])) hh hs
@[sl_canon] theorem seS_25 (hh hs) :
    (seM.slice (Rect.unit (s := S2x16x5120) (k0_off25 v t) S1x16x5120.size hh) hs).squeeze S16x5120 squeezes_S1x16x5120_S16x5120 = seS (Ring.sl 2 (t.val / 8)) := seS_congr ((off25_eq v t).trans (by simp only [slotOff, Ring.sl_val])) hh hs
@[sl_canon] theorem sgC_14 (hh) :
    (cc0_scratch12.slice (Rect.unit (s := S2x2) (k0_off14 v t) S1x1.size hh)).squeeze S_ squeezes_S1x1_S_ = sgC (Ring.sl 2 (t.val / 8 + 1)) := sgC_congr ((off14_eq v t).trans (by simp only [sgCOff, Ring.sl_val])) hh
@[sl_canon] theorem seC_17 (hh) :
    (cc0_scratch12.slice (Rect.unit (s := S2x2) (k0_off17 v t) S1x1.size hh)).squeeze S_ squeezes_S1x1_S_ = seC (Ring.sl 2 (t.val / 8 + 1)) := seC_congr ((off17_eq v t).trans (by simp only [seCOff, Ring.sl_val])) hh
@[sl_canon] theorem sgC_21 (hh) :
    (cc0_scratch12.slice (Rect.unit (s := S2x2) (k0_off21 v t) S1x1.size hh)).squeeze S_ squeezes_S1x1_S_ = sgC (Ring.sl 2 (t.val / 8)) := sgC_congr ((off21_eq v t).trans (by simp only [sgCOff, Ring.sl_val])) hh
@[sl_canon] theorem seC_24 (hh) :
    (cc0_scratch12.slice (Rect.unit (s := S2x2) (k0_off24 v t) S1x1.size hh)).squeeze S_ squeezes_S1x1_S_ = seC (Ring.sl 2 (t.val / 8)) := seC_congr ((off24_eq v t).trans (by simp only [seCOff, Ring.sl_val])) hh
@[sl_canon] theorem gC_30 (hh) :
    (cc0_scratch11.slice (Rect.unit (s := S3x4) (k0_off30 v t) S1x1.size hh)).squeeze S_ squeezes_S1x1_S_ = gC (Ring.sl 4 t.val) := gC_congr ((off30_eq v t).trans (by simp only [gCOff, Ring.sl_val])) hh
@[sl_canon] theorem gS_31 (hh hs) :
    (gM.slice (Rect.unit (s := S4x2560x256) (k0_off31 v t) S1x2560x256.size hh) hs).squeeze S2560x256 squeezes_S1x2560x256_S2560x256 = gS (Ring.sl 4 t.val) := gS_congr ((off31_eq v t).trans (by simp only [slotOff, Ring.sl_val])) hh hs
@[sl_canon] theorem uC_33 (hh) :
    (cc0_scratch11.slice (Rect.unit (s := S3x4) (k0_off33 v t) S1x1.size hh)).squeeze S_ squeezes_S1x1_S_ = uC (Ring.sl 4 t.val) := uC_congr ((off33_eq v t).trans (by simp only [uCOff, Ring.sl_val])) hh
@[sl_canon] theorem uS_34 (hh hs) :
    (uM.slice (Rect.unit (s := S4x2560x256) (k0_off34 v t) S1x2560x256.size hh) hs).squeeze S2560x256 squeezes_S1x2560x256_S2560x256 = uS (Ring.sl 4 t.val) := uS_congr ((off34_eq v t).trans (by simp only [slotOff, Ring.sl_val])) hh hs
@[sl_canon] theorem dC_36 (hh) :
    (cc0_scratch11.slice (Rect.unit (s := S3x4) (k0_off36 v t) S1x1.size hh)).squeeze S_ squeezes_S1x1_S_ = dC (Ring.sl 4 t.val) := dC_congr ((off36_eq v t).trans (by simp only [dCOff, Ring.sl_val])) hh
@[sl_canon] theorem dS_37 (hh hs) :
    (dM.slice (Rect.unit (s := S4x128x5120) (k0_off37 v t) S1x128x5120.size hh) hs).squeeze S128x5120 squeezes_S1x128x5120_S128x5120 = dS (Ring.sl 4 t.val) := dS_congr ((off37_eq v t).trans (by simp only [slotOff, Ring.sl_val])) hh hs
@[sl_canon] theorem gC_40 (hh) :
    (cc0_scratch11.slice (Rect.unit (s := S3x4) (k0_off40 v t) S1x1.size hh)).squeeze S_ squeezes_S1x1_S_ = gC (Ring.sl 4 (t.val + 3)) := gC_congr ((off40_eq v t).trans (by simp only [gCOff, Ring.sl_val])) hh
@[sl_canon] theorem gS_41 (hh hs) :
    (gM.slice (Rect.unit (s := S4x2560x256) (k0_off41 v t) S1x2560x256.size hh) hs).squeeze S2560x256 squeezes_S1x2560x256_S2560x256 = gS (Ring.sl 4 (t.val + 3)) := gS_congr ((off41_eq v t).trans (by simp only [slotOff, Ring.sl_val])) hh hs
@[sl_canon] theorem uC_43 (hh) :
    (cc0_scratch11.slice (Rect.unit (s := S3x4) (k0_off43 v t) S1x1.size hh)).squeeze S_ squeezes_S1x1_S_ = uC (Ring.sl 4 (t.val + 3)) := uC_congr ((off43_eq v t).trans (by simp only [uCOff, Ring.sl_val])) hh
@[sl_canon] theorem uS_44 (hh hs) :
    (uM.slice (Rect.unit (s := S4x2560x256) (k0_off44 v t) S1x2560x256.size hh) hs).squeeze S2560x256 squeezes_S1x2560x256_S2560x256 = uS (Ring.sl 4 (t.val + 3)) := uS_congr ((off44_eq v t).trans (by simp only [slotOff, Ring.sl_val])) hh hs
@[sl_canon] theorem dC_46 (hh) :
    (cc0_scratch11.slice (Rect.unit (s := S3x4) (k0_off46 v t) S1x1.size hh)).squeeze S_ squeezes_S1x1_S_ = dC (Ring.sl 4 (t.val + 3)) := dC_congr ((off46_eq v t).trans (by simp only [dCOff, Ring.sl_val])) hh
@[sl_canon] theorem dS_47 (hh hs) :
    (dM.slice (Rect.unit (s := S4x128x5120) (k0_off47 v t) S1x128x5120.size hh) hs).squeeze S128x5120 squeezes_S1x128x5120_S128x5120 = dS (Ring.sl 4 (t.val + 3)) := dS_congr ((off47_eq v t).trans (by simp only [slotOff, Ring.sl_val])) hh hs
@[sl_canon] theorem gS_L0 (hh hs) :
    (gM.slice (Rect.unit (s := S4x2560x256) (![0, 0, 0]) S1x2560x256.size hh) hs).squeeze S2560x256 squeezes_S1x2560x256_S2560x256 = gS (0) := gS_congr (by decide) hh hs
@[sl_canon] theorem gC_L0 (hh) :
    (cc0_scratch11.slice (Rect.unit (s := S3x4) (![0, 0]) S1x1.size hh)).squeeze S_ squeezes_S1x1_S_ = gC (0) := gC_congr (by decide) hh
@[sl_canon] theorem gS_L1 (hh hs) :
    (gM.slice (Rect.unit (s := S4x2560x256) (![1, 0, 0]) S1x2560x256.size hh) hs).squeeze S2560x256 squeezes_S1x2560x256_S2560x256 = gS (1) := gS_congr (by decide) hh hs
@[sl_canon] theorem gC_L1 (hh) :
    (cc0_scratch11.slice (Rect.unit (s := S3x4) (![0, 1]) S1x1.size hh)).squeeze S_ squeezes_S1x1_S_ = gC (1) := gC_congr (by decide) hh
@[sl_canon] theorem gS_L2 (hh hs) :
    (gM.slice (Rect.unit (s := S4x2560x256) (![2, 0, 0]) S1x2560x256.size hh) hs).squeeze S2560x256 squeezes_S1x2560x256_S2560x256 = gS (2) := gS_congr (by decide) hh hs
@[sl_canon] theorem gC_L2 (hh) :
    (cc0_scratch11.slice (Rect.unit (s := S3x4) (![0, 2]) S1x1.size hh)).squeeze S_ squeezes_S1x1_S_ = gC (2) := gC_congr (by decide) hh
@[sl_canon] theorem uS_L0 (hh hs) :
    (uM.slice (Rect.unit (s := S4x2560x256) (![0, 0, 0]) S1x2560x256.size hh) hs).squeeze S2560x256 squeezes_S1x2560x256_S2560x256 = uS (0) := uS_congr (by decide) hh hs
@[sl_canon] theorem uC_L0 (hh) :
    (cc0_scratch11.slice (Rect.unit (s := S3x4) (![1, 0]) S1x1.size hh)).squeeze S_ squeezes_S1x1_S_ = uC (0) := uC_congr (by decide) hh
@[sl_canon] theorem uS_L1 (hh hs) :
    (uM.slice (Rect.unit (s := S4x2560x256) (![1, 0, 0]) S1x2560x256.size hh) hs).squeeze S2560x256 squeezes_S1x2560x256_S2560x256 = uS (1) := uS_congr (by decide) hh hs
@[sl_canon] theorem uC_L1 (hh) :
    (cc0_scratch11.slice (Rect.unit (s := S3x4) (![1, 1]) S1x1.size hh)).squeeze S_ squeezes_S1x1_S_ = uC (1) := uC_congr (by decide) hh
@[sl_canon] theorem uS_L2 (hh hs) :
    (uM.slice (Rect.unit (s := S4x2560x256) (![2, 0, 0]) S1x2560x256.size hh) hs).squeeze S2560x256 squeezes_S1x2560x256_S2560x256 = uS (2) := uS_congr (by decide) hh hs
@[sl_canon] theorem uC_L2 (hh) :
    (cc0_scratch11.slice (Rect.unit (s := S3x4) (![1, 2]) S1x1.size hh)).squeeze S_ squeezes_S1x1_S_ = uC (2) := uC_congr (by decide) hh
@[sl_canon] theorem dS_L0 (hh hs) :
    (dM.slice (Rect.unit (s := S4x128x5120) (![0, 0, 0]) S1x128x5120.size hh) hs).squeeze S128x5120 squeezes_S1x128x5120_S128x5120 = dS (0) := dS_congr (by decide) hh hs
@[sl_canon] theorem dC_L0 (hh) :
    (cc0_scratch11.slice (Rect.unit (s := S3x4) (![2, 0]) S1x1.size hh)).squeeze S_ squeezes_S1x1_S_ = dC (0) := dC_congr (by decide) hh
@[sl_canon] theorem dS_L1 (hh hs) :
    (dM.slice (Rect.unit (s := S4x128x5120) (![1, 0, 0]) S1x128x5120.size hh) hs).squeeze S128x5120 squeezes_S1x128x5120_S128x5120 = dS (1) := dS_congr (by decide) hh hs
@[sl_canon] theorem dC_L1 (hh) :
    (cc0_scratch11.slice (Rect.unit (s := S3x4) (![2, 1]) S1x1.size hh)).squeeze S_ squeezes_S1x1_S_ = dC (1) := dC_congr (by decide) hh
@[sl_canon] theorem dS_L2 (hh hs) :
    (dM.slice (Rect.unit (s := S4x128x5120) (![2, 0, 0]) S1x128x5120.size hh) hs).squeeze S128x5120 squeezes_S1x128x5120_S128x5120 = dS (2) := dS_congr (by decide) hh hs
@[sl_canon] theorem dC_L2 (hh) :
    (cc0_scratch11.slice (Rect.unit (s := S3x4) (![2, 2]) S1x1.size hh)).squeeze S_ squeezes_S1x1_S_ = dC (2) := dC_congr (by decide) hh
@[sl_canon] theorem sgS_L0 (hh hs) :
    (sgM.slice (Rect.unit (s := S2x40x4096) (![0, 0, 0]) S1x40x4096.size hh) hs).squeeze S40x4096 squeezes_S1x40x4096_S40x4096 = sgS (0) := sgS_congr (by decide) hh hs
@[sl_canon] theorem sgC_L0 (hh) :
    (cc0_scratch12.slice (Rect.unit (s := S2x2) (![0, 0]) S1x1.size hh)).squeeze S_ squeezes_S1x1_S_ = sgC (0) := sgC_congr (by decide) hh
@[sl_canon] theorem seS_L0 (hh hs) :
    (seM.slice (Rect.unit (s := S2x16x5120) (![0, 0, 0]) S1x16x5120.size hh) hs).squeeze S16x5120 squeezes_S1x16x5120_S16x5120 = seS (0) := seS_congr (by decide) hh hs
@[sl_canon] theorem seC_L0 (hh) :
    (cc0_scratch12.slice (Rect.unit (s := S2x2) (![1, 0]) S1x1.size hh)).squeeze S_ squeezes_S1x1_S_ = seC (0) := seC_congr (by decide) hh
@[sl_canon] theorem sgB_2 (hh hs) :
    (sguM.slice (Rect.unit (s := S4x40x4096) (k0_off2 w) S1x40x4096.size hh) hs).squeeze S40x4096 squeezes_S1x40x4096_S40x4096 = sgB (Fin.ofNat 4 w.toNat) := sgB_congr w rfl rfl (by rfl) (by rfl) hh hs
@[sl_canon] theorem seB_3 (hh hs) :
    (sdM.slice (Rect.unit (s := S4x16x5120) (k0_off3 w) S1x16x5120.size hh) hs).squeeze S16x5120 squeezes_S1x16x5120_S16x5120 = seB (Fin.ofNat 4 w.toNat) := seB_congr w rfl rfl (by rfl) (by rfl) hh hs
@[sl_canon] theorem sgB_16 (hh hs) :
    (sguM.slice (Rect.unit (s := S4x40x4096) (k0_off16 w) S1x40x4096.size hh) hs).squeeze S40x4096 squeezes_S1x40x4096_S40x4096 = sgB (Fin.ofNat 4 w.toNat) := sgB_congr w rfl rfl (by rfl) (by rfl) hh hs
@[sl_canon] theorem seB_19 (hh hs) :
    (sdM.slice (Rect.unit (s := S4x16x5120) (k0_off19 w) S1x16x5120.size hh) hs).squeeze S16x5120 squeezes_S1x16x5120_S16x5120 = seB (Fin.ofNat 4 w.toNat) := seB_congr w rfl rfl (by rfl) (by rfl) hh hs
@[sl_canon] theorem sgB_23 (hh hs) :
    (sguM.slice (Rect.unit (s := S4x40x4096) (k0_off23 w) S1x40x4096.size hh) hs).squeeze S40x4096 squeezes_S1x40x4096_S40x4096 = sgB (Fin.ofNat 4 w.toNat) := sgB_congr w rfl rfl (by rfl) (by rfl) hh hs
@[sl_canon] theorem seB_26 (hh hs) :
    (sdM.slice (Rect.unit (s := S4x16x5120) (k0_off26 w) S1x16x5120.size hh) hs).squeeze S16x5120 squeezes_S1x16x5120_S16x5120 = seB (Fin.ofNat 4 w.toNat) := seB_congr w rfl rfl (by rfl) (by rfl) hh hs
@[sl_canon] theorem gB_4 (hh hs) :
    (wguM.slice (Rect.unit (s := S4x2560x4096) (k0_off4 w) S1x2560x256.size hh) hs).squeeze S2560x256 squeezes_S1x2560x256_S2560x256 = gB (Fin.ofNat 4 w.toNat) (0) := gB_congr w rfl rfl (by rfl) (by rfl) hh hs
@[sl_canon] theorem uB_5 (hh hs) :
    (wguM.slice (Rect.unit (s := S4x2560x4096) (k0_off5 w) S1x2560x256.size hh) hs).squeeze S2560x256 squeezes_S1x2560x256_S2560x256 = uB (Fin.ofNat 4 w.toNat) (0) := uB_congr w rfl rfl (by rfl) (by rfl) hh hs
@[sl_canon] theorem dB_6 (hh hs) :
    (wdM.slice (Rect.unit (s := S4x1024x5120) (k0_off6 w) S1x128x5120.size hh) hs).squeeze S128x5120 squeezes_S1x128x5120_S128x5120 = dB (Fin.ofNat 4 w.toNat) (0) := dB_congr w rfl rfl (by rfl) (by rfl) hh hs
@[sl_canon] theorem gB_7 (hh hs) :
    (wguM.slice (Rect.unit (s := S4x2560x4096) (k0_off7 w) S1x2560x256.size hh) hs).squeeze S2560x256 squeezes_S1x2560x256_S2560x256 = gB (Fin.ofNat 4 w.toNat) (1) := gB_congr w rfl rfl (by rfl) (by rfl) hh hs
@[sl_canon] theorem uB_8 (hh hs) :
    (wguM.slice (Rect.unit (s := S4x2560x4096) (k0_off8 w) S1x2560x256.size hh) hs).squeeze S2560x256 squeezes_S1x2560x256_S2560x256 = uB (Fin.ofNat 4 w.toNat) (1) := uB_congr w rfl rfl (by rfl) (by rfl) hh hs
@[sl_canon] theorem dB_9 (hh hs) :
    (wdM.slice (Rect.unit (s := S4x1024x5120) (k0_off9 w) S1x128x5120.size hh) hs).squeeze S128x5120 squeezes_S1x128x5120_S128x5120 = dB (Fin.ofNat 4 w.toNat) (1) := dB_congr w rfl rfl (by rfl) (by rfl) hh hs
@[sl_canon] theorem gB_10 (hh hs) :
    (wguM.slice (Rect.unit (s := S4x2560x4096) (k0_off10 w) S1x2560x256.size hh) hs).squeeze S2560x256 squeezes_S1x2560x256_S2560x256 = gB (Fin.ofNat 4 w.toNat) (2) := gB_congr w rfl rfl (by rfl) (by rfl) hh hs
@[sl_canon] theorem uB_11 (hh hs) :
    (wguM.slice (Rect.unit (s := S4x2560x4096) (k0_off11 w) S1x2560x256.size hh) hs).squeeze S2560x256 squeezes_S1x2560x256_S2560x256 = uB (Fin.ofNat 4 w.toNat) (2) := uB_congr w rfl rfl (by rfl) (by rfl) hh hs
@[sl_canon] theorem dB_12 (hh hs) :
    (wdM.slice (Rect.unit (s := S4x1024x5120) (k0_off12 w) S1x128x5120.size hh) hs).squeeze S128x5120 squeezes_S1x128x5120_S128x5120 = dB (Fin.ofNat 4 w.toNat) (2) := dB_congr w rfl rfl (by rfl) (by rfl) hh hs
@[sl_canon] theorem gB_32 (hh hs) :
    (wguM.slice (Rect.unit (s := S4x2560x4096) (k0_off32 v t w) S1x2560x256.size hh) hs).squeeze S2560x256 squeezes_S1x2560x256_S2560x256 = gB (Fin.ofNat 4 w.toNat) (Ring.sl 8 t.val) := gB_congr w (off32_eq v t w).1 rfl ((off32_eq v t w).2.1.trans (by simp [gBOff, Ring.sl_val])) ((off32_eq v t w).2.2.trans (by simp [gBOff, Ring.sl_val])) hh hs
@[sl_canon] theorem uB_35 (hh hs) :
    (wguM.slice (Rect.unit (s := S4x2560x4096) (k0_off35 v t w) S1x2560x256.size hh) hs).squeeze S2560x256 squeezes_S1x2560x256_S2560x256 = uB (Fin.ofNat 4 w.toNat) (Ring.sl 8 t.val) := uB_congr w (off35_eq v t w).1 rfl ((off35_eq v t w).2.1.trans (by simp [uBOff, Ring.sl_val])) ((off35_eq v t w).2.2.trans (by simp [uBOff, Ring.sl_val])) hh hs
@[sl_canon] theorem dB_38 (hh hs) :
    (wdM.slice (Rect.unit (s := S4x1024x5120) (k0_off38 v t w) S1x128x5120.size hh) hs).squeeze S128x5120 squeezes_S1x128x5120_S128x5120 = dB (Fin.ofNat 4 w.toNat) (Ring.sl 8 t.val) := dB_congr w (off38_eq v t w).1 rfl ((off38_eq v t w).2.1.trans (by simp [dBOff, Ring.sl_val])) ((off38_eq v t w).2.2.trans (by simp [dBOff, Ring.sl_val])) hh hs
@[sl_canon] theorem gB_42 (hh hs) :
    (wguM.slice (Rect.unit (s := S4x2560x4096) (k0_off42 v t w) S1x2560x256.size hh) hs).squeeze S2560x256 squeezes_S1x2560x256_S2560x256 = gB (Fin.ofNat 4 w.toNat) (Ring.sl 8 (t.val + 3)) := gB_congr w (off42_eq v t w).1 rfl ((off42_eq v t w).2.1.trans (by simp [gBOff, Ring.sl_val])) ((off42_eq v t w).2.2.trans (by simp [gBOff, Ring.sl_val])) hh hs
@[sl_canon] theorem uB_45 (hh hs) :
    (wguM.slice (Rect.unit (s := S4x2560x4096) (k0_off45 v t w) S1x2560x256.size hh) hs).squeeze S2560x256 squeezes_S1x2560x256_S2560x256 = uB (Fin.ofNat 4 w.toNat) (Ring.sl 8 (t.val + 3)) := uB_congr w (off45_eq v t w).1 rfl ((off45_eq v t w).2.1.trans (by simp [uBOff, Ring.sl_val])) ((off45_eq v t w).2.2.trans (by simp [uBOff, Ring.sl_val])) hh hs
@[sl_canon] theorem dB_48 (hh hs) :
    (wdM.slice (Rect.unit (s := S4x1024x5120) (k0_off48 v t w) S1x128x5120.size hh) hs).squeeze S128x5120 squeezes_S1x128x5120_S128x5120 = dB (Fin.ofNat 4 w.toNat) (Ring.sl 8 (t.val + 3)) := dB_congr w (off48_eq v t w).1 rfl ((off48_eq v t w).2.1.trans (by simp [dBOff, Ring.sl_val])) ((off48_eq v t w).2.2.trans (by simp [dBOff, Ring.sl_val])) hh hs

end Canon

end Cert.Proof.Kernel
-- ==== Proof.Checks.lean ====
/-
  The kernel's own checks hold: with at most four active experts, and every word of the table of active experts
  naming one of the four, every slice it takes is in range. Also which conditionals of a step are taken.
-/
module

public import proofs.«01_k».proof.Proof.Names

@[expose] public section

noncomputable section

namespace Cert.Proof.Kernel

open Cert.Kernel Cert.Kernel.Gen
open Idealize.ShloMosaic

theorem lit5 {p : BitVec 32 → Prop} (h : ∀ a : Fin 5, p (BitVec.ofNat 32 a.val)) (v : BitVec 32) (hv : v.toNat ≤ 4) : p v := by
  have := h ⟨v.toNat, by omega⟩
  simpa using this
theorem lit4 {p : BitVec 32 → Prop} (h : ∀ a : Fin 4, p (BitVec.ofNat 32 a.val)) (v : BitVec 32) (hv : v.toNat < 4) : p v := by
  have := h ⟨v.toNat, by omega⟩
  simpa using this

theorem chk6_of (v : BitVec 32) [h : Fact (v.toNat ≤ 4)] : k0_chk6 v :=
  lit5 (p := k0_chk6) (by decide +kernel) v h.out
theorem chk2_of (w : BitVec 32) (hw : w.toNat < 4) : k0_chk2 w := lit4 (p := k0_chk2) (by decide +kernel) w hw
theorem chk3_of (v : BitVec 32) [h : Fact (v.toNat ≤ 4)] (w : BitVec 32) (hw : w.toNat < 4) : k0_chk3 v w :=
  lit5 (p := fun v => ∀ w : BitVec 32, w.toNat < 4 → k0_chk3 v w) (fun a w hw => lit4 (p := k0_chk3 _) (by revert a; decide +kernel) w hw) v h.out w hw
theorem chk4_of (v : BitVec 32) [h : Fact (v.toNat ≤ 4)] (w : BitVec 32) (hw : w.toNat < 4) : k0_chk4 v w :=
  lit5 (p := fun v => ∀ w : BitVec 32, w.toNat < 4 → k0_chk4 v w) (fun a w hw => lit4 (p := k0_chk4 _) (by revert a; decide +kernel) w hw) v h.out w hw
theorem chk5_of (v : BitVec 32) [h : Fact (v.toNat ≤ 4)] (w : BitVec 32) (hw : w.toNat < 4) : k0_chk5 v w :=
  lit5 (p := fun v => ∀ w : BitVec 32, w.toNat < 4 → k0_chk5 v w) (fun a w hw => lit4 (p := k0_chk5 _) (by revert a; decide +kernel) w hw) v h.out w hw

theorem chk7_of (v : BitVec 32) [h : Fact (v.toNat ≤ 4)] (t : Fin (k0_t2_loop v).trips) (w : BitVec 32) (hw : w.toNat < 4) : k0_chk7 v t w :=
  lit5 (p := fun v => ∀ (t : Fin (k0_t2_loop v).trips) (w : BitVec 32), w.toNat < 4 → k0_chk7 v t w)
    (fun a t w hw => lit4 (p := k0_chk7 _ t) (by revert a; decide +kernel) w hw) v h.out t w hw
theorem chk8_of (v : BitVec 32) [h : Fact (v.toNat ≤ 4)] (t : Fin (k0_t2_loop v).trips) (w : BitVec 32) (hw : w.toNat < 4) : k0_chk8 v t w :=
  lit5 (p := fun v => ∀ (t : Fin (k0_t2_loop v).trips) (w : BitVec 32), w.toNat < 4 → k0_chk8 v t w)
    (fun a t w hw => lit4 (p := k0_chk8 _ t) (by revert a; decide +kernel) w hw) v h.out t w hw
theorem chk9_of (v : BitVec 32) [h : Fact (v.toNat ≤ 4)] (t : Fin (k0_t2_loop v).trips) (w : BitVec 32) (hw : w.toNat < 4) : k0_chk9 v t w :=
  lit5 (p := fun v => ∀ (t : Fin (k0_t2_loop v).trips) (w : BitVec 32), w.toNat < 4 → k0_chk9 v t w)
    (fun a t w hw => lit4 (p := k0_chk9 _ t) (by revert a; decide +kernel) w hw) v h.out t w hw
theorem chk10_of (v : BitVec 32) [h : Fact (v.toNat ≤ 4)] (t : Fin (k0_t2_loop v).trips) (w : BitVec 32) (hw : w.toNat < 4) : k0_chk10 v t w :=
  lit5 (p := fun v => ∀ (t : Fin (k0_t2_loop v).trips) (w : BitVec 32), w.toNat < 4 → k0_chk10 v t w)
    (fun a t w hw => lit4 (p := k0_chk10 _ t) (by revert a; decide +kernel) w hw) v h.out t w hw

theorem cond2_of (v : BitVec 32) (h4 : v.toNat ≤ 4) (h1 : 1 ≤ v.toNat) : k0_cond2 v = 1#1 ∧ k0_cond3 v = 1#1 ∧ k0_cond4 v = 1#1 :=
  lit5 (p := fun v => 1 ≤ v.toNat → k0_cond2 v = 1#1 ∧ k0_cond3 v = 1#1 ∧ k0_cond4 v = 1#1) (by decide +kernel) v h4 h1
theorem cond5_iff (v : BitVec 32) [h : Fact (v.toNat ≤ 4)] (t : Fin (k0_t2_loop v).trips) : k0_cond5 v t = 1#1 ↔ t.val % 8 = 0 :=
  lit5 (p := fun v => ∀ (t : Fin (k0_t2_loop v).trips), k0_cond5 v t = 1#1 ↔ t.val % 8 = 0) (by decide +kernel) v h.out t
theorem cond6_iff (v : BitVec 32) [h : Fact (v.toNat ≤ 4)] (t : Fin (k0_t2_loop v).trips) : k0_cond6 v t = 1#1 ↔ t.val / 8 + 1 < v.toNat :=
  lit5 (p := fun v => ∀ (t : Fin (k0_t2_loop v).trips), k0_cond6 v t = 1#1 ↔ t.val / 8 + 1 < v.toNat) (by decide +kernel) v h.out t
theorem cond7_iff (v : BitVec 32) [h : Fact (v.toNat ≤ 4)] (t : Fin (k0_t2_loop v).trips) : k0_cond7 v t = 1#1 ↔ t.val + 3 < 8 * v.toNat :=
  lit5 (p := fun v => ∀ (t : Fin (k0_t2_loop v).trips), k0_cond7 v t = 1#1 ↔ t.val + 3 < 8 * v.toNat) (by decide +kernel) v h.out t
theorem cond8_iff (v : BitVec 32) [h : Fact (v.toNat ≤ 4)] (t : Fin (k0_t2_loop v).trips) : k0_cond8 v t = 1#1 ↔ t.val % 8 = 7 :=
  lit5 (p := fun v => ∀ (t : Fin (k0_t2_loop v).trips), k0_cond8 v t = 1#1 ↔ t.val % 8 = 7) (by decide +kernel) v h.out t
theorem trips3_eq (v : BitVec 32) [h : Fact (v.toNat ≤ 4)] : (k0_t3_loop v).trips = 0 :=
  lit5 (p := fun v => (k0_t3_loop v).trips = 0) (by decide +kernel) v h.out

end Cert.Proof.Kernel
-- ==== Proof.Pieces.lean ====
/-
  What a step of the kernel holds: a slot, its cell, the block it is filled from (held at a read share of the array,
  one share for each cell), and a slot in flight.
-/
module

public import proofs.«01_k».proof.Proof.Checks
public import Idealize.ShloMosaic.Lib.Pipeline.Frame
public import Idealize.ShloMosaic.Lib.Transfers

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

abbrev 𝒱₀ : Variants := Variants.none

/-- A memref's own elements, held at share `q`. -/
abbrev own (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[M.view.set]{q} f
/-- Everything else of its buffer. -/
abbrev oth (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[Finset.univ \ M.view.set]{q} f
/-- A cell at zero. -/
abbrev cell (c : Dev nD) (s : DmaSems sig S_) : sProp 𝕄 := semVal ((c : Thread nD τ), SemLoc.dma s.sem) 0

/-- The read shares of the arrays, one for each cell. -/
abbrev qg (s : Fin 4) : PosShare TreeShare := Transfers.shareTokN fullShare s.val
abbrev qu (s : Fin 4) : PosShare TreeShare := Transfers.shareTokN fullShare (4 + s.val)
abbrev qd (s : Fin 4) : PosShare TreeShare := Transfers.shareTokN fullShare s.val
abbrev qsg (s : Fin 2) : PosShare TreeShare := Transfers.shareTokN fullShare s.val
abbrev qse (s : Fin 2) : PosShare TreeShare := Transfers.shareTokN fullShare s.val

section Pieces
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))

theorem act_inb (i : ℕ) : ∀ a, (![i % 4] : Fin 1 → ℕ) a + S1.size a ≤ S4.size a := by
  have := Nat.mod_lt i (show 0 < 4 by decide)
  intro a; fin_cases a; show i % 4 + 1 ≤ 4; omega
/-- Word `i` of the table of active experts. -/
def wrd (i : ℕ) : BitVec 32 :=
  actM.view.readAt (Elt F) (Rect.unit (s := S4) ![i % 4] S1.size (act_inb i)).toLoadRect fa (Shape.Idx.first (numel1_S1.symm ▸ Nat.one_pos))
theorem readAt_act {off : Fin 1 → ℕ} {i : ℕ} (e : off = ![i]) (hi : i < 4) (h) (x) :
    actM.view.readAt (Elt F) (Rect.unit (s := S4) off S1.size h).toLoadRect fa x = wrd c fa i := by
  have e' : off = ![i % 4] := by rw [e, Nat.mod_eq_of_lt hi]
  subst e'
  have hx : x = Shape.Idx.first (numel1_S1.symm ▸ Nat.one_pos) := by
    funext a; fin_cases a; exact Subsingleton.elim (α := Fin 1) _ _
  rw [hx]; rfl
/-- The expert of step `s`. -/
def ex (s : ℕ) : Fin 4 := Fin.ofNat 4 (wrd c fa (s / 8)).toNat
/-- The expert of segment `i`. -/
def exS (i : ℕ) : Fin 4 := Fin.ofNat 4 (wrd c fa i).toNat

/-- The table's words name experts, up to the count. -/
def ActOK (n : ℕ) : Prop := ∀ i, i < n → (wrd c fa i).toNat < 4

/-- What is transferred into a slot at step `s`. -/
def gPay (s : ℕ) : S2560x256.Idx → Elt F .i8 := ReadAs.same.apply ((gB (ex c fa s) (Ring.sl 8 s)).view.read (Elt F) X3)
/-- The slot as that leaves it. -/
abbrev gLand (s : ℕ) (f : Buf (Elt F) ((gS (Ring.sl 4 s)).view.loc (c : Thread nD τ))) : Buf (Elt F) ((gS (Ring.sl 4 s)).view.loc (c : Thread nD τ)) :=
  (gS (Ring.sl 4 s)).view.writes (Elt F) f [⟨Rect.whole S2560x256, gPay c X3 fa s⟩]
/-- The slot in flight. -/
def gFly (s : ℕ) : sProp 𝕄 :=
  iprop((∃ f, Transfers.Flight countersEmb (c : Thread nD τ) (SemLoc.dma (gC (Ring.sl 4 s)).sem) () 20480
      iprop(own c (gS (Ring.sl 4 s)) fullShare (gLand c X3 fa s f) ∗ own c (gB (ex c fa s) (Ring.sl 8 s)) (qg (Ring.sl 4 s)) X3)) ∗ oth c (gB (ex c fa s) (Ring.sl 8 s)) (qg (Ring.sl 4 s)) X3)
/-- The slot free: at any contents, its cell at zero, its read share of the array. -/
def gFree (k : Fin 4) : sProp 𝕄 :=
  iprop((∃ f, own c (gS k) fullShare f) ∗ cell c (gC k) ∗ wguM.view.loc (c : Thread nD τ) ↦{qg k} X3)
/-- The slot delivered. -/
def gReady (s : ℕ) : sProp 𝕄 :=
  iprop(own c (gS (Ring.sl 4 s)) fullShare (gLand c X3 fa s (gS (Ring.sl 4 s)).view.junk) ∗ cell c (gC (Ring.sl 4 s)) ∗ wguM.view.loc (c : Thread nD τ) ↦{qg (Ring.sl 4 s)} X3)

theorem g_join (s : ℕ) (q : PosShare TreeShare) : iprop(own c (gB (ex c fa s) (Ring.sl 8 s)) q X3 ∗ oth c (gB (ex c fa s) (Ring.sl 8 s)) q X3) ⊢ (wguM.view.loc (c : Thread nD τ) ↦{q} X3 : sProp 𝕄) :=
  (pointsTo_split_subset (Finset.subset_univ _)).2
theorem g_land_junk (s : ℕ) (f) : (own c (gS (Ring.sl 4 s)) fullShare (gLand c X3 fa s f) : sProp 𝕄) = own c (gS (Ring.sl 4 s)) fullShare (gLand c X3 fa s (gS (Ring.sl 4 s)).view.junk) :=
  Memref.pointsTo_writes_junk_of_covChk (c : Thread nD τ) (gS (Ring.sl 4 s)) f _ fullShare (.leaf 0) (by show LoadRect.covChk [Rect.whole S2560x256] _ _ = true; decide)
theorem g_free_of_ready (s : ℕ) : gReady c X3 fa s ⊢ (gFree c X3 (Ring.sl 4 s) : sProp 𝕄) := by
  unfold gReady gFree
  iintro ⟨H1, H2, H3⟩
  isplitl [H1]; · iexists _; iexact H1
  isplitl [H2] <;> iassumption
/-- What is transferred into a slot at step `s`. -/
def uPay (s : ℕ) : S2560x256.Idx → Elt F .i8 := ReadAs.same.apply ((uB (ex c fa s) (Ring.sl 8 s)).view.read (Elt F) X3)
/-- The slot as that leaves it. -/
abbrev uLand (s : ℕ) (f : Buf (Elt F) ((uS (Ring.sl 4 s)).view.loc (c : Thread nD τ))) : Buf (Elt F) ((uS (Ring.sl 4 s)).view.loc (c : Thread nD τ)) :=
  (uS (Ring.sl 4 s)).view.writes (Elt F) f [⟨Rect.whole S2560x256, uPay c X3 fa s⟩]
/-- The slot in flight. -/
def uFly (s : ℕ) : sProp 𝕄 :=
  iprop((∃ f, Transfers.Flight countersEmb (c : Thread nD τ) (SemLoc.dma (uC (Ring.sl 4 s)).sem) () 20480
      iprop(own c (uS (Ring.sl 4 s)) fullShare (uLand c X3 fa s f) ∗ own c (uB (ex c fa s) (Ring.sl 8 s)) (qu (Ring.sl 4 s)) X3)) ∗ oth c (uB (ex c fa s) (Ring.sl 8 s)) (qu (Ring.sl 4 s)) X3)
/-- The slot free: at any contents, its cell at zero, its read share of the array. -/
def uFree (k : Fin 4) : sProp 𝕄 :=
  iprop((∃ f, own c (uS k) fullShare f) ∗ cell c (uC k) ∗ wguM.view.loc (c : Thread nD τ) ↦{qu k} X3)
/-- The slot delivered. -/
def uReady (s : ℕ) : sProp 𝕄 :=
  iprop(own c (uS (Ring.sl 4 s)) fullShare (uLand c X3 fa s (uS (Ring.sl 4 s)).view.junk) ∗ cell c (uC (Ring.sl 4 s)) ∗ wguM.view.loc (c : Thread nD τ) ↦{qu (Ring.sl 4 s)} X3)

theorem u_join (s : ℕ) (q : PosShare TreeShare) : iprop(own c (uB (ex c fa s) (Ring.sl 8 s)) q X3 ∗ oth c (uB (ex c fa s) (Ring.sl 8 s)) q X3) ⊢ (wguM.view.loc (c : Thread nD τ) ↦{q} X3 : sProp 𝕄) :=
  (pointsTo_split_subset (Finset.subset_univ _)).2
theorem u_land_junk (s : ℕ) (f) : (own c (uS (Ring.sl 4 s)) fullShare (uLand c X3 fa s f) : sProp 𝕄) = own c (uS (Ring.sl 4 s)) fullShare (uLand c X3 fa s (uS (Ring.sl 4 s)).view.junk) :=
  Memref.pointsTo_writes_junk_of_covChk (c : Thread nD τ) (uS (Ring.sl 4 s)) f _ fullShare (.leaf 0) (by show LoadRect.covChk [Rect.whole S2560x256] _ _ = true; decide)
theorem u_free_of_ready (s : ℕ) : uReady c X3 fa s ⊢ (uFree c X3 (Ring.sl 4 s) : sProp 𝕄) := by
  unfold uReady uFree
  iintro ⟨H1, H2, H3⟩
  isplitl [H1]; · iexists _; iexact H1
  isplitl [H2] <;> iassumption
/-- What is transferred into a slot at step `s`. -/
def dPay (s : ℕ) : S128x5120.Idx → Elt F .i8 := ReadAs.same.apply ((dB (ex c fa s) (Ring.sl 8 s)).view.read (Elt F) X5)
/-- The slot as that leaves it. -/
abbrev dLand (s : ℕ) (f : Buf (Elt F) ((dS (Ring.sl 4 s)).view.loc (c : Thread nD τ))) : Buf (Elt F) ((dS (Ring.sl 4 s)).view.loc (c : Thread nD τ)) :=
  (dS (Ring.sl 4 s)).view.writes (Elt F) f [⟨Rect.whole S128x5120, dPay c X5 fa s⟩]
/-- The slot in flight. -/
def dFly (s : ℕ) : sProp 𝕄 :=
  iprop((∃ f, Transfers.Flight countersEmb (c : Thread nD τ) (SemLoc.dma (dC (Ring.sl 4 s)).sem) () 20480
      iprop(own c (dS (Ring.sl 4 s)) fullShare (dLand c X5 fa s f) ∗ own c (dB (ex c fa s) (Ring.sl 8 s)) (qd (Ring.sl 4 s)) X5)) ∗ oth c (dB (ex c fa s) (Ring.sl 8 s)) (qd (Ring.sl 4 s)) X5)
/-- The slot free: at any contents, its cell at zero, its read share of the array. -/
def dFree (k : Fin 4) : sProp 𝕄 :=
  iprop((∃ f, own c (dS k) fullShare f) ∗ cell c (dC k) ∗ wdM.view.loc (c : Thread nD τ) ↦{qd k} X5)
/-- The slot delivered. -/
def dReady (s : ℕ) : sProp 𝕄 :=
  iprop(own c (dS (Ring.sl 4 s)) fullShare (dLand c X5 fa s (dS (Ring.sl 4 s)).view.junk) ∗ cell c (dC (Ring.sl 4 s)) ∗ wdM.view.loc (c : Thread nD τ) ↦{qd (Ring.sl 4 s)} X5)

theorem d_join (s : ℕ) (q : PosShare TreeShare) : iprop(own c (dB (ex c fa s) (Ring.sl 8 s)) q X5 ∗ oth c (dB (ex c fa s) (Ring.sl 8 s)) q X5) ⊢ (wdM.view.loc (c : Thread nD τ) ↦{q} X5 : sProp 𝕄) :=
  (pointsTo_split_subset (Finset.subset_univ _)).2
theorem d_land_junk (s : ℕ) (f) : (own c (dS (Ring.sl 4 s)) fullShare (dLand c X5 fa s f) : sProp 𝕄) = own c (dS (Ring.sl 4 s)) fullShare (dLand c X5 fa s (dS (Ring.sl 4 s)).view.junk) :=
  Memref.pointsTo_writes_junk_of_covChk (c : Thread nD τ) (dS (Ring.sl 4 s)) f _ fullShare (.leaf 0) (by show LoadRect.covChk [Rect.whole S128x5120] _ _ = true; decide)
theorem d_free_of_ready (s : ℕ) : dReady c X5 fa s ⊢ (dFree c X5 (Ring.sl 4 s) : sProp 𝕄) := by
  unfold dReady dFree
  iintro ⟨H1, H2, H3⟩
  isplitl [H1]; · iexists _; iexact H1
  isplitl [H2] <;> iassumption
/-- What is transferred into a slot at segment `s`. -/
def sgPay (s : ℕ) : S40x4096.Idx → Elt F .bf16 := ReadAs.same.apply ((sgB (exS c fa s)).view.read (Elt F) X4)
/-- The slot as that leaves it. -/
abbrev sgLand (s : ℕ) (f : Buf (Elt F) ((sgS (Ring.sl 2 s)).view.loc (c : Thread nD τ))) : Buf (Elt F) ((sgS (Ring.sl 2 s)).view.loc (c : Thread nD τ)) :=
  (sgS (Ring.sl 2 s)).view.writes (Elt F) f [⟨Rect.whole S40x4096, sgPay c X4 fa s⟩]
/-- The slot in flight. -/
def sgFly (s : ℕ) : sProp 𝕄 :=
  iprop((∃ f, Transfers.Flight countersEmb (c : Thread nD τ) (SemLoc.dma (sgC (Ring.sl 2 s)).sem) () 10240
      iprop(own c (sgS (Ring.sl 2 s)) fullShare (sgLand c X4 fa s f) ∗ own c (sgB (exS c fa s)) (qsg (Ring.sl 2 s)) X4)) ∗ oth c (sgB (exS c fa s)) (qsg (Ring.sl 2 s)) X4)
/-- The slot free: at any contents, its cell at zero, its read share of the array. -/
def sgFree (k : Fin 2) : sProp 𝕄 :=
  iprop((∃ f, own c (sgS k) fullShare f) ∗ cell c (sgC k) ∗ sguM.view.loc (c : Thread nD τ) ↦{qsg k} X4)
/-- The slot delivered. -/
def sgReady (s : ℕ) : sProp 𝕄 :=
  iprop(own c (sgS (Ring.sl 2 s)) fullShare (sgLand c X4 fa s (sgS (Ring.sl 2 s)).view.junk) ∗ cell c (sgC (Ring.sl 2 s)) ∗ sguM.view.loc (c : Thread nD τ) ↦{qsg (Ring.sl 2 s)} X4)

theorem sg_join (s : ℕ) (q : PosShare TreeShare) : iprop(own c (sgB (exS c fa s)) q X4 ∗ oth c (sgB (exS c fa s)) q X4) ⊢ (sguM.view.loc (c : Thread nD τ) ↦{q} X4 : sProp 𝕄) :=
  (pointsTo_split_subset (Finset.subset_univ _)).2
theorem sg_land_junk (s : ℕ) (f) : (own c (sgS (Ring.sl 2 s)) fullShare (sgLand c X4 fa s f) : sProp 𝕄) = own c (sgS (Ring.sl 2 s)) fullShare (sgLand c X4 fa s (sgS (Ring.sl 2 s)).view.junk) :=
  Memref.pointsTo_writes_junk_of_covChk (c : Thread nD τ) (sgS (Ring.sl 2 s)) f _ fullShare (.leaf 0) (by show LoadRect.covChk [Rect.whole S40x4096] _ _ = true; decide)
theorem sg_free_of_ready (s : ℕ) : sgReady c X4 fa s ⊢ (sgFree c X4 (Ring.sl 2 s) : sProp 𝕄) := by
  unfold sgReady sgFree
  iintro ⟨H1, H2, H3⟩
  isplitl [H1]; · iexists _; iexact H1
  isplitl [H2] <;> iassumption
/-- What is transferred into a slot at segment `s`. -/
def sePay (s : ℕ) : S16x5120.Idx → Elt F .bf16 := ReadAs.same.apply ((seB (exS c fa s)).view.read (Elt F) X6)
/-- The slot as that leaves it. -/
abbrev seLand (s : ℕ) (f : Buf (Elt F) ((seS (Ring.sl 2 s)).view.loc (c : Thread nD τ))) : Buf (Elt F) ((seS (Ring.sl 2 s)).view.loc (c : Thread nD τ)) :=
  (seS (Ring.sl 2 s)).view.writes (Elt F) f [⟨Rect.whole S16x5120, sePay c X6 fa s⟩]
/-- The slot in flight. -/
def seFly (s : ℕ) : sProp 𝕄 :=
  iprop((∃ f, Transfers.Flight countersEmb (c : Thread nD τ) (SemLoc.dma (seC (Ring.sl 2 s)).sem) () 5120
      iprop(own c (seS (Ring.sl 2 s)) fullShare (seLand c X6 fa s f) ∗ own c (seB (exS c fa s)) (qse (Ring.sl 2 s)) X6)) ∗ oth c (seB (exS c fa s)) (qse (Ring.sl 2 s)) X6)
/-- The slot free: at any contents, its cell at zero, its read share of the array. -/
def seFree (k : Fin 2) : sProp 𝕄 :=
  iprop((∃ f, own c (seS k) fullShare f) ∗ cell c (seC k) ∗ sdM.view.loc (c : Thread nD τ) ↦{qse k} X6)
/-- The slot delivered. -/
def seReady (s : ℕ) : sProp 𝕄 :=
  iprop(own c (seS (Ring.sl 2 s)) fullShare (seLand c X6 fa s (seS (Ring.sl 2 s)).view.junk) ∗ cell c (seC (Ring.sl 2 s)) ∗ sdM.view.loc (c : Thread nD τ) ↦{qse (Ring.sl 2 s)} X6)

theorem se_join (s : ℕ) (q : PosShare TreeShare) : iprop(own c (seB (exS c fa s)) q X6 ∗ oth c (seB (exS c fa s)) q X6) ⊢ (sdM.view.loc (c : Thread nD τ) ↦{q} X6 : sProp 𝕄) :=
  (pointsTo_split_subset (Finset.subset_univ _)).2
theorem se_land_junk (s : ℕ) (f) : (own c (seS (Ring.sl 2 s)) fullShare (seLand c X6 fa s f) : sProp 𝕄) = own c (seS (Ring.sl 2 s)) fullShare (seLand c X6 fa s (seS (Ring.sl 2 s)).view.junk) :=
  Memref.pointsTo_writes_junk_of_covChk (c : Thread nD τ) (seS (Ring.sl 2 s)) f _ fullShare (.leaf 0) (by show LoadRect.covChk [Rect.whole S16x5120] _ _ = true; decide)
theorem se_free_of_ready (s : ℕ) : seReady c X6 fa s ⊢ (seFree c X6 (Ring.sl 2 s) : sProp 𝕄) := by
  unfold seReady seFree
  iintro ⟨H1, H2, H3⟩
  isplitl [H1]; · iexists _; iexact H1
  isplitl [H2] <;> iassumption
/-- A transfer just sent for, its block's expert read from the table. -/
theorem gFly_intro (s : ℕ) {w : BitVec 32} (hw : w = wrd c fa (s / 8)) (f : Buf (Elt F) ((gS (Ring.sl 4 s)).view.loc (c : Thread nD τ))) :
    iprop(Transfers.Flight countersEmb (c : Thread nD τ) (SemLoc.dma (gC (Ring.sl 4 s)).sem) () 20480
      iprop(own c (gS (Ring.sl 4 s)) fullShare ((gS (Ring.sl 4 s)).view.writes (Elt F) f [⟨Rect.whole S2560x256, ReadAs.same.apply ((gB (Fin.ofNat 4 w.toNat) (Ring.sl 8 s)).view.read (Elt F) X3)⟩])
        ∗ own c (gB (Fin.ofNat 4 w.toNat) (Ring.sl 8 s)) (qg (Ring.sl 4 s)) X3) ∗ oth c (gB (Fin.ofNat 4 w.toNat) (Ring.sl 8 s)) (qg (Ring.sl 4 s)) X3) ⊢ gFly c X3 fa s := by
  subst hw
  unfold gFly gLand gPay ex
  iintro ⟨H1, H2⟩
  isplitl [H1]; · iexists f; iexact H1
  iexact H2
/-- A transfer just sent for, its block's expert read from the table. -/
theorem uFly_intro (s : ℕ) {w : BitVec 32} (hw : w = wrd c fa (s / 8)) (f : Buf (Elt F) ((uS (Ring.sl 4 s)).view.loc (c : Thread nD τ))) :
    iprop(Transfers.Flight countersEmb (c : Thread nD τ) (SemLoc.dma (uC (Ring.sl 4 s)).sem) () 20480
      iprop(own c (uS (Ring.sl 4 s)) fullShare ((uS (Ring.sl 4 s)).view.writes (Elt F) f [⟨Rect.whole S2560x256, ReadAs.same.apply ((uB (Fin.ofNat 4 w.toNat) (Ring.sl 8 s)).view.read (Elt F) X3)⟩])
        ∗ own c (uB (Fin.ofNat 4 w.toNat) (Ring.sl 8 s)) (qu (Ring.sl 4 s)) X3) ∗ oth c (uB (Fin.ofNat 4 w.toNat) (Ring.sl 8 s)) (qu (Ring.sl 4 s)) X3) ⊢ uFly c X3 fa s := by
  subst hw
  unfold uFly uLand uPay ex
  iintro ⟨H1, H2⟩
  isplitl [H1]; · iexists f; iexact H1
  iexact H2
/-- A transfer just sent for, its block's expert read from the table. -/
theorem dFly_intro (s : ℕ) {w : BitVec 32} (hw : w = wrd c fa (s / 8)) (f : Buf (Elt F) ((dS (Ring.sl 4 s)).view.loc (c : Thread nD τ))) :
    iprop(Transfers.Flight countersEmb (c : Thread nD τ) (SemLoc.dma (dC (Ring.sl 4 s)).sem) () 20480
      iprop(own c (dS (Ring.sl 4 s)) fullShare ((dS (Ring.sl 4 s)).view.writes (Elt F) f [⟨Rect.whole S128x5120, ReadAs.same.apply ((dB (Fin.ofNat 4 w.toNat) (Ring.sl 8 s)).view.read (Elt F) X5)⟩])
        ∗ own c (dB (Fin.ofNat 4 w.toNat) (Ring.sl 8 s)) (qd (Ring.sl 4 s)) X5) ∗ oth c (dB (Fin.ofNat 4 w.toNat) (Ring.sl 8 s)) (qd (Ring.sl 4 s)) X5) ⊢ dFly c X5 fa s := by
  subst hw
  unfold dFly dLand dPay ex
  iintro ⟨H1, H2⟩
  isplitl [H1]; · iexists f; iexact H1
  iexact H2
/-- A transfer just sent for, its block's expert read from the table. -/
theorem sgFly_intro (s : ℕ) {w : BitVec 32} (hw : w = wrd c fa (s)) (f : Buf (Elt F) ((sgS (Ring.sl 2 s)).view.loc (c : Thread nD τ))) :
    iprop(Transfers.Flight countersEmb (c : Thread nD τ) (SemLoc.dma (sgC (Ring.sl 2 s)).sem) () 10240
      iprop(own c (sgS (Ring.sl 2 s)) fullShare ((sgS (Ring.sl 2 s)).view.writes (Elt F) f [⟨Rect.whole S40x4096, ReadAs.same.apply ((sgB (Fin.ofNat 4 w.toNat)).view.read (Elt F) X4)⟩])
        ∗ own c (sgB (Fin.ofNat 4 w.toNat)) (qsg (Ring.sl 2 s)) X4) ∗ oth c (sgB (Fin.ofNat 4 w.toNat)) (qsg (Ring.sl 2 s)) X4) ⊢ sgFly c X4 fa s := by
  subst hw
  unfold sgFly sgLand sgPay exS
  iintro ⟨H1, H2⟩
  isplitl [H1]; · iexists f; iexact H1
  iexact H2
/-- A transfer just sent for, its block's expert read from the table. -/
theorem seFly_intro (s : ℕ) {w : BitVec 32} (hw : w = wrd c fa (s)) (f : Buf (Elt F) ((seS (Ring.sl 2 s)).view.loc (c : Thread nD τ))) :
    iprop(Transfers.Flight countersEmb (c : Thread nD τ) (SemLoc.dma (seC (Ring.sl 2 s)).sem) () 5120
      iprop(own c (seS (Ring.sl 2 s)) fullShare ((seS (Ring.sl 2 s)).view.writes (Elt F) f [⟨Rect.whole S16x5120, ReadAs.same.apply ((seB (Fin.ofNat 4 w.toNat)).view.read (Elt F) X6)⟩])
        ∗ own c (seB (Fin.ofNat 4 w.toNat)) (qse (Ring.sl 2 s)) X6) ∗ oth c (seB (Fin.ofNat 4 w.toNat)) (qse (Ring.sl 2 s)) X6) ⊢ seFly c X6 fa s := by
  subst hw
  unfold seFly seLand sePay exS
  iintro ⟨H1, H2⟩
  isplitl [H1]; · iexists f; iexact H1
  iexact H2
end Pieces

end Cert.Proof.Kernel
-- ==== Proof.Moves.lean ====
/-
  The transfers of one step: at a segment's first step the next segment's scales are sent for and this one's awaited;
  at every step the step's three weight blocks are awaited and those of the third step after it sent for.
-/
module

public import proofs.«01_k».proof.Proof.Pieces

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Moves
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)

theorem i_lt : t.val / 8 < v.toNat := by have h1 := t.isLt; have h2 := trips_eq v; omega

/-- The scales of segment `i`, if there is one: on their way, else the slot free. -/
def sgAt (i : ℕ) : sProp 𝕄 := if i < v.toNat then sgFly c X4 fa i else sgFree c X4 (Ring.sl 2 i)
def seAt (i : ℕ) : sProp 𝕄 := if i < v.toNat then seFly c X6 fa i else seFree c X6 (Ring.sl 2 i)
/-- The weight blocks of step `s`, if there is one: on their way, else the slot free. -/
def gAt (s : ℕ) : sProp 𝕄 := if s < 8 * v.toNat then gFly c X3 fa s else gFree c X3 (Ring.sl 4 s)
def uAt (s : ℕ) : sProp 𝕄 := if s < 8 * v.toNat then uFly c X3 fa s else uFree c X3 (Ring.sl 4 s)
def dAt (s : ℕ) : sProp 𝕄 := if s < 8 * v.toNat then dFly c X5 fa s else dFree c X5 (Ring.sl 4 s)

theorem part4_run (hA : ActOK c fa v.toNat) (a21 : BitVec 32) (h5 : k0_cond5 v t = 1#1) (W : Waits sig Unit) :
    iprop(own c actM fullShare fa ∗ owes (c : Thread nD τ) 0 W
      ∗ sgFly c X4 fa (t.val / 8) ∗ seFly c X6 fa (t.val / 8) ∗ sgFree c X4 (Ring.sl 2 (t.val / 8 + 1)) ∗ seFree c X6 (Ring.sl 2 (t.val / 8 + 1)))
    ⊢ wp frame (wpE (defs₀ (F := F)) 𝒱₀ (c : Thread nD τ) none) Set.univ
        (k0_part4 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw t a21 h5)
        (fun _ => iprop(own c actM fullShare fa ∗ (∃ W, owes (c : Thread nD τ) 0 W)
          ∗ sgReady c X4 fa (t.val / 8) ∗ seReady c X6 fa (t.val / 8) ∗ sgAt c X4 fa v (t.val / 8 + 1) ∗ seAt c X6 fa v (t.val / 8 + 1))) := by
  have hi := i_lt v t
  have hF := (inferInstance : Fact (v.toNat ≤ 4)).out
  have h8 : ∀ h x, k0_chk8 v t (actM.view.readAt (Elt F) (Rect.unit (s := S4) (k0_off20 v t) S1.size h).toLoadRect fa x) := fun h x => by
    rw [readAt_act c fa (off20_eq v t) (by omega) h x]; exact chk8_of v t _ (hA _ (by omega))
  by_cases h6 : k0_cond6 v t = 1#1
  · have hi1 := (cond6_iff v t).1 h6
    have h7 : ∀ h x, k0_chk7 v t (actM.view.readAt (Elt F) (Rect.unit (s := S4) (k0_off13 v t) S1.size h).toLoadRect fa x) := fun h x => by
      rw [readAt_act c fa (off13_eq v t) (by omega) h x]; exact chk7_of v t _ (hA _ (by omega))
    unfold sgFly seFly sgFree seFree
    iintro ⟨Ha, HW, ⟨⟨%fg, HG⟩, HG'⟩, ⟨⟨%fe, HE⟩, HE'⟩, ⟨⟨%gg, Sg⟩, Cg, Tg⟩, ⟨⟨%ge, Se⟩, Ce, Te⟩⟩
    sl_unfold [k0_part4]
    sl_exec (disch := first | exact h7 _ _ | exact h8 _ _)
    sl_step
    isplitl [Ha]; · iexact Ha
    isplitl [HW]; · iexists _; iexact HW
    isplitl [HG_dst HG' HG]
    · unfold sgReady; rw [← sg_land_junk c X4 fa _ fg]
      isplitl [HG_dst]; · iexact HG_dst
      isplitl [HG]; · iexact HG
      iexact HG'
    isplitl [HE_dst HE' HE]
    · unfold seReady; rw [← se_land_junk c X6 fa _ fe]
      isplitl [HE_dst]; · iexact HE_dst
      isplitl [HE]; · iexact HE
      iexact HE'
    unfold sgAt seAt; rw [if_pos hi1, if_pos hi1]
    isplitl [Cg Tg]
    · iapply (sgFly_intro c X4 fa (t.val / 8 + 1) (readAt_act c fa (off13_eq v t) (by omega) _ _) gg)
      isplitl [Cg]; · iexact Cg
      iexact Tg
    · iapply (seFly_intro c X6 fa (t.val / 8 + 1) (readAt_act c fa (off13_eq v t) (by omega) _ _) ge)
      isplitl [Ce]; · iexact Ce
      iexact Te
  · have hi1 := fun h => h6 ((cond6_iff v t).2 h)
    unfold sgFly seFly
    iintro ⟨Ha, HW, ⟨⟨%fg, HG⟩, HG'⟩, ⟨⟨%fe, HE⟩, HE'⟩, Sg, Se⟩
    sl_unfold [k0_part4]
    sl_exec (disch := first | exact h8 _ _)
    sl_step
    isplitl [Ha]; · iexact Ha
    isplitl [HW]; · iexists _; iexact HW
    isplitl [HG_dst HG' HG]
    · unfold sgReady; rw [← sg_land_junk c X4 fa _ fg]
      isplitl [HG_dst]; · iexact HG_dst
      isplitl [HG]; · iexact HG
      iexact HG'
    isplitl [HE_dst HE' HE]
    · unfold seReady; rw [← se_land_junk c X6 fa _ fe]
      isplitl [HE_dst]; · iexact HE_dst
      isplitl [HE]; · iexact HE
      iexact HE'
    unfold sgAt seAt; rw [if_neg hi1, if_neg hi1]
    isplitl [Sg]; · iexact Sg
    iexact Se

theorem part24_run (hA : ActOK c fa v.toNat) (a1 a2 a3 a4 a5 a6 : BitVec 32) :
    (own c actM fullShare fa : sProp 𝕄)
    ⊢ wp frame (wpE (defs₀ (F := F)) 𝒱₀ (c : Thread nD τ) none) Set.univ
        (k0_part24 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw t a1 a2 a3 a4 a5 a6)
        (fun _ => own c actM fullShare fa) := by
  have hi := i_lt v t
  have hF := (inferInstance : Fact (v.toNat ≤ 4)).out
  have h9 : ∀ h x, k0_chk9 v t (actM.view.readAt (Elt F) (Rect.unit (s := S4) (k0_off29 v t) S1.size h).toLoadRect fa x) := fun h x => by
    rw [readAt_act c fa (off29_eq v t) (by omega) h x]; exact chk9_of v t _ (hA _ (by omega))
  iintro Ha
  sl_unfold [k0_part24]
  sl_exec (disch := exact h9 _ _)
  sl_step
  iexact Ha

theorem part25_run (hA : ActOK c fa v.toNat) (v2 a21 : BitVec 32) (w : BitVec 32) (hw9 : k0_chk9 v t w) (W : Waits sig Unit) :
    iprop(own c actM fullShare fa ∗ owes (c : Thread nD τ) 0 W
      ∗ gFly c X3 fa t.val ∗ uFly c X3 fa t.val ∗ dFly c X5 fa t.val
      ∗ gFree c X3 (Ring.sl 4 (t.val + 3)) ∗ uFree c X3 (Ring.sl 4 (t.val + 3)) ∗ dFree c X5 (Ring.sl 4 (t.val + 3)))
    ⊢ wp frame (wpE (defs₀ (F := F)) 𝒱₀ (c : Thread nD τ) none) Set.univ
        (k0_part25 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw v2 t a21 w hw9)
        (fun _ => iprop(own c actM fullShare fa ∗ (∃ W, owes (c : Thread nD τ) 0 W)
          ∗ gReady c X3 fa t.val ∗ uReady c X3 fa t.val ∗ dReady c X5 fa t.val
          ∗ gAt c X3 fa v (t.val + 3) ∗ uAt c X3 fa v (t.val + 3) ∗ dAt c X5 fa v (t.val + 3))) := by
  have hi := i_lt v t
  have hF := (inferInstance : Fact (v.toNat ≤ 4)).out
  by_cases h7 : k0_cond7 v t = 1#1
  · have hi1 := (cond7_iff v t).1 h7
    have h10 : ∀ h x, k0_chk10 v t (actM.view.readAt (Elt F) (Rect.unit (s := S4) (k0_off39 v t) S1.size h).toLoadRect fa x) := fun h x => by
      rw [readAt_act c fa (off39_eq v t) (by omega) h x]; exact chk10_of v t _ (hA _ (by omega))
    unfold gFly uFly dFly gFree uFree dFree
    iintro ⟨Ha, HW, ⟨⟨%fg, HG⟩, HG'⟩, ⟨⟨%fu, HU⟩, HU'⟩, ⟨⟨%fd, HD⟩, HD'⟩, ⟨⟨%gg, Sg⟩, Cg, Tg⟩, ⟨⟨%gu, Su⟩, Cu, Tu⟩, ⟨⟨%gd, Sd⟩, Cd, Td⟩⟩
    sl_unfold [k0_part25]
    sl_exec (disch := exact h10 _ _)
    sl_step
    isplitl [Ha]; · iexact Ha
    isplitl [HW]; · iexists _; iexact HW
    isplitl [HG_dst HG' HG]
    · unfold gReady; rw [← g_land_junk c X3 fa _ fg]
      isplitl [HG_dst]; · iexact HG_dst
      isplitl [HG]; · iexact HG
      iexact HG'
    isplitl [HU_dst HU' HU]
    · unfold uReady; rw [← u_land_junk c X3 fa _ fu]
      isplitl [HU_dst]; · iexact HU_dst
      isplitl [HU]; · iexact HU
      iexact HU'
    isplitl [HD_dst HD' HD]
    · unfold dReady; rw [← d_land_junk c X5 fa _ fd]
      isplitl [HD_dst]; · iexact HD_dst
      isplitl [HD]; · iexact HD
      iexact HD'
    unfold gAt uAt dAt; rw [if_pos hi1, if_pos hi1, if_pos hi1]
    isplitl [Cg Tg]
    · iapply (gFly_intro c X3 fa (t.val + 3) (readAt_act c fa (off39_eq v t) (by omega) _ _) gg)
      isplitl [Cg]; · iexact Cg
      iexact Tg
    isplitl [Cu Tu]
    · iapply (uFly_intro c X3 fa (t.val + 3) (readAt_act c fa (off39_eq v t) (by omega) _ _) gu)
      isplitl [Cu]; · iexact Cu
      iexact Tu
    · iapply (dFly_intro c X5 fa (t.val + 3) (readAt_act c fa (off39_eq v t) (by omega) _ _) gd)
      isplitl [Cd]; · iexact Cd
      iexact Td
  · have hi1 := fun h => h7 ((cond7_iff v t).2 h)
    unfold gFly uFly dFly
    iintro ⟨Ha, HW, ⟨⟨%fg, HG⟩, HG'⟩, ⟨⟨%fu, HU⟩, HU'⟩, ⟨⟨%fd, HD⟩, HD'⟩, Sg, Su, Sd⟩
    sl_unfold [k0_part25]
    sl_exec
    sl_step
    isplitl [Ha]; · iexact Ha
    isplitl [HW]; · iexists _; iexact HW
    isplitl [HG_dst HG' HG]
    · unfold gReady; rw [← g_land_junk c X3 fa _ fg]
      isplitl [HG_dst]; · iexact HG_dst
      isplitl [HG]; · iexact HG
      iexact HG'
    isplitl [HU_dst HU' HU]
    · unfold uReady; rw [← u_land_junk c X3 fa _ fu]
      isplitl [HU_dst]; · iexact HU_dst
      isplitl [HU]; · iexact HU
      iexact HU'
    isplitl [HD_dst HD' HD]
    · unfold dReady; rw [← d_land_junk c X5 fa _ fd]
      isplitl [HD_dst]; · iexact HD_dst
      isplitl [HD]; · iexact HD
      iexact HD'
    unfold gAt uAt dAt; rw [if_neg hi1, if_neg hi1, if_neg hi1]
    isplitl [Sg]; · iexact Sg
    isplitl [Su]; · iexact Su
    iexact Sd
end Moves

end Cert.Proof.Kernel
-- ==== Proof.Trip.lean ====
/-
  One step of the kernel: the scales widened at a segment's first step, the three blocks' partial products, and at a
  segment's last step the expert's rows added to the accumulator.
-/
module

public import proofs.«01_k».proof.Proof.Moves

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 400000

section Trip
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)

abbrev RSg : Rect S40x4096 := Rect.unit (s := S40x4096) ![0, 0] S40x4096.size inb_S40x4096_S40x4096_0_0
abbrev RSd : Rect S16x5120 := Rect.unit (s := S16x5120) ![0, 0] S16x5120.size inb_S16x5120_S16x5120_0_0

set_option backward.proofsInPublic true in
/-- A segment's first step: the scales awaited and widened, the running sum cleared. -/
def part23_run (hA : ActOK c fa v.toNat) (h5 : k0_cond5 v t = 1#1)
    (fs : Buf (Elt F) (sgwM.view.loc (c : Thread nD τ))) (fd : Buf (Elt F) (sdwM.view.loc (c : Thread nD τ))) (fy : Buf (Elt F) (yM.view.loc (c : Thread nD τ))) (c0 c1 : BitVec 32) :
    { w : List (View.Piece (Elt F) S40x4096 .f32) × List (View.Piece (Elt F) S16x5120 .f32) × List (View.Piece (Elt F) S16x5120 .f32) // ∀ W,
    iprop(own c actM fullShare fa ∗ owes (c : Thread nD τ) 0 W
      ∗ sgFly c X4 fa (t.val / 8) ∗ seFly c X6 fa (t.val / 8) ∗ sgFree c X4 (Ring.sl 2 (t.val / 8 + 1)) ∗ seFree c X6 (Ring.sl 2 (t.val / 8 + 1))
      ∗ own c sgwM fullShare fs ∗ own c sdwM fullShare fd ∗ own c yM fullShare fy)
    ⊢ wp frame (wpE (defs₀ (F := F)) 𝒱₀ (c : Thread nD τ) none) Set.univ
        (k0_part23 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw c0 c1 t)
        (fun _ => iprop(own c actM fullShare fa ∗ (∃ W, owes (c : Thread nD τ) 0 W)
          ∗ sgReady c X4 fa (t.val / 8) ∗ seReady c X6 fa (t.val / 8) ∗ sgAt c X4 fa v (t.val / 8 + 1) ∗ seAt c X6 fa v (t.val / 8 + 1)
          ∗ own c sgwM fullShare (sgwM.view.writes (Elt F) sgwM.view.junk w.1) ∗ own c sdwM fullShare (sdwM.view.writes (Elt F) sdwM.view.junk w.2.1) ∗ own c yM fullShare (yM.view.writes (Elt F) yM.view.junk w.2.2))) } := by
  refine ⟨(?a, ?b, ?d), ?run⟩
  case run =>
    dsimp only
    intro W
    iintro ⟨Ha, HW, HG, HE, Sg, Se, Hs, Hd, Hy⟩
    sl_unfold [k0_part23]
    set_option sl_exec.stopBefore "k0_part4" in sl_exec
    dsimp only
    rw [wp_bind]
    iapply (wp_wand_r Idealize.ShloMosaic.frame (wpE (defs₀ (F := F)) 𝒱₀ (c : Thread nD τ) none) Set.univ)
    isplitl [Ha HW HG HE Sg Se]
    · iapply (part4_run c X4 X6 fa arg0 harg0 arg1 harg1 arg2 harg2 arg7 harg7 v hw t hA _ h5 W)
      isplitl [Ha]; · iexact Ha
      isplitl [HW]; · iexact HW
      isplitl [HG]; · iexact HG
      isplitl [HE]; · iexact HE
      isplitl [Sg]; · iexact Sg
      iexact Se
    iintro %r ⟨Ha, ⟨%W', HW⟩, HG, HE, Sg, Se⟩
    obtain ⟨r1, r2, r3, r4⟩ := r
    unfold sgReady seReady
    icases HG with ⟨HG, HGc, HGt⟩
    icases HE with ⟨HE, HEc, HEt⟩
    dsimp only
    sl_exec!
    sl_step
    isplitl [Ha]; · iexact Ha
    isplitl [HW]; · iexists _; iexact HW
    isplitl [HG HGc HGt]
    · isplitl [HG]; · iexact HG
      isplitl [HGc] <;> iassumption
    isplitl [HE HEc HEt]
    · isplitl [HE]; · iexact HE
      isplitl [HEc] <;> iassumption
    isplitl [Sg]; · iexact Sg
    isplitl [Se]; · iexact Se
    isplitl [Hs]; · iexact Hs
    isplitl [Hd]; · iexact Hd
    iexact Hy

/-- The widened scales and the running sum a step works with: renewed at a segment's first step. -/
def sgw1 (hA : ActOK c fa v.toNat) (fs : Buf (Elt F) (sgwM.view.loc (c : Thread nD τ))) (fd : Buf (Elt F) (sdwM.view.loc (c : Thread nD τ))) (fy : Buf (Elt F) (yM.view.loc (c : Thread nD τ))) : Buf (Elt F) (sgwM.view.loc (c : Thread nD τ)) :=
  if h5 : k0_cond5 v t = 1#1 then sgwM.view.writes (Elt F) sgwM.view.junk (part23_run c X4 X6 fa arg0 harg0 arg1 harg1 arg2 harg2 arg7 harg7 v hw t hA h5 fs fd fy 0#32 1#32).1.1 else fs
def sdw1 (hA : ActOK c fa v.toNat) (fs : Buf (Elt F) (sgwM.view.loc (c : Thread nD τ))) (fd : Buf (Elt F) (sdwM.view.loc (c : Thread nD τ))) (fy : Buf (Elt F) (yM.view.loc (c : Thread nD τ))) : Buf (Elt F) (sdwM.view.loc (c : Thread nD τ)) :=
  if h5 : k0_cond5 v t = 1#1 then sdwM.view.writes (Elt F) sdwM.view.junk (part23_run c X4 X6 fa arg0 harg0 arg1 harg1 arg2 harg2 arg7 harg7 v hw t hA h5 fs fd fy 0#32 1#32).1.2.1 else fd
def y1 (hA : ActOK c fa v.toNat) (fs : Buf (Elt F) (sgwM.view.loc (c : Thread nD τ))) (fd : Buf (Elt F) (sdwM.view.loc (c : Thread nD τ))) (fy : Buf (Elt F) (yM.view.loc (c : Thread nD τ))) : Buf (Elt F) (yM.view.loc (c : Thread nD τ)) :=
  if h5 : k0_cond5 v t = 1#1 then yM.view.writes (Elt F) yM.view.junk (part23_run c X4 X6 fa arg0 harg0 arg1 harg1 arg2 harg2 arg7 harg7 v hw t hA h5 fs fd fy 0#32 1#32).1.2.2 else fy

/-- The scales before step `s`, and after its first part. -/
def scIn (s : ℕ) : sProp 𝕄 :=
  if s % 8 = 0 then iprop(sgAt c X4 fa v (s / 8) ∗ seAt c X6 fa v (s / 8) ∗ sgFree c X4 (Ring.sl 2 (s / 8 + 1)) ∗ seFree c X6 (Ring.sl 2 (s / 8 + 1)))
  else iprop(sgFree c X4 (Ring.sl 2 (s / 8)) ∗ seFree c X6 (Ring.sl 2 (s / 8)) ∗ sgAt c X4 fa v (s / 8 + 1) ∗ seAt c X6 fa v (s / 8 + 1))
def scOut (s : ℕ) : sProp 𝕄 :=
  iprop(sgFree c X4 (Ring.sl 2 (s / 8)) ∗ seFree c X6 (Ring.sl 2 (s / 8)) ∗ sgAt c X4 fa v (s / 8 + 1) ∗ seAt c X6 fa v (s / 8 + 1))

theorem part23_any (hA : ActOK c fa v.toNat)
    (fs : Buf (Elt F) (sgwM.view.loc (c : Thread nD τ))) (fd : Buf (Elt F) (sdwM.view.loc (c : Thread nD τ))) (fy : Buf (Elt F) (yM.view.loc (c : Thread nD τ))) (W : Waits sig Unit) :
    iprop(own c actM fullShare fa ∗ owes (c : Thread nD τ) 0 W ∗ scIn c X4 X6 fa v t.val
      ∗ own c sgwM fullShare fs ∗ own c sdwM fullShare fd ∗ own c yM fullShare fy)
    ⊢ wp frame (wpE (defs₀ (F := F)) 𝒱₀ (c : Thread nD τ) none) Set.univ
        (k0_part23 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw 0#32 1#32 t)
        (fun _ => iprop(own c actM fullShare fa ∗ (∃ W, owes (c : Thread nD τ) 0 W) ∗ scOut c X4 X6 fa v t.val
          ∗ own c sgwM fullShare (sgw1 c X4 X6 fa arg0 harg0 arg1 harg1 arg2 harg2 arg7 harg7 v hw t hA fs fd fy)
          ∗ own c sdwM fullShare (sdw1 c X4 X6 fa arg0 harg0 arg1 harg1 arg2 harg2 arg7 harg7 v hw t hA fs fd fy)
          ∗ own c yM fullShare (y1 c X4 X6 fa arg0 harg0 arg1 harg1 arg2 harg2 arg7 harg7 v hw t hA fs fd fy))) := by
  have hi := i_lt v t
  by_cases h5 : k0_cond5 v t = 1#1
  · have h0 := (cond5_iff v t).1 h5
    unfold scIn scOut sgw1 sdw1 y1
    rw [if_pos h0, dif_pos h5, dif_pos h5, dif_pos h5, show sgAt c X4 fa v (t.val / 8) = _ from if_pos hi, show seAt c X6 fa v (t.val / 8) = _ from if_pos hi]
    iintro ⟨Ha, HW, ⟨HG, HE, Sg, Se⟩, Hs, Hd, Hy⟩
    iapply (wp_wand_r Idealize.ShloMosaic.frame (wpE (defs₀ (F := F)) 𝒱₀ (c : Thread nD τ) none) Set.univ)
    isplitl [Ha HW HG HE Sg Se Hs Hd Hy]
    · iapply ((part23_run c X4 X6 fa arg0 harg0 arg1 harg1 arg2 harg2 arg7 harg7 v hw t hA h5 fs fd fy 0#32 1#32).2 W)
      isplitl [Ha]; · iexact Ha
      isplitl [HW]; · iexact HW
      isplitl [HG]; · iexact HG
      isplitl [HE]; · iexact HE
      isplitl [Sg]; · iexact Sg
      isplitl [Se]; · iexact Se
      isplitl [Hs]; · iexact Hs
      isplitl [Hd]; · iexact Hd
      iexact Hy
    · iintro %r ⟨Ha, HW, HG, HE, Sg, Se, Hs, Hd, Hy⟩
      isplitl [Ha]; · iexact Ha
      isplitl [HW]; · iexact HW
      isplitl [HG HE Sg Se]
      · isplitl [HG]; · iapply (sg_free_of_ready c X4 fa (t.val / 8)); iexact HG
        isplitl [HE]; · iapply (se_free_of_ready c X6 fa (t.val / 8)); iexact HE
        isplitl [Sg]; · iexact Sg
        iexact Se
      isplitl [Hs]; · iexact Hs
      isplitl [Hd]; · iexact Hd
      iexact Hy
  · have h0 := fun h => h5 ((cond5_iff v t).2 h)
    unfold scIn scOut sgw1 sdw1 y1
    rw [if_neg h0, dif_neg h5, dif_neg h5, dif_neg h5]
    iintro ⟨Ha, HW, ⟨HG, HE, Sg, Se⟩, Hs, Hd, Hy⟩
    sl_unfold [k0_part23]
    sl_exec
    sl_step
    isplitl [Ha]; · iexact Ha
    isplitl [HW]; · iexists _; iexact HW
    isplitl [HG HE Sg Se]
    · isplitl [HG]; · iexact HG
      isplitl [HE]; · iexact HE
      isplitl [Sg]; · iexact Sg
      iexact Se
    isplitl [Hs]; · iexact Hs
    isplitl [Hd]; · iexact Hd
    iexact Hy

end Trip

end Cert.Proof.Kernel
-- ==== Proof.Step.lean ====
/-
  One step of the kernel, whole.
-/
module

public import proofs.«01_k».proof.Proof.Trip

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Step
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt F) (arg0.view.loc (c : Thread nD τ))) (f1 : Buf (Elt F) (arg1.view.loc (c : Thread nD τ))) (f2 : Buf (Elt F) (arg2.view.loc (c : Thread nD τ)))

/-- What a step holds of the kernel's own buffers: scales, the products' block, the running sum, the accumulator. -/
def bufs (fs : Buf (Elt F) (sgwM.view.loc (c : Thread nD τ))) (fd : Buf (Elt F) (sdwM.view.loc (c : Thread nD τ))) (fy : Buf (Elt F) (yM.view.loc (c : Thread nD τ))) (fc : Buf (Elt F) (accM.view.loc (c : Thread nD τ))) : sProp 𝕄 :=
  iprop(own c sgwM fullShare fs ∗ own c sdwM fullShare fd ∗ (∃ fh, own c hM fullShare fh) ∗ own c yM fullShare fy ∗ own c accM fullShare fc)

set_option backward.proofsInPublic true in
def part77_run (hA : ActOK c fa v.toNat)
    (fs : Buf (Elt F) (sgwM.view.loc (c : Thread nD τ))) (fd : Buf (Elt F) (sdwM.view.loc (c : Thread nD τ))) (fy : Buf (Elt F) (yM.view.loc (c : Thread nD τ))) :
    { w : List (View.Piece (Elt F) S16x5120 .f32) × (Σ' (v1605 : Vec F S16x256 .bf16) (v2472 : FVec F S128x256 .bf16) (v2476 : FVec F S128x256 .bf16), FVec F S128x256 .bf16) // ∀ W,
    iprop(own c actM fullShare fa ∗ own c arg2 fullShare f2 ∗ owes (c : Thread nD τ) 0 W
      ∗ scIn c X4 X6 fa v t.val
      ∗ gFly c X3 fa t.val ∗ uFly c X3 fa t.val ∗ dFly c X5 fa t.val
      ∗ gFree c X3 (Ring.sl 4 (t.val + 3)) ∗ uFree c X3 (Ring.sl 4 (t.val + 3)) ∗ dFree c X5 (Ring.sl 4 (t.val + 3))
      ∗ own c sgwM fullShare fs ∗ own c sdwM fullShare fd ∗ (∃ fh, own c hM fullShare fh) ∗ own c yM fullShare fy)
    ⊢ wp frame (wpE (defs₀ (F := F)) 𝒱₀ (c : Thread nD τ) none) Set.univ
        (k0_part77 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) 0#32 1#32 t)
        (fun r => iprop(⌜r.2.2 = w.2⌝ ∗ own c actM fullShare fa ∗ own c arg2 fullShare f2 ∗ (∃ W, owes (c : Thread nD τ) 0 W)
          ∗ scOut c X4 X6 fa v t.val
          ∗ gFree c X3 (Ring.sl 4 t.val) ∗ uFree c X3 (Ring.sl 4 t.val) ∗ dFree c X5 (Ring.sl 4 t.val)
          ∗ gAt c X3 fa v (t.val + 3) ∗ uAt c X3 fa v (t.val + 3) ∗ dAt c X5 fa v (t.val + 3)
          ∗ own c sgwM fullShare (sgw1 c X4 X6 fa arg0 harg0 arg1 harg1 arg2 harg2 arg7 harg7 v hw t hA fs fd fy)
          ∗ own c sdwM fullShare (sdw1 c X4 X6 fa arg0 harg0 arg1 harg1 arg2 harg2 arg7 harg7 v hw t hA fs fd fy)
          ∗ (∃ fh, own c hM fullShare fh)
          ∗ own c yM fullShare (yM.view.writes (Elt F) (y1 c X4 X6 fa arg0 harg0 arg1 harg1 arg2 harg2 arg7 harg7 v hw t hA fs fd fy) w.1))) } := by
  refine ⟨(?a, ?b), ?run⟩
  case run =>
    dsimp only
    intro W
    iintro ⟨Ha, H2, HW, Hsc, HG, HU, HD, Sg, Su, Sd, Hs, Hd, ⟨%fh, Hh⟩, Hy⟩
    sl_unfold [k0_part77]
    unfold k0_part77_skel
    rw [wp_bind]
    iapply (wp_wand_r Idealize.ShloMosaic.frame (wpE (defs₀ (F := F)) 𝒱₀ (c : Thread nD τ) none) Set.univ)
    isplitl [Ha HW Hsc Hs Hd Hy]
    · iapply (part23_any c X4 X6 fa arg0 harg0 arg1 harg1 arg2 harg2 arg7 harg7 v hw t hA fs fd fy W)
      isplitl [Ha]; · iexact Ha
      isplitl [HW]; · iexact HW
      isplitl [Hsc]; · iexact Hsc
      isplitl [Hs]; · iexact Hs
      isplitl [Hd]; · iexact Hd
      iexact Hy
    iintro %r ⟨Ha, ⟨%W', HW⟩, Hsc, Hs, Hd, Hy⟩
    obtain ⟨r1, r2, r3, r4, r5, r6, r7⟩ := r
    dsimp only
    rw [wp_bind]
    iapply (wp_wand_r Idealize.ShloMosaic.frame (wpE (defs₀ (F := F)) 𝒱₀ (c : Thread nD τ) none) Set.univ)
    isplitl [Ha]
    · iapply (part24_run c fa arg0 harg0 arg1 harg1 arg2 harg2 arg7 harg7 v hw t hA _ _ _ _ _ _)
      iexact Ha
    iintro %r Ha
    obtain ⟨w9, hw9⟩ := r
    dsimp only
    rw [wp_bind]
    iapply (wp_wand_r Idealize.ShloMosaic.frame (wpE (defs₀ (F := F)) 𝒱₀ (c : Thread nD τ) none) Set.univ)
    isplitl [Ha HW HG HU HD Sg Su Sd]
    · iapply (part25_run c X3 X5 fa arg0 harg0 arg1 harg1 arg2 harg2 arg7 harg7 v hw t hA _ _ w9 hw9 W')
      isplitl [Ha]; · iexact Ha
      isplitl [HW]; · iexact HW
      isplitl [HG]; · iexact HG
      isplitl [HU]; · iexact HU
      isplitl [HD]; · iexact HD
      isplitl [Sg]; · iexact Sg
      isplitl [Su]; · iexact Su
      iexact Sd
    iintro %r ⟨Ha, ⟨%W'', HW⟩, HG, HU, HD, Sg, Su, Sd⟩
    unfold gReady uReady dReady
    icases HG with ⟨HG, HGc, HGt⟩
    icases HU with ⟨HU, HUc, HUt⟩
    icases HD with ⟨HD, HDc, HDt⟩
    dsimp only
    sl_exec_parts!

    sl_step
    isplitr; · ipureintro; rfl
    isplitl [Ha]; · iexact Ha
    isplitl [H2]; · iexact H2
    isplitl [HW]; · iexists _; iexact HW
    isplitl [Hsc]; · iexact Hsc
    isplitl [HG HGc HGt]
    · iapply (g_free_of_ready c X3 fa t.val)
      unfold gReady
      isplitl [HG]; · iexact HG
      isplitl [HGc]; · iexact HGc
      iexact HGt
    isplitl [HU HUc HUt]
    · iapply (u_free_of_ready c X3 fa t.val)
      unfold uReady
      isplitl [HU]; · iexact HU
      isplitl [HUc]; · iexact HUc
      iexact HUt
    isplitl [HD HDc HDt]
    · iapply (d_free_of_ready c X5 fa t.val)
      unfold dReady
      isplitl [HD]; · iexact HD
      isplitl [HDc]; · iexact HDc
      iexact HDt
    isplitl [Sg]; · iexact Sg
    isplitl [Su]; · iexact Su
    isplitl [Sd]; · iexact Sd
    isplitl [Hs]; · iexact Hs
    isplitl [Hd]; · iexact Hd
    isplitl [Hh]; · iexists _; iexact Hh
    iexact Hy

end Step

end Cert.Proof.Kernel
-- ==== Proof.Whole.lean ====
/-
  One step of the kernel, whole, with its last part.
-/
module

public import proofs.«01_k».proof.Proof.Step

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Step
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt F) (arg0.view.loc (c : Thread nD τ))) (f1 : Buf (Elt F) (arg1.view.loc (c : Thread nD τ))) (f2 : Buf (Elt F) (arg2.view.loc (c : Thread nD τ)))

set_option backward.proofsInPublic true in
def step_run (hA : ActOK c fa v.toNat)
    (fs : Buf (Elt F) (sgwM.view.loc (c : Thread nD τ))) (fd : Buf (Elt F) (sdwM.view.loc (c : Thread nD τ))) (fy : Buf (Elt F) (yM.view.loc (c : Thread nD τ))) (fc : Buf (Elt F) (accM.view.loc (c : Thread nD τ))) :
    { w : List (View.Piece (Elt F) S16x5120 .f32) × (k0_cond8 v t = 1#1 → List (View.Piece (Elt F) S16x5120 .f32)) // ∀ W,
    iprop(own c actM fullShare fa ∗ own c arg0 fullShare f0 ∗ own c arg1 fullShare f1 ∗ own c arg2 fullShare f2 ∗ owes (c : Thread nD τ) 0 W
      ∗ scIn c X4 X6 fa v t.val
      ∗ gFly c X3 fa t.val ∗ uFly c X3 fa t.val ∗ dFly c X5 fa t.val
      ∗ gFree c X3 (Ring.sl 4 (t.val + 3)) ∗ uFree c X3 (Ring.sl 4 (t.val + 3)) ∗ dFree c X5 (Ring.sl 4 (t.val + 3))
      ∗ bufs c fs fd fy fc)
    ⊢ wp frame (wpE (defs₀ (F := F)) 𝒱₀ (c : Thread nD τ) none) Set.univ
        (k0_t2_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) t ())
        (fun _ => iprop(own c actM fullShare fa ∗ own c arg0 fullShare f0 ∗ own c arg1 fullShare f1 ∗ own c arg2 fullShare f2 ∗ (∃ W, owes (c : Thread nD τ) 0 W)
          ∗ scOut c X4 X6 fa v t.val
          ∗ gFree c X3 (Ring.sl 4 t.val) ∗ uFree c X3 (Ring.sl 4 t.val) ∗ dFree c X5 (Ring.sl 4 t.val)
          ∗ gAt c X3 fa v (t.val + 3) ∗ uAt c X3 fa v (t.val + 3) ∗ dAt c X5 fa v (t.val + 3)
          ∗ bufs c (sgw1 c X4 X6 fa arg0 harg0 arg1 harg1 arg2 harg2 arg7 harg7 v hw t hA fs fd fy)
              (sdw1 c X4 X6 fa arg0 harg0 arg1 harg1 arg2 harg2 arg7 harg7 v hw t hA fs fd fy)
              (yM.view.writes (Elt F) yM.view.junk w.1)
              (if h : k0_cond8 v t = 1#1 then accM.view.writes (Elt F) accM.view.junk (w.2 h) else fc))) } := by
  refine ⟨(?a, ?b), ?run⟩
  case run =>
    dsimp only
    intro W
    unfold bufs
    iintro ⟨Ha, H0, H1, H2, HW, Hsc, HG, HU, HD, Sg, Su, Sd, Hs, Hd, Hh, Hy, Hc⟩
    unfold k0_t2_body
    dsimp only
    rw [wp_bind]
    iapply (wp_wand_r Idealize.ShloMosaic.frame (wpE (defs₀ (F := F)) 𝒱₀ (c : Thread nD τ) none) Set.univ)
    isplitl [Ha H2 HW Hsc HG HU HD Sg Su Sd Hs Hd Hh Hy]
    · iapply ((part77_run c X3 X4 X5 X6 fa arg0 harg0 arg1 harg1 arg2 harg2 arg7 harg7 v hw t f2 hA fs fd fy).2 W)
      isplitl [Ha]; · iexact Ha
      isplitl [H2]; · iexact H2
      isplitl [HW]; · iexact HW
      isplitl [Hsc]; · iexact Hsc
      isplitl [HG]; · iexact HG
      isplitl [HU]; · iexact HU
      isplitl [HD]; · iexact HD
      isplitl [Sg]; · iexact Sg
      isplitl [Su]; · iexact Su
      isplitl [Sd]; · iexact Sd
      isplitl [Hs]; · iexact Hs
      isplitl [Hd]; · iexact Hd
      isplitl [Hh]; · iexact Hh
      iexact Hy
    iintro %r ⟨%hr, Ha, H2, ⟨%W', HW⟩, Hsc, HG, HU, HD, Sg, Su, Sd, Hs, Hd, ⟨%fh, Hh⟩, Hy⟩
    obtain ⟨r1, r2, r3, r4, r5, r6⟩ := r
    have e3 := congrArg (fun x => x.1) hr
    have e4 := congrArg (fun x => x.2.1) hr
    have e5 := congrArg (fun x => x.2.2.1) hr
    have e6 := congrArg (fun x => x.2.2.2) hr
    dsimp only at e3 e4 e5 e6
    subst e3 e4 e5 e6
    clear hr
    dsimp only
    by_cases h8 : k0_cond8 v t = 1#1
    · sl_exec_parts!
      rw [dif_pos h8]
      sl_step
      isplitl [Ha]; · iexact Ha
      isplitl [H0]; · iexact H0
      isplitl [H1]; · iexact H1
      isplitl [H2]; · iexact H2
      isplitl [HW]; · iexists _; iexact HW
      isplitl [Hsc]; · iexact Hsc
      isplitl [HG]; · iexact HG
      isplitl [HU]; · iexact HU
      isplitl [HD]; · iexact HD
      isplitl [Sg]; · iexact Sg
      isplitl [Su]; · iexact Su
      isplitl [Sd]; · iexact Sd
      isplitl [Hs]; · iexact Hs
      isplitl [Hd]; · iexact Hd
      isplitl [Hh]; · iexists _; iexact Hh
      isplitl [Hy]; · iexact Hy
      iexact Hc
    · sl_exec!
      rw [dif_neg h8]
      sl_step
      isplitl [Ha]; · iexact Ha
      isplitl [H0]; · iexact H0
      isplitl [H1]; · iexact H1
      isplitl [H2]; · iexact H2
      isplitl [HW]; · iexists _; iexact HW
      isplitl [Hsc]; · iexact Hsc
      isplitl [HG]; · iexact HG
      isplitl [HU]; · iexact HU
      isplitl [HD]; · iexact HD
      isplitl [Sg]; · iexact Sg
      isplitl [Su]; · iexact Su
      isplitl [Sd]; · iexact Sd
      isplitl [Hs]; · iexact Hs
      isplitl [Hd]; · iexact Hd
      isplitl [Hh]; · iexists _; iexact Hh
      isplitl [Hy]; · iexact Hy
      iexact Hc

end Step

end Cert.Proof.Kernel
-- ==== Proof.Loop.lean ====
/-
  The kernel's loop over steps.
-/
module

public import proofs.«01_k».proof.Proof.Whole

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Step
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt F) (arg0.view.loc (c : Thread nD τ))) (f1 : Buf (Elt F) (arg1.view.loc (c : Thread nD τ))) (f2 : Buf (Elt F) (arg2.view.loc (c : Thread nD τ)))

/-- The four buffers a step changes. -/
structure St where
  fs : Buf (Elt F) (sgwM.view.loc (c : Thread nD τ))
  fd : Buf (Elt F) (sdwM.view.loc (c : Thread nD τ))
  fy : Buf (Elt F) (yM.view.loc (c : Thread nD τ))
  fc : Buf (Elt F) (accM.view.loc (c : Thread nD τ))

variable (hA : ActOK c fa v.toNat)

/-- The four buffers after step `t`, from those before it. -/
def St.next (z : St (F := F) c) : St (F := F) c where
  fs := sgw1 c X4 X6 fa arg0 harg0 arg1 harg1 arg2 harg2 arg7 harg7 v hw t hA z.fs z.fd z.fy
  fd := sdw1 c X4 X6 fa arg0 harg0 arg1 harg1 arg2 harg2 arg7 harg7 v hw t hA z.fs z.fd z.fy
  fy := yM.view.writes (Elt F) yM.view.junk (step_run c X3 X4 X5 X6 fa arg0 harg0 arg1 harg1 arg2 harg2 arg7 harg7 v hw t f0 f1 f2 hA z.fs z.fd z.fy z.fc).1.1
  fc := if h : k0_cond8 v t = 1#1 then accM.view.writes (Elt F) accM.view.junk ((step_run c X3 X4 X5 X6 fa arg0 harg0 arg1 harg1 arg2 harg2 arg7 harg7 v hw t f0 f1 f2 hA z.fs z.fd z.fy z.fc).1.2 h) else z.fc

/-- The four buffers before step `s`. -/
def stt (z : St (F := F) c) : ℕ → St (F := F) c
  | 0 => z
  | s + 1 => if h : s < (k0_t2_loop v).trips then St.next c X3 X4 X5 X6 fa arg0 harg0 arg1 harg1 arg2 harg2 arg7 harg7 v hw ⟨s, h⟩ f0 f1 f2 hA (stt z s) else stt z s

theorem stt_succ (z : St (F := F) c) : stt c X3 X4 X5 X6 fa arg0 harg0 arg1 harg1 arg2 harg2 arg7 harg7 v hw f0 f1 f2 hA z (t.val + 1) = St.next c X3 X4 X5 X6 fa arg0 harg0 arg1 harg1 arg2 harg2 arg7 harg7 v hw t f0 f1 f2 hA (stt c X3 X4 X5 X6 fa arg0 harg0 arg1 harg1 arg2 harg2 arg7 harg7 v hw f0 f1 f2 hA z t.val) := by
  rw [stt, dif_pos t.isLt]

/-- What the loop holds before step `s`. -/
def inv2 (z : St (F := F) c) (s : ℕ) : sProp 𝕄 :=
  iprop(own c actM fullShare fa ∗ own c arg0 fullShare f0 ∗ own c arg1 fullShare f1 ∗ own c arg2 fullShare f2 ∗ (∃ W, owes (c : Thread nD τ) 0 W)
    ∗ scIn c X4 X6 fa v s
    ∗ gAt c X3 fa v s ∗ uAt c X3 fa v s ∗ dAt c X5 fa v s
    ∗ gAt c X3 fa v (s + 1) ∗ uAt c X3 fa v (s + 1) ∗ dAt c X5 fa v (s + 1)
    ∗ gAt c X3 fa v (s + 2) ∗ uAt c X3 fa v (s + 2) ∗ dAt c X5 fa v (s + 2)
    ∗ gFree c X3 (Ring.sl 4 (s + 3)) ∗ uFree c X3 (Ring.sl 4 (s + 3)) ∗ dFree c X5 (Ring.sl 4 (s + 3))
    ∗ bufs c (stt c X3 X4 X5 X6 fa arg0 harg0 arg1 harg1 arg2 harg2 arg7 harg7 v hw f0 f1 f2 hA z s).fs (stt c X3 X4 X5 X6 fa arg0 harg0 arg1 harg1 arg2 harg2 arg7 harg7 v hw f0 f1 f2 hA z s).fd (stt c X3 X4 X5 X6 fa arg0 harg0 arg1 harg1 arg2 harg2 arg7 harg7 v hw f0 f1 f2 hA z s).fy (stt c X3 X4 X5 X6 fa arg0 harg0 arg1 harg1 arg2 harg2 arg7 harg7 v hw f0 f1 f2 hA z s).fc)

omit [FloatOps F] in
theorem sc_roll (s : ℕ) : scOut c X4 X6 fa v s ⊢ scIn c X4 X6 fa v (s + 1) := by
  unfold scOut scIn
  by_cases h : (s + 1) % 8 = 0
  · rw [if_pos h]
    have e : (s + 1) / 8 = s / 8 + 1 := by omega
    have e2 : Ring.sl 2 (s / 8 + 1 + 1) = Ring.sl 2 (s / 8) := by apply Fin.ext; rw [Ring.sl_val, Ring.sl_val]; omega
    rw [e, e2]
    iintro ⟨H1, H2, H3, H4⟩
    isplitl [H3]; · iexact H3
    isplitl [H4]; · iexact H4
    isplitl [H1]; · iexact H1
    iexact H2
  · rw [if_neg h]
    have e : (s + 1) / 8 = s / 8 := by omega
    rw [e]

theorem step2 (z : St (F := F) c) :
    inv2 c X3 X4 X5 X6 fa arg0 harg0 arg1 harg1 arg2 harg2 arg7 harg7 v hw f0 f1 f2 hA z t.val ⊢ wp frame (wpE (defs₀ (F := F)) 𝒱₀ (c : Thread nD τ) none) Set.univ
        (k0_t2_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) t ())
        (fun _ => inv2 c X3 X4 X5 X6 fa arg0 harg0 arg1 harg1 arg2 harg2 arg7 harg7 v hw f0 f1 f2 hA z (t.val + 1)) := by
  have ht : t.val < 8 * v.toNat := Nat.lt_of_lt_of_eq t.isLt (trips_eq v)
  have e4 : Ring.sl 4 (t.val + 1 + 3) = Ring.sl 4 t.val := by apply Fin.ext; rw [Ring.sl_val, Ring.sl_val]; omega
  unfold inv2
  rw [stt_succ, e4, show gAt c X3 fa v t.val = _ from if_pos ht, show uAt c X3 fa v t.val = _ from if_pos ht, show dAt c X5 fa v t.val = _ from if_pos ht]
  iintro ⟨Ha, H0, H1, H2, ⟨%W, HW⟩, Hsc, Hg, Hu, Hd, Hg1, Hu1, Hd1, Hg2, Hu2, Hd2, Hg3, Hu3, Hd3, HB⟩
  iapply (wp_wand_r Idealize.ShloMosaic.frame (wpE (defs₀ (F := F)) 𝒱₀ (c : Thread nD τ) none) Set.univ)
  isplitl [Ha H0 H1 H2 HW Hsc Hg Hu Hd Hg3 Hu3 Hd3 HB]
  · iapply ((step_run c X3 X4 X5 X6 fa arg0 harg0 arg1 harg1 arg2 harg2 arg7 harg7 v hw t f0 f1 f2 hA _ _ _ _).2 W)
    isplitl [Ha]; · iexact Ha
    isplitl [H0]; · iexact H0
    isplitl [H1]; · iexact H1
    isplitl [H2]; · iexact H2
    isplitl [HW]; · iexact HW
    isplitl [Hsc]; · iexact Hsc
    isplitl [Hg]; · iexact Hg
    isplitl [Hu]; · iexact Hu
    isplitl [Hd]; · iexact Hd
    isplitl [Hg3]; · iexact Hg3
    isplitl [Hu3]; · iexact Hu3
    isplitl [Hd3]; · iexact Hd3
    iexact HB
  iintro %_ ⟨Ha, H0, H1, H2, HW, Hsc, Hg, Hu, Hd, Hg3, Hu3, Hd3, HB⟩
  isplitl [Ha]; · iexact Ha
  isplitl [H0]; · iexact H0
  isplitl [H1]; · iexact H1
  isplitl [H2]; · iexact H2
  isplitl [HW]; · iexact HW
  isplitl [Hsc]; · iapply (sc_roll c X4 X6 fa v t.val); iexact Hsc
  isplitl [Hg1]; · iexact Hg1
  isplitl [Hu1]; · iexact Hu1
  isplitl [Hd1]; · iexact Hd1
  isplitl [Hg2]; · iexact Hg2
  isplitl [Hu2]; · iexact Hu2
  isplitl [Hd2]; · iexact Hd2
  isplitl [Hg3]; · iexact Hg3
  isplitl [Hu3]; · iexact Hu3
  isplitl [Hd3]; · iexact Hd3
  isplitl [Hg]; · iexact Hg
  isplitl [Hu]; · iexact Hu
  isplitl [Hd]; · iexact Hd
  iexact HB

/-- The loop over steps, whole. -/
theorem loop2 (z : St (F := F) c) :
    inv2 c X3 X4 X5 X6 fa arg0 harg0 arg1 harg1 arg2 harg2 arg7 harg7 v hw f0 f1 f2 hA z 0 ⊢ wp frame (wpE (defs₀ (F := F)) 𝒱₀ (c : Thread nD τ) none) Set.univ
        (Scf.Loop.for (k0_t2_loop v) (k0_t2_ok v hw) () (k0_t2_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32)))
        (fun _ => inv2 c X3 X4 X5 X6 fa arg0 harg0 arg1 harg1 arg2 harg2 arg7 harg7 v hw f0 f1 f2 hA z (8 * v.toNat)) := by
  have e : 8 * v.toNat = (k0_t2_loop v).trips := (trips_eq v).symm
  rw [e]
  iintro H
  iapply (Scf.wp_for Idealize.ShloMosaic.frame (wpE (defs₀ (F := F)) 𝒱₀ (c : Thread nD τ) none) Set.univ _ _ _ (k0_t2_ok v hw) () _
    (fun s _ => inv2 c X3 X4 X5 X6 fa arg0 harg0 arg1 harg1 arg2 harg2 arg7 harg7 v hw f0 f1 f2 hA z s) (fun k _ => step2 c X3 X4 X5 X6 fa arg0 harg0 arg1 harg1 arg2 harg2 arg7 harg7 v hw k f0 f1 f2 hA z))
  isplitl [H]; · iexact H
  iintro %_ H
  iexact H

/-- The remainder loop makes no trips. -/
theorem loop3 (v33 : BitVec 32) (P : sProp 𝕄) :
    P ⊢ wp frame (wpE (defs₀ (F := F)) 𝒱₀ (c : Thread nD τ) none) Set.univ
        (Scf.Loop.for (k0_t3_loop v) (k0_t3_ok v hw) () (k0_t3_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) v33))
        (fun _ => P) :=
  Scf.wp_for0' Idealize.ShloMosaic.frame (wpE (defs₀ (F := F)) 𝒱₀ (c : Thread nD τ) none) Set.univ _ _ _ (k0_t3_ok v hw) () _ (trips3_eq v) _ P .rfl

end Step

end Cert.Proof.Kernel
-- ==== Proof.Route.lean ====
/-
  The routing loop: which experts are asked for, listed in SMEM.
-/
module

public import proofs.«01_k».proof.Proof.Moves
public import Idealize.ShloMosaic.Lib.WritesUnit

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Route
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)

  (f0 : Buf (Elt F) (arg0.view.loc (c : Thread nD τ)))

omit F [FloatOps F] in
theorem inb_id (r : Fin 16) (j : Fin 2) : ∀ a, (![r.val, 0, j.val] : Fin 3 → ℕ) a + S1x1x1.size a ≤ S16x1x2.size a := by
  revert r j; decide

/-- The expert id at row `r`, choice `j`. -/
def idw (r : Fin 16) (j : Fin 2) : BitVec 32 :=
  arg0.view.readAt (Elt F) (Rect.unit (s := S16x1x2) ![r.val, 0, j.val] S1x1x1.size (inb_id r j)).toLoadRect f0 (Shape.Idx.first (numel1_S1x1x1.symm ▸ Nat.one_pos))

/-- The test of trip `k`, over the ids. -/
def hitc (k : Fin k0_t1_loop.trips) : BitVec 1 := k0_cond1 k (idw c arg0 f0 0 0) (idw c arg0 f0 0 1) (idw c arg0 f0 1 0) (idw c arg0 f0 1 1) (idw c arg0 f0 2 0) (idw c arg0 f0 2 1) (idw c arg0 f0 3 0) (idw c arg0 f0 3 1) (idw c arg0 f0 4 0) (idw c arg0 f0 4 1) (idw c arg0 f0 5 0) (idw c arg0 f0 5 1) (idw c arg0 f0 6 0) (idw c arg0 f0 6 1) (idw c arg0 f0 7 0) (idw c arg0 f0 7 1) (idw c arg0 f0 8 0) (idw c arg0 f0 8 1) (idw c arg0 f0 9 0) (idw c arg0 f0 9 1) (idw c arg0 f0 10 0) (idw c arg0 f0 10 1) (idw c arg0 f0 11 0) (idw c arg0 f0 11 1) (idw c arg0 f0 12 0) (idw c arg0 f0 12 1) (idw c arg0 f0 13 0) (idw c arg0 f0 13 1) (idw c arg0 f0 14 0) (idw c arg0 f0 14 1) (idw c arg0 f0 15 0) (idw c arg0 f0 15 1)

omit F [FloatOps F] in
theorem off1_eq (a : BitVec 32) (ha : a.toNat ≤ 3) : k0_off1 a = ![a.toNat] := by
  have e : a = BitVec.ofNat 32 a.toNat := by simp
  rw [e]
  generalize a.toNat = n at ha
  clear e a
  interval_cases n <;> decide

omit F [FloatOps F] in
theorem off1_inb (a : BitVec 32) (ha : a.toNat ≤ 3) : ∀ d, k0_off1 a d + S1.size d ≤ S4.size d := by
  rw [off1_eq a ha]
  intro d
  fin_cases d
  show a.toNat + 1 ≤ 4
  omega

omit F [FloatOps F] in
theorem chk1_of (k : Fin k0_t1_loop.trips) (a : BitVec 32) (ha : a.toNat ≤ 3) (w0 w1 w2 w3 w4 w5 w6 w7 w8 w9 w10 w11 w12 w13 w14 w15 w16 w17 w18 w19 w20 w21 w22 w23 w24 w25 w26 w27 w28 w29 w30 w31 : BitVec 32) : k0_chk1 k a w0 w1 w2 w3 w4 w5 w6 w7 w8 w9 w10 w11 w12 w13 w14 w15 w16 w17 w18 w19 w20 w21 w22 w23 w24 w25 w26 w27 w28 w29 w30 w31 :=
  fun _ => off1_inb a ha

omit F [FloatOps F] in
theorem add_hit (a : BitVec 32) (x : BitVec 1) (h : Scalar.cmpi .ne (Scalar.extui x : BitVec 32) 0#32 = 1#1) :
    Scalar.addi a (Scalar.extui x) = a + 1#32 := by
  have hx : x = 1#1 := by revert h; revert x; decide
  subst hx; rfl
omit F [FloatOps F] in
theorem add_miss (a : BitVec 32) (x : BitVec 1) (h : ¬ Scalar.cmpi .ne (Scalar.extui x : BitVec 32) 0#32 = 1#1) :
    Scalar.addi a (Scalar.extui x) = a := by
  have hx : x = 0#1 := by revert h; revert x; decide
  subst hx; show a + 0#32 = a; simp

/-- An entry of the list after one more was written at place `n`. -/
theorem wrd_write {off : Fin 1 → ℕ} {n : ℕ} (e : off = ![n]) (h) (w : (Rect.unit (s := S4) off S1.size h).shape.Idx → BitVec 32) (x0 : BitVec 32) (hw : ∀ x, w x = x0) (i : ℕ) (hi : i < 4) :
    wrd c (actM.view.writes (Elt F) fa [⟨Rect.unit (s := S4) off S1.size h, w⟩]) i = if i = n then x0 else wrd c fa i := by
  have hm : i % 4 = i := Nat.mod_eq_of_lt hi
  unfold wrd
  rw [View.readAt_apply, View.readAt_apply]
  by_cases hn : i = n
  · rw [if_pos hn]
    refine (View.read_writes_cons_unit_of_mem (s := S4) (off' := ![n]) _ _ _ _ _ _ (show (Rect.unit (s := S4) off S1.size h).shape.Idx from fun d => ⟨0, by fin_cases d; exact Nat.one_pos⟩) e ?_).trans (hw _)
    intro d; fin_cases d
    show i % 4 + 1 * 0 = n + 0
    omega
  · rw [if_neg hn]
    refine View.read_writes_cons_unit_of_not_mem (s := S4) (off' := ![n]) _ _ _ _ _ _ e (0 : Fin 1) ?_
    show i % 4 + 1 * 0 < n ∨ n + 1 ≤ i % 4 + 1 * 0
    omega

theorem t1_run (k : Fin k0_t1_loop.trips) (a : BitVec 32) (ha : a.toNat ≤ 3) :
    iprop(own c arg0 fullShare f0 ∗ own c actM fullShare fa)
    ⊢ wp frame (wpE (defs₀ (F := F)) 𝒱₀ (c : Thread nD τ) none) Set.univ
        (k0_t1_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 k a)
        (fun r => iprop(∃ fa', ⌜(hitc c arg0 f0 k = 1#1 ∧ r = a + 1#32 ∧ ∀ i < 4, wrd c fa' i = if i = a.toNat then Scf.iv 0#32 1#32 k.val else wrd c fa i)
            ∨ (¬ hitc c arg0 f0 k = 1#1 ∧ r = a ∧ fa' = fa)⌝ ∗ own c arg0 fullShare f0 ∗ own c actM fullShare fa')) := by
  iintro ⟨H0, Ha⟩
  unfold k0_t1_body
  sl_exec_parts
  iapply (wp_assume _ _ _ _ (chk1_of k a ha _ _ _ _ _ _ _ _ _ _ _ _ _ _ _ _ _ _ _ _ _ _ _ _ _ _ _ _ _ _ _ _))
  dsimp only
  split
  case isTrue h1 =>
    sl_exec
    sl_step
    iexists (actM.view.writes (Elt F) fa [⟨Rect.unit (s := S4) (k0_off1 a) S1.size (off1_inb a ha), fun _ => Scf.iv 0#32 1#32 k.val⟩])
    isplitr
    · ipureintro
      exact Or.inl ⟨h1, add_hit a _ h1, fun i hi => wrd_write c fa (off1_eq a ha) _ _ _ (fun _ => rfl) i hi⟩
    isplitl [H0]; · iexact H0
    iexact Ha
  case isFalse h1 =>
    sl_exec
    sl_step
    iexists fa
    isplitr
    · ipureintro
      exact Or.inr ⟨h1, add_miss a _ h1, rfl⟩
    isplitl [H0]; · iexact H0
    iexact Ha

/-- The experts below `m` that some token asks for, in order. -/
def hits (m : ℕ) : List ℕ := (List.range m).filter (fun e => if h : e < k0_t1_loop.trips then hitc c arg0 f0 ⟨e, h⟩ = 1#1 else False)

theorem hits_hit (k : Fin k0_t1_loop.trips) (h : hitc c arg0 f0 k = 1#1) : hits c arg0 f0 (k.val + 1) = hits c arg0 f0 k.val ++ [k.val] := by
  have hk := k.isLt
  unfold hits
  rw [List.range_succ, List.filter_append]
  congr 1
  simp [h]
theorem hits_miss (k : Fin k0_t1_loop.trips) (h : ¬ hitc c arg0 f0 k = 1#1) : hits c arg0 f0 (k.val + 1) = hits c arg0 f0 k.val := by
  unfold hits
  rw [List.range_succ, List.filter_append]
  simp [h]

theorem hits_le (m : ℕ) : (hits c arg0 f0 m).length ≤ m := by
  unfold hits
  exact (List.length_filter_le _ _).trans (by simp)

theorem hits_lt (m : ℕ) (e : ℕ) (h : e ∈ hits c arg0 f0 m) : e < m := by
  unfold hits at h
  exact List.mem_range.1 (List.mem_filter.1 h).1

/-- What the list and its length are after `m` trips. -/
def RouteOK (m : ℕ) (a : BitVec 32) : Prop :=
  a = BitVec.ofNat 32 (hits c arg0 f0 m).length ∧ ∀ i (h : i < (hits c arg0 f0 m).length), wrd c fa i = BitVec.ofNat 32 ((hits c arg0 f0 m)[i])

omit F [FloatOps F] in
theorem trips1 : k0_t1_loop.trips = 4 := by decide

omit F [FloatOps F] in
theorem iv_t1 (k : Fin k0_t1_loop.trips) : Scf.iv 0#32 1#32 k.val = BitVec.ofNat 32 k.val := by
  revert k; decide

theorem loop1 :
    iprop(own c arg0 fullShare f0 ∗ own c actM fullShare fa)
    ⊢ wp frame (wpE (defs₀ (F := F)) 𝒱₀ (c : Thread nD τ) none) Set.univ
        (Scf.Loop.for k0_t1_loop k0_t1_ok 0#32 (k0_t1_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12))
        (fun r => iprop(∃ fa', ⌜RouteOK c fa' arg0 f0 4 r⌝ ∗ own c arg0 fullShare f0 ∗ own c actM fullShare fa')) := by
  iintro ⟨H0, Ha⟩
  iapply (Scf.wp_for Idealize.ShloMosaic.frame (wpE (defs₀ (F := F)) 𝒱₀ (c : Thread nD τ) none) Set.univ _ _ _ k0_t1_ok 0#32 _
    (fun m a => iprop(∃ fa', ⌜RouteOK c fa' arg0 f0 m a⌝ ∗ own c arg0 fullShare f0 ∗ own c actM fullShare fa')) ?step)
  case step =>
    intro k a
    have hk : k.val < 4 := Nat.lt_of_lt_of_eq k.isLt trips1
    iintro ⟨%fa1, %hR, H0, Ha⟩
    obtain ⟨hR1, hR2⟩ := hR
    have hl := hits_le c arg0 f0 k.val
    have ha : a.toNat = (hits c arg0 f0 k.val).length := by
      rw [hR1, BitVec.toNat_ofNat]; exact Nat.mod_eq_of_lt (by omega)
    iapply (wp_wand_r Idealize.ShloMosaic.frame (wpE (defs₀ (F := F)) 𝒱₀ (c : Thread nD τ) none) Set.univ)
    isplitl [H0 Ha]
    · iapply (t1_run c fa1 arg0 harg0 arg1 harg1 arg2 harg2 arg7 harg7 f0 k a (by omega))
      isplitl [H0]; · iexact H0
      iexact Ha
    iintro %r ⟨%fa2, %hr, H0, Ha⟩
    iexists fa2
    isplitr
    · ipureintro
      rcases hr with ⟨h, hr, hw⟩ | ⟨h, hr, hw⟩
      · unfold RouteOK
        rw [hits_hit c arg0 f0 k h]
        refine ⟨?_, fun i hi => ?_⟩
        · rw [hr, hR1, List.length_append, List.length_singleton]
          simp [BitVec.ofNat_add]
        · rw [List.length_append, List.length_singleton] at hi
          rw [hw i (by omega), ha, List.getElem_append]
          by_cases hi2 : i < (hits c arg0 f0 k.val).length
          · rw [if_neg (by omega), dif_pos hi2]; exact hR2 i hi2
          · rw [if_pos (by omega), dif_neg hi2, iv_t1]; simp
      · unfold RouteOK
        rw [hits_miss c arg0 f0 k h, hr, hw]
        exact ⟨hR1, hR2⟩
    isplitl [H0]; · iexact H0
    iexact Ha
  isplitl [H0 Ha]
  · iexists fa
    isplitr
    · ipureintro; exact ⟨rfl, fun i h => absurd h (Nat.not_lt_zero _)⟩
    isplitl [H0]; · iexact H0
    iexact Ha
  · iintro %r H
    iexact H

/-- The list is of experts, and no longer than there are experts. -/
theorem act_of_route {a : BitVec 32} (h : RouteOK c fa arg0 f0 4 a) : a.toNat = (hits c arg0 f0 4).length ∧ a.toNat ≤ 4 ∧ ActOK c fa a.toNat := by
  have hl := hits_le c arg0 f0 4
  have ha : a.toNat = (hits c arg0 f0 4).length := by
    rw [h.1, BitVec.toNat_ofNat]; exact Nat.mod_eq_of_lt (by omega)
  refine ⟨ha, by omega, fun i hi => ?_⟩
  have hi' : i < (hits c arg0 f0 4).length := by omega
  have := hits_lt c arg0 f0 4 _ (List.getElem_mem hi')
  rw [h.2 i hi', BitVec.toNat_ofNat, Nat.mod_eq_of_lt (by omega)]
  exact this

end Route
end Cert.Proof.Kernel
-- ==== Proof.Body.lean ====
/-
  The kernel's body, whole.
-/
module

public import proofs.«01_k».proof.Proof.Loop
public import proofs.«01_k».proof.Proof.Route

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Body
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (f0 : Buf (Elt F) (arg0.view.loc (c : Thread nD τ))) (f1 : Buf (Elt F) (arg1.view.loc (c : Thread nD τ))) (f2 : Buf (Elt F) (arg2.view.loc (c : Thread nD τ)))

/-- What the body is handed besides its windows: every slot free, every buffer at anything. -/
def scr : sProp 𝕄 :=
  iprop((∃ fa, own c actM fullShare fa) ∗ sgFree c X4 0 ∗ seFree c X6 0 ∗ sgFree c X4 1 ∗ seFree c X6 1 ∗ gFree c X3 0 ∗ uFree c X3 0 ∗ dFree c X5 0 ∗ gFree c X3 1 ∗ uFree c X3 1 ∗ dFree c X5 1 ∗ gFree c X3 2 ∗ uFree c X3 2 ∗ dFree c X5 2 ∗ gFree c X3 3 ∗ uFree c X3 3 ∗ dFree c X5 3
    ∗ (∃ f, own c sgwM fullShare f) ∗ (∃ f, own c sdwM fullShare f) ∗ (∃ f, own c hM fullShare f) ∗ (∃ f, own c yM fullShare f) ∗ (∃ f, own c accM fullShare f))

omit [FloatOps F] in
theorem scr_open : scr c X3 X4 X5 X6 ⊢ iprop((∃ fa, own c actM fullShare fa) ∗ sgFree c X4 0 ∗ seFree c X6 0 ∗ sgFree c X4 1 ∗ seFree c X6 1 ∗ gFree c X3 0 ∗ uFree c X3 0 ∗ dFree c X5 0 ∗ gFree c X3 1 ∗ uFree c X3 1 ∗ dFree c X5 1 ∗ gFree c X3 2 ∗ uFree c X3 2 ∗ dFree c X5 2 ∗ gFree c X3 3 ∗ uFree c X3 3 ∗ dFree c X5 3
    ∗ (∃ f, own c sgwM fullShare f) ∗ (∃ f, own c sdwM fullShare f) ∗ (∃ f, own c hM fullShare f) ∗ (∃ f, own c yM fullShare f) ∗ (∃ f, own c accM fullShare f)) := .rfl

omit [FloatOps F] in
theorem gOpen (k : Fin 4) : gFree c X3 k ⊢ iprop((∃ f, own c (gS k) fullShare f) ∗ cell c (gC k) ∗ wguM.view.loc (c : Thread nD τ) ↦{qg k} X3 : sProp 𝕄) := .rfl
omit [FloatOps F] in
theorem uOpen (k : Fin 4) : uFree c X3 k ⊢ iprop((∃ f, own c (uS k) fullShare f) ∗ cell c (uC k) ∗ wguM.view.loc (c : Thread nD τ) ↦{qu k} X3 : sProp 𝕄) := .rfl
omit [FloatOps F] in
theorem dOpen (k : Fin 4) : dFree c X5 k ⊢ iprop((∃ f, own c (dS k) fullShare f) ∗ cell c (dC k) ∗ wdM.view.loc (c : Thread nD τ) ↦{qd k} X5 : sProp 𝕄) := .rfl

/-- The accumulator at zero. -/
@[irreducible] def acc0 : Buf (Elt F) (accM.view.loc (c : Thread nD τ)) := accM.view.writes (Elt F) accM.view.junk [⟨Rect.unit (s := S16x5120) ![0, 0] S16x5120.size inb_S16x5120_S16x5120_0_0, k0_pay494 (F := F)⟩]

theorem free_even (n : ℕ) : iprop(sgFree c X4 (Ring.sl 2 n) ∗ sgFree c X4 (Ring.sl 2 (n + 1)) ∗ seFree c X6 (Ring.sl 2 n) ∗ seFree c X6 (Ring.sl 2 (n + 1)))
    ⊢ iprop(sgFree c X4 0 ∗ seFree c X6 0 ∗ sgFree c X4 1 ∗ seFree c X6 1 : sProp 𝕄) := by
  rcases Nat.mod_two_eq_zero_or_one n with h | h
  · have e0 : Ring.sl 2 n = 0 := by apply Fin.ext; rw [Ring.sl_val]; exact h
    have e1 : Ring.sl 2 (n + 1) = 1 := by apply Fin.ext; rw [Ring.sl_val]; show (n + 1) % 2 = 1; omega
    rw [e0, e1]
    iintro ⟨H1, H2, H3, H4⟩
    isplitl [H1]; · iexact H1
    isplitl [H3]; · iexact H3
    isplitl [H2]; · iexact H2
    iexact H4
  · have e0 : Ring.sl 2 n = 1 := by apply Fin.ext; rw [Ring.sl_val]; exact h
    have e1 : Ring.sl 2 (n + 1) = 0 := by apply Fin.ext; rw [Ring.sl_val]; show (n + 1) % 2 = 0; omega
    rw [e0, e1]
    iintro ⟨H1, H2, H3, H4⟩
    isplitl [H2]; · iexact H2
    isplitl [H4]; · iexact H4
    isplitl [H1]; · iexact H1
    iexact H3

theorem part152_run (W : Waits sig Unit) (hne : 1 ≤ (hits c arg0 f0 4).length)
    (fs : Buf (Elt F) (sgwM.view.loc (c : Thread nD τ))) (fd : Buf (Elt F) (sdwM.view.loc (c : Thread nD τ))) (fy : Buf (Elt F) (yM.view.loc (c : Thread nD τ))) (fc : Buf (Elt F) (accM.view.loc (c : Thread nD τ))) (fa : Buf (Elt F) (actM.view.loc (c : Thread nD τ))) :
    iprop(own c arg0 fullShare f0 ∗ owes (c : Thread nD τ) 0 W ∗ own c actM fullShare fa ∗ own c accM fullShare fc
      ∗ sgFree c X4 0 ∗ seFree c X6 0 ∗ gFree c X3 0 ∗ uFree c X3 0 ∗ dFree c X5 0)
    ⊢ wp frame (wpE (defs₀ (F := F)) 𝒱₀ (c : Thread nD τ) none) Set.univ
        (k0_part152 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12)
        (fun r => iprop(∃ fa', ⌜RouteOK c fa' arg0 f0 4 r.1 ∧ r.2.2 = r.1 * 8#32⌝ ∗ own c arg0 fullShare f0 ∗ (∃ W, owes (c : Thread nD τ) 0 W) ∗ own c actM fullShare fa'
          ∗ own c accM fullShare (acc0 c)
          ∗ sgFly c X4 fa' 0 ∗ seFly c X6 fa' 0 ∗ gFly c X3 fa' 0 ∗ uFly c X3 fa' 0 ∗ dFly c X5 fa' 0)) := by
  iintro ⟨H0, HW, Ha, Hc, Sg, Se, G, U, D⟩
  sl_unfold [k0_part152]
  unfold k0_part152_skel
  rw [wp_bind]
  iapply (wp_wand_r Idealize.ShloMosaic.frame (wpE (defs₀ (F := F)) 𝒱₀ (c : Thread nD τ) none) Set.univ)
  isplitl [H0 Ha]
  · iapply (loop1 c fa arg0 harg0 arg1 harg1 arg2 harg2 arg7 harg7 f0)
    isplitl [H0]; · iexact H0
    iexact Ha
  iintro %v ⟨%fa', %hR, H0, Ha⟩
  obtain ⟨hv, hv4, hA⟩ := act_of_route c fa' arg0 f0 hR
  haveI : Fact (v.toNat ≤ 4) := ⟨hv4⟩
  have hc6 : k0_chk6 v := chk6_of v
  obtain ⟨h2, h3, h4⟩ := cond2_of v hv4 (by omega)
  have k2 : ∀ h x, k0_chk2 (actM.view.readAt (Elt F) (Rect.unit (s := S4) ![0] S1.size h).toLoadRect fa' x) := fun h x => by
    rw [readAt_act c fa' rfl (by omega) h x]; exact chk2_of _ (hA _ (by omega))
  have k3 : ∀ h x, k0_chk3 v (actM.view.readAt (Elt F) (Rect.unit (s := S4) ![0] S1.size h).toLoadRect fa' x) := fun h x => by
    rw [readAt_act c fa' rfl (by omega) h x]; exact chk3_of v _ (hA _ (by omega))
  unfold sgFree seFree gFree uFree dFree
  icases Sg with ⟨⟨%gg, Sg⟩, Cg, Tg⟩
  icases Se with ⟨⟨%ge, Se⟩, Ce, Te⟩
  icases G with ⟨⟨%g1, G⟩, GC, GT⟩
  icases U with ⟨⟨%g2, U⟩, UC, UT⟩
  icases D with ⟨⟨%g3, D⟩, DC, DT⟩
  beta_reduce
  sl_exec! (disch := first | exact hc6 | exact k2 _ _ | exact k3 _ _)
  sl_step
  iexists fa'
  isplitr; · ipureintro; exact ⟨hR, rfl⟩
  isplitl [H0]; · iexact H0
  isplitl [HW]; · iexists _; iexact HW
  isplitl [Ha]; · iexact Ha
  isplitl [Hc]; · unfold acc0; iexact Hc
  isplitl [Cg Tg]
  · iapply (sgFly_intro c X4 fa' 0 (readAt_act c fa' rfl (by omega) _ _) gg)
    isplitl [Cg]; · iexact Cg
    iexact Tg
  isplitl [Ce Te]
  · iapply (seFly_intro c X6 fa' 0 (readAt_act c fa' rfl (by omega) _ _) ge)
    isplitl [Ce]; · iexact Ce
    iexact Te
  isplitl [GC GT]
  · iapply (gFly_intro c X3 fa' 0 (readAt_act c fa' rfl (by omega) _ _) g1)
    isplitl [GC]; · iexact GC
    iexact GT
  isplitl [UC UT]
  · iapply (uFly_intro c X3 fa' 0 (readAt_act c fa' rfl (by omega) _ _) g2)
    isplitl [UC]; · iexact UC
    iexact UT
  · iapply (dFly_intro c X5 fa' 0 (readAt_act c fa' rfl (by omega) _ _) g3)
    isplitl [DC]; · iexact DC
    iexact DT

/-- What the loop over steps starts from. -/
def z0 (fs : Buf (Elt F) (sgwM.view.loc (c : Thread nD τ))) (fd : Buf (Elt F) (sdwM.view.loc (c : Thread nD τ))) (fy : Buf (Elt F) (yM.view.loc (c : Thread nD τ))) : St (F := F) c :=
  ⟨fs, fd, fy, acc0 c⟩

variable (f1 : Buf (Elt F) (arg1.view.loc (c : Thread nD τ))) (f2 : Buf (Elt F) (arg2.view.loc (c : Thread nD τ))) (f7 : Buf (Elt F) (arg7.view.loc (c : Thread nD τ)))

/-- What the body leaves in the output's buffer, the routing's list being `fa`. -/
def outOf (fa : Buf (Elt F) (actM.view.loc (c : Thread nD τ))) (v : BitVec 32) [Fact (v.toNat ≤ 4)] (hw : k0_chk6 v) (hA : ActOK c fa v.toNat) (z : St (F := F) c) : Buf (Elt F) (arg7.view.loc (c : Thread nD τ)) :=
  arg7.view.writes (Elt F) arg7.view.junk [⟨Rect.unit (s := S16x5120) ![0, 0] S16x5120.size inb_S16x5120_S16x5120_0_0,
    k0_pay7 (accM.view.readAt (Elt F) (Rect.unit (s := S16x5120) ![0, 0] S16x5120.size inb_S16x5120_S16x5120_0_0).toLoadRect (stt c X3 X4 X5 X6 fa arg0 harg0 arg1 harg1 arg2 harg2 arg7 harg7 v hw f0 f1 f2 hA z (8 * v.toNat)).fc)⟩]

/-- The output's contents are a run's over some list of the experts asked for. -/
def OutOK (out : Buf (Elt F) (arg7.view.loc (c : Thread nD τ))) : Prop :=
  ∃ (fa : Buf (Elt F) (actM.view.loc (c : Thread nD τ))) (v : BitVec 32) (_ : Fact (v.toNat ≤ 4)) (hw : k0_chk6 v) (hA : ActOK c fa v.toNat) (fs : Buf (Elt F) (sgwM.view.loc (c : Thread nD τ))) (fd : Buf (Elt F) (sdwM.view.loc (c : Thread nD τ))) (fy : Buf (Elt F) (yM.view.loc (c : Thread nD τ))),
    RouteOK c fa arg0 f0 4 v ∧ out = outOf c X3 X4 X5 X6 arg0 harg0 arg1 harg1 arg2 harg2 arg7 harg7 f0 f1 f2 fa v hw hA (z0 c fs fd fy)

section Ends
variable (fa : Buf (Elt F) (actM.view.loc (c : Thread nD τ))) (v : BitVec 32) [Fact (v.toNat ≤ 4)] (hw : k0_chk6 v) (hA : ActOK c fa v.toNat) (z : St (F := F) c)

theorem inv2_start (hv : 1 ≤ v.toNat) :
    iprop(own c actM fullShare fa ∗ own c arg0 fullShare f0 ∗ own c arg1 fullShare f1 ∗ own c arg2 fullShare f2 ∗ (∃ W, owes (c : Thread nD τ) 0 W)
      ∗ sgFly c X4 fa 0 ∗ seFly c X6 fa 0 ∗ sgFree c X4 1 ∗ seFree c X6 1
      ∗ gFly c X3 fa 0 ∗ uFly c X3 fa 0 ∗ dFly c X5 fa 0 ∗ gFly c X3 fa 1 ∗ uFly c X3 fa 1 ∗ dFly c X5 fa 1 ∗ gFly c X3 fa 2 ∗ uFly c X3 fa 2 ∗ dFly c X5 fa 2
      ∗ gFree c X3 3 ∗ uFree c X3 3 ∗ dFree c X5 3 ∗ bufs c z.fs z.fd z.fy z.fc)
    ⊢ inv2 c X3 X4 X5 X6 fa arg0 harg0 arg1 harg1 arg2 harg2 arg7 harg7 v hw f0 f1 f2 hA z 0 := by
  unfold inv2 scIn
  rw [if_pos (show 0 % 8 = 0 from rfl)]
  have g0 : ∀ i, i < 3 → gAt c X3 fa v i = gFly c X3 fa i := fun i hi => if_pos (by omega)
  have u0 : ∀ i, i < 3 → uAt c X3 fa v i = uFly c X3 fa i := fun i hi => if_pos (by omega)
  have d0 : ∀ i, i < 3 → dAt c X5 fa v i = dFly c X5 fa i := fun i hi => if_pos (by omega)
  have sg0 : sgAt c X4 fa v (0 / 8) = sgFly c X4 fa 0 := if_pos (by omega)
  have se0 : seAt c X6 fa v (0 / 8) = seFly c X6 fa 0 := if_pos (by omega)
  have e3 : Ring.sl 4 (0 + 3) = 3 := rfl
  have e1 : Ring.sl 2 (0 / 8 + 1) = 1 := rfl
  have ez : stt c X3 X4 X5 X6 fa arg0 harg0 arg1 harg1 arg2 harg2 arg7 harg7 v hw f0 f1 f2 hA z 0 = z := rfl
  rw [g0 0 (by omega), g0 (0 + 1) (by omega), g0 (0 + 2) (by omega), u0 0 (by omega), u0 (0 + 1) (by omega), u0 (0 + 2) (by omega), d0 0 (by omega), d0 (0 + 1) (by omega), d0 (0 + 2) (by omega), sg0, se0, e3, e1, ez]
  iintro ⟨Ha, H0, H1, H2, HW, Sg, Se, Sg1, Se1, H⟩
  isplitl [Ha]; · iexact Ha
  isplitl [H0]; · iexact H0
  isplitl [H1]; · iexact H1
  isplitl [H2]; · iexact H2
  isplitl [HW]; · iexact HW
  isplitl [Sg Se Sg1 Se1]
  · isplitl [Sg]; · iexact Sg
    isplitl [Se]; · iexact Se
    isplitl [Sg1]; · iexact Sg1
    iexact Se1
  iexact H

theorem inv2_end :
    inv2 c X3 X4 X5 X6 fa arg0 harg0 arg1 harg1 arg2 harg2 arg7 harg7 v hw f0 f1 f2 hA z (8 * v.toNat)
    ⊢ iprop((own c actM fullShare fa ∗ own c arg0 fullShare f0 ∗ own c arg1 fullShare f1 ∗ own c arg2 fullShare f2 ∗ (∃ W, owes (c : Thread nD τ) 0 W))
      ∗ (sgFree c X4 0 ∗ seFree c X6 0 ∗ sgFree c X4 1 ∗ seFree c X6 1)
      ∗ (gFree c X3 0 ∗ uFree c X3 0 ∗ dFree c X5 0 ∗ gFree c X3 1 ∗ uFree c X3 1 ∗ dFree c X5 1 ∗ gFree c X3 2 ∗ uFree c X3 2 ∗ dFree c X5 2 ∗ gFree c X3 3 ∗ uFree c X3 3 ∗ dFree c X5 3)
      ∗ (∃ f, own c sgwM fullShare f) ∗ (∃ f, own c sdwM fullShare f) ∗ (∃ f, own c hM fullShare f) ∗ (∃ f, own c yM fullShare f)
      ∗ own c accM fullShare (stt c X3 X4 X5 X6 fa arg0 harg0 arg1 harg1 arg2 harg2 arg7 harg7 v hw f0 f1 f2 hA z (8 * v.toNat)).fc) := by
  unfold inv2 scIn bufs
  rw [if_pos (show (8 * v.toNat) % 8 = 0 by omega), show 8 * v.toNat / 8 = v.toNat by omega]
  have sl0 : ∀ i : Fin 4, Ring.sl 4 (8 * v.toNat + i.val) = i := fun i => by apply Fin.ext; rw [Ring.sl_val]; have := i.isLt; omega
  have g0 : ∀ i : Fin 4, gAt c X3 fa v (8 * v.toNat + i.val) = gFree c X3 i := fun i => by rw [gAt, if_neg (by omega), sl0 i]
  have u0 : ∀ i : Fin 4, uAt c X3 fa v (8 * v.toNat + i.val) = uFree c X3 i := fun i => by rw [uAt, if_neg (by omega), sl0 i]
  have d0 : ∀ i : Fin 4, dAt c X5 fa v (8 * v.toNat + i.val) = dFree c X5 i := fun i => by rw [dAt, if_neg (by omega), sl0 i]
  have sg0 : sgAt c X4 fa v v.toNat = sgFree c X4 (Ring.sl 2 v.toNat) := if_neg (by omega)
  have se0 : seAt c X6 fa v v.toNat = seFree c X6 (Ring.sl 2 v.toNat) := if_neg (by omega)
  rw [show gAt c X3 fa v (8 * v.toNat) = _ from g0 0, show gAt c X3 fa v (8 * v.toNat + 1) = _ from g0 1, show gAt c X3 fa v (8 * v.toNat + 2) = _ from g0 2,
    show uAt c X3 fa v (8 * v.toNat) = _ from u0 0, show uAt c X3 fa v (8 * v.toNat + 1) = _ from u0 1, show uAt c X3 fa v (8 * v.toNat + 2) = _ from u0 2,
    show dAt c X5 fa v (8 * v.toNat) = _ from d0 0, show dAt c X5 fa v (8 * v.toNat + 1) = _ from d0 1, show dAt c X5 fa v (8 * v.toNat + 2) = _ from d0 2,
    show Ring.sl 4 (8 * v.toNat + 3) = _ from sl0 3, sg0, se0]
  iintro ⟨Ha, H0, H1, H2, HW, ⟨Sg, Se, Sg1, Se1⟩, G0, U0, D0, G1, U1, D1, G2, U2, D2, G3, U3, D3, Hs, Hd, Hh, Hy, Hc⟩
  isplitl [Ha H0 H1 H2 HW]
  · isplitl [Ha]; · iexact Ha
    isplitl [H0]; · iexact H0
    isplitl [H1]; · iexact H1
    isplitl [H2]; · iexact H2
    iexact HW
  isplitl [Sg Se Sg1 Se1]
  · iapply (free_even c X4 X6 v.toNat)
    isplitl [Sg]; · iexact Sg
    isplitl [Sg1]; · iexact Sg1
    isplitl [Se]; · iexact Se
    iexact Se1
  isplitl [G0 U0 D0 G1 U1 D1 G2 U2 D2 G3 U3 D3]
  · isplitl [G0]; · iexact G0
    isplitl [U0]; · iexact U0
    isplitl [D0]; · iexact D0
    isplitl [G1]; · iexact G1
    isplitl [U1]; · iexact U1
    isplitl [D1]; · iexact D1
    isplitl [G2]; · iexact G2
    isplitl [U2]; · iexact U2
    isplitl [D2]; · iexact D2
    isplitl [G3]; · iexact G3
    isplitl [U3]; · iexact U3
    iexact D3
  isplitl [Hs]; · iexists _; iexact Hs
  isplitl [Hd]; · iexists _; iexact Hd
  isplitl [Hh]; · iexact Hh
  isplitl [Hy]; · iexists _; iexact Hy
  iexact Hc
end Ends

theorem body_run (W : Waits sig Unit) (hne : 1 ≤ (hits c arg0 f0 4).length) :
    iprop(own c arg0 fullShare f0 ∗ own c arg1 fullShare f1 ∗ own c arg2 fullShare f2 ∗ own c arg7 fullShare f7 ∗ owes (c : Thread nD τ) 0 W ∗ scr c X3 X4 X5 X6)
    ⊢ wp frame (wpE (defs₀ (F := F)) 𝒱₀ (c : Thread nD τ) none) Set.univ
        (cc0_moe_int4 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12)
        (fun _ => iprop(own c arg0 fullShare f0 ∗ own c arg1 fullShare f1 ∗ own c arg2 fullShare f2 ∗ (∃ out, ⌜OutOK c X3 X4 X5 X6 arg0 harg0 arg1 harg1 arg2 harg2 arg7 harg7 f0 f1 f2 out⌝ ∗ own c arg7 fullShare out) ∗ (∃ W, owes (c : Thread nD τ) 0 W) ∗ scr c X3 X4 X5 X6)) := by
  iintro ⟨H0, H1, H2, H7, HW, H⟩
  ihave H := (scr_open c X3 X4 X5 X6) $$ H
  icases H with ⟨⟨%fa, Ha⟩, Sg0, Se0, Sg1, Se1, G0, U0, D0, G1, U1, D1, G2, U2, D2, G3, U3, D3, ⟨%fs, Hs⟩, ⟨%fd, Hd⟩, Hh, ⟨%fy, Hy⟩, ⟨%fc, Hc⟩⟩
  sl_unfold [cc0_moe_int4]
  unfold cc0_moe_int4_skel
  rw [wp_bind]
  iapply (wp_wand_r Idealize.ShloMosaic.frame (wpE (defs₀ (F := F)) 𝒱₀ (c : Thread nD τ) none) Set.univ)
  isplitl [H0 HW Ha Hc Sg0 Se0 G0 U0 D0]
  · iapply (part152_run c X3 X4 X5 X6 arg0 harg0 arg1 harg1 arg2 harg2 arg7 harg7 f0 W hne fs fd fy fc fa)
    isplitl [H0]; · iexact H0
    isplitl [HW]; · iexact HW
    isplitl [Ha]; · iexact Ha
    isplitl [Hc]; · iexact Hc
    isplitl [Sg0]; · iexact Sg0
    isplitl [Se0]; · iexact Se0
    isplitl [G0]; · iexact G0
    isplitl [U0]; · iexact U0
    iexact D0
  iintro %r ⟨%fa', %hr, H0, ⟨%W', HW⟩, Ha, Hc, Sg0, Se0, G0, U0, D0⟩
  obtain ⟨v, hw, v2⟩ := r
  obtain ⟨hR, hv2⟩ := hr
  change v2 = v * 8#32 at hv2
  subst hv2
  change RouteOK c fa' arg0 f0 4 v at hR
  obtain ⟨hv, hv4, hA⟩ := act_of_route c fa' arg0 f0 hR
  haveI : Fact (v.toNat ≤ 4) := ⟨hv4⟩
  obtain ⟨h2, h3, h4⟩ := cond2_of v hv4 (by omega)
  have k4 : ∀ h x, k0_chk4 v (actM.view.readAt (Elt F) (Rect.unit (s := S4) ![0] S1.size h).toLoadRect fa' x) := fun h x => by
    rw [readAt_act c fa' rfl (by omega) h x]; exact chk4_of v _ (hA _ (by omega))
  have k5 : ∀ h x, k0_chk5 v (actM.view.readAt (Elt F) (Rect.unit (s := S4) ![0] S1.size h).toLoadRect fa' x) := fun h x => by
    rw [readAt_act c fa' rfl (by omega) h x]; exact chk5_of v _ (hA _ (by omega))
  ihave G1 := (gOpen c X3 1) $$ G1
  ihave U1 := (uOpen c X3 1) $$ U1
  ihave D1 := (dOpen c X5 1) $$ D1
  ihave G2 := (gOpen c X3 2) $$ G2
  ihave U2 := (uOpen c X3 2) $$ U2
  ihave D2 := (dOpen c X5 2) $$ D2
  icases G1 with ⟨⟨%g1, G1⟩, GC1, GT1⟩
  icases U1 with ⟨⟨%u1, U1⟩, UC1, UT1⟩
  icases D1 with ⟨⟨%d1, D1⟩, DC1, DT1⟩
  icases G2 with ⟨⟨%g2, G2⟩, GC2, GT2⟩
  icases U2 with ⟨⟨%u2, U2⟩, UC2, UT2⟩
  icases D2 with ⟨⟨%d2, D2⟩, DC2, DT2⟩
  beta_reduce
  sl_exec (disch := first | exact k4 _ _ | exact k5 _ _)
  rw [wp_bind]
  iapply (wp_wand_r Idealize.ShloMosaic.frame (wpE (defs₀ (F := F)) 𝒱₀ (c : Thread nD τ) none) Set.univ)
  isplitl [Ha H0 H1 H2 HW Sg0 Se0 Sg1 Se1 G0 U0 D0 GC1 GT1 UC1 UT1 DC1 DT1 GC2 GT2 UC2 UT2 DC2 DT2 G3 U3 D3 Hs Hd Hh Hy Hc]
  · iapply (loop2 c X3 X4 X5 X6 fa' arg0 harg0 arg1 harg1 arg2 harg2 arg7 harg7 v hw f0 f1 f2 hA (z0 c fs fd fy))
    iapply (inv2_start c X3 X4 X5 X6 arg0 harg0 arg1 harg1 arg2 harg2 arg7 harg7 f0 f1 f2 fa' v hw hA (z0 c fs fd fy) (by omega))
    isplitl [Ha]; · iexact Ha
    isplitl [H0]; · iexact H0
    isplitl [H1]; · iexact H1
    isplitl [H2]; · iexact H2
    isplitl [HW]; · iexists _; iexact HW
    isplitl [Sg0]; · iexact Sg0
    isplitl [Se0]; · iexact Se0
    isplitl [Sg1]; · iexact Sg1
    isplitl [Se1]; · iexact Se1
    isplitl [G0]; · iexact G0
    isplitl [U0]; · iexact U0
    isplitl [D0]; · iexact D0
    isplitl [GC1 GT1]
    · iapply (gFly_intro c X3 fa' 1 (readAt_act c fa' rfl (by omega) _ _) g1)
      isplitl [GC1]; · iexact GC1
      iexact GT1
    isplitl [UC1 UT1]
    · iapply (uFly_intro c X3 fa' 1 (readAt_act c fa' rfl (by omega) _ _) u1)
      isplitl [UC1]; · iexact UC1
      iexact UT1
    isplitl [DC1 DT1]
    · iapply (dFly_intro c X5 fa' 1 (readAt_act c fa' rfl (by omega) _ _) d1)
      isplitl [DC1]; · iexact DC1
      iexact DT1
    isplitl [GC2 GT2]
    · iapply (gFly_intro c X3 fa' 2 (readAt_act c fa' rfl (by omega) _ _) g2)
      isplitl [GC2]; · iexact GC2
      iexact GT2
    isplitl [UC2 UT2]
    · iapply (uFly_intro c X3 fa' 2 (readAt_act c fa' rfl (by omega) _ _) u2)
      isplitl [UC2]; · iexact UC2
      iexact UT2
    isplitl [DC2 DT2]
    · iapply (dFly_intro c X5 fa' 2 (readAt_act c fa' rfl (by omega) _ _) d2)
      isplitl [DC2]; · iexact DC2
      iexact DT2
    isplitl [G3]; · iexact G3
    isplitl [U3]; · iexact U3
    isplitl [D3]; · iexact D3
    unfold bufs
    isplitl [Hs]; · iexact Hs
    isplitl [Hd]; · iexact Hd
    isplitl [Hh]; · iexact Hh
    isplitl [Hy]; · iexact Hy
    rw [show (z0 c fs fd fy).fc = acc0 c from rfl]
    iexact Hc
  iintro %_ H
  beta_reduce
  rw [wp_bind]
  iapply (wp_wand_r Idealize.ShloMosaic.frame (wpE (defs₀ (F := F)) 𝒱₀ (c : Thread nD τ) none) Set.univ)
  isplitl [H]
  · iapply (loop3 c arg0 harg0 arg1 harg1 arg2 harg2 arg7 harg7 v hw _ (inv2 c X3 X4 X5 X6 fa' arg0 harg0 arg1 harg1 arg2 harg2 arg7 harg7 v hw f0 f1 f2 hA (z0 c fs fd fy) (8 * v.toNat)))
    iexact H
  iintro %_ H
  beta_reduce
  ihave H := (inv2_end c X3 X4 X5 X6 arg0 harg0 arg1 harg1 arg2 harg2 arg7 harg7 f0 f1 f2 fa' v hw hA (z0 c fs fd fy)) $$ H
  icases H with ⟨⟨Ha, H0, H1, H2, HW⟩, ⟨Sg0, Se0, Sg1, Se1⟩, HG, Hs, Hd, Hh, Hy, Hc⟩
  sl_exec!
  icases HG with ⟨G0, U0, D0, G1, U1, D1, G2, U2, D2, G3, U3, D3⟩
  sl_step
  isplitl [H0]; · iexact H0
  isplitl [H1]; · iexact H1
  isplitl [H2]; · iexact H2
  isplitl [H7]
  · iexists _
    isplitr; swap; · iexact H7
    ipureintro
    exact ⟨fa', v, ⟨hv4⟩, hw, hA, fs, fd, fy, hR, rfl⟩
  isplitl [HW]; · iexact HW
  unfold scr
  isplitl [Ha]; · iexists _; iexact Ha
  isplitl [Sg0]; · iexact Sg0
  isplitl [Se0]; · iexact Se0
  isplitl [Sg1]; · iexact Sg1
  isplitl [Se1]; · iexact Se1
  isplitl [G0]; · iexact G0
  isplitl [U0]; · iexact U0
  isplitl [D0]; · iexact D0
  isplitl [G1]; · iexact G1
  isplitl [U1]; · iexact U1
  isplitl [D1]; · iexact D1
  isplitl [G2]; · iexact G2
  isplitl [U2]; · iexact U2
  isplitl [D2]; · iexact D2
  isplitl [G3]; · iexact G3
  isplitl [U3]; · iexact U3
  isplitl [D3]; · iexact D3
  isplitl [Hs]; · iexact Hs
  isplitl [Hd]; · iexact Hd
  isplitl [Hh]; · iexact Hh
  isplitl [Hy]; · iexact Hy
  iexists _; iexact Hc

end Body
end Cert.Proof.Kernel
-- ==== Proof.Cuts.lean ====
/-
  What the launch hands the body, cut into slots, cells and shares, and put back.
-/
module

public import proofs.«01_k».proof.Proof.Body
public import Idealize.ShloMosaic.Lib.Ring

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

section Cuts
variable (c : Dev nD)

theorem fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem fin2 {M : Type} [URA M] (Φ : Fin 2 → sProp M) : bigSep Finset.univ Φ = iprop(Φ 0 ∗ Φ 1) :=
  bigSep_univ_eq_bigSepL [0, 1] (by decide) (by decide) Φ
theorem fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A buffer at anything, cut. -/
theorem cut_some {ℓ : Loc nD τ sig} {n : ℕ} (I : Fin n → Finset (Idx ℓ)) (hd : ∀ b b', b ≠ b' → Disjoint (I b) (I b')) (hc : Finset.univ.biUnion I = Finset.univ) :
    iprop(∃ f : Buf (Elt F) ℓ, ℓ ↦{fullShare} f) ⊢ (bigSep Finset.univ (fun b => iprop(∃ f : Buf (Elt F) ℓ, ℓ ↦[I b]{fullShare} f)) : sProp 𝕄) := by
  iintro ⟨%f, H⟩
  ihave H := (show (ℓ ↦{fullShare} f : sProp 𝕄) ⊢ bigSep Finset.univ (fun b => iprop(∃ f : Buf (Elt F) ℓ, ℓ ↦[I b]{fullShare} f)) from by
    rw [Ring.pointsTo_blocks I hd hc f]
    exact bigSep_mono fun b _ => (show (ℓ ↦[I b]{fullShare} f : sProp 𝕄) ⊢ iprop(∃ f : Buf (Elt F) ℓ, ℓ ↦[I b]{fullShare} f) from by iintro H; iexists f; iexact H)) $$ H
  iexact H
theorem join_some {ℓ : Loc nD τ sig} {n : ℕ} (I : Fin n → Finset (Idx ℓ)) (hd : ∀ b b', b ≠ b' → Disjoint (I b) (I b')) (hc : Finset.univ.biUnion I = Finset.univ) :
    bigSep Finset.univ (fun b => iprop(∃ f : Buf (Elt F) ℓ, ℓ ↦[I b]{fullShare} f)) ⊢ (iprop(∃ f : Buf (Elt F) ℓ, ℓ ↦{fullShare} f) : sProp 𝕄) :=
  Ring.pointsTo_blocks_join_exists I hd hc (fun _ => Classical.ofNonempty)

theorem gS_set (s : Fin 4) : (gS s).view.set = (Rect.unit (s := S4x2560x256) (slotOff s) S1x2560x256.size (gS_inb s)).set := (View.set_reshape _ _).trans (View.set_slice_whole _ _)
def gI (s : Fin 4) : Finset S4x2560x256.Idx := (gS s).view.set
theorem gI_eq (s : Fin 4) : gI s = (Rect.unit (s := S4x2560x256) (slotOff s) S1x2560x256.size (gS_inb s)).set := gS_set s
theorem gS_disj (s s' : Fin 4) (h : s ≠ s') : Disjoint (gI s) (gI s') := by
  rw [gI_eq, gI_eq]
  exact Ring.lead_disjoint (s := S4x2560x256) (0 : Fin 3) 1 (fun j : Fin 4 => slotOff j) S1x2560x256.size gS_inb (fun b => by show b.val = 1 * b.val; omega) rfl s s' h
theorem gS_cover : Finset.univ.biUnion gI = Finset.univ := by
  rw [show gI = _ from funext gI_eq]
  exact Ring.lead_cover (s := S4x2560x256) (0 : Fin 3) 1 (fun j : Fin 4 => slotOff j) S1x2560x256.size gS_inb (fun b => by show b.val = 1 * b.val; omega)
    (fun b a ha => by fin_cases a; exacts [absurd rfl ha, rfl, rfl]) rfl (fun a ha => by fin_cases a; exacts [absurd rfl ha, rfl, rfl]) rfl
theorem gS_cut : iprop(∃ f : Buf (Elt F) (gM.view.loc (c : Thread nD τ)), gM.view.loc (c : Thread nD τ) ↦{fullShare} f) ⊢ (iprop((∃ f, own c (gS 0) fullShare f) ∗ (∃ f, own c (gS 1) fullShare f) ∗ (∃ f, own c (gS 2) fullShare f) ∗ (∃ f, own c (gS 3) fullShare f)) : sProp 𝕄) :=
  (cut_some (ℓ := gM.view.loc (c : Thread nD τ)) gI gS_disj gS_cover).trans (by rw [fin4]; exact .rfl)
theorem gS_join : (iprop((∃ f, own c (gS 0) fullShare f) ∗ (∃ f, own c (gS 1) fullShare f) ∗ (∃ f, own c (gS 2) fullShare f) ∗ (∃ f, own c (gS 3) fullShare f)) : sProp 𝕄) ⊢ iprop(∃ f : Buf (Elt F) (gM.view.loc (c : Thread nD τ)), gM.view.loc (c : Thread nD τ) ↦{fullShare} f) :=
  .trans (by rw [fin4]; exact .rfl) (join_some (ℓ := gM.view.loc (c : Thread nD τ)) gI gS_disj gS_cover)

theorem uS_set (s : Fin 4) : (uS s).view.set = (Rect.unit (s := S4x2560x256) (slotOff s) S1x2560x256.size (uS_inb s)).set := (View.set_reshape _ _).trans (View.set_slice_whole _ _)
def uI (s : Fin 4) : Finset S4x2560x256.Idx := (uS s).view.set
theorem uI_eq (s : Fin 4) : uI s = (Rect.unit (s := S4x2560x256) (slotOff s) S1x2560x256.size (uS_inb s)).set := uS_set s
theorem uS_disj (s s' : Fin 4) (h : s ≠ s') : Disjoint (uI s) (uI s') := by
  rw [uI_eq, uI_eq]
  exact Ring.lead_disjoint (s := S4x2560x256) (0 : Fin 3) 1 (fun j : Fin 4 => slotOff j) S1x2560x256.size uS_inb (fun b => by show b.val = 1 * b.val; omega) rfl s s' h
theorem uS_cover : Finset.univ.biUnion uI = Finset.univ := by
  rw [show uI = _ from funext uI_eq]
  exact Ring.lead_cover (s := S4x2560x256) (0 : Fin 3) 1 (fun j : Fin 4 => slotOff j) S1x2560x256.size uS_inb (fun b => by show b.val = 1 * b.val; omega)
    (fun b a ha => by fin_cases a; exacts [absurd rfl ha, rfl, rfl]) rfl (fun a ha => by fin_cases a; exacts [absurd rfl ha, rfl, rfl]) rfl
theorem uS_cut : iprop(∃ f : Buf (Elt F) (uM.view.loc (c : Thread nD τ)), uM.view.loc (c : Thread nD τ) ↦{fullShare} f) ⊢ (iprop((∃ f, own c (uS 0) fullShare f) ∗ (∃ f, own c (uS 1) fullShare f) ∗ (∃ f, own c (uS 2) fullShare f) ∗ (∃ f, own c (uS 3) fullShare f)) : sProp 𝕄) :=
  (cut_some (ℓ := uM.view.loc (c : Thread nD τ)) uI uS_disj uS_cover).trans (by rw [fin4]; exact .rfl)
theorem uS_join : (iprop((∃ f, own c (uS 0) fullShare f) ∗ (∃ f, own c (uS 1) fullShare f) ∗ (∃ f, own c (uS 2) fullShare f) ∗ (∃ f, own c (uS 3) fullShare f)) : sProp 𝕄) ⊢ iprop(∃ f : Buf (Elt F) (uM.view.loc (c : Thread nD τ)), uM.view.loc (c : Thread nD τ) ↦{fullShare} f) :=
  .trans (by rw [fin4]; exact .rfl) (join_some (ℓ := uM.view.loc (c : Thread nD τ)) uI uS_disj uS_cover)

theorem dS_set (s : Fin 4) : (dS s).view.set = (Rect.unit (s := S4x128x5120) (slotOff s) S1x128x5120.size (dS_inb s)).set := (View.set_reshape _ _).trans (View.set_slice_whole _ _)
def dI (s : Fin 4) : Finset S4x128x5120.Idx := (dS s).view.set
theorem dI_eq (s : Fin 4) : dI s = (Rect.unit (s := S4x128x5120) (slotOff s) S1x128x5120.size (dS_inb s)).set := dS_set s
theorem dS_disj (s s' : Fin 4) (h : s ≠ s') : Disjoint (dI s) (dI s') := by
  rw [dI_eq, dI_eq]
  exact Ring.lead_disjoint (s := S4x128x5120) (0 : Fin 3) 1 (fun j : Fin 4 => slotOff j) S1x128x5120.size dS_inb (fun b => by show b.val = 1 * b.val; omega) rfl s s' h
theorem dS_cover : Finset.univ.biUnion dI = Finset.univ := by
  rw [show dI = _ from funext dI_eq]
  exact Ring.lead_cover (s := S4x128x5120) (0 : Fin 3) 1 (fun j : Fin 4 => slotOff j) S1x128x5120.size dS_inb (fun b => by show b.val = 1 * b.val; omega)
    (fun b a ha => by fin_cases a; exacts [absurd rfl ha, rfl, rfl]) rfl (fun a ha => by fin_cases a; exacts [absurd rfl ha, rfl, rfl]) rfl
theorem dS_cut : iprop(∃ f : Buf (Elt F) (dM.view.loc (c : Thread nD τ)), dM.view.loc (c : Thread nD τ) ↦{fullShare} f) ⊢ (iprop((∃ f, own c (dS 0) fullShare f) ∗ (∃ f, own c (dS 1) fullShare f) ∗ (∃ f, own c (dS 2) fullShare f) ∗ (∃ f, own c (dS 3) fullShare f)) : sProp 𝕄) :=
  (cut_some (ℓ := dM.view.loc (c : Thread nD τ)) dI dS_disj dS_cover).trans (by rw [fin4]; exact .rfl)
theorem dS_join : (iprop((∃ f, own c (dS 0) fullShare f) ∗ (∃ f, own c (dS 1) fullShare f) ∗ (∃ f, own c (dS 2) fullShare f) ∗ (∃ f, own c (dS 3) fullShare f)) : sProp 𝕄) ⊢ iprop(∃ f : Buf (Elt F) (dM.view.loc (c : Thread nD τ)), dM.view.loc (c : Thread nD τ) ↦{fullShare} f) :=
  .trans (by rw [fin4]; exact .rfl) (join_some (ℓ := dM.view.loc (c : Thread nD τ)) dI dS_disj dS_cover)

theorem sgS_set (s : Fin 2) : (sgS s).view.set = (Rect.unit (s := S2x40x4096) (slotOff s) S1x40x4096.size (sgS_inb s)).set := (View.set_reshape _ _).trans (View.set_slice_whole _ _)
def sgI (s : Fin 2) : Finset S2x40x4096.Idx := (sgS s).view.set
theorem sgI_eq (s : Fin 2) : sgI s = (Rect.unit (s := S2x40x4096) (slotOff s) S1x40x4096.size (sgS_inb s)).set := sgS_set s
theorem sgS_disj (s s' : Fin 2) (h : s ≠ s') : Disjoint (sgI s) (sgI s') := by
  rw [sgI_eq, sgI_eq]
  exact Ring.lead_disjoint (s := S2x40x4096) (0 : Fin 3) 1 (fun j : Fin 2 => slotOff j) S1x40x4096.size sgS_inb (fun b => by show b.val = 1 * b.val; omega) rfl s s' h
theorem sgS_cover : Finset.univ.biUnion sgI = Finset.univ := by
  rw [show sgI = _ from funext sgI_eq]
  exact Ring.lead_cover (s := S2x40x4096) (0 : Fin 3) 1 (fun j : Fin 2 => slotOff j) S1x40x4096.size sgS_inb (fun b => by show b.val = 1 * b.val; omega)
    (fun b a ha => by fin_cases a; exacts [absurd rfl ha, rfl, rfl]) rfl (fun a ha => by fin_cases a; exacts [absurd rfl ha, rfl, rfl]) rfl
theorem sgS_cut : iprop(∃ f : Buf (Elt F) (sgM.view.loc (c : Thread nD τ)), sgM.view.loc (c : Thread nD τ) ↦{fullShare} f) ⊢ (iprop((∃ f, own c (sgS 0) fullShare f) ∗ (∃ f, own c (sgS 1) fullShare f)) : sProp 𝕄) :=
  (cut_some (ℓ := sgM.view.loc (c : Thread nD τ)) sgI sgS_disj sgS_cover).trans (by rw [fin2]; exact .rfl)
theorem sgS_join : (iprop((∃ f, own c (sgS 0) fullShare f) ∗ (∃ f, own c (sgS 1) fullShare f)) : sProp 𝕄) ⊢ iprop(∃ f : Buf (Elt F) (sgM.view.loc (c : Thread nD τ)), sgM.view.loc (c : Thread nD τ) ↦{fullShare} f) :=
  .trans (by rw [fin2]; exact .rfl) (join_some (ℓ := sgM.view.loc (c : Thread nD τ)) sgI sgS_disj sgS_cover)

theorem seS_set (s : Fin 2) : (seS s).view.set = (Rect.unit (s := S2x16x5120) (slotOff s) S1x16x5120.size (seS_inb s)).set := (View.set_reshape _ _).trans (View.set_slice_whole _ _)
def seI (s : Fin 2) : Finset S2x16x5120.Idx := (seS s).view.set
theorem seI_eq (s : Fin 2) : seI s = (Rect.unit (s := S2x16x5120) (slotOff s) S1x16x5120.size (seS_inb s)).set := seS_set s
theorem seS_disj (s s' : Fin 2) (h : s ≠ s') : Disjoint (seI s) (seI s') := by
  rw [seI_eq, seI_eq]
  exact Ring.lead_disjoint (s := S2x16x5120) (0 : Fin 3) 1 (fun j : Fin 2 => slotOff j) S1x16x5120.size seS_inb (fun b => by show b.val = 1 * b.val; omega) rfl s s' h
theorem seS_cover : Finset.univ.biUnion seI = Finset.univ := by
  rw [show seI = _ from funext seI_eq]
  exact Ring.lead_cover (s := S2x16x5120) (0 : Fin 3) 1 (fun j : Fin 2 => slotOff j) S1x16x5120.size seS_inb (fun b => by show b.val = 1 * b.val; omega)
    (fun b a ha => by fin_cases a; exacts [absurd rfl ha, rfl, rfl]) rfl (fun a ha => by fin_cases a; exacts [absurd rfl ha, rfl, rfl]) rfl
theorem seS_cut : iprop(∃ f : Buf (Elt F) (seM.view.loc (c : Thread nD τ)), seM.view.loc (c : Thread nD τ) ↦{fullShare} f) ⊢ (iprop((∃ f, own c (seS 0) fullShare f) ∗ (∃ f, own c (seS 1) fullShare f)) : sProp 𝕄) :=
  (cut_some (ℓ := seM.view.loc (c : Thread nD τ)) seI seS_disj seS_cover).trans (by rw [fin2]; exact .rfl)
theorem seS_join : (iprop((∃ f, own c (seS 0) fullShare f) ∗ (∃ f, own c (seS 1) fullShare f)) : sProp 𝕄) ⊢ iprop(∃ f : Buf (Elt F) (seM.view.loc (c : Thread nD τ)), seM.view.loc (c : Thread nD τ) ↦{fullShare} f) :=
  .trans (by rw [fin2]; exact .rfl) (join_some (ℓ := seM.view.loc (c : Thread nD τ)) seI seS_disj seS_cover)

section Phi
variable (V : (c : Dev nD) → (b : Ref sig .tc) → Buf (Elt F) ((c.tc : Thread nD τ).loc b))

/-- The kernel's own cells, by their numbers. -/
abbrev osem0 : Fin 16 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 16 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(cell c (gC 0) ∗ cell c (gC 1) ∗ cell c (gC 2) ∗ cell c (gC 3) ∗ cell c (uC 0) ∗ cell c (uC 1) ∗ cell c (uC 2) ∗ cell c (uC 3) ∗ cell c (dC 0) ∗ cell c (dC 1) ∗ cell c (dC 2) ∗ cell c (dC 3) ∗ cell c (sgC 0) ∗ cell c (sgC 1) ∗ cell c (seC 0) ∗ cell c (seC 1)) := by
  rw [Pipeline.ownSems0_eq_of_list c osem0 [0, 1, 2, 3, 4, 5, 6, 7, 8, 9, 10, 11, 12, 13, 14, 15] (by decide) (by decide)]; rfl
/-- The arrays left where they are. -/
def H0 : Finset (Ref sig .tc) := {main_arg3, main_arg4, main_arg5, main_arg6}
theorem H0_sub : H0 ⊆ Pipeline.restRefs sig spec0 := by decide
theorem hbmPts0_eq :
    (bigSep H0 (fun b => ((c : Thread nD τ).loc b) ↦{fullShare} V c b) : sProp 𝕄)
      = iprop((wguM.view.loc (c : Thread nD τ) ↦{fullShare} V c main_arg3) ∗ (sguM.view.loc (c : Thread nD τ) ↦{fullShare} V c main_arg4) ∗ (wdM.view.loc (c : Thread nD τ) ↦{fullShare} V c main_arg5) ∗ (sdM.view.loc (c : Thread nD τ) ↦{fullShare} V c main_arg6)) := by
  rw [BI.bigSep_eq_bigSepL_of_eq [main_arg3, main_arg4, main_arg5, main_arg6] (by decide) (by decide)]; rfl

/-- What is left of the arrays once every cell has its share. -/
def rem : sProp 𝕄 :=
  iprop((wguM.view.loc (c : Thread nD τ) ↦{Transfers.shareDrop fullShare 8} V c main_arg3) ∗ (sguM.view.loc (c : Thread nD τ) ↦{Transfers.shareDrop fullShare 2} V c main_arg4) ∗ (wdM.view.loc (c : Thread nD τ) ↦{Transfers.shareDrop fullShare 4} V c main_arg5) ∗ (sdM.view.loc (c : Thread nD τ) ↦{Transfers.shareDrop fullShare 2} V c main_arg6))

theorem deal3 (X : Buf (Elt F) (wguM.view.loc (c : Thread nD τ))) :
    (wguM.view.loc (c : Thread nD τ) ↦{fullShare} X : sProp 𝕄) ⊣⊢ iprop((wguM.view.loc (c : Thread nD τ) ↦{Transfers.shareDrop fullShare 8} X) ∗ (wguM.view.loc (c : Thread nD τ) ↦{qg 0} X) ∗ (wguM.view.loc (c : Thread nD τ) ↦{qg 1} X) ∗ (wguM.view.loc (c : Thread nD τ) ↦{qg 2} X) ∗ (wguM.view.loc (c : Thread nD τ) ↦{qg 3} X) ∗ (wguM.view.loc (c : Thread nD τ) ↦{qu 0} X) ∗ (wguM.view.loc (c : Thread nD τ) ↦{qu 1} X) ∗ (wguM.view.loc (c : Thread nD τ) ↦{qu 2} X) ∗ (wguM.view.loc (c : Thread nD τ) ↦{qu 3} X)) := by
  have h := Transfers.pointsTo_toks (Ix := Unit) (Val := Elt F) (Name := ℕ) (U := Pipeline.UD sig nD τ) (Lvl := ℕ) (ℓ := wguM.view.loc (c : Thread nD τ)) (S := Finset.univ) (f := X) fullShare 8
  rw [fin8] at h
  exact h
theorem deal5 (X : Buf (Elt F) (wdM.view.loc (c : Thread nD τ))) :
    (wdM.view.loc (c : Thread nD τ) ↦{fullShare} X : sProp 𝕄) ⊣⊢ iprop((wdM.view.loc (c : Thread nD τ) ↦{Transfers.shareDrop fullShare 4} X) ∗ (wdM.view.loc (c : Thread nD τ) ↦{qd 0} X) ∗ (wdM.view.loc (c : Thread nD τ) ↦{qd 1} X) ∗ (wdM.view.loc (c : Thread nD τ) ↦{qd 2} X) ∗ (wdM.view.loc (c : Thread nD τ) ↦{qd 3} X)) := by
  have h := Transfers.pointsTo_toks (Ix := Unit) (Val := Elt F) (Name := ℕ) (U := Pipeline.UD sig nD τ) (Lvl := ℕ) (ℓ := wdM.view.loc (c : Thread nD τ)) (S := Finset.univ) (f := X) fullShare 4
  rw [fin4] at h
  exact h
theorem deal4 (X : Buf (Elt F) (sguM.view.loc (c : Thread nD τ))) :
    (sguM.view.loc (c : Thread nD τ) ↦{fullShare} X : sProp 𝕄) ⊣⊢ iprop((sguM.view.loc (c : Thread nD τ) ↦{Transfers.shareDrop fullShare 2} X) ∗ (sguM.view.loc (c : Thread nD τ) ↦{qsg 0} X) ∗ (sguM.view.loc (c : Thread nD τ) ↦{qsg 1} X)) := by
  have h := Transfers.pointsTo_toks (Ix := Unit) (Val := Elt F) (Name := ℕ) (U := Pipeline.UD sig nD τ) (Lvl := ℕ) (ℓ := sguM.view.loc (c : Thread nD τ)) (S := Finset.univ) (f := X) fullShare 2
  rw [fin2] at h
  exact h
theorem deal6 (X : Buf (Elt F) (sdM.view.loc (c : Thread nD τ))) :
    (sdM.view.loc (c : Thread nD τ) ↦{fullShare} X : sProp 𝕄) ⊣⊢ iprop((sdM.view.loc (c : Thread nD τ) ↦{Transfers.shareDrop fullShare 2} X) ∗ (sdM.view.loc (c : Thread nD τ) ↦{qse 0} X) ∗ (sdM.view.loc (c : Thread nD τ) ↦{qse 1} X)) := by
  have h := Transfers.pointsTo_toks (Ix := Unit) (Val := Elt F) (Name := ℕ) (U := Pipeline.UD sig nD τ) (Lvl := ℕ) (ℓ := sdM.view.loc (c : Thread nD τ)) (S := Finset.univ) (f := X) fullShare 2
  rw [fin2] at h
  exact h

theorem own_whole (b : Ref sig .tc) (f : Buf (Elt F) ((Memref.whole b).view.loc (c : Thread nD τ))) :
    own c (Memref.whole b) fullShare f = ((c : Thread nD τ).loc b ↦{fullShare} f : sProp 𝕄) := by
  unfold own; rw [show (Memref.whole b).view.set = Finset.univ from View.set_whole b]
theorem own_whole_of (b : Ref sig .tc) (f : Buf (Elt F) ((Memref.whole b).view.loc (c : Thread nD τ))) :
    ((c : Thread nD τ).loc b ↦{fullShare} f : sProp 𝕄) ⊢ own c (Memref.whole b) fullShare f := by
  rw [own_whole]
theorem own_whole_to (b : Ref sig .tc) (f : Buf (Elt F) ((Memref.whole b).view.loc (c : Thread nD τ))) :
    own c (Memref.whole b) fullShare f ⊢ ((c : Thread nD τ).loc b ↦{fullShare} f : sProp 𝕄) := by
  rw [own_whole]

/-- Opened at entry … -/
theorem phi_open : (Pipeline.ΦD osem0 spec0 H0 V c : sProp 𝕄)
    ⊢ iprop((∃ r, prngReg c r) ∗ rem c V ∗ scr c (V c main_arg3) (V c main_arg4) (V c main_arg5) (V c main_arg6)) := by
  rw [Pipeline.ΦD_eq, scopedRest0_eq, ownSems00_eq, hbmPts0_eq]
  iintro ⟨⟨B1, B2, B3, B4, B5, ⟨%f6, B6⟩, ⟨%f7, B7⟩, ⟨%f8, B8⟩, ⟨%f9, B9⟩, ⟨%f10, B10⟩, ⟨%f0, B0⟩⟩, HP, ⟨Cg0, Cg1, Cg2, Cg3, Cu0, Cu1, Cu2, Cu3, Cd0, Cd1, Cd2, Cd3, Csg0, Csg1, Cse0, Cse1⟩, X3, X4, X5, X6⟩
  ihave B1 := (gS_cut c) $$ B1
  icases B1 with ⟨Bg0, Bg1, Bg2, Bg3⟩
  ihave B2 := (uS_cut c) $$ B2
  icases B2 with ⟨Bu0, Bu1, Bu2, Bu3⟩
  ihave B3 := (dS_cut c) $$ B3
  icases B3 with ⟨Bd0, Bd1, Bd2, Bd3⟩
  ihave B4 := (sgS_cut c) $$ B4
  icases B4 with ⟨Bsg0, Bsg1⟩
  ihave B5 := (seS_cut c) $$ B5
  icases B5 with ⟨Bse0, Bse1⟩
  ihave X3 := (deal3 c (V c main_arg3)).1 $$ X3
  icases X3 with ⟨X3, Tg0, Tg1, Tg2, Tg3, Tu0, Tu1, Tu2, Tu3⟩
  ihave X5 := (deal5 c (V c main_arg5)).1 $$ X5
  icases X5 with ⟨X5, Td0, Td1, Td2, Td3⟩
  ihave X4 := (deal4 c (V c main_arg4)).1 $$ X4
  icases X4 with ⟨X4, Tsg0, Tsg1⟩
  ihave X6 := (deal6 c (V c main_arg6)).1 $$ X6
  icases X6 with ⟨X6, Tse0, Tse1⟩
  isplitl [HP]; · iexact HP
  isplitl [X3 X4 X5 X6]
  · unfold rem
    isplitl [X3]; · iexact X3
    isplitl [X4]; · iexact X4
    isplitl [X5]; · iexact X5
    iexact X6
  unfold scr
  isplitl [B0]; · iexists f0; iapply (own_whole_of c cc0_scratch0 f0); iexact B0
  isplitl [Bsg0 Csg0 Tsg0]
  · unfold sgFree
    isplitl [Bsg0]; · iexact Bsg0
    isplitl [Csg0]; · iexact Csg0
    iexact Tsg0
  isplitl [Bse0 Cse0 Tse0]
  · unfold seFree
    isplitl [Bse0]; · iexact Bse0
    isplitl [Cse0]; · iexact Cse0
    iexact Tse0
  isplitl [Bsg1 Csg1 Tsg1]
  · unfold sgFree
    isplitl [Bsg1]; · iexact Bsg1
    isplitl [Csg1]; · iexact Csg1
    iexact Tsg1
  isplitl [Bse1 Cse1 Tse1]
  · unfold seFree
    isplitl [Bse1]; · iexact Bse1
    isplitl [Cse1]; · iexact Cse1
    iexact Tse1
  isplitl [Bg0 Cg0 Tg0]
  · unfold gFree
    isplitl [Bg0]; · iexact Bg0
    isplitl [Cg0]; · iexact Cg0
    iexact Tg0
  isplitl [Bu0 Cu0 Tu0]
  · unfold uFree
    isplitl [Bu0]; · iexact Bu0
    isplitl [Cu0]; · iexact Cu0
    iexact Tu0
  isplitl [Bd0 Cd0 Td0]
  · unfold dFree
    isplitl [Bd0]; · iexact Bd0
    isplitl [Cd0]; · iexact Cd0
    iexact Td0
  isplitl [Bg1 Cg1 Tg1]
  · unfold gFree
    isplitl [Bg1]; · iexact Bg1
    isplitl [Cg1]; · iexact Cg1
    iexact Tg1
  isplitl [Bu1 Cu1 Tu1]
  · unfold uFree
    isplitl [Bu1]; · iexact Bu1
    isplitl [Cu1]; · iexact Cu1
    iexact Tu1
  isplitl [Bd1 Cd1 Td1]
  · unfold dFree
    isplitl [Bd1]; · iexact Bd1
    isplitl [Cd1]; · iexact Cd1
    iexact Td1
  isplitl [Bg2 Cg2 Tg2]
  · unfold gFree
    isplitl [Bg2]; · iexact Bg2
    isplitl [Cg2]; · iexact Cg2
    iexact Tg2
  isplitl [Bu2 Cu2 Tu2]
  · unfold uFree
    isplitl [Bu2]; · iexact Bu2
    isplitl [Cu2]; · iexact Cu2
    iexact Tu2
  isplitl [Bd2 Cd2 Td2]
  · unfold dFree
    isplitl [Bd2]; · iexact Bd2
    isplitl [Cd2]; · iexact Cd2
    iexact Td2
  isplitl [Bg3 Cg3 Tg3]
  · unfold gFree
    isplitl [Bg3]; · iexact Bg3
    isplitl [Cg3]; · iexact Cg3
    iexact Tg3
  isplitl [Bu3 Cu3 Tu3]
  · unfold uFree
    isplitl [Bu3]; · iexact Bu3
    isplitl [Cu3]; · iexact Cu3
    iexact Tu3
  isplitl [Bd3 Cd3 Td3]
  · unfold dFree
    isplitl [Bd3]; · iexact Bd3
    isplitl [Cd3]; · iexact Cd3
    iexact Td3
  isplitl [B6]; · iexists f6; iapply (own_whole_of c cc0_scratch6 f6); iexact B6
  isplitl [B7]; · iexists f7; iapply (own_whole_of c cc0_scratch7 f7); iexact B7
  isplitl [B8]; · iexists f8; iapply (own_whole_of c cc0_scratch8 f8); iexact B8
  isplitl [B9]; · iexists f9; iapply (own_whole_of c cc0_scratch9 f9); iexact B9
  iexists f10; iapply (own_whole_of c cc0_scratch10 f10); iexact B10

/-- … and put back at exit. -/
theorem phi_close : iprop((∃ r, prngReg c r) ∗ rem c V ∗ scr c (V c main_arg3) (V c main_arg4) (V c main_arg5) (V c main_arg6))
    ⊢ (Pipeline.ΦD osem0 spec0 H0 V c : sProp 𝕄) := by
  rw [Pipeline.ΦD_eq, scopedRest0_eq, ownSems00_eq, hbmPts0_eq]
  unfold scr rem sgFree seFree gFree uFree dFree
  iintro ⟨HP, ⟨X3, X4, X5, X6⟩, ⟨%f0, B0⟩, ⟨Bsg0, Csg0, Tsg0⟩, ⟨Bse0, Cse0, Tse0⟩, ⟨Bsg1, Csg1, Tsg1⟩, ⟨Bse1, Cse1, Tse1⟩, ⟨Bg0, Cg0, Tg0⟩, ⟨Bu0, Cu0, Tu0⟩, ⟨Bd0, Cd0, Td0⟩, ⟨Bg1, Cg1, Tg1⟩, ⟨Bu1, Cu1, Tu1⟩, ⟨Bd1, Cd1, Td1⟩, ⟨Bg2, Cg2, Tg2⟩, ⟨Bu2, Cu2, Tu2⟩, ⟨Bd2, Cd2, Td2⟩, ⟨Bg3, Cg3, Tg3⟩, ⟨Bu3, Cu3, Tu3⟩, ⟨Bd3, Cd3, Td3⟩, ⟨%f6, B6⟩, ⟨%f7, B7⟩, ⟨%f8, B8⟩, ⟨%f9, B9⟩, ⟨%f10, B10⟩⟩
  isplitl [B0 B6 B7 B8 B9 B10 Bsg0 Bse0 Bsg1 Bse1 Bg0 Bu0 Bd0 Bg1 Bu1 Bd1 Bg2 Bu2 Bd2 Bg3 Bu3 Bd3]
  · isplitl [Bg0 Bg1 Bg2 Bg3]
    · iapply (gS_join c)
      isplitl [Bg0]; · iexact Bg0
      isplitl [Bg1]; · iexact Bg1
      isplitl [Bg2]; · iexact Bg2
      iexact Bg3
    isplitl [Bu0 Bu1 Bu2 Bu3]
    · iapply (uS_join c)
      isplitl [Bu0]; · iexact Bu0
      isplitl [Bu1]; · iexact Bu1
      isplitl [Bu2]; · iexact Bu2
      iexact Bu3
    isplitl [Bd0 Bd1 Bd2 Bd3]
    · iapply (dS_join c)
      isplitl [Bd0]; · iexact Bd0
      isplitl [Bd1]; · iexact Bd1
      isplitl [Bd2]; · iexact Bd2
      iexact Bd3
    isplitl [Bsg0 Bsg1]
    · iapply (sgS_join c)
      isplitl [Bsg0]; · iexact Bsg0
      iexact Bsg1
    isplitl [Bse0 Bse1]
    · iapply (seS_join c)
      isplitl [Bse0]; · iexact Bse0
      iexact Bse1
    isplitl [B6]; · iexists f6; iapply (own_whole_to c cc0_scratch6 f6); iexact B6
    isplitl [B7]; · iexists f7; iapply (own_whole_to c cc0_scratch7 f7); iexact B7
    isplitl [B8]; · iexists f8; iapply (own_whole_to c cc0_scratch8 f8); iexact B8
    isplitl [B9]; · iexists f9; iapply (own_whole_to c cc0_scratch9 f9); iexact B9
    isplitl [B10]; · iexists f10; iapply (own_whole_to c cc0_scratch10 f10); iexact B10
    iexists f0; iapply (own_whole_to c cc0_scratch0 f0); iexact B0
  isplitl [HP]; · iexact HP
  isplitl [Cg0 Cg1 Cg2 Cg3 Cu0 Cu1 Cu2 Cu3 Cd0 Cd1 Cd2 Cd3 Csg0 Csg1 Cse0 Cse1]
  · isplitl [Cg0]; · iexact Cg0
    isplitl [Cg1]; · iexact Cg1
    isplitl [Cg2]; · iexact Cg2
    isplitl [Cg3]; · iexact Cg3
    isplitl [Cu0]; · iexact Cu0
    isplitl [Cu1]; · iexact Cu1
    isplitl [Cu2]; · iexact Cu2
    isplitl [Cu3]; · iexact Cu3
    isplitl [Cd0]; · iexact Cd0
    isplitl [Cd1]; · iexact Cd1
    isplitl [Cd2]; · iexact Cd2
    isplitl [Cd3]; · iexact Cd3
    isplitl [Csg0]; · iexact Csg0
    isplitl [Csg1]; · iexact Csg1
    isplitl [Cse0]; · iexact Cse0
    iexact Cse1
  isplitl [X3 Tg0 Tg1 Tg2 Tg3 Tu0 Tu1 Tu2 Tu3]
  · iapply (deal3 c (V c main_arg3)).2
    isplitl [X3]; · iexact X3
    isplitl [Tg0]; · iexact Tg0
    isplitl [Tg1]; · iexact Tg1
    isplitl [Tg2]; · iexact Tg2
    isplitl [Tg3]; · iexact Tg3
    isplitl [Tu0]; · iexact Tu0
    isplitl [Tu1]; · iexact Tu1
    isplitl [Tu2]; · iexact Tu2
    iexact Tu3
  isplitl [X4 Tsg0 Tsg1]
  · iapply (deal4 c (V c main_arg4)).2
    isplitl [X4]; · iexact X4
    isplitl [Tsg0]; · iexact Tsg0
    iexact Tsg1
  isplitl [X5 Td0 Td1 Td2 Td3]
  · iapply (deal5 c (V c main_arg5)).2
    isplitl [X5]; · iexact X5
    isplitl [Td0]; · iexact Td0
    isplitl [Td1]; · iexact Td1
    isplitl [Td2]; · iexact Td2
    iexact Td3
  · iapply (deal6 c (V c main_arg6)).2
    isplitl [X6]; · iexact X6
    isplitl [Tse0]; · iexact Tse0
    iexact Tse1

end Phi
end Cuts
end Cert.Proof.Kernel
-- ==== Proof.Launch.lean ====
/-
  The launch: the body's triple at the one point, and the run of the whole program.
-/
module

public import proofs.«01_k».proof.Proof.Cuts
public import proofs.«01_k».proof.Proof.Gen.Kernel.Frame
public import Idealize.ShloMosaic.Lib.Pipeline.Frame

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

abbrev hst0 (t : Fin cfg0.N) : (st0_0 t).IsWhole := hstage0_0 0
abbrev hst1 (t : Fin cfg0.N) : (st0_1 t).IsWhole := hstage0_1 0
abbrev hst2 (t : Fin cfg0.N) : (st0_2 t).IsWhole := hstage0_2 0
abbrev hst3 (t : Fin cfg0.N) : (st0_3 t).IsWhole := hstage0_3 0

/-- Some expert is asked for, on core `c`. -/
def Asked (c : Dev nD) : Prop :=
  ∀ (t : Fin cfg0.N) (f0 : Buf (Elt F) ((st0_0 t).view.loc (c : Thread nD τ))), (st0_0 t).view.read (Elt F) f0 = iblk m c 0 t → 1 ≤ (hits c (st0_0 t) f0 4).length

/-- The output's buffer as a run on the launched arrays may leave it. -/
def Left (c : Dev nD) (t : Fin cfg0.N) (out : Buf (Elt F) ((st0_3 t).view.loc (c : Thread nD τ))) : Prop :=
  ∃ (f0 : Buf (Elt F) ((st0_0 t).view.loc (c : Thread nD τ))) (f1 : Buf (Elt F) ((st0_1 t).view.loc (c : Thread nD τ))) (f2 : Buf (Elt F) ((st0_2 t).view.loc (c : Thread nD τ))),
    ((st0_0 t).view.read (Elt F) f0 = iblk m c 0 t ∧ (st0_1 t).view.read (Elt F) f1 = iblk m c 1 t ∧ (st0_2 t).view.read (Elt F) f2 = iblk m c 2 t)
    ∧ OutOK c (V m c main_arg3) (V m c main_arg4) (V m c main_arg5) (V m c main_arg6) (st0_0 t) (hst0 t) (st0_1 t) (hst1 t) (st0_2 t) (hst2 t) (st0_3 t) (hst3 t) f0 f1 f2 out

/-- The body at the point: the triple every obligation below restates. -/
theorem point (c : Dev nD) (hne : Asked m c) (t : Fin cfg0.N) (W : Waits sig Unit) :
    iprop(Pipeline.ΦD osem0 spec0 H0 (V m) c ∗ owes (c : Thread nD τ) 0 W ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ d, owns (c : Thread nD τ) (st0_3 t) fullShare d))
    ⊢ wp frame (wpE (defs₀ (F := F)) 𝒱₀ (c : Thread nD τ) none) Set.univ (bodyAt0 t)
        (fun _ => iprop(Pipeline.ΦD osem0 spec0 H0 (V m) c ∗ (∃ W, owes (c : Thread nD τ) 0 W) ∗ owns (c : Thread nD τ) (st0_0 t) fullShare (iblk m c 0 t) ∗ owns (c : Thread nD τ) (st0_1 t) fullShare (iblk m c 1 t) ∗ owns (c : Thread nD τ) (st0_2 t) fullShare (iblk m c 2 t)
          ∗ (∃ out, ⌜Left m c t out⌝ ∗ own c (st0_3 t) fullShare out))) := by
  iintro ⟨HΦ, HW, H0, H1, H2, H7⟩
  ihave HΦ := (phi_open c (V m)) $$ HΦ
  icases HΦ with ⟨HP, HR, HS⟩
  unfold owns
  icases H0 with ⟨%f0, %e0, H0⟩
  icases H1 with ⟨%f1, %e1, H1⟩
  icases H2 with ⟨%f2, %e2, H2⟩
  icases H7 with ⟨%d7, %f7, %e7, H7⟩
  iapply (wp_wand_r Idealize.ShloMosaic.frame (wpE (defs₀ (F := F)) 𝒱₀ (c : Thread nD τ) none) Set.univ)
  isplitl [HW H0 H1 H2 H7 HS]
  · iapply (body_run c (V m c main_arg3) (V m c main_arg4) (V m c main_arg5) (V m c main_arg6) (st0_0 t) (hst0 t) (st0_1 t) (hst1 t) (st0_2 t) (hst2 t) (st0_3 t) (hst3 t) f0 f1 f2 f7 W (hne t f0 e0))
    isplitl [H0]; · iexact H0
    isplitl [H1]; · iexact H1
    isplitl [H2]; · iexact H2
    isplitl [H7]; · iexact H7
    isplitl [HW]; · iexact HW
    iexact HS
  iintro %_ ⟨H0, H1, H2, ⟨%out, %hout, H7⟩, HW, HS⟩
  isplitl [HP HR HS]
  · iapply (phi_close c (V m))
    isplitl [HP]; · iexact HP
    isplitl [HR]; · iexact HR
    iexact HS
  isplitl [HW]; · iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists out
  isplitr
  · ipureintro; exact ⟨f0, f1, f2, ⟨e0, e1, e2⟩, hout⟩
  iexact H7

/-- The proof data, the output's block left at `o`. -/
def dats (o : Dev nD → (cfg0.win 3).block.Idx → Elt F (cfg0.win 3).elt) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o c
  Φ _ := Pipeline.ΦD osem0 spec0 H0 (V m) c
  q _ := fullShare
  owed _ := 0

variable (o : Dev nD → (cfg0.win 3).block.Idx → Elt F (cfg0.win 3).elt)

theorem A_eq (c : Dev nD) (w : Fin cfg0.W) : (dats m o 0 c).A w = V m c (Pipeline.arrRef spec0 w) := by dsimp only [dats]
theorem before_w0 (c : Dev nD) (t : Fin cfg0.N) (d) : (dats m o 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m o 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m o 0 c).before 2 t d = iblk m c 2 t := by
  unfold Dat.before; rw [if_pos (fetch0_2 t)]; unfold Dat.fetched Dat.blockOf iblk; dsimp only [dats]; rfl
theorem after_w0 (c : Dev nD) (t : Fin cfg0.N) : (dats m o 0 c).after 0 t = iblk m c 0 t := by dsimp only [dats]
theorem after_w1 (c : Dev nD) (t : Fin cfg0.N) : (dats m o 0 c).after 1 t = iblk m c 1 t := by dsimp only [dats]
theorem after_w2 (c : Dev nD) (t : Fin cfg0.N) : (dats m o 0 c).after 2 t = iblk m c 2 t := by dsimp only [dats]
theorem after_w3 (c : Dev nD) (t : Fin cfg0.N) : (dats m o 0 c).after 3 t = o c := by dsimp only [dats]

theorem defs₀_row (t : Fin cfg0.N) : defs₀ (F := F) .tc cfg0.body (cfg0.bodyArgs t (cfg0.slots t)) = bodyAt0 t := by
  unfold defs₀; rw [Defs.onTc_tc]

/-- The output unread. -/
def forgets0 : Fin 4 → Bool := fun w => w == 3

def bodyPre (c : Dev nD) (t : Fin cfg0.N) : sProp 𝕄 :=
  iprop((dats m o 0 c).Φ t.castSucc ∗ (dats m o 0 c).owesAt () t.castSucc
    ∗ (∃ d, owns (c : Thread nD τ) (st0_0 t) fullShare ((dats m o 0 c).before 0 t d)) ∗ (∃ d, owns (c : Thread nD τ) (st0_1 t) fullShare ((dats m o 0 c).before 1 t d)) ∗ (∃ d, owns (c : Thread nD τ) (st0_2 t) fullShare ((dats m o 0 c).before 2 t d))
    ∗ (∃ d, owns (c : Thread nD τ) (st0_3 t) fullShare d))
def bodyPost (c : Dev nD) (t : Fin cfg0.N) (Q : sProp 𝕄) : sProp 𝕄 :=
  iprop((dats m o 0 c).Φ t.succ ∗ (dats m o 0 c).owesAt () t.succ
    ∗ owns (c : Thread nD τ) (st0_0 t) fullShare ((dats m o 0 c).after 0 t) ∗ owns (c : Thread nD τ) (st0_1 t) fullShare ((dats m o 0 c).after 1 t) ∗ owns (c : Thread nD τ) (st0_2 t) fullShare ((dats m o 0 c).after 2 t)
    ∗ Q)

theorem sound_body (c : Dev nD) (hne : Asked m c) (t : Fin cfg0.N) (Q : sProp 𝕄) (hQ : ∀ out, Left m c t out → (own c (st0_3 t) fullShare out ⊢ Q)) :
    bodyPre m o c t ⊢ wp frame (wpE (defs₀ (F := F)) 𝒱₀ (c : Thread nD τ) none) Set.univ (bodyAt0 t) (fun _ => bodyPost m o c t Q) := by
  unfold bodyPre bodyPost
  rw [show (dats m o 0 c).Φ t.succ = Pipeline.ΦD osem0 spec0 H0 (V m) c from rfl, show (dats m o 0 c).Φ t.castSucc = Pipeline.ΦD osem0 spec0 H0 (V m) c from rfl, after_w0, after_w1, after_w2]
  simp only [before_w0, before_w1, before_w2]
  unfold Dat.owesAt Pipeline.owesWithin
  rw [show (dats m o 0 c).owed t.castSucc = 0 from rfl, show (dats m o 0 c).owed t.succ = 0 from rfl]
  iintro ⟨HΦ, ⟨%W, %hW, HW⟩, ⟨%_, H0⟩, ⟨%_, H1⟩, ⟨%_, H2⟩, H7⟩
  iapply (wp_wand_r Idealize.ShloMosaic.frame (wpE (defs₀ (F := F)) 𝒱₀ (c : Thread nD τ) none) Set.univ)
  isplitl [HΦ HW H0 H1 H2 H7]
  · iapply (point m c hne t W)
    isplitl [HΦ]; · iexact HΦ
    isplitl [HW]; · iexact HW
    isplitl [H0]; · iexact H0
    isplitl [H1]; · iexact H1
    isplitl [H2]; · iexact H2
    iexact H7
  iintro %_ ⟨HΦ, ⟨%W', HW⟩, H0, H1, H2, ⟨%out, %hout, H7⟩⟩
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  iapply (hQ out hout)
  iexact H7

theorem body_frame (c : Dev nD) (hne : Asked m c) : BodyObligation (dats (F := F) m o 0 c) (defs₀ (F := F)) 𝒱₀ () Set.univ forgets0 := fun t => by
  rw [bigSep_W0, bigSep_W0, defs₀_row]
  exact triple_restated (sound_body m o c hne t iprop(∃ d, owns (c : Thread nD τ) (st0_3 t) fullShare d) (fun out _ => by
    iintro H
    iexists _
    iapply (owns_intro (c : Thread nD τ) (st0_3 t) fullShare out)
    iexact H)) rfl .rfl fun _ => .rfl

theorem body_value (c : Dev nD) (hne : Asked m c) (ho : ∀ t out, Left m c t out → (st0_3 t).view.read (Elt F) out = o c) : BodyObligation (dats (F := F) m o 0 c) (defs₀ (F := F)) 𝒱₀ () Set.univ := fun t => by
  rw [bigSep_W0, bigSep_W0, defs₀_row]
  refine triple_restated (sound_body m o c hne t (owns (c : Thread nD τ) (st0_3 t) fullShare (o c)) (fun out h => by
    rw [← ho t out h]
    exact owns_intro (c : Thread nD τ) (st0_3 t) fullShare out)) rfl ?_ fun _ => .rfl
  unfold bodyPre
  iintro ⟨HΦ, HW, H0, H1, H2, ⟨%d, H7⟩⟩
  isplitl [HΦ]; · iexact HΦ
  isplitl [HW]; · iexact HW
  isplitl [H0]; · iexact H0
  isplitl [H1]; · iexact H1
  isplitl [H2]; · iexact H2
  iexists _; iexact H7

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_frame (hne : ∀ c, Asked m c) :
    θ_run defs (onTc (τ := τ) (main (F := F))) (s₀ m ρ)
      (fun r => Pipeline.RDat.FramePost (cfgs 0) (fun c => (dats m o 0 c).toRForget forgets0) (V m) r ∧ r.2.sem = fun _ => 0) :=
  Pipeline.θ_run_frame_dma_forget (Q' := _) cfgs (dats m o) (0 : Fin 1) launch0 osem0 defs₀ 𝒱₀ forgets0 ownSemFacts0 H0 H0_sub m ρ main
    (hbody := fun c => (body_frame m o c (hne c)).loose) (hshare := fun c => (dats m o 0 c).share_full fun _ => rfl)
    (howed := fun _ _ => rfl) (V := V m) (hmain := hmainD m 𝒱₀) (hA := A_eq m o)
    (hin := fun _ => .rfl) (hout := fun _ => .rfl)

set_option backward.isDefEq.respectTransparency.types false in
theorem run_value (hne : ∀ c, Asked m c) (ho : ∀ c t out, Left m c t out → (st0_3 t).view.read (Elt F) out = o c) :
    θ_run defs (onTc (τ := τ) (main (F := F))) (s₀ m ρ)
      (fun r => Pipeline.FramePost cfgs (dats m o) 0 (V m) r ∧ r.2.sem = fun _ => 0) :=
  Pipeline.θ_run_frame_dma (Q' := _) cfgs (dats m o) (0 : Fin 1) launch0 osem0 defs₀ 𝒱₀ ownSemFacts0 H0 H0_sub m ρ main
    (hbody := fun c => (body_value m o c (hne c) (ho c)).loose) (hshare := fun c => (dats m o 0 c).share_full fun _ => rfl)
    (howed := fun _ _ => rfl) (V := V m) (hmain := hmainD m 𝒱₀) (hA := A_eq m o)
    (hin := fun _ => .rfl) (hout := fun _ => .rfl)

/-- The frame: every argument array as it was, every counter at zero. -/
theorem frame_run (hne : ∀ c, Asked m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ hh => ⟨fun c => by
      have h := hh.1
      have r0 := (congrFun (Pipeline.RDat.ArrAt_in ((dats m (fun _ _ => Classical.ofNonempty) 0 c).toRForget forgets0) 0 rfl _) _).mp ((h c).1 0)
      have r1 := (congrFun (Pipeline.RDat.ArrAt_in ((dats m (fun _ _ => Classical.ofNonempty) 0 c).toRForget forgets0) 1 rfl _) _).mp ((h c).1 1)
      exact ⟨((h c).2 main_arg0 (Pipeline.mem_restRefs_of main_arg0 (by decide) (by decide))).trans (V_main_arg0 m c),
      r0.trans (V_main_arg1 m c), r1.trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hh.2⟩) (run_frame m ρ (fun _ _ => Classical.ofNonempty) hne)

end Cert.Proof.Kernel
-- ==== Proof.Ask.lean ====
/-
  What the precondition gives the run: some expert of the four is asked for.
-/
module

public import proofs.«01_k».proof.Proof.Launch
public import proofs.«01_k».proof.Pre_some_expert
public import Idealize.ShloMosaic.Lib.Pipeline.Value

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Window)

variable {F : FTy → Type} [FloatOps F]
local notation "𝕄" => MT nD τ sig Unit (Elt F) ℕ (Pipeline.UD sig nD τ) ℕ

/-- Where token `r`'s `j`-th choice lies. -/
def ijx (r : Fin 16) (j : Fin 2) : S16x1x2.Idx := Fin.cons r (Fin.cons (0 : Fin 1) (Fin.cons j (fun a => a.elim0)))

theorem ijx_of (i : S16x1x2.Idx) : ∃ r j, i = ijx r j := by
  refine ⟨i 0, i 2, ?_⟩
  funext a
  fin_cases a
  · rfl
  · exact Subsingleton.elim (α := Fin 1) _ _
  · rfl

section
variable (c : Dev nD) (arg0 : Memref sig .tc .smem S16x1x2 .i32) (f0 : Buf (Elt F) (arg0.view.loc (c : Thread nD τ)))

omit [FloatOps F] in
theorem idw_read (r : Fin 16) (j : Fin 2) : idw c arg0 f0 r j = arg0.view.read (Elt F) f0 (ijx r j) := by
  unfold idw
  rw [View.readAt_apply]
  congr 1
  funext a
  refine Fin.ext ?_
  revert a
  intro a
  fin_cases a <;> rfl

theorem ori_one (x y : BitVec 1) : Scalar.ori x y = 1#1 ↔ x = 1#1 ∨ y = 1#1 := by revert x y; decide
theorem eq_one (x y : BitVec 32) : Scalar.cmpi .eq x y = 1#1 ↔ x = y := by
  show BitVec.ofBool (x == y) = 1#1 ↔ _
  by_cases h : x = y
  · subst h; simp
  · have : (x == y) = false := by simpa using h
    rw [this]; simp [h]
theorem ne_ext (x : BitVec 1) : Scalar.cmpi .ne (Scalar.extui x : BitVec 32) 0#32 = 1#1 ↔ x = 1#1 := by revert x; decide

omit [FloatOps F] in
/-- A trip's test: whether some token's choice is that expert. -/
theorem hitc_iff (k : Fin k0_t1_loop.trips) : hitc c arg0 f0 k = 1#1 ↔ ∃ r j, idw c arg0 f0 r j = Scf.iv 0#32 1#32 k.val := by
  unfold hitc k0_cond1
  simp only [ori_one, eq_one, ne_ext]
  constructor
  · intro h
    repeat' (first | exact ⟨_, _, h⟩ | (rcases h with h | h))
  · rintro ⟨r, j, h⟩
    fin_cases r <;> fin_cases j <;> simp only [Fin.zero_eta, Fin.mk_one, Fin.isValue, Fin.reduceFinMk] at h <;> simp only [h, true_or, or_true]
end

theorem fold_or (l : List (BitVec 1)) (a : BitVec 1) (h : l.foldl (fun r x => IntOp.ori r x) a = 1#1) : a = 1#1 ∨ ∃ x ∈ l, x = 1#1 := by
  induction l generalizing a with
  | nil => exact Or.inl h
  | cons x l ih =>
    rcases ih _ h with hl | ⟨y, hy, e⟩
    · have key : ∀ p q : BitVec 1, IntOp.ori p q = 1#1 → p = 1#1 ∨ q = 1#1 := by decide
      have := key a x hl
      rcases this with h | h
      · exact Or.inl h
      · exact Or.inr ⟨x, List.mem_cons_self .., h⟩
    · exact Or.inr ⟨y, List.mem_cons_of_mem _ hy, e⟩

theorem fold_or' {α : Type} (l : List α) (g : α → BitVec 1) (a : BitVec 1) (h : l.foldl (fun r n => IntOp.ori r (g n)) a = 1#1) : a = 1#1 ∨ ∃ n ∈ l, g n = 1#1 := by
  rw [← List.foldl_map (f := g) (g := fun r x => IntOp.ori r x)] at h
  rcases fold_or _ _ h with h | ⟨x, hx, e⟩
  · exact Or.inl h
  · obtain ⟨n, hn, rfl⟩ := List.mem_map.mp hx
    exact Or.inr ⟨n, hn, e⟩

theorem and_one (x y : BitVec 1) (h : IntOp.andi x y = 1#1) : x = 1#1 ∧ y = 1#1 := by revert x y; decide

theorem small_id (x : BitVec 32) (h0 : IntOp.cmpi .sge x 0#32 = 1#1) (h1 : IntOp.cmpi .slt x 4#32 = 1#1) : ∃ e : Fin 4, x = Scf.iv 0#32 1#32 e.val := by
  have b : ∀ p : Bool, BitVec.ofBool p = 1#1 → p = true := by decide
  have h2 : (0#32).sle x = true := b _ h0
  have h3 : x.slt 4#32 = true := b _ h1
  rw [BitVec.sle_iff_toInt_le] at h2
  rw [BitVec.slt_iff_toInt_lt] at h3
  have e : x.toNat < 4 := by
    have z : (0#32).toInt = 0 := rfl
    have f : (4#32).toInt = 4 := rfl
    rw [z] at h2
    rw [f] at h3
    rw [BitVec.toInt_eq_toNat_cond] at h2 h3
    have := x.isLt
    split at h2 <;> omega
  refine ⟨⟨x.toNat, e⟩, ?_⟩
  have hx : x = BitVec.ofNat 32 x.toNat := by simp
  refine hx.trans ?_
  show _ = Scf.iv 0#32 1#32 x.toNat
  generalize x.toNat = n at e
  interval_cases n <;> rfl

/-- The first window is the whole array of ids. -/
theorem ids_at (m : (ℓ : Loc nD τ sig) → Buf (Elt F) ℓ) (c : Dev nD) (t : Fin cfg0.N) (r : Fin 16) (j : Fin 2) :
    iblk m c 0 t (ijx r j) = m ((c.tc : Thread nD τ).loc main_arg1) (ijx r j) := by
  unfold iblk
  rw [View.read_apply, ← V_main_arg1 m c]
  show V m c main_arg1 _ = V m c main_arg1 _
  congr 1
  obtain rfl := fin_N0 t
  funext a
  refine Fin.ext ?_
  exact Window.rect_emb_val_of_index_zero (win0 0) t0_0 a (by fin_cases a <;> rfl) (ijx r j)

/-- The precondition, said of the ids. -/
theorem some_of (hP : Cert.Pre_some_expert.Facts) (x0 x1 x2 x3 x4 x5 x6) (h : Cert.Pre_some_expert.fn (F := F) x0 x1 x2 x3 x4 x5 x6 = fun _ => 1#1) :
    ∃ (i : S16x1x2.Idx) (k : Fin k0_t1_loop.trips), x1 i = Scf.iv 0#32 1#32 k.val := by
  have h0 := congrFun h (fun a => a.elim0)
  unfold Cert.Pre_some_expert.fn at h0
  dsimp only at h0
  unfold Host.reduce at h0
  rcases fold_or' _ _ _ h0 with h1 | ⟨n, hn, h1⟩
  · exact absurd h1 (by show ¬ (0#1 = 1#1); decide)
  · obtain ⟨h2, h3⟩ := and_one _ _ h1
    obtain ⟨e, he⟩ := small_id _ h2 h3
    exact ⟨_, e.cast trips1.symm, he⟩

/-- So some expert is asked for. -/
theorem asked (hP : Cert.Pre_some_expert.Facts) (m : (ℓ : Loc nD τ sig) → Buf (Elt F) ℓ) (c : Dev nD)
    (h : Cert.Pre_some_expert.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : Asked m c := by
  intro t f0 hf
  obtain ⟨i, k, hi⟩ := some_of hP _ _ _ _ _ _ _ h
  obtain ⟨r, j, rfl⟩ := ijx_of i
  have hk : hitc c (st0_0 t) f0 k = 1#1 := by
    rw [hitc_iff]
    refine ⟨r, j, ?_⟩
    rw [idw_read, hf, ids_at]
    exact hi
  refine List.length_pos_of_mem (a := k.val) ?_
  unfold hits
  have hk' := k.isLt
  rw [List.mem_filter]
  refine ⟨List.mem_range.mpr (by have := trips1; omega), ?_⟩
  simp [hk]

end Cert.Proof.Kernel
end
-- ==== Proof.IdealNames.lean ====
/-
  Names for what the kernel moves: the four slots of each weight buffer, the two slots of each scale buffer, their
  DMA cells, and the blocks of the weights and scales they are filled from. Every index chain the kernel computes is
  put in closed form here, from the one fact that at most four experts are active.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.Trips
public import Idealize.ShloMosaic.Lib.LoopRemainder
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The whole buffers -/

abbrev wguM : Memref sig .tc .hbm S4x2560x4096 .i8 := Memref.whole main_arg3
abbrev sguM : Memref sig .tc .hbm S4x40x4096 .bf16 := Memref.whole main_arg4
abbrev wdM : Memref sig .tc .hbm S4x1024x5120 .i8 := Memref.whole main_arg5
abbrev sdM : Memref sig .tc .hbm S4x16x5120 .bf16 := Memref.whole main_arg6
abbrev actM : Memref sig .tc .smem S4 .i32 := Memref.whole cc0_scratch0
abbrev gM : Memref sig .tc .vmem S4x2560x256 .i8 := Memref.whole cc0_scratch1
abbrev uM : Memref sig .tc .vmem S4x2560x256 .i8 := Memref.whole cc0_scratch2
abbrev dM : Memref sig .tc .vmem S4x128x5120 .i8 := Memref.whole cc0_scratch3
abbrev sgM : Memref sig .tc .vmem S2x40x4096 .bf16 := Memref.whole cc0_scratch4
abbrev seM : Memref sig .tc .vmem S2x16x5120 .bf16 := Memref.whole cc0_scratch5
abbrev sgwM : Memref sig .tc .vmem S40x4096 .f32 := Memref.whole cc0_scratch6
abbrev sdwM : Memref sig .tc .vmem S16x5120 .f32 := Memref.whole cc0_scratch7
abbrev hM : Memref sig .tc .vmem S16x256 .bf16 := Memref.whole cc0_scratch8
abbrev yM : Memref sig .tc .vmem S16x5120 .f32 := Memref.whole cc0_scratch9
abbrev accM : Memref sig .tc .vmem S16x5120 .f32 := Memref.whole cc0_scratch10

/-! ## Slots, cells and blocks -/

abbrev slotOff {n : ℕ} (s : Fin n) : Fin 3 → Nat := ![s.val, 0, 0]
theorem gS_inb (s : Fin 4) : ∀ a, slotOff s a + S1x2560x256.size a ≤ S4x2560x256.size a := by
  have := s.isLt; intro a; fin_cases a
  · show s.val + 1 ≤ 4; omega
  · show 0 + 2560 ≤ 2560; omega
  · show 0 + 256 ≤ 256; omega
def gS (s : Fin 4) : Memref sig .tc .vmem S2560x256 .i8 :=
  (gM.slice (Rect.unit (s := S4x2560x256) (slotOff s) S1x2560x256.size (gS_inb s)) (fun _ => rfl)).squeeze S2560x256 squeezes_S1x2560x256_S2560x256
theorem gS_congr {off : Fin 3 → Nat} {s : Fin 4} (e : off = slotOff s) (hh hs) :
    (gM.slice (Rect.unit (s := S4x2560x256) off S1x2560x256.size hh) hs).squeeze S2560x256 squeezes_S1x2560x256_S2560x256 = gS s :=
  congrArg (fun M : Memref sig .tc .vmem S1x2560x256 .i8 => M.squeeze S2560x256 squeezes_S1x2560x256_S2560x256) (Memref.slice_unit_congr _ e _ _ _ _)
theorem uS_inb (s : Fin 4) : ∀ a, slotOff s a + S1x2560x256.size a ≤ S4x2560x256.size a := by
  have := s.isLt; intro a; fin_cases a
  · show s.val + 1 ≤ 4; omega
  · show 0 + 2560 ≤ 2560; omega
  · show 0 + 256 ≤ 256; omega
def uS (s : Fin 4) : Memref sig .tc .vmem S2560x256 .i8 :=
  (uM.slice (Rect.unit (s := S4x2560x256) (slotOff s) S1x2560x256.size (uS_inb s)) (fun _ => rfl)).squeeze S2560x256 squeezes_S1x2560x256_S2560x256
theorem uS_congr {off : Fin 3 → Nat} {s : Fin 4} (e : off = slotOff s) (hh hs) :
    (uM.slice (Rect.unit (s := S4x2560x256) off S1x2560x256.size hh) hs).squeeze S2560x256 squeezes_S1x2560x256_S2560x256 = uS s :=
  congrArg (fun M : Memref sig .tc .vmem S1x2560x256 .i8 => M.squeeze S2560x256 squeezes_S1x2560x256_S2560x256) (Memref.slice_unit_congr _ e _ _ _ _)
theorem dS_inb (s : Fin 4) : ∀ a, slotOff s a + S1x128x5120.size a ≤ S4x128x5120.size a := by
  have := s.isLt; intro a; fin_cases a
  · show s.val + 1 ≤ 4; omega
  · show 0 + 128 ≤ 128; omega
  · show 0 + 5120 ≤ 5120; omega
def dS (s : Fin 4) : Memref sig .tc .vmem S128x5120 .i8 :=
  (dM.slice (Rect.unit (s := S4x128x5120) (slotOff s) S1x128x5120.size (dS_inb s)) (fun _ => rfl)).squeeze S128x5120 squeezes_S1x128x5120_S128x5120
theorem dS_congr {off : Fin 3 → Nat} {s : Fin 4} (e : off = slotOff s) (hh hs) :
    (dM.slice (Rect.unit (s := S4x128x5120) off S1x128x5120.size hh) hs).squeeze S128x5120 squeezes_S1x128x5120_S128x5120 = dS s :=
  congrArg (fun M : Memref sig .tc .vmem S1x128x5120 .i8 => M.squeeze S128x5120 squeezes_S1x128x5120_S128x5120) (Memref.slice_unit_congr _ e _ _ _ _)
theorem sgS_inb (s : Fin 2) : ∀ a, slotOff s a + S1x40x4096.size a ≤ S2x40x4096.size a := by
  have := s.isLt; intro a; fin_cases a
  · show s.val + 1 ≤ 2; omega
  · show 0 + 40 ≤ 40; omega
  · show 0 + 4096 ≤ 4096; omega
def sgS (s : Fin 2) : Memref sig .tc .vmem S40x4096 .bf16 :=
  (sgM.slice (Rect.unit (s := S2x40x4096) (slotOff s) S1x40x4096.size (sgS_inb s)) (fun _ => rfl)).squeeze S40x4096 squeezes_S1x40x4096_S40x4096
theorem sgS_congr {off : Fin 3 → Nat} {s : Fin 2} (e : off = slotOff s) (hh hs) :
    (sgM.slice (Rect.unit (s := S2x40x4096) off S1x40x4096.size hh) hs).squeeze S40x4096 squeezes_S1x40x4096_S40x4096 = sgS s :=
  congrArg (fun M : Memref sig .tc .vmem S1x40x4096 .bf16 => M.squeeze S40x4096 squeezes_S1x40x4096_S40x4096) (Memref.slice_unit_congr _ e _ _ _ _)
theorem seS_inb (s : Fin 2) : ∀ a, slotOff s a + S1x16x5120.size a ≤ S2x16x5120.size a := by
  have := s.isLt; intro a; fin_cases a
  · show s.val + 1 ≤ 2; omega
  · show 0 + 16 ≤ 16; omega
  · show 0 + 5120 ≤ 5120; omega
def seS (s : Fin 2) : Memref sig .tc .vmem S16x5120 .bf16 :=
  (seM.slice (Rect.unit (s := S2x16x5120) (slotOff s) S1x16x5120.size (seS_inb s)) (fun _ => rfl)).squeeze S16x5120 squeezes_S1x16x5120_S16x5120
theorem seS_congr {off : Fin 3 → Nat} {s : Fin 2} (e : off = slotOff s) (hh hs) :
    (seM.slice (Rect.unit (s := S2x16x5120) off S1x16x5120.size hh) hs).squeeze S16x5120 squeezes_S1x16x5120_S16x5120 = seS s :=
  congrArg (fun M : Memref sig .tc .vmem S1x16x5120 .bf16 => M.squeeze S16x5120 squeezes_S1x16x5120_S16x5120) (Memref.slice_unit_congr _ e _ _ _ _)
abbrev gCOff (s : Fin 4) : Fin 2 → Nat := ![0, s.val]
theorem gC_inb (s : Fin 4) : ∀ a, gCOff s a + S1x1.size a ≤ S3x4.size a := by
  have := s.isLt; intro a; fin_cases a
  · show 0 + 1 ≤ 3; omega
  · show s.val + 1 ≤ 4; omega
def gC (s : Fin 4) : DmaSems sig S_ := (cc0_scratch11.slice (Rect.unit (s := S3x4) (gCOff s) S1x1.size (gC_inb s))).squeeze S_ squeezes_S1x1_S_
theorem gC_congr {off : Fin 2 → Nat} {s : Fin 4} (e : off = gCOff s) (hh) :
    (cc0_scratch11.slice (Rect.unit (s := S3x4) off S1x1.size hh)).squeeze S_ squeezes_S1x1_S_ = gC s :=
  congrArg (fun A : DmaSems sig S1x1 => A.squeeze S_ squeezes_S1x1_S_) (SemArray.slice_unit_congr _ e _ _)
abbrev uCOff (s : Fin 4) : Fin 2 → Nat := ![1, s.val]
theorem uC_inb (s : Fin 4) : ∀ a, uCOff s a + S1x1.size a ≤ S3x4.size a := by
  have := s.isLt; intro a; fin_cases a
  · show 1 + 1 ≤ 3; omega
  · show s.val + 1 ≤ 4; omega
def uC (s : Fin 4) : DmaSems sig S_ := (cc0_scratch11.slice (Rect.unit (s := S3x4) (uCOff s) S1x1.size (uC_inb s))).squeeze S_ squeezes_S1x1_S_
theorem uC_congr {off : Fin 2 → Nat} {s : Fin 4} (e : off = uCOff s) (hh) :
    (cc0_scratch11.slice (Rect.unit (s := S3x4) off S1x1.size hh)).squeeze S_ squeezes_S1x1_S_ = uC s :=
  congrArg (fun A : DmaSems sig S1x1 => A.squeeze S_ squeezes_S1x1_S_) (SemArray.slice_unit_congr _ e _ _)
abbrev dCOff (s : Fin 4) : Fin 2 → Nat := ![2, s.val]
theorem dC_inb (s : Fin 4) : ∀ a, dCOff s a + S1x1.size a ≤ S3x4.size a := by
  have := s.isLt; intro a; fin_cases a
  · show 2 + 1 ≤ 3; omega
  · show s.val + 1 ≤ 4; omega
def dC (s : Fin 4) : DmaSems sig S_ := (cc0_scratch11.slice (Rect.unit (s := S3x4) (dCOff s) S1x1.size (dC_inb s))).squeeze S_ squeezes_S1x1_S_
theorem dC_congr {off : Fin 2 → Nat} {s : Fin 4} (e : off = dCOff s) (hh) :
    (cc0_scratch11.slice (Rect.unit (s := S3x4) off S1x1.size hh)).squeeze S_ squeezes_S1x1_S_ = dC s :=
  congrArg (fun A : DmaSems sig S1x1 => A.squeeze S_ squeezes_S1x1_S_) (SemArray.slice_unit_congr _ e _ _)
abbrev sgCOff (s : Fin 2) : Fin 2 → Nat := ![0, s.val]
theorem sgC_inb (s : Fin 2) : ∀ a, sgCOff s a + S1x1.size a ≤ S2x2.size a := by
  have := s.isLt; intro a; fin_cases a
  · show 0 + 1 ≤ 2; omega
  · show s.val + 1 ≤ 2; omega
def sgC (s : Fin 2) : DmaSems sig S_ := (cc0_scratch12.slice (Rect.unit (s := S2x2) (sgCOff s) S1x1.size (sgC_inb s))).squeeze S_ squeezes_S1x1_S_
theorem sgC_congr {off : Fin 2 → Nat} {s : Fin 2} (e : off = sgCOff s) (hh) :
    (cc0_scratch12.slice (Rect.unit (s := S2x2) off S1x1.size hh)).squeeze S_ squeezes_S1x1_S_ = sgC s :=
  congrArg (fun A : DmaSems sig S1x1 => A.squeeze S_ squeezes_S1x1_S_) (SemArray.slice_unit_congr _ e _ _)
abbrev seCOff (s : Fin 2) : Fin 2 → Nat := ![1, s.val]
theorem seC_inb (s : Fin 2) : ∀ a, seCOff s a + S1x1.size a ≤ S2x2.size a := by
  have := s.isLt; intro a; fin_cases a
  · show 1 + 1 ≤ 2; omega
  · show s.val + 1 ≤ 2; omega
def seC (s : Fin 2) : DmaSems sig S_ := (cc0_scratch12.slice (Rect.unit (s := S2x2) (seCOff s) S1x1.size (seC_inb s))).squeeze S_ squeezes_S1x1_S_
theorem seC_congr {off : Fin 2 → Nat} {s : Fin 2} (e : off = seCOff s) (hh) :
    (cc0_scratch12.slice (Rect.unit (s := S2x2) off S1x1.size hh)).squeeze S_ squeezes_S1x1_S_ = seC s :=
  congrArg (fun A : DmaSems sig S1x1 => A.squeeze S_ squeezes_S1x1_S_) (SemArray.slice_unit_congr _ e _ _)
abbrev gBOff (e : Fin 4) (j : Fin 8) : Fin 3 → Nat := ![e.val, 0, 256 * j.val]
theorem gB_inb (e : Fin 4) (j : Fin 8) : ∀ a, gBOff e j a + S1x2560x256.size a ≤ S4x2560x4096.size a := by
  have := e.isLt; have := j.isLt; intro a; fin_cases a
  · show e.val + 1 ≤ 4; omega
  · show 0 + 2560 ≤ 2560; omega
  · show 256 * j.val + 256 ≤ 4096; omega
def gB (e : Fin 4) (j : Fin 8) : Memref sig .tc .hbm S2560x256 .i8 :=
  (wguM.slice (Rect.unit (s := S4x2560x4096) (gBOff e j) S1x2560x256.size (gB_inb e j)) (fun _ => rfl)).squeeze S2560x256 squeezes_S1x2560x256_S2560x256
theorem gB_congr {off : Fin 3 → Nat} {e : Fin 4} {j : Fin 8} (w : BitVec 32) (hw : off 0 = w.toNat) (he : e = Fin.ofNat 4 w.toNat)
    (h1 : off 1 = gBOff e j 1) (h2 : off 2 = gBOff e j 2) (hh hs) :
    (wguM.slice (Rect.unit (s := S4x2560x4096) off S1x2560x256.size hh) hs).squeeze S2560x256 squeezes_S1x2560x256_S2560x256 = gB e j := by
  have e0 : off = gBOff e j := by
    have h0 : off 0 + 1 ≤ 4 := hh 0
    funext a; fin_cases a
    · subst he; show off 0 = w.toNat % 4; omega
    · exact h1
    · exact h2
  exact congrArg (fun M : Memref sig .tc .hbm S1x2560x256 .i8 => M.squeeze S2560x256 squeezes_S1x2560x256_S2560x256) (Memref.slice_unit_congr _ e0 _ _ _ _)
abbrev uBOff (e : Fin 4) (j : Fin 8) : Fin 3 → Nat := ![e.val, 0, 2048 + 256 * j.val]
theorem uB_inb (e : Fin 4) (j : Fin 8) : ∀ a, uBOff e j a + S1x2560x256.size a ≤ S4x2560x4096.size a := by
  have := e.isLt; have := j.isLt; intro a; fin_cases a
  · show e.val + 1 ≤ 4; omega
  · show 0 + 2560 ≤ 2560; omega
  · show 2048 + 256 * j.val + 256 ≤ 4096; omega
def uB (e : Fin 4) (j : Fin 8) : Memref sig .tc .hbm S2560x256 .i8 :=
  (wguM.slice (Rect.unit (s := S4x2560x4096) (uBOff e j) S1x2560x256.size (uB_inb e j)) (fun _ => rfl)).squeeze S2560x256 squeezes_S1x2560x256_S2560x256
theorem uB_congr {off : Fin 3 → Nat} {e : Fin 4} {j : Fin 8} (w : BitVec 32) (hw : off 0 = w.toNat) (he : e = Fin.ofNat 4 w.toNat)
    (h1 : off 1 = uBOff e j 1) (h2 : off 2 = uBOff e j 2) (hh hs) :
    (wguM.slice (Rect.unit (s := S4x2560x4096) off S1x2560x256.size hh) hs).squeeze S2560x256 squeezes_S1x2560x256_S2560x256 = uB e j := by
  have e0 : off = uBOff e j := by
    have h0 : off 0 + 1 ≤ 4 := hh 0
    funext a; fin_cases a
    · subst he; show off 0 = w.toNat % 4; omega
    · exact h1
    · exact h2
  exact congrArg (fun M : Memref sig .tc .hbm S1x2560x256 .i8 => M.squeeze S2560x256 squeezes_S1x2560x256_S2560x256) (Memref.slice_unit_congr _ e0 _ _ _ _)
abbrev dBOff (e : Fin 4) (j : Fin 8) : Fin 3 → Nat := ![e.val, 128 * j.val, 0]
theorem dB_inb (e : Fin 4) (j : Fin 8) : ∀ a, dBOff e j a + S1x128x5120.size a ≤ S4x1024x5120.size a := by
  have := e.isLt; have := j.isLt; intro a; fin_cases a
  · show e.val + 1 ≤ 4; omega
  · show 128 * j.val + 128 ≤ 1024; omega
  · show 0 + 5120 ≤ 5120; omega
def dB (e : Fin 4) (j : Fin 8) : Memref sig .tc .hbm S128x5120 .i8 :=
  (wdM.slice (Rect.unit (s := S4x1024x5120) (dBOff e j) S1x128x5120.size (dB_inb e j)) (fun _ => rfl)).squeeze S128x5120 squeezes_S1x128x5120_S128x5120
theorem dB_congr {off : Fin 3 → Nat} {e : Fin 4} {j : Fin 8} (w : BitVec 32) (hw : off 0 = w.toNat) (he : e = Fin.ofNat 4 w.toNat)
    (h1 : off 1 = dBOff e j 1) (h2 : off 2 = dBOff e j 2) (hh hs) :
    (wdM.slice (Rect.unit (s := S4x1024x5120) off S1x128x5120.size hh) hs).squeeze S128x5120 squeezes_S1x128x5120_S128x5120 = dB e j := by
  have e0 : off = dBOff e j := by
    have h0 : off 0 + 1 ≤ 4 := hh 0
    funext a; fin_cases a
    · subst he; show off 0 = w.toNat % 4; omega
    · exact h1
    · exact h2
  exact congrArg (fun M : Memref sig .tc .hbm S1x128x5120 .i8 => M.squeeze S128x5120 squeezes_S1x128x5120_S128x5120) (Memref.slice_unit_congr _ e0 _ _ _ _)
abbrev sgBOff (e : Fin 4) : Fin 3 → Nat := ![e.val, 0, 0]
theorem sgB_inb (e : Fin 4) : ∀ a, sgBOff e a + S1x40x4096.size a ≤ S4x40x4096.size a := by
  have := e.isLt; intro a; fin_cases a
  · show e.val + 1 ≤ 4; omega
  · show 0 + 40 ≤ 40; omega
  · show 0 + 4096 ≤ 4096; omega
def sgB (e : Fin 4) : Memref sig .tc .hbm S40x4096 .bf16 :=
  (sguM.slice (Rect.unit (s := S4x40x4096) (sgBOff e) S1x40x4096.size (sgB_inb e)) (fun _ => rfl)).squeeze S40x4096 squeezes_S1x40x4096_S40x4096
theorem sgB_congr {off : Fin 3 → Nat} {e : Fin 4} (w : BitVec 32) (hw : off 0 = w.toNat) (he : e = Fin.ofNat 4 w.toNat)
    (h1 : off 1 = sgBOff e 1) (h2 : off 2 = sgBOff e 2) (hh hs) :
    (sguM.slice (Rect.unit (s := S4x40x4096) off S1x40x4096.size hh) hs).squeeze S40x4096 squeezes_S1x40x4096_S40x4096 = sgB e := by
  have e0 : off = sgBOff e := by
    have h0 : off 0 + 1 ≤ 4 := hh 0
    funext a; fin_cases a
    · subst he; show off 0 = w.toNat % 4; omega
    · exact h1
    · exact h2
  exact congrArg (fun M : Memref sig .tc .hbm S1x40x4096 .bf16 => M.squeeze S40x4096 squeezes_S1x40x4096_S40x4096) (Memref.slice_unit_congr _ e0 _ _ _ _)
abbrev seBOff (e : Fin 4) : Fin 3 → Nat := ![e.val, 0, 0]
theorem seB_inb (e : Fin 4) : ∀ a, seBOff e a + S1x16x5120.size a ≤ S4x16x5120.size a := by
  have := e.isLt; intro a; fin_cases a
  · show e.val + 1 ≤ 4; omega
  · show 0 + 16 ≤ 16; omega
  · show 0 + 5120 ≤ 5120; omega
def seB (e : Fin 4) : Memref sig .tc .hbm S16x5120 .bf16 :=
  (sdM.slice (Rect.unit (s := S4x16x5120) (seBOff e) S1x16x5120.size (seB_inb e)) (fun _ => rfl)).squeeze S16x5120 squeezes_S1x16x5120_S16x5120
theorem seB_congr {off : Fin 3 → Nat} {e : Fin 4} (w : BitVec 32) (hw : off 0 = w.toNat) (he : e = Fin.ofNat 4 w.toNat)
    (h1 : off 1 = seBOff e 1) (h2 : off 2 = seBOff e 2) (hh hs) :
    (sdM.slice (Rect.unit (s := S4x16x5120) off S1x16x5120.size hh) hs).squeeze S16x5120 squeezes_S1x16x5120_S16x5120 = seB e := by
  have e0 : off = seBOff e := by
    have h0 : off 0 + 1 ≤ 4 := hh 0
    funext a; fin_cases a
    · subst he; show off 0 = w.toNat % 4; omega
    · exact h1
    · exact h2
  exact congrArg (fun M : Memref sig .tc .hbm S1x16x5120 .bf16 => M.squeeze S16x5120 squeezes_S1x16x5120_S16x5120) (Memref.slice_unit_congr _ e0 _ _ _ _)

instance {n : ℕ} (s : Fin n) : ClosedOff (slotOff s) := ⟨slotOff s, rfl⟩

/-! ## The step count and the index chains

At most four experts are active (`Fact (v.toNat ≤ 4)`), so a trip of the step loop is below 32 and every chain is
decided by its 32 values; the count itself only bounds the trip. -/

theorem trips_eq (v : BitVec 32) [h : Fact (v.toNat ≤ 4)] : (k0_t2_loop v).trips = 8 * v.toNat := by
  have h4 := h.out
  have e : v = BitVec.ofNat 32 v.toNat := by simp
  rw [e]
  match h : v.toNat, h4 with
  | 0, _ => decide
  | 1, _ => decide
  | 2, _ => decide
  | 3, _ => decide
  | 4, _ => decide
  | n + 5, hn => omega
theorem t_lt {v : BitVec 32} [h : Fact (v.toNat ≤ 4)] (t : Fin (k0_t2_loop v).trips) : t.val < 32 := by
  have h1 := t.isLt; have h2 := trips_eq v; have h3 := h.out; omega
/-- A trip of the longest loop. -/
abbrev t4 (n : Fin 32) : Fin (k0_t2_loop 4#32).trips := ⟨n.val, Nat.lt_of_lt_of_eq n.isLt (by decide)⟩

section Chain
variable (v : BitVec 32) [Fact (v.toNat ≤ 4)] (t : Fin (k0_t2_loop v).trips)

theorem off13_eq : k0_off13 v t = ![t.val / 8 + 1] := by
  have h := t_lt t
  obtain ⟨n, hn⟩ := t
  dsimp only [k0_off13] at h ⊢
  clear hn; revert n; clear * -; decide +kernel
theorem off14_eq : k0_off14 v t = ![0, (t.val / 8 + 1) % 2] := by
  have h := t_lt t
  obtain ⟨n, hn⟩ := t
  dsimp only [k0_off14] at h ⊢
  clear hn; revert n; clear * -; decide +kernel
theorem off15_eq : k0_off15 v t = ![(t.val / 8 + 1) % 2, 0, 0] := by
  have h := t_lt t
  obtain ⟨n, hn⟩ := t
  dsimp only [k0_off15] at h ⊢
  clear hn; revert n; clear * -; decide +kernel
theorem off17_eq : k0_off17 v t = ![1, (t.val / 8 + 1) % 2] := by
  have h := t_lt t
  obtain ⟨n, hn⟩ := t
  dsimp only [k0_off17] at h ⊢
  clear hn; revert n; clear * -; decide +kernel
theorem off18_eq : k0_off18 v t = ![(t.val / 8 + 1) % 2, 0, 0] := by
  have h := t_lt t
  obtain ⟨n, hn⟩ := t
  dsimp only [k0_off18] at h ⊢
  clear hn; revert n; clear * -; decide +kernel
theorem off20_eq : k0_off20 v t = ![t.val / 8] := by
  have h := t_lt t
  obtain ⟨n, hn⟩ := t
  dsimp only [k0_off20] at h ⊢
  clear hn; revert n; clear * -; decide +kernel
theorem off21_eq : k0_off21 v t = ![0, t.val / 8 % 2] := by
  have h := t_lt t
  obtain ⟨n, hn⟩ := t
  dsimp only [k0_off21] at h ⊢
  clear hn; revert n; clear * -; decide +kernel
theorem off22_eq : k0_off22 v t = ![t.val / 8 % 2, 0, 0] := by
  have h := t_lt t
  obtain ⟨n, hn⟩ := t
  dsimp only [k0_off22] at h ⊢
  clear hn; revert n; clear * -; decide +kernel
theorem off24_eq : k0_off24 v t = ![1, t.val / 8 % 2] := by
  have h := t_lt t
  obtain ⟨n, hn⟩ := t
  dsimp only [k0_off24] at h ⊢
  clear hn; revert n; clear * -; decide +kernel
theorem off25_eq : k0_off25 v t = ![t.val / 8 % 2, 0, 0] := by
  have h := t_lt t
  obtain ⟨n, hn⟩ := t
  dsimp only [k0_off25] at h ⊢
  clear hn; revert n; clear * -; decide +kernel
theorem off27_eq : k0_off27 v t = ![t.val / 8 % 2, 0, 0] := by
  have h := t_lt t
  obtain ⟨n, hn⟩ := t
  dsimp only [k0_off27] at h ⊢
  clear hn; revert n; clear * -; decide +kernel
instance : ClosedOff (k0_off27 v t) := ⟨![(Ring.sl 2 (t.val / 8)).val, 0, 0], (off27_eq v t).trans (by simp only [Ring.sl_val])⟩
theorem off28_eq : k0_off28 v t = ![t.val / 8 % 2, 0, 0] := by
  have h := t_lt t
  obtain ⟨n, hn⟩ := t
  dsimp only [k0_off28] at h ⊢
  clear hn; revert n; clear * -; decide +kernel
instance : ClosedOff (k0_off28 v t) := ⟨![(Ring.sl 2 (t.val / 8)).val, 0, 0], (off28_eq v t).trans (by simp only [Ring.sl_val])⟩
theorem off29_eq : k0_off29 v t = ![t.val / 8] := by
  have h := t_lt t
  obtain ⟨n, hn⟩ := t
  dsimp only [k0_off29] at h ⊢
  clear hn; revert n; clear * -; decide +kernel
theorem off30_eq : k0_off30 v t = ![0, t.val % 4] := by
  have h := t_lt t
  obtain ⟨n, hn⟩ := t
  dsimp only [k0_off30] at h ⊢
  clear hn; revert n; clear * -; decide +kernel
theorem off31_eq : k0_off31 v t = ![t.val % 4, 0, 0] := by
  have h := t_lt t
  obtain ⟨n, hn⟩ := t
  dsimp only [k0_off31] at h ⊢
  clear hn; revert n; clear * -; decide +kernel
theorem off32_eq (w : BitVec 32) : k0_off32 v t w 0 = w.toNat ∧ k0_off32 v t w 1 = 0 ∧ k0_off32 v t w 2 = 256 * (t.val % 8) := by
  have h : k0_off32 v t 0#32 = ![0, 0, 256 * (t.val % 8)] := by
    have h := t_lt t
    obtain ⟨n, hn⟩ := t
    dsimp only [k0_off32] at h ⊢
    clear hn; revert n; clear * -; decide +kernel
  exact ⟨rfl, congrFun h 1, congrFun h 2⟩
theorem off33_eq : k0_off33 v t = ![1, t.val % 4] := by
  have h := t_lt t
  obtain ⟨n, hn⟩ := t
  dsimp only [k0_off33] at h ⊢
  clear hn; revert n; clear * -; decide +kernel
theorem off34_eq : k0_off34 v t = ![t.val % 4, 0, 0] := by
  have h := t_lt t
  obtain ⟨n, hn⟩ := t
  dsimp only [k0_off34] at h ⊢
  clear hn; revert n; clear * -; decide +kernel
theorem off35_eq (w : BitVec 32) : k0_off35 v t w 0 = w.toNat ∧ k0_off35 v t w 1 = 0 ∧ k0_off35 v t w 2 = 2048 + 256 * (t.val % 8) := by
  have h : k0_off35 v t 0#32 = ![0, 0, 2048 + 256 * (t.val % 8)] := by
    have h := t_lt t
    obtain ⟨n, hn⟩ := t
    dsimp only [k0_off35] at h ⊢
    clear hn; revert n; clear * -; decide +kernel
  exact ⟨rfl, congrFun h 1, congrFun h 2⟩
theorem off36_eq : k0_off36 v t = ![2, t.val % 4] := by
  have h := t_lt t
  obtain ⟨n, hn⟩ := t
  dsimp only [k0_off36] at h ⊢
  clear hn; revert n; clear * -; decide +kernel
theorem off37_eq : k0_off37 v t = ![t.val % 4, 0, 0] := by
  have h := t_lt t
  obtain ⟨n, hn⟩ := t
  dsimp only [k0_off37] at h ⊢
  clear hn; revert n; clear * -; decide +kernel
theorem off38_eq (w : BitVec 32) : k0_off38 v t w 0 = w.toNat ∧ k0_off38 v t w 1 = 128 * (t.val % 8) ∧ k0_off38 v t w 2 = 0 := by
  have h : k0_off38 v t 0#32 = ![0, 128 * (t.val % 8), 0] := by
    have h := t_lt t
    obtain ⟨n, hn⟩ := t
    dsimp only [k0_off38] at h ⊢
    clear hn; revert n; clear * -; decide +kernel
  exact ⟨rfl, congrFun h 1, congrFun h 2⟩
theorem off39_eq : k0_off39 v t = ![(t.val + 3) / 8] := by
  have h := t_lt t
  obtain ⟨n, hn⟩ := t
  dsimp only [k0_off39] at h ⊢
  clear hn; revert n; clear * -; decide +kernel
theorem off40_eq : k0_off40 v t = ![0, (t.val + 3) % 4] := by
  have h := t_lt t
  obtain ⟨n, hn⟩ := t
  dsimp only [k0_off40] at h ⊢
  clear hn; revert n; clear * -; decide +kernel
theorem off41_eq : k0_off41 v t = ![(t.val + 3) % 4, 0, 0] := by
  have h := t_lt t
  obtain ⟨n, hn⟩ := t
  dsimp only [k0_off41] at h ⊢
  clear hn; revert n; clear * -; decide +kernel
theorem off42_eq (w : BitVec 32) : k0_off42 v t w 0 = w.toNat ∧ k0_off42 v t w 1 = 0 ∧ k0_off42 v t w 2 = 256 * ((t.val + 3) % 8) := by
  have h : k0_off42 v t 0#32 = ![0, 0, 256 * ((t.val + 3) % 8)] := by
    have h := t_lt t
    obtain ⟨n, hn⟩ := t
    dsimp only [k0_off42] at h ⊢
    clear hn; revert n; clear * -; decide +kernel
  exact ⟨rfl, congrFun h 1, congrFun h 2⟩
theorem off43_eq : k0_off43 v t = ![1, (t.val + 3) % 4] := by
  have h := t_lt t
  obtain ⟨n, hn⟩ := t
  dsimp only [k0_off43] at h ⊢
  clear hn; revert n; clear * -; decide +kernel
theorem off44_eq : k0_off44 v t = ![(t.val + 3) % 4, 0, 0] := by
  have h := t_lt t
  obtain ⟨n, hn⟩ := t
  dsimp only [k0_off44] at h ⊢
  clear hn; revert n; clear * -; decide +kernel
theorem off45_eq (w : BitVec 32) : k0_off45 v t w 0 = w.toNat ∧ k0_off45 v t w 1 = 0 ∧ k0_off45 v t w 2 = 2048 + 256 * ((t.val + 3) % 8) := by
  have h : k0_off45 v t 0#32 = ![0, 0, 2048 + 256 * ((t.val + 3) % 8)] := by
    have h := t_lt t
    obtain ⟨n, hn⟩ := t
    dsimp only [k0_off45] at h ⊢
    clear hn; revert n; clear * -; decide +kernel
  exact ⟨rfl, congrFun h 1, congrFun h 2⟩
theorem off46_eq : k0_off46 v t = ![2, (t.val + 3) % 4] := by
  have h := t_lt t
  obtain ⟨n, hn⟩ := t
  dsimp only [k0_off46] at h ⊢
  clear hn; revert n; clear * -; decide +kernel
theorem off47_eq : k0_off47 v t = ![(t.val + 3) % 4, 0, 0] := by
  have h := t_lt t
  obtain ⟨n, hn⟩ := t
  dsimp only [k0_off47] at h ⊢
  clear hn; revert n; clear * -; decide +kernel
theorem off48_eq (w : BitVec 32) : k0_off48 v t w 0 = w.toNat ∧ k0_off48 v t w 1 = 128 * ((t.val + 3) % 8) ∧ k0_off48 v t w 2 = 0 := by
  have h : k0_off48 v t 0#32 = ![0, 128 * ((t.val + 3) % 8), 0] := by
    have h := t_lt t
    obtain ⟨n, hn⟩ := t
    dsimp only [k0_off48] at h ⊢
    clear hn; revert n; clear * -; decide +kernel
  exact ⟨rfl, congrFun h 1, congrFun h 2⟩
theorem off49_eq : k0_off49 v t = ![t.val % 4, 0, 0] := by
  have h := t_lt t
  obtain ⟨n, hn⟩ := t
  dsimp only [k0_off49] at h ⊢
  clear hn; revert n; clear * -; decide +kernel
instance : ClosedOff (k0_off49 v t) := ⟨![(Ring.sl 4 t.val).val, 0, 0], (off49_eq v t).trans (by simp only [Ring.sl_val])⟩
theorem off50_eq : k0_off50 v t = ![0, 256 * (t.val % 8)] := by
  have h := t_lt t
  obtain ⟨n, hn⟩ := t
  dsimp only [k0_off50] at h ⊢
  clear hn; revert n; clear * -; decide +kernel
instance : ClosedOff (k0_off50 v t) := ⟨_, off50_eq v t⟩
theorem off51_eq : k0_off51 v t = ![0, 2048 + 256 * (t.val % 8)] := by
  have h := t_lt t
  obtain ⟨n, hn⟩ := t
  dsimp only [k0_off51] at h ⊢
  clear hn; revert n; clear * -; decide +kernel
instance : ClosedOff (k0_off51 v t) := ⟨_, off51_eq v t⟩
theorem off52_eq : k0_off52 v t = ![t.val % 4, 128, 0] := by
  have h := t_lt t
  obtain ⟨n, hn⟩ := t
  dsimp only [k0_off52] at h ⊢
  clear hn; revert n; clear * -; decide +kernel
instance : ClosedOff (k0_off52 v t) := ⟨![(Ring.sl 4 t.val).val, 128, 0], (off52_eq v t).trans (by simp only [Ring.sl_val])⟩
theorem off53_eq : k0_off53 v t = ![2, 256 * (t.val % 8)] := by
  have h := t_lt t
  obtain ⟨n, hn⟩ := t
  dsimp only [k0_off53] at h ⊢
  clear hn; revert n; clear * -; decide +kernel
instance : ClosedOff (k0_off53 v t) := ⟨_, off53_eq v t⟩
theorem off54_eq : k0_off54 v t = ![2, 2048 + 256 * (t.val % 8)] := by
  have h := t_lt t
  obtain ⟨n, hn⟩ := t
  dsimp only [k0_off54] at h ⊢
  clear hn; revert n; clear * -; decide +kernel
instance : ClosedOff (k0_off54 v t) := ⟨_, off54_eq v t⟩
theorem off55_eq : k0_off55 v t = ![t.val % 4, 256, 0] := by
  have h := t_lt t
  obtain ⟨n, hn⟩ := t
  dsimp only [k0_off55] at h ⊢
  clear hn; revert n; clear * -; decide +kernel
instance : ClosedOff (k0_off55 v t) := ⟨![(Ring.sl 4 t.val).val, 256, 0], (off55_eq v t).trans (by simp only [Ring.sl_val])⟩
theorem off56_eq : k0_off56 v t = ![4, 256 * (t.val % 8)] := by
  have h := t_lt t
  obtain ⟨n, hn⟩ := t
  dsimp only [k0_off56] at h ⊢
  clear hn; revert n; clear * -; decide +kernel
instance : ClosedOff (k0_off56 v t) := ⟨_, off56_eq v t⟩
theorem off57_eq : k0_off57 v t = ![4, 2048 + 256 * (t.val % 8)] := by
  have h := t_lt t
  obtain ⟨n, hn⟩ := t
  dsimp only [k0_off57] at h ⊢
  clear hn; revert n; clear * -; decide +kernel
instance : ClosedOff (k0_off57 v t) := ⟨_, off57_eq v t⟩
theorem off58_eq : k0_off58 v t = ![t.val % 4, 384, 0] := by
  have h := t_lt t
  obtain ⟨n, hn⟩ := t
  dsimp only [k0_off58] at h ⊢
  clear hn; revert n; clear * -; decide +kernel
instance : ClosedOff (k0_off58 v t) := ⟨![(Ring.sl 4 t.val).val, 384, 0], (off58_eq v t).trans (by simp only [Ring.sl_val])⟩
theorem off59_eq : k0_off59 v t = ![6, 256 * (t.val % 8)] := by
  have h := t_lt t
  obtain ⟨n, hn⟩ := t
  dsimp only [k0_off59] at h ⊢
  clear hn; revert n; clear * -; decide +kernel
instance : ClosedOff (k0_off59 v t) := ⟨_, off59_eq v t⟩
theorem off60_eq : k0_off60 v t = ![6, 2048 + 256 * (t.val % 8)] := by
  have h := t_lt t
  obtain ⟨n, hn⟩ := t
  dsimp only [k0_off60] at h ⊢
  clear hn; revert n; clear * -; decide +kernel
instance : ClosedOff (k0_off60 v t) := ⟨_, off60_eq v t⟩
theorem off61_eq : k0_off61 v t = ![t.val % 4, 512, 0] := by
  have h := t_lt t
  obtain ⟨n, hn⟩ := t
  dsimp only [k0_off61] at h ⊢
  clear hn; revert n; clear * -; decide +kernel
instance : ClosedOff (k0_off61 v t) := ⟨![(Ring.sl 4 t.val).val, 512, 0], (off61_eq v t).trans (by simp only [Ring.sl_val])⟩
theorem off62_eq : k0_off62 v t = ![8, 256 * (t.val % 8)] := by
  have h := t_lt t
  obtain ⟨n, hn⟩ := t
  dsimp only [k0_off62] at h ⊢
  clear hn; revert n; clear * -; decide +kernel
instance : ClosedOff (k0_off62 v t) := ⟨_, off62_eq v t⟩
theorem off63_eq : k0_off63 v t = ![8, 2048 + 256 * (t.val % 8)] := by
  have h := t_lt t
  obtain ⟨n, hn⟩ := t
  dsimp only [k0_off63] at h ⊢
  clear hn; revert n; clear * -; decide +kernel
instance : ClosedOff (k0_off63 v t) := ⟨_, off63_eq v t⟩
theorem off64_eq : k0_off64 v t = ![t.val % 4, 640, 0] := by
  have h := t_lt t
  obtain ⟨n, hn⟩ := t
  dsimp only [k0_off64] at h ⊢
  clear hn; revert n; clear * -; decide +kernel
instance : ClosedOff (k0_off64 v t) := ⟨![(Ring.sl 4 t.val).val, 640, 0], (off64_eq v t).trans (by simp only [Ring.sl_val])⟩
theorem off65_eq : k0_off65 v t = ![10, 256 * (t.val % 8)] := by
  have h := t_lt t
  obtain ⟨n, hn⟩ := t
  dsimp only [k0_off65] at h ⊢
  clear hn; revert n; clear * -; decide +kernel
instance : ClosedOff (k0_off65 v t) := ⟨_, off65_eq v t⟩
theorem off66_eq : k0_off66 v t = ![10, 2048 + 256 * (t.val % 8)] := by
  have h := t_lt t
  obtain ⟨n, hn⟩ := t
  dsimp only [k0_off66] at h ⊢
  clear hn; revert n; clear * -; decide +kernel
instance : ClosedOff (k0_off66 v t) := ⟨_, off66_eq v t⟩
theorem off67_eq : k0_off67 v t = ![t.val % 4, 768, 0] := by
  have h := t_lt t
  obtain ⟨n, hn⟩ := t
  dsimp only [k0_off67] at h ⊢
  clear hn; revert n; clear * -; decide +kernel
instance : ClosedOff (k0_off67 v t) := ⟨![(Ring.sl 4 t.val).val, 768, 0], (off67_eq v t).trans (by simp only [Ring.sl_val])⟩
theorem off68_eq : k0_off68 v t = ![12, 256 * (t.val % 8)] := by
  have h := t_lt t
  obtain ⟨n, hn⟩ := t
  dsimp only [k0_off68] at h ⊢
  clear hn; revert n; clear * -; decide +kernel
instance : ClosedOff (k0_off68 v t) := ⟨_, off68_eq v t⟩
theorem off69_eq : k0_off69 v t = ![12, 2048 + 256 * (t.val % 8)] := by
  have h := t_lt t
  obtain ⟨n, hn⟩ := t
  dsimp only [k0_off69] at h ⊢
  clear hn; revert n; clear * -; decide +kernel
instance : ClosedOff (k0_off69 v t) := ⟨_, off69_eq v t⟩
theorem off70_eq : k0_off70 v t = ![t.val % 4, 896, 0] := by
  have h := t_lt t
  obtain ⟨n, hn⟩ := t
  dsimp only [k0_off70] at h ⊢
  clear hn; revert n; clear * -; decide +kernel
instance : ClosedOff (k0_off70 v t) := ⟨![(Ring.sl 4 t.val).val, 896, 0], (off70_eq v t).trans (by simp only [Ring.sl_val])⟩
theorem off71_eq : k0_off71 v t = ![14, 256 * (t.val % 8)] := by
  have h := t_lt t
  obtain ⟨n, hn⟩ := t
  dsimp only [k0_off71] at h ⊢
  clear hn; revert n; clear * -; decide +kernel
instance : ClosedOff (k0_off71 v t) := ⟨_, off71_eq v t⟩
theorem off72_eq : k0_off72 v t = ![14, 2048 + 256 * (t.val % 8)] := by
  have h := t_lt t
  obtain ⟨n, hn⟩ := t
  dsimp only [k0_off72] at h ⊢
  clear hn; revert n; clear * -; decide +kernel
instance : ClosedOff (k0_off72 v t) := ⟨_, off72_eq v t⟩
theorem off73_eq : k0_off73 v t = ![t.val % 4, 1024, 0] := by
  have h := t_lt t
  obtain ⟨n, hn⟩ := t
  dsimp only [k0_off73] at h ⊢
  clear hn; revert n; clear * -; decide +kernel
instance : ClosedOff (k0_off73 v t) := ⟨![(Ring.sl 4 t.val).val, 1024, 0], (off73_eq v t).trans (by simp only [Ring.sl_val])⟩
theorem off74_eq : k0_off74 v t = ![16, 256 * (t.val % 8)] := by
  have h := t_lt t
  obtain ⟨n, hn⟩ := t
  dsimp only [k0_off74] at h ⊢
  clear hn; revert n; clear * -; decide +kernel
instance : ClosedOff (k0_off74 v t) := ⟨_, off74_eq v t⟩
theorem off75_eq : k0_off75 v t = ![16, 2048 + 256 * (t.val % 8)] := by
  have h := t_lt t
  obtain ⟨n, hn⟩ := t
  dsimp only [k0_off75] at h ⊢
  clear hn; revert n; clear * -; decide +kernel
instance : ClosedOff (k0_off75 v t) := ⟨_, off75_eq v t⟩
theorem off76_eq : k0_off76 v t = ![t.val % 4, 1152, 0] := by
  have h := t_lt t
  obtain ⟨n, hn⟩ := t
  dsimp only [k0_off76] at h ⊢
  clear hn; revert n; clear * -; decide +kernel
instance : ClosedOff (k0_off76 v t) := ⟨![(Ring.sl 4 t.val).val, 1152, 0], (off76_eq v t).trans (by simp only [Ring.sl_val])⟩
theorem off77_eq : k0_off77 v t = ![18, 256 * (t.val % 8)] := by
  have h := t_lt t
  obtain ⟨n, hn⟩ := t
  dsimp only [k0_off77] at h ⊢
  clear hn; revert n; clear * -; decide +kernel
instance : ClosedOff (k0_off77 v t) := ⟨_, off77_eq v t⟩
theorem off78_eq : k0_off78 v t = ![18, 2048 + 256 * (t.val % 8)] := by
  have h := t_lt t
  obtain ⟨n, hn⟩ := t
  dsimp only [k0_off78] at h ⊢
  clear hn; revert n; clear * -; decide +kernel
instance : ClosedOff (k0_off78 v t) := ⟨_, off78_eq v t⟩
theorem off79_eq : k0_off79 v t = ![t.val % 4, 1280, 0] := by
  have h := t_lt t
  obtain ⟨n, hn⟩ := t
  dsimp only [k0_off79] at h ⊢
  clear hn; revert n; clear * -; decide +kernel
instance : ClosedOff (k0_off79 v t) := ⟨![(Ring.sl 4 t.val).val, 1280, 0], (off79_eq v t).trans (by simp only [Ring.sl_val])⟩
theorem off80_eq : k0_off80 v t = ![20, 256 * (t.val % 8)] := by
  have h := t_lt t
  obtain ⟨n, hn⟩ := t
  dsimp only [k0_off80] at h ⊢
  clear hn; revert n; clear * -; decide +kernel
instance : ClosedOff (k0_off80 v t) := ⟨_, off80_eq v t⟩
theorem off81_eq : k0_off81 v t = ![20, 2048 + 256 * (t.val % 8)] := by
  have h := t_lt t
  obtain ⟨n, hn⟩ := t
  dsimp only [k0_off81] at h ⊢
  clear hn; revert n; clear * -; decide +kernel
instance : ClosedOff (k0_off81 v t) := ⟨_, off81_eq v t⟩
theorem off82_eq : k0_off82 v t = ![t.val % 4, 1408, 0] := by
  have h := t_lt t
  obtain ⟨n, hn⟩ := t
  dsimp only [k0_off82] at h ⊢
  clear hn; revert n; clear * -; decide +kernel
instance : ClosedOff (k0_off82 v t) := ⟨![(Ring.sl 4 t.val).val, 1408, 0], (off82_eq v t).trans (by simp only [Ring.sl_val])⟩
theorem off83_eq : k0_off83 v t = ![22, 256 * (t.val % 8)] := by
  have h := t_lt t
  obtain ⟨n, hn⟩ := t
  dsimp only [k0_off83] at h ⊢
  clear hn; revert n; clear * -; decide +kernel
instance : ClosedOff (k0_off83 v t) := ⟨_, off83_eq v t⟩
theorem off84_eq : k0_off84 v t = ![22, 2048 + 256 * (t.val % 8)] := by
  have h := t_lt t
  obtain ⟨n, hn⟩ := t
  dsimp only [k0_off84] at h ⊢
  clear hn; revert n; clear * -; decide +kernel
instance : ClosedOff (k0_off84 v t) := ⟨_, off84_eq v t⟩
theorem off85_eq : k0_off85 v t = ![t.val % 4, 1536, 0] := by
  have h := t_lt t
  obtain ⟨n, hn⟩ := t
  dsimp only [k0_off85] at h ⊢
  clear hn; revert n; clear * -; decide +kernel
instance : ClosedOff (k0_off85 v t) := ⟨![(Ring.sl 4 t.val).val, 1536, 0], (off85_eq v t).trans (by simp only [Ring.sl_val])⟩
theorem off86_eq : k0_off86 v t = ![24, 256 * (t.val % 8)] := by
  have h := t_lt t
  obtain ⟨n, hn⟩ := t
  dsimp only [k0_off86] at h ⊢
  clear hn; revert n; clear * -; decide +kernel
instance : ClosedOff (k0_off86 v t) := ⟨_, off86_eq v t⟩
theorem off87_eq : k0_off87 v t = ![24, 2048 + 256 * (t.val % 8)] := by
  have h := t_lt t
  obtain ⟨n, hn⟩ := t
  dsimp only [k0_off87] at h ⊢
  clear hn; revert n; clear * -; decide +kernel
instance : ClosedOff (k0_off87 v t) := ⟨_, off87_eq v t⟩
theorem off88_eq : k0_off88 v t = ![t.val % 4, 1664, 0] := by
  have h := t_lt t
  obtain ⟨n, hn⟩ := t
  dsimp only [k0_off88] at h ⊢
  clear hn; revert n; clear * -; decide +kernel
instance : ClosedOff (k0_off88 v t) := ⟨![(Ring.sl 4 t.val).val, 1664, 0], (off88_eq v t).trans (by simp only [Ring.sl_val])⟩
theorem off89_eq : k0_off89 v t = ![26, 256 * (t.val % 8)] := by
  have h := t_lt t
  obtain ⟨n, hn⟩ := t
  dsimp only [k0_off89] at h ⊢
  clear hn; revert n; clear * -; decide +kernel
instance : ClosedOff (k0_off89 v t) := ⟨_, off89_eq v t⟩
theorem off90_eq : k0_off90 v t = ![26, 2048 + 256 * (t.val % 8)] := by
  have h := t_lt t
  obtain ⟨n, hn⟩ := t
  dsimp only [k0_off90] at h ⊢
  clear hn; revert n; clear * -; decide +kernel
instance : ClosedOff (k0_off90 v t) := ⟨_, off90_eq v t⟩
theorem off91_eq : k0_off91 v t = ![t.val % 4, 1792, 0] := by
  have h := t_lt t
  obtain ⟨n, hn⟩ := t
  dsimp only [k0_off91] at h ⊢
  clear hn; revert n; clear * -; decide +kernel
instance : ClosedOff (k0_off91 v t) := ⟨![(Ring.sl 4 t.val).val, 1792, 0], (off91_eq v t).trans (by simp only [Ring.sl_val])⟩
theorem off92_eq : k0_off92 v t = ![28, 256 * (t.val % 8)] := by
  have h := t_lt t
  obtain ⟨n, hn⟩ := t
  dsimp only [k0_off92] at h ⊢
  clear hn; revert n; clear * -; decide +kernel
instance : ClosedOff (k0_off92 v t) := ⟨_, off92_eq v t⟩
theorem off93_eq : k0_off93 v t = ![28, 2048 + 256 * (t.val % 8)] := by
  have h := t_lt t
  obtain ⟨n, hn⟩ := t
  dsimp only [k0_off93] at h ⊢
  clear hn; revert n; clear * -; decide +kernel
instance : ClosedOff (k0_off93 v t) := ⟨_, off93_eq v t⟩
theorem off94_eq : k0_off94 v t = ![t.val % 4, 1920, 0] := by
  have h := t_lt t
  obtain ⟨n, hn⟩ := t
  dsimp only [k0_off94] at h ⊢
  clear hn; revert n; clear * -; decide +kernel
instance : ClosedOff (k0_off94 v t) := ⟨![(Ring.sl 4 t.val).val, 1920, 0], (off94_eq v t).trans (by simp only [Ring.sl_val])⟩
theorem off95_eq : k0_off95 v t = ![30, 256 * (t.val % 8)] := by
  have h := t_lt t
  obtain ⟨n, hn⟩ := t
  dsimp only [k0_off95] at h ⊢
  clear hn; revert n; clear * -; decide +kernel
instance : ClosedOff (k0_off95 v t) := ⟨_, off95_eq v t⟩
theorem off96_eq : k0_off96 v t = ![30, 2048 + 256 * (t.val % 8)] := by
  have h := t_lt t
  obtain ⟨n, hn⟩ := t
  dsimp only [k0_off96] at h ⊢
  clear hn; revert n; clear * -; decide +kernel
instance : ClosedOff (k0_off96 v t) := ⟨_, off96_eq v t⟩
theorem off97_eq : k0_off97 v t = ![t.val % 4, 2048, 0] := by
  have h := t_lt t
  obtain ⟨n, hn⟩ := t
  dsimp only [k0_off97] at h ⊢
  clear hn; revert n; clear * -; decide +kernel
instance : ClosedOff (k0_off97 v t) := ⟨![(Ring.sl 4 t.val).val, 2048, 0], (off97_eq v t).trans (by simp only [Ring.sl_val])⟩
theorem off98_eq : k0_off98 v t = ![32, 256 * (t.val % 8)] := by
  have h := t_lt t
  obtain ⟨n, hn⟩ := t
  dsimp only [k0_off98] at h ⊢
  clear hn; revert n; clear * -; decide +kernel
instance : ClosedOff (k0_off98 v t) := ⟨_, off98_eq v t⟩
theorem off99_eq : k0_off99 v t = ![32, 2048 + 256 * (t.val % 8)] := by
  have h := t_lt t
  obtain ⟨n, hn⟩ := t
  dsimp only [k0_off99] at h ⊢
  clear hn; revert n; clear * -; decide +kernel
instance : ClosedOff (k0_off99 v t) := ⟨_, off99_eq v t⟩
theorem off100_eq : k0_off100 v t = ![t.val % 4, 2176, 0] := by
  have h := t_lt t
  obtain ⟨n, hn⟩ := t
  dsimp only [k0_off100] at h ⊢
  clear hn; revert n; clear * -; decide +kernel
instance : ClosedOff (k0_off100 v t) := ⟨![(Ring.sl 4 t.val).val, 2176, 0], (off100_eq v t).trans (by simp only [Ring.sl_val])⟩
theorem off101_eq : k0_off101 v t = ![34, 256 * (t.val % 8)] := by
  have h := t_lt t
  obtain ⟨n, hn⟩ := t
  dsimp only [k0_off101] at h ⊢
  clear hn; revert n; clear * -; decide +kernel
instance : ClosedOff (k0_off101 v t) := ⟨_, off101_eq v t⟩
theorem off102_eq : k0_off102 v t = ![34, 2048 + 256 * (t.val % 8)] := by
  have h := t_lt t
  obtain ⟨n, hn⟩ := t
  dsimp only [k0_off102] at h ⊢
  clear hn; revert n; clear * -; decide +kernel
instance : ClosedOff (k0_off102 v t) := ⟨_, off102_eq v t⟩
theorem off103_eq : k0_off103 v t = ![t.val % 4, 2304, 0] := by
  have h := t_lt t
  obtain ⟨n, hn⟩ := t
  dsimp only [k0_off103] at h ⊢
  clear hn; revert n; clear * -; decide +kernel
instance : ClosedOff (k0_off103 v t) := ⟨![(Ring.sl 4 t.val).val, 2304, 0], (off103_eq v t).trans (by simp only [Ring.sl_val])⟩
theorem off104_eq : k0_off104 v t = ![36, 256 * (t.val % 8)] := by
  have h := t_lt t
  obtain ⟨n, hn⟩ := t
  dsimp only [k0_off104] at h ⊢
  clear hn; revert n; clear * -; decide +kernel
instance : ClosedOff (k0_off104 v t) := ⟨_, off104_eq v t⟩
theorem off105_eq : k0_off105 v t = ![36, 2048 + 256 * (t.val % 8)] := by
  have h := t_lt t
  obtain ⟨n, hn⟩ := t
  dsimp only [k0_off105] at h ⊢
  clear hn; revert n; clear * -; decide +kernel
instance : ClosedOff (k0_off105 v t) := ⟨_, off105_eq v t⟩
theorem off106_eq : k0_off106 v t = ![t.val % 4, 2432, 0] := by
  have h := t_lt t
  obtain ⟨n, hn⟩ := t
  dsimp only [k0_off106] at h ⊢
  clear hn; revert n; clear * -; decide +kernel
instance : ClosedOff (k0_off106 v t) := ⟨![(Ring.sl 4 t.val).val, 2432, 0], (off106_eq v t).trans (by simp only [Ring.sl_val])⟩
theorem off107_eq : k0_off107 v t = ![38, 256 * (t.val % 8)] := by
  have h := t_lt t
  obtain ⟨n, hn⟩ := t
  dsimp only [k0_off107] at h ⊢
  clear hn; revert n; clear * -; decide +kernel
instance : ClosedOff (k0_off107 v t) := ⟨_, off107_eq v t⟩
theorem off108_eq : k0_off108 v t = ![38, 2048 + 256 * (t.val % 8)] := by
  have h := t_lt t
  obtain ⟨n, hn⟩ := t
  dsimp only [k0_off108] at h ⊢
  clear hn; revert n; clear * -; decide +kernel
instance : ClosedOff (k0_off108 v t) := ⟨_, off108_eq v t⟩
theorem off109_eq : k0_off109 v t = ![2 * (t.val % 8), 0] := by
  have h := t_lt t
  obtain ⟨n, hn⟩ := t
  dsimp only [k0_off109] at h ⊢
  clear hn; revert n; clear * -; decide +kernel
instance : ClosedOff (k0_off109 v t) := ⟨_, off109_eq v t⟩
theorem off110_eq : k0_off110 v t = ![1 + 2 * (t.val % 8), 0] := by
  have h := t_lt t
  obtain ⟨n, hn⟩ := t
  dsimp only [k0_off110] at h ⊢
  clear hn; revert n; clear * -; decide +kernel
instance : ClosedOff (k0_off110 v t) := ⟨_, off110_eq v t⟩
theorem off111_eq : k0_off111 v t = ![t.val % 4, 0, 0] := by
  have h := t_lt t
  obtain ⟨n, hn⟩ := t
  dsimp only [k0_off111] at h ⊢
  clear hn; revert n; clear * -; decide +kernel
instance : ClosedOff (k0_off111 v t) := ⟨![(Ring.sl 4 t.val).val, 0, 0], (off111_eq v t).trans (by simp only [Ring.sl_val])⟩
theorem off112_eq : k0_off112 v t = ![2 * (t.val % 8), 256] := by
  have h := t_lt t
  obtain ⟨n, hn⟩ := t
  dsimp only [k0_off112] at h ⊢
  clear hn; revert n; clear * -; decide +kernel
instance : ClosedOff (k0_off112 v t) := ⟨_, off112_eq v t⟩
theorem off113_eq : k0_off113 v t = ![1 + 2 * (t.val % 8), 256] := by
  have h := t_lt t
  obtain ⟨n, hn⟩ := t
  dsimp only [k0_off113] at h ⊢
  clear hn; revert n; clear * -; decide +kernel
instance : ClosedOff (k0_off113 v t) := ⟨_, off113_eq v t⟩
theorem off114_eq : k0_off114 v t = ![t.val % 4, 0, 256] := by
  have h := t_lt t
  obtain ⟨n, hn⟩ := t
  dsimp only [k0_off114] at h ⊢
  clear hn; revert n; clear * -; decide +kernel
instance : ClosedOff (k0_off114 v t) := ⟨![(Ring.sl 4 t.val).val, 0, 256], (off114_eq v t).trans (by simp only [Ring.sl_val])⟩
theorem off115_eq : k0_off115 v t = ![2 * (t.val % 8), 512] := by
  have h := t_lt t
  obtain ⟨n, hn⟩ := t
  dsimp only [k0_off115] at h ⊢
  clear hn; revert n; clear * -; decide +kernel
instance : ClosedOff (k0_off115 v t) := ⟨_, off115_eq v t⟩
theorem off116_eq : k0_off116 v t = ![1 + 2 * (t.val % 8), 512] := by
  have h := t_lt t
  obtain ⟨n, hn⟩ := t
  dsimp only [k0_off116] at h ⊢
  clear hn; revert n; clear * -; decide +kernel
instance : ClosedOff (k0_off116 v t) := ⟨_, off116_eq v t⟩
theorem off117_eq : k0_off117 v t = ![t.val % 4, 0, 512] := by
  have h := t_lt t
  obtain ⟨n, hn⟩ := t
  dsimp only [k0_off117] at h ⊢
  clear hn; revert n; clear * -; decide +kernel
instance : ClosedOff (k0_off117 v t) := ⟨![(Ring.sl 4 t.val).val, 0, 512], (off117_eq v t).trans (by simp only [Ring.sl_val])⟩
theorem off118_eq : k0_off118 v t = ![2 * (t.val % 8), 768] := by
  have h := t_lt t
  obtain ⟨n, hn⟩ := t
  dsimp only [k0_off118] at h ⊢
  clear hn; revert n; clear * -; decide +kernel
instance : ClosedOff (k0_off118 v t) := ⟨_, off118_eq v t⟩
theorem off119_eq : k0_off119 v t = ![1 + 2 * (t.val % 8), 768] := by
  have h := t_lt t
  obtain ⟨n, hn⟩ := t
  dsimp only [k0_off119] at h ⊢
  clear hn; revert n; clear * -; decide +kernel
instance : ClosedOff (k0_off119 v t) := ⟨_, off119_eq v t⟩
theorem off120_eq : k0_off120 v t = ![t.val % 4, 0, 768] := by
  have h := t_lt t
  obtain ⟨n, hn⟩ := t
  dsimp only [k0_off120] at h ⊢
  clear hn; revert n; clear * -; decide +kernel
instance : ClosedOff (k0_off120 v t) := ⟨![(Ring.sl 4 t.val).val, 0, 768], (off120_eq v t).trans (by simp only [Ring.sl_val])⟩
theorem off121_eq : k0_off121 v t = ![2 * (t.val % 8), 1024] := by
  have h := t_lt t
  obtain ⟨n, hn⟩ := t
  dsimp only [k0_off121] at h ⊢
  clear hn; revert n; clear * -; decide +kernel
instance : ClosedOff (k0_off121 v t) := ⟨_, off121_eq v t⟩
theorem off122_eq : k0_off122 v t = ![1 + 2 * (t.val % 8), 1024] := by
  have h := t_lt t
  obtain ⟨n, hn⟩ := t
  dsimp only [k0_off122] at h ⊢
  clear hn; revert n; clear * -; decide +kernel
instance : ClosedOff (k0_off122 v t) := ⟨_, off122_eq v t⟩
theorem off123_eq : k0_off123 v t = ![t.val % 4, 0, 1024] := by
  have h := t_lt t
  obtain ⟨n, hn⟩ := t
  dsimp only [k0_off123] at h ⊢
  clear hn; revert n; clear * -; decide +kernel
instance : ClosedOff (k0_off123 v t) := ⟨![(Ring.sl 4 t.val).val, 0, 1024], (off123_eq v t).trans (by simp only [Ring.sl_val])⟩
theorem off124_eq : k0_off124 v t = ![2 * (t.val % 8), 1280] := by
  have h := t_lt t
  obtain ⟨n, hn⟩ := t
  dsimp only [k0_off124] at h ⊢
  clear hn; revert n; clear * -; decide +kernel
instance : ClosedOff (k0_off124 v t) := ⟨_, off124_eq v t⟩
theorem off125_eq : k0_off125 v t = ![1 + 2 * (t.val % 8), 1280] := by
  have h := t_lt t
  obtain ⟨n, hn⟩ := t
  dsimp only [k0_off125] at h ⊢
  clear hn; revert n; clear * -; decide +kernel
instance : ClosedOff (k0_off125 v t) := ⟨_, off125_eq v t⟩
theorem off126_eq : k0_off126 v t = ![t.val % 4, 0, 1280] := by
  have h := t_lt t
  obtain ⟨n, hn⟩ := t
  dsimp only [k0_off126] at h ⊢
  clear hn; revert n; clear * -; decide +kernel
instance : ClosedOff (k0_off126 v t) := ⟨![(Ring.sl 4 t.val).val, 0, 1280], (off126_eq v t).trans (by simp only [Ring.sl_val])⟩
theorem off127_eq : k0_off127 v t = ![2 * (t.val % 8), 1536] := by
  have h := t_lt t
  obtain ⟨n, hn⟩ := t
  dsimp only [k0_off127] at h ⊢
  clear hn; revert n; clear * -; decide +kernel
instance : ClosedOff (k0_off127 v t) := ⟨_, off127_eq v t⟩
theorem off128_eq : k0_off128 v t = ![1 + 2 * (t.val % 8), 1536] := by
  have h := t_lt t
  obtain ⟨n, hn⟩ := t
  dsimp only [k0_off128] at h ⊢
  clear hn; revert n; clear * -; decide +kernel
instance : ClosedOff (k0_off128 v t) := ⟨_, off128_eq v t⟩
theorem off129_eq : k0_off129 v t = ![t.val % 4, 0, 1536] := by
  have h := t_lt t
  obtain ⟨n, hn⟩ := t
  dsimp only [k0_off129] at h ⊢
  clear hn; revert n; clear * -; decide +kernel
instance : ClosedOff (k0_off129 v t) := ⟨![(Ring.sl 4 t.val).val, 0, 1536], (off129_eq v t).trans (by simp only [Ring.sl_val])⟩
theorem off130_eq : k0_off130 v t = ![2 * (t.val % 8), 1792] := by
  have h := t_lt t
  obtain ⟨n, hn⟩ := t
  dsimp only [k0_off130] at h ⊢
  clear hn; revert n; clear * -; decide +kernel
instance : ClosedOff (k0_off130 v t) := ⟨_, off130_eq v t⟩
theorem off131_eq : k0_off131 v t = ![1 + 2 * (t.val % 8), 1792] := by
  have h := t_lt t
  obtain ⟨n, hn⟩ := t
  dsimp only [k0_off131] at h ⊢
  clear hn; revert n; clear * -; decide +kernel
instance : ClosedOff (k0_off131 v t) := ⟨_, off131_eq v t⟩
theorem off132_eq : k0_off132 v t = ![t.val % 4, 0, 1792] := by
  have h := t_lt t
  obtain ⟨n, hn⟩ := t
  dsimp only [k0_off132] at h ⊢
  clear hn; revert n; clear * -; decide +kernel
instance : ClosedOff (k0_off132 v t) := ⟨![(Ring.sl 4 t.val).val, 0, 1792], (off132_eq v t).trans (by simp only [Ring.sl_val])⟩
theorem off133_eq : k0_off133 v t = ![2 * (t.val % 8), 2048] := by
  have h := t_lt t
  obtain ⟨n, hn⟩ := t
  dsimp only [k0_off133] at h ⊢
  clear hn; revert n; clear * -; decide +kernel
instance : ClosedOff (k0_off133 v t) := ⟨_, off133_eq v t⟩
theorem off134_eq : k0_off134 v t = ![1 + 2 * (t.val % 8), 2048] := by
  have h := t_lt t
  obtain ⟨n, hn⟩ := t
  dsimp only [k0_off134] at h ⊢
  clear hn; revert n; clear * -; decide +kernel
instance : ClosedOff (k0_off134 v t) := ⟨_, off134_eq v t⟩
theorem off135_eq : k0_off135 v t = ![t.val % 4, 0, 2048] := by
  have h := t_lt t
  obtain ⟨n, hn⟩ := t
  dsimp only [k0_off135] at h ⊢
  clear hn; revert n; clear * -; decide +kernel
instance : ClosedOff (k0_off135 v t) := ⟨![(Ring.sl 4 t.val).val, 0, 2048], (off135_eq v t).trans (by simp only [Ring.sl_val])⟩
theorem off136_eq : k0_off136 v t = ![2 * (t.val % 8), 2304] := by
  have h := t_lt t
  obtain ⟨n, hn⟩ := t
  dsimp only [k0_off136] at h ⊢
  clear hn; revert n; clear * -; decide +kernel
instance : ClosedOff (k0_off136 v t) := ⟨_, off136_eq v t⟩
theorem off137_eq : k0_off137 v t = ![1 + 2 * (t.val % 8), 2304] := by
  have h := t_lt t
  obtain ⟨n, hn⟩ := t
  dsimp only [k0_off137] at h ⊢
  clear hn; revert n; clear * -; decide +kernel
instance : ClosedOff (k0_off137 v t) := ⟨_, off137_eq v t⟩
theorem off138_eq : k0_off138 v t = ![t.val % 4, 0, 2304] := by
  have h := t_lt t
  obtain ⟨n, hn⟩ := t
  dsimp only [k0_off138] at h ⊢
  clear hn; revert n; clear * -; decide +kernel
instance : ClosedOff (k0_off138 v t) := ⟨![(Ring.sl 4 t.val).val, 0, 2304], (off138_eq v t).trans (by simp only [Ring.sl_val])⟩
theorem off139_eq : k0_off139 v t = ![2 * (t.val % 8), 2560] := by
  have h := t_lt t
  obtain ⟨n, hn⟩ := t
  dsimp only [k0_off139] at h ⊢
  clear hn; revert n; clear * -; decide +kernel
instance : ClosedOff (k0_off139 v t) := ⟨_, off139_eq v t⟩
theorem off140_eq : k0_off140 v t = ![1 + 2 * (t.val % 8), 2560] := by
  have h := t_lt t
  obtain ⟨n, hn⟩ := t
  dsimp only [k0_off140] at h ⊢
  clear hn; revert n; clear * -; decide +kernel
instance : ClosedOff (k0_off140 v t) := ⟨_, off140_eq v t⟩
theorem off141_eq : k0_off141 v t = ![t.val % 4, 0, 2560] := by
  have h := t_lt t
  obtain ⟨n, hn⟩ := t
  dsimp only [k0_off141] at h ⊢
  clear hn; revert n; clear * -; decide +kernel
instance : ClosedOff (k0_off141 v t) := ⟨![(Ring.sl 4 t.val).val, 0, 2560], (off141_eq v t).trans (by simp only [Ring.sl_val])⟩
theorem off142_eq : k0_off142 v t = ![2 * (t.val % 8), 2816] := by
  have h := t_lt t
  obtain ⟨n, hn⟩ := t
  dsimp only [k0_off142] at h ⊢
  clear hn; revert n; clear * -; decide +kernel
instance : ClosedOff (k0_off142 v t) := ⟨_, off142_eq v t⟩
theorem off143_eq : k0_off143 v t = ![1 + 2 * (t.val % 8), 2816] := by
  have h := t_lt t
  obtain ⟨n, hn⟩ := t
  dsimp only [k0_off143] at h ⊢
  clear hn; revert n; clear * -; decide +kernel
instance : ClosedOff (k0_off143 v t) := ⟨_, off143_eq v t⟩
theorem off144_eq : k0_off144 v t = ![t.val % 4, 0, 2816] := by
  have h := t_lt t
  obtain ⟨n, hn⟩ := t
  dsimp only [k0_off144] at h ⊢
  clear hn; revert n; clear * -; decide +kernel
instance : ClosedOff (k0_off144 v t) := ⟨![(Ring.sl 4 t.val).val, 0, 2816], (off144_eq v t).trans (by simp only [Ring.sl_val])⟩
theorem off145_eq : k0_off145 v t = ![2 * (t.val % 8), 3072] := by
  have h := t_lt t
  obtain ⟨n, hn⟩ := t
  dsimp only [k0_off145] at h ⊢
  clear hn; revert n; clear * -; decide +kernel
instance : ClosedOff (k0_off145 v t) := ⟨_, off145_eq v t⟩
theorem off146_eq : k0_off146 v t = ![1 + 2 * (t.val % 8), 3072] := by
  have h := t_lt t
  obtain ⟨n, hn⟩ := t
  dsimp only [k0_off146] at h ⊢
  clear hn; revert n; clear * -; decide +kernel
instance : ClosedOff (k0_off146 v t) := ⟨_, off146_eq v t⟩
theorem off147_eq : k0_off147 v t = ![t.val % 4, 0, 3072] := by
  have h := t_lt t
  obtain ⟨n, hn⟩ := t
  dsimp only [k0_off147] at h ⊢
  clear hn; revert n; clear * -; decide +kernel
instance : ClosedOff (k0_off147 v t) := ⟨![(Ring.sl 4 t.val).val, 0, 3072], (off147_eq v t).trans (by simp only [Ring.sl_val])⟩
theorem off148_eq : k0_off148 v t = ![2 * (t.val % 8), 3328] := by
  have h := t_lt t
  obtain ⟨n, hn⟩ := t
  dsimp only [k0_off148] at h ⊢
  clear hn; revert n; clear * -; decide +kernel
instance : ClosedOff (k0_off148 v t) := ⟨_, off148_eq v t⟩
theorem off149_eq : k0_off149 v t = ![1 + 2 * (t.val % 8), 3328] := by
  have h := t_lt t
  obtain ⟨n, hn⟩ := t
  dsimp only [k0_off149] at h ⊢
  clear hn; revert n; clear * -; decide +kernel
instance : ClosedOff (k0_off149 v t) := ⟨_, off149_eq v t⟩
theorem off150_eq : k0_off150 v t = ![t.val % 4, 0, 3328] := by
  have h := t_lt t
  obtain ⟨n, hn⟩ := t
  dsimp only [k0_off150] at h ⊢
  clear hn; revert n; clear * -; decide +kernel
instance : ClosedOff (k0_off150 v t) := ⟨![(Ring.sl 4 t.val).val, 0, 3328], (off150_eq v t).trans (by simp only [Ring.sl_val])⟩
theorem off151_eq : k0_off151 v t = ![2 * (t.val % 8), 3584] := by
  have h := t_lt t
  obtain ⟨n, hn⟩ := t
  dsimp only [k0_off151] at h ⊢
  clear hn; revert n; clear * -; decide +kernel
instance : ClosedOff (k0_off151 v t) := ⟨_, off151_eq v t⟩
theorem off152_eq : k0_off152 v t = ![1 + 2 * (t.val % 8), 3584] := by
  have h := t_lt t
  obtain ⟨n, hn⟩ := t
  dsimp only [k0_off152] at h ⊢
  clear hn; revert n; clear * -; decide +kernel
instance : ClosedOff (k0_off152 v t) := ⟨_, off152_eq v t⟩
theorem off153_eq : k0_off153 v t = ![t.val % 4, 0, 3584] := by
  have h := t_lt t
  obtain ⟨n, hn⟩ := t
  dsimp only [k0_off153] at h ⊢
  clear hn; revert n; clear * -; decide +kernel
instance : ClosedOff (k0_off153 v t) := ⟨![(Ring.sl 4 t.val).val, 0, 3584], (off153_eq v t).trans (by simp only [Ring.sl_val])⟩
theorem off154_eq : k0_off154 v t = ![2 * (t.val % 8), 3840] := by
  have h := t_lt t
  obtain ⟨n, hn⟩ := t
  dsimp only [k0_off154] at h ⊢
  clear hn; revert n; clear * -; decide +kernel
instance : ClosedOff (k0_off154 v t) := ⟨_, off154_eq v t⟩
theorem off155_eq : k0_off155 v t = ![1 + 2 * (t.val % 8), 3840] := by
  have h := t_lt t
  obtain ⟨n, hn⟩ := t
  dsimp only [k0_off155] at h ⊢
  clear hn; revert n; clear * -; decide +kernel
instance : ClosedOff (k0_off155 v t) := ⟨_, off155_eq v t⟩
theorem off156_eq : k0_off156 v t = ![t.val % 4, 0, 3840] := by
  have h := t_lt t
  obtain ⟨n, hn⟩ := t
  dsimp only [k0_off156] at h ⊢
  clear hn; revert n; clear * -; decide +kernel
instance : ClosedOff (k0_off156 v t) := ⟨![(Ring.sl 4 t.val).val, 0, 3840], (off156_eq v t).trans (by simp only [Ring.sl_val])⟩
theorem off157_eq : k0_off157 v t = ![2 * (t.val % 8), 4096] := by
  have h := t_lt t
  obtain ⟨n, hn⟩ := t
  dsimp only [k0_off157] at h ⊢
  clear hn; revert n; clear * -; decide +kernel
instance : ClosedOff (k0_off157 v t) := ⟨_, off157_eq v t⟩
theorem off158_eq : k0_off158 v t = ![1 + 2 * (t.val % 8), 4096] := by
  have h := t_lt t
  obtain ⟨n, hn⟩ := t
  dsimp only [k0_off158] at h ⊢
  clear hn; revert n; clear * -; decide +kernel
instance : ClosedOff (k0_off158 v t) := ⟨_, off158_eq v t⟩
theorem off159_eq : k0_off159 v t = ![t.val % 4, 0, 4096] := by
  have h := t_lt t
  obtain ⟨n, hn⟩ := t
  dsimp only [k0_off159] at h ⊢
  clear hn; revert n; clear * -; decide +kernel
instance : ClosedOff (k0_off159 v t) := ⟨![(Ring.sl 4 t.val).val, 0, 4096], (off159_eq v t).trans (by simp only [Ring.sl_val])⟩
theorem off160_eq : k0_off160 v t = ![2 * (t.val % 8), 4352] := by
  have h := t_lt t
  obtain ⟨n, hn⟩ := t
  dsimp only [k0_off160] at h ⊢
  clear hn; revert n; clear * -; decide +kernel
instance : ClosedOff (k0_off160 v t) := ⟨_, off160_eq v t⟩
theorem off161_eq : k0_off161 v t = ![1 + 2 * (t.val % 8), 4352] := by
  have h := t_lt t
  obtain ⟨n, hn⟩ := t
  dsimp only [k0_off161] at h ⊢
  clear hn; revert n; clear * -; decide +kernel
instance : ClosedOff (k0_off161 v t) := ⟨_, off161_eq v t⟩
theorem off162_eq : k0_off162 v t = ![t.val % 4, 0, 4352] := by
  have h := t_lt t
  obtain ⟨n, hn⟩ := t
  dsimp only [k0_off162] at h ⊢
  clear hn; revert n; clear * -; decide +kernel
instance : ClosedOff (k0_off162 v t) := ⟨![(Ring.sl 4 t.val).val, 0, 4352], (off162_eq v t).trans (by simp only [Ring.sl_val])⟩
theorem off163_eq : k0_off163 v t = ![2 * (t.val % 8), 4608] := by
  have h := t_lt t
  obtain ⟨n, hn⟩ := t
  dsimp only [k0_off163] at h ⊢
  clear hn; revert n; clear * -; decide +kernel
instance : ClosedOff (k0_off163 v t) := ⟨_, off163_eq v t⟩
theorem off164_eq : k0_off164 v t = ![1 + 2 * (t.val % 8), 4608] := by
  have h := t_lt t
  obtain ⟨n, hn⟩ := t
  dsimp only [k0_off164] at h ⊢
  clear hn; revert n; clear * -; decide +kernel
instance : ClosedOff (k0_off164 v t) := ⟨_, off164_eq v t⟩
theorem off165_eq : k0_off165 v t = ![t.val % 4, 0, 4608] := by
  have h := t_lt t
  obtain ⟨n, hn⟩ := t
  dsimp only [k0_off165] at h ⊢
  clear hn; revert n; clear * -; decide +kernel
instance : ClosedOff (k0_off165 v t) := ⟨![(Ring.sl 4 t.val).val, 0, 4608], (off165_eq v t).trans (by simp only [Ring.sl_val])⟩
theorem off166_eq : k0_off166 v t = ![2 * (t.val % 8), 4864] := by
  have h := t_lt t
  obtain ⟨n, hn⟩ := t
  dsimp only [k0_off166] at h ⊢
  clear hn; revert n; clear * -; decide +kernel
instance : ClosedOff (k0_off166 v t) := ⟨_, off166_eq v t⟩
theorem off167_eq : k0_off167 v t = ![1 + 2 * (t.val % 8), 4864] := by
  have h := t_lt t
  obtain ⟨n, hn⟩ := t
  dsimp only [k0_off167] at h ⊢
  clear hn; revert n; clear * -; decide +kernel
instance : ClosedOff (k0_off167 v t) := ⟨_, off167_eq v t⟩
theorem off168_eq : k0_off168 v t = ![t.val % 4, 0, 4864] := by
  have h := t_lt t
  obtain ⟨n, hn⟩ := t
  dsimp only [k0_off168] at h ⊢
  clear hn; revert n; clear * -; decide +kernel
instance : ClosedOff (k0_off168 v t) := ⟨![(Ring.sl 4 t.val).val, 0, 4864], (off168_eq v t).trans (by simp only [Ring.sl_val])⟩
theorem off169_eq : k0_off169 v t = ![t.val / 8] := by
  have h := t_lt t
  obtain ⟨n, hn⟩ := t
  dsimp only [k0_off169] at h ⊢
  clear hn; revert n; clear * -; decide +kernel
instance : ClosedOff (k0_off169 v t) := ⟨_, off169_eq v t⟩

end Chain

/-! ## The kernel's slices are the named ones -/

section Canon
variable (v : BitVec 32) [Fact (v.toNat ≤ 4)] (t : Fin (k0_t2_loop v).trips) (w : BitVec 32)

@[sl_canon] theorem sgS_15 (hh hs) :
    (sgM.slice (Rect.unit (s := S2x40x4096) (k0_off15 v t) S1x40x4096.size hh) hs).squeeze S40x4096 squeezes_S1x40x4096_S40x4096 = sgS (Ring.sl 2 (t.val / 8 + 1)) := sgS_congr ((off15_eq v t).trans (by simp only [slotOff, Ring.sl_val])) hh hs
@[sl_canon] theorem seS_18 (hh hs) :
    (seM.slice (Rect.unit (s := S2x16x5120) (k0_off18 v t) S1x16x5120.size hh) hs).squeeze S16x5120 squeezes_S1x16x5120_S16x5120 = seS (Ring.sl 2 (t.val / 8 + 1)) := seS_congr ((off18_eq v t).trans (by simp only [slotOff, Ring.sl_val])) hh hs
@[sl_canon] theorem sgS_22 (hh hs) :
    (sgM.slice (Rect.unit (s := S2x40x4096) (k0_off22 v t) S1x40x4096.size hh) hs).squeeze S40x4096 squeezes_S1x40x4096_S40x4096 = sgS (Ring.sl 2 (t.val / 8)) := sgS_congr ((off22_eq v t).trans (by simp only [slotOff, Ring.sl_val])) hh hs
@[sl_canon] theorem seS_25 (hh hs) :
    (seM.slice (Rect.unit (s := S2x16x5120) (k0_off25 v t) S1x16x5120.size hh) hs).squeeze S16x5120 squeezes_S1x16x5120_S16x5120 = seS (Ring.sl 2 (t.val / 8)) := seS_congr ((off25_eq v t).trans (by simp only [slotOff, Ring.sl_val])) hh hs
@[sl_canon] theorem sgC_14 (hh) :
    (cc0_scratch12.slice (Rect.unit (s := S2x2) (k0_off14 v t) S1x1.size hh)).squeeze S_ squeezes_S1x1_S_ = sgC (Ring.sl 2 (t.val / 8 + 1)) := sgC_congr ((off14_eq v t).trans (by simp only [sgCOff, Ring.sl_val])) hh
@[sl_canon] theorem seC_17 (hh) :
    (cc0_scratch12.slice (Rect.unit (s := S2x2) (k0_off17 v t) S1x1.size hh)).squeeze S_ squeezes_S1x1_S_ = seC (Ring.sl 2 (t.val / 8 + 1)) := seC_congr ((off17_eq v t).trans (by simp only [seCOff, Ring.sl_val])) hh
@[sl_canon] theorem sgC_21 (hh) :
    (cc0_scratch12.slice (Rect.unit (s := S2x2) (k0_off21 v t) S1x1.size hh)).squeeze S_ squeezes_S1x1_S_ = sgC (Ring.sl 2 (t.val / 8)) := sgC_congr ((off21_eq v t).trans (by simp only [sgCOff, Ring.sl_val])) hh
@[sl_canon] theorem seC_24 (hh) :
    (cc0_scratch12.slice (Rect.unit (s := S2x2) (k0_off24 v t) S1x1.size hh)).squeeze S_ squeezes_S1x1_S_ = seC (Ring.sl 2 (t.val / 8)) := seC_congr ((off24_eq v t).trans (by simp only [seCOff, Ring.sl_val])) hh
@[sl_canon] theorem gC_30 (hh) :
    (cc0_scratch11.slice (Rect.unit (s := S3x4) (k0_off30 v t) S1x1.size hh)).squeeze S_ squeezes_S1x1_S_ = gC (Ring.sl 4 t.val) := gC_congr ((off30_eq v t).trans (by simp only [gCOff, Ring.sl_val])) hh
@[sl_canon] theorem gS_31 (hh hs) :
    (gM.slice (Rect.unit (s := S4x2560x256) (k0_off31 v t) S1x2560x256.size hh) hs).squeeze S2560x256 squeezes_S1x2560x256_S2560x256 = gS (Ring.sl 4 t.val) := gS_congr ((off31_eq v t).trans (by simp only [slotOff, Ring.sl_val])) hh hs
@[sl_canon] theorem uC_33 (hh) :
    (cc0_scratch11.slice (Rect.unit (s := S3x4) (k0_off33 v t) S1x1.size hh)).squeeze S_ squeezes_S1x1_S_ = uC (Ring.sl 4 t.val) := uC_congr ((off33_eq v t).trans (by simp only [uCOff, Ring.sl_val])) hh
@[sl_canon] theorem uS_34 (hh hs) :
    (uM.slice (Rect.unit (s := S4x2560x256) (k0_off34 v t) S1x2560x256.size hh) hs).squeeze S2560x256 squeezes_S1x2560x256_S2560x256 = uS (Ring.sl 4 t.val) := uS_congr ((off34_eq v t).trans (by simp only [slotOff, Ring.sl_val])) hh hs
@[sl_canon] theorem dC_36 (hh) :
    (cc0_scratch11.slice (Rect.unit (s := S3x4) (k0_off36 v t) S1x1.size hh)).squeeze S_ squeezes_S1x1_S_ = dC (Ring.sl 4 t.val) := dC_congr ((off36_eq v t).trans (by simp only [dCOff, Ring.sl_val])) hh
@[sl_canon] theorem dS_37 (hh hs) :
    (dM.slice (Rect.unit (s := S4x128x5120) (k0_off37 v t) S1x128x5120.size hh) hs).squeeze S128x5120 squeezes_S1x128x5120_S128x5120 = dS (Ring.sl 4 t.val) := dS_congr ((off37_eq v t).trans (by simp only [slotOff, Ring.sl_val])) hh hs
@[sl_canon] theorem gC_40 (hh) :
    (cc0_scratch11.slice (Rect.unit (s := S3x4) (k0_off40 v t) S1x1.size hh)).squeeze S_ squeezes_S1x1_S_ = gC (Ring.sl 4 (t.val + 3)) := gC_congr ((off40_eq v t).trans (by simp only [gCOff, Ring.sl_val])) hh
@[sl_canon] theorem gS_41 (hh hs) :
    (gM.slice (Rect.unit (s := S4x2560x256) (k0_off41 v t) S1x2560x256.size hh) hs).squeeze S2560x256 squeezes_S1x2560x256_S2560x256 = gS (Ring.sl 4 (t.val + 3)) := gS_congr ((off41_eq v t).trans (by simp only [slotOff, Ring.sl_val])) hh hs
@[sl_canon] theorem uC_43 (hh) :
    (cc0_scratch11.slice (Rect.unit (s := S3x4) (k0_off43 v t) S1x1.size hh)).squeeze S_ squeezes_S1x1_S_ = uC (Ring.sl 4 (t.val + 3)) := uC_congr ((off43_eq v t).trans (by simp only [uCOff, Ring.sl_val])) hh
@[sl_canon] theorem uS_44 (hh hs) :
    (uM.slice (Rect.unit (s := S4x2560x256) (k0_off44 v t) S1x2560x256.size hh) hs).squeeze S2560x256 squeezes_S1x2560x256_S2560x256 = uS (Ring.sl 4 (t.val + 3)) := uS_congr ((off44_eq v t).trans (by simp only [slotOff, Ring.sl_val])) hh hs
@[sl_canon] theorem dC_46 (hh) :
    (cc0_scratch11.slice (Rect.unit (s := S3x4) (k0_off46 v t) S1x1.size hh)).squeeze S_ squeezes_S1x1_S_ = dC (Ring.sl 4 (t.val + 3)) := dC_congr ((off46_eq v t).trans (by simp only [dCOff, Ring.sl_val])) hh
@[sl_canon] theorem dS_47 (hh hs) :
    (dM.slice (Rect.unit (s := S4x128x5120) (k0_off47 v t) S1x128x5120.size hh) hs).squeeze S128x5120 squeezes_S1x128x5120_S128x5120 = dS (Ring.sl 4 (t.val + 3)) := dS_congr ((off47_eq v t).trans (by simp only [slotOff, Ring.sl_val])) hh hs
@[sl_canon] theorem gS_L0 (hh hs) :
    (gM.slice (Rect.unit (s := S4x2560x256) (![0, 0, 0]) S1x2560x256.size hh) hs).squeeze S2560x256 squeezes_S1x2560x256_S2560x256 = gS (0) := gS_congr (by decide) hh hs
@[sl_canon] theorem gC_L0 (hh) :
    (cc0_scratch11.slice (Rect.unit (s := S3x4) (![0, 0]) S1x1.size hh)).squeeze S_ squeezes_S1x1_S_ = gC (0) := gC_congr (by decide) hh
@[sl_canon] theorem gS_L1 (hh hs) :
    (gM.slice (Rect.unit (s := S4x2560x256) (![1, 0, 0]) S1x2560x256.size hh) hs).squeeze S2560x256 squeezes_S1x2560x256_S2560x256 = gS (1) := gS_congr (by decide) hh hs
@[sl_canon] theorem gC_L1 (hh) :
    (cc0_scratch11.slice (Rect.unit (s := S3x4) (![0, 1]) S1x1.size hh)).squeeze S_ squeezes_S1x1_S_ = gC (1) := gC_congr (by decide) hh
@[sl_canon] theorem gS_L2 (hh hs) :
    (gM.slice (Rect.unit (s := S4x2560x256) (![2, 0, 0]) S1x2560x256.size hh) hs).squeeze S2560x256 squeezes_S1x2560x256_S2560x256 = gS (2) := gS_congr (by decide) hh hs
@[sl_canon] theorem gC_L2 (hh) :
    (cc0_scratch11.slice (Rect.unit (s := S3x4) (![0, 2]) S1x1.size hh)).squeeze S_ squeezes_S1x1_S_ = gC (2) := gC_congr (by decide) hh
@[sl_canon] theorem uS_L0 (hh hs) :
    (uM.slice (Rect.unit (s := S4x2560x256) (![0, 0, 0]) S1x2560x256.size hh) hs).squeeze S2560x256 squeezes_S1x2560x256_S2560x256 = uS (0) := uS_congr (by decide) hh hs
@[sl_canon] theorem uC_L0 (hh) :
    (cc0_scratch11.slice (Rect.unit (s := S3x4) (![1, 0]) S1x1.size hh)).squeeze S_ squeezes_S1x1_S_ = uC (0) := uC_congr (by decide) hh
@[sl_canon] theorem uS_L1 (hh hs) :
    (uM.slice (Rect.unit (s := S4x2560x256) (![1, 0, 0]) S1x2560x256.size hh) hs).squeeze S2560x256 squeezes_S1x2560x256_S2560x256 = uS (1) := uS_congr (by decide) hh hs
@[sl_canon] theorem uC_L1 (hh) :
    (cc0_scratch11.slice (Rect.unit (s := S3x4) (![1, 1]) S1x1.size hh)).squeeze S_ squeezes_S1x1_S_ = uC (1) := uC_congr (by decide) hh
@[sl_canon] theorem uS_L2 (hh hs) :
    (uM.slice (Rect.unit (s := S4x2560x256) (![2, 0, 0]) S1x2560x256.size hh) hs).squeeze S2560x256 squeezes_S1x2560x256_S2560x256 = uS (2) := uS_congr (by decide) hh hs
@[sl_canon] theorem uC_L2 (hh) :
    (cc0_scratch11.slice (Rect.unit (s := S3x4) (![1, 2]) S1x1.size hh)).squeeze S_ squeezes_S1x1_S_ = uC (2) := uC_congr (by decide) hh
@[sl_canon] theorem dS_L0 (hh hs) :
    (dM.slice (Rect.unit (s := S4x128x5120) (![0, 0, 0]) S1x128x5120.size hh) hs).squeeze S128x5120 squeezes_S1x128x5120_S128x5120 = dS (0) := dS_congr (by decide) hh hs
@[sl_canon] theorem dC_L0 (hh) :
    (cc0_scratch11.slice (Rect.unit (s := S3x4) (![2, 0]) S1x1.size hh)).squeeze S_ squeezes_S1x1_S_ = dC (0) := dC_congr (by decide) hh
@[sl_canon] theorem dS_L1 (hh hs) :
    (dM.slice (Rect.unit (s := S4x128x5120) (![1, 0, 0]) S1x128x5120.size hh) hs).squeeze S128x5120 squeezes_S1x128x5120_S128x5120 = dS (1) := dS_congr (by decide) hh hs
@[sl_canon] theorem dC_L1 (hh) :
    (cc0_scratch11.slice (Rect.unit (s := S3x4) (![2, 1]) S1x1.size hh)).squeeze S_ squeezes_S1x1_S_ = dC (1) := dC_congr (by decide) hh
@[sl_canon] theorem dS_L2 (hh hs) :
    (dM.slice (Rect.unit (s := S4x128x5120) (![2, 0, 0]) S1x128x5120.size hh) hs).squeeze S128x5120 squeezes_S1x128x5120_S128x5120 = dS (2) := dS_congr (by decide) hh hs
@[sl_canon] theorem dC_L2 (hh) :
    (cc0_scratch11.slice (Rect.unit (s := S3x4) (![2, 2]) S1x1.size hh)).squeeze S_ squeezes_S1x1_S_ = dC (2) := dC_congr (by decide) hh
@[sl_canon] theorem sgS_L0 (hh hs) :
    (sgM.slice (Rect.unit (s := S2x40x4096) (![0, 0, 0]) S1x40x4096.size hh) hs).squeeze S40x4096 squeezes_S1x40x4096_S40x4096 = sgS (0) := sgS_congr (by decide) hh hs
@[sl_canon] theorem sgC_L0 (hh) :
    (cc0_scratch12.slice (Rect.unit (s := S2x2) (![0, 0]) S1x1.size hh)).squeeze S_ squeezes_S1x1_S_ = sgC (0) := sgC_congr (by decide) hh
@[sl_canon] theorem seS_L0 (hh hs) :
    (seM.slice (Rect.unit (s := S2x16x5120) (![0, 0, 0]) S1x16x5120.size hh) hs).squeeze S16x5120 squeezes_S1x16x5120_S16x5120 = seS (0) := seS_congr (by decide) hh hs
@[sl_canon] theorem seC_L0 (hh) :
    (cc0_scratch12.slice (Rect.unit (s := S2x2) (![1, 0]) S1x1.size hh)).squeeze S_ squeezes_S1x1_S_ = seC (0) := seC_congr (by decide) hh
@[sl_canon] theorem sgB_2 (hh hs) :
    (sguM.slice (Rect.unit (s := S4x40x4096) (k0_off2 w) S1x40x4096.size hh) hs).squeeze S40x4096 squeezes_S1x40x4096_S40x4096 = sgB (Fin.ofNat 4 w.toNat) := sgB_congr w rfl rfl (by rfl) (by rfl) hh hs
@[sl_canon] theorem seB_3 (hh hs) :
    (sdM.slice (Rect.unit (s := S4x16x5120) (k0_off3 w) S1x16x5120.size hh) hs).squeeze S16x5120 squeezes_S1x16x5120_S16x5120 = seB (Fin.ofNat 4 w.toNat) := seB_congr w rfl rfl (by rfl) (by rfl) hh hs
@[sl_canon] theorem sgB_16 (hh hs) :
    (sguM.slice (Rect.unit (s := S4x40x4096) (k0_off16 w) S1x40x4096.size hh) hs).squeeze S40x4096 squeezes_S1x40x4096_S40x4096 = sgB (Fin.ofNat 4 w.toNat) := sgB_congr w rfl rfl (by rfl) (by rfl) hh hs
@[sl_canon] theorem seB_19 (hh hs) :
    (sdM.slice (Rect.unit (s := S4x16x5120) (k0_off19 w) S1x16x5120.size hh) hs).squeeze S16x5120 squeezes_S1x16x5120_S16x5120 = seB (Fin.ofNat 4 w.toNat) := seB_congr w rfl rfl (by rfl) (by rfl) hh hs
@[sl_canon] theorem sgB_23 (hh hs) :
    (sguM.slice (Rect.unit (s := S4x40x4096) (k0_off23 w) S1x40x4096.size hh) hs).squeeze S40x4096 squeezes_S1x40x4096_S40x4096 = sgB (Fin.ofNat 4 w.toNat) := sgB_congr w rfl rfl (by rfl) (by rfl) hh hs
@[sl_canon] theorem seB_26 (hh hs) :
    (sdM.slice (Rect.unit (s := S4x16x5120) (k0_off26 w) S1x16x5120.size hh) hs).squeeze S16x5120 squeezes_S1x16x5120_S16x5120 = seB (Fin.ofNat 4 w.toNat) := seB_congr w rfl rfl (by rfl) (by rfl) hh hs
@[sl_canon] theorem gB_4 (hh hs) :
    (wguM.slice (Rect.unit (s := S4x2560x4096) (k0_off4 w) S1x2560x256.size hh) hs).squeeze S2560x256 squeezes_S1x2560x256_S2560x256 = gB (Fin.ofNat 4 w.toNat) (0) := gB_congr w rfl rfl (by rfl) (by rfl) hh hs
@[sl_canon] theorem uB_5 (hh hs) :
    (wguM.slice (Rect.unit (s := S4x2560x4096) (k0_off5 w) S1x2560x256.size hh) hs).squeeze S2560x256 squeezes_S1x2560x256_S2560x256 = uB (Fin.ofNat 4 w.toNat) (0) := uB_congr w rfl rfl (by rfl) (by rfl) hh hs
@[sl_canon] theorem dB_6 (hh hs) :
    (wdM.slice (Rect.unit (s := S4x1024x5120) (k0_off6 w) S1x128x5120.size hh) hs).squeeze S128x5120 squeezes_S1x128x5120_S128x5120 = dB (Fin.ofNat 4 w.toNat) (0) := dB_congr w rfl rfl (by rfl) (by rfl) hh hs
@[sl_canon] theorem gB_7 (hh hs) :
    (wguM.slice (Rect.unit (s := S4x2560x4096) (k0_off7 w) S1x2560x256.size hh) hs).squeeze S2560x256 squeezes_S1x2560x256_S2560x256 = gB (Fin.ofNat 4 w.toNat) (1) := gB_congr w rfl rfl (by rfl) (by rfl) hh hs
@[sl_canon] theorem uB_8 (hh hs) :
    (wguM.slice (Rect.unit (s := S4x2560x4096) (k0_off8 w) S1x2560x256.size hh) hs).squeeze S2560x256 squeezes_S1x2560x256_S2560x256 = uB (Fin.ofNat 4 w.toNat) (1) := uB_congr w rfl rfl (by rfl) (by rfl) hh hs
@[sl_canon] theorem dB_9 (hh hs) :
    (wdM.slice (Rect.unit (s := S4x1024x5120) (k0_off9 w) S1x128x5120.size hh) hs).squeeze S128x5120 squeezes_S1x128x5120_S128x5120 = dB (Fin.ofNat 4 w.toNat) (1) := dB_congr w rfl rfl (by rfl) (by rfl) hh hs
@[sl_canon] theorem gB_10 (hh hs) :
    (wguM.slice (Rect.unit (s := S4x2560x4096) (k0_off10 w) S1x2560x256.size hh) hs).squeeze S2560x256 squeezes_S1x2560x256_S2560x256 = gB (Fin.ofNat 4 w.toNat) (2) := gB_congr w rfl rfl (by rfl) (by rfl) hh hs
@[sl_canon] theorem uB_11 (hh hs) :
    (wguM.slice (Rect.unit (s := S4x2560x4096) (k0_off11 w) S1x2560x256.size hh) hs).squeeze S2560x256 squeezes_S1x2560x256_S2560x256 = uB (Fin.ofNat 4 w.toNat) (2) := uB_congr w rfl rfl (by rfl) (by rfl) hh hs
@[sl_canon] theorem dB_12 (hh hs) :
    (wdM.slice (Rect.unit (s := S4x1024x5120) (k0_off12 w) S1x128x5120.size hh) hs).squeeze S128x5120 squeezes_S1x128x5120_S128x5120 = dB (Fin.ofNat 4 w.toNat) (2) := dB_congr w rfl rfl (by rfl) (by rfl) hh hs
@[sl_canon] theorem gB_32 (hh hs) :
    (wguM.slice (Rect.unit (s := S4x2560x4096) (k0_off32 v t w) S1x2560x256.size hh) hs).squeeze S2560x256 squeezes_S1x2560x256_S2560x256 = gB (Fin.ofNat 4 w.toNat) (Ring.sl 8 t.val) := gB_congr w (off32_eq v t w).1 rfl ((off32_eq v t w).2.1.trans (by simp [gBOff, Ring.sl_val])) ((off32_eq v t w).2.2.trans (by simp [gBOff, Ring.sl_val])) hh hs
@[sl_canon] theorem uB_35 (hh hs) :
    (wguM.slice (Rect.unit (s := S4x2560x4096) (k0_off35 v t w) S1x2560x256.size hh) hs).squeeze S2560x256 squeezes_S1x2560x256_S2560x256 = uB (Fin.ofNat 4 w.toNat) (Ring.sl 8 t.val) := uB_congr w (off35_eq v t w).1 rfl ((off35_eq v t w).2.1.trans (by simp [uBOff, Ring.sl_val])) ((off35_eq v t w).2.2.trans (by simp [uBOff, Ring.sl_val])) hh hs
@[sl_canon] theorem dB_38 (hh hs) :
    (wdM.slice (Rect.unit (s := S4x1024x5120) (k0_off38 v t w) S1x128x5120.size hh) hs).squeeze S128x5120 squeezes_S1x128x5120_S128x5120 = dB (Fin.ofNat 4 w.toNat) (Ring.sl 8 t.val) := dB_congr w (off38_eq v t w).1 rfl ((off38_eq v t w).2.1.trans (by simp [dBOff, Ring.sl_val])) ((off38_eq v t w).2.2.trans (by simp [dBOff, Ring.sl_val])) hh hs
@[sl_canon] theorem gB_42 (hh hs) :
    (wguM.slice (Rect.unit (s := S4x2560x4096) (k0_off42 v t w) S1x2560x256.size hh) hs).squeeze S2560x256 squeezes_S1x2560x256_S2560x256 = gB (Fin.ofNat 4 w.toNat) (Ring.sl 8 (t.val + 3)) := gB_congr w (off42_eq v t w).1 rfl ((off42_eq v t w).2.1.trans (by simp [gBOff, Ring.sl_val])) ((off42_eq v t w).2.2.trans (by simp [gBOff, Ring.sl_val])) hh hs
@[sl_canon] theorem uB_45 (hh hs) :
    (wguM.slice (Rect.unit (s := S4x2560x4096) (k0_off45 v t w) S1x2560x256.size hh) hs).squeeze S2560x256 squeezes_S1x2560x256_S2560x256 = uB (Fin.ofNat 4 w.toNat) (Ring.sl 8 (t.val + 3)) := uB_congr w (off45_eq v t w).1 rfl ((off45_eq v t w).2.1.trans (by simp [uBOff, Ring.sl_val])) ((off45_eq v t w).2.2.trans (by simp [uBOff, Ring.sl_val])) hh hs
@[sl_canon] theorem dB_48 (hh hs) :
    (wdM.slice (Rect.unit (s := S4x1024x5120) (k0_off48 v t w) S1x128x5120.size hh) hs).squeeze S128x5120 squeezes_S1x128x5120_S128x5120 = dB (Fin.ofNat 4 w.toNat) (Ring.sl 8 (t.val + 3)) := dB_congr w (off48_eq v t w).1 rfl ((off48_eq v t w).2.1.trans (by simp [dBOff, Ring.sl_val])) ((off48_eq v t w).2.2.trans (by simp [dBOff, Ring.sl_val])) hh hs

end Canon

end Cert.Proof.KernelIdeal
-- ==== Proof.IdealChecks.lean ====
/-
  The kernel's own checks hold: with at most four active experts, and every word of the table of active experts
  naming one of the four, every slice it takes is in range. Also which conditionals of a step are taken.
-/
module

public import proofs.«01_k».proof.Proof.IdealNames

@[expose] public section

noncomputable section

namespace Cert.Proof.KernelIdeal

open Cert.KernelIdeal Cert.KernelIdeal.Gen
open Idealize.ShloMosaic

theorem lit5 {p : BitVec 32 → Prop} (h : ∀ a : Fin 5, p (BitVec.ofNat 32 a.val)) (v : BitVec 32) (hv : v.toNat ≤ 4) : p v := by
  have := h ⟨v.toNat, by omega⟩
  simpa using this
theorem lit4 {p : BitVec 32 → Prop} (h : ∀ a : Fin 4, p (BitVec.ofNat 32 a.val)) (v : BitVec 32) (hv : v.toNat < 4) : p v := by
  have := h ⟨v.toNat, by omega⟩
  simpa using this

theorem chk6_of (v : BitVec 32) [h : Fact (v.toNat ≤ 4)] : k0_chk6 v :=
  lit5 (p := k0_chk6) (by decide +kernel) v h.out
theorem chk2_of (w : BitVec 32) (hw : w.toNat < 4) : k0_chk2 w := lit4 (p := k0_chk2) (by decide +kernel) w hw
theorem chk3_of (v : BitVec 32) [h : Fact (v.toNat ≤ 4)] (w : BitVec 32) (hw : w.toNat < 4) : k0_chk3 v w :=
  lit5 (p := fun v => ∀ w : BitVec 32, w.toNat < 4 → k0_chk3 v w) (fun a w hw => lit4 (p := k0_chk3 _) (by revert a; decide +kernel) w hw) v h.out w hw
theorem chk4_of (v : BitVec 32) [h : Fact (v.toNat ≤ 4)] (w : BitVec 32) (hw : w.toNat < 4) : k0_chk4 v w :=
  lit5 (p := fun v => ∀ w : BitVec 32, w.toNat < 4 → k0_chk4 v w) (fun a w hw => lit4 (p := k0_chk4 _) (by revert a; decide +kernel) w hw) v h.out w hw
theorem chk5_of (v : BitVec 32) [h : Fact (v.toNat ≤ 4)] (w : BitVec 32) (hw : w.toNat < 4) : k0_chk5 v w :=
  lit5 (p := fun v => ∀ w : BitVec 32, w.toNat < 4 → k0_chk5 v w) (fun a w hw => lit4 (p := k0_chk5 _) (by revert a; decide +kernel) w hw) v h.out w hw

theorem chk7_of (v : BitVec 32) [h : Fact (v.toNat ≤ 4)] (t : Fin (k0_t2_loop v).trips) (w : BitVec 32) (hw : w.toNat < 4) : k0_chk7 v t w :=
  lit5 (p := fun v => ∀ (t : Fin (k0_t2_loop v).trips) (w : BitVec 32), w.toNat < 4 → k0_chk7 v t w)
    (fun a t w hw => lit4 (p := k0_chk7 _ t) (by revert a; decide +kernel) w hw) v h.out t w hw
theorem chk8_of (v : BitVec 32) [h : Fact (v.toNat ≤ 4)] (t : Fin (k0_t2_loop v).trips) (w : BitVec 32) (hw : w.toNat < 4) : k0_chk8 v t w :=
  lit5 (p := fun v => ∀ (t : Fin (k0_t2_loop v).trips) (w : BitVec 32), w.toNat < 4 → k0_chk8 v t w)
    (fun a t w hw => lit4 (p := k0_chk8 _ t) (by revert a; decide +kernel) w hw) v h.out t w hw
theorem chk9_of (v : BitVec 32) [h : Fact (v.toNat ≤ 4)] (t : Fin (k0_t2_loop v).trips) (w : BitVec 32) (hw : w.toNat < 4) : k0_chk9 v t w :=
  lit5 (p := fun v => ∀ (t : Fin (k0_t2_loop v).trips) (w : BitVec 32), w.toNat < 4 → k0_chk9 v t w)
    (fun a t w hw => lit4 (p := k0_chk9 _ t) (by revert a; decide +kernel) w hw) v h.out t w hw
theorem chk10_of (v : BitVec 32) [h : Fact (v.toNat ≤ 4)] (t : Fin (k0_t2_loop v).trips) (w : BitVec 32) (hw : w.toNat < 4) : k0_chk10 v t w :=
  lit5 (p := fun v => ∀ (t : Fin (k0_t2_loop v).trips) (w : BitVec 32), w.toNat < 4 → k0_chk10 v t w)
    (fun a t w hw => lit4 (p := k0_chk10 _ t) (by revert a; decide +kernel) w hw) v h.out t w hw

theorem cond2_of (v : BitVec 32) (h4 : v.toNat ≤ 4) (h1 : 1 ≤ v.toNat) : k0_cond2 v = 1#1 ∧ k0_cond3 v = 1#1 ∧ k0_cond4 v = 1#1 :=
  lit5 (p := fun v => 1 ≤ v.toNat → k0_cond2 v = 1#1 ∧ k0_cond3 v = 1#1 ∧ k0_cond4 v = 1#1) (by decide +kernel) v h4 h1
theorem cond5_iff (v : BitVec 32) [h : Fact (v.toNat ≤ 4)] (t : Fin (k0_t2_loop v).trips) : k0_cond5 v t = 1#1 ↔ t.val % 8 = 0 :=
  lit5 (p := fun v => ∀ (t : Fin (k0_t2_loop v).trips), k0_cond5 v t = 1#1 ↔ t.val % 8 = 0) (by decide +kernel) v h.out t
theorem cond6_iff (v : BitVec 32) [h : Fact (v.toNat ≤ 4)] (t : Fin (k0_t2_loop v).trips) : k0_cond6 v t = 1#1 ↔ t.val / 8 + 1 < v.toNat :=
  lit5 (p := fun v => ∀ (t : Fin (k0_t2_loop v).trips), k0_cond6 v t = 1#1 ↔ t.val / 8 + 1 < v.toNat) (by decide +kernel) v h.out t
theorem cond7_iff (v : BitVec 32) [h : Fact (v.toNat ≤ 4)] (t : Fin (k0_t2_loop v).trips) : k0_cond7 v t = 1#1 ↔ t.val + 3 < 8 * v.toNat :=
  lit5 (p := fun v => ∀ (t : Fin (k0_t2_loop v).trips), k0_cond7 v t = 1#1 ↔ t.val + 3 < 8 * v.toNat) (by decide +kernel) v h.out t
theorem cond8_iff (v : BitVec 32) [h : Fact (v.toNat ≤ 4)] (t : Fin (k0_t2_loop v).trips) : k0_cond8 v t = 1#1 ↔ t.val % 8 = 7 :=
  lit5 (p := fun v => ∀ (t : Fin (k0_t2_loop v).trips), k0_cond8 v t = 1#1 ↔ t.val % 8 = 7) (by decide +kernel) v h.out t
theorem trips3_eq (v : BitVec 32) [h : Fact (v.toNat ≤ 4)] : (k0_t3_loop v).trips = 0 :=
  lit5 (p := fun v => (k0_t3_loop v).trips = 0) (by decide +kernel) v h.out

end Cert.Proof.KernelIdeal
-- ==== Proof.IdealPieces.lean ====
/-
  What a step of the kernel holds: a slot, its cell, the block it is filled from (held at a read share of the array,
  one share for each cell), and a slot in flight.
-/
module

public import proofs.«01_k».proof.Proof.IdealChecks
public import Idealize.ShloMosaic.Lib.Pipeline.Frame
public import Idealize.ShloMosaic.Lib.Transfers

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

abbrev 𝒱₀ : Variants := Variants.none

/-- A memref's own elements, held at share `q`. -/
abbrev own (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[M.view.set]{q} f
/-- Everything else of its buffer. -/
abbrev oth (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[Finset.univ \ M.view.set]{q} f
/-- A cell at zero. -/
abbrev cell (c : Dev nD) (s : DmaSems sig S_) : sProp 𝕄 := semVal ((c : Thread nD τ), SemLoc.dma s.sem) 0

/-- The read shares of the arrays, one for each cell. -/
abbrev qg (s : Fin 4) : PosShare TreeShare := Transfers.shareTokN fullShare s.val
abbrev qu (s : Fin 4) : PosShare TreeShare := Transfers.shareTokN fullShare (4 + s.val)
abbrev qd (s : Fin 4) : PosShare TreeShare := Transfers.shareTokN fullShare s.val
abbrev qsg (s : Fin 2) : PosShare TreeShare := Transfers.shareTokN fullShare s.val
abbrev qse (s : Fin 2) : PosShare TreeShare := Transfers.shareTokN fullShare s.val

section Pieces
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))

theorem act_inb (i : ℕ) : ∀ a, (![i % 4] : Fin 1 → ℕ) a + S1.size a ≤ S4.size a := by
  have := Nat.mod_lt i (show 0 < 4 by decide)
  intro a; fin_cases a; show i % 4 + 1 ≤ 4; omega
/-- Word `i` of the table of active experts. -/
def wrd (i : ℕ) : BitVec 32 :=
  actM.view.readAt (Elt F) (Rect.unit (s := S4) ![i % 4] S1.size (act_inb i)).toLoadRect fa (Shape.Idx.first (numel1_S1.symm ▸ Nat.one_pos))
theorem readAt_act {off : Fin 1 → ℕ} {i : ℕ} (e : off = ![i]) (hi : i < 4) (h) (x) :
    actM.view.readAt (Elt F) (Rect.unit (s := S4) off S1.size h).toLoadRect fa x = wrd c fa i := by
  have e' : off = ![i % 4] := by rw [e, Nat.mod_eq_of_lt hi]
  subst e'
  have hx : x = Shape.Idx.first (numel1_S1.symm ▸ Nat.one_pos) := by
    funext a; fin_cases a; exact Subsingleton.elim (α := Fin 1) _ _
  rw [hx]; rfl
/-- The expert of step `s`. -/
def ex (s : ℕ) : Fin 4 := Fin.ofNat 4 (wrd c fa (s / 8)).toNat
/-- The expert of segment `i`. -/
def exS (i : ℕ) : Fin 4 := Fin.ofNat 4 (wrd c fa i).toNat

/-- The table's words name experts, up to the count. -/
def ActOK (n : ℕ) : Prop := ∀ i, i < n → (wrd c fa i).toNat < 4

/-- What is transferred into a slot at step `s`. -/
def gPay (s : ℕ) : S2560x256.Idx → Elt F .i8 := ReadAs.same.apply ((gB (ex c fa s) (Ring.sl 8 s)).view.read (Elt F) X3)
/-- The slot as that leaves it. -/
abbrev gLand (s : ℕ) (f : Buf (Elt F) ((gS (Ring.sl 4 s)).view.loc (c : Thread nD τ))) : Buf (Elt F) ((gS (Ring.sl 4 s)).view.loc (c : Thread nD τ)) :=
  (gS (Ring.sl 4 s)).view.writes (Elt F) f [⟨Rect.whole S2560x256, gPay c X3 fa s⟩]
/-- The slot in flight. -/
def gFly (s : ℕ) : sProp 𝕄 :=
  iprop((∃ f, Transfers.Flight countersEmb (c : Thread nD τ) (SemLoc.dma (gC (Ring.sl 4 s)).sem) () 20480
      iprop(own c (gS (Ring.sl 4 s)) fullShare (gLand c X3 fa s f) ∗ own c (gB (ex c fa s) (Ring.sl 8 s)) (qg (Ring.sl 4 s)) X3)) ∗ oth c (gB (ex c fa s) (Ring.sl 8 s)) (qg (Ring.sl 4 s)) X3)
/-- The slot free: at any contents, its cell at zero, its read share of the array. -/
def gFree (k : Fin 4) : sProp 𝕄 :=
  iprop((∃ f, own c (gS k) fullShare f) ∗ cell c (gC k) ∗ wguM.view.loc (c : Thread nD τ) ↦{qg k} X3)
/-- The slot delivered. -/
def gReady (s : ℕ) : sProp 𝕄 :=
  iprop(own c (gS (Ring.sl 4 s)) fullShare (gLand c X3 fa s (gS (Ring.sl 4 s)).view.junk) ∗ cell c (gC (Ring.sl 4 s)) ∗ wguM.view.loc (c : Thread nD τ) ↦{qg (Ring.sl 4 s)} X3)

theorem g_join (s : ℕ) (q : PosShare TreeShare) : iprop(own c (gB (ex c fa s) (Ring.sl 8 s)) q X3 ∗ oth c (gB (ex c fa s) (Ring.sl 8 s)) q X3) ⊢ (wguM.view.loc (c : Thread nD τ) ↦{q} X3 : sProp 𝕄) :=
  (pointsTo_split_subset (Finset.subset_univ _)).2
theorem g_land_junk (s : ℕ) (f) : (own c (gS (Ring.sl 4 s)) fullShare (gLand c X3 fa s f) : sProp 𝕄) = own c (gS (Ring.sl 4 s)) fullShare (gLand c X3 fa s (gS (Ring.sl 4 s)).view.junk) :=
  Memref.pointsTo_writes_junk_of_covChk (c : Thread nD τ) (gS (Ring.sl 4 s)) f _ fullShare (.leaf 0) (by show LoadRect.covChk [Rect.whole S2560x256] _ _ = true; decide)
theorem g_free_of_ready (s : ℕ) : gReady c X3 fa s ⊢ (gFree c X3 (Ring.sl 4 s) : sProp 𝕄) := by
  unfold gReady gFree
  iintro ⟨H1, H2, H3⟩
  isplitl [H1]; · iexists _; iexact H1
  isplitl [H2] <;> iassumption
/-- What is transferred into a slot at step `s`. -/
def uPay (s : ℕ) : S2560x256.Idx → Elt F .i8 := ReadAs.same.apply ((uB (ex c fa s) (Ring.sl 8 s)).view.read (Elt F) X3)
/-- The slot as that leaves it. -/
abbrev uLand (s : ℕ) (f : Buf (Elt F) ((uS (Ring.sl 4 s)).view.loc (c : Thread nD τ))) : Buf (Elt F) ((uS (Ring.sl 4 s)).view.loc (c : Thread nD τ)) :=
  (uS (Ring.sl 4 s)).view.writes (Elt F) f [⟨Rect.whole S2560x256, uPay c X3 fa s⟩]
/-- The slot in flight. -/
def uFly (s : ℕ) : sProp 𝕄 :=
  iprop((∃ f, Transfers.Flight countersEmb (c : Thread nD τ) (SemLoc.dma (uC (Ring.sl 4 s)).sem) () 20480
      iprop(own c (uS (Ring.sl 4 s)) fullShare (uLand c X3 fa s f) ∗ own c (uB (ex c fa s) (Ring.sl 8 s)) (qu (Ring.sl 4 s)) X3)) ∗ oth c (uB (ex c fa s) (Ring.sl 8 s)) (qu (Ring.sl 4 s)) X3)
/-- The slot free: at any contents, its cell at zero, its read share of the array. -/
def uFree (k : Fin 4) : sProp 𝕄 :=
  iprop((∃ f, own c (uS k) fullShare f) ∗ cell c (uC k) ∗ wguM.view.loc (c : Thread nD τ) ↦{qu k} X3)
/-- The slot delivered. -/
def uReady (s : ℕ) : sProp 𝕄 :=
  iprop(own c (uS (Ring.sl 4 s)) fullShare (uLand c X3 fa s (uS (Ring.sl 4 s)).view.junk) ∗ cell c (uC (Ring.sl 4 s)) ∗ wguM.view.loc (c : Thread nD τ) ↦{qu (Ring.sl 4 s)} X3)

theorem u_join (s : ℕ) (q : PosShare TreeShare) : iprop(own c (uB (ex c fa s) (Ring.sl 8 s)) q X3 ∗ oth c (uB (ex c fa s) (Ring.sl 8 s)) q X3) ⊢ (wguM.view.loc (c : Thread nD τ) ↦{q} X3 : sProp 𝕄) :=
  (pointsTo_split_subset (Finset.subset_univ _)).2
theorem u_land_junk (s : ℕ) (f) : (own c (uS (Ring.sl 4 s)) fullShare (uLand c X3 fa s f) : sProp 𝕄) = own c (uS (Ring.sl 4 s)) fullShare (uLand c X3 fa s (uS (Ring.sl 4 s)).view.junk) :=
  Memref.pointsTo_writes_junk_of_covChk (c : Thread nD τ) (uS (Ring.sl 4 s)) f _ fullShare (.leaf 0) (by show LoadRect.covChk [Rect.whole S2560x256] _ _ = true; decide)
theorem u_free_of_ready (s : ℕ) : uReady c X3 fa s ⊢ (uFree c X3 (Ring.sl 4 s) : sProp 𝕄) := by
  unfold uReady uFree
  iintro ⟨H1, H2, H3⟩
  isplitl [H1]; · iexists _; iexact H1
  isplitl [H2] <;> iassumption
/-- What is transferred into a slot at step `s`. -/
def dPay (s : ℕ) : S128x5120.Idx → Elt F .i8 := ReadAs.same.apply ((dB (ex c fa s) (Ring.sl 8 s)).view.read (Elt F) X5)
/-- The slot as that leaves it. -/
abbrev dLand (s : ℕ) (f : Buf (Elt F) ((dS (Ring.sl 4 s)).view.loc (c : Thread nD τ))) : Buf (Elt F) ((dS (Ring.sl 4 s)).view.loc (c : Thread nD τ)) :=
  (dS (Ring.sl 4 s)).view.writes (Elt F) f [⟨Rect.whole S128x5120, dPay c X5 fa s⟩]
/-- The slot in flight. -/
def dFly (s : ℕ) : sProp 𝕄 :=
  iprop((∃ f, Transfers.Flight countersEmb (c : Thread nD τ) (SemLoc.dma (dC (Ring.sl 4 s)).sem) () 20480
      iprop(own c (dS (Ring.sl 4 s)) fullShare (dLand c X5 fa s f) ∗ own c (dB (ex c fa s) (Ring.sl 8 s)) (qd (Ring.sl 4 s)) X5)) ∗ oth c (dB (ex c fa s) (Ring.sl 8 s)) (qd (Ring.sl 4 s)) X5)
/-- The slot free: at any contents, its cell at zero, its read share of the array. -/
def dFree (k : Fin 4) : sProp 𝕄 :=
  iprop((∃ f, own c (dS k) fullShare f) ∗ cell c (dC k) ∗ wdM.view.loc (c : Thread nD τ) ↦{qd k} X5)
/-- The slot delivered. -/
def dReady (s : ℕ) : sProp 𝕄 :=
  iprop(own c (dS (Ring.sl 4 s)) fullShare (dLand c X5 fa s (dS (Ring.sl 4 s)).view.junk) ∗ cell c (dC (Ring.sl 4 s)) ∗ wdM.view.loc (c : Thread nD τ) ↦{qd (Ring.sl 4 s)} X5)

theorem d_join (s : ℕ) (q : PosShare TreeShare) : iprop(own c (dB (ex c fa s) (Ring.sl 8 s)) q X5 ∗ oth c (dB (ex c fa s) (Ring.sl 8 s)) q X5) ⊢ (wdM.view.loc (c : Thread nD τ) ↦{q} X5 : sProp 𝕄) :=
  (pointsTo_split_subset (Finset.subset_univ _)).2
theorem d_land_junk (s : ℕ) (f) : (own c (dS (Ring.sl 4 s)) fullShare (dLand c X5 fa s f) : sProp 𝕄) = own c (dS (Ring.sl 4 s)) fullShare (dLand c X5 fa s (dS (Ring.sl 4 s)).view.junk) :=
  Memref.pointsTo_writes_junk_of_covChk (c : Thread nD τ) (dS (Ring.sl 4 s)) f _ fullShare (.leaf 0) (by show LoadRect.covChk [Rect.whole S128x5120] _ _ = true; decide)
theorem d_free_of_ready (s : ℕ) : dReady c X5 fa s ⊢ (dFree c X5 (Ring.sl 4 s) : sProp 𝕄) := by
  unfold dReady dFree
  iintro ⟨H1, H2, H3⟩
  isplitl [H1]; · iexists _; iexact H1
  isplitl [H2] <;> iassumption
/-- What is transferred into a slot at segment `s`. -/
def sgPay (s : ℕ) : S40x4096.Idx → Elt F .bf16 := ReadAs.same.apply ((sgB (exS c fa s)).view.read (Elt F) X4)
/-- The slot as that leaves it. -/
abbrev sgLand (s : ℕ) (f : Buf (Elt F) ((sgS (Ring.sl 2 s)).view.loc (c : Thread nD τ))) : Buf (Elt F) ((sgS (Ring.sl 2 s)).view.loc (c : Thread nD τ)) :=
  (sgS (Ring.sl 2 s)).view.writes (Elt F) f [⟨Rect.whole S40x4096, sgPay c X4 fa s⟩]
/-- The slot in flight. -/
def sgFly (s : ℕ) : sProp 𝕄 :=
  iprop((∃ f, Transfers.Flight countersEmb (c : Thread nD τ) (SemLoc.dma (sgC (Ring.sl 2 s)).sem) () 10240
      iprop(own c (sgS (Ring.sl 2 s)) fullShare (sgLand c X4 fa s f) ∗ own c (sgB (exS c fa s)) (qsg (Ring.sl 2 s)) X4)) ∗ oth c (sgB (exS c fa s)) (qsg (Ring.sl 2 s)) X4)
/-- The slot free: at any contents, its cell at zero, its read share of the array. -/
def sgFree (k : Fin 2) : sProp 𝕄 :=
  iprop((∃ f, own c (sgS k) fullShare f) ∗ cell c (sgC k) ∗ sguM.view.loc (c : Thread nD τ) ↦{qsg k} X4)
/-- The slot delivered. -/
def sgReady (s : ℕ) : sProp 𝕄 :=
  iprop(own c (sgS (Ring.sl 2 s)) fullShare (sgLand c X4 fa s (sgS (Ring.sl 2 s)).view.junk) ∗ cell c (sgC (Ring.sl 2 s)) ∗ sguM.view.loc (c : Thread nD τ) ↦{qsg (Ring.sl 2 s)} X4)

theorem sg_join (s : ℕ) (q : PosShare TreeShare) : iprop(own c (sgB (exS c fa s)) q X4 ∗ oth c (sgB (exS c fa s)) q X4) ⊢ (sguM.view.loc (c : Thread nD τ) ↦{q} X4 : sProp 𝕄) :=
  (pointsTo_split_subset (Finset.subset_univ _)).2
theorem sg_land_junk (s : ℕ) (f) : (own c (sgS (Ring.sl 2 s)) fullShare (sgLand c X4 fa s f) : sProp 𝕄) = own c (sgS (Ring.sl 2 s)) fullShare (sgLand c X4 fa s (sgS (Ring.sl 2 s)).view.junk) :=
  Memref.pointsTo_writes_junk_of_covChk (c : Thread nD τ) (sgS (Ring.sl 2 s)) f _ fullShare (.leaf 0) (by show LoadRect.covChk [Rect.whole S40x4096] _ _ = true; decide)
theorem sg_free_of_ready (s : ℕ) : sgReady c X4 fa s ⊢ (sgFree c X4 (Ring.sl 2 s) : sProp 𝕄) := by
  unfold sgReady sgFree
  iintro ⟨H1, H2, H3⟩
  isplitl [H1]; · iexists _; iexact H1
  isplitl [H2] <;> iassumption
/-- What is transferred into a slot at segment `s`. -/
def sePay (s : ℕ) : S16x5120.Idx → Elt F .bf16 := ReadAs.same.apply ((seB (exS c fa s)).view.read (Elt F) X6)
/-- The slot as that leaves it. -/
abbrev seLand (s : ℕ) (f : Buf (Elt F) ((seS (Ring.sl 2 s)).view.loc (c : Thread nD τ))) : Buf (Elt F) ((seS (Ring.sl 2 s)).view.loc (c : Thread nD τ)) :=
  (seS (Ring.sl 2 s)).view.writes (Elt F) f [⟨Rect.whole S16x5120, sePay c X6 fa s⟩]
/-- The slot in flight. -/
def seFly (s : ℕ) : sProp 𝕄 :=
  iprop((∃ f, Transfers.Flight countersEmb (c : Thread nD τ) (SemLoc.dma (seC (Ring.sl 2 s)).sem) () 5120
      iprop(own c (seS (Ring.sl 2 s)) fullShare (seLand c X6 fa s f) ∗ own c (seB (exS c fa s)) (qse (Ring.sl 2 s)) X6)) ∗ oth c (seB (exS c fa s)) (qse (Ring.sl 2 s)) X6)
/-- The slot free: at any contents, its cell at zero, its read share of the array. -/
def seFree (k : Fin 2) : sProp 𝕄 :=
  iprop((∃ f, own c (seS k) fullShare f) ∗ cell c (seC k) ∗ sdM.view.loc (c : Thread nD τ) ↦{qse k} X6)
/-- The slot delivered. -/
def seReady (s : ℕ) : sProp 𝕄 :=
  iprop(own c (seS (Ring.sl 2 s)) fullShare (seLand c X6 fa s (seS (Ring.sl 2 s)).view.junk) ∗ cell c (seC (Ring.sl 2 s)) ∗ sdM.view.loc (c : Thread nD τ) ↦{qse (Ring.sl 2 s)} X6)

theorem se_join (s : ℕ) (q : PosShare TreeShare) : iprop(own c (seB (exS c fa s)) q X6 ∗ oth c (seB (exS c fa s)) q X6) ⊢ (sdM.view.loc (c : Thread nD τ) ↦{q} X6 : sProp 𝕄) :=
  (pointsTo_split_subset (Finset.subset_univ _)).2
theorem se_land_junk (s : ℕ) (f) : (own c (seS (Ring.sl 2 s)) fullShare (seLand c X6 fa s f) : sProp 𝕄) = own c (seS (Ring.sl 2 s)) fullShare (seLand c X6 fa s (seS (Ring.sl 2 s)).view.junk) :=
  Memref.pointsTo_writes_junk_of_covChk (c : Thread nD τ) (seS (Ring.sl 2 s)) f _ fullShare (.leaf 0) (by show LoadRect.covChk [Rect.whole S16x5120] _ _ = true; decide)
theorem se_free_of_ready (s : ℕ) : seReady c X6 fa s ⊢ (seFree c X6 (Ring.sl 2 s) : sProp 𝕄) := by
  unfold seReady seFree
  iintro ⟨H1, H2, H3⟩
  isplitl [H1]; · iexists _; iexact H1
  isplitl [H2] <;> iassumption
/-- A transfer just sent for, its block's expert read from the table. -/
theorem gFly_intro (s : ℕ) {w : BitVec 32} (hw : w = wrd c fa (s / 8)) (f : Buf (Elt F) ((gS (Ring.sl 4 s)).view.loc (c : Thread nD τ))) :
    iprop(Transfers.Flight countersEmb (c : Thread nD τ) (SemLoc.dma (gC (Ring.sl 4 s)).sem) () 20480
      iprop(own c (gS (Ring.sl 4 s)) fullShare ((gS (Ring.sl 4 s)).view.writes (Elt F) f [⟨Rect.whole S2560x256, ReadAs.same.apply ((gB (Fin.ofNat 4 w.toNat) (Ring.sl 8 s)).view.read (Elt F) X3)⟩])
        ∗ own c (gB (Fin.ofNat 4 w.toNat) (Ring.sl 8 s)) (qg (Ring.sl 4 s)) X3) ∗ oth c (gB (Fin.ofNat 4 w.toNat) (Ring.sl 8 s)) (qg (Ring.sl 4 s)) X3) ⊢ gFly c X3 fa s := by
  subst hw
  unfold gFly gLand gPay ex
  iintro ⟨H1, H2⟩
  isplitl [H1]; · iexists f; iexact H1
  iexact H2
/-- A transfer just sent for, its block's expert read from the table. -/
theorem uFly_intro (s : ℕ) {w : BitVec 32} (hw : w = wrd c fa (s / 8)) (f : Buf (Elt F) ((uS (Ring.sl 4 s)).view.loc (c : Thread nD τ))) :
    iprop(Transfers.Flight countersEmb (c : Thread nD τ) (SemLoc.dma (uC (Ring.sl 4 s)).sem) () 20480
      iprop(own c (uS (Ring.sl 4 s)) fullShare ((uS (Ring.sl 4 s)).view.writes (Elt F) f [⟨Rect.whole S2560x256, ReadAs.same.apply ((uB (Fin.ofNat 4 w.toNat) (Ring.sl 8 s)).view.read (Elt F) X3)⟩])
        ∗ own c (uB (Fin.ofNat 4 w.toNat) (Ring.sl 8 s)) (qu (Ring.sl 4 s)) X3) ∗ oth c (uB (Fin.ofNat 4 w.toNat) (Ring.sl 8 s)) (qu (Ring.sl 4 s)) X3) ⊢ uFly c X3 fa s := by
  subst hw
  unfold uFly uLand uPay ex
  iintro ⟨H1, H2⟩
  isplitl [H1]; · iexists f; iexact H1
  iexact H2
/-- A transfer just sent for, its block's expert read from the table. -/
theorem dFly_intro (s : ℕ) {w : BitVec 32} (hw : w = wrd c fa (s / 8)) (f : Buf (Elt F) ((dS (Ring.sl 4 s)).view.loc (c : Thread nD τ))) :
    iprop(Transfers.Flight countersEmb (c : Thread nD τ) (SemLoc.dma (dC (Ring.sl 4 s)).sem) () 20480
      iprop(own c (dS (Ring.sl 4 s)) fullShare ((dS (Ring.sl 4 s)).view.writes (Elt F) f [⟨Rect.whole S128x5120, ReadAs.same.apply ((dB (Fin.ofNat 4 w.toNat) (Ring.sl 8 s)).view.read (Elt F) X5)⟩])
        ∗ own c (dB (Fin.ofNat 4 w.toNat) (Ring.sl 8 s)) (qd (Ring.sl 4 s)) X5) ∗ oth c (dB (Fin.ofNat 4 w.toNat) (Ring.sl 8 s)) (qd (Ring.sl 4 s)) X5) ⊢ dFly c X5 fa s := by
  subst hw
  unfold dFly dLand dPay ex
  iintro ⟨H1, H2⟩
  isplitl [H1]; · iexists f; iexact H1
  iexact H2
/-- A transfer just sent for, its block's expert read from the table. -/
theorem sgFly_intro (s : ℕ) {w : BitVec 32} (hw : w = wrd c fa (s)) (f : Buf (Elt F) ((sgS (Ring.sl 2 s)).view.loc (c : Thread nD τ))) :
    iprop(Transfers.Flight countersEmb (c : Thread nD τ) (SemLoc.dma (sgC (Ring.sl 2 s)).sem) () 10240
      iprop(own c (sgS (Ring.sl 2 s)) fullShare ((sgS (Ring.sl 2 s)).view.writes (Elt F) f [⟨Rect.whole S40x4096, ReadAs.same.apply ((sgB (Fin.ofNat 4 w.toNat)).view.read (Elt F) X4)⟩])
        ∗ own c (sgB (Fin.ofNat 4 w.toNat)) (qsg (Ring.sl 2 s)) X4) ∗ oth c (sgB (Fin.ofNat 4 w.toNat)) (qsg (Ring.sl 2 s)) X4) ⊢ sgFly c X4 fa s := by
  subst hw
  unfold sgFly sgLand sgPay exS
  iintro ⟨H1, H2⟩
  isplitl [H1]; · iexists f; iexact H1
  iexact H2
/-- A transfer just sent for, its block's expert read from the table. -/
theorem seFly_intro (s : ℕ) {w : BitVec 32} (hw : w = wrd c fa (s)) (f : Buf (Elt F) ((seS (Ring.sl 2 s)).view.loc (c : Thread nD τ))) :
    iprop(Transfers.Flight countersEmb (c : Thread nD τ) (SemLoc.dma (seC (Ring.sl 2 s)).sem) () 5120
      iprop(own c (seS (Ring.sl 2 s)) fullShare ((seS (Ring.sl 2 s)).view.writes (Elt F) f [⟨Rect.whole S16x5120, ReadAs.same.apply ((seB (Fin.ofNat 4 w.toNat)).view.read (Elt F) X6)⟩])
        ∗ own c (seB (Fin.ofNat 4 w.toNat)) (qse (Ring.sl 2 s)) X6) ∗ oth c (seB (Fin.ofNat 4 w.toNat)) (qse (Ring.sl 2 s)) X6) ⊢ seFly c X6 fa s := by
  subst hw
  unfold seFly seLand sePay exS
  iintro ⟨H1, H2⟩
  isplitl [H1]; · iexists f; iexact H1
  iexact H2
end Pieces

end Cert.Proof.KernelIdeal
-- ==== Proof.IdealMoves.lean ====
/-
  The transfers of one step: at a segment's first step the next segment's scales are sent for and this one's awaited;
  at every step the step's three weight blocks are awaited and those of the third step after it sent for.
-/
module

public import proofs.«01_k».proof.Proof.IdealPieces

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Moves
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)

theorem i_lt : t.val / 8 < v.toNat := by have h1 := t.isLt; have h2 := trips_eq v; omega

/-- The scales of segment `i`, if there is one: on their way, else the slot free. -/
def sgAt (i : ℕ) : sProp 𝕄 := if i < v.toNat then sgFly c X4 fa i else sgFree c X4 (Ring.sl 2 i)
def seAt (i : ℕ) : sProp 𝕄 := if i < v.toNat then seFly c X6 fa i else seFree c X6 (Ring.sl 2 i)
/-- The weight blocks of step `s`, if there is one: on their way, else the slot free. -/
def gAt (s : ℕ) : sProp 𝕄 := if s < 8 * v.toNat then gFly c X3 fa s else gFree c X3 (Ring.sl 4 s)
def uAt (s : ℕ) : sProp 𝕄 := if s < 8 * v.toNat then uFly c X3 fa s else uFree c X3 (Ring.sl 4 s)
def dAt (s : ℕ) : sProp 𝕄 := if s < 8 * v.toNat then dFly c X5 fa s else dFree c X5 (Ring.sl 4 s)

theorem part4_run (hA : ActOK c fa v.toNat) (a21 : BitVec 32) (h5 : k0_cond5 v t = 1#1) (W : Waits sig Unit) :
    iprop(own c actM fullShare fa ∗ owes (c : Thread nD τ) 0 W
      ∗ sgFly c X4 fa (t.val / 8) ∗ seFly c X6 fa (t.val / 8) ∗ sgFree c X4 (Ring.sl 2 (t.val / 8 + 1)) ∗ seFree c X6 (Ring.sl 2 (t.val / 8 + 1)))
    ⊢ wp frame (wpE (defs₀ (F := F)) 𝒱₀ (c : Thread nD τ) none) Set.univ
        (k0_part4 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw t a21 h5)
        (fun _ => iprop(own c actM fullShare fa ∗ (∃ W, owes (c : Thread nD τ) 0 W)
          ∗ sgReady c X4 fa (t.val / 8) ∗ seReady c X6 fa (t.val / 8) ∗ sgAt c X4 fa v (t.val / 8 + 1) ∗ seAt c X6 fa v (t.val / 8 + 1))) := by
  have hi := i_lt v t
  have hF := (inferInstance : Fact (v.toNat ≤ 4)).out
  have h8 : ∀ h x, k0_chk8 v t (actM.view.readAt (Elt F) (Rect.unit (s := S4) (k0_off20 v t) S1.size h).toLoadRect fa x) := fun h x => by
    rw [readAt_act c fa (off20_eq v t) (by omega) h x]; exact chk8_of v t _ (hA _ (by omega))
  by_cases h6 : k0_cond6 v t = 1#1
  · have hi1 := (cond6_iff v t).1 h6
    have h7 : ∀ h x, k0_chk7 v t (actM.view.readAt (Elt F) (Rect.unit (s := S4) (k0_off13 v t) S1.size h).toLoadRect fa x) := fun h x => by
      rw [readAt_act c fa (off13_eq v t) (by omega) h x]; exact chk7_of v t _ (hA _ (by omega))
    unfold sgFly seFly sgFree seFree
    iintro ⟨Ha, HW, ⟨⟨%fg, HG⟩, HG'⟩, ⟨⟨%fe, HE⟩, HE'⟩, ⟨⟨%gg, Sg⟩, Cg, Tg⟩, ⟨⟨%ge, Se⟩, Ce, Te⟩⟩
    sl_unfold [k0_part4]
    sl_exec (disch := first | exact h7 _ _ | exact h8 _ _)
    sl_step
    isplitl [Ha]; · iexact Ha
    isplitl [HW]; · iexists _; iexact HW
    isplitl [HG_dst HG' HG]
    · unfold sgReady; rw [← sg_land_junk c X4 fa _ fg]
      isplitl [HG_dst]; · iexact HG_dst
      isplitl [HG]; · iexact HG
      iexact HG'
    isplitl [HE_dst HE' HE]
    · unfold seReady; rw [← se_land_junk c X6 fa _ fe]
      isplitl [HE_dst]; · iexact HE_dst
      isplitl [HE]; · iexact HE
      iexact HE'
    unfold sgAt seAt; rw [if_pos hi1, if_pos hi1]
    isplitl [Cg Tg]
    · iapply (sgFly_intro c X4 fa (t.val / 8 + 1) (readAt_act c fa (off13_eq v t) (by omega) _ _) gg)
      isplitl [Cg]; · iexact Cg
      iexact Tg
    · iapply (seFly_intro c X6 fa (t.val / 8 + 1) (readAt_act c fa (off13_eq v t) (by omega) _ _) ge)
      isplitl [Ce]; · iexact Ce
      iexact Te
  · have hi1 := fun h => h6 ((cond6_iff v t).2 h)
    unfold sgFly seFly
    iintro ⟨Ha, HW, ⟨⟨%fg, HG⟩, HG'⟩, ⟨⟨%fe, HE⟩, HE'⟩, Sg, Se⟩
    sl_unfold [k0_part4]
    sl_exec (disch := first | exact h8 _ _)
    sl_step
    isplitl [Ha]; · iexact Ha
    isplitl [HW]; · iexists _; iexact HW
    isplitl [HG_dst HG' HG]
    · unfold sgReady; rw [← sg_land_junk c X4 fa _ fg]
      isplitl [HG_dst]; · iexact HG_dst
      isplitl [HG]; · iexact HG
      iexact HG'
    isplitl [HE_dst HE' HE]
    · unfold seReady; rw [← se_land_junk c X6 fa _ fe]
      isplitl [HE_dst]; · iexact HE_dst
      isplitl [HE]; · iexact HE
      iexact HE'
    unfold sgAt seAt; rw [if_neg hi1, if_neg hi1]
    isplitl [Sg]; · iexact Sg
    iexact Se

theorem part24_run (hA : ActOK c fa v.toNat) (a1 a2 a3 a4 a5 a6 : BitVec 32) :
    (own c actM fullShare fa : sProp 𝕄)
    ⊢ wp frame (wpE (defs₀ (F := F)) 𝒱₀ (c : Thread nD τ) none) Set.univ
        (k0_part24 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw t a1 a2 a3 a4 a5 a6)
        (fun _ => own c actM fullShare fa) := by
  have hi := i_lt v t
  have hF := (inferInstance : Fact (v.toNat ≤ 4)).out
  have h9 : ∀ h x, k0_chk9 v t (actM.view.readAt (Elt F) (Rect.unit (s := S4) (k0_off29 v t) S1.size h).toLoadRect fa x) := fun h x => by
    rw [readAt_act c fa (off29_eq v t) (by omega) h x]; exact chk9_of v t _ (hA _ (by omega))
  iintro Ha
  sl_unfold [k0_part24]
  sl_exec (disch := exact h9 _ _)
  sl_step
  iexact Ha

theorem part25_run (hA : ActOK c fa v.toNat) (v2 a21 : BitVec 32) (w : BitVec 32) (hw9 : k0_chk9 v t w) (W : Waits sig Unit) :
    iprop(own c actM fullShare fa ∗ owes (c : Thread nD τ) 0 W
      ∗ gFly c X3 fa t.val ∗ uFly c X3 fa t.val ∗ dFly c X5 fa t.val
      ∗ gFree c X3 (Ring.sl 4 (t.val + 3)) ∗ uFree c X3 (Ring.sl 4 (t.val + 3)) ∗ dFree c X5 (Ring.sl 4 (t.val + 3)))
    ⊢ wp frame (wpE (defs₀ (F := F)) 𝒱₀ (c : Thread nD τ) none) Set.univ
        (k0_part25 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw v2 t a21 w hw9)
        (fun _ => iprop(own c actM fullShare fa ∗ (∃ W, owes (c : Thread nD τ) 0 W)
          ∗ gReady c X3 fa t.val ∗ uReady c X3 fa t.val ∗ dReady c X5 fa t.val
          ∗ gAt c X3 fa v (t.val + 3) ∗ uAt c X3 fa v (t.val + 3) ∗ dAt c X5 fa v (t.val + 3))) := by
  have hi := i_lt v t
  have hF := (inferInstance : Fact (v.toNat ≤ 4)).out
  by_cases h7 : k0_cond7 v t = 1#1
  · have hi1 := (cond7_iff v t).1 h7
    have h10 : ∀ h x, k0_chk10 v t (actM.view.readAt (Elt F) (Rect.unit (s := S4) (k0_off39 v t) S1.size h).toLoadRect fa x) := fun h x => by
      rw [readAt_act c fa (off39_eq v t) (by omega) h x]; exact chk10_of v t _ (hA _ (by omega))
    unfold gFly uFly dFly gFree uFree dFree
    iintro ⟨Ha, HW, ⟨⟨%fg, HG⟩, HG'⟩, ⟨⟨%fu, HU⟩, HU'⟩, ⟨⟨%fd, HD⟩, HD'⟩, ⟨⟨%gg, Sg⟩, Cg, Tg⟩, ⟨⟨%gu, Su⟩, Cu, Tu⟩, ⟨⟨%gd, Sd⟩, Cd, Td⟩⟩
    sl_unfold [k0_part25]
    sl_exec (disch := exact h10 _ _)
    sl_step
    isplitl [Ha]; · iexact Ha
    isplitl [HW]; · iexists _; iexact HW
    isplitl [HG_dst HG' HG]
    · unfold gReady; rw [← g_land_junk c X3 fa _ fg]
      isplitl [HG_dst]; · iexact HG_dst
      isplitl [HG]; · iexact HG
      iexact HG'
    isplitl [HU_dst HU' HU]
    · unfold uReady; rw [← u_land_junk c X3 fa _ fu]
      isplitl [HU_dst]; · iexact HU_dst
      isplitl [HU]; · iexact HU
      iexact HU'
    isplitl [HD_dst HD' HD]
    · unfold dReady; rw [← d_land_junk c X5 fa _ fd]
      isplitl [HD_dst]; · iexact HD_dst
      isplitl [HD]; · iexact HD
      iexact HD'
    unfold gAt uAt dAt; rw [if_pos hi1, if_pos hi1, if_pos hi1]
    isplitl [Cg Tg]
    · iapply (gFly_intro c X3 fa (t.val + 3) (readAt_act c fa (off39_eq v t) (by omega) _ _) gg)
      isplitl [Cg]; · iexact Cg
      iexact Tg
    isplitl [Cu Tu]
    · iapply (uFly_intro c X3 fa (t.val + 3) (readAt_act c fa (off39_eq v t) (by omega) _ _) gu)
      isplitl [Cu]; · iexact Cu
      iexact Tu
    · iapply (dFly_intro c X5 fa (t.val + 3) (readAt_act c fa (off39_eq v t) (by omega) _ _) gd)
      isplitl [Cd]; · iexact Cd
      iexact Td
  · have hi1 := fun h => h7 ((cond7_iff v t).2 h)
    unfold gFly uFly dFly
    iintro ⟨Ha, HW, ⟨⟨%fg, HG⟩, HG'⟩, ⟨⟨%fu, HU⟩, HU'⟩, ⟨⟨%fd, HD⟩, HD'⟩, Sg, Su, Sd⟩
    sl_unfold [k0_part25]
    sl_exec
    sl_step
    isplitl [Ha]; · iexact Ha
    isplitl [HW]; · iexists _; iexact HW
    isplitl [HG_dst HG' HG]
    · unfold gReady; rw [← g_land_junk c X3 fa _ fg]
      isplitl [HG_dst]; · iexact HG_dst
      isplitl [HG]; · iexact HG
      iexact HG'
    isplitl [HU_dst HU' HU]
    · unfold uReady; rw [← u_land_junk c X3 fa _ fu]
      isplitl [HU_dst]; · iexact HU_dst
      isplitl [HU]; · iexact HU
      iexact HU'
    isplitl [HD_dst HD' HD]
    · unfold dReady; rw [← d_land_junk c X5 fa _ fd]
      isplitl [HD_dst]; · iexact HD_dst
      isplitl [HD]; · iexact HD
      iexact HD'
    unfold gAt uAt dAt; rw [if_neg hi1, if_neg hi1, if_neg hi1]
    isplitl [Sg]; · iexact Sg
    isplitl [Su]; · iexact Su
    iexact Sd
end Moves

end Cert.Proof.KernelIdeal
-- ==== Proof.IdealTrip.lean ====
/-
  One step of the kernel: the scales widened at a segment's first step, the three blocks' partial products, and at a
  segment's last step the expert's rows added to the accumulator.
-/
module

public import proofs.«01_k».proof.Proof.IdealMoves

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 400000

section Trip
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)

abbrev RSg : Rect S40x4096 := Rect.unit (s := S40x4096) ![0, 0] S40x4096.size inb_S40x4096_S40x4096_0_0
abbrev RSd : Rect S16x5120 := Rect.unit (s := S16x5120) ![0, 0] S16x5120.size inb_S16x5120_S16x5120_0_0

set_option backward.proofsInPublic true in
/-- A segment's first step: the scales awaited and widened, the running sum cleared. -/
def part23_run (hA : ActOK c fa v.toNat) (h5 : k0_cond5 v t = 1#1)
    (fs : Buf (Elt F) (sgwM.view.loc (c : Thread nD τ))) (fd : Buf (Elt F) (sdwM.view.loc (c : Thread nD τ))) (fy : Buf (Elt F) (yM.view.loc (c : Thread nD τ))) (c0 c1 : BitVec 32) :
    { w : List (View.Piece (Elt F) S40x4096 .f32) × List (View.Piece (Elt F) S16x5120 .f32) × List (View.Piece (Elt F) S16x5120 .f32) // ∀ W,
    iprop(own c actM fullShare fa ∗ owes (c : Thread nD τ) 0 W
      ∗ sgFly c X4 fa (t.val / 8) ∗ seFly c X6 fa (t.val / 8) ∗ sgFree c X4 (Ring.sl 2 (t.val / 8 + 1)) ∗ seFree c X6 (Ring.sl 2 (t.val / 8 + 1))
      ∗ own c sgwM fullShare fs ∗ own c sdwM fullShare fd ∗ own c yM fullShare fy)
    ⊢ wp frame (wpE (defs₀ (F := F)) 𝒱₀ (c : Thread nD τ) none) Set.univ
        (k0_part23 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw c0 c1 t)
        (fun _ => iprop(own c actM fullShare fa ∗ (∃ W, owes (c : Thread nD τ) 0 W)
          ∗ sgReady c X4 fa (t.val / 8) ∗ seReady c X6 fa (t.val / 8) ∗ sgAt c X4 fa v (t.val / 8 + 1) ∗ seAt c X6 fa v (t.val / 8 + 1)
          ∗ own c sgwM fullShare (sgwM.view.writes (Elt F) sgwM.view.junk w.1) ∗ own c sdwM fullShare (sdwM.view.writes (Elt F) sdwM.view.junk w.2.1) ∗ own c yM fullShare (yM.view.writes (Elt F) yM.view.junk w.2.2))) } := by
  refine ⟨(?a, ?b, ?d), ?run⟩
  case run =>
    dsimp only
    intro W
    iintro ⟨Ha, HW, HG, HE, Sg, Se, Hs, Hd, Hy⟩
    sl_unfold [k0_part23]
    set_option sl_exec.stopBefore "k0_part4" in sl_exec
    dsimp only
    rw [wp_bind]
    iapply (wp_wand_r Idealize.ShloMosaic.frame (wpE (defs₀ (F := F)) 𝒱₀ (c : Thread nD τ) none) Set.univ)
    isplitl [Ha HW HG HE Sg Se]
    · iapply (part4_run c X4 X6 fa arg0 harg0 arg1 harg1 arg2 harg2 arg7 harg7 v hw t hA _ h5 W)
      isplitl [Ha]; · iexact Ha
      isplitl [HW]; · iexact HW
      isplitl [HG]; · iexact HG
      isplitl [HE]; · iexact HE
      isplitl [Sg]; · iexact Sg
      iexact Se
    iintro %r ⟨Ha, ⟨%W', HW⟩, HG, HE, Sg, Se⟩
    obtain ⟨r1, r2, r3, r4⟩ := r
    unfold sgReady seReady
    icases HG with ⟨HG, HGc, HGt⟩
    icases HE with ⟨HE, HEc, HEt⟩
    dsimp only
    sl_exec!
    sl_step
    isplitl [Ha]; · iexact Ha
    isplitl [HW]; · iexists _; iexact HW
    isplitl [HG HGc HGt]
    · isplitl [HG]; · iexact HG
      isplitl [HGc] <;> iassumption
    isplitl [HE HEc HEt]
    · isplitl [HE]; · iexact HE
      isplitl [HEc] <;> iassumption
    isplitl [Sg]; · iexact Sg
    isplitl [Se]; · iexact Se
    isplitl [Hs]; · iexact Hs
    isplitl [Hd]; · iexact Hd
    iexact Hy

/-- The widened scales and the running sum a step works with: renewed at a segment's first step. -/
def sgw1 (hA : ActOK c fa v.toNat) (fs : Buf (Elt F) (sgwM.view.loc (c : Thread nD τ))) (fd : Buf (Elt F) (sdwM.view.loc (c : Thread nD τ))) (fy : Buf (Elt F) (yM.view.loc (c : Thread nD τ))) : Buf (Elt F) (sgwM.view.loc (c : Thread nD τ)) :=
  if h5 : k0_cond5 v t = 1#1 then sgwM.view.writes (Elt F) sgwM.view.junk (part23_run c X4 X6 fa arg0 harg0 arg1 harg1 arg2 harg2 arg7 harg7 v hw t hA h5 fs fd fy 0#32 1#32).1.1 else fs
def sdw1 (hA : ActOK c fa v.toNat) (fs : Buf (Elt F) (sgwM.view.loc (c : Thread nD τ))) (fd : Buf (Elt F) (sdwM.view.loc (c : Thread nD τ))) (fy : Buf (Elt F) (yM.view.loc (c : Thread nD τ))) : Buf (Elt F) (sdwM.view.loc (c : Thread nD τ)) :=
  if h5 : k0_cond5 v t = 1#1 then sdwM.view.writes (Elt F) sdwM.view.junk (part23_run c X4 X6 fa arg0 harg0 arg1 harg1 arg2 harg2 arg7 harg7 v hw t hA h5 fs fd fy 0#32 1#32).1.2.1 else fd
def y1 (hA : ActOK c fa v.toNat) (fs : Buf (Elt F) (sgwM.view.loc (c : Thread nD τ))) (fd : Buf (Elt F) (sdwM.view.loc (c : Thread nD τ))) (fy : Buf (Elt F) (yM.view.loc (c : Thread nD τ))) : Buf (Elt F) (yM.view.loc (c : Thread nD τ)) :=
  if h5 : k0_cond5 v t = 1#1 then yM.view.writes (Elt F) yM.view.junk (part23_run c X4 X6 fa arg0 harg0 arg1 harg1 arg2 harg2 arg7 harg7 v hw t hA h5 fs fd fy 0#32 1#32).1.2.2 else fy

/-- The scales before step `s`, and after its first part. -/
def scIn (s : ℕ) : sProp 𝕄 :=
  if s % 8 = 0 then iprop(sgAt c X4 fa v (s / 8) ∗ seAt c X6 fa v (s / 8) ∗ sgFree c X4 (Ring.sl 2 (s / 8 + 1)) ∗ seFree c X6 (Ring.sl 2 (s / 8 + 1)))
  else iprop(sgFree c X4 (Ring.sl 2 (s / 8)) ∗ seFree c X6 (Ring.sl 2 (s / 8)) ∗ sgAt c X4 fa v (s / 8 + 1) ∗ seAt c X6 fa v (s / 8 + 1))
def scOut (s : ℕ) : sProp 𝕄 :=
  iprop(sgFree c X4 (Ring.sl 2 (s / 8)) ∗ seFree c X6 (Ring.sl 2 (s / 8)) ∗ sgAt c X4 fa v (s / 8 + 1) ∗ seAt c X6 fa v (s / 8 + 1))

theorem part23_any (hA : ActOK c fa v.toNat)
    (fs : Buf (Elt F) (sgwM.view.loc (c : Thread nD τ))) (fd : Buf (Elt F) (sdwM.view.loc (c : Thread nD τ))) (fy : Buf (Elt F) (yM.view.loc (c : Thread nD τ))) (W : Waits sig Unit) :
    iprop(own c actM fullShare fa ∗ owes (c : Thread nD τ) 0 W ∗ scIn c X4 X6 fa v t.val
      ∗ own c sgwM fullShare fs ∗ own c sdwM fullShare fd ∗ own c yM fullShare fy)
    ⊢ wp frame (wpE (defs₀ (F := F)) 𝒱₀ (c : Thread nD τ) none) Set.univ
        (k0_part23 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw 0#32 1#32 t)
        (fun _ => iprop(own c actM fullShare fa ∗ (∃ W, owes (c : Thread nD τ) 0 W) ∗ scOut c X4 X6 fa v t.val
          ∗ own c sgwM fullShare (sgw1 c X4 X6 fa arg0 harg0 arg1 harg1 arg2 harg2 arg7 harg7 v hw t hA fs fd fy)
          ∗ own c sdwM fullShare (sdw1 c X4 X6 fa arg0 harg0 arg1 harg1 arg2 harg2 arg7 harg7 v hw t hA fs fd fy)
          ∗ own c yM fullShare (y1 c X4 X6 fa arg0 harg0 arg1 harg1 arg2 harg2 arg7 harg7 v hw t hA fs fd fy))) := by
  have hi := i_lt v t
  by_cases h5 : k0_cond5 v t = 1#1
  · have h0 := (cond5_iff v t).1 h5
    unfold scIn scOut sgw1 sdw1 y1
    rw [if_pos h0, dif_pos h5, dif_pos h5, dif_pos h5, show sgAt c X4 fa v (t.val / 8) = _ from if_pos hi, show seAt c X6 fa v (t.val / 8) = _ from if_pos hi]
    iintro ⟨Ha, HW, ⟨HG, HE, Sg, Se⟩, Hs, Hd, Hy⟩
    iapply (wp_wand_r Idealize.ShloMosaic.frame (wpE (defs₀ (F := F)) 𝒱₀ (c : Thread nD τ) none) Set.univ)
    isplitl [Ha HW HG HE Sg Se Hs Hd Hy]
    · iapply ((part23_run c X4 X6 fa arg0 harg0 arg1 harg1 arg2 harg2 arg7 harg7 v hw t hA h5 fs fd fy 0#32 1#32).2 W)
      isplitl [Ha]; · iexact Ha
      isplitl [HW]; · iexact HW
      isplitl [HG]; · iexact HG
      isplitl [HE]; · iexact HE
      isplitl [Sg]; · iexact Sg
      isplitl [Se]; · iexact Se
      isplitl [Hs]; · iexact Hs
      isplitl [Hd]; · iexact Hd
      iexact Hy
    · iintro %r ⟨Ha, HW, HG, HE, Sg, Se, Hs, Hd, Hy⟩
      isplitl [Ha]; · iexact Ha
      isplitl [HW]; · iexact HW
      isplitl [HG HE Sg Se]
      · isplitl [HG]; · iapply (sg_free_of_ready c X4 fa (t.val / 8)); iexact HG
        isplitl [HE]; · iapply (se_free_of_ready c X6 fa (t.val / 8)); iexact HE
        isplitl [Sg]; · iexact Sg
        iexact Se
      isplitl [Hs]; · iexact Hs
      isplitl [Hd]; · iexact Hd
      iexact Hy
  · have h0 := fun h => h5 ((cond5_iff v t).2 h)
    unfold scIn scOut sgw1 sdw1 y1
    rw [if_neg h0, dif_neg h5, dif_neg h5, dif_neg h5]
    iintro ⟨Ha, HW, ⟨HG, HE, Sg, Se⟩, Hs, Hd, Hy⟩
    sl_unfold [k0_part23]
    sl_exec
    sl_step
    isplitl [Ha]; · iexact Ha
    isplitl [HW]; · iexists _; iexact HW
    isplitl [HG HE Sg Se]
    · isplitl [HG]; · iexact HG
      isplitl [HE]; · iexact HE
      isplitl [Sg]; · iexact Sg
      iexact Se
    isplitl [Hs]; · iexact Hs
    isplitl [Hd]; · iexact Hd
    iexact Hy

end Trip

end Cert.Proof.KernelIdeal
-- ==== Proof.IdealStep.lean ====
/-
  One step of the kernel, whole.
-/
module

public import proofs.«01_k».proof.Proof.IdealTrip

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Step
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt F) (arg0.view.loc (c : Thread nD τ))) (f1 : Buf (Elt F) (arg1.view.loc (c : Thread nD τ))) (f2 : Buf (Elt F) (arg2.view.loc (c : Thread nD τ)))

/-- What a step holds of the kernel's own buffers: scales, the products' block, the running sum, the accumulator. -/
def bufs (fs : Buf (Elt F) (sgwM.view.loc (c : Thread nD τ))) (fd : Buf (Elt F) (sdwM.view.loc (c : Thread nD τ))) (fy : Buf (Elt F) (yM.view.loc (c : Thread nD τ))) (fc : Buf (Elt F) (accM.view.loc (c : Thread nD τ))) : sProp 𝕄 :=
  iprop(own c sgwM fullShare fs ∗ own c sdwM fullShare fd ∗ (∃ fh, own c hM fullShare fh) ∗ own c yM fullShare fy ∗ own c accM fullShare fc)

set_option backward.proofsInPublic true in
def part77_run (hA : ActOK c fa v.toNat)
    (fs : Buf (Elt F) (sgwM.view.loc (c : Thread nD τ))) (fd : Buf (Elt F) (sdwM.view.loc (c : Thread nD τ))) (fy : Buf (Elt F) (yM.view.loc (c : Thread nD τ))) :
    { w : List (View.Piece (Elt F) S16x5120 .f32) × (Σ' (v1605 : Vec F S16x256 .bf16) (v2472 : FVec F S128x256 .bf16) (v2476 : FVec F S128x256 .bf16), FVec F S128x256 .bf16) // ∀ W,
    iprop(own c actM fullShare fa ∗ own c arg2 fullShare f2 ∗ owes (c : Thread nD τ) 0 W
      ∗ scIn c X4 X6 fa v t.val
      ∗ gFly c X3 fa t.val ∗ uFly c X3 fa t.val ∗ dFly c X5 fa t.val
      ∗ gFree c X3 (Ring.sl 4 (t.val + 3)) ∗ uFree c X3 (Ring.sl 4 (t.val + 3)) ∗ dFree c X5 (Ring.sl 4 (t.val + 3))
      ∗ own c sgwM fullShare fs ∗ own c sdwM fullShare fd ∗ (∃ fh, own c hM fullShare fh) ∗ own c yM fullShare fy)
    ⊢ wp frame (wpE (defs₀ (F := F)) 𝒱₀ (c : Thread nD τ) none) Set.univ
        (k0_part77 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) 0#32 1#32 t)
        (fun r => iprop(⌜r.2.2 = w.2⌝ ∗ own c actM fullShare fa ∗ own c arg2 fullShare f2 ∗ (∃ W, owes (c : Thread nD τ) 0 W)
          ∗ scOut c X4 X6 fa v t.val
          ∗ gFree c X3 (Ring.sl 4 t.val) ∗ uFree c X3 (Ring.sl 4 t.val) ∗ dFree c X5 (Ring.sl 4 t.val)
          ∗ gAt c X3 fa v (t.val + 3) ∗ uAt c X3 fa v (t.val + 3) ∗ dAt c X5 fa v (t.val + 3)
          ∗ own c sgwM fullShare (sgw1 c X4 X6 fa arg0 harg0 arg1 harg1 arg2 harg2 arg7 harg7 v hw t hA fs fd fy)
          ∗ own c sdwM fullShare (sdw1 c X4 X6 fa arg0 harg0 arg1 harg1 arg2 harg2 arg7 harg7 v hw t hA fs fd fy)
          ∗ (∃ fh, own c hM fullShare fh)
          ∗ own c yM fullShare (yM.view.writes (Elt F) (y1 c X4 X6 fa arg0 harg0 arg1 harg1 arg2 harg2 arg7 harg7 v hw t hA fs fd fy) w.1))) } := by
  refine ⟨(?a, ?b), ?run⟩
  case run =>
    dsimp only
    intro W
    iintro ⟨Ha, H2, HW, Hsc, HG, HU, HD, Sg, Su, Sd, Hs, Hd, ⟨%fh, Hh⟩, Hy⟩
    sl_unfold [k0_part77]
    unfold k0_part77_skel
    rw [wp_bind]
    iapply (wp_wand_r Idealize.ShloMosaic.frame (wpE (defs₀ (F := F)) 𝒱₀ (c : Thread nD τ) none) Set.univ)
    isplitl [Ha HW Hsc Hs Hd Hy]
    · iapply (part23_any c X4 X6 fa arg0 harg0 arg1 harg1 arg2 harg2 arg7 harg7 v hw t hA fs fd fy W)
      isplitl [Ha]; · iexact Ha
      isplitl [HW]; · iexact HW
      isplitl [Hsc]; · iexact Hsc
      isplitl [Hs]; · iexact Hs
      isplitl [Hd]; · iexact Hd
      iexact Hy
    iintro %r ⟨Ha, ⟨%W', HW⟩, Hsc, Hs, Hd, Hy⟩
    obtain ⟨r1, r2, r3, r4, r5, r6, r7⟩ := r
    dsimp only
    rw [wp_bind]
    iapply (wp_wand_r Idealize.ShloMosaic.frame (wpE (defs₀ (F := F)) 𝒱₀ (c : Thread nD τ) none) Set.univ)
    isplitl [Ha]
    · iapply (part24_run c fa arg0 harg0 arg1 harg1 arg2 harg2 arg7 harg7 v hw t hA _ _ _ _ _ _)
      iexact Ha
    iintro %r Ha
    obtain ⟨w9, hw9⟩ := r
    dsimp only
    rw [wp_bind]
    iapply (wp_wand_r Idealize.ShloMosaic.frame (wpE (defs₀ (F := F)) 𝒱₀ (c : Thread nD τ) none) Set.univ)
    isplitl [Ha HW HG HU HD Sg Su Sd]
    · iapply (part25_run c X3 X5 fa arg0 harg0 arg1 harg1 arg2 harg2 arg7 harg7 v hw t hA _ _ w9 hw9 W')
      isplitl [Ha]; · iexact Ha
      isplitl [HW]; · iexact HW
      isplitl [HG]; · iexact HG
      isplitl [HU]; · iexact HU
      isplitl [HD]; · iexact HD
      isplitl [Sg]; · iexact Sg
      isplitl [Su]; · iexact Su
      iexact Sd
    iintro %r ⟨Ha, ⟨%W'', HW⟩, HG, HU, HD, Sg, Su, Sd⟩
    unfold gReady uReady dReady
    icases HG with ⟨HG, HGc, HGt⟩
    icases HU with ⟨HU, HUc, HUt⟩
    icases HD with ⟨HD, HDc, HDt⟩
    dsimp only
    sl_exec_parts!

    sl_step
    isplitr; · ipureintro; rfl
    isplitl [Ha]; · iexact Ha
    isplitl [H2]; · iexact H2
    isplitl [HW]; · iexists _; iexact HW
    isplitl [Hsc]; · iexact Hsc
    isplitl [HG HGc HGt]
    · iapply (g_free_of_ready c X3 fa t.val)
      unfold gReady
      isplitl [HG]; · iexact HG
      isplitl [HGc]; · iexact HGc
      iexact HGt
    isplitl [HU HUc HUt]
    · iapply (u_free_of_ready c X3 fa t.val)
      unfold uReady
      isplitl [HU]; · iexact HU
      isplitl [HUc]; · iexact HUc
      iexact HUt
    isplitl [HD HDc HDt]
    · iapply (d_free_of_ready c X5 fa t.val)
      unfold dReady
      isplitl [HD]; · iexact HD
      isplitl [HDc]; · iexact HDc
      iexact HDt
    isplitl [Sg]; · iexact Sg
    isplitl [Su]; · iexact Su
    isplitl [Sd]; · iexact Sd
    isplitl [Hs]; · iexact Hs
    isplitl [Hd]; · iexact Hd
    isplitl [Hh]; · iexists _; iexact Hh
    iexact Hy

end Step

end Cert.Proof.KernelIdeal
-- ==== Proof.IdealWhole.lean ====
/-
  One step of the kernel, whole, with its last part.
-/
module

public import proofs.«01_k».proof.Proof.IdealStep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Step
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt F) (arg0.view.loc (c : Thread nD τ))) (f1 : Buf (Elt F) (arg1.view.loc (c : Thread nD τ))) (f2 : Buf (Elt F) (arg2.view.loc (c : Thread nD τ)))

set_option backward.proofsInPublic true in
def step_run (hA : ActOK c fa v.toNat)
    (fs : Buf (Elt F) (sgwM.view.loc (c : Thread nD τ))) (fd : Buf (Elt F) (sdwM.view.loc (c : Thread nD τ))) (fy : Buf (Elt F) (yM.view.loc (c : Thread nD τ))) (fc : Buf (Elt F) (accM.view.loc (c : Thread nD τ))) :
    { w : List (View.Piece (Elt F) S16x5120 .f32) × (k0_cond8 v t = 1#1 → List (View.Piece (Elt F) S16x5120 .f32)) // ∀ W,
    iprop(own c actM fullShare fa ∗ own c arg0 fullShare f0 ∗ own c arg1 fullShare f1 ∗ own c arg2 fullShare f2 ∗ owes (c : Thread nD τ) 0 W
      ∗ scIn c X4 X6 fa v t.val
      ∗ gFly c X3 fa t.val ∗ uFly c X3 fa t.val ∗ dFly c X5 fa t.val
      ∗ gFree c X3 (Ring.sl 4 (t.val + 3)) ∗ uFree c X3 (Ring.sl 4 (t.val + 3)) ∗ dFree c X5 (Ring.sl 4 (t.val + 3))
      ∗ bufs c fs fd fy fc)
    ⊢ wp frame (wpE (defs₀ (F := F)) 𝒱₀ (c : Thread nD τ) none) Set.univ
        (k0_t2_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) t ())
        (fun _ => iprop(own c actM fullShare fa ∗ own c arg0 fullShare f0 ∗ own c arg1 fullShare f1 ∗ own c arg2 fullShare f2 ∗ (∃ W, owes (c : Thread nD τ) 0 W)
          ∗ scOut c X4 X6 fa v t.val
          ∗ gFree c X3 (Ring.sl 4 t.val) ∗ uFree c X3 (Ring.sl 4 t.val) ∗ dFree c X5 (Ring.sl 4 t.val)
          ∗ gAt c X3 fa v (t.val + 3) ∗ uAt c X3 fa v (t.val + 3) ∗ dAt c X5 fa v (t.val + 3)
          ∗ bufs c (sgw1 c X4 X6 fa arg0 harg0 arg1 harg1 arg2 harg2 arg7 harg7 v hw t hA fs fd fy)
              (sdw1 c X4 X6 fa arg0 harg0 arg1 harg1 arg2 harg2 arg7 harg7 v hw t hA fs fd fy)
              (yM.view.writes (Elt F) yM.view.junk w.1)
              (if h : k0_cond8 v t = 1#1 then accM.view.writes (Elt F) accM.view.junk (w.2 h) else fc))) } := by
  refine ⟨(?a, ?b), ?run⟩
  case run =>
    dsimp only
    intro W
    unfold bufs
    iintro ⟨Ha, H0, H1, H2, HW, Hsc, HG, HU, HD, Sg, Su, Sd, Hs, Hd, Hh, Hy, Hc⟩
    unfold k0_t2_body
    dsimp only
    rw [wp_bind]
    iapply (wp_wand_r Idealize.ShloMosaic.frame (wpE (defs₀ (F := F)) 𝒱₀ (c : Thread nD τ) none) Set.univ)
    isplitl [Ha H2 HW Hsc HG HU HD Sg Su Sd Hs Hd Hh Hy]
    · iapply ((part77_run c X3 X4 X5 X6 fa arg0 harg0 arg1 harg1 arg2 harg2 arg7 harg7 v hw t f2 hA fs fd fy).2 W)
      isplitl [Ha]; · iexact Ha
      isplitl [H2]; · iexact H2
      isplitl [HW]; · iexact HW
      isplitl [Hsc]; · iexact Hsc
      isplitl [HG]; · iexact HG
      isplitl [HU]; · iexact HU
      isplitl [HD]; · iexact HD
      isplitl [Sg]; · iexact Sg
      isplitl [Su]; · iexact Su
      isplitl [Sd]; · iexact Sd
      isplitl [Hs]; · iexact Hs
      isplitl [Hd]; · iexact Hd
      isplitl [Hh]; · iexact Hh
      iexact Hy
    iintro %r ⟨%hr, Ha, H2, ⟨%W', HW⟩, Hsc, HG, HU, HD, Sg, Su, Sd, Hs, Hd, ⟨%fh, Hh⟩, Hy⟩
    obtain ⟨r1, r2, r3, r4, r5, r6⟩ := r
    have e3 := congrArg (fun x => x.1) hr
    have e4 := congrArg (fun x => x.2.1) hr
    have e5 := congrArg (fun x => x.2.2.1) hr
    have e6 := congrArg (fun x => x.2.2.2) hr
    dsimp only at e3 e4 e5 e6
    subst e3 e4 e5 e6
    clear hr
    dsimp only
    by_cases h8 : k0_cond8 v t = 1#1
    · sl_exec_parts!
      rw [dif_pos h8]
      sl_step
      isplitl [Ha]; · iexact Ha
      isplitl [H0]; · iexact H0
      isplitl [H1]; · iexact H1
      isplitl [H2]; · iexact H2
      isplitl [HW]; · iexists _; iexact HW
      isplitl [Hsc]; · iexact Hsc
      isplitl [HG]; · iexact HG
      isplitl [HU]; · iexact HU
      isplitl [HD]; · iexact HD
      isplitl [Sg]; · iexact Sg
      isplitl [Su]; · iexact Su
      isplitl [Sd]; · iexact Sd
      isplitl [Hs]; · iexact Hs
      isplitl [Hd]; · iexact Hd
      isplitl [Hh]; · iexists _; iexact Hh
      isplitl [Hy]; · iexact Hy
      iexact Hc
    · sl_exec!
      rw [dif_neg h8]
      sl_step
      isplitl [Ha]; · iexact Ha
      isplitl [H0]; · iexact H0
      isplitl [H1]; · iexact H1
      isplitl [H2]; · iexact H2
      isplitl [HW]; · iexists _; iexact HW
      isplitl [Hsc]; · iexact Hsc
      isplitl [HG]; · iexact HG
      isplitl [HU]; · iexact HU
      isplitl [HD]; · iexact HD
      isplitl [Sg]; · iexact Sg
      isplitl [Su]; · iexact Su
      isplitl [Sd]; · iexact Sd
      isplitl [Hs]; · iexact Hs
      isplitl [Hd]; · iexact Hd
      isplitl [Hh]; · iexists _; iexact Hh
      isplitl [Hy]; · iexact Hy
      iexact Hc

end Step

end Cert.Proof.KernelIdeal
-- ==== Proof.IdealLoop.lean ====
/-
  The kernel's loop over steps.
-/
module

public import proofs.«01_k».proof.Proof.IdealWhole

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Step
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt F) (arg0.view.loc (c : Thread nD τ))) (f1 : Buf (Elt F) (arg1.view.loc (c : Thread nD τ))) (f2 : Buf (Elt F) (arg2.view.loc (c : Thread nD τ)))

/-- The four buffers a step changes. -/
structure St where
  fs : Buf (Elt F) (sgwM.view.loc (c : Thread nD τ))
  fd : Buf (Elt F) (sdwM.view.loc (c : Thread nD τ))
  fy : Buf (Elt F) (yM.view.loc (c : Thread nD τ))
  fc : Buf (Elt F) (accM.view.loc (c : Thread nD τ))

variable (hA : ActOK c fa v.toNat)

/-- The four buffers after step `t`, from those before it. -/
def St.next (z : St (F := F) c) : St (F := F) c where
  fs := sgw1 c X4 X6 fa arg0 harg0 arg1 harg1 arg2 harg2 arg7 harg7 v hw t hA z.fs z.fd z.fy
  fd := sdw1 c X4 X6 fa arg0 harg0 arg1 harg1 arg2 harg2 arg7 harg7 v hw t hA z.fs z.fd z.fy
  fy := yM.view.writes (Elt F) yM.view.junk (step_run c X3 X4 X5 X6 fa arg0 harg0 arg1 harg1 arg2 harg2 arg7 harg7 v hw t f0 f1 f2 hA z.fs z.fd z.fy z.fc).1.1
  fc := if h : k0_cond8 v t = 1#1 then accM.view.writes (Elt F) accM.view.junk ((step_run c X3 X4 X5 X6 fa arg0 harg0 arg1 harg1 arg2 harg2 arg7 harg7 v hw t f0 f1 f2 hA z.fs z.fd z.fy z.fc).1.2 h) else z.fc

/-- The four buffers before step `s`. -/
def stt (z : St (F := F) c) : ℕ → St (F := F) c
  | 0 => z
  | s + 1 => if h : s < (k0_t2_loop v).trips then St.next c X3 X4 X5 X6 fa arg0 harg0 arg1 harg1 arg2 harg2 arg7 harg7 v hw ⟨s, h⟩ f0 f1 f2 hA (stt z s) else stt z s

theorem stt_succ (z : St (F := F) c) : stt c X3 X4 X5 X6 fa arg0 harg0 arg1 harg1 arg2 harg2 arg7 harg7 v hw f0 f1 f2 hA z (t.val + 1) = St.next c X3 X4 X5 X6 fa arg0 harg0 arg1 harg1 arg2 harg2 arg7 harg7 v hw t f0 f1 f2 hA (stt c X3 X4 X5 X6 fa arg0 harg0 arg1 harg1 arg2 harg2 arg7 harg7 v hw f0 f1 f2 hA z t.val) := by
  rw [stt, dif_pos t.isLt]

/-- What the loop holds before step `s`. -/
def inv2 (z : St (F := F) c) (s : ℕ) : sProp 𝕄 :=
  iprop(own c actM fullShare fa ∗ own c arg0 fullShare f0 ∗ own c arg1 fullShare f1 ∗ own c arg2 fullShare f2 ∗ (∃ W, owes (c : Thread nD τ) 0 W)
    ∗ scIn c X4 X6 fa v s
    ∗ gAt c X3 fa v s ∗ uAt c X3 fa v s ∗ dAt c X5 fa v s
    ∗ gAt c X3 fa v (s + 1) ∗ uAt c X3 fa v (s + 1) ∗ dAt c X5 fa v (s + 1)
    ∗ gAt c X3 fa v (s + 2) ∗ uAt c X3 fa v (s + 2) ∗ dAt c X5 fa v (s + 2)
    ∗ gFree c X3 (Ring.sl 4 (s + 3)) ∗ uFree c X3 (Ring.sl 4 (s + 3)) ∗ dFree c X5 (Ring.sl 4 (s + 3))
    ∗ bufs c (stt c X3 X4 X5 X6 fa arg0 harg0 arg1 harg1 arg2 harg2 arg7 harg7 v hw f0 f1 f2 hA z s).fs (stt c X3 X4 X5 X6 fa arg0 harg0 arg1 harg1 arg2 harg2 arg7 harg7 v hw f0 f1 f2 hA z s).fd (stt c X3 X4 X5 X6 fa arg0 harg0 arg1 harg1 arg2 harg2 arg7 harg7 v hw f0 f1 f2 hA z s).fy (stt c X3 X4 X5 X6 fa arg0 harg0 arg1 harg1 arg2 harg2 arg7 harg7 v hw f0 f1 f2 hA z s).fc)

omit [FloatOps F] in
theorem sc_roll (s : ℕ) : scOut c X4 X6 fa v s ⊢ scIn c X4 X6 fa v (s + 1) := by
  unfold scOut scIn
  by_cases h : (s + 1) % 8 = 0
  · rw [if_pos h]
    have e : (s + 1) / 8 = s / 8 + 1 := by omega
    have e2 : Ring.sl 2 (s / 8 + 1 + 1) = Ring.sl 2 (s / 8) := by apply Fin.ext; rw [Ring.sl_val, Ring.sl_val]; omega
    rw [e, e2]
    iintro ⟨H1, H2, H3, H4⟩
    isplitl [H3]; · iexact H3
    isplitl [H4]; · iexact H4
    isplitl [H1]; · iexact H1
    iexact H2
  · rw [if_neg h]
    have e : (s + 1) / 8 = s / 8 := by omega
    rw [e]

theorem step2 (z : St (F := F) c) :
    inv2 c X3 X4 X5 X6 fa arg0 harg0 arg1 harg1 arg2 harg2 arg7 harg7 v hw f0 f1 f2 hA z t.val ⊢ wp frame (wpE (defs₀ (F := F)) 𝒱₀ (c : Thread nD τ) none) Set.univ
        (k0_t2_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) t ())
        (fun _ => inv2 c X3 X4 X5 X6 fa arg0 harg0 arg1 harg1 arg2 harg2 arg7 harg7 v hw f0 f1 f2 hA z (t.val + 1)) := by
  have ht : t.val < 8 * v.toNat := Nat.lt_of_lt_of_eq t.isLt (trips_eq v)
  have e4 : Ring.sl 4 (t.val + 1 + 3) = Ring.sl 4 t.val := by apply Fin.ext; rw [Ring.sl_val, Ring.sl_val]; omega
  unfold inv2
  rw [stt_succ, e4, show gAt c X3 fa v t.val = _ from if_pos ht, show uAt c X3 fa v t.val = _ from if_pos ht, show dAt c X5 fa v t.val = _ from if_pos ht]
  iintro ⟨Ha, H0, H1, H2, ⟨%W, HW⟩, Hsc, Hg, Hu, Hd, Hg1, Hu1, Hd1, Hg2, Hu2, Hd2, Hg3, Hu3, Hd3, HB⟩
  iapply (wp_wand_r Idealize.ShloMosaic.frame (wpE (defs₀ (F := F)) 𝒱₀ (c : Thread nD τ) none) Set.univ)
  isplitl [Ha H0 H1 H2 HW Hsc Hg Hu Hd Hg3 Hu3 Hd3 HB]
  · iapply ((step_run c X3 X4 X5 X6 fa arg0 harg0 arg1 harg1 arg2 harg2 arg7 harg7 v hw t f0 f1 f2 hA _ _ _ _).2 W)
    isplitl [Ha]; · iexact Ha
    isplitl [H0]; · iexact H0
    isplitl [H1]; · iexact H1
    isplitl [H2]; · iexact H2
    isplitl [HW]; · iexact HW
    isplitl [Hsc]; · iexact Hsc
    isplitl [Hg]; · iexact Hg
    isplitl [Hu]; · iexact Hu
    isplitl [Hd]; · iexact Hd
    isplitl [Hg3]; · iexact Hg3
    isplitl [Hu3]; · iexact Hu3
    isplitl [Hd3]; · iexact Hd3
    iexact HB
  iintro %_ ⟨Ha, H0, H1, H2, HW, Hsc, Hg, Hu, Hd, Hg3, Hu3, Hd3, HB⟩
  isplitl [Ha]; · iexact Ha
  isplitl [H0]; · iexact H0
  isplitl [H1]; · iexact H1
  isplitl [H2]; · iexact H2
  isplitl [HW]; · iexact HW
  isplitl [Hsc]; · iapply (sc_roll c X4 X6 fa v t.val); iexact Hsc
  isplitl [Hg1]; · iexact Hg1
  isplitl [Hu1]; · iexact Hu1
  isplitl [Hd1]; · iexact Hd1
  isplitl [Hg2]; · iexact Hg2
  isplitl [Hu2]; · iexact Hu2
  isplitl [Hd2]; · iexact Hd2
  isplitl [Hg3]; · iexact Hg3
  isplitl [Hu3]; · iexact Hu3
  isplitl [Hd3]; · iexact Hd3
  isplitl [Hg]; · iexact Hg
  isplitl [Hu]; · iexact Hu
  isplitl [Hd]; · iexact Hd
  iexact HB

/-- The loop over steps, whole. -/
theorem loop2 (z : St (F := F) c) :
    inv2 c X3 X4 X5 X6 fa arg0 harg0 arg1 harg1 arg2 harg2 arg7 harg7 v hw f0 f1 f2 hA z 0 ⊢ wp frame (wpE (defs₀ (F := F)) 𝒱₀ (c : Thread nD τ) none) Set.univ
        (Scf.Loop.for (k0_t2_loop v) (k0_t2_ok v hw) () (k0_t2_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32)))
        (fun _ => inv2 c X3 X4 X5 X6 fa arg0 harg0 arg1 harg1 arg2 harg2 arg7 harg7 v hw f0 f1 f2 hA z (8 * v.toNat)) := by
  have e : 8 * v.toNat = (k0_t2_loop v).trips := (trips_eq v).symm
  rw [e]
  iintro H
  iapply (Scf.wp_for Idealize.ShloMosaic.frame (wpE (defs₀ (F := F)) 𝒱₀ (c : Thread nD τ) none) Set.univ _ _ _ (k0_t2_ok v hw) () _
    (fun s _ => inv2 c X3 X4 X5 X6 fa arg0 harg0 arg1 harg1 arg2 harg2 arg7 harg7 v hw f0 f1 f2 hA z s) (fun k _ => step2 c X3 X4 X5 X6 fa arg0 harg0 arg1 harg1 arg2 harg2 arg7 harg7 v hw k f0 f1 f2 hA z))
  isplitl [H]; · iexact H
  iintro %_ H
  iexact H

/-- The remainder loop makes no trips. -/
theorem loop3 (v33 : BitVec 32) (P : sProp 𝕄) :
    P ⊢ wp frame (wpE (defs₀ (F := F)) 𝒱₀ (c : Thread nD τ) none) Set.univ
        (Scf.Loop.for (k0_t3_loop v) (k0_t3_ok v hw) () (k0_t3_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 v hw (v * 8#32) v33))
        (fun _ => P) :=
  Scf.wp_for0' Idealize.ShloMosaic.frame (wpE (defs₀ (F := F)) 𝒱₀ (c : Thread nD τ) none) Set.univ _ _ _ (k0_t3_ok v hw) () _ (trips3_eq v) _ P .rfl

end Step

end Cert.Proof.KernelIdeal
-- ==== Proof.IdealRoute.lean ====
/-
  The routing loop: which experts are asked for, listed in SMEM.
-/
module

public import proofs.«01_k».proof.Proof.IdealMoves
public import Idealize.ShloMosaic.Lib.WritesUnit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Route
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (fa : Buf (Elt F) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)

  (f0 : Buf (Elt F) (arg0.view.loc (c : Thread nD τ)))

omit F [FloatOps F] in
theorem inb_id (r : Fin 16) (j : Fin 2) : ∀ a, (![r.val, 0, j.val] : Fin 3 → ℕ) a + S1x1x1.size a ≤ S16x1x2.size a := by
  revert r j; decide

/-- The expert id at row `r`, choice `j`. -/
def idw (r : Fin 16) (j : Fin 2) : BitVec 32 :=
  arg0.view.readAt (Elt F) (Rect.unit (s := S16x1x2) ![r.val, 0, j.val] S1x1x1.size (inb_id r j)).toLoadRect f0 (Shape.Idx.first (numel1_S1x1x1.symm ▸ Nat.one_pos))

/-- The test of trip `k`, over the ids. -/
def hitc (k : Fin k0_t1_loop.trips) : BitVec 1 := k0_cond1 k (idw c arg0 f0 0 0) (idw c arg0 f0 0 1) (idw c arg0 f0 1 0) (idw c arg0 f0 1 1) (idw c arg0 f0 2 0) (idw c arg0 f0 2 1) (idw c arg0 f0 3 0) (idw c arg0 f0 3 1) (idw c arg0 f0 4 0) (idw c arg0 f0 4 1) (idw c arg0 f0 5 0) (idw c arg0 f0 5 1) (idw c arg0 f0 6 0) (idw c arg0 f0 6 1) (idw c arg0 f0 7 0) (idw c arg0 f0 7 1) (idw c arg0 f0 8 0) (idw c arg0 f0 8 1) (idw c arg0 f0 9 0) (idw c arg0 f0 9 1) (idw c arg0 f0 10 0) (idw c arg0 f0 10 1) (idw c arg0 f0 11 0) (idw c arg0 f0 11 1) (idw c arg0 f0 12 0) (idw c arg0 f0 12 1) (idw c arg0 f0 13 0) (idw c arg0 f0 13 1) (idw c arg0 f0 14 0) (idw c arg0 f0 14 1) (idw c arg0 f0 15 0) (idw c arg0 f0 15 1)

omit F [FloatOps F] in
theorem off1_eq (a : BitVec 32) (ha : a.toNat ≤ 3) : k0_off1 a = ![a.toNat] := by
  have e : a = BitVec.ofNat 32 a.toNat := by simp
  rw [e]
  generalize a.toNat = n at ha
  clear e a
  interval_cases n <;> decide

omit F [FloatOps F] in
theorem off1_inb (a : BitVec 32) (ha : a.toNat ≤ 3) : ∀ d, k0_off1 a d + S1.size d ≤ S4.size d := by
  rw [off1_eq a ha]
  intro d
  fin_cases d
  show a.toNat + 1 ≤ 4
  omega

omit F [FloatOps F] in
theorem chk1_of (k : Fin k0_t1_loop.trips) (a : BitVec 32) (ha : a.toNat ≤ 3) (w0 w1 w2 w3 w4 w5 w6 w7 w8 w9 w10 w11 w12 w13 w14 w15 w16 w17 w18 w19 w20 w21 w22 w23 w24 w25 w26 w27 w28 w29 w30 w31 : BitVec 32) : k0_chk1 k a w0 w1 w2 w3 w4 w5 w6 w7 w8 w9 w10 w11 w12 w13 w14 w15 w16 w17 w18 w19 w20 w21 w22 w23 w24 w25 w26 w27 w28 w29 w30 w31 :=
  fun _ => off1_inb a ha

omit F [FloatOps F] in
theorem add_hit (a : BitVec 32) (x : BitVec 1) (h : Scalar.cmpi .ne (Scalar.extui x : BitVec 32) 0#32 = 1#1) :
    Scalar.addi a (Scalar.extui x) = a + 1#32 := by
  have hx : x = 1#1 := by revert h; revert x; decide
  subst hx; rfl
omit F [FloatOps F] in
theorem add_miss (a : BitVec 32) (x : BitVec 1) (h : ¬ Scalar.cmpi .ne (Scalar.extui x : BitVec 32) 0#32 = 1#1) :
    Scalar.addi a (Scalar.extui x) = a := by
  have hx : x = 0#1 := by revert h; revert x; decide
  subst hx; show a + 0#32 = a; simp

/-- An entry of the list after one more was written at place `n`. -/
theorem wrd_write {off : Fin 1 → ℕ} {n : ℕ} (e : off = ![n]) (h) (w : (Rect.unit (s := S4) off S1.size h).shape.Idx → BitVec 32) (x0 : BitVec 32) (hw : ∀ x, w x = x0) (i : ℕ) (hi : i < 4) :
    wrd c (actM.view.writes (Elt F) fa [⟨Rect.unit (s := S4) off S1.size h, w⟩]) i = if i = n then x0 else wrd c fa i := by
  have hm : i % 4 = i := Nat.mod_eq_of_lt hi
  unfold wrd
  rw [View.readAt_apply, View.readAt_apply]
  by_cases hn : i = n
  · rw [if_pos hn]
    refine (View.read_writes_cons_unit_of_mem (s := S4) (off' := ![n]) _ _ _ _ _ _ (show (Rect.unit (s := S4) off S1.size h).shape.Idx from fun d => ⟨0, by fin_cases d; exact Nat.one_pos⟩) e ?_).trans (hw _)
    intro d; fin_cases d
    show i % 4 + 1 * 0 = n + 0
    omega
  · rw [if_neg hn]
    refine View.read_writes_cons_unit_of_not_mem (s := S4) (off' := ![n]) _ _ _ _ _ _ e (0 : Fin 1) ?_
    show i % 4 + 1 * 0 < n ∨ n + 1 ≤ i % 4 + 1 * 0
    omega

theorem t1_run (k : Fin k0_t1_loop.trips) (a : BitVec 32) (ha : a.toNat ≤ 3) :
    iprop(own c arg0 fullShare f0 ∗ own c actM fullShare fa)
    ⊢ wp frame (wpE (defs₀ (F := F)) 𝒱₀ (c : Thread nD τ) none) Set.univ
        (k0_t1_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12 k a)
        (fun r => iprop(∃ fa', ⌜(hitc c arg0 f0 k = 1#1 ∧ r = a + 1#32 ∧ ∀ i < 4, wrd c fa' i = if i = a.toNat then Scf.iv 0#32 1#32 k.val else wrd c fa i)
            ∨ (¬ hitc c arg0 f0 k = 1#1 ∧ r = a ∧ fa' = fa)⌝ ∗ own c arg0 fullShare f0 ∗ own c actM fullShare fa')) := by
  iintro ⟨H0, Ha⟩
  unfold k0_t1_body
  sl_exec_parts
  iapply (wp_assume _ _ _ _ (chk1_of k a ha _ _ _ _ _ _ _ _ _ _ _ _ _ _ _ _ _ _ _ _ _ _ _ _ _ _ _ _ _ _ _ _))
  dsimp only
  split
  case isTrue h1 =>
    sl_exec
    sl_step
    iexists (actM.view.writes (Elt F) fa [⟨Rect.unit (s := S4) (k0_off1 a) S1.size (off1_inb a ha), fun _ => Scf.iv 0#32 1#32 k.val⟩])
    isplitr
    · ipureintro
      exact Or.inl ⟨h1, add_hit a _ h1, fun i hi => wrd_write c fa (off1_eq a ha) _ _ _ (fun _ => rfl) i hi⟩
    isplitl [H0]; · iexact H0
    iexact Ha
  case isFalse h1 =>
    sl_exec
    sl_step
    iexists fa
    isplitr
    · ipureintro
      exact Or.inr ⟨h1, add_miss a _ h1, rfl⟩
    isplitl [H0]; · iexact H0
    iexact Ha

/-- The experts below `m` that some token asks for, in order. -/
def hits (m : ℕ) : List ℕ := (List.range m).filter (fun e => if h : e < k0_t1_loop.trips then hitc c arg0 f0 ⟨e, h⟩ = 1#1 else False)

theorem hits_hit (k : Fin k0_t1_loop.trips) (h : hitc c arg0 f0 k = 1#1) : hits c arg0 f0 (k.val + 1) = hits c arg0 f0 k.val ++ [k.val] := by
  have hk := k.isLt
  unfold hits
  rw [List.range_succ, List.filter_append]
  congr 1
  simp [h]
theorem hits_miss (k : Fin k0_t1_loop.trips) (h : ¬ hitc c arg0 f0 k = 1#1) : hits c arg0 f0 (k.val + 1) = hits c arg0 f0 k.val := by
  unfold hits
  rw [List.range_succ, List.filter_append]
  simp [h]

theorem hits_le (m : ℕ) : (hits c arg0 f0 m).length ≤ m := by
  unfold hits
  exact (List.length_filter_le _ _).trans (by simp)

theorem hits_lt (m : ℕ) (e : ℕ) (h : e ∈ hits c arg0 f0 m) : e < m := by
  unfold hits at h
  exact List.mem_range.1 (List.mem_filter.1 h).1

/-- What the list and its length are after `m` trips. -/
def RouteOK (m : ℕ) (a : BitVec 32) : Prop :=
  a = BitVec.ofNat 32 (hits c arg0 f0 m).length ∧ ∀ i (h : i < (hits c arg0 f0 m).length), wrd c fa i = BitVec.ofNat 32 ((hits c arg0 f0 m)[i])

omit F [FloatOps F] in
theorem trips1 : k0_t1_loop.trips = 4 := by decide

omit F [FloatOps F] in
theorem iv_t1 (k : Fin k0_t1_loop.trips) : Scf.iv 0#32 1#32 k.val = BitVec.ofNat 32 k.val := by
  revert k; decide

theorem loop1 :
    iprop(own c arg0 fullShare f0 ∗ own c actM fullShare fa)
    ⊢ wp frame (wpE (defs₀ (F := F)) 𝒱₀ (c : Thread nD τ) none) Set.univ
        (Scf.Loop.for k0_t1_loop k0_t1_ok 0#32 (k0_t1_body (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12))
        (fun r => iprop(∃ fa', ⌜RouteOK c fa' arg0 f0 4 r⌝ ∗ own c arg0 fullShare f0 ∗ own c actM fullShare fa')) := by
  iintro ⟨H0, Ha⟩
  iapply (Scf.wp_for Idealize.ShloMosaic.frame (wpE (defs₀ (F := F)) 𝒱₀ (c : Thread nD τ) none) Set.univ _ _ _ k0_t1_ok 0#32 _
    (fun m a => iprop(∃ fa', ⌜RouteOK c fa' arg0 f0 m a⌝ ∗ own c arg0 fullShare f0 ∗ own c actM fullShare fa')) ?step)
  case step =>
    intro k a
    have hk : k.val < 4 := Nat.lt_of_lt_of_eq k.isLt trips1
    iintro ⟨%fa1, %hR, H0, Ha⟩
    obtain ⟨hR1, hR2⟩ := hR
    have hl := hits_le c arg0 f0 k.val
    have ha : a.toNat = (hits c arg0 f0 k.val).length := by
      rw [hR1, BitVec.toNat_ofNat]; exact Nat.mod_eq_of_lt (by omega)
    iapply (wp_wand_r Idealize.ShloMosaic.frame (wpE (defs₀ (F := F)) 𝒱₀ (c : Thread nD τ) none) Set.univ)
    isplitl [H0 Ha]
    · iapply (t1_run c fa1 arg0 harg0 arg1 harg1 arg2 harg2 arg7 harg7 f0 k a (by omega))
      isplitl [H0]; · iexact H0
      iexact Ha
    iintro %r ⟨%fa2, %hr, H0, Ha⟩
    iexists fa2
    isplitr
    · ipureintro
      rcases hr with ⟨h, hr, hw⟩ | ⟨h, hr, hw⟩
      · unfold RouteOK
        rw [hits_hit c arg0 f0 k h]
        refine ⟨?_, fun i hi => ?_⟩
        · rw [hr, hR1, List.length_append, List.length_singleton]
          simp [BitVec.ofNat_add]
        · rw [List.length_append, List.length_singleton] at hi
          rw [hw i (by omega), ha, List.getElem_append]
          by_cases hi2 : i < (hits c arg0 f0 k.val).length
          · rw [if_neg (by omega), dif_pos hi2]; exact hR2 i hi2
          · rw [if_pos (by omega), dif_neg hi2, iv_t1]; simp
      · unfold RouteOK
        rw [hits_miss c arg0 f0 k h, hr, hw]
        exact ⟨hR1, hR2⟩
    isplitl [H0]; · iexact H0
    iexact Ha
  isplitl [H0 Ha]
  · iexists fa
    isplitr
    · ipureintro; exact ⟨rfl, fun i h => absurd h (Nat.not_lt_zero _)⟩
    isplitl [H0]; · iexact H0
    iexact Ha
  · iintro %r H
    iexact H

/-- The list is of experts, and no longer than there are experts. -/
theorem act_of_route {a : BitVec 32} (h : RouteOK c fa arg0 f0 4 a) : a.toNat = (hits c arg0 f0 4).length ∧ a.toNat ≤ 4 ∧ ActOK c fa a.toNat := by
  have hl := hits_le c arg0 f0 4
  have ha : a.toNat = (hits c arg0 f0 4).length := by
    rw [h.1, BitVec.toNat_ofNat]; exact Nat.mod_eq_of_lt (by omega)
  refine ⟨ha, by omega, fun i hi => ?_⟩
  have hi' : i < (hits c arg0 f0 4).length := by omega
  have := hits_lt c arg0 f0 4 _ (List.getElem_mem hi')
  rw [h.2 i hi', BitVec.toNat_ofNat, Nat.mod_eq_of_lt (by omega)]
  exact this

end Route
end Cert.Proof.KernelIdeal
-- ==== Proof.IdealBody.lean ====
/-
  The kernel's body, whole.
-/
module

public import proofs.«01_k».proof.Proof.IdealLoop
public import proofs.«01_k».proof.Proof.IdealRoute

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Body
variable (c : Dev nD)
  (X3 : Buf (Elt F) (wguM.view.loc (c : Thread nD τ))) (X4 : Buf (Elt F) (sguM.view.loc (c : Thread nD τ)))
  (X5 : Buf (Elt F) (wdM.view.loc (c : Thread nD τ))) (X6 : Buf (Elt F) (sdM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (f0 : Buf (Elt F) (arg0.view.loc (c : Thread nD τ))) (f1 : Buf (Elt F) (arg1.view.loc (c : Thread nD τ))) (f2 : Buf (Elt F) (arg2.view.loc (c : Thread nD τ)))

/-- What the body is handed besides its windows: every slot free, every buffer at anything. -/
def scr : sProp 𝕄 :=
  iprop((∃ fa, own c actM fullShare fa) ∗ sgFree c X4 0 ∗ seFree c X6 0 ∗ sgFree c X4 1 ∗ seFree c X6 1 ∗ gFree c X3 0 ∗ uFree c X3 0 ∗ dFree c X5 0 ∗ gFree c X3 1 ∗ uFree c X3 1 ∗ dFree c X5 1 ∗ gFree c X3 2 ∗ uFree c X3 2 ∗ dFree c X5 2 ∗ gFree c X3 3 ∗ uFree c X3 3 ∗ dFree c X5 3
    ∗ (∃ f, own c sgwM fullShare f) ∗ (∃ f, own c sdwM fullShare f) ∗ (∃ f, own c hM fullShare f) ∗ (∃ f, own c yM fullShare f) ∗ (∃ f, own c accM fullShare f))

omit [FloatOps F] in
theorem scr_open : scr c X3 X4 X5 X6 ⊢ iprop((∃ fa, own c actM fullShare fa) ∗ sgFree c X4 0 ∗ seFree c X6 0 ∗ sgFree c X4 1 ∗ seFree c X6 1 ∗ gFree c X3 0 ∗ uFree c X3 0 ∗ dFree c X5 0 ∗ gFree c X3 1 ∗ uFree c X3 1 ∗ dFree c X5 1 ∗ gFree c X3 2 ∗ uFree c X3 2 ∗ dFree c X5 2 ∗ gFree c X3 3 ∗ uFree c X3 3 ∗ dFree c X5 3
    ∗ (∃ f, own c sgwM fullShare f) ∗ (∃ f, own c sdwM fullShare f) ∗ (∃ f, own c hM fullShare f) ∗ (∃ f, own c yM fullShare f) ∗ (∃ f, own c accM fullShare f)) := .rfl

omit [FloatOps F] in
theorem gOpen (k : Fin 4) : gFree c X3 k ⊢ iprop((∃ f, own c (gS k) fullShare f) ∗ cell c (gC k) ∗ wguM.view.loc (c : Thread nD τ) ↦{qg k} X3 : sProp 𝕄) := .rfl
omit [FloatOps F] in
theorem uOpen (k : Fin 4) : uFree c X3 k ⊢ iprop((∃ f, own c (uS k) fullShare f) ∗ cell c (uC k) ∗ wguM.view.loc (c : Thread nD τ) ↦{qu k} X3 : sProp 𝕄) := .rfl
omit [FloatOps F] in
theorem dOpen (k : Fin 4) : dFree c X5 k ⊢ iprop((∃ f, own c (dS k) fullShare f) ∗ cell c (dC k) ∗ wdM.view.loc (c : Thread nD τ) ↦{qd k} X5 : sProp 𝕄) := .rfl

/-- The accumulator at zero. -/
@[irreducible] def acc0 : Buf (Elt F) (accM.view.loc (c : Thread nD τ)) := accM.view.writes (Elt F) accM.view.junk [⟨Rect.unit (s := S16x5120) ![0, 0] S16x5120.size inb_S16x5120_S16x5120_0_0, k0_pay494 (F := F)⟩]

theorem free_even (n : ℕ) : iprop(sgFree c X4 (Ring.sl 2 n) ∗ sgFree c X4 (Ring.sl 2 (n + 1)) ∗ seFree c X6 (Ring.sl 2 n) ∗ seFree c X6 (Ring.sl 2 (n + 1)))
    ⊢ iprop(sgFree c X4 0 ∗ seFree c X6 0 ∗ sgFree c X4 1 ∗ seFree c X6 1 : sProp 𝕄) := by
  rcases Nat.mod_two_eq_zero_or_one n with h | h
  · have e0 : Ring.sl 2 n = 0 := by apply Fin.ext; rw [Ring.sl_val]; exact h
    have e1 : Ring.sl 2 (n + 1) = 1 := by apply Fin.ext; rw [Ring.sl_val]; show (n + 1) % 2 = 1; omega
    rw [e0, e1]
    iintro ⟨H1, H2, H3, H4⟩
    isplitl [H1]; · iexact H1
    isplitl [H3]; · iexact H3
    isplitl [H2]; · iexact H2
    iexact H4
  · have e0 : Ring.sl 2 n = 1 := by apply Fin.ext; rw [Ring.sl_val]; exact h
    have e1 : Ring.sl 2 (n + 1) = 0 := by apply Fin.ext; rw [Ring.sl_val]; show (n + 1) % 2 = 0; omega
    rw [e0, e1]
    iintro ⟨H1, H2, H3, H4⟩
    isplitl [H2]; · iexact H2
    isplitl [H4]; · iexact H4
    isplitl [H1]; · iexact H1
    iexact H3

theorem part152_run (W : Waits sig Unit) (hne : 1 ≤ (hits c arg0 f0 4).length)
    (fs : Buf (Elt F) (sgwM.view.loc (c : Thread nD τ))) (fd : Buf (Elt F) (sdwM.view.loc (c : Thread nD τ))) (fy : Buf (Elt F) (yM.view.loc (c : Thread nD τ))) (fc : Buf (Elt F) (accM.view.loc (c : Thread nD τ))) (fa : Buf (Elt F) (actM.view.loc (c : Thread nD τ))) :
    iprop(own c arg0 fullShare f0 ∗ owes (c : Thread nD τ) 0 W ∗ own c actM fullShare fa ∗ own c accM fullShare fc
      ∗ sgFree c X4 0 ∗ seFree c X6 0 ∗ gFree c X3 0 ∗ uFree c X3 0 ∗ dFree c X5 0)
    ⊢ wp frame (wpE (defs₀ (F := F)) 𝒱₀ (c : Thread nD τ) none) Set.univ
        (k0_part152 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12)
        (fun r => iprop(∃ fa', ⌜RouteOK c fa' arg0 f0 4 r.1 ∧ r.2.2 = r.1 * 8#32⌝ ∗ own c arg0 fullShare f0 ∗ (∃ W, owes (c : Thread nD τ) 0 W) ∗ own c actM fullShare fa'
          ∗ own c accM fullShare (acc0 c)
          ∗ sgFly c X4 fa' 0 ∗ seFly c X6 fa' 0 ∗ gFly c X3 fa' 0 ∗ uFly c X3 fa' 0 ∗ dFly c X5 fa' 0)) := by
  iintro ⟨H0, HW, Ha, Hc, Sg, Se, G, U, D⟩
  sl_unfold [k0_part152]
  unfold k0_part152_skel
  rw [wp_bind]
  iapply (wp_wand_r Idealize.ShloMosaic.frame (wpE (defs₀ (F := F)) 𝒱₀ (c : Thread nD τ) none) Set.univ)
  isplitl [H0 Ha]
  · iapply (loop1 c fa arg0 harg0 arg1 harg1 arg2 harg2 arg7 harg7 f0)
    isplitl [H0]; · iexact H0
    iexact Ha
  iintro %v ⟨%fa', %hR, H0, Ha⟩
  obtain ⟨hv, hv4, hA⟩ := act_of_route c fa' arg0 f0 hR
  haveI : Fact (v.toNat ≤ 4) := ⟨hv4⟩
  have hc6 : k0_chk6 v := chk6_of v
  obtain ⟨h2, h3, h4⟩ := cond2_of v hv4 (by omega)
  have k2 : ∀ h x, k0_chk2 (actM.view.readAt (Elt F) (Rect.unit (s := S4) ![0] S1.size h).toLoadRect fa' x) := fun h x => by
    rw [readAt_act c fa' rfl (by omega) h x]; exact chk2_of _ (hA _ (by omega))
  have k3 : ∀ h x, k0_chk3 v (actM.view.readAt (Elt F) (Rect.unit (s := S4) ![0] S1.size h).toLoadRect fa' x) := fun h x => by
    rw [readAt_act c fa' rfl (by omega) h x]; exact chk3_of v _ (hA _ (by omega))
  unfold sgFree seFree gFree uFree dFree
  icases Sg with ⟨⟨%gg, Sg⟩, Cg, Tg⟩
  icases Se with ⟨⟨%ge, Se⟩, Ce, Te⟩
  icases G with ⟨⟨%g1, G⟩, GC, GT⟩
  icases U with ⟨⟨%g2, U⟩, UC, UT⟩
  icases D with ⟨⟨%g3, D⟩, DC, DT⟩
  beta_reduce
  sl_exec! (disch := first | exact hc6 | exact k2 _ _ | exact k3 _ _)
  sl_step
  iexists fa'
  isplitr; · ipureintro; exact ⟨hR, rfl⟩
  isplitl [H0]; · iexact H0
  isplitl [HW]; · iexists _; iexact HW
  isplitl [Ha]; · iexact Ha
  isplitl [Hc]; · unfold acc0; iexact Hc
  isplitl [Cg Tg]
  · iapply (sgFly_intro c X4 fa' 0 (readAt_act c fa' rfl (by omega) _ _) gg)
    isplitl [Cg]; · iexact Cg
    iexact Tg
  isplitl [Ce Te]
  · iapply (seFly_intro c X6 fa' 0 (readAt_act c fa' rfl (by omega) _ _) ge)
    isplitl [Ce]; · iexact Ce
    iexact Te
  isplitl [GC GT]
  · iapply (gFly_intro c X3 fa' 0 (readAt_act c fa' rfl (by omega) _ _) g1)
    isplitl [GC]; · iexact GC
    iexact GT
  isplitl [UC UT]
  · iapply (uFly_intro c X3 fa' 0 (readAt_act c fa' rfl (by omega) _ _) g2)
    isplitl [UC]; · iexact UC
    iexact UT
  · iapply (dFly_intro c X5 fa' 0 (readAt_act c fa' rfl (by omega) _ _) g3)
    isplitl [DC]; · iexact DC
    iexact DT

/-- What the loop over steps starts from. -/
def z0 (fs : Buf (Elt F) (sgwM.view.loc (c : Thread nD τ))) (fd : Buf (Elt F) (sdwM.view.loc (c : Thread nD τ))) (fy : Buf (Elt F) (yM.view.loc (c : Thread nD τ))) : St (F := F) c :=
  ⟨fs, fd, fy, acc0 c⟩

variable (f1 : Buf (Elt F) (arg1.view.loc (c : Thread nD τ))) (f2 : Buf (Elt F) (arg2.view.loc (c : Thread nD τ))) (f7 : Buf (Elt F) (arg7.view.loc (c : Thread nD τ)))

/-- What the body leaves in the output's buffer, the routing's list being `fa`. -/
def outOf (fa : Buf (Elt F) (actM.view.loc (c : Thread nD τ))) (v : BitVec 32) [Fact (v.toNat ≤ 4)] (hw : k0_chk6 v) (hA : ActOK c fa v.toNat) (z : St (F := F) c) : Buf (Elt F) (arg7.view.loc (c : Thread nD τ)) :=
  arg7.view.writes (Elt F) arg7.view.junk [⟨Rect.unit (s := S16x5120) ![0, 0] S16x5120.size inb_S16x5120_S16x5120_0_0,
    k0_pay7 (accM.view.readAt (Elt F) (Rect.unit (s := S16x5120) ![0, 0] S16x5120.size inb_S16x5120_S16x5120_0_0).toLoadRect (stt c X3 X4 X5 X6 fa arg0 harg0 arg1 harg1 arg2 harg2 arg7 harg7 v hw f0 f1 f2 hA z (8 * v.toNat)).fc)⟩]

/-- The output's contents are a run's over some list of the experts asked for. -/
def OutOK (out : Buf (Elt F) (arg7.view.loc (c : Thread nD τ))) : Prop :=
  ∃ (fa : Buf (Elt F) (actM.view.loc (c : Thread nD τ))) (v : BitVec 32) (_ : Fact (v.toNat ≤ 4)) (hw : k0_chk6 v) (hA : ActOK c fa v.toNat) (fs : Buf (Elt F) (sgwM.view.loc (c : Thread nD τ))) (fd : Buf (Elt F) (sdwM.view.loc (c : Thread nD τ))) (fy : Buf (Elt F) (yM.view.loc (c : Thread nD τ))),
    RouteOK c fa arg0 f0 4 v ∧ out = outOf c X3 X4 X5 X6 arg0 harg0 arg1 harg1 arg2 harg2 arg7 harg7 f0 f1 f2 fa v hw hA (z0 c fs fd fy)

section Ends
variable (fa : Buf (Elt F) (actM.view.loc (c : Thread nD τ))) (v : BitVec 32) [Fact (v.toNat ≤ 4)] (hw : k0_chk6 v) (hA : ActOK c fa v.toNat) (z : St (F := F) c)

theorem inv2_start (hv : 1 ≤ v.toNat) :
    iprop(own c actM fullShare fa ∗ own c arg0 fullShare f0 ∗ own c arg1 fullShare f1 ∗ own c arg2 fullShare f2 ∗ (∃ W, owes (c : Thread nD τ) 0 W)
      ∗ sgFly c X4 fa 0 ∗ seFly c X6 fa 0 ∗ sgFree c X4 1 ∗ seFree c X6 1
      ∗ gFly c X3 fa 0 ∗ uFly c X3 fa 0 ∗ dFly c X5 fa 0 ∗ gFly c X3 fa 1 ∗ uFly c X3 fa 1 ∗ dFly c X5 fa 1 ∗ gFly c X3 fa 2 ∗ uFly c X3 fa 2 ∗ dFly c X5 fa 2
      ∗ gFree c X3 3 ∗ uFree c X3 3 ∗ dFree c X5 3 ∗ bufs c z.fs z.fd z.fy z.fc)
    ⊢ inv2 c X3 X4 X5 X6 fa arg0 harg0 arg1 harg1 arg2 harg2 arg7 harg7 v hw f0 f1 f2 hA z 0 := by
  unfold inv2 scIn
  rw [if_pos (show 0 % 8 = 0 from rfl)]
  have g0 : ∀ i, i < 3 → gAt c X3 fa v i = gFly c X3 fa i := fun i hi => if_pos (by omega)
  have u0 : ∀ i, i < 3 → uAt c X3 fa v i = uFly c X3 fa i := fun i hi => if_pos (by omega)
  have d0 : ∀ i, i < 3 → dAt c X5 fa v i = dFly c X5 fa i := fun i hi => if_pos (by omega)
  have sg0 : sgAt c X4 fa v (0 / 8) = sgFly c X4 fa 0 := if_pos (by omega)
  have se0 : seAt c X6 fa v (0 / 8) = seFly c X6 fa 0 := if_pos (by omega)
  have e3 : Ring.sl 4 (0 + 3) = 3 := rfl
  have e1 : Ring.sl 2 (0 / 8 + 1) = 1 := rfl
  have ez : stt c X3 X4 X5 X6 fa arg0 harg0 arg1 harg1 arg2 harg2 arg7 harg7 v hw f0 f1 f2 hA z 0 = z := rfl
  rw [g0 0 (by omega), g0 (0 + 1) (by omega), g0 (0 + 2) (by omega), u0 0 (by omega), u0 (0 + 1) (by omega), u0 (0 + 2) (by omega), d0 0 (by omega), d0 (0 + 1) (by omega), d0 (0 + 2) (by omega), sg0, se0, e3, e1, ez]
  iintro ⟨Ha, H0, H1, H2, HW, Sg, Se, Sg1, Se1, H⟩
  isplitl [Ha]; · iexact Ha
  isplitl [H0]; · iexact H0
  isplitl [H1]; · iexact H1
  isplitl [H2]; · iexact H2
  isplitl [HW]; · iexact HW
  isplitl [Sg Se Sg1 Se1]
  · isplitl [Sg]; · iexact Sg
    isplitl [Se]; · iexact Se
    isplitl [Sg1]; · iexact Sg1
    iexact Se1
  iexact H

theorem inv2_end :
    inv2 c X3 X4 X5 X6 fa arg0 harg0 arg1 harg1 arg2 harg2 arg7 harg7 v hw f0 f1 f2 hA z (8 * v.toNat)
    ⊢ iprop((own c actM fullShare fa ∗ own c arg0 fullShare f0 ∗ own c arg1 fullShare f1 ∗ own c arg2 fullShare f2 ∗ (∃ W, owes (c : Thread nD τ) 0 W))
      ∗ (sgFree c X4 0 ∗ seFree c X6 0 ∗ sgFree c X4 1 ∗ seFree c X6 1)
      ∗ (gFree c X3 0 ∗ uFree c X3 0 ∗ dFree c X5 0 ∗ gFree c X3 1 ∗ uFree c X3 1 ∗ dFree c X5 1 ∗ gFree c X3 2 ∗ uFree c X3 2 ∗ dFree c X5 2 ∗ gFree c X3 3 ∗ uFree c X3 3 ∗ dFree c X5 3)
      ∗ (∃ f, own c sgwM fullShare f) ∗ (∃ f, own c sdwM fullShare f) ∗ (∃ f, own c hM fullShare f) ∗ (∃ f, own c yM fullShare f)
      ∗ own c accM fullShare (stt c X3 X4 X5 X6 fa arg0 harg0 arg1 harg1 arg2 harg2 arg7 harg7 v hw f0 f1 f2 hA z (8 * v.toNat)).fc) := by
  unfold inv2 scIn bufs
  rw [if_pos (show (8 * v.toNat) % 8 = 0 by omega), show 8 * v.toNat / 8 = v.toNat by omega]
  have sl0 : ∀ i : Fin 4, Ring.sl 4 (8 * v.toNat + i.val) = i := fun i => by apply Fin.ext; rw [Ring.sl_val]; have := i.isLt; omega
  have g0 : ∀ i : Fin 4, gAt c X3 fa v (8 * v.toNat + i.val) = gFree c X3 i := fun i => by rw [gAt, if_neg (by omega), sl0 i]
  have u0 : ∀ i : Fin 4, uAt c X3 fa v (8 * v.toNat + i.val) = uFree c X3 i := fun i => by rw [uAt, if_neg (by omega), sl0 i]
  have d0 : ∀ i : Fin 4, dAt c X5 fa v (8 * v.toNat + i.val) = dFree c X5 i := fun i => by rw [dAt, if_neg (by omega), sl0 i]
  have sg0 : sgAt c X4 fa v v.toNat = sgFree c X4 (Ring.sl 2 v.toNat) := if_neg (by omega)
  have se0 : seAt c X6 fa v v.toNat = seFree c X6 (Ring.sl 2 v.toNat) := if_neg (by omega)
  rw [show gAt c X3 fa v (8 * v.toNat) = _ from g0 0, show gAt c X3 fa v (8 * v.toNat + 1) = _ from g0 1, show gAt c X3 fa v (8 * v.toNat + 2) = _ from g0 2,
    show uAt c X3 fa v (8 * v.toNat) = _ from u0 0, show uAt c X3 fa v (8 * v.toNat + 1) = _ from u0 1, show uAt c X3 fa v (8 * v.toNat + 2) = _ from u0 2,
    show dAt c X5 fa v (8 * v.toNat) = _ from d0 0, show dAt c X5 fa v (8 * v.toNat + 1) = _ from d0 1, show dAt c X5 fa v (8 * v.toNat + 2) = _ from d0 2,
    show Ring.sl 4 (8 * v.toNat + 3) = _ from sl0 3, sg0, se0]
  iintro ⟨Ha, H0, H1, H2, HW, ⟨Sg, Se, Sg1, Se1⟩, G0, U0, D0, G1, U1, D1, G2, U2, D2, G3, U3, D3, Hs, Hd, Hh, Hy, Hc⟩
  isplitl [Ha H0 H1 H2 HW]
  · isplitl [Ha]; · iexact Ha
    isplitl [H0]; · iexact H0
    isplitl [H1]; · iexact H1
    isplitl [H2]; · iexact H2
    iexact HW
  isplitl [Sg Se Sg1 Se1]
  · iapply (free_even c X4 X6 v.toNat)
    isplitl [Sg]; · iexact Sg
    isplitl [Sg1]; · iexact Sg1
    isplitl [Se]; · iexact Se
    iexact Se1
  isplitl [G0 U0 D0 G1 U1 D1 G2 U2 D2 G3 U3 D3]
  · isplitl [G0]; · iexact G0
    isplitl [U0]; · iexact U0
    isplitl [D0]; · iexact D0
    isplitl [G1]; · iexact G1
    isplitl [U1]; · iexact U1
    isplitl [D1]; · iexact D1
    isplitl [G2]; · iexact G2
    isplitl [U2]; · iexact U2
    isplitl [D2]; · iexact D2
    isplitl [G3]; · iexact G3
    isplitl [U3]; · iexact U3
    iexact D3
  isplitl [Hs]; · iexists _; iexact Hs
  isplitl [Hd]; · iexists _; iexact Hd
  isplitl [Hh]; · iexact Hh
  isplitl [Hy]; · iexists _; iexact Hy
  iexact Hc
end Ends

theorem body_run (W : Waits sig Unit) (hne : 1 ≤ (hits c arg0 f0 4).length) :
    iprop(own c arg0 fullShare f0 ∗ own c arg1 fullShare f1 ∗ own c arg2 fullShare f2 ∗ own c arg7 fullShare f7 ∗ owes (c : Thread nD τ) 0 W ∗ scr c X3 X4 X5 X6)
    ⊢ wp frame (wpE (defs₀ (F := F)) 𝒱₀ (c : Thread nD τ) none) Set.univ
        (cc0_moe_int4 (F := F) arg0 harg0 arg1 harg1 arg2 harg2 wguM (Memref.isWhole_whole _) sguM (Memref.isWhole_whole _) wdM (Memref.isWhole_whole _) sdM (Memref.isWhole_whole _) arg7 harg7 actM (Memref.isWhole_whole _) gM (Memref.isWhole_whole _) uM (Memref.isWhole_whole _) dM (Memref.isWhole_whole _) sgM (Memref.isWhole_whole _) seM (Memref.isWhole_whole _) sgwM (Memref.isWhole_whole _) sdwM (Memref.isWhole_whole _) hM (Memref.isWhole_whole _) yM (Memref.isWhole_whole _) accM (Memref.isWhole_whole _) cc0_scratch11 cc0_scratch12)
        (fun _ => iprop(own c arg0 fullShare f0 ∗ own c arg1 fullShare f1 ∗ own c arg2 fullShare f2 ∗ (∃ out, ⌜OutOK c X3 X4 X5 X6 arg0 harg0 arg1 harg1 arg2 harg2 arg7 harg7 f0 f1 f2 out⌝ ∗ own c arg7 fullShare out) ∗ (∃ W, owes (c : Thread nD τ) 0 W) ∗ scr c X3 X4 X5 X6)) := by
  iintro ⟨H0, H1, H2, H7, HW, H⟩
  ihave H := (scr_open c X3 X4 X5 X6) $$ H
  icases H with ⟨⟨%fa, Ha⟩, Sg0, Se0, Sg1, Se1, G0, U0, D0, G1, U1, D1, G2, U2, D2, G3, U3, D3, ⟨%fs, Hs⟩, ⟨%fd, Hd⟩, Hh, ⟨%fy, Hy⟩, ⟨%fc, Hc⟩⟩
  sl_unfold [cc0_moe_int4]
  unfold cc0_moe_int4_skel
  rw [wp_bind]
  iapply (wp_wand_r Idealize.ShloMosaic.frame (wpE (defs₀ (F := F)) 𝒱₀ (c : Thread nD τ) none) Set.univ)
  isplitl [H0 HW Ha Hc Sg0 Se0 G0 U0 D0]
  · iapply (part152_run c X3 X4 X5 X6 arg0 harg0 arg1 harg1 arg2 harg2 arg7 harg7 f0 W hne fs fd fy fc fa)
    isplitl [H0]; · iexact H0
    isplitl [HW]; · iexact HW
    isplitl [Ha]; · iexact Ha
    isplitl [Hc]; · iexact Hc
    isplitl [Sg0]; · iexact Sg0
    isplitl [Se0]; · iexact Se0
    isplitl [G0]; · iexact G0
    isplitl [U0]; · iexact U0
    iexact D0
  iintro %r ⟨%fa', %hr, H0, ⟨%W', HW⟩, Ha, Hc, Sg0, Se0, G0, U0, D0⟩
  obtain ⟨v, hw, v2⟩ := r
  obtain ⟨hR, hv2⟩ := hr
  change v2 = v * 8#32 at hv2
  subst hv2
  change RouteOK c fa' arg0 f0 4 v at hR
  obtain ⟨hv, hv4, hA⟩ := act_of_route c fa' arg0 f0 hR
  haveI : Fact (v.toNat ≤ 4) := ⟨hv4⟩
  obtain ⟨h2, h3, h4⟩ := cond2_of v hv4 (by omega)
  have k4 : ∀ h x, k0_chk4 v (actM.view.readAt (Elt F) (Rect.unit (s := S4) ![0] S1.size h).toLoadRect fa' x) := fun h x => by
    rw [readAt_act c fa' rfl (by omega) h x]; exact chk4_of v _ (hA _ (by omega))
  have k5 : ∀ h x, k0_chk5 v (actM.view.readAt (Elt F) (Rect.unit (s := S4) ![0] S1.size h).toLoadRect fa' x) := fun h x => by
    rw [readAt_act c fa' rfl (by omega) h x]; exact chk5_of v _ (hA _ (by omega))
  ihave G1 := (gOpen c X3 1) $$ G1
  ihave U1 := (uOpen c X3 1) $$ U1
  ihave D1 := (dOpen c X5 1) $$ D1
  ihave G2 := (gOpen c X3 2) $$ G2
  ihave U2 := (uOpen c X3 2) $$ U2
  ihave D2 := (dOpen c X5 2) $$ D2
  icases G1 with ⟨⟨%g1, G1⟩, GC1, GT1⟩
  icases U1 with ⟨⟨%u1, U1⟩, UC1, UT1⟩
  icases D1 with ⟨⟨%d1, D1⟩, DC1, DT1⟩
  icases G2 with ⟨⟨%g2, G2⟩, GC2, GT2⟩
  icases U2 with ⟨⟨%u2, U2⟩, UC2, UT2⟩
  icases D2 with ⟨⟨%d2, D2⟩, DC2, DT2⟩
  beta_reduce
  sl_exec (disch := first | exact k4 _ _ | exact k5 _ _)
  rw [wp_bind]
  iapply (wp_wand_r Idealize.ShloMosaic.frame (wpE (defs₀ (F := F)) 𝒱₀ (c : Thread nD τ) none) Set.univ)
  isplitl [Ha H0 H1 H2 HW Sg0 Se0 Sg1 Se1 G0 U0 D0 GC1 GT1 UC1 UT1 DC1 DT1 GC2 GT2 UC2 UT2 DC2 DT2 G3 U3 D3 Hs Hd Hh Hy Hc]
  · iapply (loop2 c X3 X4 X5 X6 fa' arg0 harg0 arg1 harg1 arg2 harg2 arg7 harg7 v hw f0 f1 f2 hA (z0 c fs fd fy))
    iapply (inv2_start c X3 X4 X5 X6 arg0 harg0 arg1 harg1 arg2 harg2 arg7 harg7 f0 f1 f2 fa' v hw hA (z0 c fs fd fy) (by omega))
    isplitl [Ha]; · iexact Ha
    isplitl [H0]; · iexact H0
    isplitl [H1]; · iexact H1
    isplitl [H2]; · iexact H2
    isplitl [HW]; · iexists _; iexact HW
    isplitl [Sg0]; · iexact Sg0
    isplitl [Se0]; · iexact Se0
    isplitl [Sg1]; · iexact Sg1
    isplitl [Se1]; · iexact Se1
    isplitl [G0]; · iexact G0
    isplitl [U0]; · iexact U0
    isplitl [D0]; · iexact D0
    isplitl [GC1 GT1]
    · iapply (gFly_intro c X3 fa' 1 (readAt_act c fa' rfl (by omega) _ _) g1)
      isplitl [GC1]; · iexact GC1
      iexact GT1
    isplitl [UC1 UT1]
    · iapply (uFly_intro c X3 fa' 1 (readAt_act c fa' rfl (by omega) _ _) u1)
      isplitl [UC1]; · iexact UC1
      iexact UT1
    isplitl [DC1 DT1]
    · iapply (dFly_intro c X5 fa' 1 (readAt_act c fa' rfl (by omega) _ _) d1)
      isplitl [DC1]; · iexact DC1
      iexact DT1
    isplitl [GC2 GT2]
    · iapply (gFly_intro c X3 fa' 2 (readAt_act c fa' rfl (by omega) _ _) g2)
      isplitl [GC2]; · iexact GC2
      iexact GT2
    isplitl [UC2 UT2]
    · iapply (uFly_intro c X3 fa' 2 (readAt_act c fa' rfl (by omega) _ _) u2)
      isplitl [UC2]; · iexact UC2
      iexact UT2
    isplitl [DC2 DT2]
    · iapply (dFly_intro c X5 fa' 2 (readAt_act c fa' rfl (by omega) _ _) d2)
      isplitl [DC2]; · iexact DC2
      iexact DT2
    isplitl [G3]; · iexact G3
    isplitl [U3]; · iexact U3
    isplitl [D3]; · iexact D3
    unfold bufs
    isplitl [Hs]; · iexact Hs
    isplitl [Hd]; · iexact Hd
    isplitl [Hh]; · iexact Hh
    isplitl [Hy]; · iexact Hy
    rw [show (z0 c fs fd fy).fc = acc0 c from rfl]
    iexact Hc
  iintro %_ H
  beta_reduce
  rw [wp_bind]
  iapply (wp_wand_r Idealize.ShloMosaic.frame (wpE (defs₀ (F := F)) 𝒱₀ (c : Thread nD τ) none) Set.univ)
  isplitl [H]
  · iapply (loop3 c arg0 harg0 arg1 harg1 arg2 harg2 arg7 harg7 v hw _ (inv2 c X3 X4 X5 X6 fa' arg0 harg0 arg1 harg1 arg2 harg2 arg7 harg7 v hw f0 f1 f2 hA (z0 c fs fd fy) (8 * v.toNat)))
    iexact H
  iintro %_ H
  beta_reduce
  ihave H := (inv2_end c X3 X4 X5 X6 arg0 harg0 arg1 harg1 arg2 harg2 arg7 harg7 f0 f1 f2 fa' v hw hA (z0 c fs fd fy)) $$ H
  icases H with ⟨⟨Ha, H0, H1, H2, HW⟩, ⟨Sg0, Se0, Sg1, Se1⟩, HG, Hs, Hd, Hh, Hy, Hc⟩
  sl_exec!
  icases HG with ⟨G0, U0, D0, G1, U1, D1, G2, U2, D2, G3, U3, D3⟩
  sl_step
  isplitl [H0]; · iexact H0
  isplitl [H1]; · iexact H1
  isplitl [H2]; · iexact H2
  isplitl [H7]
  · iexists _
    isplitr; swap; · iexact H7
    ipureintro
    exact ⟨fa', v, ⟨hv4⟩, hw, hA, fs, fd, fy, hR, rfl⟩
  isplitl [HW]; · iexact HW
  unfold scr
  isplitl [Ha]; · iexists _; iexact Ha
  isplitl [Sg0]; · iexact Sg0
  isplitl [Se0]; · iexact Se0
  isplitl [Sg1]; · iexact Sg1
  isplitl [Se1]; · iexact Se1
  isplitl [G0]; · iexact G0
  isplitl [U0]; · iexact U0
  isplitl [D0]; · iexact D0
  isplitl [G1]; · iexact G1
  isplitl [U1]; · iexact U1
  isplitl [D1]; · iexact D1
  isplitl [G2]; · iexact G2
  isplitl [U2]; · iexact U2
  isplitl [D2]; · iexact D2
  isplitl [G3]; · iexact G3
  isplitl [U3]; · iexact U3
  isplitl [D3]; · iexact D3
  isplitl [Hs]; · iexact Hs
  isplitl [Hd]; · iexact Hd
  isplitl [Hh]; · iexact Hh
  isplitl [Hy]; · iexact Hy
  iexists _; iexact Hc

end Body
end Cert.Proof.KernelIdeal
-- ==== Proof.IdealCuts.lean ====
/-
  What the launch hands the body, cut into slots, cells and shares, and put back.
-/
module

public import proofs.«01_k».proof.Proof.IdealBody
public import Idealize.ShloMosaic.Lib.Ring

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

section Cuts
variable (c : Dev nD)

theorem fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem fin2 {M : Type} [URA M] (Φ : Fin 2 → sProp M) : bigSep Finset.univ Φ = iprop(Φ 0 ∗ Φ 1) :=
  bigSep_univ_eq_bigSepL [0, 1] (by decide) (by decide) Φ
theorem fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A buffer at anything, cut. -/
theorem cut_some {ℓ : Loc nD τ sig} {n : ℕ} (I : Fin n → Finset (Idx ℓ)) (hd : ∀ b b', b ≠ b' → Disjoint (I b) (I b')) (hc : Finset.univ.biUnion I = Finset.univ) :
    iprop(∃ f : Buf (Elt F) ℓ, ℓ ↦{fullShare} f) ⊢ (bigSep Finset.univ (fun b => iprop(∃ f : Buf (Elt F) ℓ, ℓ ↦[I b]{fullShare} f)) : sProp 𝕄) := by
  iintro ⟨%f, H⟩
  ihave H := (show (ℓ ↦{fullShare} f : sProp 𝕄) ⊢ bigSep Finset.univ (fun b => iprop(∃ f : Buf (Elt F) ℓ, ℓ ↦[I b]{fullShare} f)) from by
    rw [Ring.pointsTo_blocks I hd hc f]
    exact bigSep_mono fun b _ => (show (ℓ ↦[I b]{fullShare} f : sProp 𝕄) ⊢ iprop(∃ f : Buf (Elt F) ℓ, ℓ ↦[I b]{fullShare} f) from by iintro H; iexists f; iexact H)) $$ H
  iexact H
theorem join_some {ℓ : Loc nD τ sig} {n : ℕ} (I : Fin n → Finset (Idx ℓ)) (hd : ∀ b b', b ≠ b' → Disjoint (I b) (I b')) (hc : Finset.univ.biUnion I = Finset.univ) :
    bigSep Finset.univ (fun b => iprop(∃ f : Buf (Elt F) ℓ, ℓ ↦[I b]{fullShare} f)) ⊢ (iprop(∃ f : Buf (Elt F) ℓ, ℓ ↦{fullShare} f) : sProp 𝕄) :=
  Ring.pointsTo_blocks_join_exists I hd hc (fun _ => Classical.ofNonempty)

theorem gS_set (s : Fin 4) : (gS s).view.set = (Rect.unit (s := S4x2560x256) (slotOff s) S1x2560x256.size (gS_inb s)).set := (View.set_reshape _ _).trans (View.set_slice_whole _ _)
def gI (s : Fin 4) : Finset S4x2560x256.Idx := (gS s).view.set
theorem gI_eq (s : Fin 4) : gI s = (Rect.unit (s := S4x2560x256) (slotOff s) S1x2560x256.size (gS_inb s)).set := gS_set s
theorem gS_disj (s s' : Fin 4) (h : s ≠ s') : Disjoint (gI s) (gI s') := by
  rw [gI_eq, gI_eq]
  exact Ring.lead_disjoint (s := S4x2560x256) (0 : Fin 3) 1 (fun j : Fin 4 => slotOff j) S1x2560x256.size gS_inb (fun b => by show b.val = 1 * b.val; omega) rfl s s' h
theorem gS_cover : Finset.univ.biUnion gI = Finset.univ := by
  rw [show gI = _ from funext gI_eq]
  exact Ring.lead_cover (s := S4x2560x256) (0 : Fin 3) 1 (fun j : Fin 4 => slotOff j) S1x2560x256.size gS_inb (fun b => by show b.val = 1 * b.val; omega)
    (fun b a ha => by fin_cases a; exacts [absurd rfl ha, rfl, rfl]) rfl (fun a ha => by fin_cases a; exacts [absurd rfl ha, rfl, rfl]) rfl
theorem gS_cut : iprop(∃ f : Buf (Elt F) (gM.view.loc (c : Thread nD τ)), gM.view.loc (c : Thread nD τ) ↦{fullShare} f) ⊢ (iprop((∃ f, own c (gS 0) fullShare f) ∗ (∃ f, own c (gS 1) fullShare f) ∗ (∃ f, own c (gS 2) fullShare f) ∗ (∃ f, own c (gS 3) fullShare f)) : sProp 𝕄) :=
  (cut_some (ℓ := gM.view.loc (c : Thread nD τ)) gI gS_disj gS_cover).trans (by rw [fin4]; exact .rfl)
theorem gS_join : (iprop((∃ f, own c (gS 0) fullShare f) ∗ (∃ f, own c (gS 1) fullShare f) ∗ (∃ f, own c (gS 2) fullShare f) ∗ (∃ f, own c (gS 3) fullShare f)) : sProp 𝕄) ⊢ iprop(∃ f : Buf (Elt F) (gM.view.loc (c : Thread nD τ)), gM.view.loc (c : Thread nD τ) ↦{fullShare} f) :=
  .trans (by rw [fin4]; exact .rfl) (join_some (ℓ := gM.view.loc (c : Thread nD τ)) gI gS_disj gS_cover)

theorem uS_set (s : Fin 4) : (uS s).view.set = (Rect.unit (s := S4x2560x256) (slotOff s) S1x2560x256.size (uS_inb s)).set := (View.set_reshape _ _).trans (View.set_slice_whole _ _)
def uI (s : Fin 4) : Finset S4x2560x256.Idx := (uS s).view.set
theorem uI_eq (s : Fin 4) : uI s = (Rect.unit (s := S4x2560x256) (slotOff s) S1x2560x256.size (uS_inb s)).set := uS_set s
theorem uS_disj (s s' : Fin 4) (h : s ≠ s') : Disjoint (uI s) (uI s') := by
  rw [uI_eq, uI_eq]
  exact Ring.lead_disjoint (s := S4x2560x256) (0 : Fin 3) 1 (fun j : Fin 4 => slotOff j) S1x2560x256.size uS_inb (fun b => by show b.val = 1 * b.val; omega) rfl s s' h
theorem uS_cover : Finset.univ.biUnion uI = Finset.univ := by
  rw [show uI = _ from funext uI_eq]
  exact Ring.lead_cover (s := S4x2560x256) (0 : Fin 3) 1 (fun j : Fin 4 => slotOff j) S1x2560x256.size uS_inb (fun b => by show b.val = 1 * b.val; omega)
    (fun b a ha => by fin_cases a; exacts [absurd rfl ha, rfl, rfl]) rfl (fun a ha => by fin_cases a; exacts [absurd rfl ha, rfl, rfl]) rfl
theorem uS_cut : iprop(∃ f : Buf (Elt F) (uM.view.loc (c : Thread nD τ)), uM.view.loc (c : Thread nD τ) ↦{fullShare} f) ⊢ (iprop((∃ f, own c (uS 0) fullShare f) ∗ (∃ f, own c (uS 1) fullShare f) ∗ (∃ f, own c (uS 2) fullShare f) ∗ (∃ f, own c (uS 3) fullShare f)) : sProp 𝕄) :=
  (cut_some (ℓ := uM.view.loc (c : Thread nD τ)) uI uS_disj uS_cover).trans (by rw [fin4]; exact .rfl)
theorem uS_join : (iprop((∃ f, own c (uS 0) fullShare f) ∗ (∃ f, own c (uS 1) fullShare f) ∗ (∃ f, own c (uS 2) fullShare f) ∗ (∃ f, own c (uS 3) fullShare f)) : sProp 𝕄) ⊢ iprop(∃ f : Buf (Elt F) (uM.view.loc (c : Thread nD τ)), uM.view.loc (c : Thread nD τ) ↦{fullShare} f) :=
  .trans (by rw [fin4]; exact .rfl) (join_some (ℓ := uM.view.loc (c : Thread nD τ)) uI uS_disj uS_cover)

theorem dS_set (s : Fin 4) : (dS s).view.set = (Rect.unit (s := S4x128x5120) (slotOff s) S1x128x5120.size (dS_inb s)).set := (View.set_reshape _ _).trans (View.set_slice_whole _ _)
def dI (s : Fin 4) : Finset S4x128x5120.Idx := (dS s).view.set
theorem dI_eq (s : Fin 4) : dI s = (Rect.unit (s := S4x128x5120) (slotOff s) S1x128x5120.size (dS_inb s)).set := dS_set s
theorem dS_disj (s s' : Fin 4) (h : s ≠ s') : Disjoint (dI s) (dI s') := by
  rw [dI_eq, dI_eq]
  exact Ring.lead_disjoint (s := S4x128x5120) (0 : Fin 3) 1 (fun j : Fin 4 => slotOff j) S1x128x5120.size dS_inb (fun b => by show b.val = 1 * b.val; omega) rfl s s' h
theorem dS_cover : Finset.univ.biUnion dI = Finset.univ := by
  rw [show dI = _ from funext dI_eq]
  exact Ring.lead_cover (s := S4x128x5120) (0 : Fin 3) 1 (fun j : Fin 4 => slotOff j) S1x128x5120.size dS_inb (fun b => by show b.val = 1 * b.val; omega)
    (fun b a ha => by fin_cases a; exacts [absurd rfl ha, rfl, rfl]) rfl (fun a ha => by fin_cases a; exacts [absurd rfl ha, rfl, rfl]) rfl
theorem dS_cut : iprop(∃ f : Buf (Elt F) (dM.view.loc (c : Thread nD τ)), dM.view.loc (c : Thread nD τ) ↦{fullShare} f) ⊢ (iprop((∃ f, own c (dS 0) fullShare f) ∗ (∃ f, own c (dS 1) fullShare f) ∗ (∃ f, own c (dS 2) fullShare f) ∗ (∃ f, own c (dS 3) fullShare f)) : sProp 𝕄) :=
  (cut_some (ℓ := dM.view.loc (c : Thread nD τ)) dI dS_disj dS_cover).trans (by rw [fin4]; exact .rfl)
theorem dS_join : (iprop((∃ f, own c (dS 0) fullShare f) ∗ (∃ f, own c (dS 1) fullShare f) ∗ (∃ f, own c (dS 2) fullShare f) ∗ (∃ f, own c (dS 3) fullShare f)) : sProp 𝕄) ⊢ iprop(∃ f : Buf (Elt F) (dM.view.loc (c : Thread nD τ)), dM.view.loc (c : Thread nD τ) ↦{fullShare} f) :=
  .trans (by rw [fin4]; exact .rfl) (join_some (ℓ := dM.view.loc (c : Thread nD τ)) dI dS_disj dS_cover)

theorem sgS_set (s : Fin 2) : (sgS s).view.set = (Rect.unit (s := S2x40x4096) (slotOff s) S1x40x4096.size (sgS_inb s)).set := (View.set_reshape _ _).trans (View.set_slice_whole _ _)
def sgI (s : Fin 2) : Finset S2x40x4096.Idx := (sgS s).view.set
theorem sgI_eq (s : Fin 2) : sgI s = (Rect.unit (s := S2x40x4096) (slotOff s) S1x40x4096.size (sgS_inb s)).set := sgS_set s
theorem sgS_disj (s s' : Fin 2) (h : s ≠ s') : Disjoint (sgI s) (sgI s') := by
  rw [sgI_eq, sgI_eq]
  exact Ring.lead_disjoint (s := S2x40x4096) (0 : Fin 3) 1 (fun j : Fin 2 => slotOff j) S1x40x4096.size sgS_inb (fun b => by show b.val = 1 * b.val; omega) rfl s s' h
theorem sgS_cover : Finset.univ.biUnion sgI = Finset.univ := by
  rw [show sgI = _ from funext sgI_eq]
  exact Ring.lead_cover (s := S2x40x4096) (0 : Fin 3) 1 (fun j : Fin 2 => slotOff j) S1x40x4096.size sgS_inb (fun b => by show b.val = 1 * b.val; omega)
    (fun b a ha => by fin_cases a; exacts [absurd rfl ha, rfl, rfl]) rfl (fun a ha => by fin_cases a; exacts [absurd rfl ha, rfl, rfl]) rfl
theorem sgS_cut : iprop(∃ f : Buf (Elt F) (sgM.view.loc (c : Thread nD τ)), sgM.view.loc (c : Thread nD τ) ↦{fullShare} f) ⊢ (iprop((∃ f, own c (sgS 0) fullShare f) ∗ (∃ f, own c (sgS 1) fullShare f)) : sProp 𝕄) :=
  (cut_some (ℓ := sgM.view.loc (c : Thread nD τ)) sgI sgS_disj sgS_cover).trans (by rw [fin2]; exact .rfl)
theorem sgS_join : (iprop((∃ f, own c (sgS 0) fullShare f) ∗ (∃ f, own c (sgS 1) fullShare f)) : sProp 𝕄) ⊢ iprop(∃ f : Buf (Elt F) (sgM.view.loc (c : Thread nD τ)), sgM.view.loc (c : Thread nD τ) ↦{fullShare} f) :=
  .trans (by rw [fin2]; exact .rfl) (join_some (ℓ := sgM.view.loc (c : Thread nD τ)) sgI sgS_disj sgS_cover)

theorem seS_set (s : Fin 2) : (seS s).view.set = (Rect.unit (s := S2x16x5120) (slotOff s) S1x16x5120.size (seS_inb s)).set := (View.set_reshape _ _).trans (View.set_slice_whole _ _)
def seI (s : Fin 2) : Finset S2x16x5120.Idx := (seS s).view.set
theorem seI_eq (s : Fin 2) : seI s = (Rect.unit (s := S2x16x5120) (slotOff s) S1x16x5120.size (seS_inb s)).set := seS_set s
theorem seS_disj (s s' : Fin 2) (h : s ≠ s') : Disjoint (seI s) (seI s') := by
  rw [seI_eq, seI_eq]
  exact Ring.lead_disjoint (s := S2x16x5120) (0 : Fin 3) 1 (fun j : Fin 2 => slotOff j) S1x16x5120.size seS_inb (fun b => by show b.val = 1 * b.val; omega) rfl s s' h
theorem seS_cover : Finset.univ.biUnion seI = Finset.univ := by
  rw [show seI = _ from funext seI_eq]
  exact Ring.lead_cover (s := S2x16x5120) (0 : Fin 3) 1 (fun j : Fin 2 => slotOff j) S1x16x5120.size seS_inb (fun b => by show b.val = 1 * b.val; omega)
    (fun b a ha => by fin_cases a; exacts [absurd rfl ha, rfl, rfl]) rfl (fun a ha => by fin_cases a; exacts [absurd rfl ha, rfl, rfl]) rfl
theorem seS_cut : iprop(∃ f : Buf (Elt F) (seM.view.loc (c : Thread nD τ)), seM.view.loc (c : Thread nD τ) ↦{fullShare} f) ⊢ (iprop((∃ f, own c (seS 0) fullShare f) ∗ (∃ f, own c (seS 1) fullShare f)) : sProp 𝕄) :=
  (cut_some (ℓ := seM.view.loc (c : Thread nD τ)) seI seS_disj seS_cover).trans (by rw [fin2]; exact .rfl)
theorem seS_join : (iprop((∃ f, own c (seS 0) fullShare f) ∗ (∃ f, own c (seS 1) fullShare f)) : sProp 𝕄) ⊢ iprop(∃ f : Buf (Elt F) (seM.view.loc (c : Thread nD τ)), seM.view.loc (c : Thread nD τ) ↦{fullShare} f) :=
  .trans (by rw [fin2]; exact .rfl) (join_some (ℓ := seM.view.loc (c : Thread nD τ)) seI seS_disj seS_cover)

section Phi
variable (V : (c : Dev nD) → (b : Ref sig .tc) → Buf (Elt F) ((c.tc : Thread nD τ).loc b))

/-- The kernel's own cells, by their numbers. -/
abbrev osem0 : Fin 16 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 16 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(cell c (gC 0) ∗ cell c (gC 1) ∗ cell c (gC 2) ∗ cell c (gC 3) ∗ cell c (uC 0) ∗ cell c (uC 1) ∗ cell c (uC 2) ∗ cell c (uC 3) ∗ cell c (dC 0) ∗ cell c (dC 1) ∗ cell c (dC 2) ∗ cell c (dC 3) ∗ cell c (sgC 0) ∗ cell c (sgC 1) ∗ cell c (seC 0) ∗ cell c (seC 1)) := by
  rw [Pipeline.ownSems0_eq_of_list c osem0 [0, 1, 2, 3, 4, 5, 6, 7, 8, 9, 10, 11, 12, 13, 14, 15] (by decide) (by decide)]; rfl
/-- The arrays left where they are. -/
def H0 : Finset (Ref sig .tc) := {main_arg3, main_arg4, main_arg5, main_arg6}
theorem H0_sub : H0 ⊆ Pipeline.restRefs sig spec0 := by decide
theorem hbmPts0_eq :
    (bigSep H0 (fun b => ((c : Thread nD τ).loc b) ↦{fullShare} V c b) : sProp 𝕄)
      = iprop((wguM.view.loc (c : Thread nD τ) ↦{fullShare} V c main_arg3) ∗ (sguM.view.loc (c : Thread nD τ) ↦{fullShare} V c main_arg4) ∗ (wdM.view.loc (c : Thread nD τ) ↦{fullShare} V c main_arg5) ∗ (sdM.view.loc (c : Thread nD τ) ↦{fullShare} V c main_arg6)) := by
  rw [BI.bigSep_eq_bigSepL_of_eq [main_arg3, main_arg4, main_arg5, main_arg6] (by decide) (by decide)]; rfl

/-- What is left of the arrays once every cell has its share. -/
def rem : sProp 𝕄 :=
  iprop((wguM.view.loc (c : Thread nD τ) ↦{Transfers.shareDrop fullShare 8} V c main_arg3) ∗ (sguM.view.loc (c : Thread nD τ) ↦{Transfers.shareDrop fullShare 2} V c main_arg4) ∗ (wdM.view.loc (c : Thread nD τ) ↦{Transfers.shareDrop fullShare 4} V c main_arg5) ∗ (sdM.view.loc (c : Thread nD τ) ↦{Transfers.shareDrop fullShare 2} V c main_arg6))

theorem deal3 (X : Buf (Elt F) (wguM.view.loc (c : Thread nD τ))) :
    (wguM.view.loc (c : Thread nD τ) ↦{fullShare} X : sProp 𝕄) ⊣⊢ iprop((wguM.view.loc (c : Thread nD τ) ↦{Transfers.shareDrop fullShare 8} X) ∗ (wguM.view.loc (c : Thread nD τ) ↦{qg 0} X) ∗ (wguM.view.loc (c : Thread nD τ) ↦{qg 1} X) ∗ (wguM.view.loc (c : Thread nD τ) ↦{qg 2} X) ∗ (wguM.view.loc (c : Thread nD τ) ↦{qg 3} X) ∗ (wguM.view.loc (c : Thread nD τ) ↦{qu 0} X) ∗ (wguM.view.loc (c : Thread nD τ) ↦{qu 1} X) ∗ (wguM.view.loc (c : Thread nD τ) ↦{qu 2} X) ∗ (wguM.view.loc (c : Thread nD τ) ↦{qu 3} X)) := by
  have h := Transfers.pointsTo_toks (Ix := Unit) (Val := Elt F) (Name := ℕ) (U := Pipeline.UD sig nD τ) (Lvl := ℕ) (ℓ := wguM.view.loc (c : Thread nD τ)) (S := Finset.univ) (f := X) fullShare 8
  rw [fin8] at h
  exact h
theorem deal5 (X : Buf (Elt F) (wdM.view.loc (c : Thread nD τ))) :
    (wdM.view.loc (c : Thread nD τ) ↦{fullShare} X : sProp 𝕄) ⊣⊢ iprop((wdM.view.loc (c : Thread nD τ) ↦{Transfers.shareDrop fullShare 4} X) ∗ (wdM.view.loc (c : Thread nD τ) ↦{qd 0} X) ∗ (wdM.view.loc (c : Thread nD τ) ↦{qd 1} X) ∗ (wdM.view.loc (c : Thread nD τ) ↦{qd 2} X) ∗ (wdM.view.loc (c : Thread nD τ) ↦{qd 3} X)) := by
  have h := Transfers.pointsTo_toks (Ix := Unit) (Val := Elt F) (Name := ℕ) (U := Pipeline.UD sig nD τ) (Lvl := ℕ) (ℓ := wdM.view.loc (c : Thread nD τ)) (S := Finset.univ) (f := X) fullShare 4
  rw [fin4] at h
  exact h
theorem deal4 (X : Buf (Elt F) (sguM.view.loc (c : Thread nD τ))) :
    (sguM.view.loc (c : Thread nD τ) ↦{fullShare} X : sProp 𝕄) ⊣⊢ iprop((sguM.view.loc (c : Thread nD τ) ↦{Transfers.shareDrop fullShare 2} X) ∗ (sguM.view.loc (c : Thread nD τ) ↦{qsg 0} X) ∗ (sguM.view.loc (c : Thread nD τ) ↦{qsg 1} X)) := by
  have h := Transfers.pointsTo_toks (Ix := Unit) (Val := Elt F) (Name := ℕ) (U := Pipeline.UD sig nD τ) (Lvl := ℕ) (ℓ := sguM.view.loc (c : Thread nD τ)) (S := Finset.univ) (f := X) fullShare 2
  rw [fin2] at h
  exact h
theorem deal6 (X : Buf (Elt F) (sdM.view.loc (c : Thread nD τ))) :
    (sdM.view.loc (c : Thread nD τ) ↦{fullShare} X : sProp 𝕄) ⊣⊢ iprop((sdM.view.loc (c : Thread nD τ) ↦{Transfers.shareDrop fullShare 2} X) ∗ (sdM.view.loc (c : Thread nD τ) ↦{qse 0} X) ∗ (sdM.view.loc (c : Thread nD τ) ↦{qse 1} X)) := by
  have h := Transfers.pointsTo_toks (Ix := Unit) (Val := Elt F) (Name := ℕ) (U := Pipeline.UD sig nD τ) (Lvl := ℕ) (ℓ := sdM.view.loc (c : Thread nD τ)) (S := Finset.univ) (f := X) fullShare 2
  rw [fin2] at h
  exact h

theorem own_whole (b : Ref sig .tc) (f : Buf (Elt F) ((Memref.whole b).view.loc (c : Thread nD τ))) :
    own c (Memref.whole b) fullShare f = ((c : Thread nD τ).loc b ↦{fullShare} f : sProp 𝕄) := by
  unfold own; rw [show (Memref.whole b).view.set = Finset.univ from View.set_whole b]
theorem own_whole_of (b : Ref sig .tc) (f : Buf (Elt F) ((Memref.whole b).view.loc (c : Thread nD τ))) :
    ((c : Thread nD τ).loc b ↦{fullShare} f : sProp 𝕄) ⊢ own c (Memref.whole b) fullShare f := by
  rw [own_whole]
theorem own_whole_to (b : Ref sig .tc) (f : Buf (Elt F) ((Memref.whole b).view.loc (c : Thread nD τ))) :
    own c (Memref.whole b) fullShare f ⊢ ((c : Thread nD τ).loc b ↦{fullShare} f : sProp 𝕄) := by
  rw [own_whole]

/-- Opened at entry … -/
theorem phi_open : (Pipeline.ΦD osem0 spec0 H0 V c : sProp 𝕄)
    ⊢ iprop((∃ r, prngReg c r) ∗ rem c V ∗ scr c (V c main_arg3) (V c main_arg4) (V c main_arg5) (V c main_arg6)) := by
  rw [Pipeline.ΦD_eq, scopedRest0_eq, ownSems00_eq, hbmPts0_eq]
  iintro ⟨⟨B1, B2, B3, B4, B5, ⟨%f6, B6⟩, ⟨%f7, B7⟩, ⟨%f8, B8⟩, ⟨%f9, B9⟩, ⟨%f10, B10⟩, ⟨%f0, B0⟩⟩, HP, ⟨Cg0, Cg1, Cg2, Cg3, Cu0, Cu1, Cu2, Cu3, Cd0, Cd1, Cd2, Cd3, Csg0, Csg1, Cse0, Cse1⟩, X3, X4, X5, X6⟩
  ihave B1 := (gS_cut c) $$ B1
  icases B1 with ⟨Bg0, Bg1, Bg2, Bg3⟩
  ihave B2 := (uS_cut c) $$ B2
  icases B2 with ⟨Bu0, Bu1, Bu2, Bu3⟩
  ihave B3 := (dS_cut c) $$ B3
  icases B3 with ⟨Bd0, Bd1, Bd2, Bd3⟩
  ihave B4 := (sgS_cut c) $$ B4
  icases B4 with ⟨Bsg0, Bsg1⟩
  ihave B5 := (seS_cut c) $$ B5
  icases B5 with ⟨Bse0, Bse1⟩
  ihave X3 := (deal3 c (V c main_arg3)).1 $$ X3
  icases X3 with ⟨X3, Tg0, Tg1, Tg2, Tg3, Tu0, Tu1, Tu2, Tu3⟩
  ihave X5 := (deal5 c (V c main_arg5)).1 $$ X5
  icases X5 with ⟨X5, Td0, Td1, Td2, Td3⟩
  ihave X4 := (deal4 c (V c main_arg4)).1 $$ X4
  icases X4 with ⟨X4, Tsg0, Tsg1⟩
  ihave X6 := (deal6 c (V c main_arg6)).1 $$ X6
  icases X6 with ⟨X6, Tse0, Tse1⟩
  isplitl [HP]; · iexact HP
  isplitl [X3 X4 X5 X6]
  · unfold rem
    isplitl [X3]; · iexact X3
    isplitl [X4]; · iexact X4
    isplitl [X5]; · iexact X5
    iexact X6
  unfold scr
  isplitl [B0]; · iexists f0; iapply (own_whole_of c cc0_scratch0 f0); iexact B0
  isplitl [Bsg0 Csg0 Tsg0]
  · unfold sgFree
    isplitl [Bsg0]; · iexact Bsg0
    isplitl [Csg0]; · iexact Csg0
    iexact Tsg0
  isplitl [Bse0 Cse0 Tse0]
  · unfold seFree
    isplitl [Bse0]; · iexact Bse0
    isplitl [Cse0]; · iexact Cse0
    iexact Tse0
  isplitl [Bsg1 Csg1 Tsg1]
  · unfold sgFree
    isplitl [Bsg1]; · iexact Bsg1
    isplitl [Csg1]; · iexact Csg1
    iexact Tsg1
  isplitl [Bse1 Cse1 Tse1]
  · unfold seFree
    isplitl [Bse1]; · iexact Bse1
    isplitl [Cse1]; · iexact Cse1
    iexact Tse1
  isplitl [Bg0 Cg0 Tg0]
  · unfold gFree
    isplitl [Bg0]; · iexact Bg0
    isplitl [Cg0]; · iexact Cg0
    iexact Tg0
  isplitl [Bu0 Cu0 Tu0]
  · unfold uFree
    isplitl [Bu0]; · iexact Bu0
    isplitl [Cu0]; · iexact Cu0
    iexact Tu0
  isplitl [Bd0 Cd0 Td0]
  · unfold dFree
    isplitl [Bd0]; · iexact Bd0
    isplitl [Cd0]; · iexact Cd0
    iexact Td0
  isplitl [Bg1 Cg1 Tg1]
  · unfold gFree
    isplitl [Bg1]; · iexact Bg1
    isplitl [Cg1]; · iexact Cg1
    iexact Tg1
  isplitl [Bu1 Cu1 Tu1]
  · unfold uFree
    isplitl [Bu1]; · iexact Bu1
    isplitl [Cu1]; · iexact Cu1
    iexact Tu1
  isplitl [Bd1 Cd1 Td1]
  · unfold dFree
    isplitl [Bd1]; · iexact Bd1
    isplitl [Cd1]; · iexact Cd1
    iexact Td1
  isplitl [Bg2 Cg2 Tg2]
  · unfold gFree
    isplitl [Bg2]; · iexact Bg2
    isplitl [Cg2]; · iexact Cg2
    iexact Tg2
  isplitl [Bu2 Cu2 Tu2]
  · unfold uFree
    isplitl [Bu2]; · iexact Bu2
    isplitl [Cu2]; · iexact Cu2
    iexact Tu2
  isplitl [Bd2 Cd2 Td2]
  · unfold dFree
    isplitl [Bd2]; · iexact Bd2
    isplitl [Cd2]; · iexact Cd2
    iexact Td2
  isplitl [Bg3 Cg3 Tg3]
  · unfold gFree
    isplitl [Bg3]; · iexact Bg3
    isplitl [Cg3]; · iexact Cg3
    iexact Tg3
  isplitl [Bu3 Cu3 Tu3]
  · unfold uFree
    isplitl [Bu3]; · iexact Bu3
    isplitl [Cu3]; · iexact Cu3
    iexact Tu3
  isplitl [Bd3 Cd3 Td3]
  · unfold dFree
    isplitl [Bd3]; · iexact Bd3
    isplitl [Cd3]; · iexact Cd3
    iexact Td3
  isplitl [B6]; · iexists f6; iapply (own_whole_of c cc0_scratch6 f6); iexact B6
  isplitl [B7]; · iexists f7; iapply (own_whole_of c cc0_scratch7 f7); iexact B7
  isplitl [B8]; · iexists f8; iapply (own_whole_of c cc0_scratch8 f8); iexact B8
  isplitl [B9]; · iexists f9; iapply (own_whole_of c cc0_scratch9 f9); iexact B9
  iexists f10; iapply (own_whole_of c cc0_scratch10 f10); iexact B10

/-- … and put back at exit. -/
theorem phi_close : iprop((∃ r, prngReg c r) ∗ rem c V ∗ scr c (V c main_arg3) (V c main_arg4) (V c main_arg5) (V c main_arg6))
    ⊢ (Pipeline.ΦD osem0 spec0 H0 V c : sProp 𝕄) := by
  rw [Pipeline.ΦD_eq, scopedRest0_eq, ownSems00_eq, hbmPts0_eq]
  unfold scr rem sgFree seFree gFree uFree dFree
  iintro ⟨HP, ⟨X3, X4, X5, X6⟩, ⟨%f0, B0⟩, ⟨Bsg0, Csg0, Tsg0⟩, ⟨Bse0, Cse0, Tse0⟩, ⟨Bsg1, Csg1, Tsg1⟩, ⟨Bse1, Cse1, Tse1⟩, ⟨Bg0, Cg0, Tg0⟩, ⟨Bu0, Cu0, Tu0⟩, ⟨Bd0, Cd0, Td0⟩, ⟨Bg1, Cg1, Tg1⟩, ⟨Bu1, Cu1, Tu1⟩, ⟨Bd1, Cd1, Td1⟩, ⟨Bg2, Cg2, Tg2⟩, ⟨Bu2, Cu2, Tu2⟩, ⟨Bd2, Cd2, Td2⟩, ⟨Bg3, Cg3, Tg3⟩, ⟨Bu3, Cu3, Tu3⟩, ⟨Bd3, Cd3, Td3⟩, ⟨%f6, B6⟩, ⟨%f7, B7⟩, ⟨%f8, B8⟩, ⟨%f9, B9⟩, ⟨%f10, B10⟩⟩
  isplitl [B0 B6 B7 B8 B9 B10 Bsg0 Bse0 Bsg1 Bse1 Bg0 Bu0 Bd0 Bg1 Bu1 Bd1 Bg2 Bu2 Bd2 Bg3 Bu3 Bd3]
  · isplitl [Bg0 Bg1 Bg2 Bg3]
    · iapply (gS_join c)
      isplitl [Bg0]; · iexact Bg0
      isplitl [Bg1]; · iexact Bg1
      isplitl [Bg2]; · iexact Bg2
      iexact Bg3
    isplitl [Bu0 Bu1 Bu2 Bu3]
    · iapply (uS_join c)
      isplitl [Bu0]; · iexact Bu0
      isplitl [Bu1]; · iexact Bu1
      isplitl [Bu2]; · iexact Bu2
      iexact Bu3
    isplitl [Bd0 Bd1 Bd2 Bd3]
    · iapply (dS_join c)
      isplitl [Bd0]; · iexact Bd0
      isplitl [Bd1]; · iexact Bd1
      isplitl [Bd2]; · iexact Bd2
      iexact Bd3
    isplitl [Bsg0 Bsg1]
    · iapply (sgS_join c)
      isplitl [Bsg0]; · iexact Bsg0
      iexact Bsg1
    isplitl [Bse0 Bse1]
    · iapply (seS_join c)
      isplitl [Bse0]; · iexact Bse0
      iexact Bse1
    isplitl [B6]; · iexists f6; iapply (own_whole_to c cc0_scratch6 f6); iexact B6
    isplitl [B7]; · iexists f7; iapply (own_whole_to c cc0_scratch7 f7); iexact B7
    isplitl [B8]; · iexists f8; iapply (own_whole_to c cc0_scratch8 f8); iexact B8
    isplitl [B9]; · iexists f9; iapply (own_whole_to c cc0_scratch9 f9); iexact B9
    isplitl [B10]; · iexists f10; iapply (own_whole_to c cc0_scratch10 f10); iexact B10
    iexists f0; iapply (own_whole_to c cc0_scratch0 f0); iexact B0
  isplitl [HP]; · iexact HP
  isplitl [Cg0 Cg1 Cg2 Cg3 Cu0 Cu1 Cu2 Cu3 Cd0 Cd1 Cd2 Cd3 Csg0 Csg1 Cse0 Cse1]
  · isplitl [Cg0]; · iexact Cg0
    isplitl [Cg1]; · iexact Cg1
    isplitl [Cg2]; · iexact Cg2
    isplitl [Cg3]; · iexact Cg3
    isplitl [Cu0]; · iexact Cu0
    isplitl [Cu1]; · iexact Cu1
    isplitl [Cu2]; · iexact Cu2
    isplitl [Cu3]; · iexact Cu3
    isplitl [Cd0]; · iexact Cd0
    isplitl [Cd1]; · iexact Cd1
    isplitl [Cd2]; · iexact Cd2
    isplitl [Cd3]; · iexact Cd3
    isplitl [Csg0]; · iexact Csg0
    isplitl [Csg1]; · iexact Csg1
    isplitl [Cse0]; · iexact Cse0
    iexact Cse1
  isplitl [X3 Tg0 Tg1 Tg2 Tg3 Tu0 Tu1 Tu2 Tu3]
  · iapply (deal3 c (V c main_arg3)).2
    isplitl [X3]; · iexact X3
    isplitl [Tg0]; · iexact Tg0
    isplitl [Tg1]; · iexact Tg1
    isplitl [Tg2]; · iexact Tg2
    isplitl [Tg3]; · iexact Tg3
    isplitl [Tu0]; · iexact Tu0
    isplitl [Tu1]; · iexact Tu1
    isplitl [Tu2]; · iexact Tu2
    iexact Tu3
  isplitl [X4 Tsg0 Tsg1]
  · iapply (deal4 c (V c main_arg4)).2
    isplitl [X4]; · iexact X4
    isplitl [Tsg0]; · iexact Tsg0
    iexact Tsg1
  isplitl [X5 Td0 Td1 Td2 Td3]
  · iapply (deal5 c (V c main_arg5)).2
    isplitl [X5]; · iexact X5
    isplitl [Td0]; · iexact Td0
    isplitl [Td1]; · iexact Td1
    isplitl [Td2]; · iexact Td2
    iexact Td3
  · iapply (deal6 c (V c main_arg6)).2
    isplitl [X6]; · iexact X6
    isplitl [Tse0]; · iexact Tse0
    iexact Tse1

end Phi
end Cuts
end Cert.Proof.KernelIdeal
-- ==== Proof.IdealLaunch.lean ====
/-
  The launch: the body's triple at the one point, and the run of the whole program.
-/
module

public import proofs.«01_k».proof.Proof.IdealCuts
public import proofs.«01_k».proof.Proof.Gen.KernelIdeal.Frame
public import Idealize.ShloMosaic.Lib.Pipeline.Frame

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

abbrev hst0 (t : Fin cfg0.N) : (st0_0 t).IsWhole := hstage0_0 0
abbrev hst1 (t : Fin cfg0.N) : (st0_1 t).IsWhole := hstage0_1 0
abbrev hst2 (t : Fin cfg0.N) : (st0_2 t).IsWhole := hstage0_2 0
abbrev hst3 (t : Fin cfg0.N) : (st0_3 t).IsWhole := hstage0_3 0

/-- Some expert is asked for, on core `c`. -/
def Asked (c : Dev nD) : Prop :=
  ∀ (t : Fin cfg0.N) (f0 : Buf (Elt F) ((st0_0 t).view.loc (c : Thread nD τ))), (st0_0 t).view.read (Elt F) f0 = iblk m c 0 t → 1 ≤ (hits c (st0_0 t) f0 4).length

/-- The output's buffer as a run on the launched arrays may leave it. -/
def Left (c : Dev nD) (t : Fin cfg0.N) (out : Buf (Elt F) ((st0_3 t).view.loc (c : Thread nD τ))) : Prop :=
  ∃ (f0 : Buf (Elt F) ((st0_0 t).view.loc (c : Thread nD τ))) (f1 : Buf (Elt F) ((st0_1 t).view.loc (c : Thread nD τ))) (f2 : Buf (Elt F) ((st0_2 t).view.loc (c : Thread nD τ))),
    ((st0_0 t).view.read (Elt F) f0 = iblk m c 0 t ∧ (st0_1 t).view.read (Elt F) f1 = iblk m c 1 t ∧ (st0_2 t).view.read (Elt F) f2 = iblk m c 2 t)
    ∧ OutOK c (V m c main_arg3) (V m c main_arg4) (V m c main_arg5) (V m c main_arg6) (st0_0 t) (hst0 t) (st0_1 t) (hst1 t) (st0_2 t) (hst2 t) (st0_3 t) (hst3 t) f0 f1 f2 out

/-- The body at the point: the triple every obligation below restates. -/
theorem point (c : Dev nD) (hne : Asked m c) (t : Fin cfg0.N) (W : Waits sig Unit) :
    iprop(Pipeline.ΦD osem0 spec0 H0 (V m) c ∗ owes (c : Thread nD τ) 0 W ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ d, owns (c : Thread nD τ) (st0_3 t) fullShare d))
    ⊢ wp frame (wpE (defs₀ (F := F)) 𝒱₀ (c : Thread nD τ) none) Set.univ (bodyAt0 t)
        (fun _ => iprop(Pipeline.ΦD osem0 spec0 H0 (V m) c ∗ (∃ W, owes (c : Thread nD τ) 0 W) ∗ owns (c : Thread nD τ) (st0_0 t) fullShare (iblk m c 0 t) ∗ owns (c : Thread nD τ) (st0_1 t) fullShare (iblk m c 1 t) ∗ owns (c : Thread nD τ) (st0_2 t) fullShare (iblk m c 2 t)
          ∗ (∃ out, ⌜Left m c t out⌝ ∗ own c (st0_3 t) fullShare out))) := by
  iintro ⟨HΦ, HW, H0, H1, H2, H7⟩
  ihave HΦ := (phi_open c (V m)) $$ HΦ
  icases HΦ with ⟨HP, HR, HS⟩
  unfold owns
  icases H0 with ⟨%f0, %e0, H0⟩
  icases H1 with ⟨%f1, %e1, H1⟩
  icases H2 with ⟨%f2, %e2, H2⟩
  icases H7 with ⟨%d7, %f7, %e7, H7⟩
  iapply (wp_wand_r Idealize.ShloMosaic.frame (wpE (defs₀ (F := F)) 𝒱₀ (c : Thread nD τ) none) Set.univ)
  isplitl [HW H0 H1 H2 H7 HS]
  · iapply (body_run c (V m c main_arg3) (V m c main_arg4) (V m c main_arg5) (V m c main_arg6) (st0_0 t) (hst0 t) (st0_1 t) (hst1 t) (st0_2 t) (hst2 t) (st0_3 t) (hst3 t) f0 f1 f2 f7 W (hne t f0 e0))
    isplitl [H0]; · iexact H0
    isplitl [H1]; · iexact H1
    isplitl [H2]; · iexact H2
    isplitl [H7]; · iexact H7
    isplitl [HW]; · iexact HW
    iexact HS
  iintro %_ ⟨H0, H1, H2, ⟨%out, %hout, H7⟩, HW, HS⟩
  isplitl [HP HR HS]
  · iapply (phi_close c (V m))
    isplitl [HP]; · iexact HP
    isplitl [HR]; · iexact HR
    iexact HS
  isplitl [HW]; · iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists out
  isplitr
  · ipureintro; exact ⟨f0, f1, f2, ⟨e0, e1, e2⟩, hout⟩
  iexact H7

/-- The proof data, the output's block left at `o`. -/
def dats (o : Dev nD → (cfg0.win 3).block.Idx → Elt F (cfg0.win 3).elt) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o c
  Φ _ := Pipeline.ΦD osem0 spec0 H0 (V m) c
  q _ := fullShare
  owed _ := 0

variable (o : Dev nD → (cfg0.win 3).block.Idx → Elt F (cfg0.win 3).elt)

theorem A_eq (c : Dev nD) (w : Fin cfg0.W) : (dats m o 0 c).A w = V m c (Pipeline.arrRef spec0 w) := by dsimp only [dats]
theorem before_w0 (c : Dev nD) (t : Fin cfg0.N) (d) : (dats m o 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m o 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m o 0 c).before 2 t d = iblk m c 2 t := by
  unfold Dat.before; rw [if_pos (fetch0_2 t)]; unfold Dat.fetched Dat.blockOf iblk; dsimp only [dats]; rfl
theorem after_w0 (c : Dev nD) (t : Fin cfg0.N) : (dats m o 0 c).after 0 t = iblk m c 0 t := by dsimp only [dats]
theorem after_w1 (c : Dev nD) (t : Fin cfg0.N) : (dats m o 0 c).after 1 t = iblk m c 1 t := by dsimp only [dats]
theorem after_w2 (c : Dev nD) (t : Fin cfg0.N) : (dats m o 0 c).after 2 t = iblk m c 2 t := by dsimp only [dats]
theorem after_w3 (c : Dev nD) (t : Fin cfg0.N) : (dats m o 0 c).after 3 t = o c := by dsimp only [dats]

theorem defs₀_row (t : Fin cfg0.N) : defs₀ (F := F) .tc cfg0.body (cfg0.bodyArgs t (cfg0.slots t)) = bodyAt0 t := by
  unfold defs₀; rw [Defs.onTc_tc]

/-- The output unread. -/
def forgets0 : Fin 4 → Bool := fun w => w == 3

def bodyPre (c : Dev nD) (t : Fin cfg0.N) : sProp 𝕄 :=
  iprop((dats m o 0 c).Φ t.castSucc ∗ (dats m o 0 c).owesAt () t.castSucc
    ∗ (∃ d, owns (c : Thread nD τ) (st0_0 t) fullShare ((dats m o 0 c).before 0 t d)) ∗ (∃ d, owns (c : Thread nD τ) (st0_1 t) fullShare ((dats m o 0 c).before 1 t d)) ∗ (∃ d, owns (c : Thread nD τ) (st0_2 t) fullShare ((dats m o 0 c).before 2 t d))
    ∗ (∃ d, owns (c : Thread nD τ) (st0_3 t) fullShare d))
def bodyPost (c : Dev nD) (t : Fin cfg0.N) (Q : sProp 𝕄) : sProp 𝕄 :=
  iprop((dats m o 0 c).Φ t.succ ∗ (dats m o 0 c).owesAt () t.succ
    ∗ owns (c : Thread nD τ) (st0_0 t) fullShare ((dats m o 0 c).after 0 t) ∗ owns (c : Thread nD τ) (st0_1 t) fullShare ((dats m o 0 c).after 1 t) ∗ owns (c : Thread nD τ) (st0_2 t) fullShare ((dats m o 0 c).after 2 t)
    ∗ Q)

theorem sound_body (c : Dev nD) (hne : Asked m c) (t : Fin cfg0.N) (Q : sProp 𝕄) (hQ : ∀ out, Left m c t out → (own c (st0_3 t) fullShare out ⊢ Q)) :
    bodyPre m o c t ⊢ wp frame (wpE (defs₀ (F := F)) 𝒱₀ (c : Thread nD τ) none) Set.univ (bodyAt0 t) (fun _ => bodyPost m o c t Q) := by
  unfold bodyPre bodyPost
  rw [show (dats m o 0 c).Φ t.succ = Pipeline.ΦD osem0 spec0 H0 (V m) c from rfl, show (dats m o 0 c).Φ t.castSucc = Pipeline.ΦD osem0 spec0 H0 (V m) c from rfl, after_w0, after_w1, after_w2]
  simp only [before_w0, before_w1, before_w2]
  unfold Dat.owesAt Pipeline.owesWithin
  rw [show (dats m o 0 c).owed t.castSucc = 0 from rfl, show (dats m o 0 c).owed t.succ = 0 from rfl]
  iintro ⟨HΦ, ⟨%W, %hW, HW⟩, ⟨%_, H0⟩, ⟨%_, H1⟩, ⟨%_, H2⟩, H7⟩
  iapply (wp_wand_r Idealize.ShloMosaic.frame (wpE (defs₀ (F := F)) 𝒱₀ (c : Thread nD τ) none) Set.univ)
  isplitl [HΦ HW H0 H1 H2 H7]
  · iapply (point m c hne t W)
    isplitl [HΦ]; · iexact HΦ
    isplitl [HW]; · iexact HW
    isplitl [H0]; · iexact H0
    isplitl [H1]; · iexact H1
    isplitl [H2]; · iexact H2
    iexact H7
  iintro %_ ⟨HΦ, ⟨%W', HW⟩, H0, H1, H2, ⟨%out, %hout, H7⟩⟩
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  iapply (hQ out hout)
  iexact H7

theorem body_frame (c : Dev nD) (hne : Asked m c) : BodyObligation (dats (F := F) m o 0 c) (defs₀ (F := F)) 𝒱₀ () Set.univ forgets0 := fun t => by
  rw [bigSep_W0, bigSep_W0, defs₀_row]
  exact triple_restated (sound_body m o c hne t iprop(∃ d, owns (c : Thread nD τ) (st0_3 t) fullShare d) (fun out _ => by
    iintro H
    iexists _
    iapply (owns_intro (c : Thread nD τ) (st0_3 t) fullShare out)
    iexact H)) rfl .rfl fun _ => .rfl

theorem body_value (c : Dev nD) (hne : Asked m c) (ho : ∀ t out, Left m c t out → (st0_3 t).view.read (Elt F) out = o c) : BodyObligation (dats (F := F) m o 0 c) (defs₀ (F := F)) 𝒱₀ () Set.univ := fun t => by
  rw [bigSep_W0, bigSep_W0, defs₀_row]
  refine triple_restated (sound_body m o c hne t (owns (c : Thread nD τ) (st0_3 t) fullShare (o c)) (fun out h => by
    rw [← ho t out h]
    exact owns_intro (c : Thread nD τ) (st0_3 t) fullShare out)) rfl ?_ fun _ => .rfl
  unfold bodyPre
  iintro ⟨HΦ, HW, H0, H1, H2, ⟨%d, H7⟩⟩
  isplitl [HΦ]; · iexact HΦ
  isplitl [HW]; · iexact HW
  isplitl [H0]; · iexact H0
  isplitl [H1]; · iexact H1
  isplitl [H2]; · iexact H2
  iexists _; iexact H7

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_frame (hne : ∀ c, Asked m c) :
    θ_run defs (onTc (τ := τ) (main (F := F))) (s₀ m ρ)
      (fun r => Pipeline.RDat.FramePost (cfgs 0) (fun c => (dats m o 0 c).toRForget forgets0) (V m) r ∧ r.2.sem = fun _ => 0) :=
  Pipeline.θ_run_frame_dma_forget (Q' := _) cfgs (dats m o) (0 : Fin 1) launch0 osem0 defs₀ 𝒱₀ forgets0 ownSemFacts0 H0 H0_sub m ρ main
    (hbody := fun c => (body_frame m o c (hne c)).loose) (hshare := fun c => (dats m o 0 c).share_full fun _ => rfl)
    (howed := fun _ _ => rfl) (V := V m) (hmain := hmainD m 𝒱₀) (hA := A_eq m o)
    (hin := fun _ => .rfl) (hout := fun _ => .rfl)

set_option backward.isDefEq.respectTransparency.types false in
theorem run_value (hne : ∀ c, Asked m c) (ho : ∀ c t out, Left m c t out → (st0_3 t).view.read (Elt F) out = o c) :
    θ_run defs (onTc (τ := τ) (main (F := F))) (s₀ m ρ)
      (fun r => Pipeline.FramePost cfgs (dats m o) 0 (V m) r ∧ r.2.sem = fun _ => 0) :=
  Pipeline.θ_run_frame_dma (Q' := _) cfgs (dats m o) (0 : Fin 1) launch0 osem0 defs₀ 𝒱₀ ownSemFacts0 H0 H0_sub m ρ main
    (hbody := fun c => (body_value m o c (hne c) (ho c)).loose) (hshare := fun c => (dats m o 0 c).share_full fun _ => rfl)
    (howed := fun _ _ => rfl) (V := V m) (hmain := hmainD m 𝒱₀) (hA := A_eq m o)
    (hin := fun _ => .rfl) (hout := fun _ => .rfl)

/-- The frame: every argument array as it was, every counter at zero. -/
theorem frame_run (hne : ∀ c, Asked m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ hh => ⟨fun c => by
      have h := hh.1
      have r0 := (congrFun (Pipeline.RDat.ArrAt_in ((dats m (fun _ _ => Classical.ofNonempty) 0 c).toRForget forgets0) 0 rfl _) _).mp ((h c).1 0)
      have r1 := (congrFun (Pipeline.RDat.ArrAt_in ((dats m (fun _ _ => Classical.ofNonempty) 0 c).toRForget forgets0) 1 rfl _) _).mp ((h c).1 1)
      exact ⟨((h c).2 main_arg0 (Pipeline.mem_restRefs_of main_arg0 (by decide) (by decide))).trans (V_main_arg0 m c),
      r0.trans (V_main_arg1 m c), r1.trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hh.2⟩) (run_frame m ρ (fun _ _ => Classical.ofNonempty) hne)

end Cert.Proof.KernelIdeal
-- ==== Proof.IdealAsk.lean ====
/-
  What the precondition gives the run: some expert of the four is asked for.
-/
module

public import proofs.«01_k».proof.Proof.IdealLaunch
public import proofs.«01_k».proof.Pre_some_expert
public import Idealize.ShloMosaic.Lib.Pipeline.Value

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Window)

variable {F : FTy → Type} [FloatOps F]
local notation "𝕄" => MT nD τ sig Unit (Elt F) ℕ (Pipeline.UD sig nD τ) ℕ

/-- Where token `r`'s `j`-th choice lies. -/
def ijx (r : Fin 16) (j : Fin 2) : S16x1x2.Idx := Fin.cons r (Fin.cons (0 : Fin 1) (Fin.cons j (fun a => a.elim0)))

theorem ijx_of (i : S16x1x2.Idx) : ∃ r j, i = ijx r j := by
  refine ⟨i 0, i 2, ?_⟩
  funext a
  fin_cases a
  · rfl
  · exact Subsingleton.elim (α := Fin 1) _ _
  · rfl

section
variable (c : Dev nD) (arg0 : Memref sig .tc .smem S16x1x2 .i32) (f0 : Buf (Elt F) (arg0.view.loc (c : Thread nD τ)))

omit [FloatOps F] in
theorem idw_read (r : Fin 16) (j : Fin 2) : idw c arg0 f0 r j = arg0.view.read (Elt F) f0 (ijx r j) := by
  unfold idw
  rw [View.readAt_apply]
  congr 1
  funext a
  refine Fin.ext ?_
  revert a
  intro a
  fin_cases a <;> rfl

theorem ori_one (x y : BitVec 1) : Scalar.ori x y = 1#1 ↔ x = 1#1 ∨ y = 1#1 := by revert x y; decide
theorem eq_one (x y : BitVec 32) : Scalar.cmpi .eq x y = 1#1 ↔ x = y := by
  show BitVec.ofBool (x == y) = 1#1 ↔ _
  by_cases h : x = y
  · subst h; simp
  · have : (x == y) = false := by simpa using h
    rw [this]; simp [h]
theorem ne_ext (x : BitVec 1) : Scalar.cmpi .ne (Scalar.extui x : BitVec 32) 0#32 = 1#1 ↔ x = 1#1 := by revert x; decide

omit [FloatOps F] in
/-- A trip's test: whether some token's choice is that expert. -/
theorem hitc_iff (k : Fin k0_t1_loop.trips) : hitc c arg0 f0 k = 1#1 ↔ ∃ r j, idw c arg0 f0 r j = Scf.iv 0#32 1#32 k.val := by
  unfold hitc k0_cond1
  simp only [ori_one, eq_one, ne_ext]
  constructor
  · intro h
    repeat' (first | exact ⟨_, _, h⟩ | (rcases h with h | h))
  · rintro ⟨r, j, h⟩
    fin_cases r <;> fin_cases j <;> simp only [Fin.zero_eta, Fin.mk_one, Fin.isValue, Fin.reduceFinMk] at h <;> simp only [h, true_or, or_true]
end

theorem fold_or (l : List (BitVec 1)) (a : BitVec 1) (h : l.foldl (fun r x => IntOp.ori r x) a = 1#1) : a = 1#1 ∨ ∃ x ∈ l, x = 1#1 := by
  induction l generalizing a with
  | nil => exact Or.inl h
  | cons x l ih =>
    rcases ih _ h with hl | ⟨y, hy, e⟩
    · have key : ∀ p q : BitVec 1, IntOp.ori p q = 1#1 → p = 1#1 ∨ q = 1#1 := by decide
      have := key a x hl
      rcases this with h | h
      · exact Or.inl h
      · exact Or.inr ⟨x, List.mem_cons_self .., h⟩
    · exact Or.inr ⟨y, List.mem_cons_of_mem _ hy, e⟩

theorem fold_or' {α : Type} (l : List α) (g : α → BitVec 1) (a : BitVec 1) (h : l.foldl (fun r n => IntOp.ori r (g n)) a = 1#1) : a = 1#1 ∨ ∃ n ∈ l, g n = 1#1 := by
  rw [← List.foldl_map (f := g) (g := fun r x => IntOp.ori r x)] at h
  rcases fold_or _ _ h with h | ⟨x, hx, e⟩
  · exact Or.inl h
  · obtain ⟨n, hn, rfl⟩ := List.mem_map.mp hx
    exact Or.inr ⟨n, hn, e⟩

theorem and_one (x y : BitVec 1) (h : IntOp.andi x y = 1#1) : x = 1#1 ∧ y = 1#1 := by revert x y; decide

theorem small_id (x : BitVec 32) (h0 : IntOp.cmpi .sge x 0#32 = 1#1) (h1 : IntOp.cmpi .slt x 4#32 = 1#1) : ∃ e : Fin 4, x = Scf.iv 0#32 1#32 e.val := by
  have b : ∀ p : Bool, BitVec.ofBool p = 1#1 → p = true := by decide
  have h2 : (0#32).sle x = true := b _ h0
  have h3 : x.slt 4#32 = true := b _ h1
  rw [BitVec.sle_iff_toInt_le] at h2
  rw [BitVec.slt_iff_toInt_lt] at h3
  have e : x.toNat < 4 := by
    have z : (0#32).toInt = 0 := rfl
    have f : (4#32).toInt = 4 := rfl
    rw [z] at h2
    rw [f] at h3
    rw [BitVec.toInt_eq_toNat_cond] at h2 h3
    have := x.isLt
    split at h2 <;> omega
  refine ⟨⟨x.toNat, e⟩, ?_⟩
  have hx : x = BitVec.ofNat 32 x.toNat := by simp
  refine hx.trans ?_
  show _ = Scf.iv 0#32 1#32 x.toNat
  generalize x.toNat = n at e
  interval_cases n <;> rfl

/-- The first window is the whole array of ids. -/
theorem ids_at (m : (ℓ : Loc nD τ sig) → Buf (Elt F) ℓ) (c : Dev nD) (t : Fin cfg0.N) (r : Fin 16) (j : Fin 2) :
    iblk m c 0 t (ijx r j) = m ((c.tc : Thread nD τ).loc main_arg1) (ijx r j) := by
  unfold iblk
  rw [View.read_apply, ← V_main_arg1 m c]
  show V m c main_arg1 _ = V m c main_arg1 _
  congr 1
  obtain rfl := fin_N0 t
  funext a
  refine Fin.ext ?_
  exact Window.rect_emb_val_of_index_zero (win0 0) t0_0 a (by fin_cases a <;> rfl) (ijx r j)

/-- The precondition, said of the ids. -/
theorem some_of (hP : Cert.Pre_some_expert.Facts) (x0 x1 x2 x3 x4 x5 x6) (h : Cert.Pre_some_expert.fn (F := F) x0 x1 x2 x3 x4 x5 x6 = fun _ => 1#1) :
    ∃ (i : S16x1x2.Idx) (k : Fin k0_t1_loop.trips), x1 i = Scf.iv 0#32 1#32 k.val := by
  have h0 := congrFun h (fun a => a.elim0)
  unfold Cert.Pre_some_expert.fn at h0
  dsimp only at h0
  unfold Host.reduce at h0
  rcases fold_or' _ _ _ h0 with h1 | ⟨n, hn, h1⟩
  · exact absurd h1 (by show ¬ (0#1 = 1#1); decide)
  · obtain ⟨h2, h3⟩ := and_one _ _ h1
    obtain ⟨e, he⟩ := small_id _ h2 h3
    exact ⟨_, e.cast trips1.symm, he⟩

/-- So some expert is asked for. -/
theorem asked (hP : Cert.Pre_some_expert.Facts) (m : (ℓ : Loc nD τ sig) → Buf (Elt F) ℓ) (c : Dev nD)
    (h : Cert.Pre_some_expert.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) : Asked m c := by
  intro t f0 hf
  obtain ⟨i, k, hi⟩ := some_of hP _ _ _ _ _ _ _ h
  obtain ⟨r, j, rfl⟩ := ijx_of i
  have hk : hitc c (st0_0 t) f0 k = 1#1 := by
    rw [hitc_iff]
    refine ⟨r, j, ?_⟩
    rw [idw_read, hf, ids_at]
    exact hi
  refine List.length_pos_of_mem (a := k.val) ?_
  unfold hits
  have hk' := k.isLt
  rw [List.mem_filter]
  refine ⟨List.mem_range.mpr (by have := trips1; omega), ?_⟩
  simp [hk]

end Cert.Proof.KernelIdeal
end
-- ==== Proof.V1.lean ====
/-
  One tile's product at an index.
-/
module

public import proofs.«01_k».proof.Proof.Gen.KernelIdeal.Skeleton
public import Idealize.ShloMosaic.Lib.Pointwise

@[expose] public section

noncomputable section

namespace Cert.Proof.Val

open Cert.KernelIdeal Cert.KernelIdeal.Gen
open Idealize.ShloMosaic
open Idealize.ShloMosaic.TcCoe Idealize.ShloMosaic.Tactic

/-- The weight's code of row `k`, from its byte. -/
def code (b : BitVec 8) (k : ℕ) : Ideal .f32 :=
  FloatOps.sitofp (F := Ideal) .bf16 (if k % 2 < 1 then IntOp.shrsi ArithUnit.vector (IntOp.shli ArithUnit.vector (BitVec.setWidth 32 b) 28#32) 28#32
    else IntOp.shrsi ArithUnit.vector (IntOp.shli ArithUnit.vector (BitVec.setWidth 32 b) 24#32) 28#32)

theorem code_par (b : BitVec 8) (k k' : ℕ) (h : k % 2 = k' % 2) : code b k = code b k' := by unfold code; rw [h]

/-- One product of a row by a column of weights. -/
def term (xf : ℕ → Ideal .f32) (wf : ℕ → BitVec 8) (sf : ℕ → Ideal .f32) (k : ℕ) : Ideal .f32 := xf k * (code (wf (k / 2)) k * sf (k / 128))

theorem sum_halves (f : ℕ → Ideal .f32) : ∑ k : Fin 128, f k.val + ∑ k : Fin 128, f (128 + k.val) = ∑ k ∈ Finset.range 256, f k := by
  rw [Fin.sum_univ_eq_sum_range (fun k => f k), Fin.sum_univ_eq_sum_range (fun k => f (128 + k))]
  exact (Finset.sum_range_add f 128 128).symm

theorem mm_at (x : Vec Ideal S16x256 .bf16) (w : Vec Ideal S1x128x256 .i8) (s : Vec Ideal S2x256 .f32) (r : Fin 16) (n : Fin 256)
    (xf : ℕ → Ideal .f32) (wf : ℕ → BitVec 8) (sf : ℕ → Ideal .f32) (b : ℕ)
    (hx : ∀ k : Fin 256, x (ix2 r k) = xf (256 * b + k.val)) (hw : ∀ k : Fin 128, w (ix3 0 k n) = wf (128 * b + k.val))
    (h0 : s (ix2 0 n) = sf (2 * b)) (h1 : s (ix2 1 n) = sf (2 * b + 1)) :
    k0_pay76 (F := Ideal) x w s (ix2 r n) = ∑ k ∈ Finset.range 256, term xf wf sf (256 * b + k) := by
  rw [← sum_halves]
  unfold k0_pay76 k0_pay75
  pointwise
  refine congrArg₂ (· + ·) (Finset.sum_congr rfl fun k _ => ?_) (Finset.sum_congr rfl fun k _ => ?_)
  · have hk := k.isLt
    refine congrArg₂ (· * ·) (hx _) (congrArg₂ (· * ·) ?_ (h0.trans ?_))
    · refine Eq.trans (b := code (w (ix3 0 ⟨k.val / 2, by omega⟩ n)) k.val) rfl ?_
      have e1 : (256 * b + k.val) / 2 = 128 * b + k.val / 2 := by omega
      have e2 : (256 * b + k.val) % 2 = k.val % 2 := by omega
      rw [hw, e1, code_par _ _ _ e2]
    · congr 1; omega
  · have hk := k.isLt
    refine congrArg₂ (· * ·) ((hx _).trans ?_) (congrArg₂ (· * ·) ?_ (h1.trans ?_))
    · rfl
    · refine Eq.trans (b := code (w (ix3 0 ⟨(128 + k.val) / 2, by omega⟩ n)) (128 + k.val)) rfl ?_
      have e1 : (256 * b + (128 + k.val)) / 2 = 128 * b + (128 + k.val) / 2 := by omega
      have e2 : (256 * b + (128 + k.val)) % 2 = (128 + k.val) % 2 := by omega
      rw [hw, e1, code_par _ _ _ e2]
    · congr 1; omega

theorem sum_next (f : ℕ → Ideal .f32) (b : ℕ) : ∑ k ∈ Finset.range (256 * b), f k + ∑ k ∈ Finset.range 256, f (256 * b + k) = ∑ k ∈ Finset.range (256 * (b + 1)), f k :=
  (Finset.sum_range_add f (256 * b) 256).symm

theorem sum_pairs (f : ℕ → Ideal .f32) (n : ℕ) : ∑ k ∈ Finset.range n, f (2 * k) + ∑ k ∈ Finset.range n, f (2 * k + 1) = ∑ k ∈ Finset.range (2 * n), f k := by
  induction n with
  | zero => simp
  | succ n ih =>
    rw [Finset.sum_range_succ, Finset.sum_range_succ, show 2 * (n + 1) = 2 * n + 1 + 1 from rfl, Finset.sum_range_succ, Finset.sum_range_succ, ← ih]
    abel

end Cert.Proof.Val
end
-- ==== Proof.V2.lean ====
/-
  What a load reads from a slot a copy filled, and what that copy carried.
-/
module

public import proofs.«01_k».proof.Proof.V1
public import proofs.«01_k».proof.Proof.IdealWhole
public import proofs.«01_k».proof.Proof.IdealStep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

set_option maxHeartbeats 4000000

section Reads
variable {F : FTy → Type} [FloatOps F]
/-- An index of a natural number, taken around the extent. -/
abbrev nat (n : ℕ) [NeZero n] (k : ℕ) : Fin n := Fin.ofNat n k
theorem nat_lt {n : ℕ} [NeZero n] {k : ℕ} (h : k < n) : nat n k = ⟨k, h⟩ := Fin.ext (Nat.mod_eq_of_lt h)

theorem sc_2560_256 {α : Type} (f : S1x2560x256.Idx → α) (a : Fin 2560) (n : Fin 256) : shapeCast S2560x256 f (by decide) (ix2 a n) = f (ix3 0 a n) := by pointwise

theorem sc_128_5120 {α : Type} (f : S1x128x5120.Idx → α) (a : Fin 128) (n : Fin 5120) : shapeCast S128x5120 f (by decide) (ix2 a n) = f (ix3 0 a n) := by pointwise

theorem sc_40_4096 {α : Type} (f : S1x40x4096.Idx → α) (a : Fin 40) (n : Fin 4096) : shapeCast S40x4096 f (by decide) (ix2 a n) = f (ix3 0 a n) := by pointwise

theorem sc_16_5120 {α : Type} (f : S1x16x5120.Idx → α) (a : Fin 16) (n : Fin 5120) : shapeCast S16x5120 f (by decide) (ix2 a n) = f (ix3 0 a n) := by pointwise

theorem g_at (s : Fin 4) (p : S2560x256.Idx → Elt F .i8) (f) (o q : ℕ) (off : Fin 3 → ℕ) (eo : off = ![s.val, o, q]) (h : ∀ a, off a + S1x128x256.size a ≤ S4x2560x256.size a)
    (k : Fin 128) (n : Fin 256) (hk : o + k.val < 2560) (hn : q + n.val < 256) :
    gM.view.readAt (Elt F) (Rect.unit (s := S4x2560x256) off S1x128x256.size h).toLoadRect ((gS s).view.writes (Elt F) f [⟨Rect.whole S2560x256, p⟩]) (ix3 0 k n) = p (ix2 (nat 2560 (o + k.val)) (nat 256 (q + n.val))) := by
  subst eo
  rw [nat_lt hk, nat_lt hn]
  conv_rhs => rw [← View.read_writes_whole (gS s).view f p]
  generalize (gS s).view.writes (Elt F) f [⟨Rect.whole S2560x256, p⟩] = g
  have e1 : (gS s).view.read (Elt F) g (ix2 ⟨o + k.val, hk⟩ ⟨q + n.val, hn⟩) = gM.view.readAt (Elt F) (Rect.unit (s := S4x2560x256) (slotOff s) S1x2560x256.size (gS_inb s)).toLoadRect g (ix3 0 ⟨o + k.val, hk⟩ ⟨q + n.val, hn⟩) :=
    sc_2560_256 (gM.view.readAt (Elt F) (Rect.unit (s := S4x2560x256) (slotOff s) S1x2560x256.size (gS_inb s)).toLoadRect g) _ _
  refine Eq.trans ?_ e1.symm
  have e2 : (Rect.unit (s := S4x2560x256) ![s.val, o, q] S1x128x256.size h).toLoadRect.idx (ix3 0 k n)
      = (Rect.unit (s := S4x2560x256) (slotOff s) S1x2560x256.size (gS_inb s)).toLoadRect.idx (ix3 0 ⟨o + k.val, hk⟩ ⟨q + n.val, hn⟩) := by
    refine funext fun a => Fin.ext ?_
    fin_cases a
    · show s.val + 1 * 0 = s.val + 1 * 0; rfl
    · show o + 1 * k.val = 0 + 1 * (o + k.val); omega
    · show q + 1 * n.val = 0 + 1 * (q + n.val); omega
  exact congrArg (gM.view.read (Elt F) g) e2

theorem u_at (s : Fin 4) (p : S2560x256.Idx → Elt F .i8) (f) (o q : ℕ) (off : Fin 3 → ℕ) (eo : off = ![s.val, o, q]) (h : ∀ a, off a + S1x128x256.size a ≤ S4x2560x256.size a)
    (k : Fin 128) (n : Fin 256) (hk : o + k.val < 2560) (hn : q + n.val < 256) :
    uM.view.readAt (Elt F) (Rect.unit (s := S4x2560x256) off S1x128x256.size h).toLoadRect ((uS s).view.writes (Elt F) f [⟨Rect.whole S2560x256, p⟩]) (ix3 0 k n) = p (ix2 (nat 2560 (o + k.val)) (nat 256 (q + n.val))) := by
  subst eo
  rw [nat_lt hk, nat_lt hn]
  conv_rhs => rw [← View.read_writes_whole (uS s).view f p]
  generalize (uS s).view.writes (Elt F) f [⟨Rect.whole S2560x256, p⟩] = g
  have e1 : (uS s).view.read (Elt F) g (ix2 ⟨o + k.val, hk⟩ ⟨q + n.val, hn⟩) = uM.view.readAt (Elt F) (Rect.unit (s := S4x2560x256) (slotOff s) S1x2560x256.size (uS_inb s)).toLoadRect g (ix3 0 ⟨o + k.val, hk⟩ ⟨q + n.val, hn⟩) :=
    sc_2560_256 (uM.view.readAt (Elt F) (Rect.unit (s := S4x2560x256) (slotOff s) S1x2560x256.size (uS_inb s)).toLoadRect g) _ _
  refine Eq.trans ?_ e1.symm
  have e2 : (Rect.unit (s := S4x2560x256) ![s.val, o, q] S1x128x256.size h).toLoadRect.idx (ix3 0 k n)
      = (Rect.unit (s := S4x2560x256) (slotOff s) S1x2560x256.size (uS_inb s)).toLoadRect.idx (ix3 0 ⟨o + k.val, hk⟩ ⟨q + n.val, hn⟩) := by
    refine funext fun a => Fin.ext ?_
    fin_cases a
    · show s.val + 1 * 0 = s.val + 1 * 0; rfl
    · show o + 1 * k.val = 0 + 1 * (o + k.val); omega
    · show q + 1 * n.val = 0 + 1 * (q + n.val); omega
  exact congrArg (uM.view.read (Elt F) g) e2

theorem d_at (s : Fin 4) (p : S128x5120.Idx → Elt F .i8) (f) (o q : ℕ) (off : Fin 3 → ℕ) (eo : off = ![s.val, o, q]) (h : ∀ a, off a + S1x128x256.size a ≤ S4x128x5120.size a)
    (k : Fin 128) (n : Fin 256) (hk : o + k.val < 128) (hn : q + n.val < 5120) :
    dM.view.readAt (Elt F) (Rect.unit (s := S4x128x5120) off S1x128x256.size h).toLoadRect ((dS s).view.writes (Elt F) f [⟨Rect.whole S128x5120, p⟩]) (ix3 0 k n) = p (ix2 (nat 128 (o + k.val)) (nat 5120 (q + n.val))) := by
  subst eo
  rw [nat_lt hk, nat_lt hn]
  conv_rhs => rw [← View.read_writes_whole (dS s).view f p]
  generalize (dS s).view.writes (Elt F) f [⟨Rect.whole S128x5120, p⟩] = g
  have e1 : (dS s).view.read (Elt F) g (ix2 ⟨o + k.val, hk⟩ ⟨q + n.val, hn⟩) = dM.view.readAt (Elt F) (Rect.unit (s := S4x128x5120) (slotOff s) S1x128x5120.size (dS_inb s)).toLoadRect g (ix3 0 ⟨o + k.val, hk⟩ ⟨q + n.val, hn⟩) :=
    sc_128_5120 (dM.view.readAt (Elt F) (Rect.unit (s := S4x128x5120) (slotOff s) S1x128x5120.size (dS_inb s)).toLoadRect g) _ _
  refine Eq.trans ?_ e1.symm
  have e2 : (Rect.unit (s := S4x128x5120) ![s.val, o, q] S1x128x256.size h).toLoadRect.idx (ix3 0 k n)
      = (Rect.unit (s := S4x128x5120) (slotOff s) S1x128x5120.size (dS_inb s)).toLoadRect.idx (ix3 0 ⟨o + k.val, hk⟩ ⟨q + n.val, hn⟩) := by
    refine funext fun a => Fin.ext ?_
    fin_cases a
    · show s.val + 1 * 0 = s.val + 1 * 0; rfl
    · show o + 1 * k.val = 0 + 1 * (o + k.val); omega
    · show q + 1 * n.val = 0 + 1 * (q + n.val); omega
  exact congrArg (dM.view.read (Elt F) g) e2

theorem sg_at (s : Fin 2) (p : S40x4096.Idx → Elt F .bf16) (f) (o q : ℕ) (off : Fin 3 → ℕ) (eo : off = ![s.val, o, q]) (h : ∀ a, off a + S1x40x4096.size a ≤ S2x40x4096.size a)
    (k : Fin 40) (n : Fin 4096) (hk : o + k.val < 40) (hn : q + n.val < 4096) :
    sgM.view.readAt (Elt F) (Rect.unit (s := S2x40x4096) off S1x40x4096.size h).toLoadRect ((sgS s).view.writes (Elt F) f [⟨Rect.whole S40x4096, p⟩]) (ix3 0 k n) = p (ix2 (nat 40 (o + k.val)) (nat 4096 (q + n.val))) := by
  subst eo
  rw [nat_lt hk, nat_lt hn]
  conv_rhs => rw [← View.read_writes_whole (sgS s).view f p]
  generalize (sgS s).view.writes (Elt F) f [⟨Rect.whole S40x4096, p⟩] = g
  have e1 : (sgS s).view.read (Elt F) g (ix2 ⟨o + k.val, hk⟩ ⟨q + n.val, hn⟩) = sgM.view.readAt (Elt F) (Rect.unit (s := S2x40x4096) (slotOff s) S1x40x4096.size (sgS_inb s)).toLoadRect g (ix3 0 ⟨o + k.val, hk⟩ ⟨q + n.val, hn⟩) :=
    sc_40_4096 (sgM.view.readAt (Elt F) (Rect.unit (s := S2x40x4096) (slotOff s) S1x40x4096.size (sgS_inb s)).toLoadRect g) _ _
  refine Eq.trans ?_ e1.symm
  have e2 : (Rect.unit (s := S2x40x4096) ![s.val, o, q] S1x40x4096.size h).toLoadRect.idx (ix3 0 k n)
      = (Rect.unit (s := S2x40x4096) (slotOff s) S1x40x4096.size (sgS_inb s)).toLoadRect.idx (ix3 0 ⟨o + k.val, hk⟩ ⟨q + n.val, hn⟩) := by
    refine funext fun a => Fin.ext ?_
    fin_cases a
    · show s.val + 1 * 0 = s.val + 1 * 0; rfl
    · show o + 1 * k.val = 0 + 1 * (o + k.val); omega
    · show q + 1 * n.val = 0 + 1 * (q + n.val); omega
  exact congrArg (sgM.view.read (Elt F) g) e2

theorem se_at (s : Fin 2) (p : S16x5120.Idx → Elt F .bf16) (f) (o q : ℕ) (off : Fin 3 → ℕ) (eo : off = ![s.val, o, q]) (h : ∀ a, off a + S1x16x5120.size a ≤ S2x16x5120.size a)
    (k : Fin 16) (n : Fin 5120) (hk : o + k.val < 16) (hn : q + n.val < 5120) :
    seM.view.readAt (Elt F) (Rect.unit (s := S2x16x5120) off S1x16x5120.size h).toLoadRect ((seS s).view.writes (Elt F) f [⟨Rect.whole S16x5120, p⟩]) (ix3 0 k n) = p (ix2 (nat 16 (o + k.val)) (nat 5120 (q + n.val))) := by
  subst eo
  rw [nat_lt hk, nat_lt hn]
  conv_rhs => rw [← View.read_writes_whole (seS s).view f p]
  generalize (seS s).view.writes (Elt F) f [⟨Rect.whole S16x5120, p⟩] = g
  have e1 : (seS s).view.read (Elt F) g (ix2 ⟨o + k.val, hk⟩ ⟨q + n.val, hn⟩) = seM.view.readAt (Elt F) (Rect.unit (s := S2x16x5120) (slotOff s) S1x16x5120.size (seS_inb s)).toLoadRect g (ix3 0 ⟨o + k.val, hk⟩ ⟨q + n.val, hn⟩) :=
    sc_16_5120 (seM.view.readAt (Elt F) (Rect.unit (s := S2x16x5120) (slotOff s) S1x16x5120.size (seS_inb s)).toLoadRect g) _ _
  refine Eq.trans ?_ e1.symm
  have e2 : (Rect.unit (s := S2x16x5120) ![s.val, o, q] S1x16x5120.size h).toLoadRect.idx (ix3 0 k n)
      = (Rect.unit (s := S2x16x5120) (slotOff s) S1x16x5120.size (seS_inb s)).toLoadRect.idx (ix3 0 ⟨o + k.val, hk⟩ ⟨q + n.val, hn⟩) := by
    refine funext fun a => Fin.ext ?_
    fin_cases a
    · show s.val + 1 * 0 = s.val + 1 * 0; rfl
    · show o + 1 * k.val = 0 + 1 * (o + k.val); omega
    · show q + 1 * n.val = 0 + 1 * (q + n.val); omega
  exact congrArg (seM.view.read (Elt F) g) e2

theorem gPay_at (c : Dev nD) (X : Buf (Elt F) (wguM.view.loc (c : Thread nD τ))) (fa : Buf (Elt F) (actM.view.loc (c : Thread nD τ))) (s : ℕ) (a : Fin 2560) (n : Fin 256) :
    gPay c X fa s (ix2 a n) = wguM.view.read (Elt F) X (ix3 (ex c fa s) (nat 2560 (a.val)) (nat 4096 (256 * (s % 8) + n.val))) := by
  have ha := a.isLt
  have hn := n.isLt
  have hj := Nat.mod_lt s (show 0 < 8 by omega)
  have b1 : a.val < 2560 := by omega
  have b2 : 256 * (s % 8) + n.val < 4096 := by omega
  rw [nat_lt b1, nat_lt b2]
  have e1 : gPay c X fa s (ix2 a n) = wguM.view.readAt (Elt F) (Rect.unit (s := S4x2560x4096) (gBOff (ex c fa s) (Ring.sl 8 s)) S1x2560x256.size (gB_inb (ex c fa s) (Ring.sl 8 s))).toLoadRect X (ix3 0 a n) :=
    sc_2560_256 (wguM.view.readAt (Elt F) (Rect.unit (s := S4x2560x4096) (gBOff (ex c fa s) (Ring.sl 8 s)) S1x2560x256.size (gB_inb (ex c fa s) (Ring.sl 8 s))).toLoadRect X) _ _
  refine e1.trans ?_
  refine congrArg (wguM.view.read (Elt F) X) (funext fun a => Fin.ext ?_)
  fin_cases a
  · show (ex c fa s).val + 1 * 0 = (ex c fa s).val; rfl
  · show 0 + 1 * a.val = a.val; (try simp only [Ring.sl_val]); omega
  · show 256 * (Ring.sl 8 s).val + 1 * n.val = 256 * (s % 8) + n.val; (try simp only [Ring.sl_val]); omega

theorem uPay_at (c : Dev nD) (X : Buf (Elt F) (wguM.view.loc (c : Thread nD τ))) (fa : Buf (Elt F) (actM.view.loc (c : Thread nD τ))) (s : ℕ) (a : Fin 2560) (n : Fin 256) :
    uPay c X fa s (ix2 a n) = wguM.view.read (Elt F) X (ix3 (ex c fa s) (nat 2560 (a.val)) (nat 4096 (2048 + 256 * (s % 8) + n.val))) := by
  have ha := a.isLt
  have hn := n.isLt
  have hj := Nat.mod_lt s (show 0 < 8 by omega)
  have b1 : a.val < 2560 := by omega
  have b2 : 2048 + 256 * (s % 8) + n.val < 4096 := by omega
  rw [nat_lt b1, nat_lt b2]
  have e1 : uPay c X fa s (ix2 a n) = wguM.view.readAt (Elt F) (Rect.unit (s := S4x2560x4096) (uBOff (ex c fa s) (Ring.sl 8 s)) S1x2560x256.size (uB_inb (ex c fa s) (Ring.sl 8 s))).toLoadRect X (ix3 0 a n) :=
    sc_2560_256 (wguM.view.readAt (Elt F) (Rect.unit (s := S4x2560x4096) (uBOff (ex c fa s) (Ring.sl 8 s)) S1x2560x256.size (uB_inb (ex c fa s) (Ring.sl 8 s))).toLoadRect X) _ _
  refine e1.trans ?_
  refine congrArg (wguM.view.read (Elt F) X) (funext fun a => Fin.ext ?_)
  fin_cases a
  · show (ex c fa s).val + 1 * 0 = (ex c fa s).val; rfl
  · show 0 + 1 * a.val = a.val; (try simp only [Ring.sl_val]); omega
  · show (2048 + 256 * (Ring.sl 8 s).val) + 1 * n.val = 2048 + 256 * (s % 8) + n.val; (try simp only [Ring.sl_val]); omega

theorem dPay_at (c : Dev nD) (X : Buf (Elt F) (wdM.view.loc (c : Thread nD τ))) (fa : Buf (Elt F) (actM.view.loc (c : Thread nD τ))) (s : ℕ) (a : Fin 128) (n : Fin 5120) :
    dPay c X fa s (ix2 a n) = wdM.view.read (Elt F) X (ix3 (ex c fa s) (nat 1024 (128 * (s % 8) + a.val)) (nat 5120 (n.val))) := by
  have ha := a.isLt
  have hn := n.isLt
  have hj := Nat.mod_lt s (show 0 < 8 by omega)
  have b1 : 128 * (s % 8) + a.val < 1024 := by omega
  have b2 : n.val < 5120 := by omega
  rw [nat_lt b1, nat_lt b2]
  have e1 : dPay c X fa s (ix2 a n) = wdM.view.readAt (Elt F) (Rect.unit (s := S4x1024x5120) (dBOff (ex c fa s) (Ring.sl 8 s)) S1x128x5120.size (dB_inb (ex c fa s) (Ring.sl 8 s))).toLoadRect X (ix3 0 a n) :=
    sc_128_5120 (wdM.view.readAt (Elt F) (Rect.unit (s := S4x1024x5120) (dBOff (ex c fa s) (Ring.sl 8 s)) S1x128x5120.size (dB_inb (ex c fa s) (Ring.sl 8 s))).toLoadRect X) _ _
  refine e1.trans ?_
  refine congrArg (wdM.view.read (Elt F) X) (funext fun a => Fin.ext ?_)
  fin_cases a
  · show (ex c fa s).val + 1 * 0 = (ex c fa s).val; rfl
  · show 128 * (Ring.sl 8 s).val + 1 * a.val = 128 * (s % 8) + a.val; (try simp only [Ring.sl_val]); omega
  · show 0 + 1 * n.val = n.val; (try simp only [Ring.sl_val]); omega

theorem sgPay_at (c : Dev nD) (X : Buf (Elt F) (sguM.view.loc (c : Thread nD τ))) (fa : Buf (Elt F) (actM.view.loc (c : Thread nD τ))) (s : ℕ) (a : Fin 40) (n : Fin 4096) :
    sgPay c X fa s (ix2 a n) = sguM.view.read (Elt F) X (ix3 (exS c fa s) (nat 40 (a.val)) (nat 4096 (n.val))) := by
  have ha := a.isLt
  have hn := n.isLt

  have b1 : a.val < 40 := by omega
  have b2 : n.val < 4096 := by omega
  rw [nat_lt b1, nat_lt b2]
  have e1 : sgPay c X fa s (ix2 a n) = sguM.view.readAt (Elt F) (Rect.unit (s := S4x40x4096) (sgBOff (exS c fa s)) S1x40x4096.size (sgB_inb (exS c fa s))).toLoadRect X (ix3 0 a n) :=
    sc_40_4096 (sguM.view.readAt (Elt F) (Rect.unit (s := S4x40x4096) (sgBOff (exS c fa s)) S1x40x4096.size (sgB_inb (exS c fa s))).toLoadRect X) _ _
  refine e1.trans ?_
  refine congrArg (sguM.view.read (Elt F) X) (funext fun a => Fin.ext ?_)
  fin_cases a
  · show (exS c fa s).val + 1 * 0 = (exS c fa s).val; rfl
  · show 0 + 1 * a.val = a.val; (try simp only [Ring.sl_val]); omega
  · show 0 + 1 * n.val = n.val; (try simp only [Ring.sl_val]); omega

theorem sePay_at (c : Dev nD) (X : Buf (Elt F) (sdM.view.loc (c : Thread nD τ))) (fa : Buf (Elt F) (actM.view.loc (c : Thread nD τ))) (s : ℕ) (a : Fin 16) (n : Fin 5120) :
    sePay c X fa s (ix2 a n) = sdM.view.read (Elt F) X (ix3 (exS c fa s) (nat 16 (a.val)) (nat 5120 (n.val))) := by
  have ha := a.isLt
  have hn := n.isLt

  have b1 : a.val < 16 := by omega
  have b2 : n.val < 5120 := by omega
  rw [nat_lt b1, nat_lt b2]
  have e1 : sePay c X fa s (ix2 a n) = sdM.view.readAt (Elt F) (Rect.unit (s := S4x16x5120) (seBOff (exS c fa s)) S1x16x5120.size (seB_inb (exS c fa s))).toLoadRect X (ix3 0 a n) :=
    sc_16_5120 (sdM.view.readAt (Elt F) (Rect.unit (s := S4x16x5120) (seBOff (exS c fa s)) S1x16x5120.size (seB_inb (exS c fa s))).toLoadRect X) _ _
  refine e1.trans ?_
  refine congrArg (sdM.view.read (Elt F) X) (funext fun a => Fin.ext ?_)
  fin_cases a
  · show (exS c fa s).val + 1 * 0 = (exS c fa s).val; rfl
  · show 0 + 1 * a.val = a.val; (try simp only [Ring.sl_val]); omega
  · show 0 + 1 * n.val = n.val; (try simp only [Ring.sl_val]); omega

theorem ld_16_16 {sp : Space} {e : EltTy} (M : Memref sig .tc sp S16x5120 e) (g : M.view.ty.Contents (Elt F)) (o q : ℕ) (off : Fin 2 → ℕ) (eo : off = ![o, q])
    (h : ∀ a, off a + S16x256.size a ≤ S16x5120.size a) (i : Fin 16) (n : Fin 256) :
    M.view.readAt (Elt F) (Rect.unit (s := S16x5120) off S16x256.size h).toLoadRect g (ix2 i n) = M.view.read (Elt F) g (ix2 (nat 16 (o + i.val)) (nat 5120 (q + n.val))) := by
  subst eo
  have h0 : o + 16 ≤ 16 := h 0
  have h1 : q + 256 ≤ 5120 := h 1
  have hi := i.isLt
  have hn := n.isLt
  have b0 : o + i.val < 16 := by omega
  have b1 : q + n.val < 5120 := by omega
  rw [nat_lt b0, nat_lt b1]
  refine congrArg (M.view.read (Elt F) g) (funext fun a => Fin.ext ?_)
  fin_cases a
  · show o + 1 * i.val = o + i.val; omega
  · show q + 1 * n.val = q + n.val; omega

theorem ld_40_2 {sp : Space} {e : EltTy} (M : Memref sig .tc sp S40x4096 e) (g : M.view.ty.Contents (Elt F)) (o q : ℕ) (off : Fin 2 → ℕ) (eo : off = ![o, q])
    (h : ∀ a, off a + S2x256.size a ≤ S40x4096.size a) (i : Fin 2) (n : Fin 256) :
    M.view.readAt (Elt F) (Rect.unit (s := S40x4096) off S2x256.size h).toLoadRect g (ix2 i n) = M.view.read (Elt F) g (ix2 (nat 40 (o + i.val)) (nat 4096 (q + n.val))) := by
  subst eo
  have h0 : o + 2 ≤ 40 := h 0
  have h1 : q + 256 ≤ 4096 := h 1
  have hi := i.isLt
  have hn := n.isLt
  have b0 : o + i.val < 40 := by omega
  have b1 : q + n.val < 4096 := by omega
  rw [nat_lt b0, nat_lt b1]
  refine congrArg (M.view.read (Elt F) g) (funext fun a => Fin.ext ?_)
  fin_cases a
  · show o + 1 * i.val = o + i.val; omega
  · show q + 1 * n.val = q + n.val; omega

theorem ld_16_1 {sp : Space} {e : EltTy} (M : Memref sig .tc sp S16x5120 e) (g : M.view.ty.Contents (Elt F)) (o q : ℕ) (off : Fin 2 → ℕ) (eo : off = ![o, q])
    (h : ∀ a, off a + S1x256.size a ≤ S16x5120.size a) (i : Fin 1) (n : Fin 256) :
    M.view.readAt (Elt F) (Rect.unit (s := S16x5120) off S1x256.size h).toLoadRect g (ix2 i n) = M.view.read (Elt F) g (ix2 (nat 16 (o + i.val)) (nat 5120 (q + n.val))) := by
  subst eo
  have h0 : o + 1 ≤ 16 := h 0
  have h1 : q + 256 ≤ 5120 := h 1
  have hi := i.isLt
  have hn := n.isLt
  have b0 : o + i.val < 16 := by omega
  have b1 : q + n.val < 5120 := by omega
  rw [nat_lt b0, nat_lt b1]
  refine congrArg (M.view.read (Elt F) g) (funext fun a => Fin.ext ?_)
  fin_cases a
  · show o + 1 * i.val = o + i.val; omega
  · show q + 1 * n.val = q + n.val; omega

theorem g_wt (c : Dev nD) (X3 : Buf (Elt F) (wguM.view.loc (c : Thread nD τ))) (fa : Buf (Elt F) (actM.view.loc (c : Thread nD τ))) (s : ℕ) (f) (o : ℕ) (off : Fin 3 → ℕ) (eo : off = ![s % 4, o, 0])
    (h : ∀ a, off a + S1x128x256.size a ≤ S4x2560x256.size a) (k : Fin 128) (n : Fin 256) :
    gM.view.readAt (Elt F) (Rect.unit (s := S4x2560x256) off S1x128x256.size h).toLoadRect ((gS (Ring.sl 4 s)).view.writes (Elt F) f [⟨Rect.whole S2560x256, gPay c X3 fa s⟩]) (ix3 0 k n)
      = wguM.view.read (Elt F) X3 (ix3 (ex c fa s) (nat 2560 (o + k.val)) (nat 4096 (256 * (s % 8) + n.val))) := by
  subst eo
  have h1 : o + 128 ≤ 2560 := h 1
  have hk : o + k.val < 2560 := by have := k.isLt; omega
  have hn : 0 + n.val < 256 := by have := n.isLt; omega
  rw [g_at (Ring.sl 4 s) _ f o 0 _ (by simp only [Ring.sl_val]) h k n hk hn, gPay_at, nat_lt hk, nat_lt hn]
  simp only [Nat.zero_add]
  rw [nat_lt hk]

theorem u_wt (c : Dev nD) (X3 : Buf (Elt F) (wguM.view.loc (c : Thread nD τ))) (fa : Buf (Elt F) (actM.view.loc (c : Thread nD τ))) (s : ℕ) (f) (o : ℕ) (off : Fin 3 → ℕ) (eo : off = ![s % 4, o, 0])
    (h : ∀ a, off a + S1x128x256.size a ≤ S4x2560x256.size a) (k : Fin 128) (n : Fin 256) :
    uM.view.readAt (Elt F) (Rect.unit (s := S4x2560x256) off S1x128x256.size h).toLoadRect ((uS (Ring.sl 4 s)).view.writes (Elt F) f [⟨Rect.whole S2560x256, uPay c X3 fa s⟩]) (ix3 0 k n)
      = wguM.view.read (Elt F) X3 (ix3 (ex c fa s) (nat 2560 (o + k.val)) (nat 4096 (2048 + 256 * (s % 8) + n.val))) := by
  subst eo
  have h1 : o + 128 ≤ 2560 := h 1
  have hk : o + k.val < 2560 := by have := k.isLt; omega
  have hn : 0 + n.val < 256 := by have := n.isLt; omega
  rw [u_at (Ring.sl 4 s) _ f o 0 _ (by simp only [Ring.sl_val]) h k n hk hn, uPay_at, nat_lt hk, nat_lt hn]
  simp only [Nat.zero_add]
  rw [nat_lt hk]

theorem d_wt (c : Dev nD) (X5 : Buf (Elt F) (wdM.view.loc (c : Thread nD τ))) (fa : Buf (Elt F) (actM.view.loc (c : Thread nD τ))) (s : ℕ) (f) (q : ℕ) (off : Fin 3 → ℕ) (eo : off = ![s % 4, 0, q])
    (h : ∀ a, off a + S1x128x256.size a ≤ S4x128x5120.size a) (k : Fin 128) (n : Fin 256) :
    dM.view.readAt (Elt F) (Rect.unit (s := S4x128x5120) off S1x128x256.size h).toLoadRect ((dS (Ring.sl 4 s)).view.writes (Elt F) f [⟨Rect.whole S128x5120, dPay c X5 fa s⟩]) (ix3 0 k n)
      = wdM.view.read (Elt F) X5 (ix3 (ex c fa s) (nat 1024 (128 * (s % 8) + k.val)) (nat 5120 (q + n.val))) := by
  subst eo
  have h1 : q + 256 ≤ 5120 := h 2
  have hk : 0 + k.val < 128 := by have := k.isLt; omega
  have hn : q + n.val < 5120 := by have := n.isLt; omega
  rw [d_at (Ring.sl 4 s) _ f 0 q _ (by simp only [Ring.sl_val]) h k n hk hn, dPay_at, nat_lt hk, nat_lt hn]
  simp only [Nat.zero_add]
  rw [nat_lt hn]

end Reads

end Cert.Proof.KernelIdeal

end
-- ==== Proof.V3.lean ====
/-
  The gate and the up product of a step, tile by tile.
-/
module

public import proofs.«01_k».proof.Proof.V2
public import proofs.«01_k».proof.Proof.IdealWhole
public import proofs.«01_k».proof.Proof.IdealStep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (Pipeline.UD sig nD τ) ℕ

set_option maxHeartbeats 4000000

open Cert.Proof.Val

/-- A column of the first weights, and of its scales. -/
def wcol (c : Dev nD) (X3 : Buf (Elt Ideal) (wguM.view.loc (c : Thread nD τ))) (e : Fin 4) (col k : ℕ) : BitVec 8 := wguM.view.read (Elt Ideal) X3 (ix3 e (nat 2560 k) (nat 4096 col))
def scol {c : Dev nD} (f : Buf (Elt Ideal) (sgwM.view.loc (c : Thread nD τ))) (col k : ℕ) : Ideal .f32 := sgwM.view.read (Elt Ideal) f (ix2 (nat 40 k) (nat 4096 col))
def xrow {c : Dev nD} (arg2 : Memref sig .tc .vmem S16x5120 .bf16) (f2 : Buf (Elt Ideal) (arg2.view.loc (c : Thread nD τ))) (r : Fin 16) (k : ℕ) : Ideal .f32 := arg2.view.read (Elt Ideal) f2 (ix2 r (nat 5120 k))

theorem inbw (off : Fin 3 → ℕ) (s o : ℕ) (e : off = ![s, o, 0]) (hs : s < 4) (ho : o + 128 ≤ 2560) : ∀ a, off a + S1x128x256.size a ≤ S4x2560x256.size a := by
  subst e; intro a; fin_cases a
  · show s + 1 ≤ 4; omega
  · show o + 128 ≤ 2560; omega
  · show 0 + 256 ≤ 256; omega
theorem inbs (off : Fin 2 → ℕ) (s o : ℕ) (e : off = ![s, o]) (hs : s + 2 ≤ 40) (ho : o + 256 ≤ 4096) : ∀ a, off a + S2x256.size a ≤ S40x4096.size a := by
  subst e; intro a; fin_cases a
  · show s + 2 ≤ 40; omega
  · show o + 256 ≤ 4096; omega

theorem zero_f : (FloatOps.ofBits (F := Ideal) .f32 0x00000000#32 : Ideal .f32) = 0 := by simp
theorem x_at {c : Dev nD} (arg2 : Memref sig .tc .vmem S16x5120 .bf16) (f2 : Buf (Elt Ideal) (arg2.view.loc (c : Thread nD τ))) (b : ℕ) (off : Fin 2 → ℕ) (e : off = ![0, 256 * b])
    (h : ∀ a, off a + S16x256.size a ≤ S16x5120.size a) (r : Fin 16) (k : Fin 256) :
    arg2.view.readAt (Elt Ideal) (Rect.unit (s := S16x5120) off S16x256.size h).toLoadRect f2 (ix2 r k) = xrow arg2 f2 r (256 * b + k.val) := by
  refine (ld_16_16 arg2 f2 0 (256 * b) off e h r k).trans ?_
  simp only [Nat.zero_add]
  rw [nat_lt (show r.val < 16 from r.isLt)]
  rfl
theorem stage (acc : Vec Ideal S16x256 .f32) (x : Vec Ideal S16x256 .bf16) (w : Vec Ideal S1x128x256 .i8) (s : Vec Ideal S2x256 .f32) (r : Fin 16) (n : Fin 256)
    (xf : ℕ → Ideal .f32) (wf : ℕ → BitVec 8) (sf : ℕ → Ideal .f32) (b : ℕ) (ha : acc (ix2 r n) = ∑ k ∈ Finset.range (256 * b), term xf wf sf k)
    (hx : ∀ k : Fin 256, x (ix2 r k) = xf (256 * b + k.val)) (hw : ∀ k : Fin 128, w (ix3 0 k n) = wf (128 * b + k.val))
    (h0 : s (ix2 0 n) = sf (2 * b)) (h1 : s (ix2 1 n) = sf (2 * b + 1)) :
    addf acc (k0_pay76 (F := Ideal) x w s) (ix2 r n) = ∑ k ∈ Finset.range (256 * (b + 1)), term xf wf sf k := by
  refine Eq.trans (b := acc (ix2 r n) + k0_pay76 (F := Ideal) x w s (ix2 r n)) rfl ?_
  rw [ha, mm_at x w s r n xf wf sf b hx hw h0 h1, sum_next]

section Step
variable (c : Dev nD)
  (X3 : Buf (Elt Ideal) (wguM.view.loc (c : Thread nD τ))) (X4 : Buf (Elt Ideal) (sguM.view.loc (c : Thread nD τ)))
  (X5 : Buf (Elt Ideal) (wdM.view.loc (c : Thread nD τ))) (X6 : Buf (Elt Ideal) (sdM.view.loc (c : Thread nD τ)))
  (fa : Buf (Elt Ideal) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt Ideal) (arg0.view.loc (c : Thread nD τ))) (f1 : Buf (Elt Ideal) (arg1.view.loc (c : Thread nD τ))) (f2 : Buf (Elt Ideal) (arg2.view.loc (c : Thread nD τ)))

variable (hA : ActOK c fa v.toNat)
    (fs : Buf (Elt Ideal) (sgwM.view.loc (c : Thread nD τ))) (fd : Buf (Elt Ideal) (sdwM.view.loc (c : Thread nD τ))) (fy : Buf (Elt Ideal) (yM.view.loc (c : Thread nD τ))) (fc : Buf (Elt Ideal) (accM.view.loc (c : Thread nD τ)))

theorem inb49 : ∀ a, k0_off49 v t a + S1x128x256.size a ≤ S4x2560x256.size a := inbw _ _ _ (off49_eq v t) (Nat.mod_lt _ (by decide)) (by decide)

theorem inb50 : ∀ a, k0_off50 v t a + S2x256.size a ≤ S40x4096.size a := inbs _ _ _ (off50_eq v t) (by decide) (by have := Nat.mod_lt t.val (show 0 < 8 by decide); omega)

theorem inb51 : ∀ a, k0_off51 v t a + S2x256.size a ≤ S40x4096.size a := inbs _ _ _ (off51_eq v t) (by decide) (by have := Nat.mod_lt t.val (show 0 < 8 by decide); omega)

theorem inb52 : ∀ a, k0_off52 v t a + S1x128x256.size a ≤ S4x2560x256.size a := inbw _ _ _ (off52_eq v t) (Nat.mod_lt _ (by decide)) (by decide)

theorem inb53 : ∀ a, k0_off53 v t a + S2x256.size a ≤ S40x4096.size a := inbs _ _ _ (off53_eq v t) (by decide) (by have := Nat.mod_lt t.val (show 0 < 8 by decide); omega)

theorem inb54 : ∀ a, k0_off54 v t a + S2x256.size a ≤ S40x4096.size a := inbs _ _ _ (off54_eq v t) (by decide) (by have := Nat.mod_lt t.val (show 0 < 8 by decide); omega)

theorem inb55 : ∀ a, k0_off55 v t a + S1x128x256.size a ≤ S4x2560x256.size a := inbw _ _ _ (off55_eq v t) (Nat.mod_lt _ (by decide)) (by decide)

theorem inb56 : ∀ a, k0_off56 v t a + S2x256.size a ≤ S40x4096.size a := inbs _ _ _ (off56_eq v t) (by decide) (by have := Nat.mod_lt t.val (show 0 < 8 by decide); omega)

theorem inb57 : ∀ a, k0_off57 v t a + S2x256.size a ≤ S40x4096.size a := inbs _ _ _ (off57_eq v t) (by decide) (by have := Nat.mod_lt t.val (show 0 < 8 by decide); omega)

theorem inb58 : ∀ a, k0_off58 v t a + S1x128x256.size a ≤ S4x2560x256.size a := inbw _ _ _ (off58_eq v t) (Nat.mod_lt _ (by decide)) (by decide)

theorem inb59 : ∀ a, k0_off59 v t a + S2x256.size a ≤ S40x4096.size a := inbs _ _ _ (off59_eq v t) (by decide) (by have := Nat.mod_lt t.val (show 0 < 8 by decide); omega)

theorem inb60 : ∀ a, k0_off60 v t a + S2x256.size a ≤ S40x4096.size a := inbs _ _ _ (off60_eq v t) (by decide) (by have := Nat.mod_lt t.val (show 0 < 8 by decide); omega)

theorem inb61 : ∀ a, k0_off61 v t a + S1x128x256.size a ≤ S4x2560x256.size a := inbw _ _ _ (off61_eq v t) (Nat.mod_lt _ (by decide)) (by decide)

theorem inb62 : ∀ a, k0_off62 v t a + S2x256.size a ≤ S40x4096.size a := inbs _ _ _ (off62_eq v t) (by decide) (by have := Nat.mod_lt t.val (show 0 < 8 by decide); omega)

theorem inb63 : ∀ a, k0_off63 v t a + S2x256.size a ≤ S40x4096.size a := inbs _ _ _ (off63_eq v t) (by decide) (by have := Nat.mod_lt t.val (show 0 < 8 by decide); omega)

theorem inb64 : ∀ a, k0_off64 v t a + S1x128x256.size a ≤ S4x2560x256.size a := inbw _ _ _ (off64_eq v t) (Nat.mod_lt _ (by decide)) (by decide)

theorem inb65 : ∀ a, k0_off65 v t a + S2x256.size a ≤ S40x4096.size a := inbs _ _ _ (off65_eq v t) (by decide) (by have := Nat.mod_lt t.val (show 0 < 8 by decide); omega)

theorem inb66 : ∀ a, k0_off66 v t a + S2x256.size a ≤ S40x4096.size a := inbs _ _ _ (off66_eq v t) (by decide) (by have := Nat.mod_lt t.val (show 0 < 8 by decide); omega)

theorem inb67 : ∀ a, k0_off67 v t a + S1x128x256.size a ≤ S4x2560x256.size a := inbw _ _ _ (off67_eq v t) (Nat.mod_lt _ (by decide)) (by decide)

theorem inb68 : ∀ a, k0_off68 v t a + S2x256.size a ≤ S40x4096.size a := inbs _ _ _ (off68_eq v t) (by decide) (by have := Nat.mod_lt t.val (show 0 < 8 by decide); omega)

theorem inb69 : ∀ a, k0_off69 v t a + S2x256.size a ≤ S40x4096.size a := inbs _ _ _ (off69_eq v t) (by decide) (by have := Nat.mod_lt t.val (show 0 < 8 by decide); omega)

theorem inb70 : ∀ a, k0_off70 v t a + S1x128x256.size a ≤ S4x2560x256.size a := inbw _ _ _ (off70_eq v t) (Nat.mod_lt _ (by decide)) (by decide)

theorem inb71 : ∀ a, k0_off71 v t a + S2x256.size a ≤ S40x4096.size a := inbs _ _ _ (off71_eq v t) (by decide) (by have := Nat.mod_lt t.val (show 0 < 8 by decide); omega)

theorem inb72 : ∀ a, k0_off72 v t a + S2x256.size a ≤ S40x4096.size a := inbs _ _ _ (off72_eq v t) (by decide) (by have := Nat.mod_lt t.val (show 0 < 8 by decide); omega)

theorem inb73 : ∀ a, k0_off73 v t a + S1x128x256.size a ≤ S4x2560x256.size a := inbw _ _ _ (off73_eq v t) (Nat.mod_lt _ (by decide)) (by decide)

theorem inb74 : ∀ a, k0_off74 v t a + S2x256.size a ≤ S40x4096.size a := inbs _ _ _ (off74_eq v t) (by decide) (by have := Nat.mod_lt t.val (show 0 < 8 by decide); omega)

theorem inb75 : ∀ a, k0_off75 v t a + S2x256.size a ≤ S40x4096.size a := inbs _ _ _ (off75_eq v t) (by decide) (by have := Nat.mod_lt t.val (show 0 < 8 by decide); omega)

theorem inb76 : ∀ a, k0_off76 v t a + S1x128x256.size a ≤ S4x2560x256.size a := inbw _ _ _ (off76_eq v t) (Nat.mod_lt _ (by decide)) (by decide)

theorem inb77 : ∀ a, k0_off77 v t a + S2x256.size a ≤ S40x4096.size a := inbs _ _ _ (off77_eq v t) (by decide) (by have := Nat.mod_lt t.val (show 0 < 8 by decide); omega)

theorem inb78 : ∀ a, k0_off78 v t a + S2x256.size a ≤ S40x4096.size a := inbs _ _ _ (off78_eq v t) (by decide) (by have := Nat.mod_lt t.val (show 0 < 8 by decide); omega)

theorem inb79 : ∀ a, k0_off79 v t a + S1x128x256.size a ≤ S4x2560x256.size a := inbw _ _ _ (off79_eq v t) (Nat.mod_lt _ (by decide)) (by decide)

theorem inb80 : ∀ a, k0_off80 v t a + S2x256.size a ≤ S40x4096.size a := inbs _ _ _ (off80_eq v t) (by decide) (by have := Nat.mod_lt t.val (show 0 < 8 by decide); omega)

theorem inb81 : ∀ a, k0_off81 v t a + S2x256.size a ≤ S40x4096.size a := inbs _ _ _ (off81_eq v t) (by decide) (by have := Nat.mod_lt t.val (show 0 < 8 by decide); omega)

theorem inb82 : ∀ a, k0_off82 v t a + S1x128x256.size a ≤ S4x2560x256.size a := inbw _ _ _ (off82_eq v t) (Nat.mod_lt _ (by decide)) (by decide)

theorem inb83 : ∀ a, k0_off83 v t a + S2x256.size a ≤ S40x4096.size a := inbs _ _ _ (off83_eq v t) (by decide) (by have := Nat.mod_lt t.val (show 0 < 8 by decide); omega)

theorem inb84 : ∀ a, k0_off84 v t a + S2x256.size a ≤ S40x4096.size a := inbs _ _ _ (off84_eq v t) (by decide) (by have := Nat.mod_lt t.val (show 0 < 8 by decide); omega)

theorem inb85 : ∀ a, k0_off85 v t a + S1x128x256.size a ≤ S4x2560x256.size a := inbw _ _ _ (off85_eq v t) (Nat.mod_lt _ (by decide)) (by decide)

theorem inb86 : ∀ a, k0_off86 v t a + S2x256.size a ≤ S40x4096.size a := inbs _ _ _ (off86_eq v t) (by decide) (by have := Nat.mod_lt t.val (show 0 < 8 by decide); omega)

theorem inb87 : ∀ a, k0_off87 v t a + S2x256.size a ≤ S40x4096.size a := inbs _ _ _ (off87_eq v t) (by decide) (by have := Nat.mod_lt t.val (show 0 < 8 by decide); omega)

theorem inb88 : ∀ a, k0_off88 v t a + S1x128x256.size a ≤ S4x2560x256.size a := inbw _ _ _ (off88_eq v t) (Nat.mod_lt _ (by decide)) (by decide)

theorem inb89 : ∀ a, k0_off89 v t a + S2x256.size a ≤ S40x4096.size a := inbs _ _ _ (off89_eq v t) (by decide) (by have := Nat.mod_lt t.val (show 0 < 8 by decide); omega)

theorem inb90 : ∀ a, k0_off90 v t a + S2x256.size a ≤ S40x4096.size a := inbs _ _ _ (off90_eq v t) (by decide) (by have := Nat.mod_lt t.val (show 0 < 8 by decide); omega)

theorem inb91 : ∀ a, k0_off91 v t a + S1x128x256.size a ≤ S4x2560x256.size a := inbw _ _ _ (off91_eq v t) (Nat.mod_lt _ (by decide)) (by decide)

theorem inb92 : ∀ a, k0_off92 v t a + S2x256.size a ≤ S40x4096.size a := inbs _ _ _ (off92_eq v t) (by decide) (by have := Nat.mod_lt t.val (show 0 < 8 by decide); omega)

theorem inb93 : ∀ a, k0_off93 v t a + S2x256.size a ≤ S40x4096.size a := inbs _ _ _ (off93_eq v t) (by decide) (by have := Nat.mod_lt t.val (show 0 < 8 by decide); omega)

theorem inb94 : ∀ a, k0_off94 v t a + S1x128x256.size a ≤ S4x2560x256.size a := inbw _ _ _ (off94_eq v t) (Nat.mod_lt _ (by decide)) (by decide)

theorem inb95 : ∀ a, k0_off95 v t a + S2x256.size a ≤ S40x4096.size a := inbs _ _ _ (off95_eq v t) (by decide) (by have := Nat.mod_lt t.val (show 0 < 8 by decide); omega)

theorem inb96 : ∀ a, k0_off96 v t a + S2x256.size a ≤ S40x4096.size a := inbs _ _ _ (off96_eq v t) (by decide) (by have := Nat.mod_lt t.val (show 0 < 8 by decide); omega)

theorem inb97 : ∀ a, k0_off97 v t a + S1x128x256.size a ≤ S4x2560x256.size a := inbw _ _ _ (off97_eq v t) (Nat.mod_lt _ (by decide)) (by decide)

theorem inb98 : ∀ a, k0_off98 v t a + S2x256.size a ≤ S40x4096.size a := inbs _ _ _ (off98_eq v t) (by decide) (by have := Nat.mod_lt t.val (show 0 < 8 by decide); omega)

theorem inb99 : ∀ a, k0_off99 v t a + S2x256.size a ≤ S40x4096.size a := inbs _ _ _ (off99_eq v t) (by decide) (by have := Nat.mod_lt t.val (show 0 < 8 by decide); omega)

theorem inb100 : ∀ a, k0_off100 v t a + S1x128x256.size a ≤ S4x2560x256.size a := inbw _ _ _ (off100_eq v t) (Nat.mod_lt _ (by decide)) (by decide)

theorem inb101 : ∀ a, k0_off101 v t a + S2x256.size a ≤ S40x4096.size a := inbs _ _ _ (off101_eq v t) (by decide) (by have := Nat.mod_lt t.val (show 0 < 8 by decide); omega)

theorem inb102 : ∀ a, k0_off102 v t a + S2x256.size a ≤ S40x4096.size a := inbs _ _ _ (off102_eq v t) (by decide) (by have := Nat.mod_lt t.val (show 0 < 8 by decide); omega)

theorem inb103 : ∀ a, k0_off103 v t a + S1x128x256.size a ≤ S4x2560x256.size a := inbw _ _ _ (off103_eq v t) (Nat.mod_lt _ (by decide)) (by decide)

theorem inb104 : ∀ a, k0_off104 v t a + S2x256.size a ≤ S40x4096.size a := inbs _ _ _ (off104_eq v t) (by decide) (by have := Nat.mod_lt t.val (show 0 < 8 by decide); omega)

theorem inb105 : ∀ a, k0_off105 v t a + S2x256.size a ≤ S40x4096.size a := inbs _ _ _ (off105_eq v t) (by decide) (by have := Nat.mod_lt t.val (show 0 < 8 by decide); omega)

theorem inb106 : ∀ a, k0_off106 v t a + S1x128x256.size a ≤ S4x2560x256.size a := inbw _ _ _ (off106_eq v t) (Nat.mod_lt _ (by decide)) (by decide)

theorem inb107 : ∀ a, k0_off107 v t a + S2x256.size a ≤ S40x4096.size a := inbs _ _ _ (off107_eq v t) (by decide) (by have := Nat.mod_lt t.val (show 0 < 8 by decide); omega)

theorem inb108 : ∀ a, k0_off108 v t a + S2x256.size a ≤ S40x4096.size a := inbs _ _ _ (off108_eq v t) (by decide) (by have := Nat.mod_lt t.val (show 0 < 8 by decide); omega)

theorem gate_at (r : Fin 16) (n : Fin 256) : (part77_run.sl.r_115 c X3 X4 X6 fa arg0 harg0 arg1 harg1 arg2 harg2 arg7 harg7 v hw t f2 hA fs fd fy) (ix2 r n)
    = ∑ k ∈ Finset.range 5120, term (xrow arg2 f2 r) (wcol c X3 (ex c fa t.val) (256 * (t.val % 8) + n.val)) (scol (sgw1 c X4 X6 fa arg0 harg0 arg1 harg1 arg2 harg2 arg7 harg7 v hw t hA fs fd fy) (256 * (t.val % 8) + n.val)) k := by
  have h0 : (k0_pay73 (F := Ideal)) (ix2 r n) = ∑ k ∈ Finset.range (256 * 0), term (xrow arg2 f2 r) (wcol c X3 (ex c fa t.val) (256 * (t.val % 8) + n.val)) (scol (sgw1 c X4 X6 fa arg0 harg0 arg1 harg1 arg2 harg2 arg7 harg7 v hw t hA fs fd fy) (256 * (t.val % 8) + n.val)) k := by
    rw [Nat.mul_zero, Finset.sum_range_zero]
    unfold k0_pay73
    pointwise
  have h1 := stage _ (View.readAt (Elt Ideal) arg2.view (Rect.unit (s := S16x5120) ![0, 0] S16x256.size inb_S16x5120_S16x256_0_0).toLoadRect f2) (View.readAt (Elt Ideal) gM.view (Rect.unit (s := S4x2560x256) (k0_off49 v t) S1x128x256.size (inb49 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off50 v t) S2x256.size (inb50 v t)).toLoadRect (sgw1 c X4 X6 fa arg0 harg0 arg1 harg1 arg2 harg2 arg7 harg7 v hw t hA fs fd fy)) r n _ _ _ 0 h0
    (fun k => x_at arg2 f2 0 _ rfl _ r k)
    (fun k => g_wt c X3 fa t.val _ 0 _ (off49_eq v t) _ k n)
    (ld_40_2 sgwM _ 0 (256 * (t.val % 8)) _ (off50_eq v t) _ 0 n) (ld_40_2 sgwM _ 0 (256 * (t.val % 8)) _ (off50_eq v t) _ 1 n)
  have h2 := stage _ (View.readAt (Elt Ideal) arg2.view (Rect.unit (s := S16x5120) ![0, 256] S16x256.size inb_S16x5120_S16x256_0_256).toLoadRect f2) (View.readAt (Elt Ideal) gM.view (Rect.unit (s := S4x2560x256) (k0_off52 v t) S1x128x256.size (inb52 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off53 v t) S2x256.size (inb53 v t)).toLoadRect (sgw1 c X4 X6 fa arg0 harg0 arg1 harg1 arg2 harg2 arg7 harg7 v hw t hA fs fd fy)) r n _ _ _ 1 h1
    (fun k => x_at arg2 f2 1 _ rfl _ r k)
    (fun k => g_wt c X3 fa t.val _ 128 _ (off52_eq v t) _ k n)
    (ld_40_2 sgwM _ 2 (256 * (t.val % 8)) _ (off53_eq v t) _ 0 n) (ld_40_2 sgwM _ 2 (256 * (t.val % 8)) _ (off53_eq v t) _ 1 n)
  have h3 := stage _ (View.readAt (Elt Ideal) arg2.view (Rect.unit (s := S16x5120) ![0, 512] S16x256.size inb_S16x5120_S16x256_0_512).toLoadRect f2) (View.readAt (Elt Ideal) gM.view (Rect.unit (s := S4x2560x256) (k0_off55 v t) S1x128x256.size (inb55 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off56 v t) S2x256.size (inb56 v t)).toLoadRect (sgw1 c X4 X6 fa arg0 harg0 arg1 harg1 arg2 harg2 arg7 harg7 v hw t hA fs fd fy)) r n _ _ _ 2 h2
    (fun k => x_at arg2 f2 2 _ rfl _ r k)
    (fun k => g_wt c X3 fa t.val _ 256 _ (off55_eq v t) _ k n)
    (ld_40_2 sgwM _ 4 (256 * (t.val % 8)) _ (off56_eq v t) _ 0 n) (ld_40_2 sgwM _ 4 (256 * (t.val % 8)) _ (off56_eq v t) _ 1 n)
  have h4 := stage _ (View.readAt (Elt Ideal) arg2.view (Rect.unit (s := S16x5120) ![0, 768] S16x256.size inb_S16x5120_S16x256_0_768).toLoadRect f2) (View.readAt (Elt Ideal) gM.view (Rect.unit (s := S4x2560x256) (k0_off58 v t) S1x128x256.size (inb58 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off59 v t) S2x256.size (inb59 v t)).toLoadRect (sgw1 c X4 X6 fa arg0 harg0 arg1 harg1 arg2 harg2 arg7 harg7 v hw t hA fs fd fy)) r n _ _ _ 3 h3
    (fun k => x_at arg2 f2 3 _ rfl _ r k)
    (fun k => g_wt c X3 fa t.val _ 384 _ (off58_eq v t) _ k n)
    (ld_40_2 sgwM _ 6 (256 * (t.val % 8)) _ (off59_eq v t) _ 0 n) (ld_40_2 sgwM _ 6 (256 * (t.val % 8)) _ (off59_eq v t) _ 1 n)
  have h5 := stage _ (View.readAt (Elt Ideal) arg2.view (Rect.unit (s := S16x5120) ![0, 1024] S16x256.size inb_S16x5120_S16x256_0_1024).toLoadRect f2) (View.readAt (Elt Ideal) gM.view (Rect.unit (s := S4x2560x256) (k0_off61 v t) S1x128x256.size (inb61 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off62 v t) S2x256.size (inb62 v t)).toLoadRect (sgw1 c X4 X6 fa arg0 harg0 arg1 harg1 arg2 harg2 arg7 harg7 v hw t hA fs fd fy)) r n _ _ _ 4 h4
    (fun k => x_at arg2 f2 4 _ rfl _ r k)
    (fun k => g_wt c X3 fa t.val _ 512 _ (off61_eq v t) _ k n)
    (ld_40_2 sgwM _ 8 (256 * (t.val % 8)) _ (off62_eq v t) _ 0 n) (ld_40_2 sgwM _ 8 (256 * (t.val % 8)) _ (off62_eq v t) _ 1 n)
  have h6 := stage _ (View.readAt (Elt Ideal) arg2.view (Rect.unit (s := S16x5120) ![0, 1280] S16x256.size inb_S16x5120_S16x256_0_1280).toLoadRect f2) (View.readAt (Elt Ideal) gM.view (Rect.unit (s := S4x2560x256) (k0_off64 v t) S1x128x256.size (inb64 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off65 v t) S2x256.size (inb65 v t)).toLoadRect (sgw1 c X4 X6 fa arg0 harg0 arg1 harg1 arg2 harg2 arg7 harg7 v hw t hA fs fd fy)) r n _ _ _ 5 h5
    (fun k => x_at arg2 f2 5 _ rfl _ r k)
    (fun k => g_wt c X3 fa t.val _ 640 _ (off64_eq v t) _ k n)
    (ld_40_2 sgwM _ 10 (256 * (t.val % 8)) _ (off65_eq v t) _ 0 n) (ld_40_2 sgwM _ 10 (256 * (t.val % 8)) _ (off65_eq v t) _ 1 n)
  have h7 := stage _ (View.readAt (Elt Ideal) arg2.view (Rect.unit (s := S16x5120) ![0, 1536] S16x256.size inb_S16x5120_S16x256_0_1536).toLoadRect f2) (View.readAt (Elt Ideal) gM.view (Rect.unit (s := S4x2560x256) (k0_off67 v t) S1x128x256.size (inb67 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off68 v t) S2x256.size (inb68 v t)).toLoadRect (sgw1 c X4 X6 fa arg0 harg0 arg1 harg1 arg2 harg2 arg7 harg7 v hw t hA fs fd fy)) r n _ _ _ 6 h6
    (fun k => x_at arg2 f2 6 _ rfl _ r k)
    (fun k => g_wt c X3 fa t.val _ 768 _ (off67_eq v t) _ k n)
    (ld_40_2 sgwM _ 12 (256 * (t.val % 8)) _ (off68_eq v t) _ 0 n) (ld_40_2 sgwM _ 12 (256 * (t.val % 8)) _ (off68_eq v t) _ 1 n)
  have h8 := stage _ (View.readAt (Elt Ideal) arg2.view (Rect.unit (s := S16x5120) ![0, 1792] S16x256.size inb_S16x5120_S16x256_0_1792).toLoadRect f2) (View.readAt (Elt Ideal) gM.view (Rect.unit (s := S4x2560x256) (k0_off70 v t) S1x128x256.size (inb70 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off71 v t) S2x256.size (inb71 v t)).toLoadRect (sgw1 c X4 X6 fa arg0 harg0 arg1 harg1 arg2 harg2 arg7 harg7 v hw t hA fs fd fy)) r n _ _ _ 7 h7
    (fun k => x_at arg2 f2 7 _ rfl _ r k)
    (fun k => g_wt c X3 fa t.val _ 896 _ (off70_eq v t) _ k n)
    (ld_40_2 sgwM _ 14 (256 * (t.val % 8)) _ (off71_eq v t) _ 0 n) (ld_40_2 sgwM _ 14 (256 * (t.val % 8)) _ (off71_eq v t) _ 1 n)
  have h9 := stage _ (View.readAt (Elt Ideal) arg2.view (Rect.unit (s := S16x5120) ![0, 2048] S16x256.size inb_S16x5120_S16x256_0_2048).toLoadRect f2) (View.readAt (Elt Ideal) gM.view (Rect.unit (s := S4x2560x256) (k0_off73 v t) S1x128x256.size (inb73 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off74 v t) S2x256.size (inb74 v t)).toLoadRect (sgw1 c X4 X6 fa arg0 harg0 arg1 harg1 arg2 harg2 arg7 harg7 v hw t hA fs fd fy)) r n _ _ _ 8 h8
    (fun k => x_at arg2 f2 8 _ rfl _ r k)
    (fun k => g_wt c X3 fa t.val _ 1024 _ (off73_eq v t) _ k n)
    (ld_40_2 sgwM _ 16 (256 * (t.val % 8)) _ (off74_eq v t) _ 0 n) (ld_40_2 sgwM _ 16 (256 * (t.val % 8)) _ (off74_eq v t) _ 1 n)
  have h10 := stage _ (View.readAt (Elt Ideal) arg2.view (Rect.unit (s := S16x5120) ![0, 2304] S16x256.size inb_S16x5120_S16x256_0_2304).toLoadRect f2) (View.readAt (Elt Ideal) gM.view (Rect.unit (s := S4x2560x256) (k0_off76 v t) S1x128x256.size (inb76 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off77 v t) S2x256.size (inb77 v t)).toLoadRect (sgw1 c X4 X6 fa arg0 harg0 arg1 harg1 arg2 harg2 arg7 harg7 v hw t hA fs fd fy)) r n _ _ _ 9 h9
    (fun k => x_at arg2 f2 9 _ rfl _ r k)
    (fun k => g_wt c X3 fa t.val _ 1152 _ (off76_eq v t) _ k n)
    (ld_40_2 sgwM _ 18 (256 * (t.val % 8)) _ (off77_eq v t) _ 0 n) (ld_40_2 sgwM _ 18 (256 * (t.val % 8)) _ (off77_eq v t) _ 1 n)
  have h11 := stage _ (View.readAt (Elt Ideal) arg2.view (Rect.unit (s := S16x5120) ![0, 2560] S16x256.size inb_S16x5120_S16x256_0_2560).toLoadRect f2) (View.readAt (Elt Ideal) gM.view (Rect.unit (s := S4x2560x256) (k0_off79 v t) S1x128x256.size (inb79 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off80 v t) S2x256.size (inb80 v t)).toLoadRect (sgw1 c X4 X6 fa arg0 harg0 arg1 harg1 arg2 harg2 arg7 harg7 v hw t hA fs fd fy)) r n _ _ _ 10 h10
    (fun k => x_at arg2 f2 10 _ rfl _ r k)
    (fun k => g_wt c X3 fa t.val _ 1280 _ (off79_eq v t) _ k n)
    (ld_40_2 sgwM _ 20 (256 * (t.val % 8)) _ (off80_eq v t) _ 0 n) (ld_40_2 sgwM _ 20 (256 * (t.val % 8)) _ (off80_eq v t) _ 1 n)
  have h12 := stage _ (View.readAt (Elt Ideal) arg2.view (Rect.unit (s := S16x5120) ![0, 2816] S16x256.size inb_S16x5120_S16x256_0_2816).toLoadRect f2) (View.readAt (Elt Ideal) gM.view (Rect.unit (s := S4x2560x256) (k0_off82 v t) S1x128x256.size (inb82 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off83 v t) S2x256.size (inb83 v t)).toLoadRect (sgw1 c X4 X6 fa arg0 harg0 arg1 harg1 arg2 harg2 arg7 harg7 v hw t hA fs fd fy)) r n _ _ _ 11 h11
    (fun k => x_at arg2 f2 11 _ rfl _ r k)
    (fun k => g_wt c X3 fa t.val _ 1408 _ (off82_eq v t) _ k n)
    (ld_40_2 sgwM _ 22 (256 * (t.val % 8)) _ (off83_eq v t) _ 0 n) (ld_40_2 sgwM _ 22 (256 * (t.val % 8)) _ (off83_eq v t) _ 1 n)
  have h13 := stage _ (View.readAt (Elt Ideal) arg2.view (Rect.unit (s := S16x5120) ![0, 3072] S16x256.size inb_S16x5120_S16x256_0_3072).toLoadRect f2) (View.readAt (Elt Ideal) gM.view (Rect.unit (s := S4x2560x256) (k0_off85 v t) S1x128x256.size (inb85 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off86 v t) S2x256.size (inb86 v t)).toLoadRect (sgw1 c X4 X6 fa arg0 harg0 arg1 harg1 arg2 harg2 arg7 harg7 v hw t hA fs fd fy)) r n _ _ _ 12 h12
    (fun k => x_at arg2 f2 12 _ rfl _ r k)
    (fun k => g_wt c X3 fa t.val _ 1536 _ (off85_eq v t) _ k n)
    (ld_40_2 sgwM _ 24 (256 * (t.val % 8)) _ (off86_eq v t) _ 0 n) (ld_40_2 sgwM _ 24 (256 * (t.val % 8)) _ (off86_eq v t) _ 1 n)
  have h14 := stage _ (View.readAt (Elt Ideal) arg2.view (Rect.unit (s := S16x5120) ![0, 3328] S16x256.size inb_S16x5120_S16x256_0_3328).toLoadRect f2) (View.readAt (Elt Ideal) gM.view (Rect.unit (s := S4x2560x256) (k0_off88 v t) S1x128x256.size (inb88 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off89 v t) S2x256.size (inb89 v t)).toLoadRect (sgw1 c X4 X6 fa arg0 harg0 arg1 harg1 arg2 harg2 arg7 harg7 v hw t hA fs fd fy)) r n _ _ _ 13 h13
    (fun k => x_at arg2 f2 13 _ rfl _ r k)
    (fun k => g_wt c X3 fa t.val _ 1664 _ (off88_eq v t) _ k n)
    (ld_40_2 sgwM _ 26 (256 * (t.val % 8)) _ (off89_eq v t) _ 0 n) (ld_40_2 sgwM _ 26 (256 * (t.val % 8)) _ (off89_eq v t) _ 1 n)
  have h15 := stage _ (View.readAt (Elt Ideal) arg2.view (Rect.unit (s := S16x5120) ![0, 3584] S16x256.size inb_S16x5120_S16x256_0_3584).toLoadRect f2) (View.readAt (Elt Ideal) gM.view (Rect.unit (s := S4x2560x256) (k0_off91 v t) S1x128x256.size (inb91 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off92 v t) S2x256.size (inb92 v t)).toLoadRect (sgw1 c X4 X6 fa arg0 harg0 arg1 harg1 arg2 harg2 arg7 harg7 v hw t hA fs fd fy)) r n _ _ _ 14 h14
    (fun k => x_at arg2 f2 14 _ rfl _ r k)
    (fun k => g_wt c X3 fa t.val _ 1792 _ (off91_eq v t) _ k n)
    (ld_40_2 sgwM _ 28 (256 * (t.val % 8)) _ (off92_eq v t) _ 0 n) (ld_40_2 sgwM _ 28 (256 * (t.val % 8)) _ (off92_eq v t) _ 1 n)
  have h16 := stage _ (View.readAt (Elt Ideal) arg2.view (Rect.unit (s := S16x5120) ![0, 3840] S16x256.size inb_S16x5120_S16x256_0_3840).toLoadRect f2) (View.readAt (Elt Ideal) gM.view (Rect.unit (s := S4x2560x256) (k0_off94 v t) S1x128x256.size (inb94 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off95 v t) S2x256.size (inb95 v t)).toLoadRect (sgw1 c X4 X6 fa arg0 harg0 arg1 harg1 arg2 harg2 arg7 harg7 v hw t hA fs fd fy)) r n _ _ _ 15 h15
    (fun k => x_at arg2 f2 15 _ rfl _ r k)
    (fun k => g_wt c X3 fa t.val _ 1920 _ (off94_eq v t) _ k n)
    (ld_40_2 sgwM _ 30 (256 * (t.val % 8)) _ (off95_eq v t) _ 0 n) (ld_40_2 sgwM _ 30 (256 * (t.val % 8)) _ (off95_eq v t) _ 1 n)
  have h17 := stage _ (View.readAt (Elt Ideal) arg2.view (Rect.unit (s := S16x5120) ![0, 4096] S16x256.size inb_S16x5120_S16x256_0_4096).toLoadRect f2) (View.readAt (Elt Ideal) gM.view (Rect.unit (s := S4x2560x256) (k0_off97 v t) S1x128x256.size (inb97 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off98 v t) S2x256.size (inb98 v t)).toLoadRect (sgw1 c X4 X6 fa arg0 harg0 arg1 harg1 arg2 harg2 arg7 harg7 v hw t hA fs fd fy)) r n _ _ _ 16 h16
    (fun k => x_at arg2 f2 16 _ rfl _ r k)
    (fun k => g_wt c X3 fa t.val _ 2048 _ (off97_eq v t) _ k n)
    (ld_40_2 sgwM _ 32 (256 * (t.val % 8)) _ (off98_eq v t) _ 0 n) (ld_40_2 sgwM _ 32 (256 * (t.val % 8)) _ (off98_eq v t) _ 1 n)
  have h18 := stage _ (View.readAt (Elt Ideal) arg2.view (Rect.unit (s := S16x5120) ![0, 4352] S16x256.size inb_S16x5120_S16x256_0_4352).toLoadRect f2) (View.readAt (Elt Ideal) gM.view (Rect.unit (s := S4x2560x256) (k0_off100 v t) S1x128x256.size (inb100 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off101 v t) S2x256.size (inb101 v t)).toLoadRect (sgw1 c X4 X6 fa arg0 harg0 arg1 harg1 arg2 harg2 arg7 harg7 v hw t hA fs fd fy)) r n _ _ _ 17 h17
    (fun k => x_at arg2 f2 17 _ rfl _ r k)
    (fun k => g_wt c X3 fa t.val _ 2176 _ (off100_eq v t) _ k n)
    (ld_40_2 sgwM _ 34 (256 * (t.val % 8)) _ (off101_eq v t) _ 0 n) (ld_40_2 sgwM _ 34 (256 * (t.val % 8)) _ (off101_eq v t) _ 1 n)
  have h19 := stage _ (View.readAt (Elt Ideal) arg2.view (Rect.unit (s := S16x5120) ![0, 4608] S16x256.size inb_S16x5120_S16x256_0_4608).toLoadRect f2) (View.readAt (Elt Ideal) gM.view (Rect.unit (s := S4x2560x256) (k0_off103 v t) S1x128x256.size (inb103 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off104 v t) S2x256.size (inb104 v t)).toLoadRect (sgw1 c X4 X6 fa arg0 harg0 arg1 harg1 arg2 harg2 arg7 harg7 v hw t hA fs fd fy)) r n _ _ _ 18 h18
    (fun k => x_at arg2 f2 18 _ rfl _ r k)
    (fun k => g_wt c X3 fa t.val _ 2304 _ (off103_eq v t) _ k n)
    (ld_40_2 sgwM _ 36 (256 * (t.val % 8)) _ (off104_eq v t) _ 0 n) (ld_40_2 sgwM _ 36 (256 * (t.val % 8)) _ (off104_eq v t) _ 1 n)
  have h20 := stage _ (View.readAt (Elt Ideal) arg2.view (Rect.unit (s := S16x5120) ![0, 4864] S16x256.size inb_S16x5120_S16x256_0_4864).toLoadRect f2) (View.readAt (Elt Ideal) gM.view (Rect.unit (s := S4x2560x256) (k0_off106 v t) S1x128x256.size (inb106 v t)).toLoadRect ((gS (Ring.sl 4 t.val)).view.writes (Elt Ideal) (gS (Ring.sl 4 t.val)).view.junk [⟨Rect.whole S2560x256, gPay c X3 fa t.val⟩])) (View.readAt (Elt Ideal) sgwM.view (Rect.unit (s := S40x4096) (k0_off107 v t) S2x256.size (inb107 v t)).toLoadRect (sgw1 c X4 X6 fa arg0 harg0 arg1 harg1 arg2 harg2 arg7 harg7 v hw t hA fs fd fy)) r n _ _ _ 19 h19
    (fun k => x_at arg2 f2 19 _ rfl _ r k)
    (fun k => g_wt c X3 fa t.val _ 2432 _ (off106_eq v t) _ k n)
    (ld_40_2 sgwM _ 38 (256 * (t.val % 8)) _ (off107_eq v t) _ 0 n) (ld_40_2 sgwM _ 38 (256 * (t.val % 8)) _ (off107_eq v t) _ 1 n)
  exact h20

theorem up19_at (r : Fin 16) (n : Fin 256) : (part77_run.sl.r_111 c X3 X4 X6 fa arg0 harg0 arg1 harg1 arg2 harg2 arg7 harg7 v hw t f2 hA fs fd fy) (ix2 r n)
    = ∑ k ∈ Finset.range 4864, term (xrow arg2 f2 r) (wcol c X3 (ex c fa t.val) (2048 + 256 * (t.val % 8) + n.val)) (scol (sgw1 c X4 X6 fa arg0 harg0 arg1 harg1 arg2 harg2 arg7 harg7 v hw t hA fs fd fy) (2048 + 256 * (t.val % 8) + n.val)) k := by
  have h0 : (k0_pay74 (F := Ideal)) (ix2 r n) = ∑ k ∈ Finset.range (256 * 0), term (xrow arg2 f2 r) (wcol c X3 (ex c fa t.val) (2048 + 256 * (t.val % 8) + n.val)) (scol (sgw1 c X4 X6 fa arg0 harg0 arg1 harg1 arg2 harg2 arg7 harg7 v hw t hA fs fd fy) (2048 + 256 * (t.val % 8) + n.val)) k := by
    rw [Nat.mul_zero, Finset.sum_range_zero]
    unfold k0_pay74
    pointwise
  have h1 := stage _ (View.readAt (Elt Ideal) arg2.view (Rect.unit (s := S16x5120) ![0, 0] S16x256.size inb_S16x5120_S16x256_0_0).toLoadRect f2) (View.readAt (Elt Ideal) uM.view (Rect.unit (s := S4x2560x256) (k0_off49 v t) S1x128x256.size (inb49 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off51 v t) S2x256.size (inb51 v t)).toLoadRect (sgw1 c X4 X6 fa arg0 harg0 arg1 harg1 arg2 harg2 arg7 harg7 v hw t hA fs fd fy)) r n _ _ _ 0 h0
    (fun k => x_at arg2 f2 0 _ rfl _ r k)
    (fun k => u_wt c X3 fa t.val _ 0 _ (off49_eq v t) _ k n)
    (ld_40_2 sgwM _ 0 (2048 + 256 * (t.val % 8)) _ (off51_eq v t) _ 0 n) (ld_40_2 sgwM _ 0 (2048 + 256 * (t.val % 8)) _ (off51_eq v t) _ 1 n)
  have h2 := stage _ (View.readAt (Elt Ideal) arg2.view (Rect.unit (s := S16x5120) ![0, 256] S16x256.size inb_S16x5120_S16x256_0_256).toLoadRect f2) (View.readAt (Elt Ideal) uM.view (Rect.unit (s := S4x2560x256) (k0_off52 v t) S1x128x256.size (inb52 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off54 v t) S2x256.size (inb54 v t)).toLoadRect (sgw1 c X4 X6 fa arg0 harg0 arg1 harg1 arg2 harg2 arg7 harg7 v hw t hA fs fd fy)) r n _ _ _ 1 h1
    (fun k => x_at arg2 f2 1 _ rfl _ r k)
    (fun k => u_wt c X3 fa t.val _ 128 _ (off52_eq v t) _ k n)
    (ld_40_2 sgwM _ 2 (2048 + 256 * (t.val % 8)) _ (off54_eq v t) _ 0 n) (ld_40_2 sgwM _ 2 (2048 + 256 * (t.val % 8)) _ (off54_eq v t) _ 1 n)
  have h3 := stage _ (View.readAt (Elt Ideal) arg2.view (Rect.unit (s := S16x5120) ![0, 512] S16x256.size inb_S16x5120_S16x256_0_512).toLoadRect f2) (View.readAt (Elt Ideal) uM.view (Rect.unit (s := S4x2560x256) (k0_off55 v t) S1x128x256.size (inb55 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off57 v t) S2x256.size (inb57 v t)).toLoadRect (sgw1 c X4 X6 fa arg0 harg0 arg1 harg1 arg2 harg2 arg7 harg7 v hw t hA fs fd fy)) r n _ _ _ 2 h2
    (fun k => x_at arg2 f2 2 _ rfl _ r k)
    (fun k => u_wt c X3 fa t.val _ 256 _ (off55_eq v t) _ k n)
    (ld_40_2 sgwM _ 4 (2048 + 256 * (t.val % 8)) _ (off57_eq v t) _ 0 n) (ld_40_2 sgwM _ 4 (2048 + 256 * (t.val % 8)) _ (off57_eq v t) _ 1 n)
  have h4 := stage _ (View.readAt (Elt Ideal) arg2.view (Rect.unit (s := S16x5120) ![0, 768] S16x256.size inb_S16x5120_S16x256_0_768).toLoadRect f2) (View.readAt (Elt Ideal) uM.view (Rect.unit (s := S4x2560x256) (k0_off58 v t) S1x128x256.size (inb58 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off60 v t) S2x256.size (inb60 v t)).toLoadRect (sgw1 c X4 X6 fa arg0 harg0 arg1 harg1 arg2 harg2 arg7 harg7 v hw t hA fs fd fy)) r n _ _ _ 3 h3
    (fun k => x_at arg2 f2 3 _ rfl _ r k)
    (fun k => u_wt c X3 fa t.val _ 384 _ (off58_eq v t) _ k n)
    (ld_40_2 sgwM _ 6 (2048 + 256 * (t.val % 8)) _ (off60_eq v t) _ 0 n) (ld_40_2 sgwM _ 6 (2048 + 256 * (t.val % 8)) _ (off60_eq v t) _ 1 n)
  have h5 := stage _ (View.readAt (Elt Ideal) arg2.view (Rect.unit (s := S16x5120) ![0, 1024] S16x256.size inb_S16x5120_S16x256_0_1024).toLoadRect f2) (View.readAt (Elt Ideal) uM.view (Rect.unit (s := S4x2560x256) (k0_off61 v t) S1x128x256.size (inb61 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off63 v t) S2x256.size (inb63 v t)).toLoadRect (sgw1 c X4 X6 fa arg0 harg0 arg1 harg1 arg2 harg2 arg7 harg7 v hw t hA fs fd fy)) r n _ _ _ 4 h4
    (fun k => x_at arg2 f2 4 _ rfl _ r k)
    (fun k => u_wt c X3 fa t.val _ 512 _ (off61_eq v t) _ k n)
    (ld_40_2 sgwM _ 8 (2048 + 256 * (t.val % 8)) _ (off63_eq v t) _ 0 n) (ld_40_2 sgwM _ 8 (2048 + 256 * (t.val % 8)) _ (off63_eq v t) _ 1 n)
  have h6 := stage _ (View.readAt (Elt Ideal) arg2.view (Rect.unit (s := S16x5120) ![0, 1280] S16x256.size inb_S16x5120_S16x256_0_1280).toLoadRect f2) (View.readAt (Elt Ideal) uM.view (Rect.unit (s := S4x2560x256) (k0_off64 v t) S1x128x256.size (inb64 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off66 v t) S2x256.size (inb66 v t)).toLoadRect (sgw1 c X4 X6 fa arg0 harg0 arg1 harg1 arg2 harg2 arg7 harg7 v hw t hA fs fd fy)) r n _ _ _ 5 h5
    (fun k => x_at arg2 f2 5 _ rfl _ r k)
    (fun k => u_wt c X3 fa t.val _ 640 _ (off64_eq v t) _ k n)
    (ld_40_2 sgwM _ 10 (2048 + 256 * (t.val % 8)) _ (off66_eq v t) _ 0 n) (ld_40_2 sgwM _ 10 (2048 + 256 * (t.val % 8)) _ (off66_eq v t) _ 1 n)
  have h7 := stage _ (View.readAt (Elt Ideal) arg2.view (Rect.unit (s := S16x5120) ![0, 1536] S16x256.size inb_S16x5120_S16x256_0_1536).toLoadRect f2) (View.readAt (Elt Ideal) uM.view (Rect.unit (s := S4x2560x256) (k0_off67 v t) S1x128x256.size (inb67 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off69 v t) S2x256.size (inb69 v t)).toLoadRect (sgw1 c X4 X6 fa arg0 harg0 arg1 harg1 arg2 harg2 arg7 harg7 v hw t hA fs fd fy)) r n _ _ _ 6 h6
    (fun k => x_at arg2 f2 6 _ rfl _ r k)
    (fun k => u_wt c X3 fa t.val _ 768 _ (off67_eq v t) _ k n)
    (ld_40_2 sgwM _ 12 (2048 + 256 * (t.val % 8)) _ (off69_eq v t) _ 0 n) (ld_40_2 sgwM _ 12 (2048 + 256 * (t.val % 8)) _ (off69_eq v t) _ 1 n)
  have h8 := stage _ (View.readAt (Elt Ideal) arg2.view (Rect.unit (s := S16x5120) ![0, 1792] S16x256.size inb_S16x5120_S16x256_0_1792).toLoadRect f2) (View.readAt (Elt Ideal) uM.view (Rect.unit (s := S4x2560x256) (k0_off70 v t) S1x128x256.size (inb70 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off72 v t) S2x256.size (inb72 v t)).toLoadRect (sgw1 c X4 X6 fa arg0 harg0 arg1 harg1 arg2 harg2 arg7 harg7 v hw t hA fs fd fy)) r n _ _ _ 7 h7
    (fun k => x_at arg2 f2 7 _ rfl _ r k)
    (fun k => u_wt c X3 fa t.val _ 896 _ (off70_eq v t) _ k n)
    (ld_40_2 sgwM _ 14 (2048 + 256 * (t.val % 8)) _ (off72_eq v t) _ 0 n) (ld_40_2 sgwM _ 14 (2048 + 256 * (t.val % 8)) _ (off72_eq v t) _ 1 n)
  have h9 := stage _ (View.readAt (Elt Ideal) arg2.view (Rect.unit (s := S16x5120) ![0, 2048] S16x256.size inb_S16x5120_S16x256_0_2048).toLoadRect f2) (View.readAt (Elt Ideal) uM.view (Rect.unit (s := S4x2560x256) (k0_off73 v t) S1x128x256.size (inb73 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off75 v t) S2x256.size (inb75 v t)).toLoadRect (sgw1 c X4 X6 fa arg0 harg0 arg1 harg1 arg2 harg2 arg7 harg7 v hw t hA fs fd fy)) r n _ _ _ 8 h8
    (fun k => x_at arg2 f2 8 _ rfl _ r k)
    (fun k => u_wt c X3 fa t.val _ 1024 _ (off73_eq v t) _ k n)
    (ld_40_2 sgwM _ 16 (2048 + 256 * (t.val % 8)) _ (off75_eq v t) _ 0 n) (ld_40_2 sgwM _ 16 (2048 + 256 * (t.val % 8)) _ (off75_eq v t) _ 1 n)
  have h10 := stage _ (View.readAt (Elt Ideal) arg2.view (Rect.unit (s := S16x5120) ![0, 2304] S16x256.size inb_S16x5120_S16x256_0_2304).toLoadRect f2) (View.readAt (Elt Ideal) uM.view (Rect.unit (s := S4x2560x256) (k0_off76 v t) S1x128x256.size (inb76 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off78 v t) S2x256.size (inb78 v t)).toLoadRect (sgw1 c X4 X6 fa arg0 harg0 arg1 harg1 arg2 harg2 arg7 harg7 v hw t hA fs fd fy)) r n _ _ _ 9 h9
    (fun k => x_at arg2 f2 9 _ rfl _ r k)
    (fun k => u_wt c X3 fa t.val _ 1152 _ (off76_eq v t) _ k n)
    (ld_40_2 sgwM _ 18 (2048 + 256 * (t.val % 8)) _ (off78_eq v t) _ 0 n) (ld_40_2 sgwM _ 18 (2048 + 256 * (t.val % 8)) _ (off78_eq v t) _ 1 n)
  have h11 := stage _ (View.readAt (Elt Ideal) arg2.view (Rect.unit (s := S16x5120) ![0, 2560] S16x256.size inb_S16x5120_S16x256_0_2560).toLoadRect f2) (View.readAt (Elt Ideal) uM.view (Rect.unit (s := S4x2560x256) (k0_off79 v t) S1x128x256.size (inb79 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off81 v t) S2x256.size (inb81 v t)).toLoadRect (sgw1 c X4 X6 fa arg0 harg0 arg1 harg1 arg2 harg2 arg7 harg7 v hw t hA fs fd fy)) r n _ _ _ 10 h10
    (fun k => x_at arg2 f2 10 _ rfl _ r k)
    (fun k => u_wt c X3 fa t.val _ 1280 _ (off79_eq v t) _ k n)
    (ld_40_2 sgwM _ 20 (2048 + 256 * (t.val % 8)) _ (off81_eq v t) _ 0 n) (ld_40_2 sgwM _ 20 (2048 + 256 * (t.val % 8)) _ (off81_eq v t) _ 1 n)
  have h12 := stage _ (View.readAt (Elt Ideal) arg2.view (Rect.unit (s := S16x5120) ![0, 2816] S16x256.size inb_S16x5120_S16x256_0_2816).toLoadRect f2) (View.readAt (Elt Ideal) uM.view (Rect.unit (s := S4x2560x256) (k0_off82 v t) S1x128x256.size (inb82 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off84 v t) S2x256.size (inb84 v t)).toLoadRect (sgw1 c X4 X6 fa arg0 harg0 arg1 harg1 arg2 harg2 arg7 harg7 v hw t hA fs fd fy)) r n _ _ _ 11 h11
    (fun k => x_at arg2 f2 11 _ rfl _ r k)
    (fun k => u_wt c X3 fa t.val _ 1408 _ (off82_eq v t) _ k n)
    (ld_40_2 sgwM _ 22 (2048 + 256 * (t.val % 8)) _ (off84_eq v t) _ 0 n) (ld_40_2 sgwM _ 22 (2048 + 256 * (t.val % 8)) _ (off84_eq v t) _ 1 n)
  have h13 := stage _ (View.readAt (Elt Ideal) arg2.view (Rect.unit (s := S16x5120) ![0, 3072] S16x256.size inb_S16x5120_S16x256_0_3072).toLoadRect f2) (View.readAt (Elt Ideal) uM.view (Rect.unit (s := S4x2560x256) (k0_off85 v t) S1x128x256.size (inb85 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off87 v t) S2x256.size (inb87 v t)).toLoadRect (sgw1 c X4 X6 fa arg0 harg0 arg1 harg1 arg2 harg2 arg7 harg7 v hw t hA fs fd fy)) r n _ _ _ 12 h12
    (fun k => x_at arg2 f2 12 _ rfl _ r k)
    (fun k => u_wt c X3 fa t.val _ 1536 _ (off85_eq v t) _ k n)
    (ld_40_2 sgwM _ 24 (2048 + 256 * (t.val % 8)) _ (off87_eq v t) _ 0 n) (ld_40_2 sgwM _ 24 (2048 + 256 * (t.val % 8)) _ (off87_eq v t) _ 1 n)
  have h14 := stage _ (View.readAt (Elt Ideal) arg2.view (Rect.unit (s := S16x5120) ![0, 3328] S16x256.size inb_S16x5120_S16x256_0_3328).toLoadRect f2) (View.readAt (Elt Ideal) uM.view (Rect.unit (s := S4x2560x256) (k0_off88 v t) S1x128x256.size (inb88 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off90 v t) S2x256.size (inb90 v t)).toLoadRect (sgw1 c X4 X6 fa arg0 harg0 arg1 harg1 arg2 harg2 arg7 harg7 v hw t hA fs fd fy)) r n _ _ _ 13 h13
    (fun k => x_at arg2 f2 13 _ rfl _ r k)
    (fun k => u_wt c X3 fa t.val _ 1664 _ (off88_eq v t) _ k n)
    (ld_40_2 sgwM _ 26 (2048 + 256 * (t.val % 8)) _ (off90_eq v t) _ 0 n) (ld_40_2 sgwM _ 26 (2048 + 256 * (t.val % 8)) _ (off90_eq v t) _ 1 n)
  have h15 := stage _ (View.readAt (Elt Ideal) arg2.view (Rect.unit (s := S16x5120) ![0, 3584] S16x256.size inb_S16x5120_S16x256_0_3584).toLoadRect f2) (View.readAt (Elt Ideal) uM.view (Rect.unit (s := S4x2560x256) (k0_off91 v t) S1x128x256.size (inb91 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off93 v t) S2x256.size (inb93 v t)).toLoadRect (sgw1 c X4 X6 fa arg0 harg0 arg1 harg1 arg2 harg2 arg7 harg7 v hw t hA fs fd fy)) r n _ _ _ 14 h14
    (fun k => x_at arg2 f2 14 _ rfl _ r k)
    (fun k => u_wt c X3 fa t.val _ 1792 _ (off91_eq v t) _ k n)
    (ld_40_2 sgwM _ 28 (2048 + 256 * (t.val % 8)) _ (off93_eq v t) _ 0 n) (ld_40_2 sgwM _ 28 (2048 + 256 * (t.val % 8)) _ (off93_eq v t) _ 1 n)
  have h16 := stage _ (View.readAt (Elt Ideal) arg2.view (Rect.unit (s := S16x5120) ![0, 3840] S16x256.size inb_S16x5120_S16x256_0_3840).toLoadRect f2) (View.readAt (Elt Ideal) uM.view (Rect.unit (s := S4x2560x256) (k0_off94 v t) S1x128x256.size (inb94 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off96 v t) S2x256.size (inb96 v t)).toLoadRect (sgw1 c X4 X6 fa arg0 harg0 arg1 harg1 arg2 harg2 arg7 harg7 v hw t hA fs fd fy)) r n _ _ _ 15 h15
    (fun k => x_at arg2 f2 15 _ rfl _ r k)
    (fun k => u_wt c X3 fa t.val _ 1920 _ (off94_eq v t) _ k n)
    (ld_40_2 sgwM _ 30 (2048 + 256 * (t.val % 8)) _ (off96_eq v t) _ 0 n) (ld_40_2 sgwM _ 30 (2048 + 256 * (t.val % 8)) _ (off96_eq v t) _ 1 n)
  have h17 := stage _ (View.readAt (Elt Ideal) arg2.view (Rect.unit (s := S16x5120) ![0, 4096] S16x256.size inb_S16x5120_S16x256_0_4096).toLoadRect f2) (View.readAt (Elt Ideal) uM.view (Rect.unit (s := S4x2560x256) (k0_off97 v t) S1x128x256.size (inb97 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off99 v t) S2x256.size (inb99 v t)).toLoadRect (sgw1 c X4 X6 fa arg0 harg0 arg1 harg1 arg2 harg2 arg7 harg7 v hw t hA fs fd fy)) r n _ _ _ 16 h16
    (fun k => x_at arg2 f2 16 _ rfl _ r k)
    (fun k => u_wt c X3 fa t.val _ 2048 _ (off97_eq v t) _ k n)
    (ld_40_2 sgwM _ 32 (2048 + 256 * (t.val % 8)) _ (off99_eq v t) _ 0 n) (ld_40_2 sgwM _ 32 (2048 + 256 * (t.val % 8)) _ (off99_eq v t) _ 1 n)
  have h18 := stage _ (View.readAt (Elt Ideal) arg2.view (Rect.unit (s := S16x5120) ![0, 4352] S16x256.size inb_S16x5120_S16x256_0_4352).toLoadRect f2) (View.readAt (Elt Ideal) uM.view (Rect.unit (s := S4x2560x256) (k0_off100 v t) S1x128x256.size (inb100 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off102 v t) S2x256.size (inb102 v t)).toLoadRect (sgw1 c X4 X6 fa arg0 harg0 arg1 harg1 arg2 harg2 arg7 harg7 v hw t hA fs fd fy)) r n _ _ _ 17 h17
    (fun k => x_at arg2 f2 17 _ rfl _ r k)
    (fun k => u_wt c X3 fa t.val _ 2176 _ (off100_eq v t) _ k n)
    (ld_40_2 sgwM _ 34 (2048 + 256 * (t.val % 8)) _ (off102_eq v t) _ 0 n) (ld_40_2 sgwM _ 34 (2048 + 256 * (t.val % 8)) _ (off102_eq v t) _ 1 n)
  have h19 := stage _ (View.readAt (Elt Ideal) arg2.view (Rect.unit (s := S16x5120) ![0, 4608] S16x256.size inb_S16x5120_S16x256_0_4608).toLoadRect f2) (View.readAt (Elt Ideal) uM.view (Rect.unit (s := S4x2560x256) (k0_off103 v t) S1x128x256.size (inb103 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off105 v t) S2x256.size (inb105 v t)).toLoadRect (sgw1 c X4 X6 fa arg0 harg0 arg1 harg1 arg2 harg2 arg7 harg7 v hw t hA fs fd fy)) r n _ _ _ 18 h18
    (fun k => x_at arg2 f2 18 _ rfl _ r k)
    (fun k => u_wt c X3 fa t.val _ 2304 _ (off103_eq v t) _ k n)
    (ld_40_2 sgwM _ 36 (2048 + 256 * (t.val % 8)) _ (off105_eq v t) _ 0 n) (ld_40_2 sgwM _ 36 (2048 + 256 * (t.val % 8)) _ (off105_eq v t) _ 1 n)
  exact h19

end Step

end Cert.Proof.KernelIdeal

end
-- ==== Proof.V4.lean ====
/-
  The hidden row of a step, and the running sum it adds to.
-/
module

public import proofs.«01_k».proof.Proof.V3
public import Idealize.ShloMosaic.Lib.WritesUnit
public import proofs.«01_k».proof.Proof.V2
public import proofs.«01_k».proof.Proof.IdealWhole
public import proofs.«01_k».proof.Proof.IdealStep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (Pipeline.UD sig nD τ) ℕ

set_option maxHeartbeats 4000000

open Cert.Proof.Val

def dcol (c : Dev nD) (X5 : Buf (Elt Ideal) (wdM.view.loc (c : Thread nD τ))) (e : Fin 4) (col k : ℕ) : BitVec 8 := wdM.view.read (Elt Ideal) X5 (ix3 e (nat 1024 k) (nat 5120 col))
def dscol {c : Dev nD} (f : Buf (Elt Ideal) (sdwM.view.loc (c : Thread nD τ))) (col k : ℕ) : Ideal .f32 := sdwM.view.read (Elt Ideal) f (ix2 (nat 16 k) (nat 5120 col))
/-- One product of a row by a column. -/
def dotc (xf : ℕ → Ideal .f32) (wf : ℕ → BitVec 8) (sf : ℕ → Ideal .f32) (n : ℕ) : Ideal .f32 := ∑ k ∈ Finset.range n, term xf wf sf k
/-- The hidden value from its gate and its up product. -/
def glu (g u : Ideal .f32) : Ideal .f32 := (g * FloatOps.logistic (F := Ideal) g) * u
/-- The hidden row of an expert. -/
def hid (xf : ℕ → Ideal .f32) (W : ℕ → ℕ → BitVec 8) (S : ℕ → ℕ → Ideal .f32) (m : ℕ) : Ideal .f32 := glu (dotc xf (W m) (S m) 5120) (dotc xf (W (2048 + m)) (S (2048 + m)) 5120)

theorem same16 {α : Type} (f : S16x256.Idx → α) (h) (r : Fin 16) (n : Fin 256) : shapeCast S16x256 f h (ix2 r n) = f (ix2 r n) := by pointwise

theorem pay75_id (x : Vec Ideal S16x256 .bf16) : k0_pay75 (F := Ideal) x = x := by
  unfold k0_pay75
  funext i
  pointwise

theorem cat0 (a b : Vec Ideal S1x256 .f32) (n : Fin 256) (h) : concatenate S2x256 0 [⟨S1x256, a⟩, ⟨S1x256, b⟩] h (ix2 0 n) = a (ix2 0 n) := by pointwise
theorem cat1 (a b : Vec Ideal S1x256 .f32) (n : Fin 256) (h) : concatenate S2x256 0 [⟨S1x256, a⟩, ⟨S1x256, b⟩] h (ix2 1 n) = b (ix2 0 n) := by pointwise

theorem tile_at (x : Vec Ideal S16x256 .bf16) (s0 s1 : Vec Ideal S1x256 .f32) (w : Vec Ideal S1x128x256 .i8) (y : Vec Ideal S16x256 .f32) (r : Fin 16) (n : Fin 256)
    (xf : ℕ → Ideal .f32) (wf : ℕ → BitVec 8) (sf : ℕ → Ideal .f32) (b : ℕ)
    (hx : ∀ k : Fin 256, x (ix2 r k) = xf (256 * b + k.val)) (hw : ∀ k : Fin 128, w (ix3 0 k n) = wf (128 * b + k.val))
    (h0 : s0 (ix2 0 n) = sf (2 * b)) (h1 : s1 (ix2 0 n) = sf (2 * b + 1)) :
    k0_pay185 (F := Ideal) x s0 s1 w y (ix2 r n) = y (ix2 r n) + ∑ k ∈ Finset.range 256, term xf wf sf (256 * b + k) := by
  refine Eq.trans (b := shapeCast S16x256 (addf y (k0_pay76 (F := Ideal) x w (concatenate S2x256 0 [⟨S1x256, s0⟩, ⟨S1x256, s1⟩] concatenates_S1x256_S1x256_S2x256_d0))) shapeCasts_S16x256_S16x256 (ix2 r n)) (congrFun ((congrArg (fun x => k0_pay185 (F := Ideal) x s0 s1 w y) (pay75_id x)).symm.trans rfl) _) ?_
  rw [same16]
  refine Eq.trans (b := y (ix2 r n) + k0_pay76 (F := Ideal) x w (concatenate S2x256 0 [⟨S1x256, s0⟩, ⟨S1x256, s1⟩] concatenates_S1x256_S1x256_S2x256_d0) (ix2 r n)) rfl ?_
  rw [mm_at x w _ r n xf wf sf b hx hw ((cat0 s0 s1 n _).trans h0) ((cat1 s0 s1 n _).trans h1)]

theorem inbv (off : Fin 3 → ℕ) (s q : ℕ) (e : off = ![s, 0, q]) (hs : s < 4) (ho : q + 256 ≤ 5120) : ∀ a, off a + S1x128x256.size a ≤ S4x128x5120.size a := by
  subst e; intro a; fin_cases a
  · show s + 1 ≤ 4; omega
  · show 0 + 128 ≤ 128; omega
  · show q + 256 ≤ 5120; omega
theorem inbe (off : Fin 2 → ℕ) (s o : ℕ) (e : off = ![s, o]) (hs : s + 1 ≤ 16) (ho : o + 256 ≤ 5120) : ∀ a, off a + S1x256.size a ≤ S16x5120.size a := by
  subst e; intro a; fin_cases a
  · show s + 1 ≤ 16; omega
  · show o + 256 ≤ 5120; omega
theorem inbt : ∀ (b : Fin 20) a, (![0, 256 * b.val] : Fin 2 → ℕ) a + S16x256.size a ≤ S16x5120.size a := by
  intro b a; have := b.isLt; fin_cases a
  · show 0 + 16 ≤ 16; omega
  · show 256 * b.val + 256 ≤ 5120; omega

section Step
variable (c : Dev nD)
  (X3 : Buf (Elt Ideal) (wguM.view.loc (c : Thread nD τ))) (X4 : Buf (Elt Ideal) (sguM.view.loc (c : Thread nD τ)))
  (X5 : Buf (Elt Ideal) (wdM.view.loc (c : Thread nD τ))) (X6 : Buf (Elt Ideal) (sdM.view.loc (c : Thread nD τ)))
  (fa : Buf (Elt Ideal) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt Ideal) (arg0.view.loc (c : Thread nD τ))) (f1 : Buf (Elt Ideal) (arg1.view.loc (c : Thread nD τ))) (f2 : Buf (Elt Ideal) (arg2.view.loc (c : Thread nD τ)))

variable (hA : ActOK c fa v.toNat)
    (fs : Buf (Elt Ideal) (sgwM.view.loc (c : Thread nD τ))) (fd : Buf (Elt Ideal) (sdwM.view.loc (c : Thread nD τ))) (fy : Buf (Elt Ideal) (yM.view.loc (c : Thread nD τ))) (fc : Buf (Elt Ideal) (accM.view.loc (c : Thread nD τ)))

theorem up_at (r : Fin 16) (n : Fin 256) : addf (part77_run.sl.r_111 c X3 X4 X6 fa arg0 harg0 arg1 harg1 arg2 harg2 arg7 harg7 v hw t f2 hA fs fd fy) (k0_pay76 (F := Ideal) (View.readAt (Elt Ideal) arg2.view (Rect.unit (s := S16x5120) ![0, 4864] S16x256.size inb_S16x5120_S16x256_0_4864).toLoadRect f2) (View.readAt (Elt Ideal) uM.view (Rect.unit (s := S4x2560x256) (k0_off106 v t) S1x128x256.size (inb106 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off108 v t) S2x256.size (inb108 v t)).toLoadRect (sgw1 c X4 X6 fa arg0 harg0 arg1 harg1 arg2 harg2 arg7 harg7 v hw t hA fs fd fy))) (ix2 r n)
    = ∑ k ∈ Finset.range 5120, term (xrow arg2 f2 r) (wcol c X3 (ex c fa t.val) (2048 + 256 * (t.val % 8) + n.val)) (scol (sgw1 c X4 X6 fa arg0 harg0 arg1 harg1 arg2 harg2 arg7 harg7 v hw t hA fs fd fy) (2048 + 256 * (t.val % 8) + n.val)) k :=
  stage _ (View.readAt (Elt Ideal) arg2.view (Rect.unit (s := S16x5120) ![0, 4864] S16x256.size inb_S16x5120_S16x256_0_4864).toLoadRect f2) (View.readAt (Elt Ideal) uM.view (Rect.unit (s := S4x2560x256) (k0_off106 v t) S1x128x256.size (inb106 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off108 v t) S2x256.size (inb108 v t)).toLoadRect (sgw1 c X4 X6 fa arg0 harg0 arg1 harg1 arg2 harg2 arg7 harg7 v hw t hA fs fd fy)) r n _ _ _ 19 (up19_at c X3 X4 X6 fa arg0 harg0 arg1 harg1 arg2 harg2 arg7 harg7 v hw t f2 hA fs fd fy r n)
    (fun k => x_at arg2 f2 19 _ rfl _ r k)
    (fun k => u_wt c X3 fa t.val _ 2432 _ (off106_eq v t) _ k n)
    (ld_40_2 sgwM _ 38 (2048 + 256 * (t.val % 8)) _ (off108_eq v t) _ 0 n) (ld_40_2 sgwM _ 38 (2048 + 256 * (t.val % 8)) _ (off108_eq v t) _ 1 n)

theorem h_at (r : Fin 16) (n : Fin 256) : part77_run.sl.v1605 c X3 X4 X6 fa arg0 harg0 arg1 harg1 arg2 harg2 arg7 harg7 v hw t f2 hA fs fd fy (ix2 r n) = (hid (xrow arg2 f2 r) (wcol c X3 (ex c fa t.val)) (scol (sgw1 c X4 X6 fa arg0 harg0 arg1 harg1 arg2 harg2 arg7 harg7 v hw t hA fs fd fy))) (256 * (t.val % 8) + n.val) := by
  refine (View.read_writes_cons_unit_of_mem (Val := Elt Ideal) hM.view hM.view.junk inb_S16x256_S16x256_0_0 (k0_pay184 (part77_run.sl.r_111 c X3 X4 X6 fa arg0 harg0 arg1 harg1 arg2 harg2 arg7 harg7 v hw t f2 hA fs fd fy) (part77_run.sl.r_112 c arg2 f2) (part77_run.sl.r_115 c X3 X4 X6 fa arg0 harg0 arg1 harg1 arg2 harg2 arg7 harg7 v hw t f2 hA fs fd fy) (part77_run.sl.r_116 c X4 X6 fa arg0 harg0 arg1 harg1 arg2 harg2 arg7 harg7 v hw t hA fs fd fy) (part77_run.sl.r_117 c X3 fa v hw t) (part77_run.sl.r_118 c X4 X6 fa arg0 harg0 arg1 harg1 arg2 harg2 arg7 harg7 v hw t hA fs fd fy)) [] _ (ix2 r n) rfl (fun a => ?_)).trans ?_
  · show ![0, 0] a + 1 * ((ix2 r n : S16x256.Idx) a).val = _
    rw [Nat.one_mul]
  · refine Eq.trans (b := shapeCast S16x256 (mulf (mulf (part77_run.sl.r_115 c X3 X4 X6 fa arg0 harg0 arg1 harg1 arg2 harg2 arg7 harg7 v hw t f2 hA fs fd fy) (logistic (part77_run.sl.r_115 c X3 X4 X6 fa arg0 harg0 arg1 harg1 arg2 harg2 arg7 harg7 v hw t f2 hA fs fd fy))) (addf (part77_run.sl.r_111 c X3 X4 X6 fa arg0 harg0 arg1 harg1 arg2 harg2 arg7 harg7 v hw t f2 hA fs fd fy) (k0_pay76 (F := Ideal) (View.readAt (Elt Ideal) arg2.view (Rect.unit (s := S16x5120) ![0, 4864] S16x256.size inb_S16x5120_S16x256_0_4864).toLoadRect f2) (View.readAt (Elt Ideal) uM.view (Rect.unit (s := S4x2560x256) (k0_off106 v t) S1x128x256.size (inb106 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off108 v t) S2x256.size (inb108 v t)).toLoadRect (sgw1 c X4 X6 fa arg0 harg0 arg1 harg1 arg2 harg2 arg7 harg7 v hw t hA fs fd fy))))) shapeCasts_S16x256_S16x256 (ix2 r n)) rfl ?_
    rw [same16]
    refine Eq.trans (b := glu (part77_run.sl.r_115 c X3 X4 X6 fa arg0 harg0 arg1 harg1 arg2 harg2 arg7 harg7 v hw t f2 hA fs fd fy (ix2 r n)) (addf (part77_run.sl.r_111 c X3 X4 X6 fa arg0 harg0 arg1 harg1 arg2 harg2 arg7 harg7 v hw t f2 hA fs fd fy) (k0_pay76 (F := Ideal) (View.readAt (Elt Ideal) arg2.view (Rect.unit (s := S16x5120) ![0, 4864] S16x256.size inb_S16x5120_S16x256_0_4864).toLoadRect f2) (View.readAt (Elt Ideal) uM.view (Rect.unit (s := S4x2560x256) (k0_off106 v t) S1x128x256.size (inb106 v t)).toLoadRect ((uS (Ring.sl 4 t.val)).view.writes (Elt Ideal) (uS (Ring.sl 4 t.val)).view.junk [⟨Rect.whole S2560x256, uPay c X3 fa t.val⟩])) (View.readAt (Elt Ideal) sgwM.view (Rect.unit (s := S40x4096) (k0_off108 v t) S2x256.size (inb108 v t)).toLoadRect (sgw1 c X4 X6 fa arg0 harg0 arg1 harg1 arg2 harg2 arg7 harg7 v hw t hA fs fd fy))) (ix2 r n))) rfl ?_
    rw [up_at, gate_at]
    unfold hid dotc
    rw [Nat.add_assoc]

def yp0 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off109 v t) S1x256.size (inbe _ _ _ (off109_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off110 v t) S1x256.size (inbe _ _ _ (off110_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off111 v t) S1x128x256.size (inbv _ _ _ (off111_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 0] S16x256.size inb_S16x5120_S16x256_0_0).toLoadRect (y1 c X4 X6 fa arg0 harg0 arg1 harg1 arg2 harg2 arg7 harg7 v hw t hA fs fd fy))
theorem yp0_at (r : Fin 16) (n : Fin 256) : yp0 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (0 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (0 + n.val)) (dscol (sdw1 c X4 X6 fa arg0 harg0 arg1 harg1 arg2 harg2 arg7 harg7 v hw t hA fs fd fy) (0 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (0 + n.val)) (dscol (sdw1 c X4 X6 fa arg0 harg0 arg1 harg1 arg2 harg2 arg7 harg7 v hw t hA fs fd fy) (0 + n.val)) (t.val % 8)
    (fun k => h_at c X3 X4 X6 fa arg0 harg0 arg1 harg1 arg2 harg2 arg7 harg7 v hw t f2 hA fs fd fy r k)
    (fun k => d_wt c X5 fa t.val _ 0 _ (off111_eq v t) _ k n)
    (ld_16_1 sdwM _ (2 * (t.val % 8)) 0 _ (off109_eq v t) _ 0 n)
    ((ld_16_1 sdwM _ (1 + 2 * (t.val % 8)) 0 _ (off110_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 0 _ rfl _ r n, Nat.zero_add, nat_lt r.isLt]

def yp1 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off112 v t) S1x256.size (inbe _ _ _ (off112_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off113 v t) S1x256.size (inbe _ _ _ (off113_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off114 v t) S1x128x256.size (inbv _ _ _ (off114_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 256] S16x256.size inb_S16x5120_S16x256_0_256).toLoadRect (y1 c X4 X6 fa arg0 harg0 arg1 harg1 arg2 harg2 arg7 harg7 v hw t hA fs fd fy))
theorem yp1_at (r : Fin 16) (n : Fin 256) : yp1 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (256 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (256 + n.val)) (dscol (sdw1 c X4 X6 fa arg0 harg0 arg1 harg1 arg2 harg2 arg7 harg7 v hw t hA fs fd fy) (256 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (256 + n.val)) (dscol (sdw1 c X4 X6 fa arg0 harg0 arg1 harg1 arg2 harg2 arg7 harg7 v hw t hA fs fd fy) (256 + n.val)) (t.val % 8)
    (fun k => h_at c X3 X4 X6 fa arg0 harg0 arg1 harg1 arg2 harg2 arg7 harg7 v hw t f2 hA fs fd fy r k)
    (fun k => d_wt c X5 fa t.val _ 256 _ (off114_eq v t) _ k n)
    (ld_16_1 sdwM _ (2 * (t.val % 8)) 256 _ (off112_eq v t) _ 0 n)
    ((ld_16_1 sdwM _ (1 + 2 * (t.val % 8)) 256 _ (off113_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 256 _ rfl _ r n, Nat.zero_add, nat_lt r.isLt]

def yp2 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off115 v t) S1x256.size (inbe _ _ _ (off115_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off116 v t) S1x256.size (inbe _ _ _ (off116_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off117 v t) S1x128x256.size (inbv _ _ _ (off117_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 512] S16x256.size inb_S16x5120_S16x256_0_512).toLoadRect (y1 c X4 X6 fa arg0 harg0 arg1 harg1 arg2 harg2 arg7 harg7 v hw t hA fs fd fy))
theorem yp2_at (r : Fin 16) (n : Fin 256) : yp2 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (512 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (512 + n.val)) (dscol (sdw1 c X4 X6 fa arg0 harg0 arg1 harg1 arg2 harg2 arg7 harg7 v hw t hA fs fd fy) (512 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (512 + n.val)) (dscol (sdw1 c X4 X6 fa arg0 harg0 arg1 harg1 arg2 harg2 arg7 harg7 v hw t hA fs fd fy) (512 + n.val)) (t.val % 8)
    (fun k => h_at c X3 X4 X6 fa arg0 harg0 arg1 harg1 arg2 harg2 arg7 harg7 v hw t f2 hA fs fd fy r k)
    (fun k => d_wt c X5 fa t.val _ 512 _ (off117_eq v t) _ k n)
    (ld_16_1 sdwM _ (2 * (t.val % 8)) 512 _ (off115_eq v t) _ 0 n)
    ((ld_16_1 sdwM _ (1 + 2 * (t.val % 8)) 512 _ (off116_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 512 _ rfl _ r n, Nat.zero_add, nat_lt r.isLt]

def yp3 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off118 v t) S1x256.size (inbe _ _ _ (off118_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off119 v t) S1x256.size (inbe _ _ _ (off119_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off120 v t) S1x128x256.size (inbv _ _ _ (off120_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 768] S16x256.size inb_S16x5120_S16x256_0_768).toLoadRect (y1 c X4 X6 fa arg0 harg0 arg1 harg1 arg2 harg2 arg7 harg7 v hw t hA fs fd fy))
theorem yp3_at (r : Fin 16) (n : Fin 256) : yp3 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (768 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (768 + n.val)) (dscol (sdw1 c X4 X6 fa arg0 harg0 arg1 harg1 arg2 harg2 arg7 harg7 v hw t hA fs fd fy) (768 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (768 + n.val)) (dscol (sdw1 c X4 X6 fa arg0 harg0 arg1 harg1 arg2 harg2 arg7 harg7 v hw t hA fs fd fy) (768 + n.val)) (t.val % 8)
    (fun k => h_at c X3 X4 X6 fa arg0 harg0 arg1 harg1 arg2 harg2 arg7 harg7 v hw t f2 hA fs fd fy r k)
    (fun k => d_wt c X5 fa t.val _ 768 _ (off120_eq v t) _ k n)
    (ld_16_1 sdwM _ (2 * (t.val % 8)) 768 _ (off118_eq v t) _ 0 n)
    ((ld_16_1 sdwM _ (1 + 2 * (t.val % 8)) 768 _ (off119_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 768 _ rfl _ r n, Nat.zero_add, nat_lt r.isLt]

def yp4 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off121 v t) S1x256.size (inbe _ _ _ (off121_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off122 v t) S1x256.size (inbe _ _ _ (off122_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off123 v t) S1x128x256.size (inbv _ _ _ (off123_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 1024] S16x256.size inb_S16x5120_S16x256_0_1024).toLoadRect (y1 c X4 X6 fa arg0 harg0 arg1 harg1 arg2 harg2 arg7 harg7 v hw t hA fs fd fy))
theorem yp4_at (r : Fin 16) (n : Fin 256) : yp4 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (1024 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (1024 + n.val)) (dscol (sdw1 c X4 X6 fa arg0 harg0 arg1 harg1 arg2 harg2 arg7 harg7 v hw t hA fs fd fy) (1024 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (1024 + n.val)) (dscol (sdw1 c X4 X6 fa arg0 harg0 arg1 harg1 arg2 harg2 arg7 harg7 v hw t hA fs fd fy) (1024 + n.val)) (t.val % 8)
    (fun k => h_at c X3 X4 X6 fa arg0 harg0 arg1 harg1 arg2 harg2 arg7 harg7 v hw t f2 hA fs fd fy r k)
    (fun k => d_wt c X5 fa t.val _ 1024 _ (off123_eq v t) _ k n)
    (ld_16_1 sdwM _ (2 * (t.val % 8)) 1024 _ (off121_eq v t) _ 0 n)
    ((ld_16_1 sdwM _ (1 + 2 * (t.val % 8)) 1024 _ (off122_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 1024 _ rfl _ r n, Nat.zero_add, nat_lt r.isLt]

def yp5 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off124 v t) S1x256.size (inbe _ _ _ (off124_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off125 v t) S1x256.size (inbe _ _ _ (off125_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off126 v t) S1x128x256.size (inbv _ _ _ (off126_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 1280] S16x256.size inb_S16x5120_S16x256_0_1280).toLoadRect (y1 c X4 X6 fa arg0 harg0 arg1 harg1 arg2 harg2 arg7 harg7 v hw t hA fs fd fy))
theorem yp5_at (r : Fin 16) (n : Fin 256) : yp5 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (1280 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (1280 + n.val)) (dscol (sdw1 c X4 X6 fa arg0 harg0 arg1 harg1 arg2 harg2 arg7 harg7 v hw t hA fs fd fy) (1280 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (1280 + n.val)) (dscol (sdw1 c X4 X6 fa arg0 harg0 arg1 harg1 arg2 harg2 arg7 harg7 v hw t hA fs fd fy) (1280 + n.val)) (t.val % 8)
    (fun k => h_at c X3 X4 X6 fa arg0 harg0 arg1 harg1 arg2 harg2 arg7 harg7 v hw t f2 hA fs fd fy r k)
    (fun k => d_wt c X5 fa t.val _ 1280 _ (off126_eq v t) _ k n)
    (ld_16_1 sdwM _ (2 * (t.val % 8)) 1280 _ (off124_eq v t) _ 0 n)
    ((ld_16_1 sdwM _ (1 + 2 * (t.val % 8)) 1280 _ (off125_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 1280 _ rfl _ r n, Nat.zero_add, nat_lt r.isLt]

def yp6 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off127 v t) S1x256.size (inbe _ _ _ (off127_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off128 v t) S1x256.size (inbe _ _ _ (off128_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off129 v t) S1x128x256.size (inbv _ _ _ (off129_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 1536] S16x256.size inb_S16x5120_S16x256_0_1536).toLoadRect (y1 c X4 X6 fa arg0 harg0 arg1 harg1 arg2 harg2 arg7 harg7 v hw t hA fs fd fy))
theorem yp6_at (r : Fin 16) (n : Fin 256) : yp6 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (1536 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (1536 + n.val)) (dscol (sdw1 c X4 X6 fa arg0 harg0 arg1 harg1 arg2 harg2 arg7 harg7 v hw t hA fs fd fy) (1536 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (1536 + n.val)) (dscol (sdw1 c X4 X6 fa arg0 harg0 arg1 harg1 arg2 harg2 arg7 harg7 v hw t hA fs fd fy) (1536 + n.val)) (t.val % 8)
    (fun k => h_at c X3 X4 X6 fa arg0 harg0 arg1 harg1 arg2 harg2 arg7 harg7 v hw t f2 hA fs fd fy r k)
    (fun k => d_wt c X5 fa t.val _ 1536 _ (off129_eq v t) _ k n)
    (ld_16_1 sdwM _ (2 * (t.val % 8)) 1536 _ (off127_eq v t) _ 0 n)
    ((ld_16_1 sdwM _ (1 + 2 * (t.val % 8)) 1536 _ (off128_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 1536 _ rfl _ r n, Nat.zero_add, nat_lt r.isLt]

def yp7 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off130 v t) S1x256.size (inbe _ _ _ (off130_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off131 v t) S1x256.size (inbe _ _ _ (off131_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off132 v t) S1x128x256.size (inbv _ _ _ (off132_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 1792] S16x256.size inb_S16x5120_S16x256_0_1792).toLoadRect (y1 c X4 X6 fa arg0 harg0 arg1 harg1 arg2 harg2 arg7 harg7 v hw t hA fs fd fy))
theorem yp7_at (r : Fin 16) (n : Fin 256) : yp7 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (1792 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (1792 + n.val)) (dscol (sdw1 c X4 X6 fa arg0 harg0 arg1 harg1 arg2 harg2 arg7 harg7 v hw t hA fs fd fy) (1792 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (1792 + n.val)) (dscol (sdw1 c X4 X6 fa arg0 harg0 arg1 harg1 arg2 harg2 arg7 harg7 v hw t hA fs fd fy) (1792 + n.val)) (t.val % 8)
    (fun k => h_at c X3 X4 X6 fa arg0 harg0 arg1 harg1 arg2 harg2 arg7 harg7 v hw t f2 hA fs fd fy r k)
    (fun k => d_wt c X5 fa t.val _ 1792 _ (off132_eq v t) _ k n)
    (ld_16_1 sdwM _ (2 * (t.val % 8)) 1792 _ (off130_eq v t) _ 0 n)
    ((ld_16_1 sdwM _ (1 + 2 * (t.val % 8)) 1792 _ (off131_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 1792 _ rfl _ r n, Nat.zero_add, nat_lt r.isLt]

def yp8 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off133 v t) S1x256.size (inbe _ _ _ (off133_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off134 v t) S1x256.size (inbe _ _ _ (off134_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off135 v t) S1x128x256.size (inbv _ _ _ (off135_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 2048] S16x256.size inb_S16x5120_S16x256_0_2048).toLoadRect (y1 c X4 X6 fa arg0 harg0 arg1 harg1 arg2 harg2 arg7 harg7 v hw t hA fs fd fy))
theorem yp8_at (r : Fin 16) (n : Fin 256) : yp8 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (2048 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (2048 + n.val)) (dscol (sdw1 c X4 X6 fa arg0 harg0 arg1 harg1 arg2 harg2 arg7 harg7 v hw t hA fs fd fy) (2048 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (2048 + n.val)) (dscol (sdw1 c X4 X6 fa arg0 harg0 arg1 harg1 arg2 harg2 arg7 harg7 v hw t hA fs fd fy) (2048 + n.val)) (t.val % 8)
    (fun k => h_at c X3 X4 X6 fa arg0 harg0 arg1 harg1 arg2 harg2 arg7 harg7 v hw t f2 hA fs fd fy r k)
    (fun k => d_wt c X5 fa t.val _ 2048 _ (off135_eq v t) _ k n)
    (ld_16_1 sdwM _ (2 * (t.val % 8)) 2048 _ (off133_eq v t) _ 0 n)
    ((ld_16_1 sdwM _ (1 + 2 * (t.val % 8)) 2048 _ (off134_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 2048 _ rfl _ r n, Nat.zero_add, nat_lt r.isLt]

def yp9 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off136 v t) S1x256.size (inbe _ _ _ (off136_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off137 v t) S1x256.size (inbe _ _ _ (off137_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off138 v t) S1x128x256.size (inbv _ _ _ (off138_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 2304] S16x256.size inb_S16x5120_S16x256_0_2304).toLoadRect (y1 c X4 X6 fa arg0 harg0 arg1 harg1 arg2 harg2 arg7 harg7 v hw t hA fs fd fy))
theorem yp9_at (r : Fin 16) (n : Fin 256) : yp9 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (2304 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (2304 + n.val)) (dscol (sdw1 c X4 X6 fa arg0 harg0 arg1 harg1 arg2 harg2 arg7 harg7 v hw t hA fs fd fy) (2304 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (2304 + n.val)) (dscol (sdw1 c X4 X6 fa arg0 harg0 arg1 harg1 arg2 harg2 arg7 harg7 v hw t hA fs fd fy) (2304 + n.val)) (t.val % 8)
    (fun k => h_at c X3 X4 X6 fa arg0 harg0 arg1 harg1 arg2 harg2 arg7 harg7 v hw t f2 hA fs fd fy r k)
    (fun k => d_wt c X5 fa t.val _ 2304 _ (off138_eq v t) _ k n)
    (ld_16_1 sdwM _ (2 * (t.val % 8)) 2304 _ (off136_eq v t) _ 0 n)
    ((ld_16_1 sdwM _ (1 + 2 * (t.val % 8)) 2304 _ (off137_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 2304 _ rfl _ r n, Nat.zero_add, nat_lt r.isLt]

def yp10 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off139 v t) S1x256.size (inbe _ _ _ (off139_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off140 v t) S1x256.size (inbe _ _ _ (off140_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off141 v t) S1x128x256.size (inbv _ _ _ (off141_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 2560] S16x256.size inb_S16x5120_S16x256_0_2560).toLoadRect (y1 c X4 X6 fa arg0 harg0 arg1 harg1 arg2 harg2 arg7 harg7 v hw t hA fs fd fy))
theorem yp10_at (r : Fin 16) (n : Fin 256) : yp10 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (2560 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (2560 + n.val)) (dscol (sdw1 c X4 X6 fa arg0 harg0 arg1 harg1 arg2 harg2 arg7 harg7 v hw t hA fs fd fy) (2560 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (2560 + n.val)) (dscol (sdw1 c X4 X6 fa arg0 harg0 arg1 harg1 arg2 harg2 arg7 harg7 v hw t hA fs fd fy) (2560 + n.val)) (t.val % 8)
    (fun k => h_at c X3 X4 X6 fa arg0 harg0 arg1 harg1 arg2 harg2 arg7 harg7 v hw t f2 hA fs fd fy r k)
    (fun k => d_wt c X5 fa t.val _ 2560 _ (off141_eq v t) _ k n)
    (ld_16_1 sdwM _ (2 * (t.val % 8)) 2560 _ (off139_eq v t) _ 0 n)
    ((ld_16_1 sdwM _ (1 + 2 * (t.val % 8)) 2560 _ (off140_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 2560 _ rfl _ r n, Nat.zero_add, nat_lt r.isLt]

def yp11 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off142 v t) S1x256.size (inbe _ _ _ (off142_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off143 v t) S1x256.size (inbe _ _ _ (off143_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off144 v t) S1x128x256.size (inbv _ _ _ (off144_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 2816] S16x256.size inb_S16x5120_S16x256_0_2816).toLoadRect (y1 c X4 X6 fa arg0 harg0 arg1 harg1 arg2 harg2 arg7 harg7 v hw t hA fs fd fy))
theorem yp11_at (r : Fin 16) (n : Fin 256) : yp11 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (2816 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (2816 + n.val)) (dscol (sdw1 c X4 X6 fa arg0 harg0 arg1 harg1 arg2 harg2 arg7 harg7 v hw t hA fs fd fy) (2816 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (2816 + n.val)) (dscol (sdw1 c X4 X6 fa arg0 harg0 arg1 harg1 arg2 harg2 arg7 harg7 v hw t hA fs fd fy) (2816 + n.val)) (t.val % 8)
    (fun k => h_at c X3 X4 X6 fa arg0 harg0 arg1 harg1 arg2 harg2 arg7 harg7 v hw t f2 hA fs fd fy r k)
    (fun k => d_wt c X5 fa t.val _ 2816 _ (off144_eq v t) _ k n)
    (ld_16_1 sdwM _ (2 * (t.val % 8)) 2816 _ (off142_eq v t) _ 0 n)
    ((ld_16_1 sdwM _ (1 + 2 * (t.val % 8)) 2816 _ (off143_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 2816 _ rfl _ r n, Nat.zero_add, nat_lt r.isLt]

def yp12 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off145 v t) S1x256.size (inbe _ _ _ (off145_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off146 v t) S1x256.size (inbe _ _ _ (off146_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off147 v t) S1x128x256.size (inbv _ _ _ (off147_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 3072] S16x256.size inb_S16x5120_S16x256_0_3072).toLoadRect (y1 c X4 X6 fa arg0 harg0 arg1 harg1 arg2 harg2 arg7 harg7 v hw t hA fs fd fy))
theorem yp12_at (r : Fin 16) (n : Fin 256) : yp12 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (3072 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (3072 + n.val)) (dscol (sdw1 c X4 X6 fa arg0 harg0 arg1 harg1 arg2 harg2 arg7 harg7 v hw t hA fs fd fy) (3072 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (3072 + n.val)) (dscol (sdw1 c X4 X6 fa arg0 harg0 arg1 harg1 arg2 harg2 arg7 harg7 v hw t hA fs fd fy) (3072 + n.val)) (t.val % 8)
    (fun k => h_at c X3 X4 X6 fa arg0 harg0 arg1 harg1 arg2 harg2 arg7 harg7 v hw t f2 hA fs fd fy r k)
    (fun k => d_wt c X5 fa t.val _ 3072 _ (off147_eq v t) _ k n)
    (ld_16_1 sdwM _ (2 * (t.val % 8)) 3072 _ (off145_eq v t) _ 0 n)
    ((ld_16_1 sdwM _ (1 + 2 * (t.val % 8)) 3072 _ (off146_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 3072 _ rfl _ r n, Nat.zero_add, nat_lt r.isLt]

def yp13 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off148 v t) S1x256.size (inbe _ _ _ (off148_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off149 v t) S1x256.size (inbe _ _ _ (off149_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off150 v t) S1x128x256.size (inbv _ _ _ (off150_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 3328] S16x256.size inb_S16x5120_S16x256_0_3328).toLoadRect (y1 c X4 X6 fa arg0 harg0 arg1 harg1 arg2 harg2 arg7 harg7 v hw t hA fs fd fy))
theorem yp13_at (r : Fin 16) (n : Fin 256) : yp13 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (3328 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (3328 + n.val)) (dscol (sdw1 c X4 X6 fa arg0 harg0 arg1 harg1 arg2 harg2 arg7 harg7 v hw t hA fs fd fy) (3328 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (3328 + n.val)) (dscol (sdw1 c X4 X6 fa arg0 harg0 arg1 harg1 arg2 harg2 arg7 harg7 v hw t hA fs fd fy) (3328 + n.val)) (t.val % 8)
    (fun k => h_at c X3 X4 X6 fa arg0 harg0 arg1 harg1 arg2 harg2 arg7 harg7 v hw t f2 hA fs fd fy r k)
    (fun k => d_wt c X5 fa t.val _ 3328 _ (off150_eq v t) _ k n)
    (ld_16_1 sdwM _ (2 * (t.val % 8)) 3328 _ (off148_eq v t) _ 0 n)
    ((ld_16_1 sdwM _ (1 + 2 * (t.val % 8)) 3328 _ (off149_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 3328 _ rfl _ r n, Nat.zero_add, nat_lt r.isLt]

def yp14 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off151 v t) S1x256.size (inbe _ _ _ (off151_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off152 v t) S1x256.size (inbe _ _ _ (off152_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off153 v t) S1x128x256.size (inbv _ _ _ (off153_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 3584] S16x256.size inb_S16x5120_S16x256_0_3584).toLoadRect (y1 c X4 X6 fa arg0 harg0 arg1 harg1 arg2 harg2 arg7 harg7 v hw t hA fs fd fy))
theorem yp14_at (r : Fin 16) (n : Fin 256) : yp14 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (3584 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (3584 + n.val)) (dscol (sdw1 c X4 X6 fa arg0 harg0 arg1 harg1 arg2 harg2 arg7 harg7 v hw t hA fs fd fy) (3584 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (3584 + n.val)) (dscol (sdw1 c X4 X6 fa arg0 harg0 arg1 harg1 arg2 harg2 arg7 harg7 v hw t hA fs fd fy) (3584 + n.val)) (t.val % 8)
    (fun k => h_at c X3 X4 X6 fa arg0 harg0 arg1 harg1 arg2 harg2 arg7 harg7 v hw t f2 hA fs fd fy r k)
    (fun k => d_wt c X5 fa t.val _ 3584 _ (off153_eq v t) _ k n)
    (ld_16_1 sdwM _ (2 * (t.val % 8)) 3584 _ (off151_eq v t) _ 0 n)
    ((ld_16_1 sdwM _ (1 + 2 * (t.val % 8)) 3584 _ (off152_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 3584 _ rfl _ r n, Nat.zero_add, nat_lt r.isLt]

def yp15 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off154 v t) S1x256.size (inbe _ _ _ (off154_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off155 v t) S1x256.size (inbe _ _ _ (off155_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off156 v t) S1x128x256.size (inbv _ _ _ (off156_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 3840] S16x256.size inb_S16x5120_S16x256_0_3840).toLoadRect (y1 c X4 X6 fa arg0 harg0 arg1 harg1 arg2 harg2 arg7 harg7 v hw t hA fs fd fy))
theorem yp15_at (r : Fin 16) (n : Fin 256) : yp15 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (3840 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (3840 + n.val)) (dscol (sdw1 c X4 X6 fa arg0 harg0 arg1 harg1 arg2 harg2 arg7 harg7 v hw t hA fs fd fy) (3840 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (3840 + n.val)) (dscol (sdw1 c X4 X6 fa arg0 harg0 arg1 harg1 arg2 harg2 arg7 harg7 v hw t hA fs fd fy) (3840 + n.val)) (t.val % 8)
    (fun k => h_at c X3 X4 X6 fa arg0 harg0 arg1 harg1 arg2 harg2 arg7 harg7 v hw t f2 hA fs fd fy r k)
    (fun k => d_wt c X5 fa t.val _ 3840 _ (off156_eq v t) _ k n)
    (ld_16_1 sdwM _ (2 * (t.val % 8)) 3840 _ (off154_eq v t) _ 0 n)
    ((ld_16_1 sdwM _ (1 + 2 * (t.val % 8)) 3840 _ (off155_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 3840 _ rfl _ r n, Nat.zero_add, nat_lt r.isLt]

def yp16 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off157 v t) S1x256.size (inbe _ _ _ (off157_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off158 v t) S1x256.size (inbe _ _ _ (off158_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off159 v t) S1x128x256.size (inbv _ _ _ (off159_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 4096] S16x256.size inb_S16x5120_S16x256_0_4096).toLoadRect (y1 c X4 X6 fa arg0 harg0 arg1 harg1 arg2 harg2 arg7 harg7 v hw t hA fs fd fy))
theorem yp16_at (r : Fin 16) (n : Fin 256) : yp16 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (4096 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (4096 + n.val)) (dscol (sdw1 c X4 X6 fa arg0 harg0 arg1 harg1 arg2 harg2 arg7 harg7 v hw t hA fs fd fy) (4096 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (4096 + n.val)) (dscol (sdw1 c X4 X6 fa arg0 harg0 arg1 harg1 arg2 harg2 arg7 harg7 v hw t hA fs fd fy) (4096 + n.val)) (t.val % 8)
    (fun k => h_at c X3 X4 X6 fa arg0 harg0 arg1 harg1 arg2 harg2 arg7 harg7 v hw t f2 hA fs fd fy r k)
    (fun k => d_wt c X5 fa t.val _ 4096 _ (off159_eq v t) _ k n)
    (ld_16_1 sdwM _ (2 * (t.val % 8)) 4096 _ (off157_eq v t) _ 0 n)
    ((ld_16_1 sdwM _ (1 + 2 * (t.val % 8)) 4096 _ (off158_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 4096 _ rfl _ r n, Nat.zero_add, nat_lt r.isLt]

def yp17 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off160 v t) S1x256.size (inbe _ _ _ (off160_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off161 v t) S1x256.size (inbe _ _ _ (off161_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off162 v t) S1x128x256.size (inbv _ _ _ (off162_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 4352] S16x256.size inb_S16x5120_S16x256_0_4352).toLoadRect (y1 c X4 X6 fa arg0 harg0 arg1 harg1 arg2 harg2 arg7 harg7 v hw t hA fs fd fy))
theorem yp17_at (r : Fin 16) (n : Fin 256) : yp17 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (4352 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (4352 + n.val)) (dscol (sdw1 c X4 X6 fa arg0 harg0 arg1 harg1 arg2 harg2 arg7 harg7 v hw t hA fs fd fy) (4352 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (4352 + n.val)) (dscol (sdw1 c X4 X6 fa arg0 harg0 arg1 harg1 arg2 harg2 arg7 harg7 v hw t hA fs fd fy) (4352 + n.val)) (t.val % 8)
    (fun k => h_at c X3 X4 X6 fa arg0 harg0 arg1 harg1 arg2 harg2 arg7 harg7 v hw t f2 hA fs fd fy r k)
    (fun k => d_wt c X5 fa t.val _ 4352 _ (off162_eq v t) _ k n)
    (ld_16_1 sdwM _ (2 * (t.val % 8)) 4352 _ (off160_eq v t) _ 0 n)
    ((ld_16_1 sdwM _ (1 + 2 * (t.val % 8)) 4352 _ (off161_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 4352 _ rfl _ r n, Nat.zero_add, nat_lt r.isLt]

def yp18 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off163 v t) S1x256.size (inbe _ _ _ (off163_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off164 v t) S1x256.size (inbe _ _ _ (off164_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off165 v t) S1x128x256.size (inbv _ _ _ (off165_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 4608] S16x256.size inb_S16x5120_S16x256_0_4608).toLoadRect (y1 c X4 X6 fa arg0 harg0 arg1 harg1 arg2 harg2 arg7 harg7 v hw t hA fs fd fy))
theorem yp18_at (r : Fin 16) (n : Fin 256) : yp18 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (4608 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (4608 + n.val)) (dscol (sdw1 c X4 X6 fa arg0 harg0 arg1 harg1 arg2 harg2 arg7 harg7 v hw t hA fs fd fy) (4608 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (4608 + n.val)) (dscol (sdw1 c X4 X6 fa arg0 harg0 arg1 harg1 arg2 harg2 arg7 harg7 v hw t hA fs fd fy) (4608 + n.val)) (t.val % 8)
    (fun k => h_at c X3 X4 X6 fa arg0 harg0 arg1 harg1 arg2 harg2 arg7 harg7 v hw t f2 hA fs fd fy r k)
    (fun k => d_wt c X5 fa t.val _ 4608 _ (off165_eq v t) _ k n)
    (ld_16_1 sdwM _ (2 * (t.val % 8)) 4608 _ (off163_eq v t) _ 0 n)
    ((ld_16_1 sdwM _ (1 + 2 * (t.val % 8)) 4608 _ (off164_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 4608 _ rfl _ r n, Nat.zero_add, nat_lt r.isLt]

def yp19 : Vec Ideal S16x256 .f32 :=
  have h8 := Nat.mod_lt t.val (show 0 < 8 by decide)
  have h4 := Nat.mod_lt t.val (show 0 < 4 by decide)
  k0_pay185 (F := Ideal) (part77_run.sl.v1605 c X3 X4 X6 fa arg0 harg0 arg1 harg1 arg2 harg2 arg7 harg7 v hw t f2 hA fs fd fy) (View.readAt (Elt Ideal) sdwM.view (Rect.unit (s := S16x5120) (k0_off166 v t) S1x256.size (inbe _ _ _ (off166_eq v t) (by omega) (by decide))).toLoadRect (sdw1 c X4 X6 fa arg0 harg0 arg1 harg1 arg2 harg2 arg7 harg7 v hw t hA fs fd fy)) (View.readAt (Elt Ideal) sdwM.view (Rect.unit (s := S16x5120) (k0_off167 v t) S1x256.size (inbe _ _ _ (off167_eq v t) (by omega) (by decide))).toLoadRect (sdw1 c X4 X6 fa arg0 harg0 arg1 harg1 arg2 harg2 arg7 harg7 v hw t hA fs fd fy)) (View.readAt (Elt Ideal) dM.view (Rect.unit (s := S4x128x5120) (k0_off168 v t) S1x128x256.size (inbv _ _ _ (off168_eq v t) (by omega) (by decide))).toLoadRect ((dS (Ring.sl 4 t.val)).view.writes (Elt Ideal) (dS (Ring.sl 4 t.val)).view.junk [⟨Rect.whole S128x5120, dPay c X5 fa t.val⟩])) (View.readAt (Elt Ideal) yM.view (Rect.unit (s := S16x5120) ![0, 4864] S16x256.size inb_S16x5120_S16x256_0_4864).toLoadRect (y1 c X4 X6 fa arg0 harg0 arg1 harg1 arg2 harg2 arg7 harg7 v hw t hA fs fd fy))
theorem yp19_at (r : Fin 16) (n : Fin 256) : yp19 c X3 X4 X5 X6 fa arg0 harg0 arg1 harg1 arg2 harg2 arg7 harg7 v hw t f2 hA fs fd fy (ix2 r n) = yM.view.read (Elt Ideal) (y1 c X4 X6 fa arg0 harg0 arg1 harg1 arg2 harg2 arg7 harg7 v hw t hA fs fd fy) (ix2 r (nat 5120 (4864 + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (4864 + n.val)) (dscol (sdw1 c X4 X6 fa arg0 harg0 arg1 harg1 arg2 harg2 arg7 harg7 v hw t hA fs fd fy) (4864 + n.val)) (256 * (t.val % 8) + k) := by
  refine (tile_at _ _ _ _ _ r n (hid (xrow arg2 f2 r) (wcol c X3 (ex c fa t.val)) (scol (sgw1 c X4 X6 fa arg0 harg0 arg1 harg1 arg2 harg2 arg7 harg7 v hw t hA fs fd fy))) (dcol c X5 (ex c fa t.val) (4864 + n.val)) (dscol (sdw1 c X4 X6 fa arg0 harg0 arg1 harg1 arg2 harg2 arg7 harg7 v hw t hA fs fd fy) (4864 + n.val)) (t.val % 8)
    (fun k => h_at c X3 X4 X6 fa arg0 harg0 arg1 harg1 arg2 harg2 arg7 harg7 v hw t f2 hA fs fd fy r k)
    (fun k => d_wt c X5 fa t.val _ 4864 _ (off168_eq v t) _ k n)
    (ld_16_1 sdwM _ (2 * (t.val % 8)) 4864 _ (off166_eq v t) _ 0 n)
    ((ld_16_1 sdwM _ (1 + 2 * (t.val % 8)) 4864 _ (off167_eq v t) _ 0 n).trans (by unfold dscol; rw [show 1 + 2 * (t.val % 8) + (0 : Fin 1).val = 2 * (t.val % 8) + 1 from by show 1 + 2 * (t.val % 8) + 0 = _; omega]))).trans ?_
  rw [ld_16_16 yM _ 0 4864 _ rfl _ r n, Nat.zero_add, nat_lt r.isLt]

/-- The step's pieces, in order. -/
def yps (b : Fin 20) : S16x256.Idx → Elt Ideal .f32 :=
  ![yp0 c X3 X4 X5 X6 fa arg0 harg0 arg1 harg1 arg2 harg2 arg7 harg7 v hw t f2 hA fs fd fy, yp1 c X3 X4 X5 X6 fa arg0 harg0 arg1 harg1 arg2 harg2 arg7 harg7 v hw t f2 hA fs fd fy, yp2 c X3 X4 X5 X6 fa arg0 harg0 arg1 harg1 arg2 harg2 arg7 harg7 v hw t f2 hA fs fd fy, yp3 c X3 X4 X5 X6 fa arg0 harg0 arg1 harg1 arg2 harg2 arg7 harg7 v hw t f2 hA fs fd fy, yp4 c X3 X4 X5 X6 fa arg0 harg0 arg1 harg1 arg2 harg2 arg7 harg7 v hw t f2 hA fs fd fy, yp5 c X3 X4 X5 X6 fa arg0 harg0 arg1 harg1 arg2 harg2 arg7 harg7 v hw t f2 hA fs fd fy, yp6 c X3 X4 X5 X6 fa arg0 harg0 arg1 harg1 arg2 harg2 arg7 harg7 v hw t f2 hA fs fd fy, yp7 c X3 X4 X5 X6 fa arg0 harg0 arg1 harg1 arg2 harg2 arg7 harg7 v hw t f2 hA fs fd fy, yp8 c X3 X4 X5 X6 fa arg0 harg0 arg1 harg1 arg2 harg2 arg7 harg7 v hw t f2 hA fs fd fy, yp9 c X3 X4 X5 X6 fa arg0 harg0 arg1 harg1 arg2 harg2 arg7 harg7 v hw t f2 hA fs fd fy, yp10 c X3 X4 X5 X6 fa arg0 harg0 arg1 harg1 arg2 harg2 arg7 harg7 v hw t f2 hA fs fd fy, yp11 c X3 X4 X5 X6 fa arg0 harg0 arg1 harg1 arg2 harg2 arg7 harg7 v hw t f2 hA fs fd fy, yp12 c X3 X4 X5 X6 fa arg0 harg0 arg1 harg1 arg2 harg2 arg7 harg7 v hw t f2 hA fs fd fy, yp13 c X3 X4 X5 X6 fa arg0 harg0 arg1 harg1 arg2 harg2 arg7 harg7 v hw t f2 hA fs fd fy, yp14 c X3 X4 X5 X6 fa arg0 harg0 arg1 harg1 arg2 harg2 arg7 harg7 v hw t f2 hA fs fd fy, yp15 c X3 X4 X5 X6 fa arg0 harg0 arg1 harg1 arg2 harg2 arg7 harg7 v hw t f2 hA fs fd fy, yp16 c X3 X4 X5 X6 fa arg0 harg0 arg1 harg1 arg2 harg2 arg7 harg7 v hw t f2 hA fs fd fy, yp17 c X3 X4 X5 X6 fa arg0 harg0 arg1 harg1 arg2 harg2 arg7 harg7 v hw t f2 hA fs fd fy, yp18 c X3 X4 X5 X6 fa arg0 harg0 arg1 harg1 arg2 harg2 arg7 harg7 v hw t f2 hA fs fd fy, yp19 c X3 X4 X5 X6 fa arg0 harg0 arg1 harg1 arg2 harg2 arg7 harg7 v hw t f2 hA fs fd fy] b
theorem y_list : step_run.sl.Hy_20 c X3 X4 X5 X6 fa arg0 harg0 arg1 harg1 arg2 harg2 arg7 harg7 v hw t f2 hA fs fd fy = View.tilePieces (s := S16x5120) S16x256.size (fun b : Fin 20 => ![0, 256 * b.val]) inbt (yps c X3 X4 X5 X6 fa arg0 harg0 arg1 harg1 arg2 harg2 arg7 harg7 v hw t f2 hA fs fd fy) 20 (Nat.le_refl _) := rfl
theorem y_read (r : Fin 16) (b : Fin 20) (n : Fin 256) : yM.view.read (Elt Ideal) (yM.view.writes (Elt Ideal) yM.view.junk (step_run.sl.Hy_20 c X3 X4 X5 X6 fa arg0 harg0 arg1 harg1 arg2 harg2 arg7 harg7 v hw t f2 hA fs fd fy)) (ix2 r (nat 5120 (256 * b.val + n.val))) = yps c X3 X4 X5 X6 fa arg0 harg0 arg1 harg1 arg2 harg2 arg7 harg7 v hw t f2 hA fs fd fy b (ix2 r n) := by
  have hb := b.isLt
  have hn := n.isLt
  have h5 : 256 * b.val + n.val < 5120 := by omega
  rw [y_list, nat_lt h5]
  refine View.read_tilePieces yM.view _ _ _ inbt _ 20 _ _ b hb (ix2 r n) (fun a => ?_) 1 (fun b' hb' => ?_)
  · fin_cases a
    · show r.val = 0 + r.val; omega
    · rfl
  · have : b'.val ≠ b.val := fun e => hb' (Fin.ext e)
    show 256 * b.val + n.val < 256 * b'.val ∨ 256 * b'.val + 256 ≤ 256 * b.val + n.val
    omega
theorem y_next (r : Fin 16) (b : Fin 20) (n : Fin 256) : yM.view.read (Elt Ideal) (yM.view.writes (Elt Ideal) yM.view.junk (step_run.sl.Hy_20 c X3 X4 X5 X6 fa arg0 harg0 arg1 harg1 arg2 harg2 arg7 harg7 v hw t f2 hA fs fd fy)) (ix2 r (nat 5120 (256 * b.val + n.val)))
    = yM.view.read (Elt Ideal) (y1 c X4 X6 fa arg0 harg0 arg1 harg1 arg2 harg2 arg7 harg7 v hw t hA fs fd fy) (ix2 r (nat 5120 (256 * b.val + n.val)))
    + ∑ k ∈ Finset.range 256, term (hid (xrow arg2 f2 r) (wcol c X3 (ex c fa t.val)) (scol (sgw1 c X4 X6 fa arg0 harg0 arg1 harg1 arg2 harg2 arg7 harg7 v hw t hA fs fd fy))) (dcol c X5 (ex c fa t.val) (256 * b.val + n.val)) (dscol (sdw1 c X4 X6 fa arg0 harg0 arg1 harg1 arg2 harg2 arg7 harg7 v hw t hA fs fd fy) (256 * b.val + n.val)) (256 * (t.val % 8) + k) := by
  rw [y_read]
  fin_cases b
  · exact yp0_at c X3 X4 X5 X6 fa arg0 harg0 arg1 harg1 arg2 harg2 arg7 harg7 v hw t f2 hA fs fd fy r n
  · exact yp1_at c X3 X4 X5 X6 fa arg0 harg0 arg1 harg1 arg2 harg2 arg7 harg7 v hw t f2 hA fs fd fy r n
  · exact yp2_at c X3 X4 X5 X6 fa arg0 harg0 arg1 harg1 arg2 harg2 arg7 harg7 v hw t f2 hA fs fd fy r n
  · exact yp3_at c X3 X4 X5 X6 fa arg0 harg0 arg1 harg1 arg2 harg2 arg7 harg7 v hw t f2 hA fs fd fy r n
  · exact yp4_at c X3 X4 X5 X6 fa arg0 harg0 arg1 harg1 arg2 harg2 arg7 harg7 v hw t f2 hA fs fd fy r n
  · exact yp5_at c X3 X4 X5 X6 fa arg0 harg0 arg1 harg1 arg2 harg2 arg7 harg7 v hw t f2 hA fs fd fy r n
  · exact yp6_at c X3 X4 X5 X6 fa arg0 harg0 arg1 harg1 arg2 harg2 arg7 harg7 v hw t f2 hA fs fd fy r n
  · exact yp7_at c X3 X4 X5 X6 fa arg0 harg0 arg1 harg1 arg2 harg2 arg7 harg7 v hw t f2 hA fs fd fy r n
  · exact yp8_at c X3 X4 X5 X6 fa arg0 harg0 arg1 harg1 arg2 harg2 arg7 harg7 v hw t f2 hA fs fd fy r n
  · exact yp9_at c X3 X4 X5 X6 fa arg0 harg0 arg1 harg1 arg2 harg2 arg7 harg7 v hw t f2 hA fs fd fy r n
  · exact yp10_at c X3 X4 X5 X6 fa arg0 harg0 arg1 harg1 arg2 harg2 arg7 harg7 v hw t f2 hA fs fd fy r n
  · exact yp11_at c X3 X4 X5 X6 fa arg0 harg0 arg1 harg1 arg2 harg2 arg7 harg7 v hw t f2 hA fs fd fy r n
  · exact yp12_at c X3 X4 X5 X6 fa arg0 harg0 arg1 harg1 arg2 harg2 arg7 harg7 v hw t f2 hA fs fd fy r n
  · exact yp13_at c X3 X4 X5 X6 fa arg0 harg0 arg1 harg1 arg2 harg2 arg7 harg7 v hw t f2 hA fs fd fy r n
  · exact yp14_at c X3 X4 X5 X6 fa arg0 harg0 arg1 harg1 arg2 harg2 arg7 harg7 v hw t f2 hA fs fd fy r n
  · exact yp15_at c X3 X4 X5 X6 fa arg0 harg0 arg1 harg1 arg2 harg2 arg7 harg7 v hw t f2 hA fs fd fy r n
  · exact yp16_at c X3 X4 X5 X6 fa arg0 harg0 arg1 harg1 arg2 harg2 arg7 harg7 v hw t f2 hA fs fd fy r n
  · exact yp17_at c X3 X4 X5 X6 fa arg0 harg0 arg1 harg1 arg2 harg2 arg7 harg7 v hw t f2 hA fs fd fy r n
  · exact yp18_at c X3 X4 X5 X6 fa arg0 harg0 arg1 harg1 arg2 harg2 arg7 harg7 v hw t f2 hA fs fd fy r n
  · exact yp19_at c X3 X4 X5 X6 fa arg0 harg0 arg1 harg1 arg2 harg2 arg7 harg7 v hw t f2 hA fs fd fy r n

end Step

end Cert.Proof.KernelIdeal

end
-- ==== Proof.V5.lean ====
/-
  The reference's terms at an index.
-/
module

public import proofs.«01_k».proof.Proof.V4
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic
open Idealize.ShloMosaic.TcCoe Idealize.ShloMosaic.Tactic
open Cert.Proof.Val
open Cert.Proof.KernelIdeal (nat nat_lt dotc glu hid)

set_option maxHeartbeats 4000000
set_option maxRecDepth 8192

variable (V0 : Valuation τ sig (Elt Ideal))

def xr (r : Fin 16) (k : ℕ) : Ideal .f32 := (V0 (Proc.devRef .tc main_arg0) : S16x1x5120.Idx → Ideal .bf16) (ix3 r 0 (nat 5120 k))
def wr (e : Fin 4) (n k : ℕ) : BitVec 8 := (V0 (Proc.devRef .tc main_arg3) : S4x2560x4096.Idx → BitVec 8) (ix3 e (nat 2560 k) (nat 4096 n))
def sr (e : Fin 4) (n k : ℕ) : Ideal .f32 := (V0 (Proc.devRef .tc main_arg4) : S4x40x4096.Idx → Ideal .bf16) (ix3 e (nat 40 k) (nat 4096 n))
def dr (e : Fin 4) (n k : ℕ) : BitVec 8 := (V0 (Proc.devRef .tc main_arg5) : S4x1024x5120.Idx → BitVec 8) (ix3 e (nat 1024 k) (nat 5120 n))
def tr (e : Fin 4) (n k : ℕ) : Ideal .f32 := (V0 (Proc.devRef .tc main_arg6) : S4x16x5120.Idx → Ideal .bf16) (ix3 e (nat 16 k) (nat 5120 n))

theorem v1_at (r : Fin 16) (k : Fin 2560) : res_main_v1 V0 (ix2 r k) = xr V0 r (2 * k.val) := by
  unfold res_main_v1 res_main_v0 xr
  have hk := k.isLt
  rw [nat_lt (show 2 * k.val < 5120 by omega)]
  pointwise
theorem v2_at (r : Fin 16) (k : Fin 2560) : res_main_v2 V0 (ix2 r k) = xr V0 r (2 * k.val + 1) := by
  unfold res_main_v2 res_main_v0 xr
  have hk := k.isLt
  rw [Nat.add_comm (2 * k.val) 1, nat_lt (show 1 + 2 * k.val < 5120 by omega)]
  pointwise

theorem lo_bits : ∀ b : BitVec 8, Scalar.select (IntOp.cmpi CmpIPredicate.sge (IntOp.andi (BitVec.setWidth 32 b) 15#32) 8#32) (IntOp.subi (IntOp.andi (BitVec.setWidth 32 b) 15#32) 16#32) (IntOp.andi (BitVec.setWidth 32 b) 15#32)
    = IntOp.shrsi ArithUnit.vector (IntOp.shli ArithUnit.vector (BitVec.setWidth 32 b) 28#32) 28#32 := by decide +kernel
theorem hi_bits : ∀ b : BitVec 8, Scalar.select (IntOp.cmpi CmpIPredicate.sge (IntOp.shrsi ArithUnit.host (BitVec.setWidth 32 b) 4#32) 8#32) (IntOp.subi (IntOp.shrsi ArithUnit.host (BitVec.setWidth 32 b) 4#32) 16#32) (IntOp.shrsi ArithUnit.host (BitVec.setWidth 32 b) 4#32)
    = IntOp.shrsi ArithUnit.vector (IntOp.shli ArithUnit.vector (BitVec.setWidth 32 b) 24#32) 28#32 := by decide +kernel
theorem lo_code (b : BitVec 8) (k : ℕ) : code b (2 * k) = FloatOps.sitofp (F := Ideal) .bf16 (Scalar.select (IntOp.cmpi CmpIPredicate.sge (IntOp.andi (BitVec.setWidth 32 b) 15#32) 8#32) (IntOp.subi (IntOp.andi (BitVec.setWidth 32 b) 15#32) 16#32) (IntOp.andi (BitVec.setWidth 32 b) 15#32)) := by
  unfold code
  rw [if_pos (by omega), lo_bits]
theorem hi_code (b : BitVec 8) (k : ℕ) : code b (2 * k + 1) = FloatOps.sitofp (F := Ideal) .bf16 (Scalar.select (IntOp.cmpi CmpIPredicate.sge (IntOp.shrsi ArithUnit.host (BitVec.setWidth 32 b) 4#32) 8#32) (IntOp.subi (IntOp.shrsi ArithUnit.host (BitVec.setWidth 32 b) 4#32) 16#32) (IntOp.shrsi ArithUnit.host (BitVec.setWidth 32 b) 4#32)) := by
  unfold code
  rw [if_neg (by omega), hi_bits]

theorem pair1 (x1 x2 : FVec Ideal S16x2560 .bf16) (a b : IVec S2560x2048 32) (s : FVec Ideal S2560x2048 .bf16) (r : Fin 16) (n : Fin 2048)
    (xf : ℕ → Ideal .f32) (wf : ℕ → BitVec 8) (sf : ℕ → Ideal .f32)
    (h1 : ∀ k : Fin 2560, x1 (ix2 r k) = xf (2 * k.val)) (h2 : ∀ k : Fin 2560, x2 (ix2 r k) = xf (2 * k.val + 1))
    (ha : ∀ k : Fin 2560, a (ix2 k n) = IntOp.andi (BitVec.setWidth 32 (wf k.val)) 15#32) (hb : ∀ k : Fin 2560, b (ix2 k n) = IntOp.shrsi .host (BitVec.setWidth 32 (wf k.val)) 4#32)
    (hs : ∀ k : Fin 2560, s (ix2 k n) = sf (k.val / 64)) :
    addf (Host.dotGeneral (F := Ideal) dot_S16x2560_S2560x2048_S16x2048_1_0_0_1_n_n none x1 (mulf (sitofp .bf16 (select (cmpi .sge a (broadcastInDim S2560x2048 ![] bcast_S_S2560x2048 (constantI S_ 32 8#32))) (subi a (broadcastInDim S2560x2048 ![] bcast_S_S2560x2048 (constantI S_ 32 16#32))) a)) s))
     (Host.dotGeneral (F := Ideal) dot_S16x2560_S2560x2048_S16x2048_1_0_0_1_n_n none x2 (mulf (sitofp .bf16 (select (cmpi .sge b (broadcastInDim S2560x2048 ![] bcast_S_S2560x2048 (constantI S_ 32 8#32))) (subi b (broadcastInDim S2560x2048 ![] bcast_S_S2560x2048 (constantI S_ 32 16#32))) b)) s)) (ix2 r n)
      = dotc xf wf sf 5120 := by
  pointwise
  unfold dotc
  rw [show (5120 : ℕ) = 2 * 2560 from rfl, ← sum_pairs, ← Fin.sum_univ_eq_sum_range (fun k => term xf wf sf (2 * k)) 2560, ← Fin.sum_univ_eq_sum_range (fun k => term xf wf sf (2 * k + 1)) 2560]
  refine congrArg₂ (· + ·) (Finset.sum_congr rfl fun k _ => ?_) (Finset.sum_congr rfl fun k _ => ?_)
  · rw [h1, ha, hs]
    unfold term
    rw [lo_code, show 2 * k.val / 2 = k.val by omega, show 2 * k.val / 128 = k.val / 64 by omega]
  · rw [h2, hb, hs]
    unfold term
    rw [hi_code, show (2 * k.val + 1) / 2 = k.val by omega, show (2 * k.val + 1) / 128 = k.val / 64 by omega]

theorem pair2 (x1 x2 : FVec Ideal S16x1024 .bf16) (a b : IVec S1024x5120 32) (s : FVec Ideal S1024x5120 .bf16) (r : Fin 16) (n : Fin 5120)
    (xf : ℕ → Ideal .f32) (wf : ℕ → BitVec 8) (sf : ℕ → Ideal .f32)
    (h1 : ∀ k : Fin 1024, x1 (ix2 r k) = xf (2 * k.val)) (h2 : ∀ k : Fin 1024, x2 (ix2 r k) = xf (2 * k.val + 1))
    (ha : ∀ k : Fin 1024, a (ix2 k n) = IntOp.andi (BitVec.setWidth 32 (wf k.val)) 15#32) (hb : ∀ k : Fin 1024, b (ix2 k n) = IntOp.shrsi .host (BitVec.setWidth 32 (wf k.val)) 4#32)
    (hs : ∀ k : Fin 1024, s (ix2 k n) = sf (k.val / 64)) :
    addf (Host.dotGeneral (F := Ideal) dot_S16x1024_S1024x5120_S16x5120_1_0_0_1_n_n none x1 (mulf (sitofp .bf16 (select (cmpi .sge a (broadcastInDim S1024x5120 ![] bcast_S_S1024x5120 (constantI S_ 32 8#32))) (subi a (broadcastInDim S1024x5120 ![] bcast_S_S1024x5120 (constantI S_ 32 16#32))) a)) s))
     (Host.dotGeneral (F := Ideal) dot_S16x1024_S1024x5120_S16x5120_1_0_0_1_n_n none x2 (mulf (sitofp .bf16 (select (cmpi .sge b (broadcastInDim S1024x5120 ![] bcast_S_S1024x5120 (constantI S_ 32 8#32))) (subi b (broadcastInDim S1024x5120 ![] bcast_S_S1024x5120 (constantI S_ 32 16#32))) b)) s)) (ix2 r n)
      = dotc xf wf sf 2048 := by
  pointwise
  unfold dotc
  rw [show (2048 : ℕ) = 2 * 1024 from rfl, ← sum_pairs, ← Fin.sum_univ_eq_sum_range (fun k => term xf wf sf (2 * k)) 1024, ← Fin.sum_univ_eq_sum_range (fun k => term xf wf sf (2 * k + 1)) 1024]
  refine congrArg₂ (· + ·) (Finset.sum_congr rfl fun k _ => ?_) (Finset.sum_congr rfl fun k _ => ?_)
  · rw [h1, ha, hs]
    unfold term
    rw [lo_code, show 2 * k.val / 2 = k.val by omega, show 2 * k.val / 128 = k.val / 64 by omega]
  · rw [h2, hb, hs]
    unfold term
    rw [hi_code, show (2 * k.val + 1) / 2 = k.val by omega, show (2 * k.val + 1) / 128 = k.val / 64 by omega]

theorem swi (g u : FVec Ideal S16x2048 .f32) (r : Fin 16) (n : Fin 2048) :
    truncf .bf16 (mulf (mulf g (Host.divf (broadcastInDim S16x2048 ![] bcast_S_S16x2048 (constant S_ .f32 0x3F800000#32)) (addf (broadcastInDim S16x2048 ![] bcast_S_S16x2048 (constant S_ .f32 0x3F800000#32)) (Host.exp (Host.negf g))))) u) bitsLt_bf16_f32 (ix2 r n) = glu (g (ix2 r n)) (u (ix2 r n)) := by
  unfold glu
  pointwise
  rfl
theorem sl0 (x : FVec Ideal S16x2048 .bf16) (r : Fin 16) (k : Fin 1024) : Host.slice S16x1024 ![0, 0] ![1, 2] x slicesBy_S16x2048_S16x1024_0s1_0s2 (ix2 r k) = x (ix2 r ⟨2 * k.val, by omega⟩) := by pointwise
theorem sl1 (x : FVec Ideal S16x2048 .bf16) (r : Fin 16) (k : Fin 1024) : Host.slice S16x1024 ![0, 1] ![1, 2] x slicesBy_S16x2048_S16x1024_0s1_1s2 (ix2 r k) = x (ix2 r ⟨2 * k.val + 1, by omega⟩) := by
  pointwise
  simp only [Nat.add_comm]
theorem fold_two (f : Fin 2 → BitVec 1) : Finset.fold IntOp.ori (0#1) f Finset.univ = IntOp.ori (f 0) (f 1) := by
  have : (Finset.univ : Finset (Fin 2)) = insert 0 {1} := by decide
  rw [this, Finset.fold_insert (by decide), Finset.fold_singleton]
  simp [IntOp.ori]
theorem bit_cases : ∀ a : BitVec 1, a = 0#1 ∨ a = 1#1 := by decide
def part (h0 h1 : BitVec 1) (w0 w1 y : Ideal .f32) : Ideal .f32 := if h0 = 1#1 ∨ h1 = 1#1 then y * ((if h0 = 1#1 then w0 else 0) + (if h1 = 1#1 then w1 else 0)) else 0
theorem last (h : IVec S16x2 1) (w : FVec Ideal S16x2 .f32) (y : FVec Ideal S16x5120 .f32) (r : Fin 16) (n : Fin 5120) :
    select (broadcastInDim S16x5120 ![0, 1] bcast_S16x1_S16x5120_0_1 (broadcastInDim S16x1 ![0] bcast_S16_S16x1_0 (Host.reduce IntOp.ori h (constantI S_ 1 0#1) reducesTo_S16x2_S16_d1 h_S_)))
     (mulf y (broadcastInDim S16x5120 ![0, 1] bcast_S16x1_S16x5120_0_1 (broadcastInDim S16x1 ![0] bcast_S16_S16x1_0 (Host.reduceAdd (F := Ideal) (select h w (broadcastInDim S16x2 ![] bcast_S_S16x2 (id (constant S_ .f32 0x00000000#32)))) (constant S_ .f32 0x00000000#32) reducesTo_S16x2_S16_d1 h_S_))))
     (broadcastInDim S16x5120 ![] bcast_S_S16x5120 (id (constant S_ .f32 0x00000000#32))) (ix2 r n) = part (h (ix2 r 0)) (h (ix2 r 1)) (w (ix2 r 0)) (w (ix2 r 1)) (y (ix2 r n)) := by
  pointwise
  rw [Fin.sum_univ_two, fold_two]
  simp only [show ∀ i, id (constant (F := Ideal) S_ .f32 0x00000000#32) i = (0 : Ideal .f32) from fun _ => Cert.Proof.KernelIdeal.zero_f]
  unfold part
  generalize h (ix2 r 0) = a
  generalize h (ix2 r 1) = b
  rcases bit_cases a with rfl | rfl <;> rcases bit_cases b with rfl | rfl <;> simp [Scalar.select, IntOp.ori]

theorem v17_at (k : Fin 2560) (n : Fin 2048) : res_main_v17 V0 (ix2 k n) = IntOp.andi (BitVec.setWidth 32 (wr V0 0 (n.val) k.val)) 15#32 := by
  unfold res_main_v17 res_main_v15 wr
  have hk := k.isLt
  have hn := n.isLt
  rw [nat_lt (show k.val < 2560 by omega), nat_lt (show n.val < 4096 by omega)]
  pointwise

theorem v19_at (k : Fin 2560) (n : Fin 2048) : res_main_v19 V0 (ix2 k n) = IntOp.shrsi .host (BitVec.setWidth 32 (wr V0 0 (n.val) k.val)) 4#32 := by
  unfold res_main_v19 res_main_v15 wr
  have hk := k.isLt
  have hn := n.isLt
  rw [nat_lt (show k.val < 2560 by omega), nat_lt (show n.val < 4096 by omega)]
  pointwise

theorem v31_at (k : Fin 2560) (n : Fin 2048) : res_main_v31 V0 (ix2 k n) = sr V0 0 (n.val) (k.val / 64) := by
  unfold res_main_v31  sr
  have hk := k.isLt
  have hn := n.isLt
  rw [nat_lt (show k.val / 64 < 40 by omega), nat_lt (show n.val < 4096 by omega)]
  pointwise

theorem v45_at (k : Fin 2560) (n : Fin 2048) : res_main_v45 V0 (ix2 k n) = IntOp.andi (BitVec.setWidth 32 (wr V0 0 (2048 + n.val) k.val)) 15#32 := by
  unfold res_main_v45 res_main_v43 wr
  have hk := k.isLt
  have hn := n.isLt
  rw [nat_lt (show k.val < 2560 by omega), nat_lt (show 2048 + n.val < 4096 by omega)]
  pointwise

theorem v47_at (k : Fin 2560) (n : Fin 2048) : res_main_v47 V0 (ix2 k n) = IntOp.shrsi .host (BitVec.setWidth 32 (wr V0 0 (2048 + n.val) k.val)) 4#32 := by
  unfold res_main_v47 res_main_v43 wr
  have hk := k.isLt
  have hn := n.isLt
  rw [nat_lt (show k.val < 2560 by omega), nat_lt (show 2048 + n.val < 4096 by omega)]
  pointwise

theorem v59_at (k : Fin 2560) (n : Fin 2048) : res_main_v59 V0 (ix2 k n) = sr V0 0 (2048 + n.val) (k.val / 64) := by
  unfold res_main_v59  sr
  have hk := k.isLt
  have hn := n.isLt
  rw [nat_lt (show k.val / 64 < 40 by omega), nat_lt (show 2048 + n.val < 4096 by omega)]
  pointwise

theorem v78_at (k : Fin 1024) (n : Fin 5120) : res_main_v78 V0 (ix2 k n) = IntOp.andi (BitVec.setWidth 32 (dr V0 0 n.val k.val)) 15#32 := by
  unfold res_main_v78 res_main_v76 dr
  have hk := k.isLt
  have hn := n.isLt
  rw [nat_lt (show k.val < 1024 by omega), nat_lt (show n.val < 5120 by omega)]
  pointwise

theorem v80_at (k : Fin 1024) (n : Fin 5120) : res_main_v80 V0 (ix2 k n) = IntOp.shrsi .host (BitVec.setWidth 32 (dr V0 0 n.val k.val)) 4#32 := by
  unfold res_main_v80 res_main_v76 dr
  have hk := k.isLt
  have hn := n.isLt
  rw [nat_lt (show k.val < 1024 by omega), nat_lt (show n.val < 5120 by omega)]
  pointwise

theorem v92_at (k : Fin 1024) (n : Fin 5120) : res_main_v92 V0 (ix2 k n) = tr V0 0 n.val (k.val / 64) := by
  unfold res_main_v92  tr
  have hk := k.isLt
  have hn := n.isLt
  rw [nat_lt (show k.val / 64 < 16 by omega), nat_lt (show n.val < 5120 by omega)]
  pointwise

theorem v38_at (r : Fin 16) (n : Fin 2048) : res_main_v38 V0 (ix2 r n) = dotc (xr V0 r) (wr V0 0 n.val) (sr V0 0 n.val) 5120 :=
  pair1 _ _ _ _ _ r n _ _ _ (v1_at V0 r) (v2_at V0 r) (fun k => v17_at V0 k n) (fun k => v19_at V0 k n) (fun k => v31_at V0 k n)
theorem v69_at (r : Fin 16) (n : Fin 2048) : res_main_v69 V0 (ix2 r n) = hid (xr V0 r) (wr V0 0) (sr V0 0) n.val := by
  have hu := pair1 (res_main_v1 V0) (res_main_v2 V0) (res_main_v45 V0) (res_main_v47 V0) (res_main_v59 V0) r n _ _ _ (v1_at V0 r) (v2_at V0 r) (fun k => v45_at V0 k n) (fun k => v47_at V0 k n) (fun k => v59_at V0 k n)
  unfold res_main_v69 hid
  rw [← hu, ← v38_at V0 r n]
  generalize res_main_v38 V0 = g
  generalize addf (F := Ideal) (φ := .f32) (Host.dotGeneral _ _ (res_main_v1 V0) _) _ = u
  exact swi g u r n
theorem dn0_at (r : Fin 16) (n : Fin 5120) : addf (Host.dotGeneral (F := Ideal) (φ₁ := .bf16) dot_S16x1024_S1024x5120_S16x5120_1_0_0_1_n_n none (Host.slice S16x1024 ![0, 0] ![1, 2] (res_main_v69 V0) slicesBy_S16x2048_S16x1024_0s1_0s2) (mulf (sitofp .bf16 (select (cmpi .sge (res_main_v78 V0) (broadcastInDim S1024x5120 ![] bcast_S_S1024x5120 (constantI S_ 32 8#32))) (subi (res_main_v78 V0) (broadcastInDim S1024x5120 ![] bcast_S_S1024x5120 (constantI S_ 32 16#32))) (res_main_v78 V0))) (res_main_v92 V0)))
   (Host.dotGeneral (F := Ideal) (φ₁ := .bf16) dot_S16x1024_S1024x5120_S16x5120_1_0_0_1_n_n none (Host.slice S16x1024 ![0, 1] ![1, 2] (res_main_v69 V0) slicesBy_S16x2048_S16x1024_0s1_1s2) (mulf (sitofp .bf16 (select (cmpi .sge (res_main_v80 V0) (broadcastInDim S1024x5120 ![] bcast_S_S1024x5120 (constantI S_ 32 8#32))) (subi (res_main_v80 V0) (broadcastInDim S1024x5120 ![] bcast_S_S1024x5120 (constantI S_ 32 16#32))) (res_main_v80 V0))) (res_main_v92 V0))) (ix2 r n)
    = dotc (hid (xr V0 r) (wr V0 0) (sr V0 0)) (dr V0 0 n.val) (tr V0 0 n.val) 2048 :=
  pair2 _ _ _ _ _ r n _ _ _ (fun k => (sl0 _ r k).trans (v69_at V0 r _)) (fun k => (sl1 _ r k).trans (v69_at V0 r _)) (fun k => v78_at V0 k n) (fun k => v80_at V0 k n) (fun k => v92_at V0 k n)

theorem v117_at (k : Fin 2560) (n : Fin 2048) : res_main_v117 V0 (ix2 k n) = IntOp.andi (BitVec.setWidth 32 (wr V0 1 (n.val) k.val)) 15#32 := by
  unfold res_main_v117 res_main_v115 wr
  have hk := k.isLt
  have hn := n.isLt
  rw [nat_lt (show k.val < 2560 by omega), nat_lt (show n.val < 4096 by omega)]
  pointwise

theorem v119_at (k : Fin 2560) (n : Fin 2048) : res_main_v119 V0 (ix2 k n) = IntOp.shrsi .host (BitVec.setWidth 32 (wr V0 1 (n.val) k.val)) 4#32 := by
  unfold res_main_v119 res_main_v115 wr
  have hk := k.isLt
  have hn := n.isLt
  rw [nat_lt (show k.val < 2560 by omega), nat_lt (show n.val < 4096 by omega)]
  pointwise

theorem v131_at (k : Fin 2560) (n : Fin 2048) : res_main_v131 V0 (ix2 k n) = sr V0 1 (n.val) (k.val / 64) := by
  unfold res_main_v131  sr
  have hk := k.isLt
  have hn := n.isLt
  rw [nat_lt (show k.val / 64 < 40 by omega), nat_lt (show n.val < 4096 by omega)]
  pointwise

theorem v145_at (k : Fin 2560) (n : Fin 2048) : res_main_v145 V0 (ix2 k n) = IntOp.andi (BitVec.setWidth 32 (wr V0 1 (2048 + n.val) k.val)) 15#32 := by
  unfold res_main_v145 res_main_v143 wr
  have hk := k.isLt
  have hn := n.isLt
  rw [nat_lt (show k.val < 2560 by omega), nat_lt (show 2048 + n.val < 4096 by omega)]
  pointwise

theorem v147_at (k : Fin 2560) (n : Fin 2048) : res_main_v147 V0 (ix2 k n) = IntOp.shrsi .host (BitVec.setWidth 32 (wr V0 1 (2048 + n.val) k.val)) 4#32 := by
  unfold res_main_v147 res_main_v143 wr
  have hk := k.isLt
  have hn := n.isLt
  rw [nat_lt (show k.val < 2560 by omega), nat_lt (show 2048 + n.val < 4096 by omega)]
  pointwise

theorem v159_at (k : Fin 2560) (n : Fin 2048) : res_main_v159 V0 (ix2 k n) = sr V0 1 (2048 + n.val) (k.val / 64) := by
  unfold res_main_v159  sr
  have hk := k.isLt
  have hn := n.isLt
  rw [nat_lt (show k.val / 64 < 40 by omega), nat_lt (show 2048 + n.val < 4096 by omega)]
  pointwise

theorem v178_at (k : Fin 1024) (n : Fin 5120) : res_main_v178 V0 (ix2 k n) = IntOp.andi (BitVec.setWidth 32 (dr V0 1 n.val k.val)) 15#32 := by
  unfold res_main_v178 res_main_v176 dr
  have hk := k.isLt
  have hn := n.isLt
  rw [nat_lt (show k.val < 1024 by omega), nat_lt (show n.val < 5120 by omega)]
  pointwise

theorem v180_at (k : Fin 1024) (n : Fin 5120) : res_main_v180 V0 (ix2 k n) = IntOp.shrsi .host (BitVec.setWidth 32 (dr V0 1 n.val k.val)) 4#32 := by
  unfold res_main_v180 res_main_v176 dr
  have hk := k.isLt
  have hn := n.isLt
  rw [nat_lt (show k.val < 1024 by omega), nat_lt (show n.val < 5120 by omega)]
  pointwise

theorem v192_at (k : Fin 1024) (n : Fin 5120) : res_main_v192 V0 (ix2 k n) = tr V0 1 n.val (k.val / 64) := by
  unfold res_main_v192  tr
  have hk := k.isLt
  have hn := n.isLt
  rw [nat_lt (show k.val / 64 < 16 by omega), nat_lt (show n.val < 5120 by omega)]
  pointwise

theorem v138_at (r : Fin 16) (n : Fin 2048) : res_main_v138 V0 (ix2 r n) = dotc (xr V0 r) (wr V0 1 n.val) (sr V0 1 n.val) 5120 :=
  pair1 _ _ _ _ _ r n _ _ _ (v1_at V0 r) (v2_at V0 r) (fun k => v117_at V0 k n) (fun k => v119_at V0 k n) (fun k => v131_at V0 k n)
theorem v169_at (r : Fin 16) (n : Fin 2048) : res_main_v169 V0 (ix2 r n) = hid (xr V0 r) (wr V0 1) (sr V0 1) n.val := by
  have hu := pair1 (res_main_v1 V0) (res_main_v2 V0) (res_main_v145 V0) (res_main_v147 V0) (res_main_v159 V0) r n _ _ _ (v1_at V0 r) (v2_at V0 r) (fun k => v145_at V0 k n) (fun k => v147_at V0 k n) (fun k => v159_at V0 k n)
  unfold res_main_v169 hid
  rw [← hu, ← v138_at V0 r n]
  generalize res_main_v138 V0 = g
  generalize addf (F := Ideal) (φ := .f32) (Host.dotGeneral _ _ (res_main_v1 V0) _) _ = u
  exact swi g u r n
theorem dn1_at (r : Fin 16) (n : Fin 5120) : addf (Host.dotGeneral (F := Ideal) (φ₁ := .bf16) dot_S16x1024_S1024x5120_S16x5120_1_0_0_1_n_n none (Host.slice S16x1024 ![0, 0] ![1, 2] (res_main_v169 V0) slicesBy_S16x2048_S16x1024_0s1_0s2) (mulf (sitofp .bf16 (select (cmpi .sge (res_main_v178 V0) (broadcastInDim S1024x5120 ![] bcast_S_S1024x5120 (constantI S_ 32 8#32))) (subi (res_main_v178 V0) (broadcastInDim S1024x5120 ![] bcast_S_S1024x5120 (constantI S_ 32 16#32))) (res_main_v178 V0))) (res_main_v192 V0)))
   (Host.dotGeneral (F := Ideal) (φ₁ := .bf16) dot_S16x1024_S1024x5120_S16x5120_1_0_0_1_n_n none (Host.slice S16x1024 ![0, 1] ![1, 2] (res_main_v169 V0) slicesBy_S16x2048_S16x1024_0s1_1s2) (mulf (sitofp .bf16 (select (cmpi .sge (res_main_v180 V0) (broadcastInDim S1024x5120 ![] bcast_S_S1024x5120 (constantI S_ 32 8#32))) (subi (res_main_v180 V0) (broadcastInDim S1024x5120 ![] bcast_S_S1024x5120 (constantI S_ 32 16#32))) (res_main_v180 V0))) (res_main_v192 V0))) (ix2 r n)
    = dotc (hid (xr V0 r) (wr V0 1) (sr V0 1)) (dr V0 1 n.val) (tr V0 1 n.val) 2048 :=
  pair2 _ _ _ _ _ r n _ _ _ (fun k => (sl0 _ r k).trans (v169_at V0 r _)) (fun k => (sl1 _ r k).trans (v169_at V0 r _)) (fun k => v178_at V0 k n) (fun k => v180_at V0 k n) (fun k => v192_at V0 k n)

theorem v217_at (k : Fin 2560) (n : Fin 2048) : res_main_v217 V0 (ix2 k n) = IntOp.andi (BitVec.setWidth 32 (wr V0 2 (n.val) k.val)) 15#32 := by
  unfold res_main_v217 res_main_v215 wr
  have hk := k.isLt
  have hn := n.isLt
  rw [nat_lt (show k.val < 2560 by omega), nat_lt (show n.val < 4096 by omega)]
  pointwise

theorem v219_at (k : Fin 2560) (n : Fin 2048) : res_main_v219 V0 (ix2 k n) = IntOp.shrsi .host (BitVec.setWidth 32 (wr V0 2 (n.val) k.val)) 4#32 := by
  unfold res_main_v219 res_main_v215 wr
  have hk := k.isLt
  have hn := n.isLt
  rw [nat_lt (show k.val < 2560 by omega), nat_lt (show n.val < 4096 by omega)]
  pointwise

theorem v231_at (k : Fin 2560) (n : Fin 2048) : res_main_v231 V0 (ix2 k n) = sr V0 2 (n.val) (k.val / 64) := by
  unfold res_main_v231  sr
  have hk := k.isLt
  have hn := n.isLt
  rw [nat_lt (show k.val / 64 < 40 by omega), nat_lt (show n.val < 4096 by omega)]
  pointwise

theorem v245_at (k : Fin 2560) (n : Fin 2048) : res_main_v245 V0 (ix2 k n) = IntOp.andi (BitVec.setWidth 32 (wr V0 2 (2048 + n.val) k.val)) 15#32 := by
  unfold res_main_v245 res_main_v243 wr
  have hk := k.isLt
  have hn := n.isLt
  rw [nat_lt (show k.val < 2560 by omega), nat_lt (show 2048 + n.val < 4096 by omega)]
  pointwise

theorem v247_at (k : Fin 2560) (n : Fin 2048) : res_main_v247 V0 (ix2 k n) = IntOp.shrsi .host (BitVec.setWidth 32 (wr V0 2 (2048 + n.val) k.val)) 4#32 := by
  unfold res_main_v247 res_main_v243 wr
  have hk := k.isLt
  have hn := n.isLt
  rw [nat_lt (show k.val < 2560 by omega), nat_lt (show 2048 + n.val < 4096 by omega)]
  pointwise

theorem v259_at (k : Fin 2560) (n : Fin 2048) : res_main_v259 V0 (ix2 k n) = sr V0 2 (2048 + n.val) (k.val / 64) := by
  unfold res_main_v259  sr
  have hk := k.isLt
  have hn := n.isLt
  rw [nat_lt (show k.val / 64 < 40 by omega), nat_lt (show 2048 + n.val < 4096 by omega)]
  pointwise

theorem v278_at (k : Fin 1024) (n : Fin 5120) : res_main_v278 V0 (ix2 k n) = IntOp.andi (BitVec.setWidth 32 (dr V0 2 n.val k.val)) 15#32 := by
  unfold res_main_v278 res_main_v276 dr
  have hk := k.isLt
  have hn := n.isLt
  rw [nat_lt (show k.val < 1024 by omega), nat_lt (show n.val < 5120 by omega)]
  pointwise

theorem v280_at (k : Fin 1024) (n : Fin 5120) : res_main_v280 V0 (ix2 k n) = IntOp.shrsi .host (BitVec.setWidth 32 (dr V0 2 n.val k.val)) 4#32 := by
  unfold res_main_v280 res_main_v276 dr
  have hk := k.isLt
  have hn := n.isLt
  rw [nat_lt (show k.val < 1024 by omega), nat_lt (show n.val < 5120 by omega)]
  pointwise

theorem v292_at (k : Fin 1024) (n : Fin 5120) : res_main_v292 V0 (ix2 k n) = tr V0 2 n.val (k.val / 64) := by
  unfold res_main_v292  tr
  have hk := k.isLt
  have hn := n.isLt
  rw [nat_lt (show k.val / 64 < 16 by omega), nat_lt (show n.val < 5120 by omega)]
  pointwise

theorem v238_at (r : Fin 16) (n : Fin 2048) : res_main_v238 V0 (ix2 r n) = dotc (xr V0 r) (wr V0 2 n.val) (sr V0 2 n.val) 5120 :=
  pair1 _ _ _ _ _ r n _ _ _ (v1_at V0 r) (v2_at V0 r) (fun k => v217_at V0 k n) (fun k => v219_at V0 k n) (fun k => v231_at V0 k n)
theorem v269_at (r : Fin 16) (n : Fin 2048) : res_main_v269 V0 (ix2 r n) = hid (xr V0 r) (wr V0 2) (sr V0 2) n.val := by
  have hu := pair1 (res_main_v1 V0) (res_main_v2 V0) (res_main_v245 V0) (res_main_v247 V0) (res_main_v259 V0) r n _ _ _ (v1_at V0 r) (v2_at V0 r) (fun k => v245_at V0 k n) (fun k => v247_at V0 k n) (fun k => v259_at V0 k n)
  unfold res_main_v269 hid
  rw [← hu, ← v238_at V0 r n]
  generalize res_main_v238 V0 = g
  generalize addf (F := Ideal) (φ := .f32) (Host.dotGeneral _ _ (res_main_v1 V0) _) _ = u
  exact swi g u r n
theorem dn2_at (r : Fin 16) (n : Fin 5120) : addf (Host.dotGeneral (F := Ideal) (φ₁ := .bf16) dot_S16x1024_S1024x5120_S16x5120_1_0_0_1_n_n none (Host.slice S16x1024 ![0, 0] ![1, 2] (res_main_v269 V0) slicesBy_S16x2048_S16x1024_0s1_0s2) (mulf (sitofp .bf16 (select (cmpi .sge (res_main_v278 V0) (broadcastInDim S1024x5120 ![] bcast_S_S1024x5120 (constantI S_ 32 8#32))) (subi (res_main_v278 V0) (broadcastInDim S1024x5120 ![] bcast_S_S1024x5120 (constantI S_ 32 16#32))) (res_main_v278 V0))) (res_main_v292 V0)))
   (Host.dotGeneral (F := Ideal) (φ₁ := .bf16) dot_S16x1024_S1024x5120_S16x5120_1_0_0_1_n_n none (Host.slice S16x1024 ![0, 1] ![1, 2] (res_main_v269 V0) slicesBy_S16x2048_S16x1024_0s1_1s2) (mulf (sitofp .bf16 (select (cmpi .sge (res_main_v280 V0) (broadcastInDim S1024x5120 ![] bcast_S_S1024x5120 (constantI S_ 32 8#32))) (subi (res_main_v280 V0) (broadcastInDim S1024x5120 ![] bcast_S_S1024x5120 (constantI S_ 32 16#32))) (res_main_v280 V0))) (res_main_v292 V0))) (ix2 r n)
    = dotc (hid (xr V0 r) (wr V0 2) (sr V0 2)) (dr V0 2 n.val) (tr V0 2 n.val) 2048 :=
  pair2 _ _ _ _ _ r n _ _ _ (fun k => (sl0 _ r k).trans (v269_at V0 r _)) (fun k => (sl1 _ r k).trans (v269_at V0 r _)) (fun k => v278_at V0 k n) (fun k => v280_at V0 k n) (fun k => v292_at V0 k n)

theorem v317_at (k : Fin 2560) (n : Fin 2048) : res_main_v317 V0 (ix2 k n) = IntOp.andi (BitVec.setWidth 32 (wr V0 3 (n.val) k.val)) 15#32 := by
  unfold res_main_v317 res_main_v315 wr
  have hk := k.isLt
  have hn := n.isLt
  rw [nat_lt (show k.val < 2560 by omega), nat_lt (show n.val < 4096 by omega)]
  pointwise

theorem v319_at (k : Fin 2560) (n : Fin 2048) : res_main_v319 V0 (ix2 k n) = IntOp.shrsi .host (BitVec.setWidth 32 (wr V0 3 (n.val) k.val)) 4#32 := by
  unfold res_main_v319 res_main_v315 wr
  have hk := k.isLt
  have hn := n.isLt
  rw [nat_lt (show k.val < 2560 by omega), nat_lt (show n.val < 4096 by omega)]
  pointwise

theorem v331_at (k : Fin 2560) (n : Fin 2048) : res_main_v331 V0 (ix2 k n) = sr V0 3 (n.val) (k.val / 64) := by
  unfold res_main_v331  sr
  have hk := k.isLt
  have hn := n.isLt
  rw [nat_lt (show k.val / 64 < 40 by omega), nat_lt (show n.val < 4096 by omega)]
  pointwise

theorem v345_at (k : Fin 2560) (n : Fin 2048) : res_main_v345 V0 (ix2 k n) = IntOp.andi (BitVec.setWidth 32 (wr V0 3 (2048 + n.val) k.val)) 15#32 := by
  unfold res_main_v345 res_main_v343 wr
  have hk := k.isLt
  have hn := n.isLt
  rw [nat_lt (show k.val < 2560 by omega), nat_lt (show 2048 + n.val < 4096 by omega)]
  pointwise

theorem v347_at (k : Fin 2560) (n : Fin 2048) : res_main_v347 V0 (ix2 k n) = IntOp.shrsi .host (BitVec.setWidth 32 (wr V0 3 (2048 + n.val) k.val)) 4#32 := by
  unfold res_main_v347 res_main_v343 wr
  have hk := k.isLt
  have hn := n.isLt
  rw [nat_lt (show k.val < 2560 by omega), nat_lt (show 2048 + n.val < 4096 by omega)]
  pointwise

theorem v359_at (k : Fin 2560) (n : Fin 2048) : res_main_v359 V0 (ix2 k n) = sr V0 3 (2048 + n.val) (k.val / 64) := by
  unfold res_main_v359  sr
  have hk := k.isLt
  have hn := n.isLt
  rw [nat_lt (show k.val / 64 < 40 by omega), nat_lt (show 2048 + n.val < 4096 by omega)]
  pointwise

theorem v378_at (k : Fin 1024) (n : Fin 5120) : res_main_v378 V0 (ix2 k n) = IntOp.andi (BitVec.setWidth 32 (dr V0 3 n.val k.val)) 15#32 := by
  unfold res_main_v378 res_main_v376 dr
  have hk := k.isLt
  have hn := n.isLt
  rw [nat_lt (show k.val < 1024 by omega), nat_lt (show n.val < 5120 by omega)]
  pointwise

theorem v380_at (k : Fin 1024) (n : Fin 5120) : res_main_v380 V0 (ix2 k n) = IntOp.shrsi .host (BitVec.setWidth 32 (dr V0 3 n.val k.val)) 4#32 := by
  unfold res_main_v380 res_main_v376 dr
  have hk := k.isLt
  have hn := n.isLt
  rw [nat_lt (show k.val < 1024 by omega), nat_lt (show n.val < 5120 by omega)]
  pointwise

theorem v392_at (k : Fin 1024) (n : Fin 5120) : res_main_v392 V0 (ix2 k n) = tr V0 3 n.val (k.val / 64) := by
  unfold res_main_v392  tr
  have hk := k.isLt
  have hn := n.isLt
  rw [nat_lt (show k.val / 64 < 16 by omega), nat_lt (show n.val < 5120 by omega)]
  pointwise

theorem v338_at (r : Fin 16) (n : Fin 2048) : res_main_v338 V0 (ix2 r n) = dotc (xr V0 r) (wr V0 3 n.val) (sr V0 3 n.val) 5120 :=
  pair1 _ _ _ _ _ r n _ _ _ (v1_at V0 r) (v2_at V0 r) (fun k => v317_at V0 k n) (fun k => v319_at V0 k n) (fun k => v331_at V0 k n)
theorem v369_at (r : Fin 16) (n : Fin 2048) : res_main_v369 V0 (ix2 r n) = hid (xr V0 r) (wr V0 3) (sr V0 3) n.val := by
  have hu := pair1 (res_main_v1 V0) (res_main_v2 V0) (res_main_v345 V0) (res_main_v347 V0) (res_main_v359 V0) r n _ _ _ (v1_at V0 r) (v2_at V0 r) (fun k => v345_at V0 k n) (fun k => v347_at V0 k n) (fun k => v359_at V0 k n)
  unfold res_main_v369 hid
  rw [← hu, ← v338_at V0 r n]
  generalize res_main_v338 V0 = g
  generalize addf (F := Ideal) (φ := .f32) (Host.dotGeneral _ _ (res_main_v1 V0) _) _ = u
  exact swi g u r n
theorem dn3_at (r : Fin 16) (n : Fin 5120) : addf (Host.dotGeneral (F := Ideal) (φ₁ := .bf16) dot_S16x1024_S1024x5120_S16x5120_1_0_0_1_n_n none (Host.slice S16x1024 ![0, 0] ![1, 2] (res_main_v369 V0) slicesBy_S16x2048_S16x1024_0s1_0s2) (mulf (sitofp .bf16 (select (cmpi .sge (res_main_v378 V0) (broadcastInDim S1024x5120 ![] bcast_S_S1024x5120 (constantI S_ 32 8#32))) (subi (res_main_v378 V0) (broadcastInDim S1024x5120 ![] bcast_S_S1024x5120 (constantI S_ 32 16#32))) (res_main_v378 V0))) (res_main_v392 V0)))
   (Host.dotGeneral (F := Ideal) (φ₁ := .bf16) dot_S16x1024_S1024x5120_S16x5120_1_0_0_1_n_n none (Host.slice S16x1024 ![0, 1] ![1, 2] (res_main_v369 V0) slicesBy_S16x2048_S16x1024_0s1_1s2) (mulf (sitofp .bf16 (select (cmpi .sge (res_main_v380 V0) (broadcastInDim S1024x5120 ![] bcast_S_S1024x5120 (constantI S_ 32 8#32))) (subi (res_main_v380 V0) (broadcastInDim S1024x5120 ![] bcast_S_S1024x5120 (constantI S_ 32 16#32))) (res_main_v380 V0))) (res_main_v392 V0))) (ix2 r n)
    = dotc (hid (xr V0 r) (wr V0 3) (sr V0 3)) (dr V0 3 n.val) (tr V0 3 n.val) 2048 :=
  pair2 _ _ _ _ _ r n _ _ _ (fun k => (sl0 _ r k).trans (v369_at V0 r _)) (fun k => (sl1 _ r k).trans (v369_at V0 r _)) (fun k => v378_at V0 k n) (fun k => v380_at V0 k n) (fun k => v392_at V0 k n)

def rid (r : Fin 16) (j : Fin 2) : BitVec 32 := (V0 (Proc.devRef .tc main_arg1) : S16x1x2.Idx → BitVec 32) (ix3 r 0 j)
def rwt (r : Fin 16) (j : Fin 2) : Ideal .f32 := (V0 (Proc.devRef .tc main_arg2) : S16x1x2.Idx → Ideal .f32) (ix3 r 0 j)
theorem wt_at (r : Fin 16) (j : Fin 2) : res_main_v4 V0 (ix2 r j) = rwt V0 r j := by
  unfold res_main_v4 rwt
  pointwise
def share (e : Fin 4) (b : BitVec 32) (r : Fin 16) (n : Fin 5120) : Ideal .f32 :=
  part (IntOp.cmpi .eq (rid V0 r 0) b) (IntOp.cmpi .eq (rid V0 r 1) b) (rwt V0 r 0) (rwt V0 r 1) (dotc (hid (xr V0 r) (wr V0 e) (sr V0 e)) (dr V0 e n.val) (tr V0 e n.val) 2048)

theorem hit0_at (r : Fin 16) (j : Fin 2) : res_main_v7 V0 (ix2 r j) = IntOp.cmpi .eq (rid V0 r j) 0#32 := by
  unfold res_main_v7 res_main_v3 rid
  pointwise
theorem sh0_at (r : Fin 16) (n : Fin 5120) (y : FVec Ideal S16x5120 .f32) (hy : y (ix2 r n) = dotc (hid (xr V0 r) (wr V0 0) (sr V0 0)) (dr V0 0 n.val) (tr V0 0 n.val) 2048) :
    select (broadcastInDim S16x5120 ![0, 1] bcast_S16x1_S16x5120_0_1 (broadcastInDim S16x1 ![0] bcast_S16_S16x1_0 (Host.reduce IntOp.ori (res_main_v7 V0) (constantI S_ 1 0#1) reducesTo_S16x2_S16_d1 h_S_)))
     (mulf y (broadcastInDim S16x5120 ![0, 1] bcast_S16x1_S16x5120_0_1 (broadcastInDim S16x1 ![0] bcast_S16_S16x1_0 (Host.reduceAdd (F := Ideal) (select (res_main_v7 V0) (res_main_v4 V0) (broadcastInDim S16x2 ![] bcast_S_S16x2 (id (constant S_ .f32 0x00000000#32)))) (constant S_ .f32 0x00000000#32) reducesTo_S16x2_S16_d1 h_S_))))
     (broadcastInDim S16x5120 ![] bcast_S_S16x5120 (id (constant S_ .f32 0x00000000#32))) (ix2 r n) = share V0 0 0#32 r n := by
  refine (last (res_main_v7 V0) (res_main_v4 V0) y r n).trans ?_
  unfold share
  rw [hit0_at, hit0_at, wt_at, wt_at, hy]

theorem hit1_at (r : Fin 16) (j : Fin 2) : res_main_v107 V0 (ix2 r j) = IntOp.cmpi .eq (rid V0 r j) 1#32 := by
  unfold res_main_v107 res_main_v3 rid
  pointwise
theorem sh1_at (r : Fin 16) (n : Fin 5120) (y : FVec Ideal S16x5120 .f32) (hy : y (ix2 r n) = dotc (hid (xr V0 r) (wr V0 1) (sr V0 1)) (dr V0 1 n.val) (tr V0 1 n.val) 2048) :
    select (broadcastInDim S16x5120 ![0, 1] bcast_S16x1_S16x5120_0_1 (broadcastInDim S16x1 ![0] bcast_S16_S16x1_0 (Host.reduce IntOp.ori (res_main_v107 V0) (constantI S_ 1 0#1) reducesTo_S16x2_S16_d1 h_S_)))
     (mulf y (broadcastInDim S16x5120 ![0, 1] bcast_S16x1_S16x5120_0_1 (broadcastInDim S16x1 ![0] bcast_S16_S16x1_0 (Host.reduceAdd (F := Ideal) (select (res_main_v107 V0) (res_main_v4 V0) (broadcastInDim S16x2 ![] bcast_S_S16x2 (id (constant S_ .f32 0x00000000#32)))) (constant S_ .f32 0x00000000#32) reducesTo_S16x2_S16_d1 h_S_))))
     (broadcastInDim S16x5120 ![] bcast_S_S16x5120 (id (constant S_ .f32 0x00000000#32))) (ix2 r n) = share V0 1 1#32 r n := by
  refine (last (res_main_v107 V0) (res_main_v4 V0) y r n).trans ?_
  unfold share
  rw [hit1_at, hit1_at, wt_at, wt_at, hy]

theorem hit2_at (r : Fin 16) (j : Fin 2) : res_main_v207 V0 (ix2 r j) = IntOp.cmpi .eq (rid V0 r j) 2#32 := by
  unfold res_main_v207 res_main_v3 rid
  pointwise
theorem sh2_at (r : Fin 16) (n : Fin 5120) (y : FVec Ideal S16x5120 .f32) (hy : y (ix2 r n) = dotc (hid (xr V0 r) (wr V0 2) (sr V0 2)) (dr V0 2 n.val) (tr V0 2 n.val) 2048) :
    select (broadcastInDim S16x5120 ![0, 1] bcast_S16x1_S16x5120_0_1 (broadcastInDim S16x1 ![0] bcast_S16_S16x1_0 (Host.reduce IntOp.ori (res_main_v207 V0) (constantI S_ 1 0#1) reducesTo_S16x2_S16_d1 h_S_)))
     (mulf y (broadcastInDim S16x5120 ![0, 1] bcast_S16x1_S16x5120_0_1 (broadcastInDim S16x1 ![0] bcast_S16_S16x1_0 (Host.reduceAdd (F := Ideal) (select (res_main_v207 V0) (res_main_v4 V0) (broadcastInDim S16x2 ![] bcast_S_S16x2 (id (constant S_ .f32 0x00000000#32)))) (constant S_ .f32 0x00000000#32) reducesTo_S16x2_S16_d1 h_S_))))
     (broadcastInDim S16x5120 ![] bcast_S_S16x5120 (id (constant S_ .f32 0x00000000#32))) (ix2 r n) = share V0 2 2#32 r n := by
  refine (last (res_main_v207 V0) (res_main_v4 V0) y r n).trans ?_
  unfold share
  rw [hit2_at, hit2_at, wt_at, wt_at, hy]

theorem hit3_at (r : Fin 16) (j : Fin 2) : res_main_v307 V0 (ix2 r j) = IntOp.cmpi .eq (rid V0 r j) 3#32 := by
  unfold res_main_v307 res_main_v3 rid
  pointwise
theorem sh3_at (r : Fin 16) (n : Fin 5120) (y : FVec Ideal S16x5120 .f32) (hy : y (ix2 r n) = dotc (hid (xr V0 r) (wr V0 3) (sr V0 3)) (dr V0 3 n.val) (tr V0 3 n.val) 2048) :
    select (broadcastInDim S16x5120 ![0, 1] bcast_S16x1_S16x5120_0_1 (broadcastInDim S16x1 ![0] bcast_S16_S16x1_0 (Host.reduce IntOp.ori (res_main_v307 V0) (constantI S_ 1 0#1) reducesTo_S16x2_S16_d1 h_S_)))
     (mulf y (broadcastInDim S16x5120 ![0, 1] bcast_S16x1_S16x5120_0_1 (broadcastInDim S16x1 ![0] bcast_S16_S16x1_0 (Host.reduceAdd (F := Ideal) (select (res_main_v307 V0) (res_main_v4 V0) (broadcastInDim S16x2 ![] bcast_S_S16x2 (id (constant S_ .f32 0x00000000#32)))) (constant S_ .f32 0x00000000#32) reducesTo_S16x2_S16_d1 h_S_))))
     (broadcastInDim S16x5120 ![] bcast_S_S16x5120 (id (constant S_ .f32 0x00000000#32))) (ix2 r n) = share V0 3 3#32 r n := by
  refine (last (res_main_v307 V0) (res_main_v4 V0) y r n).trans ?_
  unfold share
  rw [hit3_at, hit3_at, wt_at, wt_at, hy]

set_option maxRecDepth 16384 in
def refOut : FVec Ideal S16x5120 .bf16 := truncf .bf16 (addf (res_main_v305 V0) (select (broadcastInDim S16x5120 ![0, 1] bcast_S16x1_S16x5120_0_1 (broadcastInDim S16x1 ![0] bcast_S16_S16x1_0 (Host.reduce IntOp.ori (res_main_v307 V0) (constantI S_ 1 0#1) reducesTo_S16x2_S16_d1 h_S_))) (mulf (addf (Host.dotGeneral (F := Ideal) (φ₁ := .bf16) dot_S16x1024_S1024x5120_S16x5120_1_0_0_1_n_n none (Host.slice S16x1024 ![0, 0] ![1, 2] (res_main_v369 V0) slicesBy_S16x2048_S16x1024_0s1_0s2) (mulf (sitofp .bf16 (select (cmpi .sge (res_main_v378 V0) (broadcastInDim S1024x5120 ![] bcast_S_S1024x5120 (constantI S_ 32 8#32))) (subi (res_main_v378 V0) (broadcastInDim S1024x5120 ![] bcast_S_S1024x5120 (constantI S_ 32 16#32))) (res_main_v378 V0))) (res_main_v392 V0))) (Host.dotGeneral (F := Ideal) (φ₁ := .bf16) dot_S16x1024_S1024x5120_S16x5120_1_0_0_1_n_n none (Host.slice S16x1024 ![0, 1] ![1, 2] (res_main_v369 V0) slicesBy_S16x2048_S16x1024_0s1_1s2) (mulf (sitofp .bf16 (select (cmpi .sge (res_main_v380 V0) (broadcastInDim S1024x5120 ![] bcast_S_S1024x5120 (constantI S_ 32 8#32))) (subi (res_main_v380 V0) (broadcastInDim S1024x5120 ![] bcast_S_S1024x5120 (constantI S_ 32 16#32))) (res_main_v380 V0))) (res_main_v392 V0)))) (broadcastInDim S16x5120 ![0, 1] bcast_S16x1_S16x5120_0_1 (broadcastInDim S16x1 ![0] bcast_S16_S16x1_0 (Host.reduceAdd (select (res_main_v307 V0) (res_main_v4 V0) (broadcastInDim S16x2 ![] bcast_S_S16x2 (id (constant S_ .f32 0x00000000#32)))) (constant S_ .f32 0x00000000#32) reducesTo_S16x2_S16_d1 h_S_)))) (broadcastInDim S16x5120 ![] bcast_S_S16x5120 (id (constant S_ .f32 0x00000000#32))))) bitsLt_bf16_f32
theorem add_at (x y : FVec Ideal S16x5120 .f32) (i : S16x5120.Idx) (a b : Ideal .f32) (hx : x i = a) (hy : y i = b) : addf x y i = a + b := by
  rw [← hx, ← hy]
  rfl
theorem ref_at (r : Fin 16) (n : Fin 5120) : refOut V0 (ix2 r n) = (((0 + share V0 0 0#32 r n) + share V0 1 1#32 r n) + share V0 2 2#32 r n) + share V0 3 3#32 r n := by
  unfold refOut res_main_v305
  refine add_at _ _ _ _ _ (add_at _ _ _ _ _ (add_at _ _ _ _ _ (add_at _ _ _ _ _ ?_ ?_) ?_) ?_) ?_
  · exact Cert.Proof.KernelIdeal.zero_f
  · exact sh0_at V0 r n _ (dn0_at V0 r n)
  · exact sh1_at V0 r n _ (dn1_at V0 r n)
  · exact sh2_at V0 r n _ (dn2_at V0 r n)
  · exact sh3_at V0 r n _ (dn3_at V0 r n)

end Cert.Proof.Ref

end
-- ==== Proof.V6.lean ====
/-
  The accumulator and the scales of a step.
-/
module

public import proofs.«01_k».proof.Proof.V5
public import proofs.«01_k».proof.Proof.IdealAsk
public import proofs.«01_k».proof.Proof.IdealLoop
public import Idealize.ShloMosaic.Lib.WritesUnit
public import proofs.«01_k».proof.Proof.IdealWhole
public import proofs.«01_k».proof.Proof.IdealStep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (Pipeline.UD sig nD τ) ℕ

set_option maxHeartbeats 4000000

open Cert.Proof.Val
open Cert.Proof.Ref (part bit_cases)

section Step
variable (c : Dev nD)
  (X3 : Buf (Elt Ideal) (wguM.view.loc (c : Thread nD τ))) (X4 : Buf (Elt Ideal) (sguM.view.loc (c : Thread nD τ)))
  (X5 : Buf (Elt Ideal) (wdM.view.loc (c : Thread nD τ))) (X6 : Buf (Elt Ideal) (sdM.view.loc (c : Thread nD τ)))
  (fa : Buf (Elt Ideal) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt Ideal) (arg0.view.loc (c : Thread nD τ))) (f1 : Buf (Elt Ideal) (arg1.view.loc (c : Thread nD τ))) (f2 : Buf (Elt Ideal) (arg2.view.loc (c : Thread nD τ)))

variable (hA : ActOK c fa v.toNat)
    (fs : Buf (Elt Ideal) (sgwM.view.loc (c : Thread nD τ))) (fd : Buf (Elt Ideal) (sdwM.view.loc (c : Thread nD τ))) (fy : Buf (Elt Ideal) (yM.view.loc (c : Thread nD τ))) (fc : Buf (Elt Ideal) (accM.view.loc (c : Thread nD τ)))
set_option maxHeartbeats 4000000
variable (h8 : k0_cond8 v t = 1#1)
/-- The weight of token `r`'s `j`-th choice. -/
def wtw {c : Dev nD} (arg1 : Memref sig .tc .smem S16x1x2 .f32) (f1 : Buf (Elt Ideal) (arg1.view.loc (c : Thread nD τ))) (r : Fin 16) (j : Fin 2) : Ideal .f32 :=
  arg1.view.readAt (Elt Ideal) (Rect.unit (s := S16x1x2) ![r.val, 0, j.val] S1x1x1.size (inb_id r j)).toLoadRect f1 (Shape.Idx.first (numel1_S1x1x1.symm ▸ Nat.one_pos))
theorem wtw_read (r : Fin 16) (j : Fin 2) : wtw arg1 f1 r j = arg1.view.read (Elt Ideal) f1 (ijx r j) := by
  unfold wtw
  rw [View.readAt_apply]
  congr 1
  funext a
  refine Fin.ext ?_
  revert a
  intro a
  fin_cases a <;> rfl
theorem word_at : step_run.sl.r c fa v hw t h8 = wrd c fa (t.val / 8) :=
  readAt_act c fa (off169_eq v t) (by have := t_lt t; have h : v.toNat ≤ 4 := Fact.out; omega) _ _

theorem r95_at (r : Fin 16) (n : Fin 256) : step_run.sl.r_95 c fa arg0 arg1 v hw t f0 f1 h8 (ix2 r n)
    = Scalar.addf (Scalar.addf (Scalar.ofBits .f32 0x00000000#32) (Scalar.select (Scalar.cmpi .eq (idw c arg0 f0 r 0) (step_run.sl.r c fa v hw t h8)) (wtw arg1 f1 r 0) (Scalar.ofBits (F := Ideal) .f32 0x00000000#32)))
      (Scalar.select (Scalar.cmpi .eq (idw c arg0 f0 r 1) (step_run.sl.r c fa v hw t h8)) (wtw arg1 f1 r 1) (Scalar.ofBits (F := Ideal) .f32 0x00000000#32)) := by
  fin_cases r <;> rfl
theorem r96_at (r : Fin 16) (n : Fin 256) : step_run.sl.r_96 c fa arg0 v hw t f0 h8 (ix2 r n)
    = Scalar.ori (Scalar.ori 0#32 (Scalar.extui (Scalar.cmpi .eq (idw c arg0 f0 r 0) (step_run.sl.r c fa v hw t h8)))) (Scalar.extui (Scalar.cmpi .eq (idw c arg0 f0 r 1) (step_run.sl.r c fa v hw t h8))) := by
  fin_cases r <;> rfl
def cps (b : Fin 20) : S16x256.Idx → Elt Ideal .f32 :=
  k0_pay47 (F := Ideal) (step_run.sl.r_95 c fa arg0 arg1 v hw t f0 f1 h8) (step_run.sl.r_96 c fa arg0 v hw t f0 h8)
    (accM.view.readAt (Elt Ideal) (Rect.unit (s := S16x5120) ![0, 256 * b.val] S16x256.size (inbt b)).toLoadRect fc)
    (yM.view.readAt (Elt Ideal) (Rect.unit (s := S16x5120) ![0, 256 * b.val] S16x256.size (inbt b)).toLoadRect (yM.view.writes (Elt Ideal) yM.view.junk (step_run.sl.Hy_20 c X3 X4 X5 X6 fa arg0 harg0 arg1 harg1 arg2 harg2 arg7 harg7 v hw t f2 hA fs fd fy)))
theorem bits_or (a b : BitVec 1) (x y z : Ideal .f32) : Scalar.select (IntOp.cmpi .ne (Scalar.ori (Scalar.ori 0#32 (Scalar.extui a)) (Scalar.extui b)) 0#32) (x * (((0 : Ideal .f32) + Scalar.select a y 0) + Scalar.select b z 0)) (0 : Ideal .f32) = part a b y z x := by
  unfold part
  rcases bit_cases a with rfl | rfl <;> rcases bit_cases b with rfl | rfl <;> simp [Scalar.select, Scalar.ori, Scalar.extui, IntOp.ori, IntOp.cmpi]
theorem cps_at (r : Fin 16) (b : Fin 20) (n : Fin 256) : cps c X3 X4 X5 X6 fa arg0 harg0 arg1 harg1 arg2 harg2 arg7 harg7 v hw t f0 f1 f2 hA fs fd fy fc h8 b (ix2 r n)
    = accM.view.read (Elt Ideal) fc (ix2 r (nat 5120 (256 * b.val + n.val)))
      + part (Scalar.cmpi .eq (idw c arg0 f0 r 0) (wrd c fa (t.val / 8))) (Scalar.cmpi .eq (idw c arg0 f0 r 1) (wrd c fa (t.val / 8))) (wtw arg1 f1 r 0) (wtw arg1 f1 r 1)
        (yM.view.read (Elt Ideal) (yM.view.writes (Elt Ideal) yM.view.junk (step_run.sl.Hy_20 c X3 X4 X5 X6 fa arg0 harg0 arg1 harg1 arg2 harg2 arg7 harg7 v hw t f2 hA fs fd fy)) (ix2 r (nat 5120 (256 * b.val + n.val)))) := by
  unfold cps k0_pay47
  dsimp only
  rw [same16, ← bits_or, ← word_at c fa v hw t h8]
  have e1 := ld_16_16 accM fc 0 (256 * b.val) _ rfl (inbt b) r n
  have e2 := ld_16_16 yM (yM.view.writes (Elt Ideal) yM.view.junk (step_run.sl.Hy_20 c X3 X4 X5 X6 fa arg0 harg0 arg1 harg1 arg2 harg2 arg7 harg7 v hw t f2 hA fs fd fy)) 0 (256 * b.val) _ rfl (inbt b) r n
  rw [Nat.zero_add, nat_lt r.isLt] at e1 e2
  rw [← e1, ← e2]
  refine Eq.trans (b := _ + Scalar.select (IntOp.cmpi .ne (step_run.sl.r_96 c fa arg0 v hw t f0 h8 (ix2 r n)) 0#32) (_ * step_run.sl.r_95 c fa arg0 arg1 v hw t f0 f1 h8 (ix2 r n)) (FloatOps.ofBits (F := Ideal) .f32 0x00000000#32)) rfl ?_
  rw [r95_at, r96_at]
  have ez : (Scalar.ofBits (F := Ideal) .f32 0x00000000#32) = (0 : Ideal .f32) := zero_f
  rw [ez]
  rfl
theorem c_list : step_run.sl.Hc_20 c X3 X4 X5 X6 fa arg0 harg0 arg1 harg1 arg2 harg2 arg7 harg7 v hw t f0 f1 f2 hA fs fd fy fc h8 = View.tilePieces (s := S16x5120) S16x256.size (fun b : Fin 20 => ![0, 256 * b.val]) inbt (cps c X3 X4 X5 X6 fa arg0 harg0 arg1 harg1 arg2 harg2 arg7 harg7 v hw t f0 f1 f2 hA fs fd fy fc h8) 20 (Nat.le_refl _) := rfl
theorem c_next (r : Fin 16) (b : Fin 20) (n : Fin 256) : accM.view.read (Elt Ideal) (accM.view.writes (Elt Ideal) accM.view.junk (step_run.sl.Hc_20 c X3 X4 X5 X6 fa arg0 harg0 arg1 harg1 arg2 harg2 arg7 harg7 v hw t f0 f1 f2 hA fs fd fy fc h8)) (ix2 r (nat 5120 (256 * b.val + n.val))) = accM.view.read (Elt Ideal) fc (ix2 r (nat 5120 (256 * b.val + n.val)))
      + part (Scalar.cmpi .eq (idw c arg0 f0 r 0) (wrd c fa (t.val / 8))) (Scalar.cmpi .eq (idw c arg0 f0 r 1) (wrd c fa (t.val / 8))) (wtw arg1 f1 r 0) (wtw arg1 f1 r 1)
        (yM.view.read (Elt Ideal) (yM.view.writes (Elt Ideal) yM.view.junk (step_run.sl.Hy_20 c X3 X4 X5 X6 fa arg0 harg0 arg1 harg1 arg2 harg2 arg7 harg7 v hw t f2 hA fs fd fy)) (ix2 r (nat 5120 (256 * b.val + n.val)))) := by
  rw [← cps_at]
  have hb := b.isLt
  have hn := n.isLt
  have h5 : 256 * b.val + n.val < 5120 := by omega
  rw [c_list, nat_lt h5]
  refine View.read_tilePieces accM.view _ _ _ inbt _ 20 _ _ b hb (ix2 r n) (fun a => ?_) 1 (fun b' hb' => ?_)
  · fin_cases a
    · show r.val = 0 + r.val; omega
    · rfl
  · have : b'.val ≠ b.val := fun e => hb' (Fin.ext e)
    show 256 * b.val + n.val < 256 * b'.val ∨ 256 * b'.val + 256 ≤ 256 * b.val + n.val
    omega

def sgc (c : Dev nD) (X4 : Buf (Elt Ideal) (sguM.view.loc (c : Thread nD τ))) (e : Fin 4) (col k : ℕ) : Ideal .f32 := sguM.view.read (Elt Ideal) X4 (ix3 e (nat 40 k) (nat 4096 col))
def sdc (c : Dev nD) (X6 : Buf (Elt Ideal) (sdM.view.loc (c : Thread nD τ))) (e : Fin 4) (col k : ℕ) : Ideal .f32 := sdM.view.read (Elt Ideal) X6 (ix3 e (nat 16 k) (nat 5120 col))
theorem nat_mod (n k : ℕ) [NeZero n] : (nat n k).val = k % n := rfl
theorem nat_nat (n k : ℕ) [NeZero n] : nat n (nat n k).val = nat n k := by
  apply Fin.ext
  rw [nat_mod, nat_mod, Nat.mod_mod]
theorem pay70_at (x : Vec Ideal S1x40x4096 .bf16) (k : Fin 40) (n : Fin 4096) : k0_pay70 (F := Ideal) x (ix2 k n) = x (ix3 0 k n) := by
  unfold k0_pay70
  pointwise
theorem pay71_at (x : Vec Ideal S1x16x5120 .bf16) (k : Fin 16) (n : Fin 5120) : k0_pay71 (F := Ideal) x (ix2 k n) = x (ix3 0 k n) := by
  unfold k0_pay71
  pointwise
theorem pay72_at (k : Fin 16) (n : Fin 5120) : k0_pay72 (F := Ideal) (ix2 k n) = 0 := by
  unfold k0_pay72
  pointwise
theorem s_new (h5 : k0_cond5 v t = 1#1) : scol (sgw1 c X4 X6 fa arg0 harg0 arg1 harg1 arg2 harg2 arg7 harg7 v hw t hA fs fd fy) = sgc c X4 (ex c fa t.val) := by
  funext col k
  unfold scol sgw1
  rw [dif_pos h5]
  unfold part23_run
  dsimp only
  refine (View.read_writes_cons_unit_of_mem (Val := Elt Ideal) sgwM.view _ inb_S40x4096_S40x4096_0_0 (k0_pay70 (part23_run.sl.v2538 c X4 fa v hw t h5)) [] (ix2 (nat 40 k) (nat 4096 col)) (ix2 (nat 40 k) (nat 4096 col)) rfl (fun a => ?_)).trans ?_
  · fin_cases a
    · show _ = 0 + _; rw [Nat.zero_add]
    · show _ = 0 + _; rw [Nat.zero_add]
  · rw [pay70_at]
    refine (sg_at (Ring.sl 2 (t.val / 8)) (sgPay c X4 fa (t.val / 8)) _ 0 0 _ ((off27_eq v t).trans (by simp only [Ring.sl_val])) _ _ _ (by rw [Nat.zero_add]; exact (nat 40 k).isLt) (by rw [Nat.zero_add]; exact (nat 4096 col).isLt)).trans ?_
    rw [Nat.zero_add, Nat.zero_add, sgPay_at]
    simp only [nat_nat]
    rfl
theorem d_new (h5 : k0_cond5 v t = 1#1) : dscol (sdw1 c X4 X6 fa arg0 harg0 arg1 harg1 arg2 harg2 arg7 harg7 v hw t hA fs fd fy) = sdc c X6 (ex c fa t.val) := by
  funext col k
  unfold dscol sdw1
  rw [dif_pos h5]
  unfold part23_run
  dsimp only
  refine (View.read_writes_cons_unit_of_mem (Val := Elt Ideal) sdwM.view _ inb_S16x5120_S16x5120_0_0 (k0_pay71 (part23_run.sl.v2555 c X6 fa v hw t h5)) [] (ix2 (nat 16 k) (nat 5120 col)) (ix2 (nat 16 k) (nat 5120 col)) rfl (fun a => ?_)).trans ?_
  · fin_cases a
    · show _ = 0 + _; rw [Nat.zero_add]
    · show _ = 0 + _; rw [Nat.zero_add]
  · rw [pay71_at]
    refine (se_at (Ring.sl 2 (t.val / 8)) (sePay c X6 fa (t.val / 8)) _ 0 0 _ ((off28_eq v t).trans (by simp only [Ring.sl_val])) _ _ _ (by rw [Nat.zero_add]; exact (nat 16 k).isLt) (by rw [Nat.zero_add]; exact (nat 5120 col).isLt)).trans ?_
    rw [Nat.zero_add, Nat.zero_add, sePay_at]
    simp only [nat_nat]
    rfl
theorem y_new (h5 : k0_cond5 v t = 1#1) (r : Fin 16) (n : Fin 5120) : yM.view.read (Elt Ideal) (y1 c X4 X6 fa arg0 harg0 arg1 harg1 arg2 harg2 arg7 harg7 v hw t hA fs fd fy) (ix2 r n) = 0 := by
  unfold y1
  rw [dif_pos h5]
  unfold part23_run
  dsimp only
  refine (View.read_writes_cons_unit_of_mem (Val := Elt Ideal) yM.view _ inb_S16x5120_S16x5120_0_0 (k0_pay72 (F := Ideal)) [] (ix2 r n) (ix2 r n) rfl (fun a => ?_)).trans (pay72_at r n)
  fin_cases a
  · show _ = 0 + _; rw [Nat.zero_add]
  · show _ = 0 + _; rw [Nat.zero_add]
end Step
end Cert.Proof.KernelIdeal
end
-- ==== Proof.V7.lean ====
/-
  The loop over steps, as a sum over the experts asked for.
-/
module

public import proofs.«01_k».proof.Proof.V6
public import proofs.«01_k».proof.Proof.IdealBody
public import proofs.«01_k».proof.Proof.IdealWhole
public import proofs.«01_k».proof.Proof.IdealStep

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (Pipeline.UD sig nD τ) ℕ

set_option maxHeartbeats 4000000

open Cert.Proof.Val
open Cert.Proof.Ref (part bit_cases)

section Step
variable (c : Dev nD)
  (X3 : Buf (Elt Ideal) (wguM.view.loc (c : Thread nD τ))) (X4 : Buf (Elt Ideal) (sguM.view.loc (c : Thread nD τ)))
  (X5 : Buf (Elt Ideal) (wdM.view.loc (c : Thread nD τ))) (X6 : Buf (Elt Ideal) (sdM.view.loc (c : Thread nD τ)))
  (fa : Buf (Elt Ideal) (actM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (v : BitVec 32) [Fact (v.toNat ≤ 4)] (hw : k0_chk6 v) (t : Fin (k0_t2_loop v).trips)
  (f0 : Buf (Elt Ideal) (arg0.view.loc (c : Thread nD τ))) (f1 : Buf (Elt Ideal) (arg1.view.loc (c : Thread nD τ))) (f2 : Buf (Elt Ideal) (arg2.view.loc (c : Thread nD τ)))

variable (hA : ActOK c fa v.toNat)

/-- The part of an expert's product over its hidden row's first `m` values. -/
def dn (e : Fin 4) (r : Fin 16) (col m : ℕ) : Ideal .f32 := dotc (hid (xrow arg2 f2 r) (wcol c X3 e) (sgc c X4 e)) (dcol c X5 e col) (sdc c X6 e col) m
theorem dn_add (e : Fin 4) (r : Fin 16) (col m : ℕ) : dn c X3 X4 X5 X6 arg2 f2 e r col m + ∑ k ∈ Finset.range 256, term (hid (xrow arg2 f2 r) (wcol c X3 e) (sgc c X4 e)) (dcol c X5 e col) (sdc c X6 e col) (m + k) = dn c X3 X4 X5 X6 arg2 f2 e r col (m + 256) :=
  (Finset.sum_range_add _ m 256).symm
theorem split_col (n : Fin 5120) : ∃ (b : Fin 20) (k : Fin 256), 256 * b.val + k.val = n.val := by
  have hn := n.isLt
  exact ⟨⟨n.val / 256, by omega⟩, ⟨n.val % 256, by omega⟩, by show 256 * (n.val / 256) + n.val % 256 = _; omega⟩
/-- What the scales and the running sum are before step `s` of a segment. -/
def Mid (z : St (F := Ideal) c) (s : ℕ) (m : ℕ) : Prop :=
  scol z.fs = sgc c X4 (ex c fa s) ∧ dscol z.fd = sdc c X6 (ex c fa s)
  ∧ ∀ (r : Fin 16) (n : Fin 5120), yM.view.read (Elt Ideal) z.fy (ix2 r n) = dn c X3 X4 X5 X6 arg2 f2 (ex c fa s) r n.val m

theorem mid_next (z : St (F := Ideal) c) (hz : t.val % 8 ≠ 0 → Mid c X3 X4 X5 X6 fa arg2 f2 z t.val (256 * (t.val % 8))) :
    Mid c X3 X4 X5 X6 fa arg2 f2 (St.next c X3 X4 X5 X6 fa arg0 harg0 arg1 harg1 arg2 harg2 arg7 harg7 v hw t f0 f1 f2 hA z) t.val (256 * (t.val % 8) + 256) := by
  have key : scol (sgw1 c X4 X6 fa arg0 harg0 arg1 harg1 arg2 harg2 arg7 harg7 v hw t hA z.fs z.fd z.fy) = sgc c X4 (ex c fa t.val) ∧ dscol (sdw1 c X4 X6 fa arg0 harg0 arg1 harg1 arg2 harg2 arg7 harg7 v hw t hA z.fs z.fd z.fy) = sdc c X6 (ex c fa t.val)
      ∧ ∀ (r : Fin 16) (n : Fin 5120), yM.view.read (Elt Ideal) (y1 c X4 X6 fa arg0 harg0 arg1 harg1 arg2 harg2 arg7 harg7 v hw t hA z.fs z.fd z.fy) (ix2 r n) = dn c X3 X4 X5 X6 arg2 f2 (ex c fa t.val) r n.val (256 * (t.val % 8)) := by
    by_cases h0 : t.val % 8 = 0
    · have h5 := (cond5_iff v t).2 h0
      refine ⟨s_new _ _ _ _ _ _ _ _ _ _ _ _ _ _ _ _ _ _ _ h5, d_new _ _ _ _ _ _ _ _ _ _ _ _ _ _ _ _ _ _ _ h5, fun r n => ?_⟩
      rw [y_new _ _ _ _ _ _ _ _ _ _ _ _ _ _ _ _ _ _ _ h5, h0]
      unfold dn dotc
      rw [Nat.mul_zero, Finset.sum_range_zero]
    · have h5 : ¬ k0_cond5 v t = 1#1 := fun h => h0 ((cond5_iff v t).1 h)
      obtain ⟨a, b, d⟩ := hz h0
      unfold sgw1 sdw1 y1
      rw [dif_neg h5, dif_neg h5, dif_neg h5]
      exact ⟨a, b, d⟩
  obtain ⟨a, b, d⟩ := key
  refine ⟨a, b, fun r n => ?_⟩
  obtain ⟨b', k, e⟩ := split_col n
  have en : nat 5120 (256 * b'.val + k.val) = n := by rw [e, nat_lt n.isLt]
  have hy := y_next c X3 X4 X5 X6 fa arg0 harg0 arg1 harg1 arg2 harg2 arg7 harg7 v hw t f2 hA z.fs z.fd z.fy r b' k
  rw [a, b, en, d, e, dn_add] at hy
  refine Eq.trans ?_ hy
  unfold St.next step_run
  rfl

/-- What segment `i` adds. -/
def seg (i : ℕ) (r : Fin 16) (n : ℕ) : Ideal .f32 :=
  part (Scalar.cmpi .eq (idw c arg0 f0 r 0) (wrd c fa i)) (Scalar.cmpi .eq (idw c arg0 f0 r 1) (wrd c fa i)) (wtw arg1 f1 r 0) (wtw arg1 f1 r 1) (dn c X3 X4 X5 X6 arg2 f2 (exS c fa i) r n 2048)

theorem acc_next (z : St (F := Ideal) c) (hz : t.val % 8 ≠ 0 → Mid c X3 X4 X5 X6 fa arg2 f2 z t.val (256 * (t.val % 8))) (h7 : t.val % 8 = 7) (r : Fin 16) (n : Fin 5120) :
    accM.view.read (Elt Ideal) (St.next c X3 X4 X5 X6 fa arg0 harg0 arg1 harg1 arg2 harg2 arg7 harg7 v hw t f0 f1 f2 hA z).fc (ix2 r n) = accM.view.read (Elt Ideal) z.fc (ix2 r n) + seg c X3 X4 X5 X6 fa arg0 arg1 arg2 f0 f1 f2 (t.val / 8) r n.val := by
  have hm := (mid_next c X3 X4 X5 X6 fa arg0 harg0 arg1 harg1 arg2 harg2 arg7 harg7 v hw t f0 f1 f2 hA z hz).2.2 r n
  have h8 := (cond8_iff v t).2 h7
  obtain ⟨b', k, e⟩ := split_col n
  have en : nat 5120 (256 * b'.val + k.val) = n := by rw [e, nat_lt n.isLt]
  have hc := c_next c X3 X4 X5 X6 fa arg0 harg0 arg1 harg1 arg2 harg2 arg7 harg7 v hw t f0 f1 f2 hA z.fs z.fd z.fy z.fc h8 r b' k
  rw [en] at hc
  have hy : (St.next c X3 X4 X5 X6 fa arg0 harg0 arg1 harg1 arg2 harg2 arg7 harg7 v hw t f0 f1 f2 hA z).fy = yM.view.writes (Elt Ideal) yM.view.junk (step_run.sl.Hy_20 c X3 X4 X5 X6 fa arg0 harg0 arg1 harg1 arg2 harg2 arg7 harg7 v hw t f2 hA z.fs z.fd z.fy) := by
    unfold St.next step_run
    rfl
  rw [← hy, hm, h7] at hc
  refine Eq.trans ?_ hc
  unfold St.next
  dsimp only
  rw [dif_pos h8]
  unfold step_run
  rfl
theorem acc_same (z : St (F := Ideal) c) (h7 : t.val % 8 ≠ 7) : (St.next c X3 X4 X5 X6 fa arg0 harg0 arg1 harg1 arg2 harg2 arg7 harg7 v hw t f0 f1 f2 hA z).fc = z.fc := by
  unfold St.next
  dsimp only
  rw [dif_neg (fun h => h7 ((cond8_iff v t).1 h))]

theorem all_steps (z : St (F := Ideal) c) (hz : ∀ r n, accM.view.read (Elt Ideal) z.fc (ix2 r n) = 0) (s : ℕ) (hs : s ≤ 8 * v.toNat) :
    (s % 8 ≠ 0 → Mid c X3 X4 X5 X6 fa arg2 f2 (stt c X3 X4 X5 X6 fa arg0 harg0 arg1 harg1 arg2 harg2 arg7 harg7 v hw f0 f1 f2 hA z s) s (256 * (s % 8)))
    ∧ ∀ (r : Fin 16) (n : Fin 5120), accM.view.read (Elt Ideal) (stt c X3 X4 X5 X6 fa arg0 harg0 arg1 harg1 arg2 harg2 arg7 harg7 v hw f0 f1 f2 hA z s).fc (ix2 r n) = ∑ i ∈ Finset.range (s / 8), seg c X3 X4 X5 X6 fa arg0 arg1 arg2 f0 f1 f2 i r n.val := by
  induction s with
  | zero => exact ⟨fun h => absurd rfl h, fun r n => (hz r n).trans (Finset.sum_range_zero _).symm⟩
  | succ s ih =>
    obtain ⟨hm, ha⟩ := ih (by omega)
    have ht : s < (k0_t2_loop v).trips := by rw [trips_eq v]; omega
    have es := stt_succ c X3 X4 X5 X6 fa arg0 harg0 arg1 harg1 arg2 harg2 arg7 harg7 v hw ⟨s, ht⟩ f0 f1 f2 hA z
    rw [show ((⟨s, ht⟩ : Fin (k0_t2_loop v).trips).val + 1) = s + 1 from rfl] at es
    rw [es]
    constructor
    · intro h
      have := mid_next c X3 X4 X5 X6 fa arg0 harg0 arg1 harg1 arg2 harg2 arg7 harg7 v hw ⟨s, ht⟩ f0 f1 f2 hA _ hm
      have e1 : 256 * ((s + 1) % 8) = 256 * (s % 8) + 256 := by omega
      have e2 : ex c fa (s + 1) = ex c fa s := by
        unfold ex
        rw [show (s + 1) / 8 = s / 8 by omega]
      rw [e1]
      unfold Mid at this ⊢
      rw [e2]
      exact this
    · intro r n
      by_cases h7 : s % 8 = 7
      · rw [show (s + 1) / 8 = s / 8 + 1 by omega, Finset.sum_range_succ, ← ha r n]
        exact acc_next c X3 X4 X5 X6 fa arg0 harg0 arg1 harg1 arg2 harg2 arg7 harg7 v hw ⟨s, ht⟩ f0 f1 f2 hA _ hm h7 r n
      · rw [show (s + 1) / 8 = s / 8 by omega, ← ha r n, acc_same c X3 X4 X5 X6 fa arg0 harg0 arg1 harg1 arg2 harg2 arg7 harg7 v hw ⟨s, ht⟩ f0 f1 f2 hA _ h7]

theorem pay494_at (k : Fin 16) (n : Fin 5120) : k0_pay494 (F := Ideal) (ix2 k n) = 0 := by
  unfold k0_pay494
  pointwise
theorem acc0_at (r : Fin 16) (n : Fin 5120) : accM.view.read (Elt Ideal) (acc0 (F := Ideal) c) (ix2 r n) = 0 := by
  unfold acc0
  refine (View.read_writes_cons_unit_of_mem (Val := Elt Ideal) accM.view _ inb_S16x5120_S16x5120_0_0 (k0_pay494 (F := Ideal)) [] (ix2 r n) (ix2 r n) rfl (fun a => ?_)).trans (pay494_at r n)
  fin_cases a
  · show _ = 0 + _; rw [Nat.zero_add]
  · show _ = 0 + _; rw [Nat.zero_add]

/-- The output at a place: the sum of what the segments add. -/
theorem out_at (fs) (fd) (fy) (r : Fin 16) (n : Fin 5120) : arg7.view.read (Elt Ideal) (outOf c X3 X4 X5 X6 arg0 harg0 arg1 harg1 arg2 harg2 arg7 harg7 f0 f1 f2 fa v hw hA (z0 (F := Ideal) c fs fd fy)) (ix2 r n)
    = ∑ i ∈ Finset.range v.toNat, seg c X3 X4 X5 X6 fa arg0 arg1 arg2 f0 f1 f2 i r n.val := by
  have h := (all_steps c X3 X4 X5 X6 fa arg0 harg0 arg1 harg1 arg2 harg2 arg7 harg7 v hw f0 f1 f2 hA (z0 (F := Ideal) c fs fd fy) (acc0_at c) (8 * v.toNat) (Nat.le_refl _)).2 r n
  rw [Nat.mul_div_cancel_left _ (by decide)] at h
  rw [← h]
  unfold outOf
  refine (View.read_writes_cons_unit_of_mem (Val := Elt Ideal) arg7.view _ inb_S16x5120_S16x5120_0_0 _ [] (ix2 r n) (ix2 r n) rfl (fun a => ?_)).trans ?_
  · fin_cases a
    · show _ = 0 + _; rw [Nat.zero_add]
    · show _ = 0 + _; rw [Nat.zero_add]
  · unfold k0_pay7
    refine Eq.trans (b := View.readAt (Elt Ideal) accM.view (Rect.unit (s := S16x5120) ![0, 0] S16x5120.size inb_S16x5120_S16x5120_0_0).toLoadRect _ (ix2 r n)) rfl ?_
    rw [View.readAt_apply]
    congr 1
    funext a
    refine Fin.ext ?_
    fin_cases a
    · show 0 + 1 * r.val = r.val; omega
    · show 0 + 1 * n.val = n.val; omega
end Step

theorem sum_list (g : ℕ → Ideal .f32) (l : List ℕ) : ∀ (f : ℕ → Ideal .f32), (∀ i (hi : i < l.length), f i = g l[i]) → ∑ i ∈ Finset.range l.length, f i = (l.map g).sum := by
  induction l with
  | nil => intro f _; rfl
  | cons a l ih =>
    intro f h
    rw [List.length_cons, Finset.sum_range_succ', List.map_cons, List.sum_cons, ih (fun i => f (i + 1)) (fun i hi => h (i + 1) (by simp; exact hi)), h 0 (by simp), add_comm]
    rfl
theorem sum_filter (g : ℕ → Ideal .f32) (p : ℕ → Bool) (l : List ℕ) (h : ∀ k ∈ l, p k = false → g k = 0) : ((l.filter p).map g).sum = (l.map g).sum := by
  induction l with
  | nil => rfl
  | cons a l ih =>
    have ih := ih (fun k hk => h k (List.mem_cons_of_mem _ hk))
    rw [List.map_cons, List.sum_cons, List.filter_cons]
    by_cases hp : p a = true
    · rw [if_pos hp, List.map_cons, List.sum_cons, ih]
    · rw [if_neg hp, ih, h a List.mem_cons_self (by simpa using hp), zero_add]

section Whole
variable (c : Dev nD)
  (X3 : Buf (Elt Ideal) (wguM.view.loc (c : Thread nD τ))) (X4 : Buf (Elt Ideal) (sguM.view.loc (c : Thread nD τ)))
  (X5 : Buf (Elt Ideal) (wdM.view.loc (c : Thread nD τ))) (X6 : Buf (Elt Ideal) (sdM.view.loc (c : Thread nD τ)))
  (arg0 : Memref sig .tc .smem S16x1x2 .i32) (harg0 : arg0.IsWhole)
  (arg1 : Memref sig .tc .smem S16x1x2 .f32) (harg1 : arg1.IsWhole)
  (arg2 : Memref sig .tc .vmem S16x5120 .bf16) (harg2 : arg2.IsWhole)
  (arg7 : Memref sig .tc .vmem S16x5120 .bf16) (harg7 : arg7.IsWhole)
  (f0 : Buf (Elt Ideal) (arg0.view.loc (c : Thread nD τ))) (f1 : Buf (Elt Ideal) (arg1.view.loc (c : Thread nD τ))) (f2 : Buf (Elt Ideal) (arg2.view.loc (c : Thread nD τ)))
/-- What expert `k` adds to a token. -/
def adds (k : ℕ) (r : Fin 16) (n : ℕ) : Ideal .f32 :=
  part (IntOp.cmpi .eq (idw c arg0 f0 r 0) (BitVec.ofNat 32 k)) (IntOp.cmpi .eq (idw c arg0 f0 r 1) (BitVec.ofNat 32 k)) (wtw arg1 f1 r 0) (wtw arg1 f1 r 1) (dn c X3 X4 X5 X6 arg2 f2 (Fin.ofNat 4 k) r n 2048)
theorem adds_zero (k : Fin k0_t1_loop.trips) (h : hitc c arg0 f0 k ≠ 1#1) (r : Fin 16) (n : ℕ) : adds c X3 X4 X5 X6 arg0 arg1 arg2 f0 f1 f2 k.val r n = 0 := by
  unfold adds part
  have hk := k.isLt
  have e : Scf.iv 0#32 1#32 k.val = BitVec.ofNat 32 k.val := by
    have : k.val < 4 := by have := trips1; omega
    generalize k.val = n at this
    have : n = 0 ∨ n = 1 ∨ n = 2 ∨ n = 3 := by omega
    rcases this with rfl | rfl | rfl | rfl <;> rfl
  rw [if_neg]
  rintro (h' | h')
  · exact h ((hitc_iff c arg0 f0 k).2 ⟨r, 0, ((eq_one _ _).1 h').trans e.symm⟩)
  · exact h ((hitc_iff c arg0 f0 k).2 ⟨r, 1, ((eq_one _ _).1 h').trans e.symm⟩)
theorem ok_at (out : Buf (Elt Ideal) (arg7.view.loc (c : Thread nD τ))) (h : OutOK c X3 X4 X5 X6 arg0 harg0 arg1 harg1 arg2 harg2 arg7 harg7 f0 f1 f2 out) (r : Fin 16) (n : Fin 5120) :
    arg7.view.read (Elt Ideal) out (ix2 r n) = (((0 + adds c X3 X4 X5 X6 arg0 arg1 arg2 f0 f1 f2 0 r n.val) + adds c X3 X4 X5 X6 arg0 arg1 arg2 f0 f1 f2 1 r n.val) + adds c X3 X4 X5 X6 arg0 arg1 arg2 f0 f1 f2 2 r n.val) + adds c X3 X4 X5 X6 arg0 arg1 arg2 f0 f1 f2 3 r n.val := by
  obtain ⟨fa, v, hv, hw, hA, fs, fd, fy, ⟨hl, hi⟩, rfl⟩ := h
  rw [out_at]
  have hlen : (hits c arg0 f0 4).length ≤ 4 := (List.length_filter_le _ _).trans (by simp)
  have hvl : v.toNat = (hits c arg0 f0 4).length := by
    rw [hl, BitVec.toNat_ofNat, Nat.mod_eq_of_lt (by omega)]
  rw [hvl]
  refine (sum_list (fun k => adds c X3 X4 X5 X6 arg0 arg1 arg2 f0 f1 f2 k r n.val) (hits c arg0 f0 4) _ (fun i hi' => ?_)).trans ?_
  · have hm : (hits c arg0 f0 4)[i] < 4 := List.mem_range.1 (List.mem_filter.1 (List.getElem_mem hi')).1
    have hx : exS c fa i = Fin.ofNat 4 (hits c arg0 f0 4)[i] := by
      unfold exS
      rw [hi i hi', BitVec.toNat_ofNat, Nat.mod_eq_of_lt (by omega)]
    unfold seg adds
    rw [hx, hi i hi']
    rfl
  · unfold hits
    rw [sum_filter]
    · simp [List.range_succ, add_assoc]
    · intro k hk hp
      have hk4 : k < k0_t1_loop.trips := by rw [trips1]; exact List.mem_range.1 hk
      have hp' : ¬ (hitc c arg0 f0 ⟨k, hk4⟩ = 1#1) := by simpa [hk4] using hp
      exact adds_zero c X3 X4 X5 X6 arg0 arg1 arg2 f0 f1 f2 ⟨k, hk4⟩ hp' r n.val
end Whole
end Cert.Proof.KernelIdeal
end
-- ==== Proof.V8.lean ====
/-
  The idealized kernel and the idealized reference, run from the same arguments, end with the same result.
-/
module

public import proofs.«01_k».proof.Defs
public import proofs.«01_k».proof.Proof.V7
public import proofs.«01_k».proof.Proof.IdealAsk
public import proofs.«01_k».proof.Proof.IdealLaunch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_some_expert

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open Idealize.SL.Sem
open Idealize.ShloMosaic.Pipeline (Window Dat)
open Cert.Proof.Val

set_option maxHeartbeats 4000000

section
variable (m : (ℓ : Loc nD τ sig) → Buf (Elt Ideal) ℓ) (c : Dev nD)

theorem ijx_eq (r : Fin 16) (j : Fin 2) : (ijx r j : S16x1x2.Idx) = ix3 r 0 j := by
  funext a
  fin_cases a <;> rfl

/-- The second window is the whole array of weights. -/
theorem wts_at (t : Fin cfg0.N) (r : Fin 16) (j : Fin 2) :
    iblk m c 1 t (ijx r j) = m ((c.tc : Thread nD τ).loc main_arg2) (ijx r j) := by
  unfold iblk
  rw [View.read_apply, ← V_main_arg2 m c]
  show V m c main_arg2 _ = V m c main_arg2 _
  congr 1
  obtain rfl := fin_N0 t
  funext a
  refine Fin.ext ?_
  exact Window.rect_emb_val_of_index_zero (win0 1) t0_0 a (by fin_cases a <;> rfl) (ijx r j)

theorem V_main_v0 : V m c main_v0 = shapeCast S16x5120 (m ((c.tc : Thread nD τ).loc main_arg0)) shapeCasts_S16x1x5120_S16x5120 := by
  rfl
/-- The third window is the whole array of activations, its middle axis dropped. -/
theorem acts_at (t : Fin cfg0.N) (r : Fin 16) (k : Fin 5120) :
    iblk m c 2 t (ix2 r k) = (m ((c.tc : Thread nD τ).loc main_arg0) : S16x1x5120.Idx → Ideal .bf16) (ix3 r 0 k) := by
  unfold iblk
  rw [View.read_apply]
  refine Eq.trans (b := V m c main_v0 (ix2 r k)) ?_ ?_
  · show V m c main_v0 _ = V m c main_v0 _
    congr 1
    obtain rfl := fin_N0 t
    funext a
    refine Fin.ext ?_
    exact Window.rect_emb_val_of_index_zero (win0 2) t0_0 a (by fin_cases a <;> rfl) (ix2 r k)
  · rw [V_main_v0]
    generalize m ((c.tc : Thread nD τ).loc main_arg0) = x
    revert x
    intro (x : S16x1x5120.Idx → Ideal .bf16)
    show shapeCast S16x5120 x shapeCasts_S16x1x5120_S16x5120 (ix2 r k) = x (ix3 r 0 k)
    pointwise

variable (m' : (ℓ : Loc Cert.ReferenceIdeal.nD Cert.ReferenceIdeal.τ Cert.ReferenceIdeal.sig) → Buf (Elt Ideal) ℓ)
/-- What the body leaves in the output block is what the reference computes. -/
theorem out_left
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (t : Fin cfg0.N) (out : Buf (Elt Ideal) ((st0_3 t).view.loc (c : Thread nD τ))) (h : Left m c t out) (r : Fin 16) (n : Fin 5120) :
    ((st0_3 t).view.read (Elt Ideal) out : S16x5120.Idx → Ideal .bf16) (ix2 r n) = Cert.Proof.Ref.refOut (StableHlo.launchContents m' c) (ix2 r n) := by
  obtain ⟨f0, f1, f2, ⟨e0, e1, e2⟩, hok⟩ := h
  rw [Cert.Proof.Ref.ref_at]
  refine (ok_at c _ _ _ _ (st0_0 t) (hst0 t) (st0_1 t) (hst1 t) (st0_2 t) (hst2 t) (st0_3 t) (hst3 t) f0 f1 f2 out hok r n).trans ?_
  have hid' : ∀ j, idw c (st0_0 t) f0 r j = Cert.Proof.Ref.rid (StableHlo.launchContents m' c) r j := fun j => by
    rw [idw_read, e0, ids_at, ijx_eq, ← h1]
    rfl
  have hwt : ∀ j, wtw (st0_1 t) f1 r j = Cert.Proof.Ref.rwt (StableHlo.launchContents m' c) r j := fun j => by
    rw [wtw_read, e1, wts_at, ijx_eq, ← h2]
    rfl
  have hx : xrow (st0_2 t) f2 r = Cert.Proof.Ref.xr (StableHlo.launchContents m' c) r := by
    funext k
    unfold xrow
    rw [e2, acts_at, ← h0]
    rfl
  have hw3 : ∀ e, wcol c (V m c main_arg3) e = Cert.Proof.Ref.wr (StableHlo.launchContents m' c) e := fun e => by
    rw [V_main_arg3 m c, ← h3]
    rfl
  have hw4 : ∀ e, sgc c (V m c main_arg4) e = Cert.Proof.Ref.sr (StableHlo.launchContents m' c) e := fun e => by
    rw [V_main_arg4 m c, ← h4]
    rfl
  have hw5 : ∀ e, dcol c (V m c main_arg5) e = Cert.Proof.Ref.dr (StableHlo.launchContents m' c) e := fun e => by
    rw [V_main_arg5 m c, ← h5]
    rfl
  have hw6 : ∀ e, sdc c (V m c main_arg6) e = Cert.Proof.Ref.tr (StableHlo.launchContents m' c) e := fun e => by
    rw [V_main_arg6 m c, ← h6]
    rfl
  unfold adds dn Cert.Proof.Ref.share
  simp only [hid', hwt, hx, hw3, hw4, hw5, hw6]
  rfl

/-- The output array, its one block written back. -/
theorem arr_out (o : Dev nD → (cfg0.win 3).block.Idx → Elt Ideal (cfg0.win 3).elt) (G : S16x5120.Idx → Ideal .bf16) (hG : o c = G) :
    (dats m o 0 c).arrAt 3 cfg0.N = G := by
  refine Dat.arrAt_eq_of_cover (dats m o 0 c) 3 G (fun t _ => ?_) (fun i => ⟨t0_0, flush0_3 t0_0, ?_⟩)
  · obtain rfl := fin_N0 t
    subst hG
    funext y
    rw [View.read_apply]
    show o c _ = o c _
    congr 1
    funext a
    refine Fin.ext ?_
    exact (Window.rect_emb_val_of_index_zero (win0 3) t0_0 a (by fin_cases a <;> rfl) y).symm
  · have e : (((cfg0.win 3).blk t0_0).view.emb i) = i := by
      funext a
      refine Fin.ext ?_
      exact Window.rect_emb_val_of_index_zero (win0 3) t0_0 a (by fin_cases a <;> rfl) i
    rw [← e]
    exact ((cfg0.win 3).blk t0_0).view.emb_mem_set i
end

/-- The kernel and the reference end with the same output. -/
theorem algebraic : Cert.algebraic_KernelIdeal_ReferenceIdeal (hKernelIdeal := Cert.KernelIdeal.Gen.facts) (hReferenceIdeal := Cert.ReferenceIdeal.Gen.facts) (hPre_some_expert := Cert.Pre_some_expert.Gen.facts) := by
  intro m g m' g' hP hm
  refine ⟨fun c => Cert.Proof.Ref.refOut (StableHlo.launchContents m' c), ?_, ?_⟩
  · refine (θ_run defs _ _).mono (fun r hh c => ?_) (run_value m g (fun c => Cert.Proof.Ref.refOut (StableHlo.launchContents m' c)) (fun c => asked Cert.Pre_some_expert.Gen.facts m c (hP c)) (fun c t out h => ?_))
    · have h := hh.1
      have r0 := ((h c).1 0).trans (Dat.arrAt_in _ 0 rfl _)
      have r1 := ((h c).1 1).trans (Dat.arrAt_in _ 1 rfl _)
      exact ⟨((h c).1 3).trans (arr_out m c _ _ rfl),
        ((h c).2 main_arg0 (Pipeline.mem_restRefs_of main_arg0 (by decide) (by decide))).trans (V_main_arg0 m c),
        r0.trans (V_main_arg1 m c), r1.trans (V_main_arg2 m c),
        ((h c).2 main_arg3 (Pipeline.mem_restRefs_of main_arg3 (by decide) (by decide))).trans (V_main_arg3 m c),
        ((h c).2 main_arg4 (Pipeline.mem_restRefs_of main_arg4 (by decide) (by decide))).trans (V_main_arg4 m c),
        ((h c).2 main_arg5 (Pipeline.mem_restRefs_of main_arg5 (by decide) (by decide))).trans (V_main_arg5 m c),
        ((h c).2 main_arg6 (Pipeline.mem_restRefs_of main_arg6 (by decide) (by decide))).trans (V_main_arg6 m c)⟩
    · obtain ⟨h0, h1, h2, h3, h4, h5, h6⟩ := hm c
      have key : ∀ (x y : S16x5120.Idx → Ideal .bf16), (∀ r n, x (ix2 r n) = y (ix2 r n)) → x = y := fun x y hxy => by
        funext i
        have ei : i = ix2 (i 0) (i 1) := by funext a; fin_cases a <;> rfl
        rw [ei]
        exact hxy _ _
      exact key _ _ (out_left m c m' h0 h1 h2 h3 h4 h5 h6 t out h)
  · exact Cert.ReferenceIdeal.Value.run (F := Ideal) m' g'

end Cert.Proof.KernelIdeal

end
-- ==== Proof.lean ====
/-
  The proof of the certificate's claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_some_expert
public import proofs.«01_k».proof.Proof.Gen.Kernel.Frame
public import proofs.«01_k».proof.Proof.Gen.Kernel.Loops
public import proofs.«01_k».proof.Proof.Gen.KernelIdeal.Frame
public import proofs.«01_k».proof.Proof.Gen.KernelIdeal.Loops
public import proofs.«01_k».proof.Proof.Ask
public import proofs.«01_k».proof.Proof.IdealAsk
public import proofs.«01_k».proof.Proof.V8
public import Idealize.ShloMosaic.Adequacy
public import Idealize.ShloMosaic.Init

@[expose] public section

noncomputable section

namespace Cert.Proof

open Idealize.ShloMosaic Idealize.ShloMosaic.TcCoe Idealize.SL.Sem

/-- The kernel's frame: `Kernel.frame_run`, some expert being asked for by the precondition (`Kernel.asked`). -/
theorem frame_k : Cert.quiescent_Kernel (hKernel := Cert.Kernel.Gen.facts) (hPre_some_expert := Cert.Pre_some_expert.Gen.facts) := by
  intro m ρ h
  exact Cert.Proof.Kernel.frame_run m ρ (fun c => Cert.Proof.Kernel.asked Cert.Pre_some_expert.Gen.facts m c (h c))

/-- The ideal kernel's frame: as the kernel's. -/
theorem frame_ki : Cert.quiescent_KernelIdeal (hKernelIdeal := Cert.KernelIdeal.Gen.facts) (hPre_some_expert := Cert.Pre_some_expert.Gen.facts) := by
  intro m ρ h
  exact Cert.Proof.KernelIdeal.frame_run m ρ (fun c => Cert.Proof.KernelIdeal.asked Cert.Pre_some_expert.Gen.facts m c (h c))

/-- The reference's frame: its run keeps the arguments, and it declares no counter. -/
theorem frame_r : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's frame under the precondition: it holds without. -/
theorem frame_r_pre : Cert.quiescent_ReferenceIdeal_pre_some_expert (hReferenceIdeal := Cert.ReferenceIdeal.Gen.facts) (hPre_some_expert := Cert.Pre_some_expert.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_some_expert.Gen.facts, frame_k, frame_ki, frame_r, frame_r_pre, trivial,
    Cert.Proof.KernelIdeal.algebraic⟩

end Cert.Proof

end
